-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S96x32x128 : Shape := ⟨3, ![96, 32, 128]⟩
abbrev S61440x8x256 : Shape := ⟨3, ![61440, 8, 256]⟩
abbrev S8 : Shape := ⟨1, ![8]⟩
abbrev S96x512 : Shape := ⟨2, ![96, 512]⟩
abbrev S96 : Shape := ⟨1, ![96]⟩
abbrev S_ : Shape := ⟨0, ![]⟩

class Facts : Prop where
  bcast_S_S96x512 : S_.BroadcastsInDim S96x512 (![] : Fin 0 → Fin S96x512.rank)
  bcast_S_S96 : S_.BroadcastsInDim S96 (![] : Fin 0 → Fin S96.rank)
  reducesTo_S96x512_S_d0_1 : S96x512.ReducesTo [0, 1] S_
  h_S_ : 0 < S_.numel
  reducesTo_S96_S_d0 : S96.ReducesTo [0] S_

variable [Facts]

def fn {F : FTy → Type} [FloatOps F] (main_arg0 : FVec F S96x32x128 .bf16) (main_arg1 : FVec F S61440x8x256 .fp8e4m3) (main_arg2 : FVec F S8 .f32) (main_arg3 : IVec S96x512 32) (main_arg4 : IVec S96 32) : IVec S_ 1 :=
  let main_c : IVec S_ 32 := constantI S_ 32 0#32
  let main_v0 : IVec S96x512 32 := broadcastInDim S96x512 ![] bcast_S_S96x512 main_c
  let main_v1 : IVec S96x512 1 := cmpi .sge main_arg3 main_v0
  let main_c_0 : IVec S_ 32 := constantI S_ 32 61440#32
  let main_v2 : IVec S96x512 32 := broadcastInDim S96x512 ![] bcast_S_S96x512 main_c_0
  let main_v3 : IVec S96x512 1 := cmpi .slt main_arg3 main_v2
  let main_v4 : IVec S96x512 1 := andi main_v1 main_v3
  let main_c_1 : IVec S_ 32 := constantI S_ 32 0#32
  let main_v5 : IVec S96 32 := broadcastInDim S96 ![] bcast_S_S96 main_c_1
  let main_v6 : IVec S96 1 := cmpi .sge main_arg4 main_v5
  let main_c_2 : IVec S_ 32 := constantI S_ 32 8192#32
  let main_v7 : IVec S96 32 := broadcastInDim S96 ![] bcast_S_S96 main_c_2
  let main_v8 : IVec S96 1 := cmpi .sle main_arg4 main_v7
  let main_v9 : IVec S96 1 := andi main_v6 main_v8
  let main_c_3 : IVec S_ 1 := constantI S_ 1 1#1
  let main_v10 : IVec S_ 1 := (fun x v => Host.reduce IntOp.andi x v reducesTo_S96x512_S_d0_1 h_S_) main_v4 main_c_3
  let main_c_4 : IVec S_ 1 := constantI S_ 1 1#1
  let main_v11 : IVec S_ 1 := (fun x v => Host.reduce IntOp.andi x v reducesTo_S96_S_d0 h_S_) main_v9 main_c_4
  let main_v12 : IVec S_ 1 := andi main_v10 main_v11
  main_v12
-- ==== Kernel.lean ====
abbrev S96x32x128 : Shape := ⟨3, ![96, 32, 128]⟩
abbrev S61440x8x256 : Shape := ⟨3, ![61440, 8, 256]⟩
abbrev S8 : Shape := ⟨1, ![8]⟩
abbrev S96x512 : Shape := ⟨2, ![96, 512]⟩
abbrev S96 : Shape := ⟨1, ![96]⟩
abbrev S61440x8x2x128 : Shape := ⟨4, ![61440, 8, 2, 128]⟩
abbrev S61440x2x8x128 : Shape := ⟨4, ![61440, 2, 8, 128]⟩
abbrev S8x4 : Shape := ⟨2, ![8, 4]⟩
abbrev S32 : Shape := ⟨1, ![32]⟩
abbrev S32x1 : Shape := ⟨2, ![32, 1]⟩
abbrev S32x128 : Shape := ⟨2, ![32, 128]⟩
abbrev S96x32x512 : Shape := ⟨3, ![96, 32, 512]⟩
abbrev S1x32x128 : Shape := ⟨3, ![1, 32, 128]⟩
abbrev S1x32x512 : Shape := ⟨3, ![1, 32, 512]⟩
abbrev S2x512x2x8x128 : Shape := ⟨5, ![2, 512, 2, 8, 128]⟩
abbrev S2 : Shape := ⟨1, ![2]⟩
abbrev S1 : Shape := ⟨1, ![1]⟩
abbrev S1x1 : Shape := ⟨2, ![1, 1]⟩
abbrev S_ : Shape := ⟨0, ![]⟩
abbrev S1x1x2x8x128 : Shape := ⟨5, ![1, 1, 2, 8, 128]⟩
abbrev S2x8x128 : Shape := ⟨3, ![2, 8, 128]⟩
abbrev S1x2x8x128 : Shape := ⟨4, ![1, 2, 8, 128]⟩
abbrev S32x128x1 : Shape := ⟨3, ![32, 128, 1]⟩
abbrev S32x256 : Shape := ⟨2, ![32, 256]⟩
abbrev S1x16x2x8x128 : Shape := ⟨5, ![1, 16, 2, 8, 128]⟩
abbrev S16x2x8x128 : Shape := ⟨4, ![16, 2, 8, 128]⟩
abbrev S16x128 : Shape := ⟨2, ![16, 128]⟩
abbrev S16x256 : Shape := ⟨2, ![16, 256]⟩
abbrev S1x64x1x4x128 : Shape := ⟨5, ![1, 64, 1, 4, 128]⟩
abbrev S64x4x128 : Shape := ⟨3, ![64, 4, 128]⟩
abbrev S256x128 : Shape := ⟨2, ![256, 128]⟩
abbrev S256x256 : Shape := ⟨2, ![256, 256]⟩
abbrev S16x128x1 : Shape := ⟨3, ![16, 128, 1]⟩
abbrev S1x16x128 : Shape := ⟨3, ![1, 16, 128]⟩
abbrev S96x512x32 : Shape := ⟨3, ![96, 512, 32]⟩

abbrev nBuf : Space → Nat
  | .hbm => 11
  | .vmem => 6
  | .smem => 2
  | _ => 0

abbrev bufTy : (tb : Table) → Fin (tcTables nBuf tb) → BufTy
  | .hbm, ⟨0, _⟩ => ⟨S96x32x128, .bf16⟩
  | .hbm, ⟨1, _⟩ => ⟨S61440x8x256, .fp8e4m3⟩
  | .hbm, ⟨2, _⟩ => ⟨S8, .f32⟩
  | .hbm, ⟨3, _⟩ => ⟨S61440x8x2x128, .fp8e4m3⟩
  | .hbm, ⟨4, _⟩ => ⟨S61440x2x8x128, .fp8e4m3⟩
  | .hbm, ⟨5, _⟩ => ⟨S8x4, .f32⟩
  | .hbm, ⟨6, _⟩ => ⟨S32, .f32⟩
  | .hbm, ⟨7, _⟩ => ⟨S32x1, .f32⟩
  | .hbm, ⟨8, _⟩ => ⟨S32x128, .f32⟩
  | .hbm, ⟨9, _⟩ => ⟨S96x32x512, .f32⟩
  | .hbm, ⟨10, _⟩ => ⟨S96x512x32, .f32⟩
  | .local _ .vmem, ⟨0, _⟩ => ⟨S1x32x128, .bf16⟩
  | .local _ .vmem, ⟨1, _⟩ => ⟨S1x32x128, .bf16⟩
  | .local _ .vmem, ⟨2, _⟩ => ⟨S32x128, .f32⟩
  | .local _ .vmem, ⟨3, _⟩ => ⟨S1x32x512, .f32⟩
  | .local _ .vmem, ⟨4, _⟩ => ⟨S1x32x512, .f32⟩
  | .local _ .vmem, ⟨5, _⟩ => ⟨S2x512x2x8x128, .fp8e4m3⟩
  | .local _ .smem, ⟨0, _⟩ => ⟨S96x512, .i32⟩
  | .local _ .smem, ⟨1, _⟩ => ⟨S96, .i32⟩
  | _, _ => ⟨S96x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop (v204 : BitVec 32) : Scf.Loop 32 :=
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_74 : BitVec 32 := 1#32
  ⟨c0_i32_71, v211, c1_i32_74⟩

def k0_off1 (v204 : BitVec 32) (k0_t1 : Fin (k0_t1_loop v204).trips) : Fin 2 → Nat :=
  let c0_77 : Index := 0#32
  let c0_i32_71 : BitVec 32 := 0#32
  let c1_i32_74 : BitVec 32 := 1#32
  let arg9 : BitVec 32 := Scf.iv c0_i32_71 c1_i32_74 k0_t1
  let c16_i32 : BitVec 32 := 16#32
  let v214 : BitVec 32 := Scalar.muli arg9 c16_i32
  let c0_i32_76 : BitVec 32 := 0#32
  let v215 : BitVec 32 := Scalar.addi v214 c0_i32_76
  let v216 : Index := Scalar.indexCast v215
  ![0, v216.toNat]
def k0_off2 (v204 : BitVec 32) (k0_t1 : Fin (k0_t1_loop v204).trips) : Fin 5 → Nat :=
  let c0_i32_78 : BitVec 32 := 0#32
  let c0_i32_71 : BitVec 32 := 0#32
  let c1_i32_74 : BitVec 32 := 1#32
  let arg9 : BitVec 32 := Scf.iv c0_i32_71 c1_i32_74 k0_t1
  let c16_i32 : BitVec 32 := 16#32
  let v214 : BitVec 32 := Scalar.muli arg9 c16_i32
  let c0_i32_76 : BitVec 32 := 0#32
  let v215 : BitVec 32 := Scalar.addi v214 c0_i32_76
  let c0_i32_80 : BitVec 32 := 0#32
  let c0_i32_81 : BitVec 32 := 0#32
  let c0_i32_82 : BitVec 32 := 0#32
  ![0, v215.toNat, 0, 0, 0]
def k0_off3 (v217 : BitVec 32) : Fin 4 → Nat :=
  let c0_i32_83 : BitVec 32 := 0#32
  let c0_i32_84 : BitVec 32 := 0#32
  let c0_i32_85 : BitVec 32 := 0#32
  ![v217.toNat, 0, 0, 0]

def k0_chk2 (i : grid0.Coords) (v217 : BitVec 32) : Prop :=
  (∀ (k0_h1 : k0_cond1 i = 1#1), ∀ a, (k0_off3 v217) a + S1x2x8x128.size a ≤ S61440x2x8x128.size a) ∧
  (∀ (k0_h1 : k0_cond1 i = 1#1), ∀ (hinb : ∀ a, (k0_off3 v217) a + S1x2x8x128.size a ≤ S61440x2x8x128.size a), (Rect.unit (s := S61440x2x8x128) (k0_off3 v217) S1x2x8x128.size hinb).WholeWords (EltTy.packing .fp8e4m3))
theorem k0_off3_inb : ∀ (i : grid0.Coords) (v217 : BitVec 32) (k0_hw2 : k0_chk2 i v217), ∀ (k0_h1 : k0_cond1 i = 1#1), ∀ a, (k0_off3 v217) a + S1x2x8x128.size a ≤ S61440x2x8x128.size a := fun i v217 k0_hw2 k0_h1 => k0_hw2.1 k0_h1
theorem k0_off3_wordsfp8e4m3 : ∀ (i : grid0.Coords) (v217 : BitVec 32) (k0_hw2 : k0_chk2 i v217), ∀ (k0_h1 : k0_cond1 i = 1#1), (Rect.unit (s := S61440x2x8x128) (k0_off3 v217) S1x2x8x128.size (k0_off3_inb i v217 k0_hw2 k0_h1)).WholeWords (EltTy.packing .fp8e4m3) := fun i v217 k0_hw2 k0_h1 => k0_hw2.2 k0_h1 (k0_off3_inb i v217 k0_hw2 k0_h1)

def k0_off4 (v204 : BitVec 32) (k0_t1 : Fin (k0_t1_loop v204).trips) : Fin 2 → Nat :=
  let c0_88 : Index := 0#32
  let c0_i32_71 : BitVec 32 := 0#32
  let c1_i32_74 : BitVec 32 := 1#32
  let arg9 : BitVec 32 := Scf.iv c0_i32_71 c1_i32_74 k0_t1
  let c16_i32_86 : BitVec 32 := 16#32
  let v224 : BitVec 32 := Scalar.muli arg9 c16_i32_86
  let c1_i32_87 : BitVec 32 := 1#32
  let v225 : BitVec 32 := Scalar.addi v224 c1_i32_87
  let v226 : Index := Scalar.indexCast v225
  ![0, v226.toNat]
def k0_off5 (v204 : BitVec 32) (k0_t1 : Fin (k0_t1_loop v204).trips) : Fin 5 → Nat :=
  let c0_i32_89 : BitVec 32 := 0#32
  let c0_i32_71 : BitVec 32 := 0#32
  let c1_i32_74 : BitVec 32 := 1#32
  let arg9 : BitVec 32 := Scf.iv c0_i32_71 c1_i32_74 k0_t1
  let c16_i32_86 : BitVec 32 := 16#32
  let v224 : BitVec 32 := Scalar.muli arg9 c16_i32_86
  let c1_i32_87 : BitVec 32 := 1#32
  let v225 : BitVec 32 := Scalar.addi v224 c1_i32_87
  let c0_i32_91 : BitVec 32 := 0#32
  let c0_i32_92 : BitVec 32 := 0#32
  let c0_i32_93 : BitVec 32 := 0#32
  ![0, v225.toNat, 0, 0, 0]
def k0_off6 (v227 : BitVec 32) : Fin 4 → Nat :=
  let c0_i32_94 : BitVec 32 := 0#32
  let c0_i32_95 : BitVec 32 := 0#32
  let c0_i32_96 : BitVec 32 := 0#32
  ![v227.toNat, 0, 0, 0]

def k0_chk3 (i : grid0.Coords) (v227 : BitVec 32) : Prop :=
  (∀ (k0_h1 : k0_cond1 i = 1#1), ∀ a, (k0_off6 v227) a + S1x2x8x128.size a ≤ S61440x2x8x128.size a) ∧
  (∀ (k0_h1 : k0_cond1 i = 1#1), ∀ (hinb : ∀ a, (k0_off6 v227) a + S1x2x8x128.size a ≤ S61440x2x8x128.size a), (Rect.unit (s := S61440x2x8x128) (k0_off6 v227) S1x2x8x128.size hinb).WholeWords (EltTy.packing .fp8e4m3))
theorem k0_off6_inb : ∀ (i : grid0.Coords) (v227 : BitVec 32) (k0_hw3 : k0_chk3 i v227), ∀ (k0_h1 : k0_cond1 i = 1#1), ∀ a, (k0_off6 v227) a + S1x2x8x128.size a ≤ S61440x2x8x128.size a := fun i v227 k0_hw3 k0_h1 => k0_hw3.1 k0_h1
theorem k0_off6_wordsfp8e4m3 : ∀ (i : grid0.Coords) (v227 : BitVec 32) (k0_hw3 : k0_chk3 i v227), ∀ (k0_h1 : k0_cond1 i = 1#1), (Rect.unit (s := S61440x2x8x128) (k0_off6 v227) S1x2x8x128.size (k0_off6_inb i v227 k0_hw3 k0_h1)).WholeWords (EltTy.packing .fp8e4m3) := fun i v227 k0_hw3 k0_h1 => k0_hw3.2 k0_h1 (k0_off6_inb i v227 k0_hw3 k0_h1)

def k0_off7 (v204 : BitVec 32) (k0_t1 : Fin (k0_t1_loop v204).trips) : Fin 2 → Nat :=
  let c0_99 : Index := 0#32
  let c0_i32_71 : BitVec 32 := 0#32
  let c1_i32_74 : BitVec 32 := 1#32
  let arg9 : BitVec 32 := Scf.iv c0_i32_71 c1_i32_74 k0_t1
  let c16_i32_97 : BitVec 32 := 16#32
  let v234 : BitVec 32 := Scalar.muli arg9 c16_i32_97
  let c2_i32_98 : BitVec 32 := 2#32
  let v235 : BitVec 32 := Scalar.addi v234 c2_i32_98
  let v236 : Index := Scalar.indexCast v235
  ![0, v236.toNat]
def k0_off8 (v204 : BitVec 32) (k0_t1 : Fin (k0_t1_loop v204).trips) : Fin 5 → Nat :=
  let c0_i32_100 : BitVec 32 := 0#32
  let c0_i32_71 : BitVec 32 := 0#32
  let c1_i32_74 : BitVec 32 := 1#32
  let arg9 : BitVec 32 := Scf.iv c0_i32_71 c1_i32_74 k0_t1
  let c16_i32_97 : BitVec 32 := 16#32
  let v234 : BitVec 32 := Scalar.muli arg9 c16_i32_97
  let c2_i32_98 : BitVec 32 := 2#32
  let v235 : BitVec 32 := Scalar.addi v234 c2_i32_98
  let c0_i32_102 : BitVec 32 := 0#32
  let c0_i32_103 : BitVec 32 := 0#32
  let c0_i32_104 : BitVec 32 := 0#32
  ![0, v235.toNat, 0, 0, 0]
def k0_off9 (v237 : BitVec 32) : Fin 4 → Nat :=
  let c0_i32_105 : BitVec 32 := 0#32
  let c0_i32_106 : BitVec 32 := 0#32
  let c0_i32_107 : BitVec 32 := 0#32
  ![v237.toNat, 0, 0, 0]

def k0_chk4 (i : grid0.Coords) (v237 : BitVec 32) : Prop :=
  (∀ (k0_h1 : k0_cond1 i = 1#1), ∀ a, (k0_off9 v237) a + S1x2x8x128.size a ≤ S61440x2x8x128.size a) ∧
  (∀ (k0_h1 : k0_cond1 i = 1#1), ∀ (hinb : ∀ a, (k0_off9 v237) a + S1x2x8x128.size a ≤ S61440x2x8x128.size a), (Rect.unit (s := S61440x2x8x128) (k0_off9 v237) S1x2x8x128.size hinb).WholeWords (EltTy.packing .fp8e4m3))
theorem k0_off9_inb : ∀ (i : grid0.Coords) (v237 : BitVec 32) (k0_hw4 : k0_chk4 i v237), ∀ (k0_h1 : k0_cond1 i = 1#1), ∀ a, (k0_off9 v237) a + S1x2x8x128.size a ≤ S61440x2x8x128.size a := fun i v237 k0_hw4 k0_h1 => k0_hw4.1 k0_h1
theorem k0_off9_wordsfp8e4m3 : ∀ (i : grid0.Coords) (v237 : BitVec 32) (k0_hw4 : k0_chk4 i v237), ∀ (k0_h1 : k0_cond1 i = 1#1), (Rect.unit (s := S61440x2x8x128) (k0_off9 v237) S1x2x8x128.size (k0_off9_inb i v237 k0_hw4 k0_h1)).WholeWords (EltTy.packing .fp8e4m3) := fun i v237 k0_hw4 k0_h1 => k0_hw4.2 k0_h1 (k0_off9_inb i v237 k0_hw4 k0_h1)

def k0_off10 (v204 : BitVec 32) (k0_t1 : Fin (k0_t1_loop v204).trips) : Fin 2 → Nat :=
  let c0_109 : Index := 0#32
  let c0_i32_71 : BitVec 32 := 0#32
  let c1_i32_74 : BitVec 32 := 1#32
  let arg9 : BitVec 32 := Scf.iv c0_i32_71 c1_i32_74 k0_t1
  let c16_i32_108 : BitVec 32 := 16#32
  let v244 : BitVec 32 := Scalar.muli arg9 c16_i32_108
  let c3_i32 : BitVec 32 := 3#32
  let v245 : BitVec 32 := Scalar.addi v244 c3_i32
  let v246 : Index := Scalar.indexCast v245
  ![0, v246.toNat]
def k0_off11 (v204 : BitVec 32) (k0_t1 : Fin (k0_t1_loop v204).trips) : Fin 5 → Nat :=
  let c0_i32_110 : BitVec 32 := 0#32
  let c0_i32_71 : BitVec 32 := 0#32
  let c1_i32_74 : BitVec 32 := 1#32
  let arg9 : BitVec 32 := Scf.iv c0_i32_71 c1_i32_74 k0_t1
  let c16_i32_108 : BitVec 32 := 16#32
  let v244 : BitVec 32 := Scalar.muli arg9 c16_i32_108
  let c3_i32 : BitVec 32 := 3#32
  let v245 : BitVec 32 := Scalar.addi v244 c3_i32
  let c0_i32_112 : BitVec 32 := 0#32
  let c0_i32_113 : BitVec 32 := 0#32
  let c0_i32_114 : BitVec 32 := 0#32
  ![0, v245.toNat, 0, 0, 0]
def k0_off12 (v247 : BitVec 32) : Fin 4 → Nat :=
  let c0_i32_115 : BitVec 32 := 0#32
  let c0_i32_116 : BitVec 32 := 0#32
  let c0_i32_117 : BitVec 32 := 0#32
  ![v247.toNat, 0, 0, 0]

def k0_chk5 (i : grid0.Coords) (v247 : BitVec 32) : Prop :=
  (∀ (k0_h1 : k0_cond1 i = 1#1), ∀ a, (k0_off12 v247) a + S1x2x8x128.size a ≤ S61440x2x8x128.size a) ∧
  (∀ (k0_h1 : k0_cond1 i = 1#1), ∀ (hinb : ∀ a, (k0_off12 v247) a + S1x2x8x128.size a ≤ S61440x2x8x128.size a), (Rect.unit (s := S61440x2x8x128) (k0_off12 v247) S1x2x8x128.size hinb).WholeWords (EltTy.packing .fp8e4m3))
theorem k0_off12_inb : ∀ (i : grid0.Coords) (v247 : BitVec 32) (k0_hw5 : k0_chk5 i v247), ∀ (k0_h1 : k0_cond1 i = 1#1), ∀ a, (k0_off12 v247) a + S1x2x8x128.size a ≤ S61440x2x8x128.size a := fun i v247 k0_hw5 k0_h1 => k0_hw5.1 k0_h1
theorem k0_off12_wordsfp8e4m3 : ∀ (i : grid0.Coords) (v247 : BitVec 32) (k0_hw5 : k0_chk5 i v247), ∀ (k0_h1 : k0_cond1 i = 1#1), (Rect.unit (s := S61440x2x8x128) (k0_off12 v247) S1x2x8x128.size (k0_off12_inb i v247 k0_hw5 k0_h1)).WholeWords (EltTy.packing .fp8e4m3) := fun i v247 k0_hw5 k0_h1 => k0_hw5.2 k0_h1 (k0_off12_inb i v247 k0_hw5 k0_h1)

def k0_off13 (v204 : BitVec 32) (k0_t1 : Fin (k0_t1_loop v204).trips) : Fin 2 → Nat :=
  let c0_120 : Index := 0#32
  let c0_i32_71 : BitVec 32 := 0#32
  let c1_i32_74 : BitVec 32 := 1#32
  let arg9 : BitVec 32 := Scf.iv c0_i32_71 c1_i32_74 k0_t1
  let c16_i32_118 : BitVec 32 := 16#32
  let v254 : BitVec 32 := Scalar.muli arg9 c16_i32_118
  let c4_i32_119 : BitVec 32 := 4#32
  let v255 : BitVec 32 := Scalar.addi v254 c4_i32_119
  let v256 : Index := Scalar.indexCast v255
  ![0, v256.toNat]
def k0_off14 (v204 : BitVec 32) (k0_t1 : Fin (k0_t1_loop v204).trips) : Fin 5 → Nat :=
  let c0_i32_121 : BitVec 32 := 0#32
  let c0_i32_71 : BitVec 32 := 0#32
  let c1_i32_74 : BitVec 32 := 1#32
  let arg9 : BitVec 32 := Scf.iv c0_i32_71 c1_i32_74 k0_t1
  let c16_i32_118 : BitVec 32 := 16#32
  let v254 : BitVec 32 := Scalar.muli arg9 c16_i32_118
  let c4_i32_119 : BitVec 32 := 4#32
  let v255 : BitVec 32 := Scalar.addi v254 c4_i32_119
  let c0_i32_123 : BitVec 32 := 0#32
  let c0_i32_124 : BitVec 32 := 0#32
  let c0_i32_125 : BitVec 32 := 0#32
  ![0, v255.toNat, 0, 0, 0]
def k0_off15 (v257 : BitVec 32) : Fin 4 → Nat :=
  let c0_i32_126 : BitVec 32 := 0#32
  let c0_i32_127 : BitVec 32 := 0#32
  let c0_i32_128 : BitVec 32 := 0#32
  ![v257.toNat, 0, 0, 0]

def k0_chk6 (i : grid0.Coords) (v257 : BitVec 32) : Prop :=
  (∀ (k0_h1 : k0_cond1 i = 1#1), ∀ a, (k0_off15 v257) a + S1x2x8x128.size a ≤ S61440x2x8x128.size a) ∧
  (∀ (k0_h1 : k0_cond1 i = 1#1), ∀ (hinb : ∀ a, (k0_off15 v257) a + S1x2x8x128.size a ≤ S61440x2x8x128.size a), (Rect.unit (s := S61440x2x8x128) (k0_off15 v257) S1x2x8x128.size hinb).WholeWords (EltTy.packing .fp8e4m3))
theorem k0_off15_inb : ∀ (i : grid0.Coords) (v257 : BitVec 32) (k0_hw6 : k0_chk6 i v257), ∀ (k0_h1 : k0_cond1 i = 1#1), ∀ a, (k0_off15 v257) a + S1x2x8x128.size a ≤ S61440x2x8x128.size a := fun i v257 k0_hw6 k0_h1 => k0_hw6.1 k0_h1
theorem k0_off15_wordsfp8e4m3 : ∀ (i : grid0.Coords) (v257 : BitVec 32) (k0_hw6 : k0_chk6 i v257), ∀ (k0_h1 : k0_cond1 i = 1#1), (Rect.unit (s := S61440x2x8x128) (k0_off15 v257) S1x2x8x128.size (k0_off15_inb i v257 k0_hw6 k0_h1)).WholeWords (EltTy.packing .fp8e4m3) := fun i v257 k0_hw6 k0_h1 => k0_hw6.2 k0_h1 (k0_off15_inb i v257 k0_hw6 k0_h1)

def k0_off16 (v204 : BitVec 32) (k0_t1 : Fin (k0_t1_loop v204).trips) : Fin 2 → Nat :=
  let c0_130 : Index := 0#32
  let c0_i32_71 : BitVec 32 := 0#32
  let c1_i32_74 : BitVec 32 := 1#32
  let arg9 : BitVec 32 := Scf.iv c0_i32_71 c1_i32_74 k0_t1
  let c16_i32_129 : BitVec 32 := 16#32
  let v264 : BitVec 32 := Scalar.muli arg9 c16_i32_129
  let c5_i32 : BitVec 32 := 5#32
  let v265 : BitVec 32 := Scalar.addi v264 c5_i32
  let v266 : Index := Scalar.indexCast v265
  ![0, v266.toNat]
def k0_off17 (v204 : BitVec 32) (k0_t1 : Fin (k0_t1_loop v204).trips) : Fin 5 → Nat :=
  let c0_i32_131 : BitVec 32 := 0#32
  let c0_i32_71 : BitVec 32 := 0#32
  let c1_i32_74 : BitVec 32 := 1#32
  let arg9 : BitVec 32 := Scf.iv c0_i32_71 c1_i32_74 k0_t1
  let c16_i32_129 : BitVec 32 := 16#32
  let v264 : BitVec 32 := Scalar.muli arg9 c16_i32_129
  let c5_i32 : BitVec 32 := 5#32
  let v265 : BitVec 32 := Scalar.addi v264 c5_i32
  let c0_i32_133 : BitVec 32 := 0#32
  let c0_i32_134 : BitVec 32 := 0#32
  let c0_i32_135 : BitVec 32 := 0#32
  ![0, v265.toNat, 0, 0, 0]
def k0_off18 (v267 : BitVec 32) : Fin 4 → Nat :=
  let c0_i32_136 : BitVec 32 := 0#32
  let c0_i32_137 : BitVec 32 := 0#32
  let c0_i32_138 : BitVec 32 := 0#32
  ![v267.toNat, 0, 0, 0]

def k0_chk7 (i : grid0.Coords) (v267 : BitVec 32) : Prop :=
  (∀ (k0_h1 : k0_cond1 i = 1#1), ∀ a, (k0_off18 v267) a + S1x2x8x128.size a ≤ S61440x2x8x128.size a) ∧
  (∀ (k0_h1 : k0_cond1 i = 1#1), ∀ (hinb : ∀ a, (k0_off18 v267) a + S1x2x8x128.size a ≤ S61440x2x8x128.size a), (Rect.unit (s := S61440x2x8x128) (k0_off18 v267) S1x2x8x128.size hinb).WholeWords (EltTy.packing .fp8e4m3))
theorem k0_off18_inb : ∀ (i : grid0.Coords) (v267 : BitVec 32) (k0_hw7 : k0_chk7 i v267), ∀ (k0_h1 : k0_cond1 i = 1#1), ∀ a, (k0_off18 v267) a + S1x2x8x128.size a ≤ S61440x2x8x128.size a := fun i v267 k0_hw7 k0_h1 => k0_hw7.1 k0_h1
theorem k0_off18_wordsfp8e4m3 : ∀ (i : grid0.Coords) (v267 : BitVec 32) (k0_hw7 : k0_chk7 i v267), ∀ (k0_h1 : k0_cond1 i = 1#1), (Rect.unit (s := S61440x2x8x128) (k0_off18 v267) S1x2x8x128.size (k0_off18_inb i v267 k0_hw7 k0_h1)).WholeWords (EltTy.packing .fp8e4m3) := fun i v267 k0_hw7 k0_h1 => k0_hw7.2 k0_h1 (k0_off18_inb i v267 k0_hw7 k0_h1)

def k0_off19 (v204 : BitVec 32) (k0_t1 : Fin (k0_t1_loop v204).trips) : Fin 2 → Nat :=
  let c0_140 : Index := 0#32
  let c0_i32_71 : BitVec 32 := 0#32
  let c1_i32_74 : BitVec 32 := 1#32
  let arg9 : BitVec 32 := Scf.iv c0_i32_71 c1_i32_74 k0_t1
  let c16_i32_139 : BitVec 32 := 16#32
  let v274 : BitVec 32 := Scalar.muli arg9 c16_i32_139
  let c6_i32 : BitVec 32 := 6#32
  let v275 : BitVec 32 := Scalar.addi v274 c6_i32
  let v276 : Index := Scalar.indexCast v275
  ![0, v276.toNat]
def k0_off20 (v204 : BitVec 32) (k0_t1 : Fin (k0_t1_loop v204).trips) : Fin 5 → Nat :=
  let c0_i32_141 : BitVec 32 := 0#32
  let c0_i32_71 : BitVec 32 := 0#32
  let c1_i32_74 : BitVec 32 := 1#32
  let arg9 : BitVec 32 := Scf.iv c0_i32_71 c1_i32_74 k0_t1
  let c16_i32_139 : BitVec 32 := 16#32
  let v274 : BitVec 32 := Scalar.muli arg9 c16_i32_139
  let c6_i32 : BitVec 32 := 6#32
  let v275 : BitVec 32 := Scalar.addi v274 c6_i32
  let c0_i32_143 : BitVec 32 := 0#32
  let c0_i32_144 : BitVec 32 := 0#32
  let c0_i32_145 : BitVec 32 := 0#32
  ![0, v275.toNat, 0, 0, 0]
def k0_off21 (v277 : BitVec 32) : Fin 4 → Nat :=
  let c0_i32_146 : BitVec 32 := 0#32
  let c0_i32_147 : BitVec 32 := 0#32
  let c0_i32_148 : BitVec 32 := 0#32
  ![v277.toNat, 0, 0, 0]

def k0_chk8 (i : grid0.Coords) (v277 : BitVec 32) : Prop :=
  (∀ (k0_h1 : k0_cond1 i = 1#1), ∀ a, (k0_off21 v277) a + S1x2x8x128.size a ≤ S61440x2x8x128.size a) ∧
  (∀ (k0_h1 : k0_cond1 i = 1#1), ∀ (hinb : ∀ a, (k0_off21 v277) a + S1x2x8x128.size a ≤ S61440x2x8x128.size a), (Rect.unit (s := S61440x2x8x128) (k0_off21 v277) S1x2x8x128.size hinb).WholeWords (EltTy.packing .fp8e4m3))
theorem k0_off21_inb : ∀ (i : grid0.Coords) (v277 : BitVec 32) (k0_hw8 : k0_chk8 i v277), ∀ (k0_h1 : k0_cond1 i = 1#1), ∀ a, (k0_off21 v277) a + S1x2x8x128.size a ≤ S61440x2x8x128.size a := fun i v277 k0_hw8 k0_h1 => k0_hw8.1 k0_h1
theorem k0_off21_wordsfp8e4m3 : ∀ (i : grid0.Coords) (v277 : BitVec 32) (k0_hw8 : k0_chk8 i v277), ∀ (k0_h1 : k0_cond1 i = 1#1), (Rect.unit (s := S61440x2x8x128) (k0_off21 v277) S1x2x8x128.size (k0_off21_inb i v277 k0_hw8 k0_h1)).WholeWords (EltTy.packing .fp8e4m3) := fun i v277 k0_hw8 k0_h1 => k0_hw8.2 k0_h1 (k0_off21_inb i v277 k0_hw8 k0_h1)

def k0_off22 (v204 : BitVec 32) (k0_t1 : Fin (k0_t1_loop v204).trips) : Fin 2 → Nat :=
  let c0_150 : Index := 0#32
  let c0_i32_71 : BitVec 32 := 0#32
  let c1_i32_74 : BitVec 32 := 1#32
  let arg9 : BitVec 32 := Scf.iv c0_i32_71 c1_i32_74 k0_t1
  let c16_i32_149 : BitVec 32 := 16#32
  let v284 : BitVec 32 := Scalar.muli arg9 c16_i32_149
  let c7_i32 : BitVec 32 := 7#32
  let v285 : BitVec 32 := Scalar.addi v284 c7_i32
  let v286 : Index := Scalar.indexCast v285
  ![0, v286.toNat]
def k0_off23 (v204 : BitVec 32) (k0_t1 : Fin (k0_t1_loop v204).trips) : Fin 5 → Nat :=
  let c0_i32_151 : BitVec 32 := 0#32
  let c0_i32_71 : BitVec 32 := 0#32
  let c1_i32_74 : BitVec 32 := 1#32
  let arg9 : BitVec 32 := Scf.iv c0_i32_71 c1_i32_74 k0_t1
  let c16_i32_149 : BitVec 32 := 16#32
  let v284 : BitVec 32 := Scalar.muli arg9 c16_i32_149
  let c7_i32 : BitVec 32 := 7#32
  let v285 : BitVec 32 := Scalar.addi v284 c7_i32
  let c0_i32_153 : BitVec 32 := 0#32
  let c0_i32_154 : BitVec 32 := 0#32
  let c0_i32_155 : BitVec 32 := 0#32
  ![0, v285.toNat, 0, 0, 0]
def k0_off24 (v287 : BitVec 32) : Fin 4 → Nat :=
  let c0_i32_156 : BitVec 32 := 0#32
  let c0_i32_157 : BitVec 32 := 0#32
  let c0_i32_158 : BitVec 32 := 0#32
  ![v287.toNat, 0, 0, 0]

def k0_chk9 (i : grid0.Coords) (v287 : BitVec 32) : Prop :=
  (∀ (k0_h1 : k0_cond1 i = 1#1), ∀ a, (k0_off24 v287) a + S1x2x8x128.size a ≤ S61440x2x8x128.size a) ∧
  (∀ (k0_h1 : k0_cond1 i = 1#1), ∀ (hinb : ∀ a, (k0_off24 v287) a + S1x2x8x128.size a ≤ S61440x2x8x128.size a), (Rect.unit (s := S61440x2x8x128) (k0_off24 v287) S1x2x8x128.size hinb).WholeWords (EltTy.packing .fp8e4m3))
theorem k0_off24_inb : ∀ (i : grid0.Coords) (v287 : BitVec 32) (k0_hw9 : k0_chk9 i v287), ∀ (k0_h1 : k0_cond1 i = 1#1), ∀ a, (k0_off24 v287) a + S1x2x8x128.size a ≤ S61440x2x8x128.size a := fun i v287 k0_hw9 k0_h1 => k0_hw9.1 k0_h1
theorem k0_off24_wordsfp8e4m3 : ∀ (i : grid0.Coords) (v287 : BitVec 32) (k0_hw9 : k0_chk9 i v287), ∀ (k0_h1 : k0_cond1 i = 1#1), (Rect.unit (s := S61440x2x8x128) (k0_off24 v287) S1x2x8x128.size (k0_off24_inb i v287 k0_hw9 k0_h1)).WholeWords (EltTy.packing .fp8e4m3) := fun i v287 k0_hw9 k0_h1 => k0_hw9.2 k0_h1 (k0_off24_inb i v287 k0_hw9 k0_h1)

def k0_off25 (v204 : BitVec 32) (k0_t1 : Fin (k0_t1_loop v204).trips) : Fin 2 → Nat :=
  let c0_160 : Index := 0#32
  let c0_i32_71 : BitVec 32 := 0#32
  let c1_i32_74 : BitVec 32 := 1#32
  let arg9 : BitVec 32 := Scf.iv c0_i32_71 c1_i32_74 k0_t1
  let c16_i32_159 : BitVec 32 := 16#32
  let v294 : BitVec 32 := Scalar.muli arg9 c16_i32_159
  let c8_i32 : BitVec 32 := 8#32
  let v295 : BitVec 32 := Scalar.addi v294 c8_i32
  let v296 : Index := Scalar.indexCast v295
  ![0, v296.toNat]
def k0_off26 (v204 : BitVec 32) (k0_t1 : Fin (k0_t1_loop v204).trips) : Fin 5 → Nat :=
  let c0_i32_161 : BitVec 32 := 0#32
  let c0_i32_71 : BitVec 32 := 0#32
  let c1_i32_74 : BitVec 32 := 1#32
  let arg9 : BitVec 32 := Scf.iv c0_i32_71 c1_i32_74 k0_t1
  let c16_i32_159 : BitVec 32 := 16#32
  let v294 : BitVec 32 := Scalar.muli arg9 c16_i32_159
  let c8_i32 : BitVec 32 := 8#32
  let v295 : BitVec 32 := Scalar.addi v294 c8_i32
  let c0_i32_163 : BitVec 32 := 0#32
  let c0_i32_164 : BitVec 32 := 0#32
  let c0_i32_165 : BitVec 32 := 0#32
  ![0, v295.toNat, 0, 0, 0]
def k0_off27 (v297 : BitVec 32) : Fin 4 → Nat :=
  let c0_i32_166 : BitVec 32 := 0#32
  let c0_i32_167 : BitVec 32 := 0#32
  let c0_i32_168 : BitVec 32 := 0#32
  ![v297.toNat, 0, 0, 0]

def k0_chk10 (i : grid0.Coords) (v297 : BitVec 32) : Prop :=
  (∀ (k0_h1 : k0_cond1 i = 1#1), ∀ a, (k0_off27 v297) a + S1x2x8x128.size a ≤ S61440x2x8x128.size a) ∧
  (∀ (k0_h1 : k0_cond1 i = 1#1), ∀ (hinb : ∀ a, (k0_off27 v297) a + S1x2x8x128.size a ≤ S61440x2x8x128.size a), (Rect.unit (s := S61440x2x8x128) (k0_off27 v297) S1x2x8x128.size hinb).WholeWords (EltTy.packing .fp8e4m3))
theorem k0_off27_inb : ∀ (i : grid0.Coords) (v297 : BitVec 32) (k0_hw10 : k0_chk10 i v297), ∀ (k0_h1 : k0_cond1 i = 1#1), ∀ a, (k0_off27 v297) a + S1x2x8x128.size a ≤ S61440x2x8x128.size a := fun i v297 k0_hw10 k0_h1 => k0_hw10.1 k0_h1
theorem k0_off27_wordsfp8e4m3 : ∀ (i : grid0.Coords) (v297 : BitVec 32) (k0_hw10 : k0_chk10 i v297), ∀ (k0_h1 : k0_cond1 i = 1#1), (Rect.unit (s := S61440x2x8x128) (k0_off27 v297) S1x2x8x128.size (k0_off27_inb i v297 k0_hw10 k0_h1)).WholeWords (EltTy.packing .fp8e4m3) := fun i v297 k0_hw10 k0_h1 => k0_hw10.2 k0_h1 (k0_off27_inb i v297 k0_hw10 k0_h1)

def k0_off28 (v204 : BitVec 32) (k0_t1 : Fin (k0_t1_loop v204).trips) : Fin 2 → Nat :=
  let c0_170 : Index := 0#32
  let c0_i32_71 : BitVec 32 := 0#32
  let c1_i32_74 : BitVec 32 := 1#32
  let arg9 : BitVec 32 := Scf.iv c0_i32_71 c1_i32_74 k0_t1
  let c16_i32_169 : BitVec 32 := 16#32
  let v304 : BitVec 32 := Scalar.muli arg9 c16_i32_169
  let c9_i32 : BitVec 32 := 9#32
  let v305 : BitVec 32 := Scalar.addi v304 c9_i32
  let v306 : Index := Scalar.indexCast v305
  ![0, v306.toNat]
def k0_off29 (v204 : BitVec 32) (k0_t1 : Fin (k0_t1_loop v204).trips) : Fin 5 → Nat :=
  let c0_i32_171 : BitVec 32 := 0#32
  let c0_i32_71 : BitVec 32 := 0#32
  let c1_i32_74 : BitVec 32 := 1#32
  let arg9 : BitVec 32 := Scf.iv c0_i32_71 c1_i32_74 k0_t1
  let c16_i32_169 : BitVec 32 := 16#32
  let v304 : BitVec 32 := Scalar.muli arg9 c16_i32_169
  let c9_i32 : BitVec 32 := 9#32
  let v305 : BitVec 32 := Scalar.addi v304 c9_i32
  let c0_i32_173 : BitVec 32 := 0#32
  let c0_i32_174 : BitVec 32 := 0#32
  let c0_i32_175 : BitVec 32 := 0#32
  ![0, v305.toNat, 0, 0, 0]
def k0_off30 (v307 : BitVec 32) : Fin 4 → Nat :=
  let c0_i32_176 : BitVec 32 := 0#32
  let c0_i32_177 : BitVec 32 := 0#32
  let c0_i32_178 : BitVec 32 := 0#32
  ![v307.toNat, 0, 0, 0]

def k0_chk11 (i : grid0.Coords) (v307 : BitVec 32) : Prop :=
  (∀ (k0_h1 : k0_cond1 i = 1#1), ∀ a, (k0_off30 v307) a + S1x2x8x128.size a ≤ S61440x2x8x128.size a) ∧
  (∀ (k0_h1 : k0_cond1 i = 1#1), ∀ (hinb : ∀ a, (k0_off30 v307) a + S1x2x8x128.size a ≤ S61440x2x8x128.size a), (Rect.unit (s := S61440x2x8x128) (k0_off30 v307) S1x2x8x128.size hinb).WholeWords (EltTy.packing .fp8e4m3))
theorem k0_off30_inb : ∀ (i : grid0.Coords) (v307 : BitVec 32) (k0_hw11 : k0_chk11 i v307), ∀ (k0_h1 : k0_cond1 i = 1#1), ∀ a, (k0_off30 v307) a + S1x2x8x128.size a ≤ S61440x2x8x128.size a := fun i v307 k0_hw11 k0_h1 => k0_hw11.1 k0_h1
theorem k0_off30_wordsfp8e4m3 : ∀ (i : grid0.Coords) (v307 : BitVec 32) (k0_hw11 : k0_chk11 i v307), ∀ (k0_h1 : k0_cond1 i = 1#1), (Rect.unit (s := S61440x2x8x128) (k0_off30 v307) S1x2x8x128.size (k0_off30_inb i v307 k0_hw11 k0_h1)).WholeWords (EltTy.packing .fp8e4m3) := fun i v307 k0_hw11 k0_h1 => k0_hw11.2 k0_h1 (k0_off30_inb i v307 k0_hw11 k0_h1)

def k0_off31 (v204 : BitVec 32) (k0_t1 : Fin (k0_t1_loop v204).trips) : Fin 2 → Nat :=
  let c0_180 : Index := 0#32
  let c0_i32_71 : BitVec 32 := 0#32
  let c1_i32_74 : BitVec 32 := 1#32
  let arg9 : BitVec 32 := Scf.iv c0_i32_71 c1_i32_74 k0_t1
  let c16_i32_179 : BitVec 32 := 16#32
  let v314 : BitVec 32 := Scalar.muli arg9 c16_i32_179
  let c10_i32 : BitVec 32 := 10#32
  let v315 : BitVec 32 := Scalar.addi v314 c10_i32
  let v316 : Index := Scalar.indexCast v315
  ![0, v316.toNat]
def k0_off32 (v204 : BitVec 32) (k0_t1 : Fin (k0_t1_loop v204).trips) : Fin 5 → Nat :=
  let c0_i32_181 : BitVec 32 := 0#32
  let c0_i32_71 : BitVec 32 := 0#32
  let c1_i32_74 : BitVec 32 := 1#32
  let arg9 : BitVec 32 := Scf.iv c0_i32_71 c1_i32_74 k0_t1
  let c16_i32_179 : BitVec 32 := 16#32
  let v314 : BitVec 32 := Scalar.muli arg9 c16_i32_179
  let c10_i32 : BitVec 32 := 10#32
  let v315 : BitVec 32 := Scalar.addi v314 c10_i32
  let c0_i32_183 : BitVec 32 := 0#32
  let c0_i32_184 : BitVec 32 := 0#32
  let c0_i32_185 : BitVec 32 := 0#32
  ![0, v315.toNat, 0, 0, 0]
def k0_off33 (v317 : BitVec 32) : Fin 4 → Nat :=
  let c0_i32_186 : BitVec 32 := 0#32
  let c0_i32_187 : BitVec 32 := 0#32
  let c0_i32_188 : BitVec 32 := 0#32
  ![v317.toNat, 0, 0, 0]

def k0_chk12 (i : grid0.Coords) (v317 : BitVec 32) : Prop :=
  (∀ (k0_h1 : k0_cond1 i = 1#1), ∀ a, (k0_off33 v317) a + S1x2x8x128.size a ≤ S61440x2x8x128.size a) ∧
  (∀ (k0_h1 : k0_cond1 i = 1#1), ∀ (hinb : ∀ a, (k0_off33 v317) a + S1x2x8x128.size a ≤ S61440x2x8x128.size a), (Rect.unit (s := S61440x2x8x128) (k0_off33 v317) S1x2x8x128.size hinb).WholeWords (EltTy.packing .fp8e4m3))
theorem k0_off33_inb : ∀ (i : grid0.Coords) (v317 : BitVec 32) (k0_hw12 : k0_chk12 i v317), ∀ (k0_h1 : k0_cond1 i = 1#1), ∀ a, (k0_off33 v317) a + S1x2x8x128.size a ≤ S61440x2x8x128.size a := fun i v317 k0_hw12 k0_h1 => k0_hw12.1 k0_h1
theorem k0_off33_wordsfp8e4m3 : ∀ (i : grid0.Coords) (v317 : BitVec 32) (k0_hw12 : k0_chk12 i v317), ∀ (k0_h1 : k0_cond1 i = 1#1), (Rect.unit (s := S61440x2x8x128) (k0_off33 v317) S1x2x8x128.size (k0_off33_inb i v317 k0_hw12 k0_h1)).WholeWords (EltTy.packing .fp8e4m3) := fun i v317 k0_hw12 k0_h1 => k0_hw12.2 k0_h1 (k0_off33_inb i v317 k0_hw12 k0_h1)

def k0_off34 (v204 : BitVec 32) (k0_t1 : Fin (k0_t1_loop v204).trips) : Fin 2 → Nat :=
  let c0_190 : Index := 0#32
  let c0_i32_71 : BitVec 32 := 0#32
  let c1_i32_74 : BitVec 32 := 1#32
  let arg9 : BitVec 32 := Scf.iv c0_i32_71 c1_i32_74 k0_t1
  let c16_i32_189 : BitVec 32 := 16#32
  let v324 : BitVec 32 := Scalar.muli arg9 c16_i32_189
  let c11_i32 : BitVec 32 := 11#32
  let v325 : BitVec 32 := Scalar.addi v324 c11_i32
  let v326 : Index := Scalar.indexCast v325
  ![0, v326.toNat]
def k0_off35 (v204 : BitVec 32) (k0_t1 : Fin (k0_t1_loop v204).trips) : Fin 5 → Nat :=
  let c0_i32_191 : BitVec 32 := 0#32
  let c0_i32_71 : BitVec 32 := 0#32
  let c1_i32_74 : BitVec 32 := 1#32
  let arg9 : BitVec 32 := Scf.iv c0_i32_71 c1_i32_74 k0_t1
  let c16_i32_189 : BitVec 32 := 16#32
  let v324 : BitVec 32 := Scalar.muli arg9 c16_i32_189
  let c11_i32 : BitVec 32 := 11#32
  let v325 : BitVec 32 := Scalar.addi v324 c11_i32
  let c0_i32_193 : BitVec 32 := 0#32
  let c0_i32_194 : BitVec 32 := 0#32
  let c0_i32_195 : BitVec 32 := 0#32
  ![0, v325.toNat, 0, 0, 0]
def k0_off36 (v327 : BitVec 32) : Fin 4 → Nat :=
  let c0_i32_196 : BitVec 32 := 0#32
  let c0_i32_197 : BitVec 32 := 0#32
  let c0_i32_198 : BitVec 32 := 0#32
  ![v327.toNat, 0, 0, 0]

def k0_chk13 (i : grid0.Coords) (v327 : BitVec 32) : Prop :=
  (∀ (k0_h1 : k0_cond1 i = 1#1), ∀ a, (k0_off36 v327) a + S1x2x8x128.size a ≤ S61440x2x8x128.size a) ∧
  (∀ (k0_h1 : k0_cond1 i = 1#1), ∀ (hinb : ∀ a, (k0_off36 v327) a + S1x2x8x128.size a ≤ S61440x2x8x128.size a), (Rect.unit (s := S61440x2x8x128) (k0_off36 v327) S1x2x8x128.size hinb).WholeWords (EltTy.packing .fp8e4m3))
theorem k0_off36_inb : ∀ (i : grid0.Coords) (v327 : BitVec 32) (k0_hw13 : k0_chk13 i v327), ∀ (k0_h1 : k0_cond1 i = 1#1), ∀ a, (k0_off36 v327) a + S1x2x8x128.size a ≤ S61440x2x8x128.size a := fun i v327 k0_hw13 k0_h1 => k0_hw13.1 k0_h1
theorem k0_off36_wordsfp8e4m3 : ∀ (i : grid0.Coords) (v327 : BitVec 32) (k0_hw13 : k0_chk13 i v327), ∀ (k0_h1 : k0_cond1 i = 1#1), (Rect.unit (s := S61440x2x8x128) (k0_off36 v327) S1x2x8x128.size (k0_off36_inb i v327 k0_hw13 k0_h1)).WholeWords (EltTy.packing .fp8e4m3) := fun i v327 k0_hw13 k0_h1 => k0_hw13.2 k0_h1 (k0_off36_inb i v327 k0_hw13 k0_h1)

def k0_off37 (v204 : BitVec 32) (k0_t1 : Fin (k0_t1_loop v204).trips) : Fin 2 → Nat :=
  let c0_200 : Index := 0#32
  let c0_i32_71 : BitVec 32 := 0#32
  let c1_i32_74 : BitVec 32 := 1#32
  let arg9 : BitVec 32 := Scf.iv c0_i32_71 c1_i32_74 k0_t1
  let c16_i32_199 : BitVec 32 := 16#32
  let v334 : BitVec 32 := Scalar.muli arg9 c16_i32_199
  let c12_i32 : BitVec 32 := 12#32
  let v335 : BitVec 32 := Scalar.addi v334 c12_i32
  let v336 : Index := Scalar.indexCast v335
  ![0, v336.toNat]
def k0_off38 (v204 : BitVec 32) (k0_t1 : Fin (k0_t1_loop v204).trips) : Fin 5 → Nat :=
  let c0_i32_201 : BitVec 32 := 0#32
  let c0_i32_71 : BitVec 32 := 0#32
  let c1_i32_74 : BitVec 32 := 1#32
  let arg9 : BitVec 32 := Scf.iv c0_i32_71 c1_i32_74 k0_t1
  let c16_i32_199 : BitVec 32 := 16#32
  let v334 : BitVec 32 := Scalar.muli arg9 c16_i32_199
  let c12_i32 : BitVec 32 := 12#32
  let v335 : BitVec 32 := Scalar.addi v334 c12_i32
  let c0_i32_203 : BitVec 32 := 0#32
  let c0_i32_204 : BitVec 32 := 0#32
  let c0_i32_205 : BitVec 32 := 0#32
  ![0, v335.toNat, 0, 0, 0]
def k0_off39 (v337 : BitVec 32) : Fin 4 → Nat :=
  let c0_i32_206 : BitVec 32 := 0#32
  let c0_i32_207 : BitVec 32 := 0#32
  let c0_i32_208 : BitVec 32 := 0#32
  ![v337.toNat, 0, 0, 0]

def k0_chk14 (i : grid0.Coords) (v337 : BitVec 32) : Prop :=
  (∀ (k0_h1 : k0_cond1 i = 1#1), ∀ a, (k0_off39 v337) a + S1x2x8x128.size a ≤ S61440x2x8x128.size a) ∧
  (∀ (k0_h1 : k0_cond1 i = 1#1), ∀ (hinb : ∀ a, (k0_off39 v337) a + S1x2x8x128.size a ≤ S61440x2x8x128.size a), (Rect.unit (s := S61440x2x8x128) (k0_off39 v337) S1x2x8x128.size hinb).WholeWords (EltTy.packing .fp8e4m3))
theorem k0_off39_inb : ∀ (i : grid0.Coords) (v337 : BitVec 32) (k0_hw14 : k0_chk14 i v337), ∀ (k0_h1 : k0_cond1 i = 1#1), ∀ a, (k0_off39 v337) a + S1x2x8x128.size a ≤ S61440x2x8x128.size a := fun i v337 k0_hw14 k0_h1 => k0_hw14.1 k0_h1
theorem k0_off39_wordsfp8e4m3 : ∀ (i : grid0.Coords) (v337 : BitVec 32) (k0_hw14 : k0_chk14 i v337), ∀ (k0_h1 : k0_cond1 i = 1#1), (Rect.unit (s := S61440x2x8x128) (k0_off39 v337) S1x2x8x128.size (k0_off39_inb i v337 k0_hw14 k0_h1)).WholeWords (EltTy.packing .fp8e4m3) := fun i v337 k0_hw14 k0_h1 => k0_hw14.2 k0_h1 (k0_off39_inb i v337 k0_hw14 k0_h1)

def k0_off40 (v204 : BitVec 32) (k0_t1 : Fin (k0_t1_loop v204).trips) : Fin 2 → Nat :=
  let c0_210 : Index := 0#32
  let c0_i32_71 : BitVec 32 := 0#32
  let c1_i32_74 : BitVec 32 := 1#32
  let arg9 : BitVec 32 := Scf.iv c0_i32_71 c1_i32_74 k0_t1
  let c16_i32_209 : BitVec 32 := 16#32
  let v344 : BitVec 32 := Scalar.muli arg9 c16_i32_209
  let c13_i32 : BitVec 32 := 13#32
  let v345 : BitVec 32 := Scalar.addi v344 c13_i32
  let v346 : Index := Scalar.indexCast v345
  ![0, v346.toNat]
def k0_off41 (v204 : BitVec 32) (k0_t1 : Fin (k0_t1_loop v204).trips) : Fin 5 → Nat :=
  let c0_i32_211 : BitVec 32 := 0#32
  let c0_i32_71 : BitVec 32 := 0#32
  let c1_i32_74 : BitVec 32 := 1#32
  let arg9 : BitVec 32 := Scf.iv c0_i32_71 c1_i32_74 k0_t1
  let c16_i32_209 : BitVec 32 := 16#32
  let v344 : BitVec 32 := Scalar.muli arg9 c16_i32_209
  let c13_i32 : BitVec 32 := 13#32
  let v345 : BitVec 32 := Scalar.addi v344 c13_i32
  let c0_i32_213 : BitVec 32 := 0#32
  let c0_i32_214 : BitVec 32 := 0#32
  let c0_i32_215 : BitVec 32 := 0#32
  ![0, v345.toNat, 0, 0, 0]
def k0_off42 (v347 : BitVec 32) : Fin 4 → Nat :=
  let c0_i32_216 : BitVec 32 := 0#32
  let c0_i32_217 : BitVec 32 := 0#32
  let c0_i32_218 : BitVec 32 := 0#32
  ![v347.toNat, 0, 0, 0]

def k0_chk15 (i : grid0.Coords) (v347 : BitVec 32) : Prop :=
  (∀ (k0_h1 : k0_cond1 i = 1#1), ∀ a, (k0_off42 v347) a + S1x2x8x128.size a ≤ S61440x2x8x128.size a) ∧
  (∀ (k0_h1 : k0_cond1 i = 1#1), ∀ (hinb : ∀ a, (k0_off42 v347) a + S1x2x8x128.size a ≤ S61440x2x8x128.size a), (Rect.unit (s := S61440x2x8x128) (k0_off42 v347) S1x2x8x128.size hinb).WholeWords (EltTy.packing .fp8e4m3))
theorem k0_off42_inb : ∀ (i : grid0.Coords) (v347 : BitVec 32) (k0_hw15 : k0_chk15 i v347), ∀ (k0_h1 : k0_cond1 i = 1#1), ∀ a, (k0_off42 v347) a + S1x2x8x128.size a ≤ S61440x2x8x128.size a := fun i v347 k0_hw15 k0_h1 => k0_hw15.1 k0_h1
theorem k0_off42_wordsfp8e4m3 : ∀ (i : grid0.Coords) (v347 : BitVec 32) (k0_hw15 : k0_chk15 i v347), ∀ (k0_h1 : k0_cond1 i = 1#1), (Rect.unit (s := S61440x2x8x128) (k0_off42 v347) S1x2x8x128.size (k0_off42_inb i v347 k0_hw15 k0_h1)).WholeWords (EltTy.packing .fp8e4m3) := fun i v347 k0_hw15 k0_h1 => k0_hw15.2 k0_h1 (k0_off42_inb i v347 k0_hw15 k0_h1)

def k0_off43 (v204 : BitVec 32) (k0_t1 : Fin (k0_t1_loop v204).trips) : Fin 2 → Nat :=
  let c0_220 : Index := 0#32
  let c0_i32_71 : BitVec 32 := 0#32
  let c1_i32_74 : BitVec 32 := 1#32
  let arg9 : BitVec 32 := Scf.iv c0_i32_71 c1_i32_74 k0_t1
  let c16_i32_219 : BitVec 32 := 16#32
  let v354 : BitVec 32 := Scalar.muli arg9 c16_i32_219
  let c14_i32 : BitVec 32 := 14#32
  let v355 : BitVec 32 := Scalar.addi v354 c14_i32
  let v356 : Index := Scalar.indexCast v355
  ![0, v356.toNat]
def k0_off44 (v204 : BitVec 32) (k0_t1 : Fin (k0_t1_loop v204).trips) : Fin 5 → Nat :=
  let c0_i32_221 : BitVec 32 := 0#32
  let c0_i32_71 : BitVec 32 := 0#32
  let c1_i32_74 : BitVec 32 := 1#32
  let arg9 : BitVec 32 := Scf.iv c0_i32_71 c1_i32_74 k0_t1
  let c16_i32_219 : BitVec 32 := 16#32
  let v354 : BitVec 32 := Scalar.muli arg9 c16_i32_219
  let c14_i32 : BitVec 32 := 14#32
  let v355 : BitVec 32 := Scalar.addi v354 c14_i32
  let c0_i32_223 : BitVec 32 := 0#32
  let c0_i32_224 : BitVec 32 := 0#32
  let c0_i32_225 : BitVec 32 := 0#32
  ![0, v355.toNat, 0, 0, 0]
def k0_off45 (v357 : BitVec 32) : Fin 4 → Nat :=
  let c0_i32_226 : BitVec 32 := 0#32
  let c0_i32_227 : BitVec 32 := 0#32
  let c0_i32_228 : BitVec 32 := 0#32
  ![v357.toNat, 0, 0, 0]

def k0_chk16 (i : grid0.Coords) (v357 : BitVec 32) : Prop :=
  (∀ (k0_h1 : k0_cond1 i = 1#1), ∀ a, (k0_off45 v357) a + S1x2x8x128.size a ≤ S61440x2x8x128.size a) ∧
  (∀ (k0_h1 : k0_cond1 i = 1#1), ∀ (hinb : ∀ a, (k0_off45 v357) a + S1x2x8x128.size a ≤ S61440x2x8x128.size a), (Rect.unit (s := S61440x2x8x128) (k0_off45 v357) S1x2x8x128.size hinb).WholeWords (EltTy.packing .fp8e4m3))
theorem k0_off45_inb : ∀ (i : grid0.Coords) (v357 : BitVec 32) (k0_hw16 : k0_chk16 i v357), ∀ (k0_h1 : k0_cond1 i = 1#1), ∀ a, (k0_off45 v357) a + S1x2x8x128.size a ≤ S61440x2x8x128.size a := fun i v357 k0_hw16 k0_h1 => k0_hw16.1 k0_h1
theorem k0_off45_wordsfp8e4m3 : ∀ (i : grid0.Coords) (v357 : BitVec 32) (k0_hw16 : k0_chk16 i v357), ∀ (k0_h1 : k0_cond1 i = 1#1), (Rect.unit (s := S61440x2x8x128) (k0_off45 v357) S1x2x8x128.size (k0_off45_inb i v357 k0_hw16 k0_h1)).WholeWords (EltTy.packing .fp8e4m3) := fun i v357 k0_hw16 k0_h1 => k0_hw16.2 k0_h1 (k0_off45_inb i v357 k0_hw16 k0_h1)

def k0_off46 (v204 : BitVec 32) (k0_t1 : Fin (k0_t1_loop v204).trips) : Fin 2 → Nat :=
  let c0_230 : Index := 0#32
  let c0_i32_71 : BitVec 32 := 0#32
  let c1_i32_74 : BitVec 32 := 1#32
  let arg9 : BitVec 32 := Scf.iv c0_i32_71 c1_i32_74 k0_t1
  let c16_i32_229 : BitVec 32 := 16#32
  let v364 : BitVec 32 := Scalar.muli arg9 c16_i32_229
  let c15_i32 : BitVec 32 := 15#32
  let v365 : BitVec 32 := Scalar.addi v364 c15_i32
  let v366 : Index := Scalar.indexCast v365
  ![0, v366.toNat]
def k0_off47 (v204 : BitVec 32) (k0_t1 : Fin (k0_t1_loop v204).trips) : Fin 5 → Nat :=
  let c0_i32_231 : BitVec 32 := 0#32
  let c0_i32_71 : BitVec 32 := 0#32
  let c1_i32_74 : BitVec 32 := 1#32
  let arg9 : BitVec 32 := Scf.iv c0_i32_71 c1_i32_74 k0_t1
  let c16_i32_229 : BitVec 32 := 16#32
  let v364 : BitVec 32 := Scalar.muli arg9 c16_i32_229
  let c15_i32 : BitVec 32 := 15#32
  let v365 : BitVec 32 := Scalar.addi v364 c15_i32
  let c0_i32_233 : BitVec 32 := 0#32
  let c0_i32_234 : BitVec 32 := 0#32
  let c0_i32_235 : BitVec 32 := 0#32
  ![0, v365.toNat, 0, 0, 0]
def k0_off48 (v367 : BitVec 32) : Fin 4 → Nat :=
  let c0_i32_236 : BitVec 32 := 0#32
  let c0_i32_237 : BitVec 32 := 0#32
  let c0_i32_238 : BitVec 32 := 0#32
  ![v367.toNat, 0, 0, 0]

def k0_chk17 (i : grid0.Coords) (v367 : BitVec 32) : Prop :=
  (∀ (k0_h1 : k0_cond1 i = 1#1), ∀ a, (k0_off48 v367) a + S1x2x8x128.size a ≤ S61440x2x8x128.size a) ∧
  (∀ (k0_h1 : k0_cond1 i = 1#1), ∀ (hinb : ∀ a, (k0_off48 v367) a + S1x2x8x128.size a ≤ S61440x2x8x128.size a), (Rect.unit (s := S61440x2x8x128) (k0_off48 v367) S1x2x8x128.size hinb).WholeWords (EltTy.packing .fp8e4m3))
theorem k0_off48_inb : ∀ (i : grid0.Coords) (v367 : BitVec 32) (k0_hw17 : k0_chk17 i v367), ∀ (k0_h1 : k0_cond1 i = 1#1), ∀ a, (k0_off48 v367) a + S1x2x8x128.size a ≤ S61440x2x8x128.size a := fun i v367 k0_hw17 k0_h1 => k0_hw17.1 k0_h1
theorem k0_off48_wordsfp8e4m3 : ∀ (i : grid0.Coords) (v367 : BitVec 32) (k0_hw17 : k0_chk17 i v367), ∀ (k0_h1 : k0_cond1 i = 1#1), (Rect.unit (s := S61440x2x8x128) (k0_off48 v367) S1x2x8x128.size (k0_off48_inb i v367 k0_hw17 k0_h1)).WholeWords (EltTy.packing .fp8e4m3) := fun i v367 k0_hw17 k0_h1 => k0_hw17.2 k0_h1 (k0_off48_inb i v367 k0_hw17 k0_h1)

@[reducible] def k0_t2_loop (v204 : BitVec 32) : Scf.Loop 32 :=
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let v208 : BitVec 32 := Scalar.addi c0_i32_71 v207
  let c1_i32_75 : BitVec 32 := 1#32
  ⟨v211, v208, c1_i32_75⟩
def k0_off49 (v204 : BitVec 32) (k0_t2 : Fin (k0_t2_loop v204).trips) : Fin 2 → Nat :=
  let c0_77 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32 : BitVec 32 := 16#32
  let v214 : BitVec 32 := Scalar.muli arg9 c16_i32
  let c0_i32_76 : BitVec 32 := 0#32
  let v215 : BitVec 32 := Scalar.addi v214 c0_i32_76
  let v216 : Index := Scalar.indexCast v215
  ![0, v216.toNat]
def k0_off50 (v204 : BitVec 32) (k0_t2 : Fin (k0_t2_loop v204).trips) : Fin 5 → Nat :=
  let c0_i32_78 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32 : BitVec 32 := 16#32
  let v214 : BitVec 32 := Scalar.muli arg9 c16_i32
  let c0_i32_76 : BitVec 32 := 0#32
  let v215 : BitVec 32 := Scalar.addi v214 c0_i32_76
  let c0_i32_80 : BitVec 32 := 0#32
  let c0_i32_81 : BitVec 32 := 0#32
  let c0_i32_82 : BitVec 32 := 0#32
  ![0, v215.toNat, 0, 0, 0]
def k0_off51 (v217 : BitVec 32) : Fin 4 → Nat :=
  let c0_i32_83 : BitVec 32 := 0#32
  let c0_i32_84 : BitVec 32 := 0#32
  let c0_i32_85 : BitVec 32 := 0#32
  ![v217.toNat, 0, 0, 0]

def k0_chk18 (i : grid0.Coords) (v217 : BitVec 32) : Prop :=
  (∀ (k0_h1 : k0_cond1 i = 1#1), ∀ a, (k0_off51 v217) a + S1x2x8x128.size a ≤ S61440x2x8x128.size a) ∧
  (∀ (k0_h1 : k0_cond1 i = 1#1), ∀ (hinb : ∀ a, (k0_off51 v217) a + S1x2x8x128.size a ≤ S61440x2x8x128.size a), (Rect.unit (s := S61440x2x8x128) (k0_off51 v217) S1x2x8x128.size hinb).WholeWords (EltTy.packing .fp8e4m3))
theorem k0_off51_inb : ∀ (i : grid0.Coords) (v217 : BitVec 32) (k0_hw18 : k0_chk18 i v217), ∀ (k0_h1 : k0_cond1 i = 1#1), ∀ a, (k0_off51 v217) a + S1x2x8x128.size a ≤ S61440x2x8x128.size a := fun i v217 k0_hw18 k0_h1 => k0_hw18.1 k0_h1
theorem k0_off51_wordsfp8e4m3 : ∀ (i : grid0.Coords) (v217 : BitVec 32) (k0_hw18 : k0_chk18 i v217), ∀ (k0_h1 : k0_cond1 i = 1#1), (Rect.unit (s := S61440x2x8x128) (k0_off51 v217) S1x2x8x128.size (k0_off51_inb i v217 k0_hw18 k0_h1)).WholeWords (EltTy.packing .fp8e4m3) := fun i v217 k0_hw18 k0_h1 => k0_hw18.2 k0_h1 (k0_off51_inb i v217 k0_hw18 k0_h1)

def k0_off52 (v204 : BitVec 32) (k0_t2 : Fin (k0_t2_loop v204).trips) : Fin 2 → Nat :=
  let c0_88 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_86 : BitVec 32 := 16#32
  let v224 : BitVec 32 := Scalar.muli arg9 c16_i32_86
  let c1_i32_87 : BitVec 32 := 1#32
  let v225 : BitVec 32 := Scalar.addi v224 c1_i32_87
  let v226 : Index := Scalar.indexCast v225
  ![0, v226.toNat]
def k0_off53 (v204 : BitVec 32) (k0_t2 : Fin (k0_t2_loop v204).trips) : Fin 5 → Nat :=
  let c0_i32_89 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_86 : BitVec 32 := 16#32
  let v224 : BitVec 32 := Scalar.muli arg9 c16_i32_86
  let c1_i32_87 : BitVec 32 := 1#32
  let v225 : BitVec 32 := Scalar.addi v224 c1_i32_87
  let c0_i32_91 : BitVec 32 := 0#32
  let c0_i32_92 : BitVec 32 := 0#32
  let c0_i32_93 : BitVec 32 := 0#32
  ![0, v225.toNat, 0, 0, 0]
def k0_off54 (v227 : BitVec 32) : Fin 4 → Nat :=
  let c0_i32_94 : BitVec 32 := 0#32
  let c0_i32_95 : BitVec 32 := 0#32
  let c0_i32_96 : BitVec 32 := 0#32
  ![v227.toNat, 0, 0, 0]

def k0_chk19 (i : grid0.Coords) (v227 : BitVec 32) : Prop :=
  (∀ (k0_h1 : k0_cond1 i = 1#1), ∀ a, (k0_off54 v227) a + S1x2x8x128.size a ≤ S61440x2x8x128.size a) ∧
  (∀ (k0_h1 : k0_cond1 i = 1#1), ∀ (hinb : ∀ a, (k0_off54 v227) a + S1x2x8x128.size a ≤ S61440x2x8x128.size a), (Rect.unit (s := S61440x2x8x128) (k0_off54 v227) S1x2x8x128.size hinb).WholeWords (EltTy.packing .fp8e4m3))
theorem k0_off54_inb : ∀ (i : grid0.Coords) (v227 : BitVec 32) (k0_hw19 : k0_chk19 i v227), ∀ (k0_h1 : k0_cond1 i = 1#1), ∀ a, (k0_off54 v227) a + S1x2x8x128.size a ≤ S61440x2x8x128.size a := fun i v227 k0_hw19 k0_h1 => k0_hw19.1 k0_h1
theorem k0_off54_wordsfp8e4m3 : ∀ (i : grid0.Coords) (v227 : BitVec 32) (k0_hw19 : k0_chk19 i v227), ∀ (k0_h1 : k0_cond1 i = 1#1), (Rect.unit (s := S61440x2x8x128) (k0_off54 v227) S1x2x8x128.size (k0_off54_inb i v227 k0_hw19 k0_h1)).WholeWords (EltTy.packing .fp8e4m3) := fun i v227 k0_hw19 k0_h1 => k0_hw19.2 k0_h1 (k0_off54_inb i v227 k0_hw19 k0_h1)

def k0_off55 (v204 : BitVec 32) (k0_t2 : Fin (k0_t2_loop v204).trips) : Fin 2 → Nat :=
  let c0_99 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_97 : BitVec 32 := 16#32
  let v234 : BitVec 32 := Scalar.muli arg9 c16_i32_97
  let c2_i32_98 : BitVec 32 := 2#32
  let v235 : BitVec 32 := Scalar.addi v234 c2_i32_98
  let v236 : Index := Scalar.indexCast v235
  ![0, v236.toNat]
def k0_off56 (v204 : BitVec 32) (k0_t2 : Fin (k0_t2_loop v204).trips) : Fin 5 → Nat :=
  let c0_i32_100 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_97 : BitVec 32 := 16#32
  let v234 : BitVec 32 := Scalar.muli arg9 c16_i32_97
  let c2_i32_98 : BitVec 32 := 2#32
  let v235 : BitVec 32 := Scalar.addi v234 c2_i32_98
  let c0_i32_102 : BitVec 32 := 0#32
  let c0_i32_103 : BitVec 32 := 0#32
  let c0_i32_104 : BitVec 32 := 0#32
  ![0, v235.toNat, 0, 0, 0]
def k0_off57 (v237 : BitVec 32) : Fin 4 → Nat :=
  let c0_i32_105 : BitVec 32 := 0#32
  let c0_i32_106 : BitVec 32 := 0#32
  let c0_i32_107 : BitVec 32 := 0#32
  ![v237.toNat, 0, 0, 0]

def k0_chk20 (i : grid0.Coords) (v237 : BitVec 32) : Prop :=
  (∀ (k0_h1 : k0_cond1 i = 1#1), ∀ a, (k0_off57 v237) a + S1x2x8x128.size a ≤ S61440x2x8x128.size a) ∧
  (∀ (k0_h1 : k0_cond1 i = 1#1), ∀ (hinb : ∀ a, (k0_off57 v237) a + S1x2x8x128.size a ≤ S61440x2x8x128.size a), (Rect.unit (s := S61440x2x8x128) (k0_off57 v237) S1x2x8x128.size hinb).WholeWords (EltTy.packing .fp8e4m3))
theorem k0_off57_inb : ∀ (i : grid0.Coords) (v237 : BitVec 32) (k0_hw20 : k0_chk20 i v237), ∀ (k0_h1 : k0_cond1 i = 1#1), ∀ a, (k0_off57 v237) a + S1x2x8x128.size a ≤ S61440x2x8x128.size a := fun i v237 k0_hw20 k0_h1 => k0_hw20.1 k0_h1
theorem k0_off57_wordsfp8e4m3 : ∀ (i : grid0.Coords) (v237 : BitVec 32) (k0_hw20 : k0_chk20 i v237), ∀ (k0_h1 : k0_cond1 i = 1#1), (Rect.unit (s := S61440x2x8x128) (k0_off57 v237) S1x2x8x128.size (k0_off57_inb i v237 k0_hw20 k0_h1)).WholeWords (EltTy.packing .fp8e4m3) := fun i v237 k0_hw20 k0_h1 => k0_hw20.2 k0_h1 (k0_off57_inb i v237 k0_hw20 k0_h1)

def k0_off58 (v204 : BitVec 32) (k0_t2 : Fin (k0_t2_loop v204).trips) : Fin 2 → Nat :=
  let c0_109 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_108 : BitVec 32 := 16#32
  let v244 : BitVec 32 := Scalar.muli arg9 c16_i32_108
  let c3_i32 : BitVec 32 := 3#32
  let v245 : BitVec 32 := Scalar.addi v244 c3_i32
  let v246 : Index := Scalar.indexCast v245
  ![0, v246.toNat]
def k0_off59 (v204 : BitVec 32) (k0_t2 : Fin (k0_t2_loop v204).trips) : Fin 5 → Nat :=
  let c0_i32_110 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_108 : BitVec 32 := 16#32
  let v244 : BitVec 32 := Scalar.muli arg9 c16_i32_108
  let c3_i32 : BitVec 32 := 3#32
  let v245 : BitVec 32 := Scalar.addi v244 c3_i32
  let c0_i32_112 : BitVec 32 := 0#32
  let c0_i32_113 : BitVec 32 := 0#32
  let c0_i32_114 : BitVec 32 := 0#32
  ![0, v245.toNat, 0, 0, 0]
def k0_off60 (v247 : BitVec 32) : Fin 4 → Nat :=
  let c0_i32_115 : BitVec 32 := 0#32
  let c0_i32_116 : BitVec 32 := 0#32
  let c0_i32_117 : BitVec 32 := 0#32
  ![v247.toNat, 0, 0, 0]

def k0_chk21 (i : grid0.Coords) (v247 : BitVec 32) : Prop :=
  (∀ (k0_h1 : k0_cond1 i = 1#1), ∀ a, (k0_off60 v247) a + S1x2x8x128.size a ≤ S61440x2x8x128.size a) ∧
  (∀ (k0_h1 : k0_cond1 i = 1#1), ∀ (hinb : ∀ a, (k0_off60 v247) a + S1x2x8x128.size a ≤ S61440x2x8x128.size a), (Rect.unit (s := S61440x2x8x128) (k0_off60 v247) S1x2x8x128.size hinb).WholeWords (EltTy.packing .fp8e4m3))
theorem k0_off60_inb : ∀ (i : grid0.Coords) (v247 : BitVec 32) (k0_hw21 : k0_chk21 i v247), ∀ (k0_h1 : k0_cond1 i = 1#1), ∀ a, (k0_off60 v247) a + S1x2x8x128.size a ≤ S61440x2x8x128.size a := fun i v247 k0_hw21 k0_h1 => k0_hw21.1 k0_h1
theorem k0_off60_wordsfp8e4m3 : ∀ (i : grid0.Coords) (v247 : BitVec 32) (k0_hw21 : k0_chk21 i v247), ∀ (k0_h1 : k0_cond1 i = 1#1), (Rect.unit (s := S61440x2x8x128) (k0_off60 v247) S1x2x8x128.size (k0_off60_inb i v247 k0_hw21 k0_h1)).WholeWords (EltTy.packing .fp8e4m3) := fun i v247 k0_hw21 k0_h1 => k0_hw21.2 k0_h1 (k0_off60_inb i v247 k0_hw21 k0_h1)

def k0_off61 (v204 : BitVec 32) (k0_t2 : Fin (k0_t2_loop v204).trips) : Fin 2 → Nat :=
  let c0_120 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_118 : BitVec 32 := 16#32
  let v254 : BitVec 32 := Scalar.muli arg9 c16_i32_118
  let c4_i32_119 : BitVec 32 := 4#32
  let v255 : BitVec 32 := Scalar.addi v254 c4_i32_119
  let v256 : Index := Scalar.indexCast v255
  ![0, v256.toNat]
def k0_off62 (v204 : BitVec 32) (k0_t2 : Fin (k0_t2_loop v204).trips) : Fin 5 → Nat :=
  let c0_i32_121 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_118 : BitVec 32 := 16#32
  let v254 : BitVec 32 := Scalar.muli arg9 c16_i32_118
  let c4_i32_119 : BitVec 32 := 4#32
  let v255 : BitVec 32 := Scalar.addi v254 c4_i32_119
  let c0_i32_123 : BitVec 32 := 0#32
  let c0_i32_124 : BitVec 32 := 0#32
  let c0_i32_125 : BitVec 32 := 0#32
  ![0, v255.toNat, 0, 0, 0]
def k0_off63 (v257 : BitVec 32) : Fin 4 → Nat :=
  let c0_i32_126 : BitVec 32 := 0#32
  let c0_i32_127 : BitVec 32 := 0#32
  let c0_i32_128 : BitVec 32 := 0#32
  ![v257.toNat, 0, 0, 0]

def k0_chk22 (i : grid0.Coords) (v257 : BitVec 32) : Prop :=
  (∀ (k0_h1 : k0_cond1 i = 1#1), ∀ a, (k0_off63 v257) a + S1x2x8x128.size a ≤ S61440x2x8x128.size a) ∧
  (∀ (k0_h1 : k0_cond1 i = 1#1), ∀ (hinb : ∀ a, (k0_off63 v257) a + S1x2x8x128.size a ≤ S61440x2x8x128.size a), (Rect.unit (s := S61440x2x8x128) (k0_off63 v257) S1x2x8x128.size hinb).WholeWords (EltTy.packing .fp8e4m3))
theorem k0_off63_inb : ∀ (i : grid0.Coords) (v257 : BitVec 32) (k0_hw22 : k0_chk22 i v257), ∀ (k0_h1 : k0_cond1 i = 1#1), ∀ a, (k0_off63 v257) a + S1x2x8x128.size a ≤ S61440x2x8x128.size a := fun i v257 k0_hw22 k0_h1 => k0_hw22.1 k0_h1
theorem k0_off63_wordsfp8e4m3 : ∀ (i : grid0.Coords) (v257 : BitVec 32) (k0_hw22 : k0_chk22 i v257), ∀ (k0_h1 : k0_cond1 i = 1#1), (Rect.unit (s := S61440x2x8x128) (k0_off63 v257) S1x2x8x128.size (k0_off63_inb i v257 k0_hw22 k0_h1)).WholeWords (EltTy.packing .fp8e4m3) := fun i v257 k0_hw22 k0_h1 => k0_hw22.2 k0_h1 (k0_off63_inb i v257 k0_hw22 k0_h1)

def k0_off64 (v204 : BitVec 32) (k0_t2 : Fin (k0_t2_loop v204).trips) : Fin 2 → Nat :=
  let c0_130 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_129 : BitVec 32 := 16#32
  let v264 : BitVec 32 := Scalar.muli arg9 c16_i32_129
  let c5_i32 : BitVec 32 := 5#32
  let v265 : BitVec 32 := Scalar.addi v264 c5_i32
  let v266 : Index := Scalar.indexCast v265
  ![0, v266.toNat]
def k0_off65 (v204 : BitVec 32) (k0_t2 : Fin (k0_t2_loop v204).trips) : Fin 5 → Nat :=
  let c0_i32_131 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_129 : BitVec 32 := 16#32
  let v264 : BitVec 32 := Scalar.muli arg9 c16_i32_129
  let c5_i32 : BitVec 32 := 5#32
  let v265 : BitVec 32 := Scalar.addi v264 c5_i32
  let c0_i32_133 : BitVec 32 := 0#32
  let c0_i32_134 : BitVec 32 := 0#32
  let c0_i32_135 : BitVec 32 := 0#32
  ![0, v265.toNat, 0, 0, 0]
def k0_off66 (v267 : BitVec 32) : Fin 4 → Nat :=
  let c0_i32_136 : BitVec 32 := 0#32
  let c0_i32_137 : BitVec 32 := 0#32
  let c0_i32_138 : BitVec 32 := 0#32
  ![v267.toNat, 0, 0, 0]

def k0_chk23 (i : grid0.Coords) (v267 : BitVec 32) : Prop :=
  (∀ (k0_h1 : k0_cond1 i = 1#1), ∀ a, (k0_off66 v267) a + S1x2x8x128.size a ≤ S61440x2x8x128.size a) ∧
  (∀ (k0_h1 : k0_cond1 i = 1#1), ∀ (hinb : ∀ a, (k0_off66 v267) a + S1x2x8x128.size a ≤ S61440x2x8x128.size a), (Rect.unit (s := S61440x2x8x128) (k0_off66 v267) S1x2x8x128.size hinb).WholeWords (EltTy.packing .fp8e4m3))
theorem k0_off66_inb : ∀ (i : grid0.Coords) (v267 : BitVec 32) (k0_hw23 : k0_chk23 i v267), ∀ (k0_h1 : k0_cond1 i = 1#1), ∀ a, (k0_off66 v267) a + S1x2x8x128.size a ≤ S61440x2x8x128.size a := fun i v267 k0_hw23 k0_h1 => k0_hw23.1 k0_h1
theorem k0_off66_wordsfp8e4m3 : ∀ (i : grid0.Coords) (v267 : BitVec 32) (k0_hw23 : k0_chk23 i v267), ∀ (k0_h1 : k0_cond1 i = 1#1), (Rect.unit (s := S61440x2x8x128) (k0_off66 v267) S1x2x8x128.size (k0_off66_inb i v267 k0_hw23 k0_h1)).WholeWords (EltTy.packing .fp8e4m3) := fun i v267 k0_hw23 k0_h1 => k0_hw23.2 k0_h1 (k0_off66_inb i v267 k0_hw23 k0_h1)

def k0_off67 (v204 : BitVec 32) (k0_t2 : Fin (k0_t2_loop v204).trips) : Fin 2 → Nat :=
  let c0_140 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_139 : BitVec 32 := 16#32
  let v274 : BitVec 32 := Scalar.muli arg9 c16_i32_139
  let c6_i32 : BitVec 32 := 6#32
  let v275 : BitVec 32 := Scalar.addi v274 c6_i32
  let v276 : Index := Scalar.indexCast v275
  ![0, v276.toNat]
def k0_off68 (v204 : BitVec 32) (k0_t2 : Fin (k0_t2_loop v204).trips) : Fin 5 → Nat :=
  let c0_i32_141 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_139 : BitVec 32 := 16#32
  let v274 : BitVec 32 := Scalar.muli arg9 c16_i32_139
  let c6_i32 : BitVec 32 := 6#32
  let v275 : BitVec 32 := Scalar.addi v274 c6_i32
  let c0_i32_143 : BitVec 32 := 0#32
  let c0_i32_144 : BitVec 32 := 0#32
  let c0_i32_145 : BitVec 32 := 0#32
  ![0, v275.toNat, 0, 0, 0]
def k0_off69 (v277 : BitVec 32) : Fin 4 → Nat :=
  let c0_i32_146 : BitVec 32 := 0#32
  let c0_i32_147 : BitVec 32 := 0#32
  let c0_i32_148 : BitVec 32 := 0#32
  ![v277.toNat, 0, 0, 0]

def k0_chk24 (i : grid0.Coords) (v277 : BitVec 32) : Prop :=
  (∀ (k0_h1 : k0_cond1 i = 1#1), ∀ a, (k0_off69 v277) a + S1x2x8x128.size a ≤ S61440x2x8x128.size a) ∧
  (∀ (k0_h1 : k0_cond1 i = 1#1), ∀ (hinb : ∀ a, (k0_off69 v277) a + S1x2x8x128.size a ≤ S61440x2x8x128.size a), (Rect.unit (s := S61440x2x8x128) (k0_off69 v277) S1x2x8x128.size hinb).WholeWords (EltTy.packing .fp8e4m3))
theorem k0_off69_inb : ∀ (i : grid0.Coords) (v277 : BitVec 32) (k0_hw24 : k0_chk24 i v277), ∀ (k0_h1 : k0_cond1 i = 1#1), ∀ a, (k0_off69 v277) a + S1x2x8x128.size a ≤ S61440x2x8x128.size a := fun i v277 k0_hw24 k0_h1 => k0_hw24.1 k0_h1
theorem k0_off69_wordsfp8e4m3 : ∀ (i : grid0.Coords) (v277 : BitVec 32) (k0_hw24 : k0_chk24 i v277), ∀ (k0_h1 : k0_cond1 i = 1#1), (Rect.unit (s := S61440x2x8x128) (k0_off69 v277) S1x2x8x128.size (k0_off69_inb i v277 k0_hw24 k0_h1)).WholeWords (EltTy.packing .fp8e4m3) := fun i v277 k0_hw24 k0_h1 => k0_hw24.2 k0_h1 (k0_off69_inb i v277 k0_hw24 k0_h1)

def k0_off70 (v204 : BitVec 32) (k0_t2 : Fin (k0_t2_loop v204).trips) : Fin 2 → Nat :=
  let c0_150 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_149 : BitVec 32 := 16#32
  let v284 : BitVec 32 := Scalar.muli arg9 c16_i32_149
  let c7_i32 : BitVec 32 := 7#32
  let v285 : BitVec 32 := Scalar.addi v284 c7_i32
  let v286 : Index := Scalar.indexCast v285
  ![0, v286.toNat]
def k0_off71 (v204 : BitVec 32) (k0_t2 : Fin (k0_t2_loop v204).trips) : Fin 5 → Nat :=
  let c0_i32_151 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_149 : BitVec 32 := 16#32
  let v284 : BitVec 32 := Scalar.muli arg9 c16_i32_149
  let c7_i32 : BitVec 32 := 7#32
  let v285 : BitVec 32 := Scalar.addi v284 c7_i32
  let c0_i32_153 : BitVec 32 := 0#32
  let c0_i32_154 : BitVec 32 := 0#32
  let c0_i32_155 : BitVec 32 := 0#32
  ![0, v285.toNat, 0, 0, 0]
def k0_off72 (v287 : BitVec 32) : Fin 4 → Nat :=
  let c0_i32_156 : BitVec 32 := 0#32
  let c0_i32_157 : BitVec 32 := 0#32
  let c0_i32_158 : BitVec 32 := 0#32
  ![v287.toNat, 0, 0, 0]

def k0_chk25 (i : grid0.Coords) (v287 : BitVec 32) : Prop :=
  (∀ (k0_h1 : k0_cond1 i = 1#1), ∀ a, (k0_off72 v287) a + S1x2x8x128.size a ≤ S61440x2x8x128.size a) ∧
  (∀ (k0_h1 : k0_cond1 i = 1#1), ∀ (hinb : ∀ a, (k0_off72 v287) a + S1x2x8x128.size a ≤ S61440x2x8x128.size a), (Rect.unit (s := S61440x2x8x128) (k0_off72 v287) S1x2x8x128.size hinb).WholeWords (EltTy.packing .fp8e4m3))
theorem k0_off72_inb : ∀ (i : grid0.Coords) (v287 : BitVec 32) (k0_hw25 : k0_chk25 i v287), ∀ (k0_h1 : k0_cond1 i = 1#1), ∀ a, (k0_off72 v287) a + S1x2x8x128.size a ≤ S61440x2x8x128.size a := fun i v287 k0_hw25 k0_h1 => k0_hw25.1 k0_h1
theorem k0_off72_wordsfp8e4m3 : ∀ (i : grid0.Coords) (v287 : BitVec 32) (k0_hw25 : k0_chk25 i v287), ∀ (k0_h1 : k0_cond1 i = 1#1), (Rect.unit (s := S61440x2x8x128) (k0_off72 v287) S1x2x8x128.size (k0_off72_inb i v287 k0_hw25 k0_h1)).WholeWords (EltTy.packing .fp8e4m3) := fun i v287 k0_hw25 k0_h1 => k0_hw25.2 k0_h1 (k0_off72_inb i v287 k0_hw25 k0_h1)

def k0_off73 (v204 : BitVec 32) (k0_t2 : Fin (k0_t2_loop v204).trips) : Fin 2 → Nat :=
  let c0_160 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_159 : BitVec 32 := 16#32
  let v294 : BitVec 32 := Scalar.muli arg9 c16_i32_159
  let c8_i32 : BitVec 32 := 8#32
  let v295 : BitVec 32 := Scalar.addi v294 c8_i32
  let v296 : Index := Scalar.indexCast v295
  ![0, v296.toNat]
def k0_off74 (v204 : BitVec 32) (k0_t2 : Fin (k0_t2_loop v204).trips) : Fin 5 → Nat :=
  let c0_i32_161 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_159 : BitVec 32 := 16#32
  let v294 : BitVec 32 := Scalar.muli arg9 c16_i32_159
  let c8_i32 : BitVec 32 := 8#32
  let v295 : BitVec 32 := Scalar.addi v294 c8_i32
  let c0_i32_163 : BitVec 32 := 0#32
  let c0_i32_164 : BitVec 32 := 0#32
  let c0_i32_165 : BitVec 32 := 0#32
  ![0, v295.toNat, 0, 0, 0]
def k0_off75 (v297 : BitVec 32) : Fin 4 → Nat :=
  let c0_i32_166 : BitVec 32 := 0#32
  let c0_i32_167 : BitVec 32 := 0#32
  let c0_i32_168 : BitVec 32 := 0#32
  ![v297.toNat, 0, 0, 0]

def k0_chk26 (i : grid0.Coords) (v297 : BitVec 32) : Prop :=
  (∀ (k0_h1 : k0_cond1 i = 1#1), ∀ a, (k0_off75 v297) a + S1x2x8x128.size a ≤ S61440x2x8x128.size a) ∧
  (∀ (k0_h1 : k0_cond1 i = 1#1), ∀ (hinb : ∀ a, (k0_off75 v297) a + S1x2x8x128.size a ≤ S61440x2x8x128.size a), (Rect.unit (s := S61440x2x8x128) (k0_off75 v297) S1x2x8x128.size hinb).WholeWords (EltTy.packing .fp8e4m3))
theorem k0_off75_inb : ∀ (i : grid0.Coords) (v297 : BitVec 32) (k0_hw26 : k0_chk26 i v297), ∀ (k0_h1 : k0_cond1 i = 1#1), ∀ a, (k0_off75 v297) a + S1x2x8x128.size a ≤ S61440x2x8x128.size a := fun i v297 k0_hw26 k0_h1 => k0_hw26.1 k0_h1
theorem k0_off75_wordsfp8e4m3 : ∀ (i : grid0.Coords) (v297 : BitVec 32) (k0_hw26 : k0_chk26 i v297), ∀ (k0_h1 : k0_cond1 i = 1#1), (Rect.unit (s := S61440x2x8x128) (k0_off75 v297) S1x2x8x128.size (k0_off75_inb i v297 k0_hw26 k0_h1)).WholeWords (EltTy.packing .fp8e4m3) := fun i v297 k0_hw26 k0_h1 => k0_hw26.2 k0_h1 (k0_off75_inb i v297 k0_hw26 k0_h1)

def k0_off76 (v204 : BitVec 32) (k0_t2 : Fin (k0_t2_loop v204).trips) : Fin 2 → Nat :=
  let c0_170 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_169 : BitVec 32 := 16#32
  let v304 : BitVec 32 := Scalar.muli arg9 c16_i32_169
  let c9_i32 : BitVec 32 := 9#32
  let v305 : BitVec 32 := Scalar.addi v304 c9_i32
  let v306 : Index := Scalar.indexCast v305
  ![0, v306.toNat]
def k0_off77 (v204 : BitVec 32) (k0_t2 : Fin (k0_t2_loop v204).trips) : Fin 5 → Nat :=
  let c0_i32_171 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_169 : BitVec 32 := 16#32
  let v304 : BitVec 32 := Scalar.muli arg9 c16_i32_169
  let c9_i32 : BitVec 32 := 9#32
  let v305 : BitVec 32 := Scalar.addi v304 c9_i32
  let c0_i32_173 : BitVec 32 := 0#32
  let c0_i32_174 : BitVec 32 := 0#32
  let c0_i32_175 : BitVec 32 := 0#32
  ![0, v305.toNat, 0, 0, 0]
def k0_off78 (v307 : BitVec 32) : Fin 4 → Nat :=
  let c0_i32_176 : BitVec 32 := 0#32
  let c0_i32_177 : BitVec 32 := 0#32
  let c0_i32_178 : BitVec 32 := 0#32
  ![v307.toNat, 0, 0, 0]

def k0_chk27 (i : grid0.Coords) (v307 : BitVec 32) : Prop :=
  (∀ (k0_h1 : k0_cond1 i = 1#1), ∀ a, (k0_off78 v307) a + S1x2x8x128.size a ≤ S61440x2x8x128.size a) ∧
  (∀ (k0_h1 : k0_cond1 i = 1#1), ∀ (hinb : ∀ a, (k0_off78 v307) a + S1x2x8x128.size a ≤ S61440x2x8x128.size a), (Rect.unit (s := S61440x2x8x128) (k0_off78 v307) S1x2x8x128.size hinb).WholeWords (EltTy.packing .fp8e4m3))
theorem k0_off78_inb : ∀ (i : grid0.Coords) (v307 : BitVec 32) (k0_hw27 : k0_chk27 i v307), ∀ (k0_h1 : k0_cond1 i = 1#1), ∀ a, (k0_off78 v307) a + S1x2x8x128.size a ≤ S61440x2x8x128.size a := fun i v307 k0_hw27 k0_h1 => k0_hw27.1 k0_h1
theorem k0_off78_wordsfp8e4m3 : ∀ (i : grid0.Coords) (v307 : BitVec 32) (k0_hw27 : k0_chk27 i v307), ∀ (k0_h1 : k0_cond1 i = 1#1), (Rect.unit (s := S61440x2x8x128) (k0_off78 v307) S1x2x8x128.size (k0_off78_inb i v307 k0_hw27 k0_h1)).WholeWords (EltTy.packing .fp8e4m3) := fun i v307 k0_hw27 k0_h1 => k0_hw27.2 k0_h1 (k0_off78_inb i v307 k0_hw27 k0_h1)

def k0_off79 (v204 : BitVec 32) (k0_t2 : Fin (k0_t2_loop v204).trips) : Fin 2 → Nat :=
  let c0_180 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_179 : BitVec 32 := 16#32
  let v314 : BitVec 32 := Scalar.muli arg9 c16_i32_179
  let c10_i32 : BitVec 32 := 10#32
  let v315 : BitVec 32 := Scalar.addi v314 c10_i32
  let v316 : Index := Scalar.indexCast v315
  ![0, v316.toNat]
def k0_off80 (v204 : BitVec 32) (k0_t2 : Fin (k0_t2_loop v204).trips) : Fin 5 → Nat :=
  let c0_i32_181 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_179 : BitVec 32 := 16#32
  let v314 : BitVec 32 := Scalar.muli arg9 c16_i32_179
  let c10_i32 : BitVec 32 := 10#32
  let v315 : BitVec 32 := Scalar.addi v314 c10_i32
  let c0_i32_183 : BitVec 32 := 0#32
  let c0_i32_184 : BitVec 32 := 0#32
  let c0_i32_185 : BitVec 32 := 0#32
  ![0, v315.toNat, 0, 0, 0]
def k0_off81 (v317 : BitVec 32) : Fin 4 → Nat :=
  let c0_i32_186 : BitVec 32 := 0#32
  let c0_i32_187 : BitVec 32 := 0#32
  let c0_i32_188 : BitVec 32 := 0#32
  ![v317.toNat, 0, 0, 0]

def k0_chk28 (i : grid0.Coords) (v317 : BitVec 32) : Prop :=
  (∀ (k0_h1 : k0_cond1 i = 1#1), ∀ a, (k0_off81 v317) a + S1x2x8x128.size a ≤ S61440x2x8x128.size a) ∧
  (∀ (k0_h1 : k0_cond1 i = 1#1), ∀ (hinb : ∀ a, (k0_off81 v317) a + S1x2x8x128.size a ≤ S61440x2x8x128.size a), (Rect.unit (s := S61440x2x8x128) (k0_off81 v317) S1x2x8x128.size hinb).WholeWords (EltTy.packing .fp8e4m3))
theorem k0_off81_inb : ∀ (i : grid0.Coords) (v317 : BitVec 32) (k0_hw28 : k0_chk28 i v317), ∀ (k0_h1 : k0_cond1 i = 1#1), ∀ a, (k0_off81 v317) a + S1x2x8x128.size a ≤ S61440x2x8x128.size a := fun i v317 k0_hw28 k0_h1 => k0_hw28.1 k0_h1
theorem k0_off81_wordsfp8e4m3 : ∀ (i : grid0.Coords) (v317 : BitVec 32) (k0_hw28 : k0_chk28 i v317), ∀ (k0_h1 : k0_cond1 i = 1#1), (Rect.unit (s := S61440x2x8x128) (k0_off81 v317) S1x2x8x128.size (k0_off81_inb i v317 k0_hw28 k0_h1)).WholeWords (EltTy.packing .fp8e4m3) := fun i v317 k0_hw28 k0_h1 => k0_hw28.2 k0_h1 (k0_off81_inb i v317 k0_hw28 k0_h1)

def k0_off82 (v204 : BitVec 32) (k0_t2 : Fin (k0_t2_loop v204).trips) : Fin 2 → Nat :=
  let c0_190 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_189 : BitVec 32 := 16#32
  let v324 : BitVec 32 := Scalar.muli arg9 c16_i32_189
  let c11_i32 : BitVec 32 := 11#32
  let v325 : BitVec 32 := Scalar.addi v324 c11_i32
  let v326 : Index := Scalar.indexCast v325
  ![0, v326.toNat]
def k0_off83 (v204 : BitVec 32) (k0_t2 : Fin (k0_t2_loop v204).trips) : Fin 5 → Nat :=
  let c0_i32_191 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_189 : BitVec 32 := 16#32
  let v324 : BitVec 32 := Scalar.muli arg9 c16_i32_189
  let c11_i32 : BitVec 32 := 11#32
  let v325 : BitVec 32 := Scalar.addi v324 c11_i32
  let c0_i32_193 : BitVec 32 := 0#32
  let c0_i32_194 : BitVec 32 := 0#32
  let c0_i32_195 : BitVec 32 := 0#32
  ![0, v325.toNat, 0, 0, 0]
def k0_off84 (v327 : BitVec 32) : Fin 4 → Nat :=
  let c0_i32_196 : BitVec 32 := 0#32
  let c0_i32_197 : BitVec 32 := 0#32
  let c0_i32_198 : BitVec 32 := 0#32
  ![v327.toNat, 0, 0, 0]

def k0_chk29 (i : grid0.Coords) (v327 : BitVec 32) : Prop :=
  (∀ (k0_h1 : k0_cond1 i = 1#1), ∀ a, (k0_off84 v327) a + S1x2x8x128.size a ≤ S61440x2x8x128.size a) ∧
  (∀ (k0_h1 : k0_cond1 i = 1#1), ∀ (hinb : ∀ a, (k0_off84 v327) a + S1x2x8x128.size a ≤ S61440x2x8x128.size a), (Rect.unit (s := S61440x2x8x128) (k0_off84 v327) S1x2x8x128.size hinb).WholeWords (EltTy.packing .fp8e4m3))
theorem k0_off84_inb : ∀ (i : grid0.Coords) (v327 : BitVec 32) (k0_hw29 : k0_chk29 i v327), ∀ (k0_h1 : k0_cond1 i = 1#1), ∀ a, (k0_off84 v327) a + S1x2x8x128.size a ≤ S61440x2x8x128.size a := fun i v327 k0_hw29 k0_h1 => k0_hw29.1 k0_h1
theorem k0_off84_wordsfp8e4m3 : ∀ (i : grid0.Coords) (v327 : BitVec 32) (k0_hw29 : k0_chk29 i v327), ∀ (k0_h1 : k0_cond1 i = 1#1), (Rect.unit (s := S61440x2x8x128) (k0_off84 v327) S1x2x8x128.size (k0_off84_inb i v327 k0_hw29 k0_h1)).WholeWords (EltTy.packing .fp8e4m3) := fun i v327 k0_hw29 k0_h1 => k0_hw29.2 k0_h1 (k0_off84_inb i v327 k0_hw29 k0_h1)

def k0_off85 (v204 : BitVec 32) (k0_t2 : Fin (k0_t2_loop v204).trips) : Fin 2 → Nat :=
  let c0_200 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_199 : BitVec 32 := 16#32
  let v334 : BitVec 32 := Scalar.muli arg9 c16_i32_199
  let c12_i32 : BitVec 32 := 12#32
  let v335 : BitVec 32 := Scalar.addi v334 c12_i32
  let v336 : Index := Scalar.indexCast v335
  ![0, v336.toNat]
def k0_off86 (v204 : BitVec 32) (k0_t2 : Fin (k0_t2_loop v204).trips) : Fin 5 → Nat :=
  let c0_i32_201 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_199 : BitVec 32 := 16#32
  let v334 : BitVec 32 := Scalar.muli arg9 c16_i32_199
  let c12_i32 : BitVec 32 := 12#32
  let v335 : BitVec 32 := Scalar.addi v334 c12_i32
  let c0_i32_203 : BitVec 32 := 0#32
  let c0_i32_204 : BitVec 32 := 0#32
  let c0_i32_205 : BitVec 32 := 0#32
  ![0, v335.toNat, 0, 0, 0]
def k0_off87 (v337 : BitVec 32) : Fin 4 → Nat :=
  let c0_i32_206 : BitVec 32 := 0#32
  let c0_i32_207 : BitVec 32 := 0#32
  let c0_i32_208 : BitVec 32 := 0#32
  ![v337.toNat, 0, 0, 0]

def k0_chk30 (i : grid0.Coords) (v337 : BitVec 32) : Prop :=
  (∀ (k0_h1 : k0_cond1 i = 1#1), ∀ a, (k0_off87 v337) a + S1x2x8x128.size a ≤ S61440x2x8x128.size a) ∧
  (∀ (k0_h1 : k0_cond1 i = 1#1), ∀ (hinb : ∀ a, (k0_off87 v337) a + S1x2x8x128.size a ≤ S61440x2x8x128.size a), (Rect.unit (s := S61440x2x8x128) (k0_off87 v337) S1x2x8x128.size hinb).WholeWords (EltTy.packing .fp8e4m3))
theorem k0_off87_inb : ∀ (i : grid0.Coords) (v337 : BitVec 32) (k0_hw30 : k0_chk30 i v337), ∀ (k0_h1 : k0_cond1 i = 1#1), ∀ a, (k0_off87 v337) a + S1x2x8x128.size a ≤ S61440x2x8x128.size a := fun i v337 k0_hw30 k0_h1 => k0_hw30.1 k0_h1
theorem k0_off87_wordsfp8e4m3 : ∀ (i : grid0.Coords) (v337 : BitVec 32) (k0_hw30 : k0_chk30 i v337), ∀ (k0_h1 : k0_cond1 i = 1#1), (Rect.unit (s := S61440x2x8x128) (k0_off87 v337) S1x2x8x128.size (k0_off87_inb i v337 k0_hw30 k0_h1)).WholeWords (EltTy.packing .fp8e4m3) := fun i v337 k0_hw30 k0_h1 => k0_hw30.2 k0_h1 (k0_off87_inb i v337 k0_hw30 k0_h1)

def k0_off88 (v204 : BitVec 32) (k0_t2 : Fin (k0_t2_loop v204).trips) : Fin 2 → Nat :=
  let c0_210 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_209 : BitVec 32 := 16#32
  let v344 : BitVec 32 := Scalar.muli arg9 c16_i32_209
  let c13_i32 : BitVec 32 := 13#32
  let v345 : BitVec 32 := Scalar.addi v344 c13_i32
  let v346 : Index := Scalar.indexCast v345
  ![0, v346.toNat]
def k0_off89 (v204 : BitVec 32) (k0_t2 : Fin (k0_t2_loop v204).trips) : Fin 5 → Nat :=
  let c0_i32_211 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_209 : BitVec 32 := 16#32
  let v344 : BitVec 32 := Scalar.muli arg9 c16_i32_209
  let c13_i32 : BitVec 32 := 13#32
  let v345 : BitVec 32 := Scalar.addi v344 c13_i32
  let c0_i32_213 : BitVec 32 := 0#32
  let c0_i32_214 : BitVec 32 := 0#32
  let c0_i32_215 : BitVec 32 := 0#32
  ![0, v345.toNat, 0, 0, 0]
def k0_off90 (v347 : BitVec 32) : Fin 4 → Nat :=
  let c0_i32_216 : BitVec 32 := 0#32
  let c0_i32_217 : BitVec 32 := 0#32
  let c0_i32_218 : BitVec 32 := 0#32
  ![v347.toNat, 0, 0, 0]

def k0_chk31 (i : grid0.Coords) (v347 : BitVec 32) : Prop :=
  (∀ (k0_h1 : k0_cond1 i = 1#1), ∀ a, (k0_off90 v347) a + S1x2x8x128.size a ≤ S61440x2x8x128.size a) ∧
  (∀ (k0_h1 : k0_cond1 i = 1#1), ∀ (hinb : ∀ a, (k0_off90 v347) a + S1x2x8x128.size a ≤ S61440x2x8x128.size a), (Rect.unit (s := S61440x2x8x128) (k0_off90 v347) S1x2x8x128.size hinb).WholeWords (EltTy.packing .fp8e4m3))
theorem k0_off90_inb : ∀ (i : grid0.Coords) (v347 : BitVec 32) (k0_hw31 : k0_chk31 i v347), ∀ (k0_h1 : k0_cond1 i = 1#1), ∀ a, (k0_off90 v347) a + S1x2x8x128.size a ≤ S61440x2x8x128.size a := fun i v347 k0_hw31 k0_h1 => k0_hw31.1 k0_h1
theorem k0_off90_wordsfp8e4m3 : ∀ (i : grid0.Coords) (v347 : BitVec 32) (k0_hw31 : k0_chk31 i v347), ∀ (k0_h1 : k0_cond1 i = 1#1), (Rect.unit (s := S61440x2x8x128) (k0_off90 v347) S1x2x8x128.size (k0_off90_inb i v347 k0_hw31 k0_h1)).WholeWords (EltTy.packing .fp8e4m3) := fun i v347 k0_hw31 k0_h1 => k0_hw31.2 k0_h1 (k0_off90_inb i v347 k0_hw31 k0_h1)

def k0_off91 (v204 : BitVec 32) (k0_t2 : Fin (k0_t2_loop v204).trips) : Fin 2 → Nat :=
  let c0_220 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_219 : BitVec 32 := 16#32
  let v354 : BitVec 32 := Scalar.muli arg9 c16_i32_219
  let c14_i32 : BitVec 32 := 14#32
  let v355 : BitVec 32 := Scalar.addi v354 c14_i32
  let v356 : Index := Scalar.indexCast v355
  ![0, v356.toNat]
def k0_off92 (v204 : BitVec 32) (k0_t2 : Fin (k0_t2_loop v204).trips) : Fin 5 → Nat :=
  let c0_i32_221 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_219 : BitVec 32 := 16#32
  let v354 : BitVec 32 := Scalar.muli arg9 c16_i32_219
  let c14_i32 : BitVec 32 := 14#32
  let v355 : BitVec 32 := Scalar.addi v354 c14_i32
  let c0_i32_223 : BitVec 32 := 0#32
  let c0_i32_224 : BitVec 32 := 0#32
  let c0_i32_225 : BitVec 32 := 0#32
  ![0, v355.toNat, 0, 0, 0]
def k0_off93 (v357 : BitVec 32) : Fin 4 → Nat :=
  let c0_i32_226 : BitVec 32 := 0#32
  let c0_i32_227 : BitVec 32 := 0#32
  let c0_i32_228 : BitVec 32 := 0#32
  ![v357.toNat, 0, 0, 0]

def k0_chk32 (i : grid0.Coords) (v357 : BitVec 32) : Prop :=
  (∀ (k0_h1 : k0_cond1 i = 1#1), ∀ a, (k0_off93 v357) a + S1x2x8x128.size a ≤ S61440x2x8x128.size a) ∧
  (∀ (k0_h1 : k0_cond1 i = 1#1), ∀ (hinb : ∀ a, (k0_off93 v357) a + S1x2x8x128.size a ≤ S61440x2x8x128.size a), (Rect.unit (s := S61440x2x8x128) (k0_off93 v357) S1x2x8x128.size hinb).WholeWords (EltTy.packing .fp8e4m3))
theorem k0_off93_inb : ∀ (i : grid0.Coords) (v357 : BitVec 32) (k0_hw32 : k0_chk32 i v357), ∀ (k0_h1 : k0_cond1 i = 1#1), ∀ a, (k0_off93 v357) a + S1x2x8x128.size a ≤ S61440x2x8x128.size a := fun i v357 k0_hw32 k0_h1 => k0_hw32.1 k0_h1
theorem k0_off93_wordsfp8e4m3 : ∀ (i : grid0.Coords) (v357 : BitVec 32) (k0_hw32 : k0_chk32 i v357), ∀ (k0_h1 : k0_cond1 i = 1#1), (Rect.unit (s := S61440x2x8x128) (k0_off93 v357) S1x2x8x128.size (k0_off93_inb i v357 k0_hw32 k0_h1)).WholeWords (EltTy.packing .fp8e4m3) := fun i v357 k0_hw32 k0_h1 => k0_hw32.2 k0_h1 (k0_off93_inb i v357 k0_hw32 k0_h1)

def k0_off94 (v204 : BitVec 32) (k0_t2 : Fin (k0_t2_loop v204).trips) : Fin 2 → Nat :=
  let c0_230 : Index := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_229 : BitVec 32 := 16#32
  let v364 : BitVec 32 := Scalar.muli arg9 c16_i32_229
  let c15_i32 : BitVec 32 := 15#32
  let v365 : BitVec 32 := Scalar.addi v364 c15_i32
  let v366 : Index := Scalar.indexCast v365
  ![0, v366.toNat]
def k0_off95 (v204 : BitVec 32) (k0_t2 : Fin (k0_t2_loop v204).trips) : Fin 5 → Nat :=
  let c0_i32_231 : BitVec 32 := 0#32
  let c0_i32_71 : BitVec 32 := 0#32
  let c255_i32_69 : BitVec 32 := 255#32
  let v205 : BitVec 32 := Scalar.addi v204 c255_i32_69
  let c256_i32_70 : BitVec 32 := 256#32
  let v206 : BitVec 32 := Scalar.divsi v205 c256_i32_70
  let v207 : BitVec 32 := Scalar.subi v206 c0_i32_71
  let c1_i32_73 : BitVec 32 := 1#32
  let v209 : BitVec 32 := Scalar.divsi v207 c1_i32_73
  let v210 : BitVec 32 := Scalar.muli v209 c1_i32_73
  let v211 : BitVec 32 := Scalar.addi c0_i32_71 v210
  let c1_i32_75 : BitVec 32 := 1#32
  let arg9 : BitVec 32 := Scf.iv v211 c1_i32_75 k0_t2
  let c16_i32_229 : BitVec 32 := 16#32
  let v364 : BitVec 32 := Scalar.muli arg9 c16_i32_229
  let c15_i32 : BitVec 32 := 15#32
  let v365 : BitVec 32 := Scalar.addi v364 c15_i32
  let c0_i32_233 : BitVec 32 := 0#32
  let c0_i32_234 : BitVec 32 := 0#32
  let c0_i32_235 : BitVec 32 := 0#32
  ![0, v365.toNat, 0, 0, 0]
def k0_off96 (v367 : BitVec 32) : Fin 4 → Nat :=
  let c0_i32_236 : BitVec 32 := 0#32
  let c0_i32_237 : BitVec 32 := 0#32
  let c0_i32_238 : BitVec 32 := 0#32
  ![v367.toNat, 0, 0, 0]

def k0_chk33 (i : grid0.Coords) (v367 : BitVec 32) : Prop :=
  (∀ (k0_h1 : k0_cond1 i = 1#1), ∀ a, (k0_off96 v367) a + S1x2x8x128.size a ≤ S61440x2x8x128.size a) ∧
  (∀ (k0_h1 : k0_cond1 i = 1#1), ∀ (hinb : ∀ a, (k0_off96 v367) a + S1x2x8x128.size a ≤ S61440x2x8x128.size a), (Rect.unit (s := S61440x2x8x128) (k0_off96 v367) S1x2x8x128.size hinb).WholeWords (EltTy.packing .fp8e4m3))
theorem k0_off96_inb : ∀ (i : grid0.Coords) (v367 : BitVec 32) (k0_hw33 : k0_chk33 i v367), ∀ (k0_h1 : k0_cond1 i = 1#1), ∀ a, (k0_off96 v367) a + S1x2x8x128.size a ≤ S61440x2x8x128.size a := fun i v367 k0_hw33 k0_h1 => k0_hw33.1 k0_h1
theorem k0_off96_wordsfp8e4m3 : ∀ (i : grid0.Coords) (v367 : BitVec 32) (k0_hw33 : k0_chk33 i v367), ∀ (k0_h1 : k0_cond1 i = 1#1), (Rect.unit (s := S61440x2x8x128) (k0_off96 v367) S1x2x8x128.size (k0_off96_inb i v367 k0_hw33 k0_h1)).WholeWords (EltTy.packing .fp8e4m3) := fun i v367 k0_hw33 k0_h1 => k0_hw33.2 k0_h1 (k0_off96_inb i v367 k0_hw33 k0_h1)

def k0_chk1_0 (i : grid0.Coords) (v204 : BitVec 32) : Prop :=
  (∀ (k0_h1 : k0_cond1 i = 1#1), (k0_t1_loop v204).OK) ∧
  (∀ k0_t1 : Fin (k0_t1_loop v204).trips, ∀ (k0_h1 : k0_cond1 i = 1#1), ∀ a, (k0_off1 v204 k0_t1) a + S1x1.size a ≤ S96x512.size a) ∧
  (∀ k0_t1 : Fin (k0_t1_loop v204).trips, ∀ (k0_h1 : k0_cond1 i = 1#1), ∀ a, (k0_off2 v204 k0_t1) a + S1x1x2x8x128.size a ≤ S2x512x2x8x128.size a) ∧
  (∀ k0_t1 : Fin (k0_t1_loop v204).trips, ∀ (k0_h1 : k0_cond1 i = 1#1), ∀ (hinb : ∀ a, (k0_off2 v204 k0_t1) a + S1x1x2x8x128.size a ≤ S2x512x2x8x128.size a), (Rect.unit (s := S2x512x2x8x128) (k0_off2 v204 k0_t1) S1x1x2x8x128.size hinb).WholeWords (EltTy.packing .fp8e4m3)) ∧
  (∀ k0_t1 : Fin (k0_t1_loop v204).trips, ∀ (k0_h1 : k0_cond1 i = 1#1), ∀ a, (k0_off4 v204 k0_t1) a + S1x1.size a ≤ S96x512.size a) ∧
  (∀ k0_t1 : Fin (k0_t1_loop v204).trips, ∀ (k0_h1 : k0_cond1 i = 1#1), ∀ a, (k0_off5 v204 k0_t1) a + S1x1x2x8x128.size a ≤ S2x512x2x8x128.size a) ∧
  (∀ k0_t1 : Fin (k0_t1_loop v204).trips, ∀ (k0_h1 : k0_cond1 i = 1#1), ∀ (hinb : ∀ a, (k0_off5 v204 k0_t1) a + S1x1x2x8x128.size a ≤ S2x512x2x8x128.size a), (Rect.unit (s := S2x512x2x8x128) (k0_off5 v204 k0_t1) S1x1x2x8x128.size hinb).WholeWords (EltTy.packing .fp8e4m3)) ∧
  (∀ k0_t1 : Fin (k0_t1_loop v204).trips, ∀ (k0_h1 : k0_cond1 i = 1#1), ∀ a, (k0_off7 v204 k0_t1) a + S1x1.size a ≤ S96x512.size a) ∧
  (∀ k0_t1 : Fin (k0_t1_loop v204).trips, ∀ (k0_h1 : k0_cond1 i = 1#1), ∀ a, (k0_off8 v204 k0_t1) a + S1x1x2x8x128.size a ≤ S2x512x2x8x128.size a) ∧
  (∀ k0_t1 : Fin (k0_t1_loop v204).trips, ∀ (k0_h1 : k0_cond1 i = 1#1), ∀ (hinb : ∀ a, (k0_off8 v204 k0_t1) a + S1x1x2x8x128.size a ≤ S2x512x2x8x128.size a), (Rect.unit (s := S2x512x2x8x128) (k0_off8 v204 k0_t1) S1x1x2x8x128.size hinb).WholeWords (EltTy.packing .fp8e4m3)) ∧
  (∀ k0_t1 : Fin (k0_t1_loop v204).trips, ∀ (k0_h1 : k0_cond1 i = 1#1), ∀ a, (k0_off10 v204 k0_t1) a + S1x1.size a ≤ S96x512.size a) ∧
  (∀ k0_t1 : Fin (k0_t1_loop v204).trips, ∀ (k0_h1 : k0_cond1 i = 1#1), ∀ a, (k0_off11 v204 k0_t1) a + S1x1x2x8x128.size a ≤ S2x512x2x8x128.size a) ∧
  (∀ k0_t1 : Fin (k0_t1_loop v204).trips, ∀ (k0_h1 : k0_cond1 i = 1#1), ∀ (hinb : ∀ a, (k0_off11 v204 k0_t1) a + S1x1x2x8x128.size a ≤ S2x512x2x8x128.size a), (Rect.unit (s := S2x512x2x8x128) (k0_off11 v204 k0_t1) S1x1x2x8x128.size hinb).WholeWords (EltTy.packing .fp8e4m3)) ∧
  (∀ k0_t1 : Fin (k0_t1_loop v204).trips, ∀ (k0_h1 : k0_cond1 i = 1#1), ∀ a, (k0_off13 v204 k0_t1) a + S1x1.size a ≤ S96x512.size a) ∧
  (∀ k0_t1 : Fin (k0_t1_loop v204).trips, ∀ (k0_h1 : k0_cond1 i = 1#1), ∀ a, (k0_off14 v204 k0_t1) a + S1x1x2x8x128.size a ≤ S2x512x2x8x128.size a) ∧
  (∀ k0_t1 : Fin (k0_t1_loop v204).trips, ∀ (k0_h1 : k0_cond1 i = 1#1), ∀ (hinb : ∀ a, (k0_off14 v204 k0_t1) a + S1x1x2x8x128.size a ≤ S2x512x2x8x128.size a), (Rect.unit (s := S2x512x2x8x128) (k0_off14 v204 k0_t1) S1x1x2x8x128.size hinb).WholeWords (EltTy.packing .fp8e4m3)) ∧
  (∀ k0_t1 : Fin (k0_t1_loop v204).trips, ∀ (k0_h1 : k0_cond1 i = 1#1), ∀ a, (k0_off16 v204 k0_t1) a + S1x1.size a ≤ S96x512.size a) ∧
  (∀ k0_t1 : Fin (k0_t1_loop v204).trips, ∀ (k0_h1 : k0_cond1 i = 1#1), ∀ a, (k0_off17 v204 k0_t1) a + S1x1x2x8x128.size a ≤ S2x512x2x8x128.size a) ∧
  (∀ k0_t1 : Fin (k0_t1_loop v204).trips, ∀ (k0_h1 : k0_cond1 i = 1#1), ∀ (hinb : ∀ a, (k0_off17 v204 k0_t1) a + S1x1x2x8x128.size a ≤ S2x512x2x8x128.size a), (Rect.unit (s := S2x512x2x8x128) (k0_off17 v204 k0_t1) S1x1x2x8x128.size hinb).WholeWords (EltTy.packing .fp8e4m3)) ∧
  (∀ k0_t1 : Fin (k0_t1_loop v204).trips, ∀ (k0_h1 : k0_cond1 i = 1#1), ∀ a, (k0_off19 v204 k0_t1) a + S1x1.size a ≤ S96x512.size a) ∧
  (∀ k0_t1 : Fin (k0_t1_loop v204).trips, ∀ (k0_h1 : k0_cond1 i = 1#1), ∀ a, (k0_off20 v204 k0_t1) a + S1x1x2x8x128.size a ≤ S2x512x2x8x128.size a) ∧
  (∀ k0_t1 : Fin (k0_t1_loop v204).trips, ∀ (k0_h1 : k0_cond1 i = 1#1), ∀ (hinb : ∀ a, (k0_off20 v204 k0_t1) a + S1x1x2x8x128.size a ≤ S2x512x2x8x128.size a), (Rect.unit (s := S2x512x2x8x128) (k0_off20 v204 k0_t1) S1x1x2x8x128.size hinb).WholeWords (EltTy.packing .fp8e4m3)) ∧
  (∀ k0_t1 : Fin (k0_t1_loop v204).trips, ∀ (k0_h1 : k0_cond1 i = 1#1), ∀ a, (k0_off22 v204 k0_t1) a + S1x1.size a ≤ S96x512.size a) ∧
  (∀ k0_t1 : Fin (k0_t1_loop v204).trips, ∀ (k0_h1 : k0_cond1 i = 1#1), ∀ a, (k0_off23 v204 k0_t1) a + S1x1x2x8x128.size a ≤ S2x512x2x8x128.size a) ∧
  (∀ k0_t1 : Fin (k0_t1_loop v204).trips, ∀ (k0_h1 : k0_cond1 i = 1#1), ∀ (hinb : ∀ a, (k0_off23 v204 k0_t1) a + S1x1x2x8x128.size a ≤ S2x512x2x8x128.size a), (Rect.unit (s := S2x512x2x8x128) (k0_off23 v204 k0_t1) S1x1x2x8x128.size hinb).WholeWords (EltTy.packing .fp8e4m3)) ∧
  (∀ k0_t1 : Fin (k0_t1_loop v204).trips, ∀ (k0_h1 : k0_cond1 i = 1#1), ∀ a, (k0_off25 v204 k0_t1) a + S1x1.size a ≤ S96x512.size a) ∧
  (∀ k0_t1 : Fin (k0_t1_loop v204).trips, ∀ (k0_h1 : k0_cond1 i = 1#1), ∀ a, (k0_off26 v204 k0_t1) a + S1x1x2x8x128.size a ≤ S2x512x2x8x128.size a) ∧
  (∀ k0_t1 : Fin (k0_t1_loop v204).trips, ∀ (k0_h1 : k0_cond1 i = 1#1), ∀ (hinb : ∀ a, (k0_off26 v204 k0_t1) a + S1x1x2x8x128.size a ≤ S2x512x2x8x128.size a), (Rect.unit (s := S2x512x2x8x128) (k0_off26 v204 k0_t1) S1x1x2x8x128.size hinb).WholeWords (EltTy.packing .fp8e4m3)) ∧
  (∀ k0_t1 : Fin (k0_t1_loop v204).trips, ∀ (k0_h1 : k0_cond1 i = 1#1), ∀ a, (k0_off28 v204 k0_t1) a + S1x1.size a ≤ S96x512.size a) ∧
  (∀ k0_t1 : Fin (k0_t1_loop v204).trips, ∀ (k0_h1 : k0_cond1 i = 1#1), ∀ a, (k0_off29 v204 k0_t1) a + S1x1x2x8x128.size a ≤ S2x512x2x8x128.size a) ∧
  (∀ k0_t1 : Fin (k0_t1_loop v204).trips, ∀ (k0_h1 : k0_cond1 i = 1#1), ∀ (hinb : ∀ a, (k0_off29 v204 k0_t1) a + S1x1x2x8x128.size a ≤ S2x512x2x8x128.size a), (Rect.unit (s := S2x512x2x8x128) (k0_off29 v204 k0_t1) S1x1x2x8x128.size hinb).WholeWords (EltTy.packing .fp8e4m3)) ∧
  (∀ k0_t1 : Fin (k0_t1_loop v204).trips, ∀ (k0_h1 : k0_cond1 i = 1#1), ∀ a, (k0_off31 v204 k0_t1) a + S1x1.size a ≤ S96x512.size a)
def k0_chk1_1 (i : grid0.Coords) (v204 : BitVec 32) : Prop :=
  (∀ k0_t1 : Fin (k0_t1_loop v204).trips, ∀ (k0_h1 : k0_cond1 i = 1#1), ∀ a, (k0_off32 v204 k0_t1) a + S1x1x2x8x128.size a ≤ S2x512x2x8x128.size a) ∧
  (∀ k0_t1 : Fin (k0_t1_loop v204).trips, ∀ (k0_h1 : k0_cond1 i = 1#1), ∀ (hinb : ∀ a, (k0_off32 v204 k0_t1) a + S1x1x2x8x128.size a ≤ S2x512x2x8x128.size a), (Rect.unit (s := S2x512x2x8x128) (k0_off32 v204 k0_t1) S1x1x2x8x128.size hinb).WholeWords (EltTy.packing .fp8e4m3)) ∧
  (∀ k0_t1 : Fin (k0_t1_loop v204).trips, ∀ (k0_h1 : k0_cond1 i = 1#1), ∀ a, (k0_off34 v204 k0_t1) a + S1x1.size a ≤ S96x512.size a) ∧
  (∀ k0_t1 : Fin (k0_t1_loop v204).trips, ∀ (k0_h1 : k0_cond1 i = 1#1), ∀ a, (k0_off35 v204 k0_t1) a + S1x1x2x8x128.size a ≤ S2x512x2x8x128.size a) ∧
  (∀ k0_t1 : Fin (k0_t1_loop v204).trips, ∀ (k0_h1 : k0_cond1 i = 1#1), ∀ (hinb : ∀ a, (k0_off35 v204 k0_t1) a + S1x1x2x8x128.size a ≤ S2x512x2x8x128.size a), (Rect.unit (s := S2x512x2x8x128) (k0_off35 v204 k0_t1) S1x1x2x8x128.size hinb).WholeWords (EltTy.packing .fp8e4m3)) ∧
  (∀ k0_t1 : Fin (k0_t1_loop v204).trips, ∀ (k0_h1 : k0_cond1 i = 1#1), ∀ a, (k0_off37 v204 k0_t1) a + S1x1.size a ≤ S96x512.size a) ∧
  (∀ k0_t1 : Fin (k0_t1_loop v204).trips, ∀ (k0_h1 : k0_cond1 i = 1#1), ∀ a, (k0_off38 v204 k0_t1) a + S1x1x2x8x128.size a ≤ S2x512x2x8x128.size a) ∧
  (∀ k0_t1 : Fin (k0_t1_loop v204).trips, ∀ (k0_h1 : k0_cond1 i = 1#1), ∀ (hinb : ∀ a, (k0_off38 v204 k0_t1) a + S1x1x2x8x128.size a ≤ S2x512x2x8x128.size a), (Rect.unit (s := S2x512x2x8x128) (k0_off38 v204 k0_t1) S1x1x2x8x128.size hinb).WholeWords (EltTy.packing .fp8e4m3)) ∧
  (∀ k0_t1 : Fin (k0_t1_loop v204).trips, ∀ (k0_h1 : k0_cond1 i = 1#1), ∀ a, (k0_off40 v204 k0_t1) a + S1x1.size a ≤ S96x512.size a) ∧
  (∀ k0_t1 : Fin (k0_t1_loop v204).trips, ∀ (k0_h1 : k0_cond1 i = 1#1), ∀ a, (k0_off41 v204 k0_t1) a + S1x1x2x8x128.size a ≤ S2x512x2x8x128.size a) ∧
  (∀ k0_t1 : Fin (k0_t1_loop v204).trips, ∀ (k0_h1 : k0_cond1 i = 1#1), ∀ (hinb : ∀ a, (k0_off41 v204 k0_t1) a + S1x1x2x8x128.size a ≤ S2x512x2x8x128.size a), (Rect.unit (s := S2x512x2x8x128) (k0_off41 v204 k0_t1) S1x1x2x8x128.size hinb).WholeWords (EltTy.packing .fp8e4m3)) ∧
  (∀ k0_t1 : Fin (k0_t1_loop v204).trips, ∀ (k0_h1 : k0_cond1 i = 1#1), ∀ a, (k0_off43 v204 k0_t1) a + S1x1.size a ≤ S96x512.size a) ∧
  (∀ k0_t1 : Fin (k0_t1_loop v204).trips, ∀ (k0_h1 : k0_cond1 i = 1#1), ∀ a, (k0_off44 v204 k0_t1) a + S1x1x2x8x128.size a ≤ S2x512x2x8x128.size a) ∧
  (∀ k0_t1 : Fin (k0_t1_loop v204).trips, ∀ (k0_h1 : k0_cond1 i = 1#1), ∀ (hinb : ∀ a, (k0_off44 v204 k0_t1) a + S1x1x2x8x128.size a ≤ S2x512x2x8x128.size a), (Rect.unit (s := S2x512x2x8x128) (k0_off44 v204 k0_t1) S1x1x2x8x128.size hinb).WholeWords (EltTy.packing .fp8e4m3)) ∧
  (∀ k0_t1 : Fin (k0_t1_loop v204).trips, ∀ (k0_h1 : k0_cond1 i = 1#1), ∀ a, (k0_off46 v204 k0_t1) a + S1x1.size a ≤ S96x512.size a) ∧
  (∀ k0_t1 : Fin (k0_t1_loop v204).trips, ∀ (k0_h1 : k0_cond1 i = 1#1), ∀ a, (k0_off47 v204 k0_t1) a + S1x1x2x8x128.size a ≤ S2x512x2x8x128.size a) ∧
  (∀ k0_t1 : Fin (k0_t1_loop v204).trips, ∀ (k0_h1 : k0_cond1 i = 1#1), ∀ (hinb : ∀ a, (k0_off47 v204 k0_t1) a + S1x1x2x8x128.size a ≤ S2x512x2x8x128.size a), (Rect.unit (s := S2x512x2x8x128) (k0_off47 v204 k0_t1) S1x1x2x8x128.size hinb).WholeWords (EltTy.packing .fp8e4m3)) ∧
  (∀ (k0_h1 : k0_cond1 i = 1#1), (k0_t2_loop v204).OK) ∧
  (∀ k0_t2 : Fin (k0_t2_loop v204).trips, ∀ (k0_h1 : k0_cond1 i = 1#1), ∀ a, (k0_off49 v204 k0_t2) a + S1x1.size a ≤ S96x512.size a) ∧
  (∀ k0_t2 : Fin (k0_t2_loop v204).trips, ∀ (k0_h1 : k0_cond1 i = 1#1), ∀ a, (k0_off50 v204 k0_t2) a + S1x1x2x8x128.size a ≤ S2x512x2x8x128.size a) ∧
  (∀ k0_t2 : Fin (k0_t2_loop v204).trips, ∀ (k0_h1 : k0_cond1 i = 1#1), ∀ (hinb : ∀ a, (k0_off50 v204 k0_t2) a + S1x1x2x8x128.size a ≤ S2x512x2x8x128.size a), (Rect.unit (s := S2x512x2x8x128) (k0_off50 v204 k0_t2) S1x1x2x8x128.size hinb).WholeWords (EltTy.packing .fp8e4m3)) ∧
  (∀ k0_t2 : Fin (k0_t2_loop v204).trips, ∀ (k0_h1 : k0_cond1 i = 1#1), ∀ a, (k0_off52 v204 k0_t2) a + S1x1.size a ≤ S96x512.size a) ∧
  (∀ k0_t2 : Fin (k0_t2_loop v204).trips, ∀ (k0_h1 : k0_cond1 i = 1#1), ∀ a, (k0_off53 v204 k0_t2) a + S1x1x2x8x128.size a ≤ S2x512x2x8x128.size a) ∧
  (∀ k0_t2 : Fin (k0_t2_loop v204).trips, ∀ (k0_h1 : k0_cond1 i = 1#1), ∀ (hinb : ∀ a, (k0_off53 v204 k0_t2) a + S1x1x2x8x128.size a ≤ S2x512x2x8x128.size a), (Rect.unit (s := S2x512x2x8x128) (k0_off53 v204 k0_t2) S1x1x2x8x128.size hinb).WholeWords (EltTy.packing .fp8e4m3)) ∧
  (∀ k0_t2 : Fin (k0_t2_loop v204).trips, ∀ (k0_h1 : k0_cond1 i = 1#1), ∀ a, (k0_off55 v204 k0_t2) a + S1x1.size a ≤ S96x512.size a) ∧
  (∀ k0_t2 : Fin (k0_t2_loop v204).trips, ∀ (k0_h1 : k0_cond1 i = 1#1), ∀ a, (k0_off56 v204 k0_t2) a + S1x1x2x8x128.size a ≤ S2x512x2x8x128.size a) ∧
  (∀ k0_t2 : Fin (k0_t2_loop v204).trips, ∀ (k0_h1 : k0_cond1 i = 1#1), ∀ (hinb : ∀ a, (k0_off56 v204 k0_t2) a + S1x1x2x8x128.size a ≤ S2x512x2x8x128.size a), (Rect.unit (s := S2x512x2x8x128) (k0_off56 v204 k0_t2) S1x1x2x8x128.size hinb).WholeWords (EltTy.packing .fp8e4m3)) ∧
  (∀ k0_t2 : Fin (k0_t2_loop v204).trips, ∀ (k0_h1 : k0_cond1 i = 1#1), ∀ a, (k0_off58 v204 k0_t2) a + S1x1.size a ≤ S96x512.size a) ∧
  (∀ k0_t2 : Fin (k0_t2_loop v204).trips, ∀ (k0_h1 : k0_cond1 i = 1#1), ∀ a, (k0_off59 v204 k0_t2) a + S1x1x2x8x128.size a ≤ S2x512x2x8x128.size a) ∧
  (∀ k0_t2 : Fin (k0_t2_loop v204).trips, ∀ (k0_h1 : k0_cond1 i = 1#1), ∀ (hinb : ∀ a, (k0_off59 v204 k0_t2) a + S1x1x2x8x128.size a ≤ S2x512x2x8x128.size a), (Rect.unit (s := S2x512x2x8x128) (k0_off59 v204 k0_t2) S1x1x2x8x128.size hinb).WholeWords (EltTy.packing .fp8e4m3)) ∧
  (∀ k0_t2 : Fin (k0_t2_loop v204).trips, ∀ (k0_h1 : k0_cond1 i = 1#1), ∀ a, (k0_off61 v204 k0_t2) a + S1x1.size a ≤ S96x512.size a) ∧
  (∀ k0_t2 : Fin (k0_t2_loop v204).trips, ∀ (k0_h1 : k0_cond1 i = 1#1), ∀ a, (k0_off62 v204 k0_t2) a + S1x1x2x8x128.size a ≤ S2x512x2x8x128.size a)
def k0_chk1_2 (i : grid0.Coords) (v204 : BitVec 32) : Prop :=
  (∀ k0_t2 : Fin (k0_t2_loop v204).trips, ∀ (k0_h1 : k0_cond1 i = 1#1), ∀ (hinb : ∀ a, (k0_off62 v204 k0_t2) a + S1x1x2x8x128.size a ≤ S2x512x2x8x128.size a), (Rect.unit (s := S2x512x2x8x128) (k0_off62 v204 k0_t2) S1x1x2x8x128.size hinb).WholeWords (EltTy.packing .fp8e4m3)) ∧
  (∀ k0_t2 : Fin (k0_t2_loop v204).trips, ∀ (k0_h1 : k0_cond1 i = 1#1), ∀ a, (k0_off64 v204 k0_t2) a + S1x1.size a ≤ S96x512.size a) ∧
  (∀ k0_t2 : Fin (k0_t2_loop v204).trips, ∀ (k0_h1 : k0_cond1 i = 1#1), ∀ a, (k0_off65 v204 k0_t2) a + S1x1x2x8x128.size a ≤ S2x512x2x8x128.size a) ∧
  (∀ k0_t2 : Fin (k0_t2_loop v204).trips, ∀ (k0_h1 : k0_cond1 i = 1#1), ∀ (hinb : ∀ a, (k0_off65 v204 k0_t2) a + S1x1x2x8x128.size a ≤ S2x512x2x8x128.size a), (Rect.unit (s := S2x512x2x8x128) (k0_off65 v204 k0_t2) S1x1x2x8x128.size hinb).WholeWords (EltTy.packing .fp8e4m3)) ∧
  (∀ k0_t2 : Fin (k0_t2_loop v204).trips, ∀ (k0_h1 : k0_cond1 i = 1#1), ∀ a, (k0_off67 v204 k0_t2) a + S1x1.size a ≤ S96x512.size a) ∧
  (∀ k0_t2 : Fin (k0_t2_loop v204).trips, ∀ (k0_h1 : k0_cond1 i = 1#1), ∀ a, (k0_off68 v204 k0_t2) a + S1x1x2x8x128.size a ≤ S2x512x2x8x128.size a) ∧
  (∀ k0_t2 : Fin (k0_t2_loop v204).trips, ∀ (k0_h1 : k0_cond1 i = 1#1), ∀ (hinb : ∀ a, (k0_off68 v204 k0_t2) a + S1x1x2x8x128.size a ≤ S2x512x2x8x128.size a), (Rect.unit (s := S2x512x2x8x128) (k0_off68 v204 k0_t2) S1x1x2x8x128.size hinb).WholeWords (EltTy.packing .fp8e4m3)) ∧
  (∀ k0_t2 : Fin (k0_t2_loop v204).trips, ∀ (k0_h1 : k0_cond1 i = 1#1), ∀ a, (k0_off70 v204 k0_t2) a + S1x1.size a ≤ S96x512.size a) ∧
  (∀ k0_t2 : Fin (k0_t2_loop v204).trips, ∀ (k0_h1 : k0_cond1 i = 1#1), ∀ a, (k0_off71 v204 k0_t2) a + S1x1x2x8x128.size a ≤ S2x512x2x8x128.size a) ∧
  (∀ k0_t2 : Fin (k0_t2_loop v204).trips, ∀ (k0_h1 : k0_cond1 i = 1#1), ∀ (hinb : ∀ a, (k0_off71 v204 k0_t2) a + S1x1x2x8x128.size a ≤ S2x512x2x8x128.size a), (Rect.unit (s := S2x512x2x8x128) (k0_off71 v204 k0_t2) S1x1x2x8x128.size hinb).WholeWords (EltTy.packing .fp8e4m3)) ∧
  (∀ k0_t2 : Fin (k0_t2_loop v204).trips, ∀ (k0_h1 : k0_cond1 i = 1#1), ∀ a, (k0_off73 v204 k0_t2) a + S1x1.size a ≤ S96x512.size a) ∧
  (∀ k0_t2 : Fin (k0_t2_loop v204).trips, ∀ (k0_h1 : k0_cond1 i = 1#1), ∀ a, (k0_off74 v204 k0_t2) a + S1x1x2x8x128.size a ≤ S2x512x2x8x128.size a) ∧
  (∀ k0_t2 : Fin (k0_t2_loop v204).trips, ∀ (k0_h1 : k0_cond1 i = 1#1), ∀ (hinb : ∀ a, (k0_off74 v204 k0_t2) a + S1x1x2x8x128.size a ≤ S2x512x2x8x128.size a), (Rect.unit (s := S2x512x2x8x128) (k0_off74 v204 k0_t2) S1x1x2x8x128.size hinb).WholeWords (EltTy.packing .fp8e4m3)) ∧
  (∀ k0_t2 : Fin (k0_t2_loop v204).trips, ∀ (k0_h1 : k0_cond1 i = 1#1), ∀ a, (k0_off76 v204 k0_t2) a + S1x1.size a ≤ S96x512.size a) ∧
  (∀ k0_t2 : Fin (k0_t2_loop v204).trips, ∀ (k0_h1 : k0_cond1 i = 1#1), ∀ a, (k0_off77 v204 k0_t2) a + S1x1x2x8x128.size a ≤ S2x512x2x8x128.size a) ∧
  (∀ k0_t2 : Fin (k0_t2_loop v204).trips, ∀ (k0_h1 : k0_cond1 i = 1#1), ∀ (hinb : ∀ a, (k0_off77 v204 k0_t2) a + S1x1x2x8x128.size a ≤ S2x512x2x8x128.size a), (Rect.unit (s := S2x512x2x8x128) (k0_off77 v204 k0_t2) S1x1x2x8x128.size hinb).WholeWords (EltTy.packing .fp8e4m3)) ∧
  (∀ k0_t2 : Fin (k0_t2_loop v204).trips, ∀ (k0_h1 : k0_cond1 i = 1#1), ∀ a, (k0_off79 v204 k0_t2) a + S1x1.size a ≤ S96x512.size a) ∧
  (∀ k0_t2 : Fin (k0_t2_loop v204).trips, ∀ (k0_h1 : k0_cond1 i = 1#1), ∀ a, (k0_off80 v204 k0_t2) a + S1x1x2x8x128.size a ≤ S2x512x2x8x128.size a) ∧
  (∀ k0_t2 : Fin (k0_t2_loop v204).trips, ∀ (k0_h1 : k0_cond1 i = 1#1), ∀ (hinb : ∀ a, (k0_off80 v204 k0_t2) a + S1x1x2x8x128.size a ≤ S2x512x2x8x128.size a), (Rect.unit (s := S2x512x2x8x128) (k0_off80 v204 k0_t2) S1x1x2x8x128.size hinb).WholeWords (EltTy.packing .fp8e4m3)) ∧
  (∀ k0_t2 : Fin (k0_t2_loop v204).trips, ∀ (k0_h1 : k0_cond1 i = 1#1), ∀ a, (k0_off82 v204 k0_t2) a + S1x1.size a ≤ S96x512.size a) ∧
  (∀ k0_t2 : Fin (k0_t2_loop v204).trips, ∀ (k0_h1 : k0_cond1 i = 1#1), ∀ a, (k0_off83 v204 k0_t2) a + S1x1x2x8x128.size a ≤ S2x512x2x8x128.size a) ∧
  (∀ k0_t2 : Fin (k0_t2_loop v204).trips, ∀ (k0_h1 : k0_cond1 i = 1#1), ∀ (hinb : ∀ a, (k0_off83 v204 k0_t2) a + S1x1x2x8x128.size a ≤ S2x512x2x8x128.size a), (Rect.unit (s := S2x512x2x8x128) (k0_off83 v204 k0_t2) S1x1x2x8x128.size hinb).WholeWords (EltTy.packing .fp8e4m3)) ∧
  (∀ k0_t2 : Fin (k0_t2_loop v204).trips, ∀ (k0_h1 : k0_cond1 i = 1#1), ∀ a, (k0_off85 v204 k0_t2) a + S1x1.size a ≤ S96x512.size a) ∧
  (∀ k0_t2 : Fin (k0_t2_loop v204).trips, ∀ (k0_h1 : k0_cond1 i = 1#1), ∀ a, (k0_off86 v204 k0_t2) a + S1x1x2x8x128.size a ≤ S2x512x2x8x128.size a) ∧
  (∀ k0_t2 : Fin (k0_t2_loop v204).trips, ∀ (k0_h1 : k0_cond1 i = 1#1), ∀ (hinb : ∀ a, (k0_off86 v204 k0_t2) a + S1x1x2x8x128.size a ≤ S2x512x2x8x128.size a), (Rect.unit (s := S2x512x2x8x128) (k0_off86 v204 k0_t2) S1x1x2x8x128.size hinb).WholeWords (EltTy.packing .fp8e4m3)) ∧
  (∀ k0_t2 : Fin (k0_t2_loop v204).trips, ∀ (k0_h1 : k0_cond1 i = 1#1), ∀ a, (k0_off88 v204 k0_t2) a + S1x1.size a ≤ S96x512.size a) ∧
  (∀ k0_t2 : Fin (k0_t2_loop v204).trips, ∀ (k0_h1 : k0_cond1 i = 1#1), ∀ a, (k0_off89 v204 k0_t2) a + S1x1x2x8x128.size a ≤ S2x512x2x8x128.size a) ∧
  (∀ k0_t2 : Fin (k0_t2_loop v204).trips, ∀ (k0_h1 : k0_cond1 i = 1#1), ∀ (hinb : ∀ a, (k0_off89 v204 k0_t2) a + S1x1x2x8x128.size a ≤ S2x512x2x8x128.size a), (Rect.unit (s := S2x512x2x8x128) (k0_off89 v204 k0_t2) S1x1x2x8x128.size hinb).WholeWords (EltTy.packing .fp8e4m3)) ∧
  (∀ k0_t2 : Fin (k0_t2_loop v204).trips, ∀ (k0_h1 : k0_cond1 i = 1#1), ∀ a, (k0_off91 v204 k0_t2) a + S1x1.size a ≤ S96x512.size a) ∧
  (∀ k0_t2 : Fin (k0_t2_loop v204).trips, ∀ (k0_h1 : k0_cond1 i = 1#1), ∀ a, (k0_off92 v204 k0_t2) a + S1x1x2x8x128.size a ≤ S2x512x2x8x128.size a) ∧
  (∀ k0_t2 : Fin (k0_t2_loop v204).trips, ∀ (k0_h1 : k0_cond1 i = 1#1), ∀ (hinb : ∀ a, (k0_off92 v204 k0_t2) a + S1x1x2x8x128.size a ≤ S2x512x2x8x128.size a), (Rect.unit (s := S2x512x2x8x128) (k0_off92 v204 k0_t2) S1x1x2x8x128.size hinb).WholeWords (EltTy.packing .fp8e4m3)) ∧
  (∀ k0_t2 : Fin (k0_t2_loop v204).trips, ∀ (k0_h1 : k0_cond1 i = 1#1), ∀ a, (k0_off94 v204 k0_t2) a + S1x1.size a ≤ S96x512.size a)
def k0_chk1_3 (i : grid0.Coords) (v204 : BitVec 32) : Prop :=
  (∀ k0_t2 : Fin (k0_t2_loop v204).trips, ∀ (k0_h1 : k0_cond1 i = 1#1), ∀ a, (k0_off95 v204 k0_t2) a + S1x1x2x8x128.size a ≤ S2x512x2x8x128.size a) ∧
  (∀ k0_t2 : Fin (k0_t2_loop v204).trips, ∀ (k0_h1 : k0_cond1 i = 1#1), ∀ (hinb : ∀ a, (k0_off95 v204 k0_t2) a + S1x1x2x8x128.size a ≤ S2x512x2x8x128.size a), (Rect.unit (s := S2x512x2x8x128) (k0_off95 v204 k0_t2) S1x1x2x8x128.size hinb).WholeWords (EltTy.packing .fp8e4m3))
def k0_chk1 (i : grid0.Coords) (v204 : BitVec 32) : Prop :=
  k0_chk1_0 i v204 ∧
  k0_chk1_1 i v204 ∧
  k0_chk1_2 i v204 ∧
  k0_chk1_3 i v204
theorem k0_t1_ok : ∀ (i : grid0.Coords) (v204 : BitVec 32) (k0_hw1 : k0_chk1 i v204), ∀ (k0_h1 : k0_cond1 i = 1#1), (k0_t1_loop v204).OK := fun i v204 k0_hw1 k0_h1 => k0_hw1.1.1 k0_h1
theorem k0_off1_inb : ∀ (i : grid0.Coords) (v204 : BitVec 32) (k0_hw1 : k0_chk1 i v204) (k0_t1 : Fin (k0_t1_loop v204).trips), ∀ (k0_h1 : k0_cond1 i = 1#1), ∀ a, (k0_off1 v204 k0_t1) a + S1x1.size a ≤ S96x512.size a := fun i v204 k0_hw1 k0_t1 k0_h1 => k0_hw1.1.2.1 k0_t1 k0_h1
theorem k0_off2_inb : ∀ (i : grid0.Coords) (v204 : BitVec 32) (k0_hw1 : k0_chk1 i v204) (k0_t1 : Fin (k0_t1_loop v204).trips), ∀ (k0_h1 : k0_cond1 i = 1#1), ∀ a, (k0_off2 v204 k0_t1) a + S1x1x2x8x128.size a ≤ S2x512x2x8x128.size a := fun i v204 k0_hw1 k0_t1 k0_h1 => k0_hw1.1.2.2.1 k0_t1 k0_h1
theorem k0_off2_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off2 v204 k0_t1) S1x1x2x8x128.size (k0_off2_inb i v204 k0_hw1 k0_t1 k0_h1)).WholeWords (EltTy.packing .fp8e4m3) := fun i v204 k0_hw1 k0_t1 k0_h1 => k0_hw1.1.2.2.2.1 k0_t1 k0_h1 (k0_off2_inb i v204 k0_hw1 k0_t1 k0_h1)
theorem k0_off4_inb : ∀ (i : grid0.Coords) (v204 : BitVec 32) (k0_hw1 : k0_chk1 i v204) (k0_t1 : Fin (k0_t1_loop v204).trips), ∀ (k0_h1 : k0_cond1 i = 1#1), ∀ a, (k0_off4 v204 k0_t1) a + S1x1.size a ≤ S96x512.size a := fun i v204 k0_hw1 k0_t1 k0_h1 => k0_hw1.1.2.2.2.2.1 k0_t1 k0_h1
theorem k0_off5_inb : ∀ (i : grid0.Coords) (v204 : BitVec 32) (k0_hw1 : k0_chk1 i v204) (k0_t1 : Fin (k0_t1_loop v204).trips), ∀ (k0_h1 : k0_cond1 i = 1#1), ∀ a, (k0_off5 v204 k0_t1) a + S1x1x2x8x128.size a ≤ S2x512x2x8x128.size a := fun i v204 k0_hw1 k0_t1 k0_h1 => k0_hw1.1.2.2.2.2.2.1 k0_t1 k0_h1
theorem k0_off5_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off5 v204 k0_t1) S1x1x2x8x128.size (k0_off5_inb i v204 k0_hw1 k0_t1 k0_h1)).WholeWords (EltTy.packing .fp8e4m3) := fun i v204 k0_hw1 k0_t1 k0_h1 => k0_hw1.1.2.2.2.2.2.2.1 k0_t1 k0_h1 (k0_off5_inb i v204 k0_hw1 k0_t1 k0_h1)
theorem k0_off7_inb : ∀ (i : grid0.Coords) (v204 : BitVec 32) (k0_hw1 : k0_chk1 i v204) (k0_t1 : Fin (k0_t1_loop v204).trips), ∀ (k0_h1 : k0_cond1 i = 1#1), ∀ a, (k0_off7 v204 k0_t1) a + S1x1.size a ≤ S96x512.size a := fun i v204 k0_hw1 k0_t1 k0_h1 => k0_hw1.1.2.2.2.2.2.2.2.1 k0_t1 k0_h1
theorem k0_off8_inb : ∀ (i : grid0.Coords) (v204 : BitVec 32) (k0_hw1 : k0_chk1 i v204) (k0_t1 : Fin (k0_t1_loop v204).trips), ∀ (k0_h1 : k0_cond1 i = 1#1), ∀ a, (k0_off8 v204 k0_t1) a + S1x1x2x8x128.size a ≤ S2x512x2x8x128.size a := fun i v204 k0_hw1 k0_t1 k0_h1 => k0_hw1.1.2.2.2.2.2.2.2.2.1 k0_t1 k0_h1
theorem k0_off8_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off8 v204 k0_t1) S1x1x2x8x128.size (k0_off8_inb i v204 k0_hw1 k0_t1 k0_h1)).WholeWords (EltTy.packing .fp8e4m3) := fun i v204 k0_hw1 k0_t1 k0_h1 => k0_hw1.1.2.2.2.2.2.2.2.2.2.1 k0_t1 k0_h1 (k0_off8_inb i v204 k0_hw1 k0_t1 k0_h1)
theorem k0_off10_inb : ∀ (i : grid0.Coords) (v204 : BitVec 32) (k0_hw1 : k0_chk1 i v204) (k0_t1 : Fin (k0_t1_loop v204).trips), ∀ (k0_h1 : k0_cond1 i = 1#1), ∀ a, (k0_off10 v204 k0_t1) a + S1x1.size a ≤ S96x512.size a := fun i v204 k0_hw1 k0_t1 k0_h1 => k0_hw1.1.2.2.2.2.2.2.2.2.2.2.1 k0_t1 k0_h1
theorem k0_off11_inb : ∀ (i : grid0.Coords) (v204 : BitVec 32) (k0_hw1 : k0_chk1 i v204) (k0_t1 : Fin (k0_t1_loop v204).trips), ∀ (k0_h1 : k0_cond1 i = 1#1), ∀ a, (k0_off11 v204 k0_t1) a + S1x1x2x8x128.size a ≤ S2x512x2x8x128.size a := fun i v204 k0_hw1 k0_t1 k0_h1 => k0_hw1.1.2.2.2.2.2.2.2.2.2.2.2.1 k0_t1 k0_h1
theorem k0_off11_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off11 v204 k0_t1) S1x1x2x8x128.size (k0_off11_inb i v204 k0_hw1 k0_t1 k0_h1)).WholeWords (EltTy.packing .fp8e4m3) := fun i v204 k0_hw1 k0_t1 k0_h1 => k0_hw1.1.2.2.2.2.2.2.2.2.2.2.2.2.1 k0_t1 k0_h1 (k0_off11_inb i v204 k0_hw1 k0_t1 k0_h1)
theorem k0_off13_inb : ∀ (i : grid0.Coords) (v204 : BitVec 32) (k0_hw1 : k0_chk1 i v204) (k0_t1 : Fin (k0_t1_loop v204).trips), ∀ (k0_h1 : k0_cond1 i = 1#1), ∀ a, (k0_off13 v204 k0_t1) a + S1x1.size a ≤ S96x512.size a := fun i v204 k0_hw1 k0_t1 k0_h1 => k0_hw1.1.2.2.2.2.2.2.2.2.2.2.2.2.2.1 k0_t1 k0_h1
theorem k0_off14_inb : ∀ (i : grid0.Coords) (v204 : BitVec 32) (k0_hw1 : k0_chk1 i v204) (k0_t1 : Fin (k0_t1_loop v204).trips), ∀ (k0_h1 : k0_cond1 i = 1#1), ∀ a, (k0_off14 v204 k0_t1) a + S1x1x2x8x128.size a ≤ S2x512x2x8x128.size a := fun i v204 k0_hw1 k0_t1 k0_h1 => k0_hw1.1.2.2.2.2.2.2.2.2.2.2.2.2.2.2.1 k0_t1 k0_h1
theorem k0_off14_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off14 v204 k0_t1) S1x1x2x8x128.size (k0_off14_inb i v204 k0_hw1 k0_t1 k0_h1)).WholeWords (EltTy.packing .fp8e4m3) := fun i v204 k0_hw1 k0_t1 k0_h1 => k0_hw1.1.2.2.2.2.2.2.2.2.2.2.2.2.2.2.2.1 k0_t1 k0_h1 (k0_off14_inb i v204 k0_hw1 k0_t1 k0_h1)
theorem k0_off16_inb : ∀ (i : grid0.Coords) (v204 : BitVec 32) (k0_hw1 : k0_chk1 i v204) (k0_t1 : Fin (k0_t1_loop v204).trips), ∀ (k0_h1 : k0_cond1 i = 1#1), ∀ a, (k0_off16 v204 k0_t1) a + S1x1.size a ≤ S96x512.size a := fun i v204 k0_hw1 k0_t1 k0_h1 => k0_hw1.1.2.2.2.2.2.2.2.2.2.2.2.2.2.2.2.2.1 k0_t1 k0_h1
theorem k0_off17_inb : ∀ (i : grid0.Coords) (v204 : BitVec 32) (k0_hw1 : k0_chk1 i v204) (k0_t1 : Fin (k0_t1_loop v204).trips), ∀ (k0_h1 : k0_cond1 i = 1#1), ∀ a, (k0_off17 v204 k0_t1) a + S1x1x2x8x128.size a ≤ S2x512x2x8x128.size a := fun i v204 k0_hw1 k0_t1 k0_h1 => k0_hw1.1.2.2.2.2.2.2.2.2.2.2.2.2.2.2.2.2.2.1 k0_t1 k0_h1
theorem k0_off17_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off17 v204 k0_t1) S1x1x2x8x128.size (k0_off17_inb i v204 k0_hw1 k0_t1 k0_h1)).WholeWords (EltTy.packing .fp8e4m3) := fun i v204 k0_hw1 k0_t1 k0_h1 => k0_hw1.1.2.2.2.2.2.2.2.2.2.2.2.2.2.2.2.2.2.2.1 k0_t1 k0_h1 (k0_off17_inb i v204 k0_hw1 k0_t1 k0_h1)
theorem k0_off19_inb : ∀ (i : grid0.Coords) (v204 : BitVec 32) (k0_hw1 : k0_chk1 i v204) (k0_t1 : Fin (k0_t1_loop v204).trips), ∀ (k0_h1 : k0_cond1 i = 1#1), ∀ a, (k0_off19 v204 k0_t1) a + S1x1.size a ≤ S96x512.size a := fun i v204 k0_hw1 k0_t1 k0_h1 => k0_hw1.1.2.2.2.2.2.2.2.2.2.2.2.2.2.2.2.2.2.2.2.1 k0_t1 k0_h1
theorem k0_off20_inb : ∀ (i : grid0.Coords) (v204 : BitVec 32) (k0_hw1 : k0_chk1 i v204) (k0_t1 : Fin (k0_t1_loop v204).trips), ∀ (k0_h1 : k0_cond1 i = 1#1), ∀ a, (k0_off20 v204 k0_t1) a + S1x1x2x8x128.size a ≤ S2x512x2x8x128.size a := fun i v204 k0_hw1 k0_t1 k0_h1 => k0_hw1.1.2.2.2.2.2.2.2.2.2.2.2.2.2.2.2.2.2.2.2.2.1 k0_t1 k0_h1
theorem k0_off20_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off20 v204 k0_t1) S1x1x2x8x128.size (k0_off20_inb i v204 k0_hw1 k0_t1 k0_h1)).WholeWords (EltTy.packing .fp8e4m3) := fun i v204 k0_hw1 k0_t1 k0_h1 => k0_hw1.1.2.2.2.2.2.2.2.2.2.2.2.2.2.2.2.2.2.2.2.2.2.1 k0_t1 k0_h1 (k0_off20_inb i v204 k0_hw1 k0_t1 k0_h1)
theorem k0_off22_inb : ∀ (i : grid0.Coords) (v204 : BitVec 32) (k0_hw1 : k0_chk1 i v204) (k0_t1 : Fin (k0_t1_loop v204).trips), ∀ (k0_h1 : k0_cond1 i = 1#1), ∀ a, (k0_off22 v204 k0_t1) a + S1x1.size a ≤ S96x512.size a := fun i v204 k0_hw1 k0_t1 k0_h1 => k0_hw1.1.2.2.2.2.2.2.2.2.2.2.2.2.2.2.2.2.2.2.2.2.2.2.1 k0_t1 k0_h1
theorem k0_off23_inb : ∀ (i : grid0.Coords) (v204 : BitVec 32) (k0_hw1 : k0_chk1 i v204) (k0_t1 : Fin (k0_t1_loop v204).trips), ∀ (k0_h1 : k0_cond1 i = 1#1), ∀ a, (k0_off23 v204 k0_t1) a + S1x1x2x8x128.size a ≤ S2x512x2x8x128.size a := fun i v204 k0_hw1 k0_t1 k0_h1 => k0_hw1.1.2.2.2.2.2.2.2.2.2.2.2.2.2.2.2.2.2.2.2.2.2.2.2.1 k0_t1 k0_h1
theorem k0_off23_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off23 v204 k0_t1) S1x1x2x8x128.size (k0_off23_inb i v204 k0_hw1 k0_t1 k0_h1)).WholeWords (EltTy.packing .fp8e4m3) := fun i v204 k0_hw1 k0_t1 k0_h1 => k0_hw1.1.2.2.2.2.2.2.2.2.2.2.2.2.2.2.2.2.2.2.2.2.2.2.2.2.1 k0_t1 k0_h1 (k0_off23_inb i v204 k0_hw1 k0_t1 k0_h1)
theorem k0_off25_inb : ∀ (i : grid0.Coords) (v204 : BitVec 32) (k0_hw1 : k0_chk1 i v204) (k0_t1 : Fin (k0_t1_loop v204).trips), ∀ (k0_h1 : k0_cond1 i = 1#1), ∀ a, (k0_off25 v204 k0_t1) a + S1x1.size a ≤ S96x512.size a := fun i v204 k0_hw1 k0_t1 k0_h1 => k0_hw1.1.2.2.2.2.2.2.2.2.2.2.2.2.2.2.2.2.2.2.2.2.2.2.2.2.2.1 k0_t1 k0_h1
theorem k0_off26_inb : ∀ (i : grid0.Coords) (v204 : BitVec 32) (k0_hw1 : k0_chk1 i v204) (k0_t1 : Fin (k0_t1_loop v204).trips), ∀ (k0_h1 : k0_cond1 i = 1#1), ∀ a, (k0_off26 v204 k0_t1) a + S1x1x2x8x128.size a ≤ S2x512x2x8x128.size a := fun i v204 k0_hw1 k0_t1 k0_h1 => k0_hw1.1.2.2.2.2.2.2.2.2.2.2.2.2.2.2.2.2.2.2.2.2.2.2.2.2.2.2.1 k0_t1 k0_h1
theorem k0_off26_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off26 v204 k0_t1) S1x1x2x8x128.size (k0_off26_inb i v204 k0_hw1 k0_t1 k0_h1)).WholeWords (EltTy.packing .fp8e4m3) := fun i v204 k0_hw1 k0_t1 k0_h1 => k0_hw1.1.2.2.2.2.2.2.2.2.2.2.2.2.2.2.2.2.2.2.2.2.2.2.2.2.2.2.2.1 k0_t1 k0_h1 (k0_off26_inb i v204 k0_hw1 k0_t1 k0_h1)
theorem k0_off28_inb : ∀ (i : grid0.Coords) (v204 : BitVec 32) (k0_hw1 : k0_chk1 i v204) (k0_t1 : Fin (k0_t1_loop v204).trips), ∀ (k0_h1 : k0_cond1 i = 1#1), ∀ a, (k0_off28 v204 k0_t1) a + S1x1.size a ≤ S96x512.size a := fun i v204 k0_hw1 k0_t1 k0_h1 => k0_hw1.1.2.2.2.2.2.2.2.2.2.2.2.2.2.2.2.2.2.2.2.2.2.2.2.2.2.2.2.2.1 k0_t1 k0_h1
theorem k0_off29_inb : ∀ (i : grid0.Coords) (v204 : BitVec 32) (k0_hw1 : k0_chk1 i v204) (k0_t1 : Fin (k0_t1_loop v204).trips), ∀ (k0_h1 : k0_cond1 i = 1#1), ∀ a, (k0_off29 v204 k0_t1) a + S1x1x2x8x128.size a ≤ S2x512x2x8x128.size a := fun i v204 k0_hw1 k0_t1 k0_h1 => k0_hw1.1.2.2.2.2.2.2.2.2.2.2.2.2.2.2.2.2.2.2.2.2.2.2.2.2.2.2.2.2.2.1 k0_t1 k0_h1
theorem k0_off29_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off29 v204 k0_t1) S1x1x2x8x128.size (k0_off29_inb i v204 k0_hw1 k0_t1 k0_h1)).WholeWords (EltTy.packing .fp8e4m3) := fun i v204 k0_hw1 k0_t1 k0_h1 => k0_hw1.1.2.2.2.2.2.2.2.2.2.2.2.2.2.2.2.2.2.2.2.2.2.2.2.2.2.2.2.2.2.2.1 k0_t1 k0_h1 (k0_off29_inb i v204 k0_hw1 k0_t1 k0_h1)
theorem k0_off31_inb : ∀ (i : grid0.Coords) (v204 : BitVec 32) (k0_hw1 : k0_chk1 i v204) (k0_t1 : Fin (k0_t1_loop v204).trips), ∀ (k0_h1 : k0_cond1 i = 1#1), ∀ a, (k0_off31 v204 k0_t1) a + S1x1.size a ≤ S96x512.size a := fun i v204 k0_hw1 k0_t1 k0_h1 => k0_hw1.1.2.2.2.2.2.2.2.2.2.2.2.2.2.2.2.2.2.2.2.2.2.2.2.2.2.2.2.2.2.2.2 k0_t1 k0_h1
theorem k0_off32_inb : ∀ (i : grid0.Coords) (v204 : BitVec 32) (k0_hw1 : k0_chk1 i v204) (k0_t1 : Fin (k0_t1_loop v204).trips), ∀ (k0_h1 : k0_cond1 i = 1#1), ∀ a, (k0_off32 v204 k0_t1) a + S1x1x2x8x128.size a ≤ S2x512x2x8x128.size a := fun i v204 k0_hw1 k0_t1 k0_h1 => k0_hw1.2.1.1 k0_t1 k0_h1
theorem k0_off32_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off32 v204 k0_t1) S1x1x2x8x128.size (k0_off32_inb i v204 k0_hw1 k0_t1 k0_h1)).WholeWords (EltTy.packing .fp8e4m3) := fun i v204 k0_hw1 k0_t1 k0_h1 => k0_hw1.2.1.2.1 k0_t1 k0_h1 (k0_off32_inb i v204 k0_hw1 k0_t1 k0_h1)
theorem k0_off34_inb : ∀ (i : grid0.Coords) (v204 : BitVec 32) (k0_hw1 : k0_chk1 i v204) (k0_t1 : Fin (k0_t1_loop v204).trips), ∀ (k0_h1 : k0_cond1 i = 1#1), ∀ a, (k0_off34 v204 k0_t1) a + S1x1.size a ≤ S96x512.size a := fun i v204 k0_hw1 k0_t1 k0_h1 => k0_hw1.2.1.2.2.1 k0_t1 k0_h1
theorem k0_off35_inb : ∀ (i : grid0.Coords) (v204 : BitVec 32) (k0_hw1 : k0_chk1 i v204) (k0_t1 : Fin (k0_t1_loop v204).trips), ∀ (k0_h1 : k0_cond1 i = 1#1), ∀ a, (k0_off35 v204 k0_t1) a + S1x1x2x8x128.size a ≤ S2x512x2x8x128.size a := fun i v204 k0_hw1 k0_t1 k0_h1 => k0_hw1.2.1.2.2.2.1 k0_t1 k0_h1
theorem k0_off35_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off35 v204 k0_t1) S1x1x2x8x128.size (k0_off35_inb i v204 k0_hw1 k0_t1 k0_h1)).WholeWords (EltTy.packing .fp8e4m3) := fun i v204 k0_hw1 k0_t1 k0_h1 => k0_hw1.2.1.2.2.2.2.1 k0_t1 k0_h1 (k0_off35_inb i v204 k0_hw1 k0_t1 k0_h1)
theorem k0_off37_inb : ∀ (i : grid0.Coords) (v204 : BitVec 32) (k0_hw1 : k0_chk1 i v204) (k0_t1 : Fin (k0_t1_loop v204).trips), ∀ (k0_h1 : k0_cond1 i = 1#1), ∀ a, (k0_off37 v204 k0_t1) a + S1x1.size a ≤ S96x512.size a := fun i v204 k0_hw1 k0_t1 k0_h1 => k0_hw1.2.1.2.2.2.2.2.1 k0_t1 k0_h1
theorem k0_off38_inb : ∀ (i : grid0.Coords) (v204 : BitVec 32) (k0_hw1 : k0_chk1 i v204) (k0_t1 : Fin (k0_t1_loop v204).trips), ∀ (k0_h1 : k0_cond1 i = 1#1), ∀ a, (k0_off38 v204 k0_t1) a + S1x1x2x8x128.size a ≤ S2x512x2x8x128.size a := fun i v204 k0_hw1 k0_t1 k0_h1 => k0_hw1.2.1.2.2.2.2.2.2.1 k0_t1 k0_h1
theorem k0_off38_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off38 v204 k0_t1) S1x1x2x8x128.size (k0_off38_inb i v204 k0_hw1 k0_t1 k0_h1)).WholeWords (EltTy.packing .fp8e4m3) := fun i v204 k0_hw1 k0_t1 k0_h1 => k0_hw1.2.1.2.2.2.2.2.2.2.1 k0_t1 k0_h1 (k0_off38_inb i v204 k0_hw1 k0_t1 k0_h1)
theorem k0_off40_inb : ∀ (i : grid0.Coords) (v204 : BitVec 32) (k0_hw1 : k0_chk1 i v204) (k0_t1 : Fin (k0_t1_loop v204).trips), ∀ (k0_h1 : k0_cond1 i = 1#1), ∀ a, (k0_off40 v204 k0_t1) a + S1x1.size a ≤ S96x512.size a := fun i v204 k0_hw1 k0_t1 k0_h1 => k0_hw1.2.1.2.2.2.2.2.2.2.2.1 k0_t1 k0_h1
theorem k0_off41_inb : ∀ (i : grid0.Coords) (v204 : BitVec 32) (k0_hw1 : k0_chk1 i v204) (k0_t1 : Fin (k0_t1_loop v204).trips), ∀ (k0_h1 : k0_cond1 i = 1#1), ∀ a, (k0_off41 v204 k0_t1) a + S1x1x2x8x128.size a ≤ S2x512x2x8x128.size a := fun i v204 k0_hw1 k0_t1 k0_h1 => k0_hw1.2.1.2.2.2.2.2.2.2.2.2.1 k0_t1 k0_h1
theorem k0_off41_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off41 v204 k0_t1) S1x1x2x8x128.size (k0_off41_inb i v204 k0_hw1 k0_t1 k0_h1)).WholeWords (EltTy.packing .fp8e4m3) := fun i v204 k0_hw1 k0_t1 k0_h1 => k0_hw1.2.1.2.2.2.2.2.2.2.2.2.2.1 k0_t1 k0_h1 (k0_off41_inb i v204 k0_hw1 k0_t1 k0_h1)
theorem k0_off43_inb : ∀ (i : grid0.Coords) (v204 : BitVec 32) (k0_hw1 : k0_chk1 i v204) (k0_t1 : Fin (k0_t1_loop v204).trips), ∀ (k0_h1 : k0_cond1 i = 1#1), ∀ a, (k0_off43 v204 k0_t1) a + S1x1.size a ≤ S96x512.size a := fun i v204 k0_hw1 k0_t1 k0_h1 => k0_hw1.2.1.2.2.2.2.2.2.2.2.2.2.2.1 k0_t1 k0_h1
theorem k0_off44_inb : ∀ (i : grid0.Coords) (v204 : BitVec 32) (k0_hw1 : k0_chk1 i v204) (k0_t1 : Fin (k0_t1_loop v204).trips), ∀ (k0_h1 : k0_cond1 i = 1#1), ∀ a, (k0_off44 v204 k0_t1) a + S1x1x2x8x128.size a ≤ S2x512x2x8x128.size a := fun i v204 k0_hw1 k0_t1 k0_h1 => k0_hw1.2.1.2.2.2.2.2.2.2.2.2.2.2.2.1 k0_t1 k0_h1
theorem k0_off44_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off44 v204 k0_t1) S1x1x2x8x128.size (k0_off44_inb i v204 k0_hw1 k0_t1 k0_h1)).WholeWords (EltTy.packing .fp8e4m3) := fun i v204 k0_hw1 k0_t1 k0_h1 => k0_hw1.2.1.2.2.2.2.2.2.2.2.2.2.2.2.2.1 k0_t1 k0_h1 (k0_off44_inb i v204 k0_hw1 k0_t1 k0_h1)
theorem k0_off46_inb : ∀ (i : grid0.Coords) (v204 : BitVec 32) (k0_hw1 : k0_chk1 i v204) (k0_t1 : Fin (k0_t1_loop v204).trips), ∀ (k0_h1 : k0_cond1 i = 1#1), ∀ a, (k0_off46 v204 k0_t1) a + S1x1.size a ≤ S96x512.size a := fun i v204 k0_hw1 k0_t1 k0_h1 => k0_hw1.2.1.2.2.2.2.2.2.2.2.2.2.2.2.2.2.1 k0_t1 k0_h1
theorem k0_off47_inb : ∀ (i : grid0.Coords) (v204 : BitVec 32) (k0_hw1 : k0_chk1 i v204) (k0_t1 : Fin (k0_t1_loop v204).trips), ∀ (k0_h1 : k0_cond1 i = 1#1), ∀ a, (k0_off47 v204 k0_t1) a + S1x1x2x8x128.size a ≤ S2x512x2x8x128.size a := fun i v204 k0_hw1 k0_t1 k0_h1 => k0_hw1.2.1.2.2.2.2.2.2.2.2.2.2.2.2.2.2.2.1 k0_t1 k0_h1
theorem k0_off47_wordsfp8e4m3 : ∀ (i : grid0.Coords) (v204 : BitVec 32) (k0_hw1 : k0_chk1 i v204) (k0_t1 : Fin (k0_t1_loop v204).trips), ∀ (k0_h1 : k0_cond1 i = 1#1), (Rect.unit (s := S2x512x2x8x128) (k0_off47 v204 k0_t1) S1x1x2x8x128.size (k0_off47_inb i v204 k0_hw1 k0_t1 k0_h1)).WholeWords (EltTy.packing .fp8e4m3) := fun i v204 k0_hw1 k0_t1 k0_h1 => k0_hw1.2.1.2.2.2.2.2.2.2.2.2.2.2.2.2.2.2.2.1 k0_t1 k0_h1 (k0_off47_inb i v204 k0_hw1 k0_t1 k0_h1)
theorem k0_t2_ok : ∀ (i : grid0.Coords) (v204 : BitVec 32) (k0_hw1 : k0_chk1 i v204), ∀ (k0_h1 : k0_cond1 i = 1#1), (k0_t2_loop v204).OK := fun i v204 k0_hw1 k0_h1 => k0_hw1.2.1.2.2.2.2.2.2.2.2.2.2.2.2.2.2.2.2.2.1 k0_h1
theorem k0_off49_inb : ∀ (i : grid0.Coords) (v204 : BitVec 32) (k0_hw1 : k0_chk1 i v204) (k0_t2 : Fin (k0_t2_loop v204).trips), ∀ (k0_h1 : k0_cond1 i = 1#1), ∀ a, (k0_off49 v204 k0_t2) a + S1x1.size a ≤ S96x512.size a := fun i v204 k0_hw1 k0_t2 k0_h1 => k0_hw1.2.1.2.2.2.2.2.2.2.2.2.2.2.2.2.2.2.2.2.2.1 k0_t2 k0_h1
theorem k0_off50_inb : ∀ (i : grid0.Coords) (v204 : BitVec 32) (k0_hw1 : k0_chk1 i v204) (k0_t2 : Fin (k0_t2_loop v204).trips), ∀ (k0_h1 : k0_cond1 i = 1#1), ∀ a, (k0_off50 v204 k0_t2) a + S1x1x2x8x128.size a ≤ S2x512x2x8x128.size a := fun i v204 k0_hw1 k0_t2 k0_h1 => k0_hw1.2.1.2.2.2.2.2.2.2.2.2.2.2.2.2.2.2.2.2.2.2.1 k0_t2 k0_h1
theorem k0_off50_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off50 v204 k0_t2) S1x1x2x8x128.size (k0_off50_inb i v204 k0_hw1 k0_t2 k0_h1)).WholeWords (EltTy.packing .fp8e4m3) := fun i v204 k0_hw1 k0_t2 k0_h1 => k0_hw1.2.1.2.2.2.2.2.2.2.2.2.2.2.2.2.2.2.2.2.2.2.2.1 k0_t2 k0_h1 (k0_off50_inb i v204 k0_hw1 k0_t2 k0_h1)
theorem k0_off52_inb : ∀ (i : grid0.Coords) (v204 : BitVec 32) (k0_hw1 : k0_chk1 i v204) (k0_t2 : Fin (k0_t2_loop v204).trips), ∀ (k0_h1 : k0_cond1 i = 1#1), ∀ a, (k0_off52 v204 k0_t2) a + S1x1.size a ≤ S96x512.size a := fun i v204 k0_hw1 k0_t2 k0_h1 => k0_hw1.2.1.2.2.2.2.2.2.2.2.2.2.2.2.2.2.2.2.2.2.2.2.2.1 k0_t2 k0_h1
theorem k0_off53_inb : ∀ (i : grid0.Coords) (v204 : BitVec 32) (k0_hw1 : k0_chk1 i v204) (k0_t2 : Fin (k0_t2_loop v204).trips), ∀ (k0_h1 : k0_cond1 i = 1#1), ∀ a, (k0_off53 v204 k0_t2) a + S1x1x2x8x128.size a ≤ S2x512x2x8x128.size a := fun i v204 k0_hw1 k0_t2 k0_h1 => k0_hw1.2.1.2.2.2.2.2.2.2.2.2.2.2.2.2.2.2.2.2.2.2.2.2.2.1 k0_t2 k0_h1
theorem k0_off53_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off53 v204 k0_t2) S1x1x2x8x128.size (k0_off53_inb i v204 k0_hw1 k0_t2 k0_h1)).WholeWords (EltTy.packing .fp8e4m3) := fun i v204 k0_hw1 k0_t2 k0_h1 => k0_hw1.2.1.2.2.2.2.2.2.2.2.2.2.2.2.2.2.2.2.2.2.2.2.2.2.2.1 k0_t2 k0_h1 (k0_off53_inb i v204 k0_hw1 k0_t2 k0_h1)
theorem k0_off55_inb : ∀ (i : grid0.Coords) (v204 : BitVec 32) (k0_hw1 : k0_chk1 i v204) (k0_t2 : Fin (k0_t2_loop v204).trips), ∀ (k0_h1 : k0_cond1 i = 1#1), ∀ a, (k0_off55 v204 k0_t2) a + S1x1.size a ≤ S96x512.size a := fun i v204 k0_hw1 k0_t2 k0_h1 => k0_hw1.2.1.2.2.2.2.2.2.2.2.2.2.2.2.2.2.2.2.2.2.2.2.2.2.2.2.1 k0_t2 k0_h1
theorem k0_off56_inb : ∀ (i : grid0.Coords) (v204 : BitVec 32) (k0_hw1 : k0_chk1 i v204) (k0_t2 : Fin (k0_t2_loop v204).trips), ∀ (k0_h1 : k0_cond1 i = 1#1), ∀ a, (k0_off56 v204 k0_t2) a + S1x1x2x8x128.size a ≤ S2x512x2x8x128.size a := fun i v204 k0_hw1 k0_t2 k0_h1 => k0_hw1.2.1.2.2.2.2.2.2.2.2.2.2.2.2.2.2.2.2.2.2.2.2.2.2.2.2.2.1 k0_t2 k0_h1
theorem k0_off56_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off56 v204 k0_t2) S1x1x2x8x128.size (k0_off56_inb i v204 k0_hw1 k0_t2 k0_h1)).WholeWords (EltTy.packing .fp8e4m3) := fun i v204 k0_hw1 k0_t2 k0_h1 => k0_hw1.2.1.2.2.2.2.2.2.2.2.2.2.2.2.2.2.2.2.2.2.2.2.2.2.2.2.2.2.1 k0_t2 k0_h1 (k0_off56_inb i v204 k0_hw1 k0_t2 k0_h1)
theorem k0_off58_inb : ∀ (i : grid0.Coords) (v204 : BitVec 32) (k0_hw1 : k0_chk1 i v204) (k0_t2 : Fin (k0_t2_loop v204).trips), ∀ (k0_h1 : k0_cond1 i = 1#1), ∀ a, (k0_off58 v204 k0_t2) a + S1x1.size a ≤ S96x512.size a := fun i v204 k0_hw1 k0_t2 k0_h1 => k0_hw1.2.1.2.2.2.2.2.2.2.2.2.2.2.2.2.2.2.2.2.2.2.2.2.2.2.2.2.2.2.1 k0_t2 k0_h1
theorem k0_off59_inb : ∀ (i : grid0.Coords) (v204 : BitVec 32) (k0_hw1 : k0_chk1 i v204) (k0_t2 : Fin (k0_t2_loop v204).trips), ∀ (k0_h1 : k0_cond1 i = 1#1), ∀ a, (k0_off59 v204 k0_t2) a + S1x1x2x8x128.size a ≤ S2x512x2x8x128.size a := fun i v204 k0_hw1 k0_t2 k0_h1 => k0_hw1.2.1.2.2.2.2.2.2.2.2.2.2.2.2.2.2.2.2.2.2.2.2.2.2.2.2.2.2.2.2.1 k0_t2 k0_h1
theorem k0_off59_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off59 v204 k0_t2) S1x1x2x8x128.size (k0_off59_inb i v204 k0_hw1 k0_t2 k0_h1)).WholeWords (EltTy.packing .fp8e4m3) := fun i v204 k0_hw1 k0_t2 k0_h1 => k0_hw1.2.1.2.2.2.2.2.2.2.2.2.2.2.2.2.2.2.2.2.2.2.2.2.2.2.2.2.2.2.2.2.1 k0_t2 k0_h1 (k0_off59_inb i v204 k0_hw1 k0_t2 k0_h1)
theorem k0_off61_inb : ∀ (i : grid0.Coords) (v204 : BitVec 32) (k0_hw1 : k0_chk1 i v204) (k0_t2 : Fin (k0_t2_loop v204).trips), ∀ (k0_h1 : k0_cond1 i = 1#1), ∀ a, (k0_off61 v204 k0_t2) a + S1x1.size a ≤ S96x512.size a := fun i v204 k0_hw1 k0_t2 k0_h1 => k0_hw1.2.1.2.2.2.2.2.2.2.2.2.2.2.2.2.2.2.2.2.2.2.2.2.2.2.2.2.2.2.2.2.2.1 k0_t2 k0_h1
theorem k0_off62_inb : ∀ (i : grid0.Coords) (v204 : BitVec 32) (k0_hw1 : k0_chk1 i v204) (k0_t2 : Fin (k0_t2_loop v204).trips), ∀ (k0_h1 : k0_cond1 i = 1#1), ∀ a, (k0_off62 v204 k0_t2) a + S1x1x2x8x128.size a ≤ S2x512x2x8x128.size a := fun i v204 k0_hw1 k0_t2 k0_h1 => k0_hw1.2.1.2.2.2.2.2.2.2.2.2.2.2.2.2.2.2.2.2.2.2.2.2.2.2.2.2.2.2.2.2.2.2 k0_t2 k0_h1
theorem k0_off62_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off62 v204 k0_t2) S1x1x2x8x128.size (k0_off62_inb i v204 k0_hw1 k0_t2 k0_h1)).WholeWords (EltTy.packing .fp8e4m3) := fun i v204 k0_hw1 k0_t2 k0_h1 => k0_hw1.2.2.1.1 k0_t2 k0_h1 (k0_off62_inb i v204 k0_hw1 k0_t2 k0_h1)
theorem k0_off64_inb : ∀ (i : grid0.Coords) (v204 : BitVec 32) (k0_hw1 : k0_chk1 i v204) (k0_t2 : Fin (k0_t2_loop v204).trips), ∀ (k0_h1 : k0_cond1 i = 1#1), ∀ a, (k0_off64 v204 k0_t2) a + S1x1.size a ≤ S96x512.size a := fun i v204 k0_hw1 k0_t2 k0_h1 => k0_hw1.2.2.1.2.1 k0_t2 k0_h1
theorem k0_off65_inb : ∀ (i : grid0.Coords) (v204 : BitVec 32) (k0_hw1 : k0_chk1 i v204) (k0_t2 : Fin (k0_t2_loop v204).trips), ∀ (k0_h1 : k0_cond1 i = 1#1), ∀ a, (k0_off65 v204 k0_t2) a + S1x1x2x8x128.size a ≤ S2x512x2x8x128.size a := fun i v204 k0_hw1 k0_t2 k0_h1 => k0_hw1.2.2.1.2.2.1 k0_t2 k0_h1
theorem k0_off65_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off65 v204 k0_t2) S1x1x2x8x128.size (k0_off65_inb i v204 k0_hw1 k0_t2 k0_h1)).WholeWords (EltTy.packing .fp8e4m3) := fun i v204 k0_hw1 k0_t2 k0_h1 => k0_hw1.2.2.1.2.2.2.1 k0_t2 k0_h1 (k0_off65_inb i v204 k0_hw1 k0_t2 k0_h1)
theorem k0_off67_inb : ∀ (i : grid0.Coords) (v204 : BitVec 32) (k0_hw1 : k0_chk1 i v204) (k0_t2 : Fin (k0_t2_loop v204).trips), ∀ (k0_h1 : k0_cond1 i = 1#1), ∀ a, (k0_off67 v204 k0_t2) a + S1x1.size a ≤ S96x512.size a := fun i v204 k0_hw1 k0_t2 k0_h1 => k0_hw1.2.2.1.2.2.2.2.1 k0_t2 k0_h1
theorem k0_off68_inb : ∀ (i : grid0.Coords) (v204 : BitVec 32) (k0_hw1 : k0_chk1 i v204) (k0_t2 : Fin (k0_t2_loop v204).trips), ∀ (k0_h1 : k0_cond1 i = 1#1), ∀ a, (k0_off68 v204 k0_t2) a + S1x1x2x8x128.size a ≤ S2x512x2x8x128.size a := fun i v204 k0_hw1 k0_t2 k0_h1 => k0_hw1.2.2.1.2.2.2.2.2.1 k0_t2 k0_h1
theorem k0_off68_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off68 v204 k0_t2) S1x1x2x8x128.size (k0_off68_inb i v204 k0_hw1 k0_t2 k0_h1)).WholeWords (EltTy.packing .fp8e4m3) := fun i v204 k0_hw1 k0_t2 k0_h1 => k0_hw1.2.2.1.2.2.2.2.2.2.1 k0_t2 k0_h1 (k0_off68_inb i v204 k0_hw1 k0_t2 k0_h1)
theorem k0_off70_inb : ∀ (i : grid0.Coords) (v204 : BitVec 32) (k0_hw1 : k0_chk1 i v204) (k0_t2 : Fin (k0_t2_loop v204).trips), ∀ (k0_h1 : k0_cond1 i = 1#1), ∀ a, (k0_off70 v204 k0_t2) a + S1x1.size a ≤ S96x512.size a := fun i v204 k0_hw1 k0_t2 k0_h1 => k0_hw1.2.2.1.2.2.2.2.2.2.2.1 k0_t2 k0_h1
theorem k0_off71_inb : ∀ (i : grid0.Coords) (v204 : BitVec 32) (k0_hw1 : k0_chk1 i v204) (k0_t2 : Fin (k0_t2_loop v204).trips), ∀ (k0_h1 : k0_cond1 i = 1#1), ∀ a, (k0_off71 v204 k0_t2) a + S1x1x2x8x128.size a ≤ S2x512x2x8x128.size a := fun i v204 k0_hw1 k0_t2 k0_h1 => k0_hw1.2.2.1.2.2.2.2.2.2.2.2.1 k0_t2 k0_h1
theorem k0_off71_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off71 v204 k0_t2) S1x1x2x8x128.size (k0_off71_inb i v204 k0_hw1 k0_t2 k0_h1)).WholeWords (EltTy.packing .fp8e4m3) := fun i v204 k0_hw1 k0_t2 k0_h1 => k0_hw1.2.2.1.2.2.2.2.2.2.2.2.2.1 k0_t2 k0_h1 (k0_off71_inb i v204 k0_hw1 k0_t2 k0_h1)
theorem k0_off73_inb : ∀ (i : grid0.Coords) (v204 : BitVec 32) (k0_hw1 : k0_chk1 i v204) (k0_t2 : Fin (k0_t2_loop v204).trips), ∀ (k0_h1 : k0_cond1 i = 1#1), ∀ a, (k0_off73 v204 k0_t2) a + S1x1.size a ≤ S96x512.size a := fun i v204 k0_hw1 k0_t2 k0_h1 => k0_hw1.2.2.1.2.2.2.2.2.2.2.2.2.2.1 k0_t2 k0_h1
theorem k0_off74_inb : ∀ (i : grid0.Coords) (v204 : BitVec 32) (k0_hw1 : k0_chk1 i v204) (k0_t2 : Fin (k0_t2_loop v204).trips), ∀ (k0_h1 : k0_cond1 i = 1#1), ∀ a, (k0_off74 v204 k0_t2) a + S1x1x2x8x128.size a ≤ S2x512x2x8x128.size a := fun i v204 k0_hw1 k0_t2 k0_h1 => k0_hw1.2.2.1.2.2.2.2.2.2.2.2.2.2.2.1 k0_t2 k0_h1
theorem k0_off74_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off74 v204 k0_t2) S1x1x2x8x128.size (k0_off74_inb i v204 k0_hw1 k0_t2 k0_h1)).WholeWords (EltTy.packing .fp8e4m3) := fun i v204 k0_hw1 k0_t2 k0_h1 => k0_hw1.2.2.1.2.2.2.2.2.2.2.2.2.2.2.2.1 k0_t2 k0_h1 (k0_off74_inb i v204 k0_hw1 k0_t2 k0_h1)
theorem k0_off76_inb : ∀ (i : grid0.Coords) (v204 : BitVec 32) (k0_hw1 : k0_chk1 i v204) (k0_t2 : Fin (k0_t2_loop v204).trips), ∀ (k0_h1 : k0_cond1 i = 1#1), ∀ a, (k0_off76 v204 k0_t2) a + S1x1.size a ≤ S96x512.size a := fun i v204 k0_hw1 k0_t2 k0_h1 => k0_hw1.2.2.1.2.2.2.2.2.2.2.2.2.2.2.2.2.1 k0_t2 k0_h1
theorem k0_off77_inb : ∀ (i : grid0.Coords) (v204 : BitVec 32) (k0_hw1 : k0_chk1 i v204) (k0_t2 : Fin (k0_t2_loop v204).trips), ∀ (k0_h1 : k0_cond1 i = 1#1), ∀ a, (k0_off77 v204 k0_t2) a + S1x1x2x8x128.size a ≤ S2x512x2x8x128.size a := fun i v204 k0_hw1 k0_t2 k0_h1 => k0_hw1.2.2.1.2.2.2.2.2.2.2.2.2.2.2.2.2.2.1 k0_t2 k0_h1
theorem k0_off77_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off77 v204 k0_t2) S1x1x2x8x128.size (k0_off77_inb i v204 k0_hw1 k0_t2 k0_h1)).WholeWords (EltTy.packing .fp8e4m3) := fun i v204 k0_hw1 k0_t2 k0_h1 => k0_hw1.2.2.1.2.2.2.2.2.2.2.2.2.2.2.2.2.2.2.1 k0_t2 k0_h1 (k0_off77_inb i v204 k0_hw1 k0_t2 k0_h1)
theorem k0_off79_inb : ∀ (i : grid0.Coords) (v204 : BitVec 32) (k0_hw1 : k0_chk1 i v204) (k0_t2 : Fin (k0_t2_loop v204).trips), ∀ (k0_h1 : k0_cond1 i = 1#1), ∀ a, (k0_off79 v204 k0_t2) a + S1x1.size a ≤ S96x512.size a := fun i v204 k0_hw1 k0_t2 k0_h1 => k0_hw1.2.2.1.2.2.2.2.2.2.2.2.2.2.2.2.2.2.2.2.1 k0_t2 k0_h1
theorem k0_off80_inb : ∀ (i : grid0.Coords) (v204 : BitVec 32) (k0_hw1 : k0_chk1 i v204) (k0_t2 : Fin (k0_t2_loop v204).trips), ∀ (k0_h1 : k0_cond1 i = 1#1), ∀ a, (k0_off80 v204 k0_t2) a + S1x1x2x8x128.size a ≤ S2x512x2x8x128.size a := fun i v204 k0_hw1 k0_t2 k0_h1 => k0_hw1.2.2.1.2.2.2.2.2.2.2.2.2.2.2.2.2.2.2.2.2.1 k0_t2 k0_h1
theorem k0_off80_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off80 v204 k0_t2) S1x1x2x8x128.size (k0_off80_inb i v204 k0_hw1 k0_t2 k0_h1)).WholeWords (EltTy.packing .fp8e4m3) := fun i v204 k0_hw1 k0_t2 k0_h1 => k0_hw1.2.2.1.2.2.2.2.2.2.2.2.2.2.2.2.2.2.2.2.2.2.1 k0_t2 k0_h1 (k0_off80_inb i v204 k0_hw1 k0_t2 k0_h1)
theorem k0_off82_inb : ∀ (i : grid0.Coords) (v204 : BitVec 32) (k0_hw1 : k0_chk1 i v204) (k0_t2 : Fin (k0_t2_loop v204).trips), ∀ (k0_h1 : k0_cond1 i = 1#1), ∀ a, (k0_off82 v204 k0_t2) a + S1x1.size a ≤ S96x512.size a := fun i v204 k0_hw1 k0_t2 k0_h1 => k0_hw1.2.2.1.2.2.2.2.2.2.2.2.2.2.2.2.2.2.2.2.2.2.2.1 k0_t2 k0_h1
theorem k0_off83_inb : ∀ (i : grid0.Coords) (v204 : BitVec 32) (k0_hw1 : k0_chk1 i v204) (k0_t2 : Fin (k0_t2_loop v204).trips), ∀ (k0_h1 : k0_cond1 i = 1#1), ∀ a, (k0_off83 v204 k0_t2) a + S1x1x2x8x128.size a ≤ S2x512x2x8x128.size a := fun i v204 k0_hw1 k0_t2 k0_h1 => k0_hw1.2.2.1.2.2.2.2.2.2.2.2.2.2.2.2.2.2.2.2.2.2.2.2.1 k0_t2 k0_h1
theorem k0_off83_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off83 v204 k0_t2) S1x1x2x8x128.size (k0_off83_inb i v204 k0_hw1 k0_t2 k0_h1)).WholeWords (EltTy.packing .fp8e4m3) := fun i v204 k0_hw1 k0_t2 k0_h1 => k0_hw1.2.2.1.2.2.2.2.2.2.2.2.2.2.2.2.2.2.2.2.2.2.2.2.2.1 k0_t2 k0_h1 (k0_off83_inb i v204 k0_hw1 k0_t2 k0_h1)
theorem k0_off85_inb : ∀ (i : grid0.Coords) (v204 : BitVec 32) (k0_hw1 : k0_chk1 i v204) (k0_t2 : Fin (k0_t2_loop v204).trips), ∀ (k0_h1 : k0_cond1 i = 1#1), ∀ a, (k0_off85 v204 k0_t2) a + S1x1.size a ≤ S96x512.size a := fun i v204 k0_hw1 k0_t2 k0_h1 => k0_hw1.2.2.1.2.2.2.2.2.2.2.2.2.2.2.2.2.2.2.2.2.2.2.2.2.2.1 k0_t2 k0_h1
theorem k0_off86_inb : ∀ (i : grid0.Coords) (v204 : BitVec 32) (k0_hw1 : k0_chk1 i v204) (k0_t2 : Fin (k0_t2_loop v204).trips), ∀ (k0_h1 : k0_cond1 i = 1#1), ∀ a, (k0_off86 v204 k0_t2) a + S1x1x2x8x128.size a ≤ S2x512x2x8x128.size a := fun i v204 k0_hw1 k0_t2 k0_h1 => k0_hw1.2.2.1.2.2.2.2.2.2.2.2.2.2.2.2.2.2.2.2.2.2.2.2.2.2.2.1 k0_t2 k0_h1
theorem k0_off86_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off86 v204 k0_t2) S1x1x2x8x128.size (k0_off86_inb i v204 k0_hw1 k0_t2 k0_h1)).WholeWords (EltTy.packing .fp8e4m3) := fun i v204 k0_hw1 k0_t2 k0_h1 => k0_hw1.2.2.1.2.2.2.2.2.2.2.2.2.2.2.2.2.2.2.2.2.2.2.2.2.2.2.2.1 k0_t2 k0_h1 (k0_off86_inb i v204 k0_hw1 k0_t2 k0_h1)
theorem k0_off88_inb : ∀ (i : grid0.Coords) (v204 : BitVec 32) (k0_hw1 : k0_chk1 i v204) (k0_t2 : Fin (k0_t2_loop v204).trips), ∀ (k0_h1 : k0_cond1 i = 1#1), ∀ a, (k0_off88 v204 k0_t2) a + S1x1.size a ≤ S96x512.size a := fun i v204 k0_hw1 k0_t2 k0_h1 => k0_hw1.2.2.1.2.2.2.2.2.2.2.2.2.2.2.2.2.2.2.2.2.2.2.2.2.2.2.2.2.1 k0_t2 k0_h1
theorem k0_off89_inb : ∀ (i : grid0.Coords) (v204 : BitVec 32) (k0_hw1 : k0_chk1 i v204) (k0_t2 : Fin (k0_t2_loop v204).trips), ∀ (k0_h1 : k0_cond1 i = 1#1), ∀ a, (k0_off89 v204 k0_t2) a + S1x1x2x8x128.size a ≤ S2x512x2x8x128.size a := fun i v204 k0_hw1 k0_t2 k0_h1 => k0_hw1.2.2.1.2.2.2.2.2.2.2.2.2.2.2.2.2.2.2.2.2.2.2.2.2.2.2.2.2.2.1 k0_t2 k0_h1
theorem k0_off89_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off89 v204 k0_t2) S1x1x2x8x128.size (k0_off89_inb i v204 k0_hw1 k0_t2 k0_h1)).WholeWords (EltTy.packing .fp8e4m3) := fun i v204 k0_hw1 k0_t2 k0_h1 => k0_hw1.2.2.1.2.2.2.2.2.2.2.2.2.2.2.2.2.2.2.2.2.2.2.2.2.2.2.2.2.2.2.1 k0_t2 k0_h1 (k0_off89_inb i v204 k0_hw1 k0_t2 k0_h1)
theorem k0_off91_inb : ∀ (i : grid0.Coords) (v204 : BitVec 32) (k0_hw1 : k0_chk1 i v204) (k0_t2 : Fin (k0_t2_loop v204).trips), ∀ (k0_h1 : k0_cond1 i = 1#1), ∀ a, (k0_off91 v204 k0_t2) a + S1x1.size a ≤ S96x512.size a := fun i v204 k0_hw1 k0_t2 k0_h1 => k0_hw1.2.2.1.2.2.2.2.2.2.2.2.2.2.2.2.2.2.2.2.2.2.2.2.2.2.2.2.2.2.2.2.1 k0_t2 k0_h1
theorem k0_off92_inb : ∀ (i : grid0.Coords) (v204 : BitVec 32) (k0_hw1 : k0_chk1 i v204) (k0_t2 : Fin (k0_t2_loop v204).trips), ∀ (k0_h1 : k0_cond1 i = 1#1), ∀ a, (k0_off92 v204 k0_t2) a + S1x1x2x8x128.size a ≤ S2x512x2x8x128.size a := fun i v204 k0_hw1 k0_t2 k0_h1 => k0_hw1.2.2.1.2.2.2.2.2.2.2.2.2.2.2.2.2.2.2.2.2.2.2.2.2.2.2.2.2.2.2.2.2.1 k0_t2 k0_h1
theorem k0_off92_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off92 v204 k0_t2) S1x1x2x8x128.size (k0_off92_inb i v204 k0_hw1 k0_t2 k0_h1)).WholeWords (EltTy.packing .fp8e4m3) := fun i v204 k0_hw1 k0_t2 k0_h1 => k0_hw1.2.2.1.2.2.2.2.2.2.2.2.2.2.2.2.2.2.2.2.2.2.2.2.2.2.2.2.2.2.2.2.2.2.1 k0_t2 k0_h1 (k0_off92_inb i v204 k0_hw1 k0_t2 k0_h1)
theorem k0_off94_inb : ∀ (i : grid0.Coords) (v204 : BitVec 32) (k0_hw1 : k0_chk1 i v204) (k0_t2 : Fin (k0_t2_loop v204).trips), ∀ (k0_h1 : k0_cond1 i = 1#1), ∀ a, (k0_off94 v204 k0_t2) a + S1x1.size a ≤ S96x512.size a := fun i v204 k0_hw1 k0_t2 k0_h1 => k0_hw1.2.2.1.2.2.2.2.2.2.2.2.2.2.2.2.2.2.2.2.2.2.2.2.2.2.2.2.2.2.2.2.2.2.2 k0_t2 k0_h1
theorem k0_off95_inb : ∀ (i : grid0.Coords) (v204 : BitVec 32) (k0_hw1 : k0_chk1 i v204) (k0_t2 : Fin (k0_t2_loop v204).trips), ∀ (k0_h1 : k0_cond1 i = 1#1), ∀ a, (k0_off95 v204 k0_t2) a + S1x1x2x8x128.size a ≤ S2x512x2x8x128.size a := fun i v204 k0_hw1 k0_t2 k0_h1 => k0_hw1.2.2.2.1 k0_t2 k0_h1
theorem k0_off95_wordsfp8e4m3 : ∀ (i : grid0.Coords) (v204 : BitVec 32) (k0_hw1 : k0_chk1 i v204) (k0_t2 : Fin (k0_t2_loop v204).trips), ∀ (k0_h1 : k0_cond1 i = 1#1), (Rect.unit (s := S2x512x2x8x128) (k0_off95 v204 k0_t2) S1x1x2x8x128.size (k0_off95_inb i v204 k0_hw1 k0_t2 k0_h1)).WholeWords (EltTy.packing .fp8e4m3) := fun i v204 k0_hw1 k0_t2 k0_h1 => k0_hw1.2.2.2.2 k0_t2 k0_h1 (k0_off95_inb i v204 k0_hw1 k0_t2 k0_h1)

def k0_cond2 (i : grid0.Coords) : BitVec 1 :=
  let arg0 : BitVec 32 := BitVec.ofNat 32 (i 0).val
  let c1_i32 : BitVec 32 := 1#32
  let v4 : BitVec 32 := Scalar.addi arg0 c1_i32
  let c96_i32 : BitVec 32 := 96#32
  let v5 : BitVec 1 := Scalar.cmpi .slt v4 c96_i32
  let v6 : BitVec 32 := Scalar.extui v5
  let c0_i32_1 : BitVec 32 := 0#32
  let v7 : BitVec 1 := Scalar.cmpi .ne v6 c0_i32_1
  v7

def k0_off97 (i : grid0.Coords) : Fin 1 → Nat :=
  let arg0 : BitVec 32 := BitVec.ofNat 32 (i 0).val
  let c1_i32_68 : BitVec 32 := 1#32
  let v204 : BitVec 32 := Scalar.addi arg0 c1_i32_68
  let v206 : Index := Scalar.indexCast v204
  ![v206.toNat]
@[reducible] def k0_t3_loop (v207 : BitVec 32) : Scf.Loop 32 :=
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_75 : BitVec 32 := 1#32
  ⟨c0_i32_72, v214, c1_i32_75⟩

def k0_off98 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v219 : Index := Scalar.indexCast v204
  let c0_i32_72 : BitVec 32 := 0#32
  let c1_i32_75 : BitVec 32 := 1#32
  let arg9 : BitVec 32 := Scf.iv c0_i32_72 c1_i32_75 k0_t3
  let c16_i32 : BitVec 32 := 16#32
  let v217 : BitVec 32 := Scalar.muli arg9 c16_i32
  let c0_i32_77 : BitVec 32 := 0#32
  let v218 : BitVec 32 := Scalar.addi v217 c0_i32_77
  let v220 : Index := Scalar.indexCast v218
  ![v219.toNat, v220.toNat]
def k0_off99 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off100 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32 : BitVec 32 := 16#32
  let v217 : BitVec 32 := Scalar.muli arg9 c16_i32
  let c0_i32_77 : BitVec 32 := 0#32
  let v218 : BitVec 32 := Scalar.addi v217 c0_i32_77
  let c0_i32_78 : BitVec 32 := 0#32
  let c0_i32_79 : BitVec 32 := 0#32
  let c0_i32_80 : BitVec 32 := 0#32
  ![v205.toNat, v218.toNat, 0, 0, 0]
def k0_off101 (v221 : BitVec 32) : Fin 4 → Nat :=
  let c0_i32_81 : BitVec 32 := 0#32
  let c0_i32_82 : BitVec 32 := 0#32
  let c0_i32_83 : BitVec 32 := 0#32
  ![v221.toNat, 0, 0, 0]

def k0_chk35 (i : grid0.Coords) (v221 : BitVec 32) : Prop :=
  (∀ (k0_h2 : k0_cond2 i = 1#1), ∀ a, (k0_off101 v221) a + S1x2x8x128.size a ≤ S61440x2x8x128.size a) ∧
  (∀ (k0_h2 : k0_cond2 i = 1#1), ∀ (hinb : ∀ a, (k0_off101 v221) a + S1x2x8x128.size a ≤ S61440x2x8x128.size a), (Rect.unit (s := S61440x2x8x128) (k0_off101 v221) S1x2x8x128.size hinb).WholeWords (EltTy.packing .fp8e4m3))
theorem k0_off101_inb : ∀ (i : grid0.Coords) (v221 : BitVec 32) (k0_hw35 : k0_chk35 i v221), ∀ (k0_h2 : k0_cond2 i = 1#1), ∀ a, (k0_off101 v221) a + S1x2x8x128.size a ≤ S61440x2x8x128.size a := fun i v221 k0_hw35 k0_h2 => k0_hw35.1 k0_h2
theorem k0_off101_wordsfp8e4m3 : ∀ (i : grid0.Coords) (v221 : BitVec 32) (k0_hw35 : k0_chk35 i v221), ∀ (k0_h2 : k0_cond2 i = 1#1), (Rect.unit (s := S61440x2x8x128) (k0_off101 v221) S1x2x8x128.size (k0_off101_inb i v221 k0_hw35 k0_h2)).WholeWords (EltTy.packing .fp8e4m3) := fun i v221 k0_hw35 k0_h2 => k0_hw35.2 k0_h2 (k0_off101_inb i v221 k0_hw35 k0_h2)

def k0_off102 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v230 : Index := Scalar.indexCast v204
  let c0_i32_72 : BitVec 32 := 0#32
  let c1_i32_75 : BitVec 32 := 1#32
  let arg9 : BitVec 32 := Scf.iv c0_i32_72 c1_i32_75 k0_t3
  let c16_i32_84 : BitVec 32 := 16#32
  let v228 : BitVec 32 := Scalar.muli arg9 c16_i32_84
  let c1_i32_85 : BitVec 32 := 1#32
  let v229 : BitVec 32 := Scalar.addi v228 c1_i32_85
  let v231 : Index := Scalar.indexCast v229
  ![v230.toNat, v231.toNat]
def k0_off103 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off104 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_84 : BitVec 32 := 16#32
  let v228 : BitVec 32 := Scalar.muli arg9 c16_i32_84
  let c1_i32_85 : BitVec 32 := 1#32
  let v229 : BitVec 32 := Scalar.addi v228 c1_i32_85
  let c0_i32_86 : BitVec 32 := 0#32
  let c0_i32_87 : BitVec 32 := 0#32
  let c0_i32_88 : BitVec 32 := 0#32
  ![v205.toNat, v229.toNat, 0, 0, 0]
def k0_off105 (v232 : BitVec 32) : Fin 4 → Nat :=
  let c0_i32_89 : BitVec 32 := 0#32
  let c0_i32_90 : BitVec 32 := 0#32
  let c0_i32_91 : BitVec 32 := 0#32
  ![v232.toNat, 0, 0, 0]

def k0_chk36 (i : grid0.Coords) (v232 : BitVec 32) : Prop :=
  (∀ (k0_h2 : k0_cond2 i = 1#1), ∀ a, (k0_off105 v232) a + S1x2x8x128.size a ≤ S61440x2x8x128.size a) ∧
  (∀ (k0_h2 : k0_cond2 i = 1#1), ∀ (hinb : ∀ a, (k0_off105 v232) a + S1x2x8x128.size a ≤ S61440x2x8x128.size a), (Rect.unit (s := S61440x2x8x128) (k0_off105 v232) S1x2x8x128.size hinb).WholeWords (EltTy.packing .fp8e4m3))
theorem k0_off105_inb : ∀ (i : grid0.Coords) (v232 : BitVec 32) (k0_hw36 : k0_chk36 i v232), ∀ (k0_h2 : k0_cond2 i = 1#1), ∀ a, (k0_off105 v232) a + S1x2x8x128.size a ≤ S61440x2x8x128.size a := fun i v232 k0_hw36 k0_h2 => k0_hw36.1 k0_h2
theorem k0_off105_wordsfp8e4m3 : ∀ (i : grid0.Coords) (v232 : BitVec 32) (k0_hw36 : k0_chk36 i v232), ∀ (k0_h2 : k0_cond2 i = 1#1), (Rect.unit (s := S61440x2x8x128) (k0_off105 v232) S1x2x8x128.size (k0_off105_inb i v232 k0_hw36 k0_h2)).WholeWords (EltTy.packing .fp8e4m3) := fun i v232 k0_hw36 k0_h2 => k0_hw36.2 k0_h2 (k0_off105_inb i v232 k0_hw36 k0_h2)

def k0_off106 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v241 : Index := Scalar.indexCast v204
  let c0_i32_72 : BitVec 32 := 0#32
  let c1_i32_75 : BitVec 32 := 1#32
  let arg9 : BitVec 32 := Scf.iv c0_i32_72 c1_i32_75 k0_t3
  let c16_i32_92 : BitVec 32 := 16#32
  let v239 : BitVec 32 := Scalar.muli arg9 c16_i32_92
  let c2_i32_93 : BitVec 32 := 2#32
  let v240 : BitVec 32 := Scalar.addi v239 c2_i32_93
  let v242 : Index := Scalar.indexCast v240
  ![v241.toNat, v242.toNat]
def k0_off107 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off108 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_92 : BitVec 32 := 16#32
  let v239 : BitVec 32 := Scalar.muli arg9 c16_i32_92
  let c2_i32_93 : BitVec 32 := 2#32
  let v240 : BitVec 32 := Scalar.addi v239 c2_i32_93
  let c0_i32_94 : BitVec 32 := 0#32
  let c0_i32_95 : BitVec 32 := 0#32
  let c0_i32_96 : BitVec 32 := 0#32
  ![v205.toNat, v240.toNat, 0, 0, 0]
def k0_off109 (v243 : BitVec 32) : Fin 4 → Nat :=
  let c0_i32_97 : BitVec 32 := 0#32
  let c0_i32_98 : BitVec 32 := 0#32
  let c0_i32_99 : BitVec 32 := 0#32
  ![v243.toNat, 0, 0, 0]

def k0_chk37 (i : grid0.Coords) (v243 : BitVec 32) : Prop :=
  (∀ (k0_h2 : k0_cond2 i = 1#1), ∀ a, (k0_off109 v243) a + S1x2x8x128.size a ≤ S61440x2x8x128.size a) ∧
  (∀ (k0_h2 : k0_cond2 i = 1#1), ∀ (hinb : ∀ a, (k0_off109 v243) a + S1x2x8x128.size a ≤ S61440x2x8x128.size a), (Rect.unit (s := S61440x2x8x128) (k0_off109 v243) S1x2x8x128.size hinb).WholeWords (EltTy.packing .fp8e4m3))
theorem k0_off109_inb : ∀ (i : grid0.Coords) (v243 : BitVec 32) (k0_hw37 : k0_chk37 i v243), ∀ (k0_h2 : k0_cond2 i = 1#1), ∀ a, (k0_off109 v243) a + S1x2x8x128.size a ≤ S61440x2x8x128.size a := fun i v243 k0_hw37 k0_h2 => k0_hw37.1 k0_h2
theorem k0_off109_wordsfp8e4m3 : ∀ (i : grid0.Coords) (v243 : BitVec 32) (k0_hw37 : k0_chk37 i v243), ∀ (k0_h2 : k0_cond2 i = 1#1), (Rect.unit (s := S61440x2x8x128) (k0_off109 v243) S1x2x8x128.size (k0_off109_inb i v243 k0_hw37 k0_h2)).WholeWords (EltTy.packing .fp8e4m3) := fun i v243 k0_hw37 k0_h2 => k0_hw37.2 k0_h2 (k0_off109_inb i v243 k0_hw37 k0_h2)

def k0_off110 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v252 : Index := Scalar.indexCast v204
  let c0_i32_72 : BitVec 32 := 0#32
  let c1_i32_75 : BitVec 32 := 1#32
  let arg9 : BitVec 32 := Scf.iv c0_i32_72 c1_i32_75 k0_t3
  let c16_i32_100 : BitVec 32 := 16#32
  let v250 : BitVec 32 := Scalar.muli arg9 c16_i32_100
  let c3_i32 : BitVec 32 := 3#32
  let v251 : BitVec 32 := Scalar.addi v250 c3_i32
  let v253 : Index := Scalar.indexCast v251
  ![v252.toNat, v253.toNat]
def k0_off111 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off112 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_100 : BitVec 32 := 16#32
  let v250 : BitVec 32 := Scalar.muli arg9 c16_i32_100
  let c3_i32 : BitVec 32 := 3#32
  let v251 : BitVec 32 := Scalar.addi v250 c3_i32
  let c0_i32_101 : BitVec 32 := 0#32
  let c0_i32_102 : BitVec 32 := 0#32
  let c0_i32_103 : BitVec 32 := 0#32
  ![v205.toNat, v251.toNat, 0, 0, 0]
def k0_off113 (v254 : BitVec 32) : Fin 4 → Nat :=
  let c0_i32_104 : BitVec 32 := 0#32
  let c0_i32_105 : BitVec 32 := 0#32
  let c0_i32_106 : BitVec 32 := 0#32
  ![v254.toNat, 0, 0, 0]

def k0_chk38 (i : grid0.Coords) (v254 : BitVec 32) : Prop :=
  (∀ (k0_h2 : k0_cond2 i = 1#1), ∀ a, (k0_off113 v254) a + S1x2x8x128.size a ≤ S61440x2x8x128.size a) ∧
  (∀ (k0_h2 : k0_cond2 i = 1#1), ∀ (hinb : ∀ a, (k0_off113 v254) a + S1x2x8x128.size a ≤ S61440x2x8x128.size a), (Rect.unit (s := S61440x2x8x128) (k0_off113 v254) S1x2x8x128.size hinb).WholeWords (EltTy.packing .fp8e4m3))
theorem k0_off113_inb : ∀ (i : grid0.Coords) (v254 : BitVec 32) (k0_hw38 : k0_chk38 i v254), ∀ (k0_h2 : k0_cond2 i = 1#1), ∀ a, (k0_off113 v254) a + S1x2x8x128.size a ≤ S61440x2x8x128.size a := fun i v254 k0_hw38 k0_h2 => k0_hw38.1 k0_h2
theorem k0_off113_wordsfp8e4m3 : ∀ (i : grid0.Coords) (v254 : BitVec 32) (k0_hw38 : k0_chk38 i v254), ∀ (k0_h2 : k0_cond2 i = 1#1), (Rect.unit (s := S61440x2x8x128) (k0_off113 v254) S1x2x8x128.size (k0_off113_inb i v254 k0_hw38 k0_h2)).WholeWords (EltTy.packing .fp8e4m3) := fun i v254 k0_hw38 k0_h2 => k0_hw38.2 k0_h2 (k0_off113_inb i v254 k0_hw38 k0_h2)

def k0_off114 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v263 : Index := Scalar.indexCast v204
  let c0_i32_72 : BitVec 32 := 0#32
  let c1_i32_75 : BitVec 32 := 1#32
  let arg9 : BitVec 32 := Scf.iv c0_i32_72 c1_i32_75 k0_t3
  let c16_i32_107 : BitVec 32 := 16#32
  let v261 : BitVec 32 := Scalar.muli arg9 c16_i32_107
  let c4_i32_108 : BitVec 32 := 4#32
  let v262 : BitVec 32 := Scalar.addi v261 c4_i32_108
  let v264 : Index := Scalar.indexCast v262
  ![v263.toNat, v264.toNat]
def k0_off115 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off116 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_107 : BitVec 32 := 16#32
  let v261 : BitVec 32 := Scalar.muli arg9 c16_i32_107
  let c4_i32_108 : BitVec 32 := 4#32
  let v262 : BitVec 32 := Scalar.addi v261 c4_i32_108
  let c0_i32_109 : BitVec 32 := 0#32
  let c0_i32_110 : BitVec 32 := 0#32
  let c0_i32_111 : BitVec 32 := 0#32
  ![v205.toNat, v262.toNat, 0, 0, 0]
def k0_off117 (v265 : BitVec 32) : Fin 4 → Nat :=
  let c0_i32_112 : BitVec 32 := 0#32
  let c0_i32_113 : BitVec 32 := 0#32
  let c0_i32_114 : BitVec 32 := 0#32
  ![v265.toNat, 0, 0, 0]

def k0_chk39 (i : grid0.Coords) (v265 : BitVec 32) : Prop :=
  (∀ (k0_h2 : k0_cond2 i = 1#1), ∀ a, (k0_off117 v265) a + S1x2x8x128.size a ≤ S61440x2x8x128.size a) ∧
  (∀ (k0_h2 : k0_cond2 i = 1#1), ∀ (hinb : ∀ a, (k0_off117 v265) a + S1x2x8x128.size a ≤ S61440x2x8x128.size a), (Rect.unit (s := S61440x2x8x128) (k0_off117 v265) S1x2x8x128.size hinb).WholeWords (EltTy.packing .fp8e4m3))
theorem k0_off117_inb : ∀ (i : grid0.Coords) (v265 : BitVec 32) (k0_hw39 : k0_chk39 i v265), ∀ (k0_h2 : k0_cond2 i = 1#1), ∀ a, (k0_off117 v265) a + S1x2x8x128.size a ≤ S61440x2x8x128.size a := fun i v265 k0_hw39 k0_h2 => k0_hw39.1 k0_h2
theorem k0_off117_wordsfp8e4m3 : ∀ (i : grid0.Coords) (v265 : BitVec 32) (k0_hw39 : k0_chk39 i v265), ∀ (k0_h2 : k0_cond2 i = 1#1), (Rect.unit (s := S61440x2x8x128) (k0_off117 v265) S1x2x8x128.size (k0_off117_inb i v265 k0_hw39 k0_h2)).WholeWords (EltTy.packing .fp8e4m3) := fun i v265 k0_hw39 k0_h2 => k0_hw39.2 k0_h2 (k0_off117_inb i v265 k0_hw39 k0_h2)

def k0_off118 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v274 : Index := Scalar.indexCast v204
  let c0_i32_72 : BitVec 32 := 0#32
  let c1_i32_75 : BitVec 32 := 1#32
  let arg9 : BitVec 32 := Scf.iv c0_i32_72 c1_i32_75 k0_t3
  let c16_i32_115 : BitVec 32 := 16#32
  let v272 : BitVec 32 := Scalar.muli arg9 c16_i32_115
  let c5_i32 : BitVec 32 := 5#32
  let v273 : BitVec 32 := Scalar.addi v272 c5_i32
  let v275 : Index := Scalar.indexCast v273
  ![v274.toNat, v275.toNat]
def k0_off119 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off120 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_115 : BitVec 32 := 16#32
  let v272 : BitVec 32 := Scalar.muli arg9 c16_i32_115
  let c5_i32 : BitVec 32 := 5#32
  let v273 : BitVec 32 := Scalar.addi v272 c5_i32
  let c0_i32_116 : BitVec 32 := 0#32
  let c0_i32_117 : BitVec 32 := 0#32
  let c0_i32_118 : BitVec 32 := 0#32
  ![v205.toNat, v273.toNat, 0, 0, 0]
def k0_off121 (v276 : BitVec 32) : Fin 4 → Nat :=
  let c0_i32_119 : BitVec 32 := 0#32
  let c0_i32_120 : BitVec 32 := 0#32
  let c0_i32_121 : BitVec 32 := 0#32
  ![v276.toNat, 0, 0, 0]

def k0_chk40 (i : grid0.Coords) (v276 : BitVec 32) : Prop :=
  (∀ (k0_h2 : k0_cond2 i = 1#1), ∀ a, (k0_off121 v276) a + S1x2x8x128.size a ≤ S61440x2x8x128.size a) ∧
  (∀ (k0_h2 : k0_cond2 i = 1#1), ∀ (hinb : ∀ a, (k0_off121 v276) a + S1x2x8x128.size a ≤ S61440x2x8x128.size a), (Rect.unit (s := S61440x2x8x128) (k0_off121 v276) S1x2x8x128.size hinb).WholeWords (EltTy.packing .fp8e4m3))
theorem k0_off121_inb : ∀ (i : grid0.Coords) (v276 : BitVec 32) (k0_hw40 : k0_chk40 i v276), ∀ (k0_h2 : k0_cond2 i = 1#1), ∀ a, (k0_off121 v276) a + S1x2x8x128.size a ≤ S61440x2x8x128.size a := fun i v276 k0_hw40 k0_h2 => k0_hw40.1 k0_h2
theorem k0_off121_wordsfp8e4m3 : ∀ (i : grid0.Coords) (v276 : BitVec 32) (k0_hw40 : k0_chk40 i v276), ∀ (k0_h2 : k0_cond2 i = 1#1), (Rect.unit (s := S61440x2x8x128) (k0_off121 v276) S1x2x8x128.size (k0_off121_inb i v276 k0_hw40 k0_h2)).WholeWords (EltTy.packing .fp8e4m3) := fun i v276 k0_hw40 k0_h2 => k0_hw40.2 k0_h2 (k0_off121_inb i v276 k0_hw40 k0_h2)

def k0_off122 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v285 : Index := Scalar.indexCast v204
  let c0_i32_72 : BitVec 32 := 0#32
  let c1_i32_75 : BitVec 32 := 1#32
  let arg9 : BitVec 32 := Scf.iv c0_i32_72 c1_i32_75 k0_t3
  let c16_i32_122 : BitVec 32 := 16#32
  let v283 : BitVec 32 := Scalar.muli arg9 c16_i32_122
  let c6_i32 : BitVec 32 := 6#32
  let v284 : BitVec 32 := Scalar.addi v283 c6_i32
  let v286 : Index := Scalar.indexCast v284
  ![v285.toNat, v286.toNat]
def k0_off123 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off124 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_122 : BitVec 32 := 16#32
  let v283 : BitVec 32 := Scalar.muli arg9 c16_i32_122
  let c6_i32 : BitVec 32 := 6#32
  let v284 : BitVec 32 := Scalar.addi v283 c6_i32
  let c0_i32_123 : BitVec 32 := 0#32
  let c0_i32_124 : BitVec 32 := 0#32
  let c0_i32_125 : BitVec 32 := 0#32
  ![v205.toNat, v284.toNat, 0, 0, 0]
def k0_off125 (v287 : BitVec 32) : Fin 4 → Nat :=
  let c0_i32_126 : BitVec 32 := 0#32
  let c0_i32_127 : BitVec 32 := 0#32
  let c0_i32_128 : BitVec 32 := 0#32
  ![v287.toNat, 0, 0, 0]

def k0_chk41 (i : grid0.Coords) (v287 : BitVec 32) : Prop :=
  (∀ (k0_h2 : k0_cond2 i = 1#1), ∀ a, (k0_off125 v287) a + S1x2x8x128.size a ≤ S61440x2x8x128.size a) ∧
  (∀ (k0_h2 : k0_cond2 i = 1#1), ∀ (hinb : ∀ a, (k0_off125 v287) a + S1x2x8x128.size a ≤ S61440x2x8x128.size a), (Rect.unit (s := S61440x2x8x128) (k0_off125 v287) S1x2x8x128.size hinb).WholeWords (EltTy.packing .fp8e4m3))
theorem k0_off125_inb : ∀ (i : grid0.Coords) (v287 : BitVec 32) (k0_hw41 : k0_chk41 i v287), ∀ (k0_h2 : k0_cond2 i = 1#1), ∀ a, (k0_off125 v287) a + S1x2x8x128.size a ≤ S61440x2x8x128.size a := fun i v287 k0_hw41 k0_h2 => k0_hw41.1 k0_h2
theorem k0_off125_wordsfp8e4m3 : ∀ (i : grid0.Coords) (v287 : BitVec 32) (k0_hw41 : k0_chk41 i v287), ∀ (k0_h2 : k0_cond2 i = 1#1), (Rect.unit (s := S61440x2x8x128) (k0_off125 v287) S1x2x8x128.size (k0_off125_inb i v287 k0_hw41 k0_h2)).WholeWords (EltTy.packing .fp8e4m3) := fun i v287 k0_hw41 k0_h2 => k0_hw41.2 k0_h2 (k0_off125_inb i v287 k0_hw41 k0_h2)

def k0_off126 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v296 : Index := Scalar.indexCast v204
  let c0_i32_72 : BitVec 32 := 0#32
  let c1_i32_75 : BitVec 32 := 1#32
  let arg9 : BitVec 32 := Scf.iv c0_i32_72 c1_i32_75 k0_t3
  let c16_i32_129 : BitVec 32 := 16#32
  let v294 : BitVec 32 := Scalar.muli arg9 c16_i32_129
  let c7_i32 : BitVec 32 := 7#32
  let v295 : BitVec 32 := Scalar.addi v294 c7_i32
  let v297 : Index := Scalar.indexCast v295
  ![v296.toNat, v297.toNat]
def k0_off127 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off128 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_129 : BitVec 32 := 16#32
  let v294 : BitVec 32 := Scalar.muli arg9 c16_i32_129
  let c7_i32 : BitVec 32 := 7#32
  let v295 : BitVec 32 := Scalar.addi v294 c7_i32
  let c0_i32_130 : BitVec 32 := 0#32
  let c0_i32_131 : BitVec 32 := 0#32
  let c0_i32_132 : BitVec 32 := 0#32
  ![v205.toNat, v295.toNat, 0, 0, 0]
def k0_off129 (v298 : BitVec 32) : Fin 4 → Nat :=
  let c0_i32_133 : BitVec 32 := 0#32
  let c0_i32_134 : BitVec 32 := 0#32
  let c0_i32_135 : BitVec 32 := 0#32
  ![v298.toNat, 0, 0, 0]

def k0_chk42 (i : grid0.Coords) (v298 : BitVec 32) : Prop :=
  (∀ (k0_h2 : k0_cond2 i = 1#1), ∀ a, (k0_off129 v298) a + S1x2x8x128.size a ≤ S61440x2x8x128.size a) ∧
  (∀ (k0_h2 : k0_cond2 i = 1#1), ∀ (hinb : ∀ a, (k0_off129 v298) a + S1x2x8x128.size a ≤ S61440x2x8x128.size a), (Rect.unit (s := S61440x2x8x128) (k0_off129 v298) S1x2x8x128.size hinb).WholeWords (EltTy.packing .fp8e4m3))
theorem k0_off129_inb : ∀ (i : grid0.Coords) (v298 : BitVec 32) (k0_hw42 : k0_chk42 i v298), ∀ (k0_h2 : k0_cond2 i = 1#1), ∀ a, (k0_off129 v298) a + S1x2x8x128.size a ≤ S61440x2x8x128.size a := fun i v298 k0_hw42 k0_h2 => k0_hw42.1 k0_h2
theorem k0_off129_wordsfp8e4m3 : ∀ (i : grid0.Coords) (v298 : BitVec 32) (k0_hw42 : k0_chk42 i v298), ∀ (k0_h2 : k0_cond2 i = 1#1), (Rect.unit (s := S61440x2x8x128) (k0_off129 v298) S1x2x8x128.size (k0_off129_inb i v298 k0_hw42 k0_h2)).WholeWords (EltTy.packing .fp8e4m3) := fun i v298 k0_hw42 k0_h2 => k0_hw42.2 k0_h2 (k0_off129_inb i v298 k0_hw42 k0_h2)

def k0_off130 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v307 : Index := Scalar.indexCast v204
  let c0_i32_72 : BitVec 32 := 0#32
  let c1_i32_75 : BitVec 32 := 1#32
  let arg9 : BitVec 32 := Scf.iv c0_i32_72 c1_i32_75 k0_t3
  let c16_i32_136 : BitVec 32 := 16#32
  let v305 : BitVec 32 := Scalar.muli arg9 c16_i32_136
  let c8_i32 : BitVec 32 := 8#32
  let v306 : BitVec 32 := Scalar.addi v305 c8_i32
  let v308 : Index := Scalar.indexCast v306
  ![v307.toNat, v308.toNat]
def k0_off131 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off132 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_136 : BitVec 32 := 16#32
  let v305 : BitVec 32 := Scalar.muli arg9 c16_i32_136
  let c8_i32 : BitVec 32 := 8#32
  let v306 : BitVec 32 := Scalar.addi v305 c8_i32
  let c0_i32_137 : BitVec 32 := 0#32
  let c0_i32_138 : BitVec 32 := 0#32
  let c0_i32_139 : BitVec 32 := 0#32
  ![v205.toNat, v306.toNat, 0, 0, 0]
def k0_off133 (v309 : BitVec 32) : Fin 4 → Nat :=
  let c0_i32_140 : BitVec 32 := 0#32
  let c0_i32_141 : BitVec 32 := 0#32
  let c0_i32_142 : BitVec 32 := 0#32
  ![v309.toNat, 0, 0, 0]

def k0_chk43 (i : grid0.Coords) (v309 : BitVec 32) : Prop :=
  (∀ (k0_h2 : k0_cond2 i = 1#1), ∀ a, (k0_off133 v309) a + S1x2x8x128.size a ≤ S61440x2x8x128.size a) ∧
  (∀ (k0_h2 : k0_cond2 i = 1#1), ∀ (hinb : ∀ a, (k0_off133 v309) a + S1x2x8x128.size a ≤ S61440x2x8x128.size a), (Rect.unit (s := S61440x2x8x128) (k0_off133 v309) S1x2x8x128.size hinb).WholeWords (EltTy.packing .fp8e4m3))
theorem k0_off133_inb : ∀ (i : grid0.Coords) (v309 : BitVec 32) (k0_hw43 : k0_chk43 i v309), ∀ (k0_h2 : k0_cond2 i = 1#1), ∀ a, (k0_off133 v309) a + S1x2x8x128.size a ≤ S61440x2x8x128.size a := fun i v309 k0_hw43 k0_h2 => k0_hw43.1 k0_h2
theorem k0_off133_wordsfp8e4m3 : ∀ (i : grid0.Coords) (v309 : BitVec 32) (k0_hw43 : k0_chk43 i v309), ∀ (k0_h2 : k0_cond2 i = 1#1), (Rect.unit (s := S61440x2x8x128) (k0_off133 v309) S1x2x8x128.size (k0_off133_inb i v309 k0_hw43 k0_h2)).WholeWords (EltTy.packing .fp8e4m3) := fun i v309 k0_hw43 k0_h2 => k0_hw43.2 k0_h2 (k0_off133_inb i v309 k0_hw43 k0_h2)

def k0_off134 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v318 : Index := Scalar.indexCast v204
  let c0_i32_72 : BitVec 32 := 0#32
  let c1_i32_75 : BitVec 32 := 1#32
  let arg9 : BitVec 32 := Scf.iv c0_i32_72 c1_i32_75 k0_t3
  let c16_i32_143 : BitVec 32 := 16#32
  let v316 : BitVec 32 := Scalar.muli arg9 c16_i32_143
  let c9_i32 : BitVec 32 := 9#32
  let v317 : BitVec 32 := Scalar.addi v316 c9_i32
  let v319 : Index := Scalar.indexCast v317
  ![v318.toNat, v319.toNat]
def k0_off135 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off136 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_143 : BitVec 32 := 16#32
  let v316 : BitVec 32 := Scalar.muli arg9 c16_i32_143
  let c9_i32 : BitVec 32 := 9#32
  let v317 : BitVec 32 := Scalar.addi v316 c9_i32
  let c0_i32_144 : BitVec 32 := 0#32
  let c0_i32_145 : BitVec 32 := 0#32
  let c0_i32_146 : BitVec 32 := 0#32
  ![v205.toNat, v317.toNat, 0, 0, 0]
def k0_off137 (v320 : BitVec 32) : Fin 4 → Nat :=
  let c0_i32_147 : BitVec 32 := 0#32
  let c0_i32_148 : BitVec 32 := 0#32
  let c0_i32_149 : BitVec 32 := 0#32
  ![v320.toNat, 0, 0, 0]

def k0_chk44 (i : grid0.Coords) (v320 : BitVec 32) : Prop :=
  (∀ (k0_h2 : k0_cond2 i = 1#1), ∀ a, (k0_off137 v320) a + S1x2x8x128.size a ≤ S61440x2x8x128.size a) ∧
  (∀ (k0_h2 : k0_cond2 i = 1#1), ∀ (hinb : ∀ a, (k0_off137 v320) a + S1x2x8x128.size a ≤ S61440x2x8x128.size a), (Rect.unit (s := S61440x2x8x128) (k0_off137 v320) S1x2x8x128.size hinb).WholeWords (EltTy.packing .fp8e4m3))
theorem k0_off137_inb : ∀ (i : grid0.Coords) (v320 : BitVec 32) (k0_hw44 : k0_chk44 i v320), ∀ (k0_h2 : k0_cond2 i = 1#1), ∀ a, (k0_off137 v320) a + S1x2x8x128.size a ≤ S61440x2x8x128.size a := fun i v320 k0_hw44 k0_h2 => k0_hw44.1 k0_h2
theorem k0_off137_wordsfp8e4m3 : ∀ (i : grid0.Coords) (v320 : BitVec 32) (k0_hw44 : k0_chk44 i v320), ∀ (k0_h2 : k0_cond2 i = 1#1), (Rect.unit (s := S61440x2x8x128) (k0_off137 v320) S1x2x8x128.size (k0_off137_inb i v320 k0_hw44 k0_h2)).WholeWords (EltTy.packing .fp8e4m3) := fun i v320 k0_hw44 k0_h2 => k0_hw44.2 k0_h2 (k0_off137_inb i v320 k0_hw44 k0_h2)

def k0_off138 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v329 : Index := Scalar.indexCast v204
  let c0_i32_72 : BitVec 32 := 0#32
  let c1_i32_75 : BitVec 32 := 1#32
  let arg9 : BitVec 32 := Scf.iv c0_i32_72 c1_i32_75 k0_t3
  let c16_i32_150 : BitVec 32 := 16#32
  let v327 : BitVec 32 := Scalar.muli arg9 c16_i32_150
  let c10_i32 : BitVec 32 := 10#32
  let v328 : BitVec 32 := Scalar.addi v327 c10_i32
  let v330 : Index := Scalar.indexCast v328
  ![v329.toNat, v330.toNat]
def k0_off139 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off140 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_150 : BitVec 32 := 16#32
  let v327 : BitVec 32 := Scalar.muli arg9 c16_i32_150
  let c10_i32 : BitVec 32 := 10#32
  let v328 : BitVec 32 := Scalar.addi v327 c10_i32
  let c0_i32_151 : BitVec 32 := 0#32
  let c0_i32_152 : BitVec 32 := 0#32
  let c0_i32_153 : BitVec 32 := 0#32
  ![v205.toNat, v328.toNat, 0, 0, 0]
def k0_off141 (v331 : BitVec 32) : Fin 4 → Nat :=
  let c0_i32_154 : BitVec 32 := 0#32
  let c0_i32_155 : BitVec 32 := 0#32
  let c0_i32_156 : BitVec 32 := 0#32
  ![v331.toNat, 0, 0, 0]

def k0_chk45 (i : grid0.Coords) (v331 : BitVec 32) : Prop :=
  (∀ (k0_h2 : k0_cond2 i = 1#1), ∀ a, (k0_off141 v331) a + S1x2x8x128.size a ≤ S61440x2x8x128.size a) ∧
  (∀ (k0_h2 : k0_cond2 i = 1#1), ∀ (hinb : ∀ a, (k0_off141 v331) a + S1x2x8x128.size a ≤ S61440x2x8x128.size a), (Rect.unit (s := S61440x2x8x128) (k0_off141 v331) S1x2x8x128.size hinb).WholeWords (EltTy.packing .fp8e4m3))
theorem k0_off141_inb : ∀ (i : grid0.Coords) (v331 : BitVec 32) (k0_hw45 : k0_chk45 i v331), ∀ (k0_h2 : k0_cond2 i = 1#1), ∀ a, (k0_off141 v331) a + S1x2x8x128.size a ≤ S61440x2x8x128.size a := fun i v331 k0_hw45 k0_h2 => k0_hw45.1 k0_h2
theorem k0_off141_wordsfp8e4m3 : ∀ (i : grid0.Coords) (v331 : BitVec 32) (k0_hw45 : k0_chk45 i v331), ∀ (k0_h2 : k0_cond2 i = 1#1), (Rect.unit (s := S61440x2x8x128) (k0_off141 v331) S1x2x8x128.size (k0_off141_inb i v331 k0_hw45 k0_h2)).WholeWords (EltTy.packing .fp8e4m3) := fun i v331 k0_hw45 k0_h2 => k0_hw45.2 k0_h2 (k0_off141_inb i v331 k0_hw45 k0_h2)

def k0_off142 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v340 : Index := Scalar.indexCast v204
  let c0_i32_72 : BitVec 32 := 0#32
  let c1_i32_75 : BitVec 32 := 1#32
  let arg9 : BitVec 32 := Scf.iv c0_i32_72 c1_i32_75 k0_t3
  let c16_i32_157 : BitVec 32 := 16#32
  let v338 : BitVec 32 := Scalar.muli arg9 c16_i32_157
  let c11_i32 : BitVec 32 := 11#32
  let v339 : BitVec 32 := Scalar.addi v338 c11_i32
  let v341 : Index := Scalar.indexCast v339
  ![v340.toNat, v341.toNat]
def k0_off143 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off144 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_157 : BitVec 32 := 16#32
  let v338 : BitVec 32 := Scalar.muli arg9 c16_i32_157
  let c11_i32 : BitVec 32 := 11#32
  let v339 : BitVec 32 := Scalar.addi v338 c11_i32
  let c0_i32_158 : BitVec 32 := 0#32
  let c0_i32_159 : BitVec 32 := 0#32
  let c0_i32_160 : BitVec 32 := 0#32
  ![v205.toNat, v339.toNat, 0, 0, 0]
def k0_off145 (v342 : BitVec 32) : Fin 4 → Nat :=
  let c0_i32_161 : BitVec 32 := 0#32
  let c0_i32_162 : BitVec 32 := 0#32
  let c0_i32_163 : BitVec 32 := 0#32
  ![v342.toNat, 0, 0, 0]

def k0_chk46 (i : grid0.Coords) (v342 : BitVec 32) : Prop :=
  (∀ (k0_h2 : k0_cond2 i = 1#1), ∀ a, (k0_off145 v342) a + S1x2x8x128.size a ≤ S61440x2x8x128.size a) ∧
  (∀ (k0_h2 : k0_cond2 i = 1#1), ∀ (hinb : ∀ a, (k0_off145 v342) a + S1x2x8x128.size a ≤ S61440x2x8x128.size a), (Rect.unit (s := S61440x2x8x128) (k0_off145 v342) S1x2x8x128.size hinb).WholeWords (EltTy.packing .fp8e4m3))
theorem k0_off145_inb : ∀ (i : grid0.Coords) (v342 : BitVec 32) (k0_hw46 : k0_chk46 i v342), ∀ (k0_h2 : k0_cond2 i = 1#1), ∀ a, (k0_off145 v342) a + S1x2x8x128.size a ≤ S61440x2x8x128.size a := fun i v342 k0_hw46 k0_h2 => k0_hw46.1 k0_h2
theorem k0_off145_wordsfp8e4m3 : ∀ (i : grid0.Coords) (v342 : BitVec 32) (k0_hw46 : k0_chk46 i v342), ∀ (k0_h2 : k0_cond2 i = 1#1), (Rect.unit (s := S61440x2x8x128) (k0_off145 v342) S1x2x8x128.size (k0_off145_inb i v342 k0_hw46 k0_h2)).WholeWords (EltTy.packing .fp8e4m3) := fun i v342 k0_hw46 k0_h2 => k0_hw46.2 k0_h2 (k0_off145_inb i v342 k0_hw46 k0_h2)

def k0_off146 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v351 : Index := Scalar.indexCast v204
  let c0_i32_72 : BitVec 32 := 0#32
  let c1_i32_75 : BitVec 32 := 1#32
  let arg9 : BitVec 32 := Scf.iv c0_i32_72 c1_i32_75 k0_t3
  let c16_i32_164 : BitVec 32 := 16#32
  let v349 : BitVec 32 := Scalar.muli arg9 c16_i32_164
  let c12_i32 : BitVec 32 := 12#32
  let v350 : BitVec 32 := Scalar.addi v349 c12_i32
  let v352 : Index := Scalar.indexCast v350
  ![v351.toNat, v352.toNat]
def k0_off147 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off148 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_164 : BitVec 32 := 16#32
  let v349 : BitVec 32 := Scalar.muli arg9 c16_i32_164
  let c12_i32 : BitVec 32 := 12#32
  let v350 : BitVec 32 := Scalar.addi v349 c12_i32
  let c0_i32_165 : BitVec 32 := 0#32
  let c0_i32_166 : BitVec 32 := 0#32
  let c0_i32_167 : BitVec 32 := 0#32
  ![v205.toNat, v350.toNat, 0, 0, 0]
def k0_off149 (v353 : BitVec 32) : Fin 4 → Nat :=
  let c0_i32_168 : BitVec 32 := 0#32
  let c0_i32_169 : BitVec 32 := 0#32
  let c0_i32_170 : BitVec 32 := 0#32
  ![v353.toNat, 0, 0, 0]

def k0_chk47 (i : grid0.Coords) (v353 : BitVec 32) : Prop :=
  (∀ (k0_h2 : k0_cond2 i = 1#1), ∀ a, (k0_off149 v353) a + S1x2x8x128.size a ≤ S61440x2x8x128.size a) ∧
  (∀ (k0_h2 : k0_cond2 i = 1#1), ∀ (hinb : ∀ a, (k0_off149 v353) a + S1x2x8x128.size a ≤ S61440x2x8x128.size a), (Rect.unit (s := S61440x2x8x128) (k0_off149 v353) S1x2x8x128.size hinb).WholeWords (EltTy.packing .fp8e4m3))
theorem k0_off149_inb : ∀ (i : grid0.Coords) (v353 : BitVec 32) (k0_hw47 : k0_chk47 i v353), ∀ (k0_h2 : k0_cond2 i = 1#1), ∀ a, (k0_off149 v353) a + S1x2x8x128.size a ≤ S61440x2x8x128.size a := fun i v353 k0_hw47 k0_h2 => k0_hw47.1 k0_h2
theorem k0_off149_wordsfp8e4m3 : ∀ (i : grid0.Coords) (v353 : BitVec 32) (k0_hw47 : k0_chk47 i v353), ∀ (k0_h2 : k0_cond2 i = 1#1), (Rect.unit (s := S61440x2x8x128) (k0_off149 v353) S1x2x8x128.size (k0_off149_inb i v353 k0_hw47 k0_h2)).WholeWords (EltTy.packing .fp8e4m3) := fun i v353 k0_hw47 k0_h2 => k0_hw47.2 k0_h2 (k0_off149_inb i v353 k0_hw47 k0_h2)

def k0_off150 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v362 : Index := Scalar.indexCast v204
  let c0_i32_72 : BitVec 32 := 0#32
  let c1_i32_75 : BitVec 32 := 1#32
  let arg9 : BitVec 32 := Scf.iv c0_i32_72 c1_i32_75 k0_t3
  let c16_i32_171 : BitVec 32 := 16#32
  let v360 : BitVec 32 := Scalar.muli arg9 c16_i32_171
  let c13_i32 : BitVec 32 := 13#32
  let v361 : BitVec 32 := Scalar.addi v360 c13_i32
  let v363 : Index := Scalar.indexCast v361
  ![v362.toNat, v363.toNat]
def k0_off151 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off152 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_171 : BitVec 32 := 16#32
  let v360 : BitVec 32 := Scalar.muli arg9 c16_i32_171
  let c13_i32 : BitVec 32 := 13#32
  let v361 : BitVec 32 := Scalar.addi v360 c13_i32
  let c0_i32_172 : BitVec 32 := 0#32
  let c0_i32_173 : BitVec 32 := 0#32
  let c0_i32_174 : BitVec 32 := 0#32
  ![v205.toNat, v361.toNat, 0, 0, 0]
def k0_off153 (v364 : BitVec 32) : Fin 4 → Nat :=
  let c0_i32_175 : BitVec 32 := 0#32
  let c0_i32_176 : BitVec 32 := 0#32
  let c0_i32_177 : BitVec 32 := 0#32
  ![v364.toNat, 0, 0, 0]

def k0_chk48 (i : grid0.Coords) (v364 : BitVec 32) : Prop :=
  (∀ (k0_h2 : k0_cond2 i = 1#1), ∀ a, (k0_off153 v364) a + S1x2x8x128.size a ≤ S61440x2x8x128.size a) ∧
  (∀ (k0_h2 : k0_cond2 i = 1#1), ∀ (hinb : ∀ a, (k0_off153 v364) a + S1x2x8x128.size a ≤ S61440x2x8x128.size a), (Rect.unit (s := S61440x2x8x128) (k0_off153 v364) S1x2x8x128.size hinb).WholeWords (EltTy.packing .fp8e4m3))
theorem k0_off153_inb : ∀ (i : grid0.Coords) (v364 : BitVec 32) (k0_hw48 : k0_chk48 i v364), ∀ (k0_h2 : k0_cond2 i = 1#1), ∀ a, (k0_off153 v364) a + S1x2x8x128.size a ≤ S61440x2x8x128.size a := fun i v364 k0_hw48 k0_h2 => k0_hw48.1 k0_h2
theorem k0_off153_wordsfp8e4m3 : ∀ (i : grid0.Coords) (v364 : BitVec 32) (k0_hw48 : k0_chk48 i v364), ∀ (k0_h2 : k0_cond2 i = 1#1), (Rect.unit (s := S61440x2x8x128) (k0_off153 v364) S1x2x8x128.size (k0_off153_inb i v364 k0_hw48 k0_h2)).WholeWords (EltTy.packing .fp8e4m3) := fun i v364 k0_hw48 k0_h2 => k0_hw48.2 k0_h2 (k0_off153_inb i v364 k0_hw48 k0_h2)

def k0_off154 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v373 : Index := Scalar.indexCast v204
  let c0_i32_72 : BitVec 32 := 0#32
  let c1_i32_75 : BitVec 32 := 1#32
  let arg9 : BitVec 32 := Scf.iv c0_i32_72 c1_i32_75 k0_t3
  let c16_i32_178 : BitVec 32 := 16#32
  let v371 : BitVec 32 := Scalar.muli arg9 c16_i32_178
  let c14_i32 : BitVec 32 := 14#32
  let v372 : BitVec 32 := Scalar.addi v371 c14_i32
  let v374 : Index := Scalar.indexCast v372
  ![v373.toNat, v374.toNat]
def k0_off155 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off156 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_178 : BitVec 32 := 16#32
  let v371 : BitVec 32 := Scalar.muli arg9 c16_i32_178
  let c14_i32 : BitVec 32 := 14#32
  let v372 : BitVec 32 := Scalar.addi v371 c14_i32
  let c0_i32_179 : BitVec 32 := 0#32
  let c0_i32_180 : BitVec 32 := 0#32
  let c0_i32_181 : BitVec 32 := 0#32
  ![v205.toNat, v372.toNat, 0, 0, 0]
def k0_off157 (v375 : BitVec 32) : Fin 4 → Nat :=
  let c0_i32_182 : BitVec 32 := 0#32
  let c0_i32_183 : BitVec 32 := 0#32
  let c0_i32_184 : BitVec 32 := 0#32
  ![v375.toNat, 0, 0, 0]

def k0_chk49 (i : grid0.Coords) (v375 : BitVec 32) : Prop :=
  (∀ (k0_h2 : k0_cond2 i = 1#1), ∀ a, (k0_off157 v375) a + S1x2x8x128.size a ≤ S61440x2x8x128.size a) ∧
  (∀ (k0_h2 : k0_cond2 i = 1#1), ∀ (hinb : ∀ a, (k0_off157 v375) a + S1x2x8x128.size a ≤ S61440x2x8x128.size a), (Rect.unit (s := S61440x2x8x128) (k0_off157 v375) S1x2x8x128.size hinb).WholeWords (EltTy.packing .fp8e4m3))
theorem k0_off157_inb : ∀ (i : grid0.Coords) (v375 : BitVec 32) (k0_hw49 : k0_chk49 i v375), ∀ (k0_h2 : k0_cond2 i = 1#1), ∀ a, (k0_off157 v375) a + S1x2x8x128.size a ≤ S61440x2x8x128.size a := fun i v375 k0_hw49 k0_h2 => k0_hw49.1 k0_h2
theorem k0_off157_wordsfp8e4m3 : ∀ (i : grid0.Coords) (v375 : BitVec 32) (k0_hw49 : k0_chk49 i v375), ∀ (k0_h2 : k0_cond2 i = 1#1), (Rect.unit (s := S61440x2x8x128) (k0_off157 v375) S1x2x8x128.size (k0_off157_inb i v375 k0_hw49 k0_h2)).WholeWords (EltTy.packing .fp8e4m3) := fun i v375 k0_hw49 k0_h2 => k0_hw49.2 k0_h2 (k0_off157_inb i v375 k0_hw49 k0_h2)

def k0_off158 (i : grid0.Coords) (v207 : BitVec 32) (k0_t3 : Fin (k0_t3_loop v207).trips) : Fin 2 → Nat :=
  let arg0 : BitVec 32 := BitVec.ofNat 32 (i 0).val
  let c1_i32_68 : BitVec 32 := 1#32
  let v204 : BitVec 32 := Scalar.addi arg0 c1_i32_68
  let v384 : Index := Scalar.indexCast v204
  let c0_i32_72 : BitVec 32 := 0#32
  let c1_i32_75 : BitVec 32 := 1#32
  let arg9 : BitVec 32 := Scf.iv c0_i32_72 c1_i32_75 k0_t3
  let c16_i32_185 : BitVec 32 := 16#32
  let v382 : BitVec 32 := Scalar.muli arg9 c16_i32_185
  let c15_i32 : BitVec 32 := 15#32
  let v383 : BitVec 32 := Scalar.addi v382 c15_i32
  let v385 : Index := Scalar.indexCast v383
  ![v384.toNat, v385.toNat]
def k0_off159 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off160 (i : grid0.Coords) (v207 : BitVec 32) (k0_t3 : Fin (k0_t3_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c1_i32_75 : BitVec 32 := 1#32
  let arg9 : BitVec 32 := Scf.iv c0_i32_72 c1_i32_75 k0_t3
  let c16_i32_185 : BitVec 32 := 16#32
  let v382 : BitVec 32 := Scalar.muli arg9 c16_i32_185
  let c15_i32 : BitVec 32 := 15#32
  let v383 : BitVec 32 := Scalar.addi v382 c15_i32
  let c0_i32_186 : BitVec 32 := 0#32
  let c0_i32_187 : BitVec 32 := 0#32
  let c0_i32_188 : BitVec 32 := 0#32
  ![v205.toNat, v383.toNat, 0, 0, 0]
def k0_off161 (v386 : BitVec 32) : Fin 4 → Nat :=
  let c0_i32_189 : BitVec 32 := 0#32
  let c0_i32_190 : BitVec 32 := 0#32
  let c0_i32_191 : BitVec 32 := 0#32
  ![v386.toNat, 0, 0, 0]

def k0_chk50 (i : grid0.Coords) (v386 : BitVec 32) : Prop :=
  (∀ (k0_h2 : k0_cond2 i = 1#1), ∀ a, (k0_off161 v386) a + S1x2x8x128.size a ≤ S61440x2x8x128.size a) ∧
  (∀ (k0_h2 : k0_cond2 i = 1#1), ∀ (hinb : ∀ a, (k0_off161 v386) a + S1x2x8x128.size a ≤ S61440x2x8x128.size a), (Rect.unit (s := S61440x2x8x128) (k0_off161 v386) S1x2x8x128.size hinb).WholeWords (EltTy.packing .fp8e4m3))
theorem k0_off161_inb : ∀ (i : grid0.Coords) (v386 : BitVec 32) (k0_hw50 : k0_chk50 i v386), ∀ (k0_h2 : k0_cond2 i = 1#1), ∀ a, (k0_off161 v386) a + S1x2x8x128.size a ≤ S61440x2x8x128.size a := fun i v386 k0_hw50 k0_h2 => k0_hw50.1 k0_h2
theorem k0_off161_wordsfp8e4m3 : ∀ (i : grid0.Coords) (v386 : BitVec 32) (k0_hw50 : k0_chk50 i v386), ∀ (k0_h2 : k0_cond2 i = 1#1), (Rect.unit (s := S61440x2x8x128) (k0_off161 v386) S1x2x8x128.size (k0_off161_inb i v386 k0_hw50 k0_h2)).WholeWords (EltTy.packing .fp8e4m3) := fun i v386 k0_hw50 k0_h2 => k0_hw50.2 k0_h2 (k0_off161_inb i v386 k0_hw50 k0_h2)

@[reducible] def k0_t4_loop (v207 : BitVec 32) : Scf.Loop 32 :=
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let v211 : BitVec 32 := Scalar.addi c0_i32_72 v210
  let c1_i32_76 : BitVec 32 := 1#32
  ⟨v214, v211, c1_i32_76⟩
def k0_off162 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v219 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32 : BitVec 32 := 16#32
  let v217 : BitVec 32 := Scalar.muli arg9 c16_i32
  let c0_i32_77 : BitVec 32 := 0#32
  let v218 : BitVec 32 := Scalar.addi v217 c0_i32_77
  let v220 : Index := Scalar.indexCast v218
  ![v219.toNat, v220.toNat]
def k0_off163 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off164 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32 : BitVec 32 := 16#32
  let v217 : BitVec 32 := Scalar.muli arg9 c16_i32
  let c0_i32_77 : BitVec 32 := 0#32
  let v218 : BitVec 32 := Scalar.addi v217 c0_i32_77
  let c0_i32_78 : BitVec 32 := 0#32
  let c0_i32_79 : BitVec 32 := 0#32
  let c0_i32_80 : BitVec 32 := 0#32
  ![v205.toNat, v218.toNat, 0, 0, 0]
def k0_off165 (v221 : BitVec 32) : Fin 4 → Nat :=
  let c0_i32_81 : BitVec 32 := 0#32
  let c0_i32_82 : BitVec 32 := 0#32
  let c0_i32_83 : BitVec 32 := 0#32
  ![v221.toNat, 0, 0, 0]

def k0_chk51 (i : grid0.Coords) (v221 : BitVec 32) : Prop :=
  (∀ (k0_h2 : k0_cond2 i = 1#1), ∀ a, (k0_off165 v221) a + S1x2x8x128.size a ≤ S61440x2x8x128.size a) ∧
  (∀ (k0_h2 : k0_cond2 i = 1#1), ∀ (hinb : ∀ a, (k0_off165 v221) a + S1x2x8x128.size a ≤ S61440x2x8x128.size a), (Rect.unit (s := S61440x2x8x128) (k0_off165 v221) S1x2x8x128.size hinb).WholeWords (EltTy.packing .fp8e4m3))
theorem k0_off165_inb : ∀ (i : grid0.Coords) (v221 : BitVec 32) (k0_hw51 : k0_chk51 i v221), ∀ (k0_h2 : k0_cond2 i = 1#1), ∀ a, (k0_off165 v221) a + S1x2x8x128.size a ≤ S61440x2x8x128.size a := fun i v221 k0_hw51 k0_h2 => k0_hw51.1 k0_h2
theorem k0_off165_wordsfp8e4m3 : ∀ (i : grid0.Coords) (v221 : BitVec 32) (k0_hw51 : k0_chk51 i v221), ∀ (k0_h2 : k0_cond2 i = 1#1), (Rect.unit (s := S61440x2x8x128) (k0_off165 v221) S1x2x8x128.size (k0_off165_inb i v221 k0_hw51 k0_h2)).WholeWords (EltTy.packing .fp8e4m3) := fun i v221 k0_hw51 k0_h2 => k0_hw51.2 k0_h2 (k0_off165_inb i v221 k0_hw51 k0_h2)

def k0_off166 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v230 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_84 : BitVec 32 := 16#32
  let v228 : BitVec 32 := Scalar.muli arg9 c16_i32_84
  let c1_i32_85 : BitVec 32 := 1#32
  let v229 : BitVec 32 := Scalar.addi v228 c1_i32_85
  let v231 : Index := Scalar.indexCast v229
  ![v230.toNat, v231.toNat]
def k0_off167 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off168 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_84 : BitVec 32 := 16#32
  let v228 : BitVec 32 := Scalar.muli arg9 c16_i32_84
  let c1_i32_85 : BitVec 32 := 1#32
  let v229 : BitVec 32 := Scalar.addi v228 c1_i32_85
  let c0_i32_86 : BitVec 32 := 0#32
  let c0_i32_87 : BitVec 32 := 0#32
  let c0_i32_88 : BitVec 32 := 0#32
  ![v205.toNat, v229.toNat, 0, 0, 0]
def k0_off169 (v232 : BitVec 32) : Fin 4 → Nat :=
  let c0_i32_89 : BitVec 32 := 0#32
  let c0_i32_90 : BitVec 32 := 0#32
  let c0_i32_91 : BitVec 32 := 0#32
  ![v232.toNat, 0, 0, 0]

def k0_chk52 (i : grid0.Coords) (v232 : BitVec 32) : Prop :=
  (∀ (k0_h2 : k0_cond2 i = 1#1), ∀ a, (k0_off169 v232) a + S1x2x8x128.size a ≤ S61440x2x8x128.size a) ∧
  (∀ (k0_h2 : k0_cond2 i = 1#1), ∀ (hinb : ∀ a, (k0_off169 v232) a + S1x2x8x128.size a ≤ S61440x2x8x128.size a), (Rect.unit (s := S61440x2x8x128) (k0_off169 v232) S1x2x8x128.size hinb).WholeWords (EltTy.packing .fp8e4m3))
theorem k0_off169_inb : ∀ (i : grid0.Coords) (v232 : BitVec 32) (k0_hw52 : k0_chk52 i v232), ∀ (k0_h2 : k0_cond2 i = 1#1), ∀ a, (k0_off169 v232) a + S1x2x8x128.size a ≤ S61440x2x8x128.size a := fun i v232 k0_hw52 k0_h2 => k0_hw52.1 k0_h2
theorem k0_off169_wordsfp8e4m3 : ∀ (i : grid0.Coords) (v232 : BitVec 32) (k0_hw52 : k0_chk52 i v232), ∀ (k0_h2 : k0_cond2 i = 1#1), (Rect.unit (s := S61440x2x8x128) (k0_off169 v232) S1x2x8x128.size (k0_off169_inb i v232 k0_hw52 k0_h2)).WholeWords (EltTy.packing .fp8e4m3) := fun i v232 k0_hw52 k0_h2 => k0_hw52.2 k0_h2 (k0_off169_inb i v232 k0_hw52 k0_h2)

def k0_off170 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v241 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_92 : BitVec 32 := 16#32
  let v239 : BitVec 32 := Scalar.muli arg9 c16_i32_92
  let c2_i32_93 : BitVec 32 := 2#32
  let v240 : BitVec 32 := Scalar.addi v239 c2_i32_93
  let v242 : Index := Scalar.indexCast v240
  ![v241.toNat, v242.toNat]
def k0_off171 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off172 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_92 : BitVec 32 := 16#32
  let v239 : BitVec 32 := Scalar.muli arg9 c16_i32_92
  let c2_i32_93 : BitVec 32 := 2#32
  let v240 : BitVec 32 := Scalar.addi v239 c2_i32_93
  let c0_i32_94 : BitVec 32 := 0#32
  let c0_i32_95 : BitVec 32 := 0#32
  let c0_i32_96 : BitVec 32 := 0#32
  ![v205.toNat, v240.toNat, 0, 0, 0]
def k0_off173 (v243 : BitVec 32) : Fin 4 → Nat :=
  let c0_i32_97 : BitVec 32 := 0#32
  let c0_i32_98 : BitVec 32 := 0#32
  let c0_i32_99 : BitVec 32 := 0#32
  ![v243.toNat, 0, 0, 0]

def k0_chk53 (i : grid0.Coords) (v243 : BitVec 32) : Prop :=
  (∀ (k0_h2 : k0_cond2 i = 1#1), ∀ a, (k0_off173 v243) a + S1x2x8x128.size a ≤ S61440x2x8x128.size a) ∧
  (∀ (k0_h2 : k0_cond2 i = 1#1), ∀ (hinb : ∀ a, (k0_off173 v243) a + S1x2x8x128.size a ≤ S61440x2x8x128.size a), (Rect.unit (s := S61440x2x8x128) (k0_off173 v243) S1x2x8x128.size hinb).WholeWords (EltTy.packing .fp8e4m3))
theorem k0_off173_inb : ∀ (i : grid0.Coords) (v243 : BitVec 32) (k0_hw53 : k0_chk53 i v243), ∀ (k0_h2 : k0_cond2 i = 1#1), ∀ a, (k0_off173 v243) a + S1x2x8x128.size a ≤ S61440x2x8x128.size a := fun i v243 k0_hw53 k0_h2 => k0_hw53.1 k0_h2
theorem k0_off173_wordsfp8e4m3 : ∀ (i : grid0.Coords) (v243 : BitVec 32) (k0_hw53 : k0_chk53 i v243), ∀ (k0_h2 : k0_cond2 i = 1#1), (Rect.unit (s := S61440x2x8x128) (k0_off173 v243) S1x2x8x128.size (k0_off173_inb i v243 k0_hw53 k0_h2)).WholeWords (EltTy.packing .fp8e4m3) := fun i v243 k0_hw53 k0_h2 => k0_hw53.2 k0_h2 (k0_off173_inb i v243 k0_hw53 k0_h2)

def k0_off174 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v252 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_100 : BitVec 32 := 16#32
  let v250 : BitVec 32 := Scalar.muli arg9 c16_i32_100
  let c3_i32 : BitVec 32 := 3#32
  let v251 : BitVec 32 := Scalar.addi v250 c3_i32
  let v253 : Index := Scalar.indexCast v251
  ![v252.toNat, v253.toNat]
def k0_off175 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off176 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_100 : BitVec 32 := 16#32
  let v250 : BitVec 32 := Scalar.muli arg9 c16_i32_100
  let c3_i32 : BitVec 32 := 3#32
  let v251 : BitVec 32 := Scalar.addi v250 c3_i32
  let c0_i32_101 : BitVec 32 := 0#32
  let c0_i32_102 : BitVec 32 := 0#32
  let c0_i32_103 : BitVec 32 := 0#32
  ![v205.toNat, v251.toNat, 0, 0, 0]
def k0_off177 (v254 : BitVec 32) : Fin 4 → Nat :=
  let c0_i32_104 : BitVec 32 := 0#32
  let c0_i32_105 : BitVec 32 := 0#32
  let c0_i32_106 : BitVec 32 := 0#32
  ![v254.toNat, 0, 0, 0]

def k0_chk54 (i : grid0.Coords) (v254 : BitVec 32) : Prop :=
  (∀ (k0_h2 : k0_cond2 i = 1#1), ∀ a, (k0_off177 v254) a + S1x2x8x128.size a ≤ S61440x2x8x128.size a) ∧
  (∀ (k0_h2 : k0_cond2 i = 1#1), ∀ (hinb : ∀ a, (k0_off177 v254) a + S1x2x8x128.size a ≤ S61440x2x8x128.size a), (Rect.unit (s := S61440x2x8x128) (k0_off177 v254) S1x2x8x128.size hinb).WholeWords (EltTy.packing .fp8e4m3))
theorem k0_off177_inb : ∀ (i : grid0.Coords) (v254 : BitVec 32) (k0_hw54 : k0_chk54 i v254), ∀ (k0_h2 : k0_cond2 i = 1#1), ∀ a, (k0_off177 v254) a + S1x2x8x128.size a ≤ S61440x2x8x128.size a := fun i v254 k0_hw54 k0_h2 => k0_hw54.1 k0_h2
theorem k0_off177_wordsfp8e4m3 : ∀ (i : grid0.Coords) (v254 : BitVec 32) (k0_hw54 : k0_chk54 i v254), ∀ (k0_h2 : k0_cond2 i = 1#1), (Rect.unit (s := S61440x2x8x128) (k0_off177 v254) S1x2x8x128.size (k0_off177_inb i v254 k0_hw54 k0_h2)).WholeWords (EltTy.packing .fp8e4m3) := fun i v254 k0_hw54 k0_h2 => k0_hw54.2 k0_h2 (k0_off177_inb i v254 k0_hw54 k0_h2)

def k0_off178 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v263 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_107 : BitVec 32 := 16#32
  let v261 : BitVec 32 := Scalar.muli arg9 c16_i32_107
  let c4_i32_108 : BitVec 32 := 4#32
  let v262 : BitVec 32 := Scalar.addi v261 c4_i32_108
  let v264 : Index := Scalar.indexCast v262
  ![v263.toNat, v264.toNat]
def k0_off179 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off180 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_107 : BitVec 32 := 16#32
  let v261 : BitVec 32 := Scalar.muli arg9 c16_i32_107
  let c4_i32_108 : BitVec 32 := 4#32
  let v262 : BitVec 32 := Scalar.addi v261 c4_i32_108
  let c0_i32_109 : BitVec 32 := 0#32
  let c0_i32_110 : BitVec 32 := 0#32
  let c0_i32_111 : BitVec 32 := 0#32
  ![v205.toNat, v262.toNat, 0, 0, 0]
def k0_off181 (v265 : BitVec 32) : Fin 4 → Nat :=
  let c0_i32_112 : BitVec 32 := 0#32
  let c0_i32_113 : BitVec 32 := 0#32
  let c0_i32_114 : BitVec 32 := 0#32
  ![v265.toNat, 0, 0, 0]

def k0_chk55 (i : grid0.Coords) (v265 : BitVec 32) : Prop :=
  (∀ (k0_h2 : k0_cond2 i = 1#1), ∀ a, (k0_off181 v265) a + S1x2x8x128.size a ≤ S61440x2x8x128.size a) ∧
  (∀ (k0_h2 : k0_cond2 i = 1#1), ∀ (hinb : ∀ a, (k0_off181 v265) a + S1x2x8x128.size a ≤ S61440x2x8x128.size a), (Rect.unit (s := S61440x2x8x128) (k0_off181 v265) S1x2x8x128.size hinb).WholeWords (EltTy.packing .fp8e4m3))
theorem k0_off181_inb : ∀ (i : grid0.Coords) (v265 : BitVec 32) (k0_hw55 : k0_chk55 i v265), ∀ (k0_h2 : k0_cond2 i = 1#1), ∀ a, (k0_off181 v265) a + S1x2x8x128.size a ≤ S61440x2x8x128.size a := fun i v265 k0_hw55 k0_h2 => k0_hw55.1 k0_h2
theorem k0_off181_wordsfp8e4m3 : ∀ (i : grid0.Coords) (v265 : BitVec 32) (k0_hw55 : k0_chk55 i v265), ∀ (k0_h2 : k0_cond2 i = 1#1), (Rect.unit (s := S61440x2x8x128) (k0_off181 v265) S1x2x8x128.size (k0_off181_inb i v265 k0_hw55 k0_h2)).WholeWords (EltTy.packing .fp8e4m3) := fun i v265 k0_hw55 k0_h2 => k0_hw55.2 k0_h2 (k0_off181_inb i v265 k0_hw55 k0_h2)

def k0_off182 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v274 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_115 : BitVec 32 := 16#32
  let v272 : BitVec 32 := Scalar.muli arg9 c16_i32_115
  let c5_i32 : BitVec 32 := 5#32
  let v273 : BitVec 32 := Scalar.addi v272 c5_i32
  let v275 : Index := Scalar.indexCast v273
  ![v274.toNat, v275.toNat]
def k0_off183 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off184 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_115 : BitVec 32 := 16#32
  let v272 : BitVec 32 := Scalar.muli arg9 c16_i32_115
  let c5_i32 : BitVec 32 := 5#32
  let v273 : BitVec 32 := Scalar.addi v272 c5_i32
  let c0_i32_116 : BitVec 32 := 0#32
  let c0_i32_117 : BitVec 32 := 0#32
  let c0_i32_118 : BitVec 32 := 0#32
  ![v205.toNat, v273.toNat, 0, 0, 0]
def k0_off185 (v276 : BitVec 32) : Fin 4 → Nat :=
  let c0_i32_119 : BitVec 32 := 0#32
  let c0_i32_120 : BitVec 32 := 0#32
  let c0_i32_121 : BitVec 32 := 0#32
  ![v276.toNat, 0, 0, 0]

def k0_chk56 (i : grid0.Coords) (v276 : BitVec 32) : Prop :=
  (∀ (k0_h2 : k0_cond2 i = 1#1), ∀ a, (k0_off185 v276) a + S1x2x8x128.size a ≤ S61440x2x8x128.size a) ∧
  (∀ (k0_h2 : k0_cond2 i = 1#1), ∀ (hinb : ∀ a, (k0_off185 v276) a + S1x2x8x128.size a ≤ S61440x2x8x128.size a), (Rect.unit (s := S61440x2x8x128) (k0_off185 v276) S1x2x8x128.size hinb).WholeWords (EltTy.packing .fp8e4m3))
theorem k0_off185_inb : ∀ (i : grid0.Coords) (v276 : BitVec 32) (k0_hw56 : k0_chk56 i v276), ∀ (k0_h2 : k0_cond2 i = 1#1), ∀ a, (k0_off185 v276) a + S1x2x8x128.size a ≤ S61440x2x8x128.size a := fun i v276 k0_hw56 k0_h2 => k0_hw56.1 k0_h2
theorem k0_off185_wordsfp8e4m3 : ∀ (i : grid0.Coords) (v276 : BitVec 32) (k0_hw56 : k0_chk56 i v276), ∀ (k0_h2 : k0_cond2 i = 1#1), (Rect.unit (s := S61440x2x8x128) (k0_off185 v276) S1x2x8x128.size (k0_off185_inb i v276 k0_hw56 k0_h2)).WholeWords (EltTy.packing .fp8e4m3) := fun i v276 k0_hw56 k0_h2 => k0_hw56.2 k0_h2 (k0_off185_inb i v276 k0_hw56 k0_h2)

def k0_off186 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v285 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_122 : BitVec 32 := 16#32
  let v283 : BitVec 32 := Scalar.muli arg9 c16_i32_122
  let c6_i32 : BitVec 32 := 6#32
  let v284 : BitVec 32 := Scalar.addi v283 c6_i32
  let v286 : Index := Scalar.indexCast v284
  ![v285.toNat, v286.toNat]
def k0_off187 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off188 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_122 : BitVec 32 := 16#32
  let v283 : BitVec 32 := Scalar.muli arg9 c16_i32_122
  let c6_i32 : BitVec 32 := 6#32
  let v284 : BitVec 32 := Scalar.addi v283 c6_i32
  let c0_i32_123 : BitVec 32 := 0#32
  let c0_i32_124 : BitVec 32 := 0#32
  let c0_i32_125 : BitVec 32 := 0#32
  ![v205.toNat, v284.toNat, 0, 0, 0]
def k0_off189 (v287 : BitVec 32) : Fin 4 → Nat :=
  let c0_i32_126 : BitVec 32 := 0#32
  let c0_i32_127 : BitVec 32 := 0#32
  let c0_i32_128 : BitVec 32 := 0#32
  ![v287.toNat, 0, 0, 0]

def k0_chk57 (i : grid0.Coords) (v287 : BitVec 32) : Prop :=
  (∀ (k0_h2 : k0_cond2 i = 1#1), ∀ a, (k0_off189 v287) a + S1x2x8x128.size a ≤ S61440x2x8x128.size a) ∧
  (∀ (k0_h2 : k0_cond2 i = 1#1), ∀ (hinb : ∀ a, (k0_off189 v287) a + S1x2x8x128.size a ≤ S61440x2x8x128.size a), (Rect.unit (s := S61440x2x8x128) (k0_off189 v287) S1x2x8x128.size hinb).WholeWords (EltTy.packing .fp8e4m3))
theorem k0_off189_inb : ∀ (i : grid0.Coords) (v287 : BitVec 32) (k0_hw57 : k0_chk57 i v287), ∀ (k0_h2 : k0_cond2 i = 1#1), ∀ a, (k0_off189 v287) a + S1x2x8x128.size a ≤ S61440x2x8x128.size a := fun i v287 k0_hw57 k0_h2 => k0_hw57.1 k0_h2
theorem k0_off189_wordsfp8e4m3 : ∀ (i : grid0.Coords) (v287 : BitVec 32) (k0_hw57 : k0_chk57 i v287), ∀ (k0_h2 : k0_cond2 i = 1#1), (Rect.unit (s := S61440x2x8x128) (k0_off189 v287) S1x2x8x128.size (k0_off189_inb i v287 k0_hw57 k0_h2)).WholeWords (EltTy.packing .fp8e4m3) := fun i v287 k0_hw57 k0_h2 => k0_hw57.2 k0_h2 (k0_off189_inb i v287 k0_hw57 k0_h2)

def k0_off190 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v296 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_129 : BitVec 32 := 16#32
  let v294 : BitVec 32 := Scalar.muli arg9 c16_i32_129
  let c7_i32 : BitVec 32 := 7#32
  let v295 : BitVec 32 := Scalar.addi v294 c7_i32
  let v297 : Index := Scalar.indexCast v295
  ![v296.toNat, v297.toNat]
def k0_off191 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off192 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_129 : BitVec 32 := 16#32
  let v294 : BitVec 32 := Scalar.muli arg9 c16_i32_129
  let c7_i32 : BitVec 32 := 7#32
  let v295 : BitVec 32 := Scalar.addi v294 c7_i32
  let c0_i32_130 : BitVec 32 := 0#32
  let c0_i32_131 : BitVec 32 := 0#32
  let c0_i32_132 : BitVec 32 := 0#32
  ![v205.toNat, v295.toNat, 0, 0, 0]
def k0_off193 (v298 : BitVec 32) : Fin 4 → Nat :=
  let c0_i32_133 : BitVec 32 := 0#32
  let c0_i32_134 : BitVec 32 := 0#32
  let c0_i32_135 : BitVec 32 := 0#32
  ![v298.toNat, 0, 0, 0]

def k0_chk58 (i : grid0.Coords) (v298 : BitVec 32) : Prop :=
  (∀ (k0_h2 : k0_cond2 i = 1#1), ∀ a, (k0_off193 v298) a + S1x2x8x128.size a ≤ S61440x2x8x128.size a) ∧
  (∀ (k0_h2 : k0_cond2 i = 1#1), ∀ (hinb : ∀ a, (k0_off193 v298) a + S1x2x8x128.size a ≤ S61440x2x8x128.size a), (Rect.unit (s := S61440x2x8x128) (k0_off193 v298) S1x2x8x128.size hinb).WholeWords (EltTy.packing .fp8e4m3))
theorem k0_off193_inb : ∀ (i : grid0.Coords) (v298 : BitVec 32) (k0_hw58 : k0_chk58 i v298), ∀ (k0_h2 : k0_cond2 i = 1#1), ∀ a, (k0_off193 v298) a + S1x2x8x128.size a ≤ S61440x2x8x128.size a := fun i v298 k0_hw58 k0_h2 => k0_hw58.1 k0_h2
theorem k0_off193_wordsfp8e4m3 : ∀ (i : grid0.Coords) (v298 : BitVec 32) (k0_hw58 : k0_chk58 i v298), ∀ (k0_h2 : k0_cond2 i = 1#1), (Rect.unit (s := S61440x2x8x128) (k0_off193 v298) S1x2x8x128.size (k0_off193_inb i v298 k0_hw58 k0_h2)).WholeWords (EltTy.packing .fp8e4m3) := fun i v298 k0_hw58 k0_h2 => k0_hw58.2 k0_h2 (k0_off193_inb i v298 k0_hw58 k0_h2)

def k0_off194 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v307 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_136 : BitVec 32 := 16#32
  let v305 : BitVec 32 := Scalar.muli arg9 c16_i32_136
  let c8_i32 : BitVec 32 := 8#32
  let v306 : BitVec 32 := Scalar.addi v305 c8_i32
  let v308 : Index := Scalar.indexCast v306
  ![v307.toNat, v308.toNat]
def k0_off195 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off196 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_136 : BitVec 32 := 16#32
  let v305 : BitVec 32 := Scalar.muli arg9 c16_i32_136
  let c8_i32 : BitVec 32 := 8#32
  let v306 : BitVec 32 := Scalar.addi v305 c8_i32
  let c0_i32_137 : BitVec 32 := 0#32
  let c0_i32_138 : BitVec 32 := 0#32
  let c0_i32_139 : BitVec 32 := 0#32
  ![v205.toNat, v306.toNat, 0, 0, 0]
def k0_off197 (v309 : BitVec 32) : Fin 4 → Nat :=
  let c0_i32_140 : BitVec 32 := 0#32
  let c0_i32_141 : BitVec 32 := 0#32
  let c0_i32_142 : BitVec 32 := 0#32
  ![v309.toNat, 0, 0, 0]

def k0_chk59 (i : grid0.Coords) (v309 : BitVec 32) : Prop :=
  (∀ (k0_h2 : k0_cond2 i = 1#1), ∀ a, (k0_off197 v309) a + S1x2x8x128.size a ≤ S61440x2x8x128.size a) ∧
  (∀ (k0_h2 : k0_cond2 i = 1#1), ∀ (hinb : ∀ a, (k0_off197 v309) a + S1x2x8x128.size a ≤ S61440x2x8x128.size a), (Rect.unit (s := S61440x2x8x128) (k0_off197 v309) S1x2x8x128.size hinb).WholeWords (EltTy.packing .fp8e4m3))
theorem k0_off197_inb : ∀ (i : grid0.Coords) (v309 : BitVec 32) (k0_hw59 : k0_chk59 i v309), ∀ (k0_h2 : k0_cond2 i = 1#1), ∀ a, (k0_off197 v309) a + S1x2x8x128.size a ≤ S61440x2x8x128.size a := fun i v309 k0_hw59 k0_h2 => k0_hw59.1 k0_h2
theorem k0_off197_wordsfp8e4m3 : ∀ (i : grid0.Coords) (v309 : BitVec 32) (k0_hw59 : k0_chk59 i v309), ∀ (k0_h2 : k0_cond2 i = 1#1), (Rect.unit (s := S61440x2x8x128) (k0_off197 v309) S1x2x8x128.size (k0_off197_inb i v309 k0_hw59 k0_h2)).WholeWords (EltTy.packing .fp8e4m3) := fun i v309 k0_hw59 k0_h2 => k0_hw59.2 k0_h2 (k0_off197_inb i v309 k0_hw59 k0_h2)

def k0_off198 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v318 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_143 : BitVec 32 := 16#32
  let v316 : BitVec 32 := Scalar.muli arg9 c16_i32_143
  let c9_i32 : BitVec 32 := 9#32
  let v317 : BitVec 32 := Scalar.addi v316 c9_i32
  let v319 : Index := Scalar.indexCast v317
  ![v318.toNat, v319.toNat]
def k0_off199 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off200 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_143 : BitVec 32 := 16#32
  let v316 : BitVec 32 := Scalar.muli arg9 c16_i32_143
  let c9_i32 : BitVec 32 := 9#32
  let v317 : BitVec 32 := Scalar.addi v316 c9_i32
  let c0_i32_144 : BitVec 32 := 0#32
  let c0_i32_145 : BitVec 32 := 0#32
  let c0_i32_146 : BitVec 32 := 0#32
  ![v205.toNat, v317.toNat, 0, 0, 0]
def k0_off201 (v320 : BitVec 32) : Fin 4 → Nat :=
  let c0_i32_147 : BitVec 32 := 0#32
  let c0_i32_148 : BitVec 32 := 0#32
  let c0_i32_149 : BitVec 32 := 0#32
  ![v320.toNat, 0, 0, 0]

def k0_chk60 (i : grid0.Coords) (v320 : BitVec 32) : Prop :=
  (∀ (k0_h2 : k0_cond2 i = 1#1), ∀ a, (k0_off201 v320) a + S1x2x8x128.size a ≤ S61440x2x8x128.size a) ∧
  (∀ (k0_h2 : k0_cond2 i = 1#1), ∀ (hinb : ∀ a, (k0_off201 v320) a + S1x2x8x128.size a ≤ S61440x2x8x128.size a), (Rect.unit (s := S61440x2x8x128) (k0_off201 v320) S1x2x8x128.size hinb).WholeWords (EltTy.packing .fp8e4m3))
theorem k0_off201_inb : ∀ (i : grid0.Coords) (v320 : BitVec 32) (k0_hw60 : k0_chk60 i v320), ∀ (k0_h2 : k0_cond2 i = 1#1), ∀ a, (k0_off201 v320) a + S1x2x8x128.size a ≤ S61440x2x8x128.size a := fun i v320 k0_hw60 k0_h2 => k0_hw60.1 k0_h2
theorem k0_off201_wordsfp8e4m3 : ∀ (i : grid0.Coords) (v320 : BitVec 32) (k0_hw60 : k0_chk60 i v320), ∀ (k0_h2 : k0_cond2 i = 1#1), (Rect.unit (s := S61440x2x8x128) (k0_off201 v320) S1x2x8x128.size (k0_off201_inb i v320 k0_hw60 k0_h2)).WholeWords (EltTy.packing .fp8e4m3) := fun i v320 k0_hw60 k0_h2 => k0_hw60.2 k0_h2 (k0_off201_inb i v320 k0_hw60 k0_h2)

def k0_off202 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v329 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_150 : BitVec 32 := 16#32
  let v327 : BitVec 32 := Scalar.muli arg9 c16_i32_150
  let c10_i32 : BitVec 32 := 10#32
  let v328 : BitVec 32 := Scalar.addi v327 c10_i32
  let v330 : Index := Scalar.indexCast v328
  ![v329.toNat, v330.toNat]
def k0_off203 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off204 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_150 : BitVec 32 := 16#32
  let v327 : BitVec 32 := Scalar.muli arg9 c16_i32_150
  let c10_i32 : BitVec 32 := 10#32
  let v328 : BitVec 32 := Scalar.addi v327 c10_i32
  let c0_i32_151 : BitVec 32 := 0#32
  let c0_i32_152 : BitVec 32 := 0#32
  let c0_i32_153 : BitVec 32 := 0#32
  ![v205.toNat, v328.toNat, 0, 0, 0]
def k0_off205 (v331 : BitVec 32) : Fin 4 → Nat :=
  let c0_i32_154 : BitVec 32 := 0#32
  let c0_i32_155 : BitVec 32 := 0#32
  let c0_i32_156 : BitVec 32 := 0#32
  ![v331.toNat, 0, 0, 0]

def k0_chk61 (i : grid0.Coords) (v331 : BitVec 32) : Prop :=
  (∀ (k0_h2 : k0_cond2 i = 1#1), ∀ a, (k0_off205 v331) a + S1x2x8x128.size a ≤ S61440x2x8x128.size a) ∧
  (∀ (k0_h2 : k0_cond2 i = 1#1), ∀ (hinb : ∀ a, (k0_off205 v331) a + S1x2x8x128.size a ≤ S61440x2x8x128.size a), (Rect.unit (s := S61440x2x8x128) (k0_off205 v331) S1x2x8x128.size hinb).WholeWords (EltTy.packing .fp8e4m3))
theorem k0_off205_inb : ∀ (i : grid0.Coords) (v331 : BitVec 32) (k0_hw61 : k0_chk61 i v331), ∀ (k0_h2 : k0_cond2 i = 1#1), ∀ a, (k0_off205 v331) a + S1x2x8x128.size a ≤ S61440x2x8x128.size a := fun i v331 k0_hw61 k0_h2 => k0_hw61.1 k0_h2
theorem k0_off205_wordsfp8e4m3 : ∀ (i : grid0.Coords) (v331 : BitVec 32) (k0_hw61 : k0_chk61 i v331), ∀ (k0_h2 : k0_cond2 i = 1#1), (Rect.unit (s := S61440x2x8x128) (k0_off205 v331) S1x2x8x128.size (k0_off205_inb i v331 k0_hw61 k0_h2)).WholeWords (EltTy.packing .fp8e4m3) := fun i v331 k0_hw61 k0_h2 => k0_hw61.2 k0_h2 (k0_off205_inb i v331 k0_hw61 k0_h2)

def k0_off206 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v340 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_157 : BitVec 32 := 16#32
  let v338 : BitVec 32 := Scalar.muli arg9 c16_i32_157
  let c11_i32 : BitVec 32 := 11#32
  let v339 : BitVec 32 := Scalar.addi v338 c11_i32
  let v341 : Index := Scalar.indexCast v339
  ![v340.toNat, v341.toNat]
def k0_off207 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off208 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_157 : BitVec 32 := 16#32
  let v338 : BitVec 32 := Scalar.muli arg9 c16_i32_157
  let c11_i32 : BitVec 32 := 11#32
  let v339 : BitVec 32 := Scalar.addi v338 c11_i32
  let c0_i32_158 : BitVec 32 := 0#32
  let c0_i32_159 : BitVec 32 := 0#32
  let c0_i32_160 : BitVec 32 := 0#32
  ![v205.toNat, v339.toNat, 0, 0, 0]
def k0_off209 (v342 : BitVec 32) : Fin 4 → Nat :=
  let c0_i32_161 : BitVec 32 := 0#32
  let c0_i32_162 : BitVec 32 := 0#32
  let c0_i32_163 : BitVec 32 := 0#32
  ![v342.toNat, 0, 0, 0]

def k0_chk62 (i : grid0.Coords) (v342 : BitVec 32) : Prop :=
  (∀ (k0_h2 : k0_cond2 i = 1#1), ∀ a, (k0_off209 v342) a + S1x2x8x128.size a ≤ S61440x2x8x128.size a) ∧
  (∀ (k0_h2 : k0_cond2 i = 1#1), ∀ (hinb : ∀ a, (k0_off209 v342) a + S1x2x8x128.size a ≤ S61440x2x8x128.size a), (Rect.unit (s := S61440x2x8x128) (k0_off209 v342) S1x2x8x128.size hinb).WholeWords (EltTy.packing .fp8e4m3))
theorem k0_off209_inb : ∀ (i : grid0.Coords) (v342 : BitVec 32) (k0_hw62 : k0_chk62 i v342), ∀ (k0_h2 : k0_cond2 i = 1#1), ∀ a, (k0_off209 v342) a + S1x2x8x128.size a ≤ S61440x2x8x128.size a := fun i v342 k0_hw62 k0_h2 => k0_hw62.1 k0_h2
theorem k0_off209_wordsfp8e4m3 : ∀ (i : grid0.Coords) (v342 : BitVec 32) (k0_hw62 : k0_chk62 i v342), ∀ (k0_h2 : k0_cond2 i = 1#1), (Rect.unit (s := S61440x2x8x128) (k0_off209 v342) S1x2x8x128.size (k0_off209_inb i v342 k0_hw62 k0_h2)).WholeWords (EltTy.packing .fp8e4m3) := fun i v342 k0_hw62 k0_h2 => k0_hw62.2 k0_h2 (k0_off209_inb i v342 k0_hw62 k0_h2)

def k0_off210 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v351 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_164 : BitVec 32 := 16#32
  let v349 : BitVec 32 := Scalar.muli arg9 c16_i32_164
  let c12_i32 : BitVec 32 := 12#32
  let v350 : BitVec 32 := Scalar.addi v349 c12_i32
  let v352 : Index := Scalar.indexCast v350
  ![v351.toNat, v352.toNat]
def k0_off211 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off212 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_164 : BitVec 32 := 16#32
  let v349 : BitVec 32 := Scalar.muli arg9 c16_i32_164
  let c12_i32 : BitVec 32 := 12#32
  let v350 : BitVec 32 := Scalar.addi v349 c12_i32
  let c0_i32_165 : BitVec 32 := 0#32
  let c0_i32_166 : BitVec 32 := 0#32
  let c0_i32_167 : BitVec 32 := 0#32
  ![v205.toNat, v350.toNat, 0, 0, 0]
def k0_off213 (v353 : BitVec 32) : Fin 4 → Nat :=
  let c0_i32_168 : BitVec 32 := 0#32
  let c0_i32_169 : BitVec 32 := 0#32
  let c0_i32_170 : BitVec 32 := 0#32
  ![v353.toNat, 0, 0, 0]

def k0_chk63 (i : grid0.Coords) (v353 : BitVec 32) : Prop :=
  (∀ (k0_h2 : k0_cond2 i = 1#1), ∀ a, (k0_off213 v353) a + S1x2x8x128.size a ≤ S61440x2x8x128.size a) ∧
  (∀ (k0_h2 : k0_cond2 i = 1#1), ∀ (hinb : ∀ a, (k0_off213 v353) a + S1x2x8x128.size a ≤ S61440x2x8x128.size a), (Rect.unit (s := S61440x2x8x128) (k0_off213 v353) S1x2x8x128.size hinb).WholeWords (EltTy.packing .fp8e4m3))
theorem k0_off213_inb : ∀ (i : grid0.Coords) (v353 : BitVec 32) (k0_hw63 : k0_chk63 i v353), ∀ (k0_h2 : k0_cond2 i = 1#1), ∀ a, (k0_off213 v353) a + S1x2x8x128.size a ≤ S61440x2x8x128.size a := fun i v353 k0_hw63 k0_h2 => k0_hw63.1 k0_h2
theorem k0_off213_wordsfp8e4m3 : ∀ (i : grid0.Coords) (v353 : BitVec 32) (k0_hw63 : k0_chk63 i v353), ∀ (k0_h2 : k0_cond2 i = 1#1), (Rect.unit (s := S61440x2x8x128) (k0_off213 v353) S1x2x8x128.size (k0_off213_inb i v353 k0_hw63 k0_h2)).WholeWords (EltTy.packing .fp8e4m3) := fun i v353 k0_hw63 k0_h2 => k0_hw63.2 k0_h2 (k0_off213_inb i v353 k0_hw63 k0_h2)

def k0_off214 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v362 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_171 : BitVec 32 := 16#32
  let v360 : BitVec 32 := Scalar.muli arg9 c16_i32_171
  let c13_i32 : BitVec 32 := 13#32
  let v361 : BitVec 32 := Scalar.addi v360 c13_i32
  let v363 : Index := Scalar.indexCast v361
  ![v362.toNat, v363.toNat]
def k0_off215 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off216 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_171 : BitVec 32 := 16#32
  let v360 : BitVec 32 := Scalar.muli arg9 c16_i32_171
  let c13_i32 : BitVec 32 := 13#32
  let v361 : BitVec 32 := Scalar.addi v360 c13_i32
  let c0_i32_172 : BitVec 32 := 0#32
  let c0_i32_173 : BitVec 32 := 0#32
  let c0_i32_174 : BitVec 32 := 0#32
  ![v205.toNat, v361.toNat, 0, 0, 0]
def k0_off217 (v364 : BitVec 32) : Fin 4 → Nat :=
  let c0_i32_175 : BitVec 32 := 0#32
  let c0_i32_176 : BitVec 32 := 0#32
  let c0_i32_177 : BitVec 32 := 0#32
  ![v364.toNat, 0, 0, 0]

def k0_chk64 (i : grid0.Coords) (v364 : BitVec 32) : Prop :=
  (∀ (k0_h2 : k0_cond2 i = 1#1), ∀ a, (k0_off217 v364) a + S1x2x8x128.size a ≤ S61440x2x8x128.size a) ∧
  (∀ (k0_h2 : k0_cond2 i = 1#1), ∀ (hinb : ∀ a, (k0_off217 v364) a + S1x2x8x128.size a ≤ S61440x2x8x128.size a), (Rect.unit (s := S61440x2x8x128) (k0_off217 v364) S1x2x8x128.size hinb).WholeWords (EltTy.packing .fp8e4m3))
theorem k0_off217_inb : ∀ (i : grid0.Coords) (v364 : BitVec 32) (k0_hw64 : k0_chk64 i v364), ∀ (k0_h2 : k0_cond2 i = 1#1), ∀ a, (k0_off217 v364) a + S1x2x8x128.size a ≤ S61440x2x8x128.size a := fun i v364 k0_hw64 k0_h2 => k0_hw64.1 k0_h2
theorem k0_off217_wordsfp8e4m3 : ∀ (i : grid0.Coords) (v364 : BitVec 32) (k0_hw64 : k0_chk64 i v364), ∀ (k0_h2 : k0_cond2 i = 1#1), (Rect.unit (s := S61440x2x8x128) (k0_off217 v364) S1x2x8x128.size (k0_off217_inb i v364 k0_hw64 k0_h2)).WholeWords (EltTy.packing .fp8e4m3) := fun i v364 k0_hw64 k0_h2 => k0_hw64.2 k0_h2 (k0_off217_inb i v364 k0_hw64 k0_h2)

def k0_off218 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v373 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_178 : BitVec 32 := 16#32
  let v371 : BitVec 32 := Scalar.muli arg9 c16_i32_178
  let c14_i32 : BitVec 32 := 14#32
  let v372 : BitVec 32 := Scalar.addi v371 c14_i32
  let v374 : Index := Scalar.indexCast v372
  ![v373.toNat, v374.toNat]
def k0_off219 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off220 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_178 : BitVec 32 := 16#32
  let v371 : BitVec 32 := Scalar.muli arg9 c16_i32_178
  let c14_i32 : BitVec 32 := 14#32
  let v372 : BitVec 32 := Scalar.addi v371 c14_i32
  let c0_i32_179 : BitVec 32 := 0#32
  let c0_i32_180 : BitVec 32 := 0#32
  let c0_i32_181 : BitVec 32 := 0#32
  ![v205.toNat, v372.toNat, 0, 0, 0]
def k0_off221 (v375 : BitVec 32) : Fin 4 → Nat :=
  let c0_i32_182 : BitVec 32 := 0#32
  let c0_i32_183 : BitVec 32 := 0#32
  let c0_i32_184 : BitVec 32 := 0#32
  ![v375.toNat, 0, 0, 0]

def k0_chk65 (i : grid0.Coords) (v375 : BitVec 32) : Prop :=
  (∀ (k0_h2 : k0_cond2 i = 1#1), ∀ a, (k0_off221 v375) a + S1x2x8x128.size a ≤ S61440x2x8x128.size a) ∧
  (∀ (k0_h2 : k0_cond2 i = 1#1), ∀ (hinb : ∀ a, (k0_off221 v375) a + S1x2x8x128.size a ≤ S61440x2x8x128.size a), (Rect.unit (s := S61440x2x8x128) (k0_off221 v375) S1x2x8x128.size hinb).WholeWords (EltTy.packing .fp8e4m3))
theorem k0_off221_inb : ∀ (i : grid0.Coords) (v375 : BitVec 32) (k0_hw65 : k0_chk65 i v375), ∀ (k0_h2 : k0_cond2 i = 1#1), ∀ a, (k0_off221 v375) a + S1x2x8x128.size a ≤ S61440x2x8x128.size a := fun i v375 k0_hw65 k0_h2 => k0_hw65.1 k0_h2
theorem k0_off221_wordsfp8e4m3 : ∀ (i : grid0.Coords) (v375 : BitVec 32) (k0_hw65 : k0_chk65 i v375), ∀ (k0_h2 : k0_cond2 i = 1#1), (Rect.unit (s := S61440x2x8x128) (k0_off221 v375) S1x2x8x128.size (k0_off221_inb i v375 k0_hw65 k0_h2)).WholeWords (EltTy.packing .fp8e4m3) := fun i v375 k0_hw65 k0_h2 => k0_hw65.2 k0_h2 (k0_off221_inb i v375 k0_hw65 k0_h2)

def k0_off222 (i : grid0.Coords) (v207 : BitVec 32) (k0_t4 : Fin (k0_t4_loop v207).trips) : Fin 2 → Nat :=
  let arg0 : BitVec 32 := BitVec.ofNat 32 (i 0).val
  let c1_i32_68 : BitVec 32 := 1#32
  let v204 : BitVec 32 := Scalar.addi arg0 c1_i32_68
  let v384 : Index := Scalar.indexCast v204
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_185 : BitVec 32 := 16#32
  let v382 : BitVec 32 := Scalar.muli arg9 c16_i32_185
  let c15_i32 : BitVec 32 := 15#32
  let v383 : BitVec 32 := Scalar.addi v382 c15_i32
  let v385 : Index := Scalar.indexCast v383
  ![v384.toNat, v385.toNat]
def k0_off223 (i : grid0.Coords) : Fin 1 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  ![v205.toNat]
def k0_off224 (i : grid0.Coords) (v207 : BitVec 32) (k0_t4 : Fin (k0_t4_loop v207).trips) : Fin 5 → Nat :=
  let c1_i32_69 : BitVec 32 := 1#32
  let arg0 : BitVec 32 := BitVec.ofNat 32 (i 0).val
  let c2_i32 : BitVec 32 := 2#32
  let v0 : BitVec 32 := Scalar.remsi arg0 c2_i32
  let v205 : BitVec 32 := Scalar.subi c1_i32_69 v0
  let c0_i32_72 : BitVec 32 := 0#32
  let c255_i32_70 : BitVec 32 := 255#32
  let v208 : BitVec 32 := Scalar.addi v207 c255_i32_70
  let c256_i32_71 : BitVec 32 := 256#32
  let v209 : BitVec 32 := Scalar.divsi v208 c256_i32_71
  let v210 : BitVec 32 := Scalar.subi v209 c0_i32_72
  let c1_i32_74 : BitVec 32 := 1#32
  let v212 : BitVec 32 := Scalar.divsi v210 c1_i32_74
  let v213 : BitVec 32 := Scalar.muli v212 c1_i32_74
  let v214 : BitVec 32 := Scalar.addi c0_i32_72 v213
  let c1_i32_76 : BitVec 32 := 1#32
  let arg9 : BitVec 32 := Scf.iv v214 c1_i32_76 k0_t4
  let c16_i32_185 : BitVec 32 := 16#32
  let v382 : BitVec 32 := Scalar.muli arg9 c16_i32_185
  let c15_i32 : BitVec 32 := 15#32
  let v383 : BitVec 32 := Scalar.addi v382 c15_i32
  let c0_i32_186 : BitVec 32 := 0#32
  let c0_i32_187 : BitVec 32 := 0#32
  let c0_i32_188 : BitVec 32 := 0#32
  ![v205.toNat, v383.toNat, 0, 0, 0]
def k0_off225 (v386 : BitVec 32) : Fin 4 → Nat :=
  let c0_i32_189 : BitVec 32 := 0#32
  let c0_i32_190 : BitVec 32 := 0#32
  let c0_i32_191 : BitVec 32 := 0#32
  ![v386.toNat, 0, 0, 0]

def k0_chk66 (i : grid0.Coords) (v386 : BitVec 32) : Prop :=
  (∀ (k0_h2 : k0_cond2 i = 1#1), ∀ a, (k0_off225 v386) a + S1x2x8x128.size a ≤ S61440x2x8x128.size a) ∧
  (∀ (k0_h2 : k0_cond2 i = 1#1), ∀ (hinb : ∀ a, (k0_off225 v386) a + S1x2x8x128.size a ≤ S61440x2x8x128.size a), (Rect.unit (s := S61440x2x8x128) (k0_off225 v386) S1x2x8x128.size hinb).WholeWords (EltTy.packing .fp8e4m3))
theorem k0_off225_inb : ∀ (i : grid0.Coords) (v386 : BitVec 32) (k0_hw66 : k0_chk66 i v386), ∀ (k0_h2 : k0_cond2 i = 1#1), ∀ a, (k0_off225 v386) a + S1x2x8x128.size a ≤ S61440x2x8x128.size a := fun i v386 k0_hw66 k0_h2 => k0_hw66.1 k0_h2
theorem k0_off225_wordsfp8e4m3 : ∀ (i : grid0.Coords) (v386 : BitVec 32) (k0_hw66 : k0_chk66 i v386), ∀ (k0_h2 : k0_cond2 i = 1#1), (Rect.unit (s := S61440x2x8x128) (k0_off225 v386) S1x2x8x128.size (k0_off225_inb i v386 k0_hw66 k0_h2)).WholeWords (EltTy.packing .fp8e4m3) := fun i v386 k0_hw66 k0_h2 => k0_hw66.2 k0_h2 (k0_off225_inb i v386 k0_hw66 k0_h2)

def k0_chk34_0 (i : grid0.Coords) (v207 : BitVec 32) : Prop :=
  (∀ (k0_h2 : k0_cond2 i = 1#1), (k0_t3_loop v207).OK) ∧
  (∀ k0_t3 : Fin (k0_t3_loop v207).trips, ∀ (k0_h2 : k0_cond2 i = 1#1), ∀ a, (k0_off98 i v207 k0_t3) a + S1x1.size a ≤ S96x512.size a) ∧
  (∀ k0_t3 : Fin (k0_t3_loop v207).trips, ∀ (k0_h2 : k0_cond2 i = 1#1), ∀ a, (k0_off100 i v207 k0_t3) a + S1x1x2x8x128.size a ≤ S2x512x2x8x128.size a) ∧
  (∀ k0_t3 : Fin (k0_t3_loop v207).trips, ∀ (k0_h2 : k0_cond2 i = 1#1), ∀ (hinb : ∀ a, (k0_off100 i v207 k0_t3) a + S1x1x2x8x128.size a ≤ S2x512x2x8x128.size a), (Rect.unit (s := S2x512x2x8x128) (k0_off100 i v207 k0_t3) S1x1x2x8x128.size hinb).WholeWords (EltTy.packing .fp8e4m3)) ∧
  (∀ k0_t3 : Fin (k0_t3_loop v207).trips, ∀ (k0_h2 : k0_cond2 i = 1#1), ∀ a, (k0_off102 i v207 k0_t3) a + S1x1.size a ≤ S96x512.size a) ∧
  (∀ k0_t3 : Fin (k0_t3_loop v207).trips, ∀ (k0_h2 : k0_cond2 i = 1#1), ∀ a, (k0_off104 i v207 k0_t3) a + S1x1x2x8x128.size a ≤ S2x512x2x8x128.size a) ∧
  (∀ k0_t3 : Fin (k0_t3_loop v207).trips, ∀ (k0_h2 : k0_cond2 i = 1#1), ∀ (hinb : ∀ a, (k0_off104 i v207 k0_t3) a + S1x1x2x8x128.size a ≤ S2x512x2x8x128.size a), (Rect.unit (s := S2x512x2x8x128) (k0_off104 i v207 k0_t3) S1x1x2x8x128.size hinb).WholeWords (EltTy.packing .fp8e4m3)) ∧
  (∀ k0_t3 : Fin (k0_t3_loop v207).trips, ∀ (k0_h2 : k0_cond2 i = 1#1), ∀ a, (k0_off106 i v207 k0_t3) a + S1x1.size a ≤ S96x512.size a) ∧
  (∀ k0_t3 : Fin (k0_t3_loop v207).trips, ∀ (k0_h2 : k0_cond2 i = 1#1), ∀ a, (k0_off108 i v207 k0_t3) a + S1x1x2x8x128.size a ≤ S2x512x2x8x128.size a) ∧
  (∀ k0_t3 : Fin (k0_t3_loop v207).trips, ∀ (k0_h2 : k0_cond2 i = 1#1), ∀ (hinb : ∀ a, (k0_off108 i v207 k0_t3) a + S1x1x2x8x128.size a ≤ S2x512x2x8x128.size a), (Rect.unit (s := S2x512x2x8x128) (k0_off108 i v207 k0_t3) S1x1x2x8x128.size hinb).WholeWords (EltTy.packing .fp8e4m3)) ∧
  (∀ k0_t3 : Fin (k0_t3_loop v207).trips, ∀ (k0_h2 : k0_cond2 i = 1#1), ∀ a, (k0_off110 i v207 k0_t3) a + S1x1.size a ≤ S96x512.size a) ∧
  (∀ k0_t3 : Fin (k0_t3_loop v207).trips, ∀ (k0_h2 : k0_cond2 i = 1#1), ∀ a, (k0_off112 i v207 k0_t3) a + S1x1x2x8x128.size a ≤ S2x512x2x8x128.size a) ∧
  (∀ k0_t3 : Fin (k0_t3_loop v207).trips, ∀ (k0_h2 : k0_cond2 i = 1#1), ∀ (hinb : ∀ a, (k0_off112 i v207 k0_t3) a + S1x1x2x8x128.size a ≤ S2x512x2x8x128.size a), (Rect.unit (s := S2x512x2x8x128) (k0_off112 i v207 k0_t3) S1x1x2x8x128.size hinb).WholeWords (EltTy.packing .fp8e4m3)) ∧
  (∀ k0_t3 : Fin (k0_t3_loop v207).trips, ∀ (k0_h2 : k0_cond2 i = 1#1), ∀ a, (k0_off114 i v207 k0_t3) a + S1x1.size a ≤ S96x512.size a) ∧
  (∀ k0_t3 : Fin (k0_t3_loop v207).trips, ∀ (k0_h2 : k0_cond2 i = 1#1), ∀ a, (k0_off116 i v207 k0_t3) a + S1x1x2x8x128.size a ≤ S2x512x2x8x128.size a) ∧
  (∀ k0_t3 : Fin (k0_t3_loop v207).trips, ∀ (k0_h2 : k0_cond2 i = 1#1), ∀ (hinb : ∀ a, (k0_off116 i v207 k0_t3) a + S1x1x2x8x128.size a ≤ S2x512x2x8x128.size a), (Rect.unit (s := S2x512x2x8x128) (k0_off116 i v207 k0_t3) S1x1x2x8x128.size hinb).WholeWords (EltTy.packing .fp8e4m3)) ∧
  (∀ k0_t3 : Fin (k0_t3_loop v207).trips, ∀ (k0_h2 : k0_cond2 i = 1#1), ∀ a, (k0_off118 i v207 k0_t3) a + S1x1.size a ≤ S96x512.size a) ∧
  (∀ k0_t3 : Fin (k0_t3_loop v207).trips, ∀ (k0_h2 : k0_cond2 i = 1#1), ∀ a, (k0_off120 i v207 k0_t3) a + S1x1x2x8x128.size a ≤ S2x512x2x8x128.size a) ∧
  (∀ k0_t3 : Fin (k0_t3_loop v207).trips, ∀ (k0_h2 : k0_cond2 i = 1#1), ∀ (hinb : ∀ a, (k0_off120 i v207 k0_t3) a + S1x1x2x8x128.size a ≤ S2x512x2x8x128.size a), (Rect.unit (s := S2x512x2x8x128) (k0_off120 i v207 k0_t3) S1x1x2x8x128.size hinb).WholeWords (EltTy.packing .fp8e4m3)) ∧
  (∀ k0_t3 : Fin (k0_t3_loop v207).trips, ∀ (k0_h2 : k0_cond2 i = 1#1), ∀ a, (k0_off122 i v207 k0_t3) a + S1x1.size a ≤ S96x512.size a) ∧
  (∀ k0_t3 : Fin (k0_t3_loop v207).trips, ∀ (k0_h2 : k0_cond2 i = 1#1), ∀ a, (k0_off124 i v207 k0_t3) a + S1x1x2x8x128.size a ≤ S2x512x2x8x128.size a) ∧
  (∀ k0_t3 : Fin (k0_t3_loop v207).trips, ∀ (k0_h2 : k0_cond2 i = 1#1), ∀ (hinb : ∀ a, (k0_off124 i v207 k0_t3) a + S1x1x2x8x128.size a ≤ S2x512x2x8x128.size a), (Rect.unit (s := S2x512x2x8x128) (k0_off124 i v207 k0_t3) S1x1x2x8x128.size hinb).WholeWords (EltTy.packing .fp8e4m3)) ∧
  (∀ k0_t3 : Fin (k0_t3_loop v207).trips, ∀ (k0_h2 : k0_cond2 i = 1#1), ∀ a, (k0_off126 i v207 k0_t3) a + S1x1.size a ≤ S96x512.size a) ∧
  (∀ k0_t3 : Fin (k0_t3_loop v207).trips, ∀ (k0_h2 : k0_cond2 i = 1#1), ∀ a, (k0_off128 i v207 k0_t3) a + S1x1x2x8x128.size a ≤ S2x512x2x8x128.size a) ∧
  (∀ k0_t3 : Fin (k0_t3_loop v207).trips, ∀ (k0_h2 : k0_cond2 i = 1#1), ∀ (hinb : ∀ a, (k0_off128 i v207 k0_t3) a + S1x1x2x8x128.size a ≤ S2x512x2x8x128.size a), (Rect.unit (s := S2x512x2x8x128) (k0_off128 i v207 k0_t3) S1x1x2x8x128.size hinb).WholeWords (EltTy.packing .fp8e4m3)) ∧
  (∀ k0_t3 : Fin (k0_t3_loop v207).trips, ∀ (k0_h2 : k0_cond2 i = 1#1), ∀ a, (k0_off130 i v207 k0_t3) a + S1x1.size a ≤ S96x512.size a) ∧
  (∀ k0_t3 : Fin (k0_t3_loop v207).trips, ∀ (k0_h2 : k0_cond2 i = 1#1), ∀ a, (k0_off132 i v207 k0_t3) a + S1x1x2x8x128.size a ≤ S2x512x2x8x128.size a) ∧
  (∀ k0_t3 : Fin (k0_t3_loop v207).trips, ∀ (k0_h2 : k0_cond2 i = 1#1), ∀ (hinb : ∀ a, (k0_off132 i v207 k0_t3) a + S1x1x2x8x128.size a ≤ S2x512x2x8x128.size a), (Rect.unit (s := S2x512x2x8x128) (k0_off132 i v207 k0_t3) S1x1x2x8x128.size hinb).WholeWords (EltTy.packing .fp8e4m3)) ∧
  (∀ k0_t3 : Fin (k0_t3_loop v207).trips, ∀ (k0_h2 : k0_cond2 i = 1#1), ∀ a, (k0_off134 i v207 k0_t3) a + S1x1.size a ≤ S96x512.size a) ∧
  (∀ k0_t3 : Fin (k0_t3_loop v207).trips, ∀ (k0_h2 : k0_cond2 i = 1#1), ∀ a, (k0_off136 i v207 k0_t3) a + S1x1x2x8x128.size a ≤ S2x512x2x8x128.size a) ∧
  (∀ k0_t3 : Fin (k0_t3_loop v207).trips, ∀ (k0_h2 : k0_cond2 i = 1#1), ∀ (hinb : ∀ a, (k0_off136 i v207 k0_t3) a + S1x1x2x8x128.size a ≤ S2x512x2x8x128.size a), (Rect.unit (s := S2x512x2x8x128) (k0_off136 i v207 k0_t3) S1x1x2x8x128.size hinb).WholeWords (EltTy.packing .fp8e4m3)) ∧
  (∀ k0_t3 : Fin (k0_t3_loop v207).trips, ∀ (k0_h2 : k0_cond2 i = 1#1), ∀ a, (k0_off138 i v207 k0_t3) a + S1x1.size a ≤ S96x512.size a)
def k0_chk34_1 (i : grid0.Coords) (v207 : BitVec 32) : Prop :=
  (∀ k0_t3 : Fin (k0_t3_loop v207).trips, ∀ (k0_h2 : k0_cond2 i = 1#1), ∀ a, (k0_off140 i v207 k0_t3) a + S1x1x2x8x128.size a ≤ S2x512x2x8x128.size a) ∧
  (∀ k0_t3 : Fin (k0_t3_loop v207).trips, ∀ (k0_h2 : k0_cond2 i = 1#1), ∀ (hinb : ∀ a, (k0_off140 i v207 k0_t3) a + S1x1x2x8x128.size a ≤ S2x512x2x8x128.size a), (Rect.unit (s := S2x512x2x8x128) (k0_off140 i v207 k0_t3) S1x1x2x8x128.size hinb).WholeWords (EltTy.packing .fp8e4m3)) ∧
  (∀ k0_t3 : Fin (k0_t3_loop v207).trips, ∀ (k0_h2 : k0_cond2 i = 1#1), ∀ a, (k0_off142 i v207 k0_t3) a + S1x1.size a ≤ S96x512.size a) ∧
  (∀ k0_t3 : Fin (k0_t3_loop v207).trips, ∀ (k0_h2 : k0_cond2 i = 1#1), ∀ a, (k0_off144 i v207 k0_t3) a + S1x1x2x8x128.size a ≤ S2x512x2x8x128.size a) ∧
  (∀ k0_t3 : Fin (k0_t3_loop v207).trips, ∀ (k0_h2 : k0_cond2 i = 1#1), ∀ (hinb : ∀ a, (k0_off144 i v207 k0_t3) a + S1x1x2x8x128.size a ≤ S2x512x2x8x128.size a), (Rect.unit (s := S2x512x2x8x128) (k0_off144 i v207 k0_t3) S1x1x2x8x128.size hinb).WholeWords (EltTy.packing .fp8e4m3)) ∧
  (∀ k0_t3 : Fin (k0_t3_loop v207).trips, ∀ (k0_h2 : k0_cond2 i = 1#1), ∀ a, (k0_off146 i v207 k0_t3) a + S1x1.size a ≤ S96x512.size a) ∧
  (∀ k0_t3 : Fin (k0_t3_loop v207).trips, ∀ (k0_h2 : k0_cond2 i = 1#1), ∀ a, (k0_off148 i v207 k0_t3) a + S1x1x2x8x128.size a ≤ S2x512x2x8x128.size a) ∧
  (∀ k0_t3 : Fin (k0_t3_loop v207).trips, ∀ (k0_h2 : k0_cond2 i = 1#1), ∀ (hinb : ∀ a, (k0_off148 i v207 k0_t3) a + S1x1x2x8x128.size a ≤ S2x512x2x8x128.size a), (Rect.unit (s := S2x512x2x8x128) (k0_off148 i v207 k0_t3) S1x1x2x8x128.size hinb).WholeWords (EltTy.packing .fp8e4m3)) ∧
  (∀ k0_t3 : Fin (k0_t3_loop v207).trips, ∀ (k0_h2 : k0_cond2 i = 1#1), ∀ a, (k0_off150 i v207 k0_t3) a + S1x1.size a ≤ S96x512.size a) ∧
  (∀ k0_t3 : Fin (k0_t3_loop v207).trips, ∀ (k0_h2 : k0_cond2 i = 1#1), ∀ a, (k0_off152 i v207 k0_t3) a + S1x1x2x8x128.size a ≤ S2x512x2x8x128.size a) ∧
  (∀ k0_t3 : Fin (k0_t3_loop v207).trips, ∀ (k0_h2 : k0_cond2 i = 1#1), ∀ (hinb : ∀ a, (k0_off152 i v207 k0_t3) a + S1x1x2x8x128.size a ≤ S2x512x2x8x128.size a), (Rect.unit (s := S2x512x2x8x128) (k0_off152 i v207 k0_t3) S1x1x2x8x128.size hinb).WholeWords (EltTy.packing .fp8e4m3)) ∧
  (∀ k0_t3 : Fin (k0_t3_loop v207).trips, ∀ (k0_h2 : k0_cond2 i = 1#1), ∀ a, (k0_off154 i v207 k0_t3) a + S1x1.size a ≤ S96x512.size a) ∧
  (∀ k0_t3 : Fin (k0_t3_loop v207).trips, ∀ (k0_h2 : k0_cond2 i = 1#1), ∀ a, (k0_off156 i v207 k0_t3) a + S1x1x2x8x128.size a ≤ S2x512x2x8x128.size a) ∧
  (∀ k0_t3 : Fin (k0_t3_loop v207).trips, ∀ (k0_h2 : k0_cond2 i = 1#1), ∀ (hinb : ∀ a, (k0_off156 i v207 k0_t3) a + S1x1x2x8x128.size a ≤ S2x512x2x8x128.size a), (Rect.unit (s := S2x512x2x8x128) (k0_off156 i v207 k0_t3) S1x1x2x8x128.size hinb).WholeWords (EltTy.packing .fp8e4m3)) ∧
  (∀ k0_t3 : Fin (k0_t3_loop v207).trips, ∀ (k0_h2 : k0_cond2 i = 1#1), ∀ a, (k0_off158 i v207 k0_t3) a + S1x1.size a ≤ S96x512.size a) ∧
  (∀ k0_t3 : Fin (k0_t3_loop v207).trips, ∀ (k0_h2 : k0_cond2 i = 1#1), ∀ a, (k0_off160 i v207 k0_t3) a + S1x1x2x8x128.size a ≤ S2x512x2x8x128.size a) ∧
  (∀ k0_t3 : Fin (k0_t3_loop v207).trips, ∀ (k0_h2 : k0_cond2 i = 1#1), ∀ (hinb : ∀ a, (k0_off160 i v207 k0_t3) a + S1x1x2x8x128.size a ≤ S2x512x2x8x128.size a), (Rect.unit (s := S2x512x2x8x128) (k0_off160 i v207 k0_t3) S1x1x2x8x128.size hinb).WholeWords (EltTy.packing .fp8e4m3)) ∧
  (∀ (k0_h2 : k0_cond2 i = 1#1), (k0_t4_loop v207).OK) ∧
  (∀ k0_t4 : Fin (k0_t4_loop v207).trips, ∀ (k0_h2 : k0_cond2 i = 1#1), ∀ a, (k0_off162 i v207 k0_t4) a + S1x1.size a ≤ S96x512.size a) ∧
  (∀ k0_t4 : Fin (k0_t4_loop v207).trips, ∀ (k0_h2 : k0_cond2 i = 1#1), ∀ a, (k0_off164 i v207 k0_t4) a + S1x1x2x8x128.size a ≤ S2x512x2x8x128.size a) ∧
  (∀ k0_t4 : Fin (k0_t4_loop v207).trips, ∀ (k0_h2 : k0_cond2 i = 1#1), ∀ (hinb : ∀ a, (k0_off164 i v207 k0_t4) a + S1x1x2x8x128.size a ≤ S2x512x2x8x128.size a), (Rect.unit (s := S2x512x2x8x128) (k0_off164 i v207 k0_t4) S1x1x2x8x128.size hinb).WholeWords (EltTy.packing .fp8e4m3)) ∧
  (∀ k0_t4 : Fin (k0_t4_loop v207).trips, ∀ (k0_h2 : k0_cond2 i = 1#1), ∀ a, (k0_off166 i v207 k0_t4) a + S1x1.size a ≤ S96x512.size a) ∧
  (∀ k0_t4 : Fin (k0_t4_loop v207).trips, ∀ (k0_h2 : k0_cond2 i = 1#1), ∀ a, (k0_off168 i v207 k0_t4) a + S1x1x2x8x128.size a ≤ S2x512x2x8x128.size a) ∧
  (∀ k0_t4 : Fin (k0_t4_loop v207).trips, ∀ (k0_h2 : k0_cond2 i = 1#1), ∀ (hinb : ∀ a, (k0_off168 i v207 k0_t4) a + S1x1x2x8x128.size a ≤ S2x512x2x8x128.size a), (Rect.unit (s := S2x512x2x8x128) (k0_off168 i v207 k0_t4) S1x1x2x8x128.size hinb).WholeWords (EltTy.packing .fp8e4m3)) ∧
  (∀ k0_t4 : Fin (k0_t4_loop v207).trips, ∀ (k0_h2 : k0_cond2 i = 1#1), ∀ a, (k0_off170 i v207 k0_t4) a + S1x1.size a ≤ S96x512.size a) ∧
  (∀ k0_t4 : Fin (k0_t4_loop v207).trips, ∀ (k0_h2 : k0_cond2 i = 1#1), ∀ a, (k0_off172 i v207 k0_t4) a + S1x1x2x8x128.size a ≤ S2x512x2x8x128.size a) ∧
  (∀ k0_t4 : Fin (k0_t4_loop v207).trips, ∀ (k0_h2 : k0_cond2 i = 1#1), ∀ (hinb : ∀ a, (k0_off172 i v207 k0_t4) a + S1x1x2x8x128.size a ≤ S2x512x2x8x128.size a), (Rect.unit (s := S2x512x2x8x128) (k0_off172 i v207 k0_t4) S1x1x2x8x128.size hinb).WholeWords (EltTy.packing .fp8e4m3)) ∧
  (∀ k0_t4 : Fin (k0_t4_loop v207).trips, ∀ (k0_h2 : k0_cond2 i = 1#1), ∀ a, (k0_off174 i v207 k0_t4) a + S1x1.size a ≤ S96x512.size a) ∧
  (∀ k0_t4 : Fin (k0_t4_loop v207).trips, ∀ (k0_h2 : k0_cond2 i = 1#1), ∀ a, (k0_off176 i v207 k0_t4) a + S1x1x2x8x128.size a ≤ S2x512x2x8x128.size a) ∧
  (∀ k0_t4 : Fin (k0_t4_loop v207).trips, ∀ (k0_h2 : k0_cond2 i = 1#1), ∀ (hinb : ∀ a, (k0_off176 i v207 k0_t4) a + S1x1x2x8x128.size a ≤ S2x512x2x8x128.size a), (Rect.unit (s := S2x512x2x8x128) (k0_off176 i v207 k0_t4) S1x1x2x8x128.size hinb).WholeWords (EltTy.packing .fp8e4m3)) ∧
  (∀ k0_t4 : Fin (k0_t4_loop v207).trips, ∀ (k0_h2 : k0_cond2 i = 1#1), ∀ a, (k0_off178 i v207 k0_t4) a + S1x1.size a ≤ S96x512.size a) ∧
  (∀ k0_t4 : Fin (k0_t4_loop v207).trips, ∀ (k0_h2 : k0_cond2 i = 1#1), ∀ a, (k0_off180 i v207 k0_t4) a + S1x1x2x8x128.size a ≤ S2x512x2x8x128.size a)
def k0_chk34_2 (i : grid0.Coords) (v207 : BitVec 32) : Prop :=
  (∀ k0_t4 : Fin (k0_t4_loop v207).trips, ∀ (k0_h2 : k0_cond2 i = 1#1), ∀ (hinb : ∀ a, (k0_off180 i v207 k0_t4) a + S1x1x2x8x128.size a ≤ S2x512x2x8x128.size a), (Rect.unit (s := S2x512x2x8x128) (k0_off180 i v207 k0_t4) S1x1x2x8x128.size hinb).WholeWords (EltTy.packing .fp8e4m3)) ∧
  (∀ k0_t4 : Fin (k0_t4_loop v207).trips, ∀ (k0_h2 : k0_cond2 i = 1#1), ∀ a, (k0_off182 i v207 k0_t4) a + S1x1.size a ≤ S96x512.size a) ∧
  (∀ k0_t4 : Fin (k0_t4_loop v207).trips, ∀ (k0_h2 : k0_cond2 i = 1#1), ∀ a, (k0_off184 i v207 k0_t4) a + S1x1x2x8x128.size a ≤ S2x512x2x8x128.size a) ∧
  (∀ k0_t4 : Fin (k0_t4_loop v207).trips, ∀ (k0_h2 : k0_cond2 i = 1#1), ∀ (hinb : ∀ a, (k0_off184 i v207 k0_t4) a + S1x1x2x8x128.size a ≤ S2x512x2x8x128.size a), (Rect.unit (s := S2x512x2x8x128) (k0_off184 i v207 k0_t4) S1x1x2x8x128.size hinb).WholeWords (EltTy.packing .fp8e4m3)) ∧
  (∀ k0_t4 : Fin (k0_t4_loop v207).trips, ∀ (k0_h2 : k0_cond2 i = 1#1), ∀ a, (k0_off186 i v207 k0_t4) a + S1x1.size a ≤ S96x512.size a) ∧
  (∀ k0_t4 : Fin (k0_t4_loop v207).trips, ∀ (k0_h2 : k0_cond2 i = 1#1), ∀ a, (k0_off188 i v207 k0_t4) a + S1x1x2x8x128.size a ≤ S2x512x2x8x128.size a) ∧
  (∀ k0_t4 : Fin (k0_t4_loop v207).trips, ∀ (k0_h2 : k0_cond2 i = 1#1), ∀ (hinb : ∀ a, (k0_off188 i v207 k0_t4) a + S1x1x2x8x128.size a ≤ S2x512x2x8x128.size a), (Rect.unit (s := S2x512x2x8x128) (k0_off188 i v207 k0_t4) S1x1x2x8x128.size hinb).WholeWords (EltTy.packing .fp8e4m3)) ∧
  (∀ k0_t4 : Fin (k0_t4_loop v207).trips, ∀ (k0_h2 : k0_cond2 i = 1#1), ∀ a, (k0_off190 i v207 k0_t4) a + S1x1.size a ≤ S96x512.size a) ∧
  (∀ k0_t4 : Fin (k0_t4_loop v207).trips, ∀ (k0_h2 : k0_cond2 i = 1#1), ∀ a, (k0_off192 i v207 k0_t4) a + S1x1x2x8x128.size a ≤ S2x512x2x8x128.size a) ∧
  (∀ k0_t4 : Fin (k0_t4_loop v207).trips, ∀ (k0_h2 : k0_cond2 i = 1#1), ∀ (hinb : ∀ a, (k0_off192 i v207 k0_t4) a + S1x1x2x8x128.size a ≤ S2x512x2x8x128.size a), (Rect.unit (s := S2x512x2x8x128) (k0_off192 i v207 k0_t4) S1x1x2x8x128.size hinb).WholeWords (EltTy.packing .fp8e4m3)) ∧
  (∀ k0_t4 : Fin (k0_t4_loop v207).trips, ∀ (k0_h2 : k0_cond2 i = 1#1), ∀ a, (k0_off194 i v207 k0_t4) a + S1x1.size a ≤ S96x512.size a) ∧
  (∀ k0_t4 : Fin (k0_t4_loop v207).trips, ∀ (k0_h2 : k0_cond2 i = 1#1), ∀ a, (k0_off196 i v207 k0_t4) a + S1x1x2x8x128.size a ≤ S2x512x2x8x128.size a) ∧
  (∀ k0_t4 : Fin (k0_t4_loop v207).trips, ∀ (k0_h2 : k0_cond2 i = 1#1), ∀ (hinb : ∀ a, (k0_off196 i v207 k0_t4) a + S1x1x2x8x128.size a ≤ S2x512x2x8x128.size a), (Rect.unit (s := S2x512x2x8x128) (k0_off196 i v207 k0_t4) S1x1x2x8x128.size hinb).WholeWords (EltTy.packing .fp8e4m3)) ∧
  (∀ k0_t4 : Fin (k0_t4_loop v207).trips, ∀ (k0_h2 : k0_cond2 i = 1#1), ∀ a, (k0_off198 i v207 k0_t4) a + S1x1.size a ≤ S96x512.size a) ∧
  (∀ k0_t4 : Fin (k0_t4_loop v207).trips, ∀ (k0_h2 : k0_cond2 i = 1#1), ∀ a, (k0_off200 i v207 k0_t4) a + S1x1x2x8x128.size a ≤ S2x512x2x8x128.size a) ∧
  (∀ k0_t4 : Fin (k0_t4_loop v207).trips, ∀ (k0_h2 : k0_cond2 i = 1#1), ∀ (hinb : ∀ a, (k0_off200 i v207 k0_t4) a + S1x1x2x8x128.size a ≤ S2x512x2x8x128.size a), (Rect.unit (s := S2x512x2x8x128) (k0_off200 i v207 k0_t4) S1x1x2x8x128.size hinb).WholeWords (EltTy.packing .fp8e4m3)) ∧
  (∀ k0_t4 : Fin (k0_t4_loop v207).trips, ∀ (k0_h2 : k0_cond2 i = 1#1), ∀ a, (k0_off202 i v207 k0_t4) a + S1x1.size a ≤ S96x512.size a) ∧
  (∀ k0_t4 : Fin (k0_t4_loop v207).trips, ∀ (k0_h2 : k0_cond2 i = 1#1), ∀ a, (k0_off204 i v207 k0_t4) a + S1x1x2x8x128.size a ≤ S2x512x2x8x128.size a) ∧
  (∀ k0_t4 : Fin (k0_t4_loop v207).trips, ∀ (k0_h2 : k0_cond2 i = 1#1), ∀ (hinb : ∀ a, (k0_off204 i v207 k0_t4) a + S1x1x2x8x128.size a ≤ S2x512x2x8x128.size a), (Rect.unit (s := S2x512x2x8x128) (k0_off204 i v207 k0_t4) S1x1x2x8x128.size hinb).WholeWords (EltTy.packing .fp8e4m3)) ∧
  (∀ k0_t4 : Fin (k0_t4_loop v207).trips, ∀ (k0_h2 : k0_cond2 i = 1#1), ∀ a, (k0_off206 i v207 k0_t4) a + S1x1.size a ≤ S96x512.size a) ∧
  (∀ k0_t4 : Fin (k0_t4_loop v207).trips, ∀ (k0_h2 : k0_cond2 i = 1#1), ∀ a, (k0_off208 i v207 k0_t4) a + S1x1x2x8x128.size a ≤ S2x512x2x8x128.size a) ∧
  (∀ k0_t4 : Fin (k0_t4_loop v207).trips, ∀ (k0_h2 : k0_cond2 i = 1#1), ∀ (hinb : ∀ a, (k0_off208 i v207 k0_t4) a + S1x1x2x8x128.size a ≤ S2x512x2x8x128.size a), (Rect.unit (s := S2x512x2x8x128) (k0_off208 i v207 k0_t4) S1x1x2x8x128.size hinb).WholeWords (EltTy.packing .fp8e4m3)) ∧
  (∀ k0_t4 : Fin (k0_t4_loop v207).trips, ∀ (k0_h2 : k0_cond2 i = 1#1), ∀ a, (k0_off210 i v207 k0_t4) a + S1x1.size a ≤ S96x512.size a) ∧
  (∀ k0_t4 : Fin (k0_t4_loop v207).trips, ∀ (k0_h2 : k0_cond2 i = 1#1), ∀ a, (k0_off212 i v207 k0_t4) a + S1x1x2x8x128.size a ≤ S2x512x2x8x128.size a) ∧
  (∀ k0_t4 : Fin (k0_t4_loop v207).trips, ∀ (k0_h2 : k0_cond2 i = 1#1), ∀ (hinb : ∀ a, (k0_off212 i v207 k0_t4) a + S1x1x2x8x128.size a ≤ S2x512x2x8x128.size a), (Rect.unit (s := S2x512x2x8x128) (k0_off212 i v207 k0_t4) S1x1x2x8x128.size hinb).WholeWords (EltTy.packing .fp8e4m3)) ∧
  (∀ k0_t4 : Fin (k0_t4_loop v207).trips, ∀ (k0_h2 : k0_cond2 i = 1#1), ∀ a, (k0_off214 i v207 k0_t4) a + S1x1.size a ≤ S96x512.size a) ∧
  (∀ k0_t4 : Fin (k0_t4_loop v207).trips, ∀ (k0_h2 : k0_cond2 i = 1#1), ∀ a, (k0_off216 i v207 k0_t4) a + S1x1x2x8x128.size a ≤ S2x512x2x8x128.size a) ∧
  (∀ k0_t4 : Fin (k0_t4_loop v207).trips, ∀ (k0_h2 : k0_cond2 i = 1#1), ∀ (hinb : ∀ a, (k0_off216 i v207 k0_t4) a + S1x1x2x8x128.size a ≤ S2x512x2x8x128.size a), (Rect.unit (s := S2x512x2x8x128) (k0_off216 i v207 k0_t4) S1x1x2x8x128.size hinb).WholeWords (EltTy.packing .fp8e4m3)) ∧
  (∀ k0_t4 : Fin (k0_t4_loop v207).trips, ∀ (k0_h2 : k0_cond2 i = 1#1), ∀ a, (k0_off218 i v207 k0_t4) a + S1x1.size a ≤ S96x512.size a) ∧
  (∀ k0_t4 : Fin (k0_t4_loop v207).trips, ∀ (k0_h2 : k0_cond2 i = 1#1), ∀ a, (k0_off220 i v207 k0_t4) a + S1x1x2x8x128.size a ≤ S2x512x2x8x128.size a) ∧
  (∀ k0_t4 : Fin (k0_t4_loop v207).trips, ∀ (k0_h2 : k0_cond2 i = 1#1), ∀ (hinb : ∀ a, (k0_off220 i v207 k0_t4) a + S1x1x2x8x128.size a ≤ S2x512x2x8x128.size a), (Rect.unit (s := S2x512x2x8x128) (k0_off220 i v207 k0_t4) S1x1x2x8x128.size hinb).WholeWords (EltTy.packing .fp8e4m3)) ∧
  (∀ k0_t4 : Fin (k0_t4_loop v207).trips, ∀ (k0_h2 : k0_cond2 i = 1#1), ∀ a, (k0_off222 i v207 k0_t4) a + S1x1.size a ≤ S96x512.size a)
def k0_chk34_3 (i : grid0.Coords) (v207 : BitVec 32) : Prop :=
  (∀ k0_t4 : Fin (k0_t4_loop v207).trips, ∀ (k0_h2 : k0_cond2 i = 1#1), ∀ a, (k0_off224 i v207 k0_t4) a + S1x1x2x8x128.size a ≤ S2x512x2x8x128.size a) ∧
  (∀ k0_t4 : Fin (k0_t4_loop v207).trips, ∀ (k0_h2 : k0_cond2 i = 1#1), ∀ (hinb : ∀ a, (k0_off224 i v207 k0_t4) a + S1x1x2x8x128.size a ≤ S2x512x2x8x128.size a), (Rect.unit (s := S2x512x2x8x128) (k0_off224 i v207 k0_t4) S1x1x2x8x128.size hinb).WholeWords (EltTy.packing .fp8e4m3))
def k0_chk34 (i : grid0.Coords) (v207 : BitVec 32) : Prop :=
  k0_chk34_0 i v207 ∧
  k0_chk34_1 i v207 ∧
  k0_chk34_2 i v207 ∧
  k0_chk34_3 i v207
theorem k0_t3_ok : ∀ (i : grid0.Coords) (v207 : BitVec 32) (k0_hw34 : k0_chk34 i v207), ∀ (k0_h2 : k0_cond2 i = 1#1), (k0_t3_loop v207).OK := fun i v207 k0_hw34 k0_h2 => k0_hw34.1.1 k0_h2
theorem k0_off98_inb : ∀ (i : grid0.Coords) (v207 : BitVec 32) (k0_hw34 : k0_chk34 i v207) (k0_t3 : Fin (k0_t3_loop v207).trips), ∀ (k0_h2 : k0_cond2 i = 1#1), ∀ a, (k0_off98 i v207 k0_t3) a + S1x1.size a ≤ S96x512.size a := fun i v207 k0_hw34 k0_t3 k0_h2 => k0_hw34.1.2.1 k0_t3 k0_h2
theorem k0_off100_inb : ∀ (i : grid0.Coords) (v207 : BitVec 32) (k0_hw34 : k0_chk34 i v207) (k0_t3 : Fin (k0_t3_loop v207).trips), ∀ (k0_h2 : k0_cond2 i = 1#1), ∀ a, (k0_off100 i v207 k0_t3) a + S1x1x2x8x128.size a ≤ S2x512x2x8x128.size a := fun i v207 k0_hw34 k0_t3 k0_h2 => k0_hw34.1.2.2.1 k0_t3 k0_h2
theorem k0_off100_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off100 i v207 k0_t3) S1x1x2x8x128.size (k0_off100_inb i v207 k0_hw34 k0_t3 k0_h2)).WholeWords (EltTy.packing .fp8e4m3) := fun i v207 k0_hw34 k0_t3 k0_h2 => k0_hw34.1.2.2.2.1 k0_t3 k0_h2 (k0_off100_inb i v207 k0_hw34 k0_t3 k0_h2)
theorem k0_off102_inb : ∀ (i : grid0.Coords) (v207 : BitVec 32) (k0_hw34 : k0_chk34 i v207) (k0_t3 : Fin (k0_t3_loop v207).trips), ∀ (k0_h2 : k0_cond2 i = 1#1), ∀ a, (k0_off102 i v207 k0_t3) a + S1x1.size a ≤ S96x512.size a := fun i v207 k0_hw34 k0_t3 k0_h2 => k0_hw34.1.2.2.2.2.1 k0_t3 k0_h2
theorem k0_off104_inb : ∀ (i : grid0.Coords) (v207 : BitVec 32) (k0_hw34 : k0_chk34 i v207) (k0_t3 : Fin (k0_t3_loop v207).trips), ∀ (k0_h2 : k0_cond2 i = 1#1), ∀ a, (k0_off104 i v207 k0_t3) a + S1x1x2x8x128.size a ≤ S2x512x2x8x128.size a := fun i v207 k0_hw34 k0_t3 k0_h2 => k0_hw34.1.2.2.2.2.2.1 k0_t3 k0_h2
theorem k0_off104_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off104 i v207 k0_t3) S1x1x2x8x128.size (k0_off104_inb i v207 k0_hw34 k0_t3 k0_h2)).WholeWords (EltTy.packing .fp8e4m3) := fun i v207 k0_hw34 k0_t3 k0_h2 => k0_hw34.1.2.2.2.2.2.2.1 k0_t3 k0_h2 (k0_off104_inb i v207 k0_hw34 k0_t3 k0_h2)
theorem k0_off106_inb : ∀ (i : grid0.Coords) (v207 : BitVec 32) (k0_hw34 : k0_chk34 i v207) (k0_t3 : Fin (k0_t3_loop v207).trips), ∀ (k0_h2 : k0_cond2 i = 1#1), ∀ a, (k0_off106 i v207 k0_t3) a + S1x1.size a ≤ S96x512.size a := fun i v207 k0_hw34 k0_t3 k0_h2 => k0_hw34.1.2.2.2.2.2.2.2.1 k0_t3 k0_h2
theorem k0_off108_inb : ∀ (i : grid0.Coords) (v207 : BitVec 32) (k0_hw34 : k0_chk34 i v207) (k0_t3 : Fin (k0_t3_loop v207).trips), ∀ (k0_h2 : k0_cond2 i = 1#1), ∀ a, (k0_off108 i v207 k0_t3) a + S1x1x2x8x128.size a ≤ S2x512x2x8x128.size a := fun i v207 k0_hw34 k0_t3 k0_h2 => k0_hw34.1.2.2.2.2.2.2.2.2.1 k0_t3 k0_h2
theorem k0_off108_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off108 i v207 k0_t3) S1x1x2x8x128.size (k0_off108_inb i v207 k0_hw34 k0_t3 k0_h2)).WholeWords (EltTy.packing .fp8e4m3) := fun i v207 k0_hw34 k0_t3 k0_h2 => k0_hw34.1.2.2.2.2.2.2.2.2.2.1 k0_t3 k0_h2 (k0_off108_inb i v207 k0_hw34 k0_t3 k0_h2)
theorem k0_off110_inb : ∀ (i : grid0.Coords) (v207 : BitVec 32) (k0_hw34 : k0_chk34 i v207) (k0_t3 : Fin (k0_t3_loop v207).trips), ∀ (k0_h2 : k0_cond2 i = 1#1), ∀ a, (k0_off110 i v207 k0_t3) a + S1x1.size a ≤ S96x512.size a := fun i v207 k0_hw34 k0_t3 k0_h2 => k0_hw34.1.2.2.2.2.2.2.2.2.2.2.1 k0_t3 k0_h2
theorem k0_off112_inb : ∀ (i : grid0.Coords) (v207 : BitVec 32) (k0_hw34 : k0_chk34 i v207) (k0_t3 : Fin (k0_t3_loop v207).trips), ∀ (k0_h2 : k0_cond2 i = 1#1), ∀ a, (k0_off112 i v207 k0_t3) a + S1x1x2x8x128.size a ≤ S2x512x2x8x128.size a := fun i v207 k0_hw34 k0_t3 k0_h2 => k0_hw34.1.2.2.2.2.2.2.2.2.2.2.2.1 k0_t3 k0_h2
theorem k0_off112_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off112 i v207 k0_t3) S1x1x2x8x128.size (k0_off112_inb i v207 k0_hw34 k0_t3 k0_h2)).WholeWords (EltTy.packing .fp8e4m3) := fun i v207 k0_hw34 k0_t3 k0_h2 => k0_hw34.1.2.2.2.2.2.2.2.2.2.2.2.2.1 k0_t3 k0_h2 (k0_off112_inb i v207 k0_hw34 k0_t3 k0_h2)
theorem k0_off114_inb : ∀ (i : grid0.Coords) (v207 : BitVec 32) (k0_hw34 : k0_chk34 i v207) (k0_t3 : Fin (k0_t3_loop v207).trips), ∀ (k0_h2 : k0_cond2 i = 1#1), ∀ a, (k0_off114 i v207 k0_t3) a + S1x1.size a ≤ S96x512.size a := fun i v207 k0_hw34 k0_t3 k0_h2 => k0_hw34.1.2.2.2.2.2.2.2.2.2.2.2.2.2.1 k0_t3 k0_h2
theorem k0_off116_inb : ∀ (i : grid0.Coords) (v207 : BitVec 32) (k0_hw34 : k0_chk34 i v207) (k0_t3 : Fin (k0_t3_loop v207).trips), ∀ (k0_h2 : k0_cond2 i = 1#1), ∀ a, (k0_off116 i v207 k0_t3) a + S1x1x2x8x128.size a ≤ S2x512x2x8x128.size a := fun i v207 k0_hw34 k0_t3 k0_h2 => k0_hw34.1.2.2.2.2.2.2.2.2.2.2.2.2.2.2.1 k0_t3 k0_h2
theorem k0_off116_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off116 i v207 k0_t3) S1x1x2x8x128.size (k0_off116_inb i v207 k0_hw34 k0_t3 k0_h2)).WholeWords (EltTy.packing .fp8e4m3) := fun i v207 k0_hw34 k0_t3 k0_h2 => k0_hw34.1.2.2.2.2.2.2.2.2.2.2.2.2.2.2.2.1 k0_t3 k0_h2 (k0_off116_inb i v207 k0_hw34 k0_t3 k0_h2)
theorem k0_off118_inb : ∀ (i : grid0.Coords) (v207 : BitVec 32) (k0_hw34 : k0_chk34 i v207) (k0_t3 : Fin (k0_t3_loop v207).trips), ∀ (k0_h2 : k0_cond2 i = 1#1), ∀ a, (k0_off118 i v207 k0_t3) a + S1x1.size a ≤ S96x512.size a := fun i v207 k0_hw34 k0_t3 k0_h2 => k0_hw34.1.2.2.2.2.2.2.2.2.2.2.2.2.2.2.2.2.1 k0_t3 k0_h2
theorem k0_off120_inb : ∀ (i : grid0.Coords) (v207 : BitVec 32) (k0_hw34 : k0_chk34 i v207) (k0_t3 : Fin (k0_t3_loop v207).trips), ∀ (k0_h2 : k0_cond2 i = 1#1), ∀ a, (k0_off120 i v207 k0_t3) a + S1x1x2x8x128.size a ≤ S2x512x2x8x128.size a := fun i v207 k0_hw34 k0_t3 k0_h2 => k0_hw34.1.2.2.2.2.2.2.2.2.2.2.2.2.2.2.2.2.2.1 k0_t3 k0_h2
theorem k0_off120_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off120 i v207 k0_t3) S1x1x2x8x128.size (k0_off120_inb i v207 k0_hw34 k0_t3 k0_h2)).WholeWords (EltTy.packing .fp8e4m3) := fun i v207 k0_hw34 k0_t3 k0_h2 => k0_hw34.1.2.2.2.2.2.2.2.2.2.2.2.2.2.2.2.2.2.2.1 k0_t3 k0_h2 (k0_off120_inb i v207 k0_hw34 k0_t3 k0_h2)
theorem k0_off122_inb : ∀ (i : grid0.Coords) (v207 : BitVec 32) (k0_hw34 : k0_chk34 i v207) (k0_t3 : Fin (k0_t3_loop v207).trips), ∀ (k0_h2 : k0_cond2 i = 1#1), ∀ a, (k0_off122 i v207 k0_t3) a + S1x1.size a ≤ S96x512.size a := fun i v207 k0_hw34 k0_t3 k0_h2 => k0_hw34.1.2.2.2.2.2.2.2.2.2.2.2.2.2.2.2.2.2.2.2.1 k0_t3 k0_h2
theorem k0_off124_inb : ∀ (i : grid0.Coords) (v207 : BitVec 32) (k0_hw34 : k0_chk34 i v207) (k0_t3 : Fin (k0_t3_loop v207).trips), ∀ (k0_h2 : k0_cond2 i = 1#1), ∀ a, (k0_off124 i v207 k0_t3) a + S1x1x2x8x128.size a ≤ S2x512x2x8x128.size a := fun i v207 k0_hw34 k0_t3 k0_h2 => k0_hw34.1.2.2.2.2.2.2.2.2.2.2.2.2.2.2.2.2.2.2.2.2.1 k0_t3 k0_h2
theorem k0_off124_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off124 i v207 k0_t3) S1x1x2x8x128.size (k0_off124_inb i v207 k0_hw34 k0_t3 k0_h2)).WholeWords (EltTy.packing .fp8e4m3) := fun i v207 k0_hw34 k0_t3 k0_h2 => k0_hw34.1.2.2.2.2.2.2.2.2.2.2.2.2.2.2.2.2.2.2.2.2.2.1 k0_t3 k0_h2 (k0_off124_inb i v207 k0_hw34 k0_t3 k0_h2)
theorem k0_off126_inb : ∀ (i : grid0.Coords) (v207 : BitVec 32) (k0_hw34 : k0_chk34 i v207) (k0_t3 : Fin (k0_t3_loop v207).trips), ∀ (k0_h2 : k0_cond2 i = 1#1), ∀ a, (k0_off126 i v207 k0_t3) a + S1x1.size a ≤ S96x512.size a := fun i v207 k0_hw34 k0_t3 k0_h2 => k0_hw34.1.2.2.2.2.2.2.2.2.2.2.2.2.2.2.2.2.2.2.2.2.2.2.1 k0_t3 k0_h2
theorem k0_off128_inb : ∀ (i : grid0.Coords) (v207 : BitVec 32) (k0_hw34 : k0_chk34 i v207) (k0_t3 : Fin (k0_t3_loop v207).trips), ∀ (k0_h2 : k0_cond2 i = 1#1), ∀ a, (k0_off128 i v207 k0_t3) a + S1x1x2x8x128.size a ≤ S2x512x2x8x128.size a := fun i v207 k0_hw34 k0_t3 k0_h2 => k0_hw34.1.2.2.2.2.2.2.2.2.2.2.2.2.2.2.2.2.2.2.2.2.2.2.2.1 k0_t3 k0_h2
theorem k0_off128_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off128 i v207 k0_t3) S1x1x2x8x128.size (k0_off128_inb i v207 k0_hw34 k0_t3 k0_h2)).WholeWords (EltTy.packing .fp8e4m3) := fun i v207 k0_hw34 k0_t3 k0_h2 => k0_hw34.1.2.2.2.2.2.2.2.2.2.2.2.2.2.2.2.2.2.2.2.2.2.2.2.2.1 k0_t3 k0_h2 (k0_off128_inb i v207 k0_hw34 k0_t3 k0_h2)
theorem k0_off130_inb : ∀ (i : grid0.Coords) (v207 : BitVec 32) (k0_hw34 : k0_chk34 i v207) (k0_t3 : Fin (k0_t3_loop v207).trips), ∀ (k0_h2 : k0_cond2 i = 1#1), ∀ a, (k0_off130 i v207 k0_t3) a + S1x1.size a ≤ S96x512.size a := fun i v207 k0_hw34 k0_t3 k0_h2 => k0_hw34.1.2.2.2.2.2.2.2.2.2.2.2.2.2.2.2.2.2.2.2.2.2.2.2.2.2.1 k0_t3 k0_h2
theorem k0_off132_inb : ∀ (i : grid0.Coords) (v207 : BitVec 32) (k0_hw34 : k0_chk34 i v207) (k0_t3 : Fin (k0_t3_loop v207).trips), ∀ (k0_h2 : k0_cond2 i = 1#1), ∀ a, (k0_off132 i v207 k0_t3) a + S1x1x2x8x128.size a ≤ S2x512x2x8x128.size a := fun i v207 k0_hw34 k0_t3 k0_h2 => k0_hw34.1.2.2.2.2.2.2.2.2.2.2.2.2.2.2.2.2.2.2.2.2.2.2.2.2.2.2.1 k0_t3 k0_h2
theorem k0_off132_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off132 i v207 k0_t3) S1x1x2x8x128.size (k0_off132_inb i v207 k0_hw34 k0_t3 k0_h2)).WholeWords (EltTy.packing .fp8e4m3) := fun i v207 k0_hw34 k0_t3 k0_h2 => k0_hw34.1.2.2.2.2.2.2.2.2.2.2.2.2.2.2.2.2.2.2.2.2.2.2.2.2.2.2.2.1 k0_t3 k0_h2 (k0_off132_inb i v207 k0_hw34 k0_t3 k0_h2)
theorem k0_off134_inb : ∀ (i : grid0.Coords) (v207 : BitVec 32) (k0_hw34 : k0_chk34 i v207) (k0_t3 : Fin (k0_t3_loop v207).trips), ∀ (k0_h2 : k0_cond2 i = 1#1), ∀ a, (k0_off134 i v207 k0_t3) a + S1x1.size a ≤ S96x512.size a := fun i v207 k0_hw34 k0_t3 k0_h2 => k0_hw34.1.2.2.2.2.2.2.2.2.2.2.2.2.2.2.2.2.2.2.2.2.2.2.2.2.2.2.2.2.1 k0_t3 k0_h2
theorem k0_off136_inb : ∀ (i : grid0.Coords) (v207 : BitVec 32) (k0_hw34 : k0_chk34 i v207) (k0_t3 : Fin (k0_t3_loop v207).trips), ∀ (k0_h2 : k0_cond2 i = 1#1), ∀ a, (k0_off136 i v207 k0_t3) a + S1x1x2x8x128.size a ≤ S2x512x2x8x128.size a := fun i v207 k0_hw34 k0_t3 k0_h2 => k0_hw34.1.2.2.2.2.2.2.2.2.2.2.2.2.2.2.2.2.2.2.2.2.2.2.2.2.2.2.2.2.2.1 k0_t3 k0_h2
theorem k0_off136_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off136 i v207 k0_t3) S1x1x2x8x128.size (k0_off136_inb i v207 k0_hw34 k0_t3 k0_h2)).WholeWords (EltTy.packing .fp8e4m3) := fun i v207 k0_hw34 k0_t3 k0_h2 => k0_hw34.1.2.2.2.2.2.2.2.2.2.2.2.2.2.2.2.2.2.2.2.2.2.2.2.2.2.2.2.2.2.2.1 k0_t3 k0_h2 (k0_off136_inb i v207 k0_hw34 k0_t3 k0_h2)
theorem k0_off138_inb : ∀ (i : grid0.Coords) (v207 : BitVec 32) (k0_hw34 : k0_chk34 i v207) (k0_t3 : Fin (k0_t3_loop v207).trips), ∀ (k0_h2 : k0_cond2 i = 1#1), ∀ a, (k0_off138 i v207 k0_t3) a + S1x1.size a ≤ S96x512.size a := fun i v207 k0_hw34 k0_t3 k0_h2 => k0_hw34.1.2.2.2.2.2.2.2.2.2.2.2.2.2.2.2.2.2.2.2.2.2.2.2.2.2.2.2.2.2.2.2 k0_t3 k0_h2
theorem k0_off140_inb : ∀ (i : grid0.Coords) (v207 : BitVec 32) (k0_hw34 : k0_chk34 i v207) (k0_t3 : Fin (k0_t3_loop v207).trips), ∀ (k0_h2 : k0_cond2 i = 1#1), ∀ a, (k0_off140 i v207 k0_t3) a + S1x1x2x8x128.size a ≤ S2x512x2x8x128.size a := fun i v207 k0_hw34 k0_t3 k0_h2 => k0_hw34.2.1.1 k0_t3 k0_h2
theorem k0_off140_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off140 i v207 k0_t3) S1x1x2x8x128.size (k0_off140_inb i v207 k0_hw34 k0_t3 k0_h2)).WholeWords (EltTy.packing .fp8e4m3) := fun i v207 k0_hw34 k0_t3 k0_h2 => k0_hw34.2.1.2.1 k0_t3 k0_h2 (k0_off140_inb i v207 k0_hw34 k0_t3 k0_h2)
theorem k0_off142_inb : ∀ (i : grid0.Coords) (v207 : BitVec 32) (k0_hw34 : k0_chk34 i v207) (k0_t3 : Fin (k0_t3_loop v207).trips), ∀ (k0_h2 : k0_cond2 i = 1#1), ∀ a, (k0_off142 i v207 k0_t3) a + S1x1.size a ≤ S96x512.size a := fun i v207 k0_hw34 k0_t3 k0_h2 => k0_hw34.2.1.2.2.1 k0_t3 k0_h2
theorem k0_off144_inb : ∀ (i : grid0.Coords) (v207 : BitVec 32) (k0_hw34 : k0_chk34 i v207) (k0_t3 : Fin (k0_t3_loop v207).trips), ∀ (k0_h2 : k0_cond2 i = 1#1), ∀ a, (k0_off144 i v207 k0_t3) a + S1x1x2x8x128.size a ≤ S2x512x2x8x128.size a := fun i v207 k0_hw34 k0_t3 k0_h2 => k0_hw34.2.1.2.2.2.1 k0_t3 k0_h2
theorem k0_off144_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off144 i v207 k0_t3) S1x1x2x8x128.size (k0_off144_inb i v207 k0_hw34 k0_t3 k0_h2)).WholeWords (EltTy.packing .fp8e4m3) := fun i v207 k0_hw34 k0_t3 k0_h2 => k0_hw34.2.1.2.2.2.2.1 k0_t3 k0_h2 (k0_off144_inb i v207 k0_hw34 k0_t3 k0_h2)
theorem k0_off146_inb : ∀ (i : grid0.Coords) (v207 : BitVec 32) (k0_hw34 : k0_chk34 i v207) (k0_t3 : Fin (k0_t3_loop v207).trips), ∀ (k0_h2 : k0_cond2 i = 1#1), ∀ a, (k0_off146 i v207 k0_t3) a + S1x1.size a ≤ S96x512.size a := fun i v207 k0_hw34 k0_t3 k0_h2 => k0_hw34.2.1.2.2.2.2.2.1 k0_t3 k0_h2
theorem k0_off148_inb : ∀ (i : grid0.Coords) (v207 : BitVec 32) (k0_hw34 : k0_chk34 i v207) (k0_t3 : Fin (k0_t3_loop v207).trips), ∀ (k0_h2 : k0_cond2 i = 1#1), ∀ a, (k0_off148 i v207 k0_t3) a + S1x1x2x8x128.size a ≤ S2x512x2x8x128.size a := fun i v207 k0_hw34 k0_t3 k0_h2 => k0_hw34.2.1.2.2.2.2.2.2.1 k0_t3 k0_h2
theorem k0_off148_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off148 i v207 k0_t3) S1x1x2x8x128.size (k0_off148_inb i v207 k0_hw34 k0_t3 k0_h2)).WholeWords (EltTy.packing .fp8e4m3) := fun i v207 k0_hw34 k0_t3 k0_h2 => k0_hw34.2.1.2.2.2.2.2.2.2.1 k0_t3 k0_h2 (k0_off148_inb i v207 k0_hw34 k0_t3 k0_h2)
theorem k0_off150_inb : ∀ (i : grid0.Coords) (v207 : BitVec 32) (k0_hw34 : k0_chk34 i v207) (k0_t3 : Fin (k0_t3_loop v207).trips), ∀ (k0_h2 : k0_cond2 i = 1#1), ∀ a, (k0_off150 i v207 k0_t3) a + S1x1.size a ≤ S96x512.size a := fun i v207 k0_hw34 k0_t3 k0_h2 => k0_hw34.2.1.2.2.2.2.2.2.2.2.1 k0_t3 k0_h2
theorem k0_off152_inb : ∀ (i : grid0.Coords) (v207 : BitVec 32) (k0_hw34 : k0_chk34 i v207) (k0_t3 : Fin (k0_t3_loop v207).trips), ∀ (k0_h2 : k0_cond2 i = 1#1), ∀ a, (k0_off152 i v207 k0_t3) a + S1x1x2x8x128.size a ≤ S2x512x2x8x128.size a := fun i v207 k0_hw34 k0_t3 k0_h2 => k0_hw34.2.1.2.2.2.2.2.2.2.2.2.1 k0_t3 k0_h2
theorem k0_off152_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off152 i v207 k0_t3) S1x1x2x8x128.size (k0_off152_inb i v207 k0_hw34 k0_t3 k0_h2)).WholeWords (EltTy.packing .fp8e4m3) := fun i v207 k0_hw34 k0_t3 k0_h2 => k0_hw34.2.1.2.2.2.2.2.2.2.2.2.2.1 k0_t3 k0_h2 (k0_off152_inb i v207 k0_hw34 k0_t3 k0_h2)
theorem k0_off154_inb : ∀ (i : grid0.Coords) (v207 : BitVec 32) (k0_hw34 : k0_chk34 i v207) (k0_t3 : Fin (k0_t3_loop v207).trips), ∀ (k0_h2 : k0_cond2 i = 1#1), ∀ a, (k0_off154 i v207 k0_t3) a + S1x1.size a ≤ S96x512.size a := fun i v207 k0_hw34 k0_t3 k0_h2 => k0_hw34.2.1.2.2.2.2.2.2.2.2.2.2.2.1 k0_t3 k0_h2
theorem k0_off156_inb : ∀ (i : grid0.Coords) (v207 : BitVec 32) (k0_hw34 : k0_chk34 i v207) (k0_t3 : Fin (k0_t3_loop v207).trips), ∀ (k0_h2 : k0_cond2 i = 1#1), ∀ a, (k0_off156 i v207 k0_t3) a + S1x1x2x8x128.size a ≤ S2x512x2x8x128.size a := fun i v207 k0_hw34 k0_t3 k0_h2 => k0_hw34.2.1.2.2.2.2.2.2.2.2.2.2.2.2.1 k0_t3 k0_h2
theorem k0_off156_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off156 i v207 k0_t3) S1x1x2x8x128.size (k0_off156_inb i v207 k0_hw34 k0_t3 k0_h2)).WholeWords (EltTy.packing .fp8e4m3) := fun i v207 k0_hw34 k0_t3 k0_h2 => k0_hw34.2.1.2.2.2.2.2.2.2.2.2.2.2.2.2.1 k0_t3 k0_h2 (k0_off156_inb i v207 k0_hw34 k0_t3 k0_h2)
theorem k0_off158_inb : ∀ (i : grid0.Coords) (v207 : BitVec 32) (k0_hw34 : k0_chk34 i v207) (k0_t3 : Fin (k0_t3_loop v207).trips), ∀ (k0_h2 : k0_cond2 i = 1#1), ∀ a, (k0_off158 i v207 k0_t3) a + S1x1.size a ≤ S96x512.size a := fun i v207 k0_hw34 k0_t3 k0_h2 => k0_hw34.2.1.2.2.2.2.2.2.2.2.2.2.2.2.2.2.1 k0_t3 k0_h2
theorem k0_off160_inb : ∀ (i : grid0.Coords) (v207 : BitVec 32) (k0_hw34 : k0_chk34 i v207) (k0_t3 : Fin (k0_t3_loop v207).trips), ∀ (k0_h2 : k0_cond2 i = 1#1), ∀ a, (k0_off160 i v207 k0_t3) a + S1x1x2x8x128.size a ≤ S2x512x2x8x128.size a := fun i v207 k0_hw34 k0_t3 k0_h2 => k0_hw34.2.1.2.2.2.2.2.2.2.2.2.2.2.2.2.2.2.1 k0_t3 k0_h2
theorem k0_off160_wordsfp8e4m3 : ∀ (i : grid0.Coords) (v207 : BitVec 32) (k0_hw34 : k0_chk34 i v207) (k0_t3 : Fin (k0_t3_loop v207).trips), ∀ (k0_h2 : k0_cond2 i = 1#1), (Rect.unit (s := S2x512x2x8x128) (k0_off160 i v207 k0_t3) S1x1x2x8x128.size (k0_off160_inb i v207 k0_hw34 k0_t3 k0_h2)).WholeWords (EltTy.packing .fp8e4m3) := fun i v207 k0_hw34 k0_t3 k0_h2 => k0_hw34.2.1.2.2.2.2.2.2.2.2.2.2.2.2.2.2.2.2.1 k0_t3 k0_h2 (k0_off160_inb i v207 k0_hw34 k0_t3 k0_h2)
theorem k0_t4_ok : ∀ (i : grid0.Coords) (v207 : BitVec 32) (k0_hw34 : k0_chk34 i v207), ∀ (k0_h2 : k0_cond2 i = 1#1), (k0_t4_loop v207).OK := fun i v207 k0_hw34 k0_h2 => k0_hw34.2.1.2.2.2.2.2.2.2.2.2.2.2.2.2.2.2.2.2.1 k0_h2
theorem k0_off162_inb : ∀ (i : grid0.Coords) (v207 : BitVec 32) (k0_hw34 : k0_chk34 i v207) (k0_t4 : Fin (k0_t4_loop v207).trips), ∀ (k0_h2 : k0_cond2 i = 1#1), ∀ a, (k0_off162 i v207 k0_t4) a + S1x1.size a ≤ S96x512.size a := fun i v207 k0_hw34 k0_t4 k0_h2 => k0_hw34.2.1.2.2.2.2.2.2.2.2.2.2.2.2.2.2.2.2.2.2.1 k0_t4 k0_h2
theorem k0_off164_inb : ∀ (i : grid0.Coords) (v207 : BitVec 32) (k0_hw34 : k0_chk34 i v207) (k0_t4 : Fin (k0_t4_loop v207).trips), ∀ (k0_h2 : k0_cond2 i = 1#1), ∀ a, (k0_off164 i v207 k0_t4) a + S1x1x2x8x128.size a ≤ S2x512x2x8x128.size a := fun i v207 k0_hw34 k0_t4 k0_h2 => k0_hw34.2.1.2.2.2.2.2.2.2.2.2.2.2.2.2.2.2.2.2.2.2.1 k0_t4 k0_h2
theorem k0_off164_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off164 i v207 k0_t4) S1x1x2x8x128.size (k0_off164_inb i v207 k0_hw34 k0_t4 k0_h2)).WholeWords (EltTy.packing .fp8e4m3) := fun i v207 k0_hw34 k0_t4 k0_h2 => k0_hw34.2.1.2.2.2.2.2.2.2.2.2.2.2.2.2.2.2.2.2.2.2.2.1 k0_t4 k0_h2 (k0_off164_inb i v207 k0_hw34 k0_t4 k0_h2)
theorem k0_off166_inb : ∀ (i : grid0.Coords) (v207 : BitVec 32) (k0_hw34 : k0_chk34 i v207) (k0_t4 : Fin (k0_t4_loop v207).trips), ∀ (k0_h2 : k0_cond2 i = 1#1), ∀ a, (k0_off166 i v207 k0_t4) a + S1x1.size a ≤ S96x512.size a := fun i v207 k0_hw34 k0_t4 k0_h2 => k0_hw34.2.1.2.2.2.2.2.2.2.2.2.2.2.2.2.2.2.2.2.2.2.2.2.1 k0_t4 k0_h2
theorem k0_off168_inb : ∀ (i : grid0.Coords) (v207 : BitVec 32) (k0_hw34 : k0_chk34 i v207) (k0_t4 : Fin (k0_t4_loop v207).trips), ∀ (k0_h2 : k0_cond2 i = 1#1), ∀ a, (k0_off168 i v207 k0_t4) a + S1x1x2x8x128.size a ≤ S2x512x2x8x128.size a := fun i v207 k0_hw34 k0_t4 k0_h2 => k0_hw34.2.1.2.2.2.2.2.2.2.2.2.2.2.2.2.2.2.2.2.2.2.2.2.2.1 k0_t4 k0_h2
theorem k0_off168_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off168 i v207 k0_t4) S1x1x2x8x128.size (k0_off168_inb i v207 k0_hw34 k0_t4 k0_h2)).WholeWords (EltTy.packing .fp8e4m3) := fun i v207 k0_hw34 k0_t4 k0_h2 => k0_hw34.2.1.2.2.2.2.2.2.2.2.2.2.2.2.2.2.2.2.2.2.2.2.2.2.2.1 k0_t4 k0_h2 (k0_off168_inb i v207 k0_hw34 k0_t4 k0_h2)
theorem k0_off170_inb : ∀ (i : grid0.Coords) (v207 : BitVec 32) (k0_hw34 : k0_chk34 i v207) (k0_t4 : Fin (k0_t4_loop v207).trips), ∀ (k0_h2 : k0_cond2 i = 1#1), ∀ a, (k0_off170 i v207 k0_t4) a + S1x1.size a ≤ S96x512.size a := fun i v207 k0_hw34 k0_t4 k0_h2 => k0_hw34.2.1.2.2.2.2.2.2.2.2.2.2.2.2.2.2.2.2.2.2.2.2.2.2.2.2.1 k0_t4 k0_h2
theorem k0_off172_inb : ∀ (i : grid0.Coords) (v207 : BitVec 32) (k0_hw34 : k0_chk34 i v207) (k0_t4 : Fin (k0_t4_loop v207).trips), ∀ (k0_h2 : k0_cond2 i = 1#1), ∀ a, (k0_off172 i v207 k0_t4) a + S1x1x2x8x128.size a ≤ S2x512x2x8x128.size a := fun i v207 k0_hw34 k0_t4 k0_h2 => k0_hw34.2.1.2.2.2.2.2.2.2.2.2.2.2.2.2.2.2.2.2.2.2.2.2.2.2.2.2.1 k0_t4 k0_h2
theorem k0_off172_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off172 i v207 k0_t4) S1x1x2x8x128.size (k0_off172_inb i v207 k0_hw34 k0_t4 k0_h2)).WholeWords (EltTy.packing .fp8e4m3) := fun i v207 k0_hw34 k0_t4 k0_h2 => k0_hw34.2.1.2.2.2.2.2.2.2.2.2.2.2.2.2.2.2.2.2.2.2.2.2.2.2.2.2.2.1 k0_t4 k0_h2 (k0_off172_inb i v207 k0_hw34 k0_t4 k0_h2)
theorem k0_off174_inb : ∀ (i : grid0.Coords) (v207 : BitVec 32) (k0_hw34 : k0_chk34 i v207) (k0_t4 : Fin (k0_t4_loop v207).trips), ∀ (k0_h2 : k0_cond2 i = 1#1), ∀ a, (k0_off174 i v207 k0_t4) a + S1x1.size a ≤ S96x512.size a := fun i v207 k0_hw34 k0_t4 k0_h2 => k0_hw34.2.1.2.2.2.2.2.2.2.2.2.2.2.2.2.2.2.2.2.2.2.2.2.2.2.2.2.2.2.1 k0_t4 k0_h2
theorem k0_off176_inb : ∀ (i : grid0.Coords) (v207 : BitVec 32) (k0_hw34 : k0_chk34 i v207) (k0_t4 : Fin (k0_t4_loop v207).trips), ∀ (k0_h2 : k0_cond2 i = 1#1), ∀ a, (k0_off176 i v207 k0_t4) a + S1x1x2x8x128.size a ≤ S2x512x2x8x128.size a := fun i v207 k0_hw34 k0_t4 k0_h2 => k0_hw34.2.1.2.2.2.2.2.2.2.2.2.2.2.2.2.2.2.2.2.2.2.2.2.2.2.2.2.2.2.2.1 k0_t4 k0_h2
theorem k0_off176_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off176 i v207 k0_t4) S1x1x2x8x128.size (k0_off176_inb i v207 k0_hw34 k0_t4 k0_h2)).WholeWords (EltTy.packing .fp8e4m3) := fun i v207 k0_hw34 k0_t4 k0_h2 => k0_hw34.2.1.2.2.2.2.2.2.2.2.2.2.2.2.2.2.2.2.2.2.2.2.2.2.2.2.2.2.2.2.2.1 k0_t4 k0_h2 (k0_off176_inb i v207 k0_hw34 k0_t4 k0_h2)
theorem k0_off178_inb : ∀ (i : grid0.Coords) (v207 : BitVec 32) (k0_hw34 : k0_chk34 i v207) (k0_t4 : Fin (k0_t4_loop v207).trips), ∀ (k0_h2 : k0_cond2 i = 1#1), ∀ a, (k0_off178 i v207 k0_t4) a + S1x1.size a ≤ S96x512.size a := fun i v207 k0_hw34 k0_t4 k0_h2 => k0_hw34.2.1.2.2.2.2.2.2.2.2.2.2.2.2.2.2.2.2.2.2.2.2.2.2.2.2.2.2.2.2.2.2.1 k0_t4 k0_h2
theorem k0_off180_inb : ∀ (i : grid0.Coords) (v207 : BitVec 32) (k0_hw34 : k0_chk34 i v207) (k0_t4 : Fin (k0_t4_loop v207).trips), ∀ (k0_h2 : k0_cond2 i = 1#1), ∀ a, (k0_off180 i v207 k0_t4) a + S1x1x2x8x128.size a ≤ S2x512x2x8x128.size a := fun i v207 k0_hw34 k0_t4 k0_h2 => k0_hw34.2.1.2.2.2.2.2.2.2.2.2.2.2.2.2.2.2.2.2.2.2.2.2.2.2.2.2.2.2.2.2.2.2 k0_t4 k0_h2
theorem k0_off180_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off180 i v207 k0_t4) S1x1x2x8x128.size (k0_off180_inb i v207 k0_hw34 k0_t4 k0_h2)).WholeWords (EltTy.packing .fp8e4m3) := fun i v207 k0_hw34 k0_t4 k0_h2 => k0_hw34.2.2.1.1 k0_t4 k0_h2 (k0_off180_inb i v207 k0_hw34 k0_t4 k0_h2)
theorem k0_off182_inb : ∀ (i : grid0.Coords) (v207 : BitVec 32) (k0_hw34 : k0_chk34 i v207) (k0_t4 : Fin (k0_t4_loop v207).trips), ∀ (k0_h2 : k0_cond2 i = 1#1), ∀ a, (k0_off182 i v207 k0_t4) a + S1x1.size a ≤ S96x512.size a := fun i v207 k0_hw34 k0_t4 k0_h2 => k0_hw34.2.2.1.2.1 k0_t4 k0_h2
theorem k0_off184_inb : ∀ (i : grid0.Coords) (v207 : BitVec 32) (k0_hw34 : k0_chk34 i v207) (k0_t4 : Fin (k0_t4_loop v207).trips), ∀ (k0_h2 : k0_cond2 i = 1#1), ∀ a, (k0_off184 i v207 k0_t4) a + S1x1x2x8x128.size a ≤ S2x512x2x8x128.size a := fun i v207 k0_hw34 k0_t4 k0_h2 => k0_hw34.2.2.1.2.2.1 k0_t4 k0_h2
theorem k0_off184_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off184 i v207 k0_t4) S1x1x2x8x128.size (k0_off184_inb i v207 k0_hw34 k0_t4 k0_h2)).WholeWords (EltTy.packing .fp8e4m3) := fun i v207 k0_hw34 k0_t4 k0_h2 => k0_hw34.2.2.1.2.2.2.1 k0_t4 k0_h2 (k0_off184_inb i v207 k0_hw34 k0_t4 k0_h2)
theorem k0_off186_inb : ∀ (i : grid0.Coords) (v207 : BitVec 32) (k0_hw34 : k0_chk34 i v207) (k0_t4 : Fin (k0_t4_loop v207).trips), ∀ (k0_h2 : k0_cond2 i = 1#1), ∀ a, (k0_off186 i v207 k0_t4) a + S1x1.size a ≤ S96x512.size a := fun i v207 k0_hw34 k0_t4 k0_h2 => k0_hw34.2.2.1.2.2.2.2.1 k0_t4 k0_h2
theorem k0_off188_inb : ∀ (i : grid0.Coords) (v207 : BitVec 32) (k0_hw34 : k0_chk34 i v207) (k0_t4 : Fin (k0_t4_loop v207).trips), ∀ (k0_h2 : k0_cond2 i = 1#1), ∀ a, (k0_off188 i v207 k0_t4) a + S1x1x2x8x128.size a ≤ S2x512x2x8x128.size a := fun i v207 k0_hw34 k0_t4 k0_h2 => k0_hw34.2.2.1.2.2.2.2.2.1 k0_t4 k0_h2
theorem k0_off188_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off188 i v207 k0_t4) S1x1x2x8x128.size (k0_off188_inb i v207 k0_hw34 k0_t4 k0_h2)).WholeWords (EltTy.packing .fp8e4m3) := fun i v207 k0_hw34 k0_t4 k0_h2 => k0_hw34.2.2.1.2.2.2.2.2.2.1 k0_t4 k0_h2 (k0_off188_inb i v207 k0_hw34 k0_t4 k0_h2)
theorem k0_off190_inb : ∀ (i : grid0.Coords) (v207 : BitVec 32) (k0_hw34 : k0_chk34 i v207) (k0_t4 : Fin (k0_t4_loop v207).trips), ∀ (k0_h2 : k0_cond2 i = 1#1), ∀ a, (k0_off190 i v207 k0_t4) a + S1x1.size a ≤ S96x512.size a := fun i v207 k0_hw34 k0_t4 k0_h2 => k0_hw34.2.2.1.2.2.2.2.2.2.2.1 k0_t4 k0_h2
theorem k0_off192_inb : ∀ (i : grid0.Coords) (v207 : BitVec 32) (k0_hw34 : k0_chk34 i v207) (k0_t4 : Fin (k0_t4_loop v207).trips), ∀ (k0_h2 : k0_cond2 i = 1#1), ∀ a, (k0_off192 i v207 k0_t4) a + S1x1x2x8x128.size a ≤ S2x512x2x8x128.size a := fun i v207 k0_hw34 k0_t4 k0_h2 => k0_hw34.2.2.1.2.2.2.2.2.2.2.2.1 k0_t4 k0_h2
theorem k0_off192_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off192 i v207 k0_t4) S1x1x2x8x128.size (k0_off192_inb i v207 k0_hw34 k0_t4 k0_h2)).WholeWords (EltTy.packing .fp8e4m3) := fun i v207 k0_hw34 k0_t4 k0_h2 => k0_hw34.2.2.1.2.2.2.2.2.2.2.2.2.1 k0_t4 k0_h2 (k0_off192_inb i v207 k0_hw34 k0_t4 k0_h2)
theorem k0_off194_inb : ∀ (i : grid0.Coords) (v207 : BitVec 32) (k0_hw34 : k0_chk34 i v207) (k0_t4 : Fin (k0_t4_loop v207).trips), ∀ (k0_h2 : k0_cond2 i = 1#1), ∀ a, (k0_off194 i v207 k0_t4) a + S1x1.size a ≤ S96x512.size a := fun i v207 k0_hw34 k0_t4 k0_h2 => k0_hw34.2.2.1.2.2.2.2.2.2.2.2.2.2.1 k0_t4 k0_h2
theorem k0_off196_inb : ∀ (i : grid0.Coords) (v207 : BitVec 32) (k0_hw34 : k0_chk34 i v207) (k0_t4 : Fin (k0_t4_loop v207).trips), ∀ (k0_h2 : k0_cond2 i = 1#1), ∀ a, (k0_off196 i v207 k0_t4) a + S1x1x2x8x128.size a ≤ S2x512x2x8x128.size a := fun i v207 k0_hw34 k0_t4 k0_h2 => k0_hw34.2.2.1.2.2.2.2.2.2.2.2.2.2.2.1 k0_t4 k0_h2
theorem k0_off196_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off196 i v207 k0_t4) S1x1x2x8x128.size (k0_off196_inb i v207 k0_hw34 k0_t4 k0_h2)).WholeWords (EltTy.packing .fp8e4m3) := fun i v207 k0_hw34 k0_t4 k0_h2 => k0_hw34.2.2.1.2.2.2.2.2.2.2.2.2.2.2.2.1 k0_t4 k0_h2 (k0_off196_inb i v207 k0_hw34 k0_t4 k0_h2)
theorem k0_off198_inb : ∀ (i : grid0.Coords) (v207 : BitVec 32) (k0_hw34 : k0_chk34 i v207) (k0_t4 : Fin (k0_t4_loop v207).trips), ∀ (k0_h2 : k0_cond2 i = 1#1), ∀ a, (k0_off198 i v207 k0_t4) a + S1x1.size a ≤ S96x512.size a := fun i v207 k0_hw34 k0_t4 k0_h2 => k0_hw34.2.2.1.2.2.2.2.2.2.2.2.2.2.2.2.2.1 k0_t4 k0_h2
theorem k0_off200_inb : ∀ (i : grid0.Coords) (v207 : BitVec 32) (k0_hw34 : k0_chk34 i v207) (k0_t4 : Fin (k0_t4_loop v207).trips), ∀ (k0_h2 : k0_cond2 i = 1#1), ∀ a, (k0_off200 i v207 k0_t4) a + S1x1x2x8x128.size a ≤ S2x512x2x8x128.size a := fun i v207 k0_hw34 k0_t4 k0_h2 => k0_hw34.2.2.1.2.2.2.2.2.2.2.2.2.2.2.2.2.2.1 k0_t4 k0_h2
theorem k0_off200_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off200 i v207 k0_t4) S1x1x2x8x128.size (k0_off200_inb i v207 k0_hw34 k0_t4 k0_h2)).WholeWords (EltTy.packing .fp8e4m3) := fun i v207 k0_hw34 k0_t4 k0_h2 => k0_hw34.2.2.1.2.2.2.2.2.2.2.2.2.2.2.2.2.2.2.1 k0_t4 k0_h2 (k0_off200_inb i v207 k0_hw34 k0_t4 k0_h2)
theorem k0_off202_inb : ∀ (i : grid0.Coords) (v207 : BitVec 32) (k0_hw34 : k0_chk34 i v207) (k0_t4 : Fin (k0_t4_loop v207).trips), ∀ (k0_h2 : k0_cond2 i = 1#1), ∀ a, (k0_off202 i v207 k0_t4) a + S1x1.size a ≤ S96x512.size a := fun i v207 k0_hw34 k0_t4 k0_h2 => k0_hw34.2.2.1.2.2.2.2.2.2.2.2.2.2.2.2.2.2.2.2.1 k0_t4 k0_h2
theorem k0_off204_inb : ∀ (i : grid0.Coords) (v207 : BitVec 32) (k0_hw34 : k0_chk34 i v207) (k0_t4 : Fin (k0_t4_loop v207).trips), ∀ (k0_h2 : k0_cond2 i = 1#1), ∀ a, (k0_off204 i v207 k0_t4) a + S1x1x2x8x128.size a ≤ S2x512x2x8x128.size a := fun i v207 k0_hw34 k0_t4 k0_h2 => k0_hw34.2.2.1.2.2.2.2.2.2.2.2.2.2.2.2.2.2.2.2.2.1 k0_t4 k0_h2
theorem k0_off204_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off204 i v207 k0_t4) S1x1x2x8x128.size (k0_off204_inb i v207 k0_hw34 k0_t4 k0_h2)).WholeWords (EltTy.packing .fp8e4m3) := fun i v207 k0_hw34 k0_t4 k0_h2 => k0_hw34.2.2.1.2.2.2.2.2.2.2.2.2.2.2.2.2.2.2.2.2.2.1 k0_t4 k0_h2 (k0_off204_inb i v207 k0_hw34 k0_t4 k0_h2)
theorem k0_off206_inb : ∀ (i : grid0.Coords) (v207 : BitVec 32) (k0_hw34 : k0_chk34 i v207) (k0_t4 : Fin (k0_t4_loop v207).trips), ∀ (k0_h2 : k0_cond2 i = 1#1), ∀ a, (k0_off206 i v207 k0_t4) a + S1x1.size a ≤ S96x512.size a := fun i v207 k0_hw34 k0_t4 k0_h2 => k0_hw34.2.2.1.2.2.2.2.2.2.2.2.2.2.2.2.2.2.2.2.2.2.2.1 k0_t4 k0_h2
theorem k0_off208_inb : ∀ (i : grid0.Coords) (v207 : BitVec 32) (k0_hw34 : k0_chk34 i v207) (k0_t4 : Fin (k0_t4_loop v207).trips), ∀ (k0_h2 : k0_cond2 i = 1#1), ∀ a, (k0_off208 i v207 k0_t4) a + S1x1x2x8x128.size a ≤ S2x512x2x8x128.size a := fun i v207 k0_hw34 k0_t4 k0_h2 => k0_hw34.2.2.1.2.2.2.2.2.2.2.2.2.2.2.2.2.2.2.2.2.2.2.2.1 k0_t4 k0_h2
theorem k0_off208_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off208 i v207 k0_t4) S1x1x2x8x128.size (k0_off208_inb i v207 k0_hw34 k0_t4 k0_h2)).WholeWords (EltTy.packing .fp8e4m3) := fun i v207 k0_hw34 k0_t4 k0_h2 => k0_hw34.2.2.1.2.2.2.2.2.2.2.2.2.2.2.2.2.2.2.2.2.2.2.2.2.1 k0_t4 k0_h2 (k0_off208_inb i v207 k0_hw34 k0_t4 k0_h2)
theorem k0_off210_inb : ∀ (i : grid0.Coords) (v207 : BitVec 32) (k0_hw34 : k0_chk34 i v207) (k0_t4 : Fin (k0_t4_loop v207).trips), ∀ (k0_h2 : k0_cond2 i = 1#1), ∀ a, (k0_off210 i v207 k0_t4) a + S1x1.size a ≤ S96x512.size a := fun i v207 k0_hw34 k0_t4 k0_h2 => k0_hw34.2.2.1.2.2.2.2.2.2.2.2.2.2.2.2.2.2.2.2.2.2.2.2.2.2.1 k0_t4 k0_h2
theorem k0_off212_inb : ∀ (i : grid0.Coords) (v207 : BitVec 32) (k0_hw34 : k0_chk34 i v207) (k0_t4 : Fin (k0_t4_loop v207).trips), ∀ (k0_h2 : k0_cond2 i = 1#1), ∀ a, (k0_off212 i v207 k0_t4) a + S1x1x2x8x128.size a ≤ S2x512x2x8x128.size a := fun i v207 k0_hw34 k0_t4 k0_h2 => k0_hw34.2.2.1.2.2.2.2.2.2.2.2.2.2.2.2.2.2.2.2.2.2.2.2.2.2.2.1 k0_t4 k0_h2
theorem k0_off212_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off212 i v207 k0_t4) S1x1x2x8x128.size (k0_off212_inb i v207 k0_hw34 k0_t4 k0_h2)).WholeWords (EltTy.packing .fp8e4m3) := fun i v207 k0_hw34 k0_t4 k0_h2 => k0_hw34.2.2.1.2.2.2.2.2.2.2.2.2.2.2.2.2.2.2.2.2.2.2.2.2.2.2.2.1 k0_t4 k0_h2 (k0_off212_inb i v207 k0_hw34 k0_t4 k0_h2)
theorem k0_off214_inb : ∀ (i : grid0.Coords) (v207 : BitVec 32) (k0_hw34 : k0_chk34 i v207) (k0_t4 : Fin (k0_t4_loop v207).trips), ∀ (k0_h2 : k0_cond2 i = 1#1), ∀ a, (k0_off214 i v207 k0_t4) a + S1x1.size a ≤ S96x512.size a := fun i v207 k0_hw34 k0_t4 k0_h2 => k0_hw34.2.2.1.2.2.2.2.2.2.2.2.2.2.2.2.2.2.2.2.2.2.2.2.2.2.2.2.2.1 k0_t4 k0_h2
theorem k0_off216_inb : ∀ (i : grid0.Coords) (v207 : BitVec 32) (k0_hw34 : k0_chk34 i v207) (k0_t4 : Fin (k0_t4_loop v207).trips), ∀ (k0_h2 : k0_cond2 i = 1#1), ∀ a, (k0_off216 i v207 k0_t4) a + S1x1x2x8x128.size a ≤ S2x512x2x8x128.size a := fun i v207 k0_hw34 k0_t4 k0_h2 => k0_hw34.2.2.1.2.2.2.2.2.2.2.2.2.2.2.2.2.2.2.2.2.2.2.2.2.2.2.2.2.2.1 k0_t4 k0_h2
theorem k0_off216_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off216 i v207 k0_t4) S1x1x2x8x128.size (k0_off216_inb i v207 k0_hw34 k0_t4 k0_h2)).WholeWords (EltTy.packing .fp8e4m3) := fun i v207 k0_hw34 k0_t4 k0_h2 => k0_hw34.2.2.1.2.2.2.2.2.2.2.2.2.2.2.2.2.2.2.2.2.2.2.2.2.2.2.2.2.2.2.1 k0_t4 k0_h2 (k0_off216_inb i v207 k0_hw34 k0_t4 k0_h2)
theorem k0_off218_inb : ∀ (i : grid0.Coords) (v207 : BitVec 32) (k0_hw34 : k0_chk34 i v207) (k0_t4 : Fin (k0_t4_loop v207).trips), ∀ (k0_h2 : k0_cond2 i = 1#1), ∀ a, (k0_off218 i v207 k0_t4) a + S1x1.size a ≤ S96x512.size a := fun i v207 k0_hw34 k0_t4 k0_h2 => k0_hw34.2.2.1.2.2.2.2.2.2.2.2.2.2.2.2.2.2.2.2.2.2.2.2.2.2.2.2.2.2.2.2.1 k0_t4 k0_h2
theorem k0_off220_inb : ∀ (i : grid0.Coords) (v207 : BitVec 32) (k0_hw34 : k0_chk34 i v207) (k0_t4 : Fin (k0_t4_loop v207).trips), ∀ (k0_h2 : k0_cond2 i = 1#1), ∀ a, (k0_off220 i v207 k0_t4) a + S1x1x2x8x128.size a ≤ S2x512x2x8x128.size a := fun i v207 k0_hw34 k0_t4 k0_h2 => k0_hw34.2.2.1.2.2.2.2.2.2.2.2.2.2.2.2.2.2.2.2.2.2.2.2.2.2.2.2.2.2.2.2.2.1 k0_t4 k0_h2
theorem k0_off220_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off220 i v207 k0_t4) S1x1x2x8x128.size (k0_off220_inb i v207 k0_hw34 k0_t4 k0_h2)).WholeWords (EltTy.packing .fp8e4m3) := fun i v207 k0_hw34 k0_t4 k0_h2 => k0_hw34.2.2.1.2.2.2.2.2.2.2.2.2.2.2.2.2.2.2.2.2.2.2.2.2.2.2.2.2.2.2.2.2.2.1 k0_t4 k0_h2 (k0_off220_inb i v207 k0_hw34 k0_t4 k0_h2)
theorem k0_off222_inb : ∀ (i : grid0.Coords) (v207 : BitVec 32) (k0_hw34 : k0_chk34 i v207) (k0_t4 : Fin (k0_t4_loop v207).trips), ∀ (k0_h2 : k0_cond2 i = 1#1), ∀ a, (k0_off222 i v207 k0_t4) a + S1x1.size a ≤ S96x512.size a := fun i v207 k0_hw34 k0_t4 k0_h2 => k0_hw34.2.2.1.2.2.2.2.2.2.2.2.2.2.2.2.2.2.2.2.2.2.2.2.2.2.2.2.2.2.2.2.2.2.2 k0_t4 k0_h2
theorem k0_off224_inb : ∀ (i : grid0.Coords) (v207 : BitVec 32) (k0_hw34 : k0_chk34 i v207) (k0_t4 : Fin (k0_t4_loop v207).trips), ∀ (k0_h2 : k0_cond2 i = 1#1), ∀ a, (k0_off224 i v207 k0_t4) a + S1x1x2x8x128.size a ≤ S2x512x2x8x128.size a := fun i v207 k0_hw34 k0_t4 k0_h2 => k0_hw34.2.2.2.1 k0_t4 k0_h2
theorem k0_off224_wordsfp8e4m3 : ∀ (i : grid0.Coords) (v207 : BitVec 32) (k0_hw34 : k0_chk34 i v207) (k0_t4 : Fin (k0_t4_loop v207).trips), ∀ (k0_h2 : k0_cond2 i = 1#1), (Rect.unit (s := S2x512x2x8x128) (k0_off224 i v207 k0_t4) S1x1x2x8x128.size (k0_off224_inb i v207 k0_hw34 k0_t4 k0_h2)).WholeWords (EltTy.packing .fp8e4m3) := fun i v207 k0_hw34 k0_t4 k0_h2 => k0_hw34.2.2.2.2 k0_t4 k0_h2 (k0_off224_inb i v207 k0_hw34 k0_t4 k0_h2)

def k0_off226 (i : grid0.Coords) : Fin 1 → Nat :=
  let arg0 : BitVec 32 := BitVec.ofNat 32 (i 0).val
  let v128 : Index := Scalar.indexCast arg0
  ![v128.toNat]
@[reducible] def k0_t5_loop (v129 : BitVec 32) : Scf.Loop 32 :=
  let c0_i32_39 : BitVec 32 := 0#32
  let c255_i32 : BitVec 32 := 255#32
  let v130 : BitVec 32 := Scalar.addi v129 c255_i32
  let c256_i32 : BitVec 32 := 256#32
  let v131 : BitVec 32 := Scalar.divsi v130 c256_i32
  let v132 : BitVec 32 := Scalar.subi v131 c0_i32_39
  let c1_i32_41 : BitVec 32 := 1#32
  let v134 : BitVec 32 := Scalar.divsi v132 c1_i32_41
  let v135 : BitVec 32 := Scalar.muli v134 c1_i32_41
  let v136 : BitVec 32 := Scalar.addi c0_i32_39 v135
  let c1_i32_42 : BitVec 32 := 1#32
  ⟨c0_i32_39, v136, c1_i32_42⟩

def k0_off227 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off228 (i : grid0.Coords) (v129 : BitVec 32) (k0_t5 : Fin (k0_t5_loop v129).trips) : Fin 5 → Nat :=
  let arg0 : BitVec 32 := BitVec.ofNat 32 (i 0).val
  let c2_i32 : BitVec 32 := 2#32
  let v0 : BitVec 32 := Scalar.remsi arg0 c2_i32
  let c0_i32_39 : BitVec 32 := 0#32
  let c1_i32_42 : BitVec 32 := 1#32
  let arg9 : BitVec 32 := Scf.iv c0_i32_39 c1_i32_42 k0_t5
  let c16_i32 : BitVec 32 := 16#32
  let v204 : BitVec 32 := Scalar.muli arg9 c16_i32
  let c0_i32_68 : BitVec 32 := 0#32
  let c0_i32_69 : BitVec 32 := 0#32
  let c0_i32_70 : BitVec 32 := 0#32
  ![v0.toNat, v204.toNat, 0, 0, 0]
@[reducible] def k0_t6_loop (v129 : BitVec 32) : Scf.Loop 32 :=
  let c0_i32_39 : BitVec 32 := 0#32
  let c255_i32 : BitVec 32 := 255#32
  let v130 : BitVec 32 := Scalar.addi v129 c255_i32
  let c256_i32 : BitVec 32 := 256#32
  let v131 : BitVec 32 := Scalar.divsi v130 c256_i32
  let v132 : BitVec 32 := Scalar.subi v131 c0_i32_39
  let c1_i32_41 : BitVec 32 := 1#32
  let v134 : BitVec 32 := Scalar.divsi v132 c1_i32_41
  let v135 : BitVec 32 := Scalar.muli v134 c1_i32_41
  let v136 : BitVec 32 := Scalar.addi c0_i32_39 v135
  let v133 : BitVec 32 := Scalar.addi c0_i32_39 v132
  let c1_i32_43 : BitVec 32 := 1#32
  ⟨v136, v133, c1_i32_43⟩
def k0_off229 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off230 (i : grid0.Coords) (v129 : BitVec 32) (k0_t6 : Fin (k0_t6_loop v129).trips) : Fin 5 → Nat :=
  let arg0 : BitVec 32 := BitVec.ofNat 32 (i 0).val
  let c2_i32 : BitVec 32 := 2#32
  let v0 : BitVec 32 := Scalar.remsi arg0 c2_i32
  let c0_i32_39 : BitVec 32 := 0#32
  let c255_i32 : BitVec 32 := 255#32
  let v130 : BitVec 32 := Scalar.addi v129 c255_i32
  let c256_i32 : BitVec 32 := 256#32
  let v131 : BitVec 32 := Scalar.divsi v130 c256_i32
  let v132 : BitVec 32 := Scalar.subi v131 c0_i32_39
  let c1_i32_41 : BitVec 32 := 1#32
  let v134 : BitVec 32 := Scalar.divsi v132 c1_i32_41
  let v135 : BitVec 32 := Scalar.muli v134 c1_i32_41
  let v136 : BitVec 32 := Scalar.addi c0_i32_39 v135
  let c1_i32_43 : BitVec 32 := 1#32
  let arg9 : BitVec 32 := Scf.iv v136 c1_i32_43 k0_t6
  let c16_i32 : BitVec 32 := 16#32
  let v204 : BitVec 32 := Scalar.muli arg9 c16_i32
  let c0_i32_68 : BitVec 32 := 0#32
  let c0_i32_69 : BitVec 32 := 0#32
  let c0_i32_70 : BitVec 32 := 0#32
  ![v0.toNat, v204.toNat, 0, 0, 0]

def k0_chk67 (i : grid0.Coords) (v129 : BitVec 32) : Prop :=
  ((k0_t5_loop v129).OK) ∧
  (∀ k0_t5 : Fin (k0_t5_loop v129).trips, ∀ a, (k0_off228 i v129 k0_t5) a + S1x16x2x8x128.size a ≤ S2x512x2x8x128.size a) ∧
  (∀ k0_t5 : Fin (k0_t5_loop v129).trips, ∀ (hinb : ∀ a, (k0_off228 i v129 k0_t5) a + S1x16x2x8x128.size a ≤ S2x512x2x8x128.size a), (Rect.unit (s := S2x512x2x8x128) (k0_off228 i v129 k0_t5) S1x16x2x8x128.size hinb).WholeWords (EltTy.packing .fp8e4m3)) ∧
  ((k0_t6_loop v129).OK) ∧
  (∀ k0_t6 : Fin (k0_t6_loop v129).trips, ∀ a, (k0_off230 i v129 k0_t6) a + S1x16x2x8x128.size a ≤ S2x512x2x8x128.size a) ∧
  (∀ k0_t6 : Fin (k0_t6_loop v129).trips, ∀ (hinb : ∀ a, (k0_off230 i v129 k0_t6) a + S1x16x2x8x128.size a ≤ S2x512x2x8x128.size a), (Rect.unit (s := S2x512x2x8x128) (k0_off230 i v129 k0_t6) S1x16x2x8x128.size hinb).WholeWords (EltTy.packing .fp8e4m3))
theorem k0_t5_ok : ∀ (i : grid0.Coords) (v129 : BitVec 32) (k0_hw67 : k0_chk67 i v129), (k0_t5_loop v129).OK := fun i v129 k0_hw67 => k0_hw67.1
theorem k0_off228_inb : ∀ (i : grid0.Coords) (v129 : BitVec 32) (k0_hw67 : k0_chk67 i v129) (k0_t5 : Fin (k0_t5_loop v129).trips), ∀ a, (k0_off228 i v129 k0_t5) a + S1x16x2x8x128.size a ≤ S2x512x2x8x128.size a := fun i v129 k0_hw67 k0_t5 => k0_hw67.2.1 k0_t5
theorem k0_off228_wordsfp8e4m3 : ∀ (i : grid0.Coords) (v129 : BitVec 32) (k0_hw67 : k0_chk67 i v129) (k0_t5 : Fin (k0_t5_loop v129).trips), (Rect.unit (s := S2x512x2x8x128) (k0_off228 i v129 k0_t5) S1x16x2x8x128.size (k0_off228_inb i v129 k0_hw67 k0_t5)).WholeWords (EltTy.packing .fp8e4m3) := fun i v129 k0_hw67 k0_t5 => k0_hw67.2.2.1 k0_t5 (k0_off228_inb i v129 k0_hw67 k0_t5)
theorem k0_t6_ok : ∀ (i : grid0.Coords) (v129 : BitVec 32) (k0_hw67 : k0_chk67 i v129), (k0_t6_loop v129).OK := fun i v129 k0_hw67 => k0_hw67.2.2.2.1
theorem k0_off230_inb : ∀ (i : grid0.Coords) (v129 : BitVec 32) (k0_hw67 : k0_chk67 i v129) (k0_t6 : Fin (k0_t6_loop v129).trips), ∀ a, (k0_off230 i v129 k0_t6) a + S1x16x2x8x128.size a ≤ S2x512x2x8x128.size a := fun i v129 k0_hw67 k0_t6 => k0_hw67.2.2.2.2.1 k0_t6
theorem k0_off230_wordsfp8e4m3 : ∀ (i : grid0.Coords) (v129 : BitVec 32) (k0_hw67 : k0_chk67 i v129) (k0_t6 : Fin (k0_t6_loop v129).trips), (Rect.unit (s := S2x512x2x8x128) (k0_off230 i v129 k0_t6) S1x16x2x8x128.size (k0_off230_inb i v129 k0_hw67 k0_t6)).WholeWords (EltTy.packing .fp8e4m3) := fun i v129 k0_hw67 k0_t6 => k0_hw67.2.2.2.2.2 k0_t6 (k0_off230_inb i v129 k0_hw67 k0_t6)

def k0_off231 (i : grid0.Coords) : Fin 1 → Nat :=
  let arg0 : BitVec 32 := BitVec.ofNat 32 (i 0).val
  let v139 : Index := Scalar.indexCast arg0
  ![v139.toNat]
@[reducible] def k0_t7_loop (v140 : BitVec 32) : Scf.Loop 32 :=
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_61 : BitVec 32 := 1#32
  ⟨c0_i32_58, v194, c1_i32_61⟩

def k0_mult1 (v140 : BitVec 32) (k0_t7 : Fin (k0_t7_loop v140).trips) : BitVec 32 :=
  let c0_i32_58 : BitVec 32 := 0#32
  let c1_i32_61 : BitVec 32 := 1#32
  let arg9 : BitVec 32 := Scf.iv c0_i32_58 c1_i32_61 k0_t7
  let c128_i32_68 : BitVec 32 := 128#32
  let v204 : BitVec 32 := Scalar.muli arg9 c128_i32_68
  v204
def k0_off232 (i : grid0.Coords) (v140 : BitVec 32) (k0_t7 : Fin (k0_t7_loop v140).trips) (c0_i32_70 : BitVec 32) : Fin 5 → Nat :=
  let arg0 : BitVec 32 := BitVec.ofNat 32 (i 0).val
  let c2_i32 : BitVec 32 := 2#32
  let v0 : BitVec 32 := Scalar.remsi arg0 c2_i32
  let v215 : Index := Scalar.indexCast v0
  let c0_i32_58 : BitVec 32 := 0#32
  let c1_i32_61 : BitVec 32 := 1#32
  let arg9 : BitVec 32 := Scf.iv c0_i32_58 c1_i32_61 k0_t7
  let c128_i32_68 : BitVec 32 := 128#32
  let v204 : BitVec 32 := Scalar.muli arg9 c128_i32_68
  let v205 : BitVec 32 := v204
  let v214 : BitVec 32 := Scalar.addi v205 c0_i32_70
  let v216 : Index := Scalar.indexCast v214
  let c0_71 : Index := 0#32
  let c0_72 : Index := 0#32
  let c0_73 : Index := 0#32
  ![v215.toNat, v216.toNat, 0, 0, 0]
def k0_off233 (i : grid0.Coords) (v140 : BitVec 32) (k0_t7 : Fin (k0_t7_loop v140).trips) (c0_i32_74 : BitVec 32) : Fin 5 → Nat :=
  let arg0 : BitVec 32 := BitVec.ofNat 32 (i 0).val
  let c2_i32 : BitVec 32 := 2#32
  let v0 : BitVec 32 := Scalar.remsi arg0 c2_i32
  let v221 : Index := Scalar.indexCast v0
  let c0_i32_58 : BitVec 32 := 0#32
  let c1_i32_61 : BitVec 32 := 1#32
  let arg9 : BitVec 32 := Scf.iv c0_i32_58 c1_i32_61 k0_t7
  let c128_i32_68 : BitVec 32 := 128#32
  let v204 : BitVec 32 := Scalar.muli arg9 c128_i32_68
  let v205 : BitVec 32 := v204
  let v220 : BitVec 32 := Scalar.addi v205 c0_i32_74
  let v222 : Index := Scalar.indexCast v220
  let c1 : Index := 1#32
  let c0_75 : Index := 0#32
  let c0_76 : Index := 0#32
  ![v221.toNat, v222.toNat, 1, 0, 0]
def k0_off234 (v140 : BitVec 32) (k0_t7 : Fin (k0_t7_loop v140).trips) : Fin 3 → Nat :=
  let c0_127 : Index := 0#32
  let c0_128 : Index := 0#32
  let c0_i32_58 : BitVec 32 := 0#32
  let c1_i32_61 : BitVec 32 := 1#32
  let arg9 : BitVec 32 := Scf.iv c0_i32_58 c1_i32_61 k0_t7
  let c128_i32_68 : BitVec 32 := 128#32
  let v204 : BitVec 32 := Scalar.muli arg9 c128_i32_68
  let v205 : BitVec 32 := v204
  let v390 : Index := Scalar.indexCast v205
  ![0, 0, v390.toNat]
def k0_off235 (i : grid0.Coords) (v140 : BitVec 32) (k0_t7 : Fin (k0_t7_loop v140).trips) (c0_i32_130 : BitVec 32) : Fin 5 → Nat :=
  let arg0 : BitVec 32 := BitVec.ofNat 32 (i 0).val
  let c2_i32 : BitVec 32 := 2#32
  let v0 : BitVec 32 := Scalar.remsi arg0 c2_i32
  let v397 : Index := Scalar.indexCast v0
  let c0_i32_58 : BitVec 32 := 0#32
  let c1_i32_61 : BitVec 32 := 1#32
  let arg9 : BitVec 32 := Scf.iv c0_i32_58 c1_i32_61 k0_t7
  let c128_i32_68 : BitVec 32 := 128#32
  let v204 : BitVec 32 := Scalar.muli arg9 c128_i32_68
  let v205 : BitVec 32 := v204
  let v396 : BitVec 32 := Scalar.addi v205 c0_i32_130
  let v398 : Index := Scalar.indexCast v396
  let c0_131 : Index := 0#32
  let c4 : Index := 4#32
  let c0_132 : Index := 0#32
  ![v397.toNat, v398.toNat, 0, 4, 0]
def k0_off236 (i : grid0.Coords) (v140 : BitVec 32) (k0_t7 : Fin (k0_t7_loop v140).trips) (c0_i32_133 : BitVec 32) : Fin 5 → Nat :=
  let arg0 : BitVec 32 := BitVec.ofNat 32 (i 0).val
  let c2_i32 : BitVec 32 := 2#32
  let v0 : BitVec 32 := Scalar.remsi arg0 c2_i32
  let v403 : Index := Scalar.indexCast v0
  let c0_i32_58 : BitVec 32 := 0#32
  let c1_i32_61 : BitVec 32 := 1#32
  let arg9 : BitVec 32 := Scf.iv c0_i32_58 c1_i32_61 k0_t7
  let c128_i32_68 : BitVec 32 := 128#32
  let v204 : BitVec 32 := Scalar.muli arg9 c128_i32_68
  let v205 : BitVec 32 := v204
  let v402 : BitVec 32 := Scalar.addi v205 c0_i32_133
  let v404 : Index := Scalar.indexCast v402
  let c1_134 : Index := 1#32
  let c4_135 : Index := 4#32
  let c0_136 : Index := 0#32
  ![v403.toNat, v404.toNat, 1, 4, 0]
def k0_off237 (v140 : BitVec 32) (k0_t7 : Fin (k0_t7_loop v140).trips) : Fin 3 → Nat :=
  let c0_188 : Index := 0#32
  let c16 : Index := 16#32
  let c0_i32_58 : BitVec 32 := 0#32
  let c1_i32_61 : BitVec 32 := 1#32
  let arg9 : BitVec 32 := Scf.iv c0_i32_58 c1_i32_61 k0_t7
  let c128_i32_68 : BitVec 32 := 128#32
  let v204 : BitVec 32 := Scalar.muli arg9 c128_i32_68
  let v205 : BitVec 32 := v204
  let v572 : Index := Scalar.indexCast v205
  ![0, 16, v572.toNat]
@[reducible] def k0_t8_loop (v140 : BitVec 32) : Scf.Loop 32 :=
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let v191 : BitVec 32 := Scalar.addi c0_i32_58 v190
  let c1_i32_62 : BitVec 32 := 1#32
  ⟨v194, v191, c1_i32_62⟩
def k0_mult2 (v140 : BitVec 32) (k0_t8 : Fin (k0_t8_loop v140).trips) : BitVec 32 :=
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_62 : BitVec 32 := 1#32
  let arg9 : BitVec 32 := Scf.iv v194 c1_i32_62 k0_t8
  let c128_i32_68 : BitVec 32 := 128#32
  let v204 : BitVec 32 := Scalar.muli arg9 c128_i32_68
  v204
def k0_off238 (i : grid0.Coords) (v140 : BitVec 32) (k0_t8 : Fin (k0_t8_loop v140).trips) (c0_i32_70 : BitVec 32) : Fin 5 → Nat :=
  let arg0 : BitVec 32 := BitVec.ofNat 32 (i 0).val
  let c2_i32 : BitVec 32 := 2#32
  let v0 : BitVec 32 := Scalar.remsi arg0 c2_i32
  let v215 : Index := Scalar.indexCast v0
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_62 : BitVec 32 := 1#32
  let arg9 : BitVec 32 := Scf.iv v194 c1_i32_62 k0_t8
  let c128_i32_68 : BitVec 32 := 128#32
  let v204 : BitVec 32 := Scalar.muli arg9 c128_i32_68
  let v205 : BitVec 32 := v204
  let v214 : BitVec 32 := Scalar.addi v205 c0_i32_70
  let v216 : Index := Scalar.indexCast v214
  let c0_71 : Index := 0#32
  let c0_72 : Index := 0#32
  let c0_73 : Index := 0#32
  ![v215.toNat, v216.toNat, 0, 0, 0]
def k0_off239 (i : grid0.Coords) (v140 : BitVec 32) (k0_t8 : Fin (k0_t8_loop v140).trips) (c0_i32_74 : BitVec 32) : Fin 5 → Nat :=
  let arg0 : BitVec 32 := BitVec.ofNat 32 (i 0).val
  let c2_i32 : BitVec 32 := 2#32
  let v0 : BitVec 32 := Scalar.remsi arg0 c2_i32
  let v221 : Index := Scalar.indexCast v0
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_62 : BitVec 32 := 1#32
  let arg9 : BitVec 32 := Scf.iv v194 c1_i32_62 k0_t8
  let c128_i32_68 : BitVec 32 := 128#32
  let v204 : BitVec 32 := Scalar.muli arg9 c128_i32_68
  let v205 : BitVec 32 := v204
  let v220 : BitVec 32 := Scalar.addi v205 c0_i32_74
  let v222 : Index := Scalar.indexCast v220
  let c1 : Index := 1#32
  let c0_75 : Index := 0#32
  let c0_76 : Index := 0#32
  ![v221.toNat, v222.toNat, 1, 0, 0]
def k0_off240 (v140 : BitVec 32) (k0_t8 : Fin (k0_t8_loop v140).trips) : Fin 3 → Nat :=
  let c0_127 : Index := 0#32
  let c0_128 : Index := 0#32
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_62 : BitVec 32 := 1#32
  let arg9 : BitVec 32 := Scf.iv v194 c1_i32_62 k0_t8
  let c128_i32_68 : BitVec 32 := 128#32
  let v204 : BitVec 32 := Scalar.muli arg9 c128_i32_68
  let v205 : BitVec 32 := v204
  let v390 : Index := Scalar.indexCast v205
  ![0, 0, v390.toNat]
def k0_off241 (i : grid0.Coords) (v140 : BitVec 32) (k0_t8 : Fin (k0_t8_loop v140).trips) (c0_i32_130 : BitVec 32) : Fin 5 → Nat :=
  let arg0 : BitVec 32 := BitVec.ofNat 32 (i 0).val
  let c2_i32 : BitVec 32 := 2#32
  let v0 : BitVec 32 := Scalar.remsi arg0 c2_i32
  let v397 : Index := Scalar.indexCast v0
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_62 : BitVec 32 := 1#32
  let arg9 : BitVec 32 := Scf.iv v194 c1_i32_62 k0_t8
  let c128_i32_68 : BitVec 32 := 128#32
  let v204 : BitVec 32 := Scalar.muli arg9 c128_i32_68
  let v205 : BitVec 32 := v204
  let v396 : BitVec 32 := Scalar.addi v205 c0_i32_130
  let v398 : Index := Scalar.indexCast v396
  let c0_131 : Index := 0#32
  let c4 : Index := 4#32
  let c0_132 : Index := 0#32
  ![v397.toNat, v398.toNat, 0, 4, 0]
def k0_off242 (i : grid0.Coords) (v140 : BitVec 32) (k0_t8 : Fin (k0_t8_loop v140).trips) (c0_i32_133 : BitVec 32) : Fin 5 → Nat :=
  let arg0 : BitVec 32 := BitVec.ofNat 32 (i 0).val
  let c2_i32 : BitVec 32 := 2#32
  let v0 : BitVec 32 := Scalar.remsi arg0 c2_i32
  let v403 : Index := Scalar.indexCast v0
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_62 : BitVec 32 := 1#32
  let arg9 : BitVec 32 := Scf.iv v194 c1_i32_62 k0_t8
  let c128_i32_68 : BitVec 32 := 128#32
  let v204 : BitVec 32 := Scalar.muli arg9 c128_i32_68
  let v205 : BitVec 32 := v204
  let v402 : BitVec 32 := Scalar.addi v205 c0_i32_133
  let v404 : Index := Scalar.indexCast v402
  let c1_134 : Index := 1#32
  let c4_135 : Index := 4#32
  let c0_136 : Index := 0#32
  ![v403.toNat, v404.toNat, 1, 4, 0]
def k0_off243 (v140 : BitVec 32) (k0_t8 : Fin (k0_t8_loop v140).trips) : Fin 3 → Nat :=
  let c0_188 : Index := 0#32
  let c16 : Index := 16#32
  let c0_i32_58 : BitVec 32 := 0#32
  let c2047_i32 : BitVec 32 := 2047#32
  let v188 : BitVec 32 := Scalar.addi v140 c2047_i32
  let c2048_i32 : BitVec 32 := 2048#32
  let v189 : BitVec 32 := Scalar.divsi v188 c2048_i32
  let v190 : BitVec 32 := Scalar.subi v189 c0_i32_58
  let c1_i32_60 : BitVec 32 := 1#32
  let v192 : BitVec 32 := Scalar.divsi v190 c1_i32_60
  let v193 : BitVec 32 := Scalar.muli v192 c1_i32_60
  let v194 : BitVec 32 := Scalar.addi c0_i32_58 v193
  let c1_i32_62 : BitVec 32 := 1#32
  let arg9 : BitVec 32 := Scf.iv v194 c1_i32_62 k0_t8
  let c128_i32_68 : BitVec 32 := 128#32
  let v204 : BitVec 32 := Scalar.muli arg9 c128_i32_68
  let v205 : BitVec 32 := v204
  let v572 : Index := Scalar.indexCast v205
  ![0, 16, v572.toNat]
@[reducible] def k0_t9_loop (v140 : BitVec 32) : Scf.Loop 32 :=
  let c2047_i32 : BitVec 32 := 2047#32
  let v188 : BitVec 32 := Scalar.addi v140 c2047_i32
  let c2048_i32 : BitVec 32 := 2048#32
  let v189 : BitVec 32 := Scalar.divsi v188 c2048_i32
  let c4_i32_63 : BitVec 32 := 4#32
  let v197 : BitVec 32 := Scalar.subi c4_i32_63 v189
  let c1_i32_65 : BitVec 32 := 1#32
  let v199 : BitVec 32 := Scalar.divsi v197 c1_i32_65
  let v200 : BitVec 32 := Scalar.muli v199 c1_i32_65
  let v201 : BitVec 32 := Scalar.addi v189 v200
  let c1_i32_66 : BitVec 32 := 1#32
  ⟨v189, v201, c1_i32_66⟩
def k0_off244 (v140 : BitVec 32) (k0_t9 : Fin (k0_t9_loop v140).trips) : Fin 3 → Nat :=
  let c0_70 : Index := 0#32
  let c0_71 : Index := 0#32
  let c2047_i32 : BitVec 32 := 2047#32
  let v188 : BitVec 32 := Scalar.addi v140 c2047_i32
  let c2048_i32 : BitVec 32 := 2048#32
  let v189 : BitVec 32 := Scalar.divsi v188 c2048_i32
  let c1_i32_66 : BitVec 32 := 1#32
  let arg9 : BitVec 32 := Scf.iv v189 c1_i32_66 k0_t9
  let c128_i32_69 : BitVec 32 := 128#32
  let v205 : BitVec 32 := Scalar.muli arg9 c128_i32_69
  let v206 : Index := Scalar.indexCast v205
  ![0, 0, v206.toNat]
@[reducible] def k0_t10_loop (v140 : BitVec 32) : Scf.Loop 32 :=
  let c2047_i32 : BitVec 32 := 2047#32
  let v188 : BitVec 32 := Scalar.addi v140 c2047_i32
  let c2048_i32 : BitVec 32 := 2048#32
  let v189 : BitVec 32 := Scalar.divsi v188 c2048_i32
  let c4_i32_63 : BitVec 32 := 4#32
  let v197 : BitVec 32 := Scalar.subi c4_i32_63 v189
  let c1_i32_65 : BitVec 32 := 1#32
  let v199 : BitVec 32 := Scalar.divsi v197 c1_i32_65
  let v200 : BitVec 32 := Scalar.muli v199 c1_i32_65
  let v201 : BitVec 32 := Scalar.addi v189 v200
  let v198 : BitVec 32 := Scalar.addi v189 v197
  let c1_i32_67 : BitVec 32 := 1#32
  ⟨v201, v198, c1_i32_67⟩
def k0_off245 (v140 : BitVec 32) (k0_t10 : Fin (k0_t10_loop v140).trips) : Fin 3 → Nat :=
  let c0_70 : Index := 0#32
  let c0_71 : Index := 0#32
  let c2047_i32 : BitVec 32 := 2047#32
  let v188 : BitVec 32 := Scalar.addi v140 c2047_i32
  let c2048_i32 : BitVec 32 := 2048#32
  let v189 : BitVec 32 := Scalar.divsi v188 c2048_i32
  let c4_i32_63 : BitVec 32 := 4#32
  let v197 : BitVec 32 := Scalar.subi c4_i32_63 v189
  let c1_i32_65 : BitVec 32 := 1#32
  let v199 : BitVec 32 := Scalar.divsi v197 c1_i32_65
  let v200 : BitVec 32 := Scalar.muli v199 c1_i32_65
  let v201 : BitVec 32 := Scalar.addi v189 v200
  let c1_i32_67 : BitVec 32 := 1#32
  let arg9 : BitVec 32 := Scf.iv v201 c1_i32_67 k0_t10
  let c128_i32_69 : BitVec 32 := 128#32
  let v205 : BitVec 32 := Scalar.muli arg9 c128_i32_69
  let v206 : Index := Scalar.indexCast v205
  ![0, 0, v206.toNat]

def k0_chk68 (i : grid0.Coords) (v140 : BitVec 32) : Prop :=
  ((k0_t7_loop v140).OK) ∧
  (∀ k0_t7 : Fin (k0_t7_loop v140).trips, 128 ∣ (k0_mult1 v140 k0_t7).toNat) ∧
  (∀ k0_t7 : Fin (k0_t7_loop v140).trips, ∀ (r : Fin 2), ∀ a, (k0_off232 i v140 k0_t7 (BitVec.ofNat 32 (64 * r.val))) a + S1x64x1x4x128.size a ≤ S2x512x2x8x128.size a) ∧
  (∀ k0_t7 : Fin (k0_t7_loop v140).trips, ∀ (r : Fin 2), ∀ a, (k0_off233 i v140 k0_t7 (BitVec.ofNat 32 (64 * r.val))) a + S1x64x1x4x128.size a ≤ S2x512x2x8x128.size a) ∧
  (∀ k0_t7 : Fin (k0_t7_loop v140).trips, ∀ a, (k0_off234 v140 k0_t7) a + S1x16x128.size a ≤ S1x32x512.size a) ∧
  (∀ k0_t7 : Fin (k0_t7_loop v140).trips, ∀ (r : Fin 2), ∀ a, (k0_off235 i v140 k0_t7 (BitVec.ofNat 32 (64 * r.val))) a + S1x64x1x4x128.size a ≤ S2x512x2x8x128.size a) ∧
  (∀ k0_t7 : Fin (k0_t7_loop v140).trips, ∀ (r : Fin 2), ∀ a, (k0_off236 i v140 k0_t7 (BitVec.ofNat 32 (64 * r.val))) a + S1x64x1x4x128.size a ≤ S2x512x2x8x128.size a) ∧
  (∀ k0_t7 : Fin (k0_t7_loop v140).trips, ∀ a, (k0_off237 v140 k0_t7) a + S1x16x128.size a ≤ S1x32x512.size a) ∧
  ((k0_t8_loop v140).OK) ∧
  (∀ k0_t8 : Fin (k0_t8_loop v140).trips, 128 ∣ (k0_mult2 v140 k0_t8).toNat) ∧
  (∀ k0_t8 : Fin (k0_t8_loop v140).trips, ∀ (r : Fin 2), ∀ a, (k0_off238 i v140 k0_t8 (BitVec.ofNat 32 (64 * r.val))) a + S1x64x1x4x128.size a ≤ S2x512x2x8x128.size a) ∧
  (∀ k0_t8 : Fin (k0_t8_loop v140).trips, ∀ (r : Fin 2), ∀ a, (k0_off239 i v140 k0_t8 (BitVec.ofNat 32 (64 * r.val))) a + S1x64x1x4x128.size a ≤ S2x512x2x8x128.size a) ∧
  (∀ k0_t8 : Fin (k0_t8_loop v140).trips, ∀ a, (k0_off240 v140 k0_t8) a + S1x16x128.size a ≤ S1x32x512.size a) ∧
  (∀ k0_t8 : Fin (k0_t8_loop v140).trips, ∀ (r : Fin 2), ∀ a, (k0_off241 i v140 k0_t8 (BitVec.ofNat 32 (64 * r.val))) a + S1x64x1x4x128.size a ≤ S2x512x2x8x128.size a) ∧
  (∀ k0_t8 : Fin (k0_t8_loop v140).trips, ∀ (r : Fin 2), ∀ a, (k0_off242 i v140 k0_t8 (BitVec.ofNat 32 (64 * r.val))) a + S1x64x1x4x128.size a ≤ S2x512x2x8x128.size a) ∧
  (∀ k0_t8 : Fin (k0_t8_loop v140).trips, ∀ a, (k0_off243 v140 k0_t8) a + S1x16x128.size a ≤ S1x32x512.size a) ∧
  ((k0_t9_loop v140).OK) ∧
  (∀ k0_t9 : Fin (k0_t9_loop v140).trips, ∀ a, (k0_off244 v140 k0_t9) a + S1x32x128.size a ≤ S1x32x512.size a) ∧
  ((k0_t10_loop v140).OK) ∧
  (∀ k0_t10 : Fin (k0_t10_loop v140).trips, ∀ a, (k0_off245 v140 k0_t10) a + S1x32x128.size a ≤ S1x32x512.size a)
theorem k0_t7_ok : ∀ (i : grid0.Coords) (v140 : BitVec 32) (k0_hw68 : k0_chk68 i v140), (k0_t7_loop v140).OK := fun i v140 k0_hw68 => k0_hw68.1
theorem k0_mult1_dvd : ∀ (i : grid0.Coords) (v140 : BitVec 32) (k0_hw68 : k0_chk68 i v140) (k0_t7 : Fin (k0_t7_loop v140).trips), 128 ∣ (k0_mult1 v140 k0_t7).toNat := fun i v140 k0_hw68 k0_t7 => k0_hw68.2.1 k0_t7
theorem k0_off232_inb : ∀ (i : grid0.Coords) (v140 : BitVec 32) (k0_hw68 : k0_chk68 i v140) (k0_t7 : Fin (k0_t7_loop v140).trips), ∀ (r : Fin 2), ∀ a, (k0_off232 i v140 k0_t7 (BitVec.ofNat 32 (64 * r.val))) a + S1x64x1x4x128.size a ≤ S2x512x2x8x128.size a := fun i v140 k0_hw68 k0_t7 r => k0_hw68.2.2.1 k0_t7 r
theorem k0_off233_inb : ∀ (i : grid0.Coords) (v140 : BitVec 32) (k0_hw68 : k0_chk68 i v140) (k0_t7 : Fin (k0_t7_loop v140).trips), ∀ (r : Fin 2), ∀ a, (k0_off233 i v140 k0_t7 (BitVec.ofNat 32 (64 * r.val))) a + S1x64x1x4x128.size a ≤ S2x512x2x8x128.size a := fun i v140 k0_hw68 k0_t7 r => k0_hw68.2.2.2.1 k0_t7 r
theorem k0_off234_inb : ∀ (i : grid0.Coords) (v140 : BitVec 32) (k0_hw68 : k0_chk68 i v140) (k0_t7 : Fin (k0_t7_loop v140).trips), ∀ a, (k0_off234 v140 k0_t7) a + S1x16x128.size a ≤ S1x32x512.size a := fun i v140 k0_hw68 k0_t7 => k0_hw68.2.2.2.2.1 k0_t7
theorem k0_off235_inb : ∀ (i : grid0.Coords) (v140 : BitVec 32) (k0_hw68 : k0_chk68 i v140) (k0_t7 : Fin (k0_t7_loop v140).trips), ∀ (r : Fin 2), ∀ a, (k0_off235 i v140 k0_t7 (BitVec.ofNat 32 (64 * r.val))) a + S1x64x1x4x128.size a ≤ S2x512x2x8x128.size a := fun i v140 k0_hw68 k0_t7 r => k0_hw68.2.2.2.2.2.1 k0_t7 r
theorem k0_off236_inb : ∀ (i : grid0.Coords) (v140 : BitVec 32) (k0_hw68 : k0_chk68 i v140) (k0_t7 : Fin (k0_t7_loop v140).trips), ∀ (r : Fin 2), ∀ a, (k0_off236 i v140 k0_t7 (BitVec.ofNat 32 (64 * r.val))) a + S1x64x1x4x128.size a ≤ S2x512x2x8x128.size a := fun i v140 k0_hw68 k0_t7 r => k0_hw68.2.2.2.2.2.2.1 k0_t7 r
theorem k0_off237_inb : ∀ (i : grid0.Coords) (v140 : BitVec 32) (k0_hw68 : k0_chk68 i v140) (k0_t7 : Fin (k0_t7_loop v140).trips), ∀ a, (k0_off237 v140 k0_t7) a + S1x16x128.size a ≤ S1x32x512.size a := fun i v140 k0_hw68 k0_t7 => k0_hw68.2.2.2.2.2.2.2.1 k0_t7
theorem k0_t8_ok : ∀ (i : grid0.Coords) (v140 : BitVec 32) (k0_hw68 : k0_chk68 i v140), (k0_t8_loop v140).OK := fun i v140 k0_hw68 => k0_hw68.2.2.2.2.2.2.2.2.1
theorem k0_mult2_dvd : ∀ (i : grid0.Coords) (v140 : BitVec 32) (k0_hw68 : k0_chk68 i v140) (k0_t8 : Fin (k0_t8_loop v140).trips), 128 ∣ (k0_mult2 v140 k0_t8).toNat := fun i v140 k0_hw68 k0_t8 => k0_hw68.2.2.2.2.2.2.2.2.2.1 k0_t8
theorem k0_off238_inb : ∀ (i : grid0.Coords) (v140 : BitVec 32) (k0_hw68 : k0_chk68 i v140) (k0_t8 : Fin (k0_t8_loop v140).trips), ∀ (r : Fin 2), ∀ a, (k0_off238 i v140 k0_t8 (BitVec.ofNat 32 (64 * r.val))) a + S1x64x1x4x128.size a ≤ S2x512x2x8x128.size a := fun i v140 k0_hw68 k0_t8 r => k0_hw68.2.2.2.2.2.2.2.2.2.2.1 k0_t8 r
theorem k0_off239_inb : ∀ (i : grid0.Coords) (v140 : BitVec 32) (k0_hw68 : k0_chk68 i v140) (k0_t8 : Fin (k0_t8_loop v140).trips), ∀ (r : Fin 2), ∀ a, (k0_off239 i v140 k0_t8 (BitVec.ofNat 32 (64 * r.val))) a + S1x64x1x4x128.size a ≤ S2x512x2x8x128.size a := fun i v140 k0_hw68 k0_t8 r => k0_hw68.2.2.2.2.2.2.2.2.2.2.2.1 k0_t8 r
theorem k0_off240_inb : ∀ (i : grid0.Coords) (v140 : BitVec 32) (k0_hw68 : k0_chk68 i v140) (k0_t8 : Fin (k0_t8_loop v140).trips), ∀ a, (k0_off240 v140 k0_t8) a + S1x16x128.size a ≤ S1x32x512.size a := fun i v140 k0_hw68 k0_t8 => k0_hw68.2.2.2.2.2.2.2.2.2.2.2.2.1 k0_t8
theorem k0_off241_inb : ∀ (i : grid0.Coords) (v140 : BitVec 32) (k0_hw68 : k0_chk68 i v140) (k0_t8 : Fin (k0_t8_loop v140).trips), ∀ (r : Fin 2), ∀ a, (k0_off241 i v140 k0_t8 (BitVec.ofNat 32 (64 * r.val))) a + S1x64x1x4x128.size a ≤ S2x512x2x8x128.size a := fun i v140 k0_hw68 k0_t8 r => k0_hw68.2.2.2.2.2.2.2.2.2.2.2.2.2.1 k0_t8 r
theorem k0_off242_inb : ∀ (i : grid0.Coords) (v140 : BitVec 32) (k0_hw68 : k0_chk68 i v140) (k0_t8 : Fin (k0_t8_loop v140).trips), ∀ (r : Fin 2), ∀ a, (k0_off242 i v140 k0_t8 (BitVec.ofNat 32 (64 * r.val))) a + S1x64x1x4x128.size a ≤ S2x512x2x8x128.size a := fun i v140 k0_hw68 k0_t8 r => k0_hw68.2.2.2.2.2.2.2.2.2.2.2.2.2.2.1 k0_t8 r
theorem k0_off243_inb : ∀ (i : grid0.Coords) (v140 : BitVec 32) (k0_hw68 : k0_chk68 i v140) (k0_t8 : Fin (k0_t8_loop v140).trips), ∀ a, (k0_off243 v140 k0_t8) a + S1x16x128.size a ≤ S1x32x512.size a := fun i v140 k0_hw68 k0_t8 => k0_hw68.2.2.2.2.2.2.2.2.2.2.2.2.2.2.2.1 k0_t8
theorem k0_t9_ok : ∀ (i : grid0.Coords) (v140 : BitVec 32) (k0_hw68 : k0_chk68 i v140), (k0_t9_loop v140).OK := fun i v140 k0_hw68 => k0_hw68.2.2.2.2.2.2.2.2.2.2.2.2.2.2.2.2.1
theorem k0_off244_inb : ∀ (i : grid0.Coords) (v140 : BitVec 32) (k0_hw68 : k0_chk68 i v140) (k0_t9 : Fin (k0_t9_loop v140).trips), ∀ a, (k0_off244 v140 k0_t9) a + S1x32x128.size a ≤ S1x32x512.size a := fun i v140 k0_hw68 k0_t9 => k0_hw68.2.2.2.2.2.2.2.2.2.2.2.2.2.2.2.2.2.1 k0_t9
theorem k0_t10_ok : ∀ (i : grid0.Coords) (v140 : BitVec 32) (k0_hw68 : k0_chk68 i v140), (k0_t10_loop v140).OK := fun i v140 k0_hw68 => k0_hw68.2.2.2.2.2.2.2.2.2.2.2.2.2.2.2.2.2.2.1
theorem k0_off245_inb : ∀ (i : grid0.Coords) (v140 : BitVec 32) (k0_hw68 : k0_chk68 i v140) (k0_t10 : Fin (k0_t10_loop v140).trips), ∀ a, (k0_off245 v140 k0_t10) a + S1x32x128.size a ≤ S1x32x512.size a := fun i v140 k0_hw68 k0_t10 => k0_hw68.2.2.2.2.2.2.2.2.2.2.2.2.2.2.2.2.2.2.2 k0_t10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S96x32x128 : Shape := ⟨3, ![96, 32, 128]⟩
abbrev S61440x8x256 : Shape := ⟨3, ![61440, 8, 256]⟩
abbrev S8 : Shape := ⟨1, ![8]⟩
abbrev S96x512 : Shape := ⟨2, ![96, 512]⟩
abbrev S96 : Shape := ⟨1, ![96]⟩
abbrev S96x8x4x128 : Shape := ⟨4, ![96, 8, 4, 128]⟩
abbrev S_ : Shape := ⟨0, ![]⟩
abbrev S96x8x4x128x1 : Shape := ⟨5, ![96, 8, 4, 128, 1]⟩
abbrev S96x8x4x128x2 : Shape := ⟨5, ![96, 8, 4, 128, 2]⟩
abbrev S96x512x1 : Shape := ⟨3, ![96, 512, 1]⟩
abbrev S96x512x8x256 : Shape := ⟨4, ![96, 512, 8, 256]⟩
abbrev S96x512x8x128x2 : Shape := ⟨5, ![96, 512, 8, 128, 2]⟩
abbrev S96x8x512x4 : Shape := ⟨4, ![96, 8, 512, 4]⟩
abbrev S96x512x8x4 : Shape := ⟨4, ![96, 512, 8, 4]⟩
abbrev S1x1x8x1 : Shape := ⟨4, ![1, 1, 8, 1]⟩
abbrev S96x512x32 : Shape := ⟨3, ![96, 512, 32]⟩
abbrev S512 : Shape := ⟨1, ![512]⟩
abbrev S1x512 : Shape := ⟨2, ![1, 512]⟩
abbrev S96x1 : Shape := ⟨2, ![96, 1]⟩

abbrev nBuf : Space → Nat
  | .hbm => 47
  | .vmem => 2
  | .smem => 0
  | _ => 0

abbrev bufTy : (tb : Table) → Fin (tcTables nBuf tb) → BufTy
  | .hbm, ⟨0, _⟩ => ⟨S96x32x128, .bf16⟩
  | .hbm, ⟨1, _⟩ => ⟨S61440x8x256, .fp8e4m3⟩
  | .hbm, ⟨2, _⟩ => ⟨S8, .f32⟩
  | .hbm, ⟨3, _⟩ => ⟨S96x512, .i32⟩
  | .hbm, ⟨4, _⟩ => ⟨S96, .i32⟩
  | .hbm, ⟨5, _⟩ => ⟨S96x8x4x128, .bf16⟩
  | .hbm, ⟨6, _⟩ => ⟨S_, .bf16⟩
  | .hbm, ⟨7, _⟩ => ⟨S96x8x4x128, .bf16⟩
  | .hbm, ⟨8, _⟩ => ⟨S96x8x4x128, .bf16⟩
  | .hbm, ⟨9, _⟩ => ⟨S_, .bf16⟩
  | .hbm, ⟨10, _⟩ => ⟨S96x8x4x128, .bf16⟩
  | .hbm, ⟨11, _⟩ => ⟨S96x8x4x128, .bf16⟩
  | .hbm, ⟨12, _⟩ => ⟨S96x8x4x128x1, .bf16⟩
  | .hbm, ⟨13, _⟩ => ⟨S96x8x4x128x1, .bf16⟩
  | .hbm, ⟨14, _⟩ => ⟨S96x8x4x128x2, .bf16⟩
  | .hbm, ⟨15, _⟩ => ⟨S_, .i32⟩
  | .hbm, ⟨16, _⟩ => ⟨S96x512, .i32⟩
  | .hbm, ⟨17, _⟩ => ⟨S96x512, .i1⟩
  | .hbm, ⟨18, _⟩ => ⟨S_, .i32⟩
  | .hbm, ⟨19, _⟩ => ⟨S96x512, .i32⟩
  | .hbm, ⟨20, _⟩ => ⟨S96x512, .i32⟩
  | .hbm, ⟨21, _⟩ => ⟨S96x512, .i32⟩
  | .hbm, ⟨22, _⟩ => ⟨S96x512x1, .i32⟩
  | .hbm, ⟨23, _⟩ => ⟨S96x512x8x256, .fp8e4m3⟩
  | .hbm, ⟨24, _⟩ => ⟨S96x512x8x256, .bf16⟩
  | .hbm, ⟨25, _⟩ => ⟨S96x512x8x128x2, .bf16⟩
  | .hbm, ⟨26, _⟩ => ⟨S96x8x512x4, .f32⟩
  | .hbm, ⟨27, _⟩ => ⟨S96x512x8x4, .f32⟩
  | .hbm, ⟨28, _⟩ => ⟨S1x1x8x1, .f32⟩
  | .hbm, ⟨29, _⟩ => ⟨S96x512x8x4, .f32⟩
  | .hbm, ⟨30, _⟩ => ⟨S96x512x8x4, .f32⟩
  | .hbm, ⟨31, _⟩ => ⟨S96x512x32, .f32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S1x512, .i32⟩
  | .hbm, ⟨37, _⟩ => ⟨S96x1, .i32⟩
  | .hbm, ⟨38, _⟩ => ⟨S96x512, .i32⟩
  | .hbm, ⟨39, _⟩ => ⟨S96x512, .i32⟩
  | .hbm, ⟨40, _⟩ => ⟨S96x512, .i1⟩
  | .hbm, ⟨41, _⟩ => ⟨S96x512x1, .i1⟩
  | .hbm, ⟨42, _⟩ => ⟨S_, .f32⟩
  | .hbm, ⟨43, _⟩ => ⟨S_, .f32⟩
  | .hbm, ⟨44, _⟩ => ⟨S96x512x32, .i1⟩
  | .hbm, ⟨45, _⟩ => ⟨S96x512x32, .f32⟩
  | .hbm, ⟨46, _⟩ => ⟨S96x512x32, .f32⟩
  | .local _ .vmem, ⟨0, _⟩ => ⟨S96x512x8x256, .fp8e4m3⟩
  | .local _ .vmem, ⟨1, _⟩ => ⟨S96x512x8x256, .bf16⟩
  | _, _ => ⟨S96x32x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S96x512x8x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x512x8x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Base.lean ====
/-
  The buffers of the kernel, page by page: which elements of the two-slot page buffer belong to one page of one slot, which
  elements of the page table in HBM belong to one page, and what one page copy leaves in the buffer.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout
public import Idealize.ShloMosaic.Lib.ViewIndex

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The page table, the lengths, the page array and the two-slot page buffer, whole. -/
abbrev tbM : Memref sig .tc .smem S96x512 .i32 := Memref.whole main_arg3
abbrev lnM : Memref sig .tc .smem S96 .i32 := Memref.whole main_arg4
abbrev kvM : Memref sig .tc .hbm S61440x2x8x128 .fp8e4m3 := Memref.whole main_v1
abbrev bufM : Memref sig .tc .vmem S2x512x2x8x128 .fp8e4m3 := Memref.whole cc0_scratch0

/-- The elements of page `p` of slot `s` of the page buffer. -/
def pageSet (s p : ℕ) : Finset S2x512x2x8x128.Idx := Finset.univ.filter fun j => (j 0).val = s ∧ (j 1).val = p
/-- The elements of slot `s` of the page buffer. -/
def slotSet (s : ℕ) : Finset S2x512x2x8x128.Idx := Finset.univ.filter fun j => (j 0).val = s
/-- The elements of page `w` of the page array. -/
def kvSet (w : ℕ) : Finset S61440x2x8x128.Idx := Finset.univ.filter fun j => (j 0).val = w

/-- Membership in a page of a slot. -/
theorem mem_pageSet {s p : ℕ} {j : S2x512x2x8x128.Idx} : j ∈ pageSet s p ↔ (j 0).val = s ∧ (j 1).val = p := by
  simp [pageSet]
/-- Membership in a slot. -/
theorem mem_slotSet {s : ℕ} {j : S2x512x2x8x128.Idx} : j ∈ slotSet s ↔ (j 0).val = s := by
  simp [slotSet]
/-- Membership in a page of the page array. -/
theorem mem_kvSet {w : ℕ} {j : S61440x2x8x128.Idx} : j ∈ kvSet w ↔ (j 0).val = w := by
  simp [kvSet]

/-- A page of the buffer as the kernel spells it: the slice at computed offsets, its unit axes dropped. -/
abbrev dstM (o : Fin 5 → ℕ) (hb : ∀ a, o a + S1x1x2x8x128.size a ≤ S2x512x2x8x128.size a) : Memref sig .tc .vmem S2x8x128 .fp8e4m3 :=
  (bufM.slice (Rect.unit (s := S2x512x2x8x128) o S1x1x2x8x128.size hb) (fun _ => rfl)).squeeze S2x8x128 squeezes_S1x1x2x8x128_S2x8x128
/-- A page of the page array as the kernel spells it. -/
abbrev srcM (o : Fin 4 → ℕ) (hb : ∀ a, o a + S1x2x8x128.size a ≤ S61440x2x8x128.size a) : Memref sig .tc .hbm S2x8x128 .fp8e4m3 :=
  (kvM.slice (Rect.unit (s := S61440x2x8x128) o S1x2x8x128.size hb) (fun _ => rfl)).squeeze S2x8x128 squeezes_S1x2x8x128_S2x8x128

/-- The element of the buffer under an index of a page. -/
theorem dst_emb (o : Fin 5 → ℕ) (hb) (s p : ℕ) (ho : o = ![s, p, 0, 0, 0]) (x : Fin 2) (y : Fin 8) (z : Fin 128) (hs : s < 2) (hp : p < 512) :
    (dstM o hb).view.emb (ix3 x y z) = (ix5 ⟨s, hs⟩ ⟨p, hp⟩ x y z : S2x512x2x8x128.Idx) := by
  subst ho
  show (Rect.unit (s := S2x512x2x8x128) ![s, p, 0, 0, 0] S1x1x2x8x128.size hb).emb (Shape.reshapeEquiv _ (ix3 x y z)) = _
  rw [reshapeEquiv_ix3_11abc]
  funext a
  apply Fin.ext
  match a with
  | ⟨0, _⟩ => simp [Rect.emb, Rect.unit, ix5]
  | ⟨1, _⟩ => simp [Rect.emb, Rect.unit, ix5]
  | ⟨2, _⟩ => simp [Rect.emb, Rect.unit, ix5]
  | ⟨3, _⟩ => simp [Rect.emb, Rect.unit, ix5]
  | ⟨4, _⟩ => simp [Rect.emb, Rect.unit, ix5]

/-- The element of the page array under an index of a page. -/
theorem src_emb (o : Fin 4 → ℕ) (hb) (w : ℕ) (ho : o = ![w, 0, 0, 0]) (x : Fin 2) (y : Fin 8) (z : Fin 128) (hw : w < 61440) :
    (srcM o hb).view.emb (ix3 x y z) = (ix4 ⟨w, hw⟩ x y z : S61440x2x8x128.Idx) := by
  subst ho
  show (Rect.unit (s := S61440x2x8x128) ![w, 0, 0, 0] S1x2x8x128.size hb).emb (Shape.reshapeEquiv _ (ix3 x y z)) = _
  rw [reshapeEquiv_ix3_1abc]
  funext a
  apply Fin.ext
  match a with
  | ⟨0, _⟩ => simp [Rect.emb, Rect.unit, ix4]
  | ⟨1, _⟩ => simp [Rect.emb, Rect.unit, ix4]
  | ⟨2, _⟩ => simp [Rect.emb, Rect.unit, ix4]
  | ⟨3, _⟩ => simp [Rect.emb, Rect.unit, ix4]

/-- An index of a page by its coordinates. -/
theorem ix3_eta (x : S2x8x128.Idx) : ∃ (a : Fin 2) (b : Fin 8) (c : Fin 128), x = ix3 a b c := ⟨x 0, x 1, x 2, eq_ix3 x⟩

/-- An element of a page of the buffer by its three free coordinates. -/
theorem page_eta (s p : ℕ) (hs : s < 2) (hp : p < 512) (j : S2x512x2x8x128.Idx) (hj : j ∈ pageSet s p) :
    ∃ (x : Fin 2) (y : Fin 8) (z : Fin 128), j = ix5 ⟨s, hs⟩ ⟨p, hp⟩ x y z := by
  obtain ⟨h0, h1⟩ := mem_pageSet.mp hj
  refine ⟨j 2, j 3, j 4, ?_⟩
  funext a
  match a with
  | ⟨0, _⟩ => exact Fin.ext h0
  | ⟨1, _⟩ => exact Fin.ext h1
  | ⟨2, _⟩ => rfl
  | ⟨3, _⟩ => rfl
  | ⟨4, _⟩ => rfl

/-- An element of a page of the page array by its three free coordinates. -/
theorem kv_eta (w : ℕ) (hw : w < 61440) (j : S61440x2x8x128.Idx) (hj : j ∈ kvSet w) :
    ∃ (x : Fin 2) (y : Fin 8) (z : Fin 128), j = ix4 ⟨w, hw⟩ x y z := by
  refine ⟨j 1, j 2, j 3, ?_⟩
  funext a
  match a with
  | ⟨0, _⟩ => exact Fin.ext (mem_kvSet.mp hj)
  | ⟨1, _⟩ => rfl
  | ⟨2, _⟩ => rfl
  | ⟨3, _⟩ => rfl

/-- The elements of a page of the buffer, by its offsets. -/
theorem dst_set (o : Fin 5 → ℕ) (hb) (s p : ℕ) (ho : o = ![s, p, 0, 0, 0]) (hs : s < 2) (hp : p < 512) :
    (dstM o hb).view.set = pageSet s p := by
  refine Finset.ext fun j => ⟨fun h => ?_, fun h => ?_⟩
  · obtain ⟨x, -, rfl⟩ := Finset.mem_map.mp h
    obtain ⟨a, b, c, rfl⟩ := ix3_eta x
    have e := dst_emb o hb s p ho a b c hs hp
    rw [e]
    exact mem_pageSet.mpr ⟨rfl, rfl⟩
  · obtain ⟨a, b, c, rfl⟩ := page_eta s p hs hp j h
    exact Finset.mem_map.mpr ⟨ix3 a b c, Finset.mem_univ _, dst_emb o hb s p ho a b c hs hp⟩

/-- The elements of a page of the page array, by its offsets. -/
theorem src_set (o : Fin 4 → ℕ) (hb) (w : ℕ) (ho : o = ![w, 0, 0, 0]) (hw : w < 61440) :
    (srcM o hb).view.set = kvSet w := by
  refine Finset.ext fun j => ⟨fun h => ?_, fun h => ?_⟩
  · obtain ⟨x, -, rfl⟩ := Finset.mem_map.mp h
    obtain ⟨a, b, c, rfl⟩ := ix3_eta x
    have e := src_emb o hb w ho a b c hw
    rw [e]
    exact mem_kvSet.mpr rfl
  · obtain ⟨a, b, c, rfl⟩ := kv_eta w hw j h
    exact Finset.mem_map.mpr ⟨ix3 a b c, Finset.mem_univ _, src_emb o hb w ho a b c hw⟩

/-- What the buffer holds where every page `p` of every slot is page `P p` of the page array. -/
def gath (KV : Vec F S61440x2x8x128 .fp8e4m3) (P : ℕ → ℕ) (hP : ∀ p, P p < 61440) : Vec F S2x512x2x8x128 .fp8e4m3 :=
  fun j => KV (ix4 ⟨P (j 1).val, hP _⟩ (j 2) (j 3) (j 4))

/-- One page copy leaves the page of the array in the page of the buffer. -/
theorem copied (KV : Vec F S61440x2x8x128 .fp8e4m3) (fd : Vec F S2x512x2x8x128 .fp8e4m3) (P : ℕ → ℕ) (hP : ∀ p, P p < 61440)
    (o : Fin 5 → ℕ) (hb) (s p : ℕ) (ho : o = ![s, p, 0, 0, 0]) (hs : s < 2) (hp : p < 512)
    (o' : Fin 4 → ℕ) (hb') (ho' : o' = ![P p, 0, 0, 0]) (j : S2x512x2x8x128.Idx) (hj : j ∈ pageSet s p) :
    (dstM o hb).view.write (Elt F) fd ((srcM o' hb').view.read (Elt F) KV) Finset.univ j = gath KV P hP j := by
  obtain ⟨x, y, z, rfl⟩ := page_eta s p hs hp j hj
  have hw := View.write_emb_of_mem (v := (dstM o hb).view) (Val := Elt F) fd ((srcM o' hb').view.read (Elt F) KV) (Finset.mem_univ (ix3 x y z))
  rw [dst_emb o hb s p ho _ _ _ hs hp] at hw
  refine (hw.trans ?_ : _)
  show KV ((srcM o' hb').view.emb (ix3 x y z)) = _
  rw [src_emb o' hb' (P p) ho' _ _ _ (hP p)]
  rfl

end Cert.KernelIdeal.Hand

end
-- ==== Proof.Ints.lean ====
/-
  The word arithmetic of the kernel: the trip counts of its loops, the values of its computed offsets, and the side
  conditions its body assumes of the words it reads, all for sequence lengths of at most 8192 and pages below 61440.
-/
module

public import proofs.«01_k».proof.Proof.Base
public import Idealize.ShloMosaic.Lib.LoopRemainder
public import Idealize.ShloMosaic.Lib.Routing.Words

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- The groups of 16 pages a sequence of `L` tokens covers. -/
def ngOf (L : ℕ) : ℕ := (L + 255) / 256
/-- The chunks of 128 pages a sequence of `L` tokens covers. -/
def ncOf (L : ℕ) : ℕ := (L + 2047) / 2048

/-- A sum of small words. -/
theorem addi_nat (a b : ℕ) : Scalar.addi (BitVec.ofNat 32 a) (BitVec.ofNat 32 b) = BitVec.ofNat 32 (a + b) := by
  simp [Scalar.addi, IntOp.addi, BitVec.ofNat_add]
/-- A product of small words. -/
theorem muli_nat (a b : ℕ) : Scalar.muli (BitVec.ofNat 32 a) (BitVec.ofNat 32 b) = BitVec.ofNat 32 (a * b) := by
  simp [Scalar.muli, IntOp.muli, BitVec.ofNat_mul]
/-- A quotient of small words. -/
theorem divsi_nat {a b : ℕ} (ha : a < 2 ^ 31) (h0 : 0 < b) (hb : b < 2 ^ 31) :
    Scalar.divsi (BitVec.ofNat 32 a) (BitVec.ofNat 32 b) = BitVec.ofNat 32 (a / b) := Routing.divsi_word _ ha h0 hb
/-- A remainder of small words. -/
theorem remsi_nat {a b : ℕ} (ha : a < 2 ^ 31) (h0 : 0 < b) (hb : b < 2 ^ 31) :
    Scalar.remsi (BitVec.ofNat 32 a) (BitVec.ofNat 32 b) = BitVec.ofNat 32 (a % b) := Routing.remsi_word _ ha h0 hb
/-- A difference of small words. -/
theorem subi_nat {a b : ℕ} (h : b ≤ a) : Scalar.subi (BitVec.ofNat 32 a) (BitVec.ofNat 32 b) = BitVec.ofNat 32 (a - b) := by
  have e : (BitVec.ofNat 32 a : BitVec 32) = BitVec.ofNat 32 (a - b) + BitVec.ofNat 32 b := by
    rw [← BitVec.ofNat_add, Nat.sub_add_cancel h]
  simp only [Scalar.subi, IntOp.subi]
  rw [e, BitVec.add_sub_cancel]
/-- The value of a small word. -/
theorem toNat_nat {a : ℕ} (h : a < 2 ^ 32) : (BitVec.ofNat 32 a).toNat = a := by
  rw [BitVec.toNat_ofNat, Nat.mod_eq_of_lt h]
/-- The signed value of a small word. -/
theorem toInt_nat {a : ℕ} (h : a < 2 ^ 31) : (BitVec.ofNat 32 a).toInt = a := by
  rw [BitVec.toInt_eq_toNat_of_lt (by rw [toNat_nat (by omega)]; omega), toNat_nat (by omega)]
/-- The trip count of a loop by ones between small words. -/
theorem trips_nat {a b : ℕ} (ha : a < 2 ^ 31) (hb : b < 2 ^ 31) : Scf.trips (BitVec.ofNat 32 a) (BitVec.ofNat 32 b) 1#32 = b - a := by
  unfold Scf.trips
  rw [toInt_nat ha, toInt_nat hb, show (1#32 : BitVec 32).toInt = 1 by decide]
  omega
/-- A loop by ones between small words has a meaning. -/
theorem ok_nat {a b : ℕ} (ha : a < 2 ^ 30) (hb : b < 2 ^ 30) : Scf.OK (BitVec.ofNat 32 a) (BitVec.ofNat 32 b) 1#32 := by
  refine ⟨by decide, ?_⟩
  rw [trips_nat (by omega) (by omega), toInt_nat (by omega), show (1#32 : BitVec 32).toInt = 1 by decide]
  omega
/-- The induction variable of a loop by ones. -/
theorem iv_nat (a k : ℕ) : Scf.iv (BitVec.ofNat 32 a) 1#32 k = BitVec.ofNat 32 (a + k) := by
  simp [Scf.iv, BitVec.ofNat_add]

variable {v : BitVec 32}

/-- A word is the word of its value. -/
theorem word_eq (v : BitVec 32) : v = BitVec.ofNat 32 v.toNat := by simp

/-- The main loop over the page groups. -/
theorem t1_eq (hv : v.toNat ≤ 8192) : k0_t1_loop v = ⟨BitVec.ofNat 32 0, BitVec.ofNat 32 (ngOf v.toNat), 1#32⟩ := by
  have h : ngOf v.toNat < 2 ^ 31 := by unfold ngOf; omega
  unfold k0_t1_loop
  generalize hL : v.toNat = L at *
  rw [word_eq v, hL]
  simp only [Scalar.muli_divsi_one]
  rw [addi_nat, divsi_nat (by omega) (by omega) (by omega), show (0#32 : BitVec 32) = BitVec.ofNat 32 0 from rfl, subi_nat (by omega), addi_nat]
  simp [ngOf]
/-- The main loop over the next sequence's page groups, likewise. -/
theorem t3_eq (hv : v.toNat ≤ 8192) : k0_t3_loop v = ⟨BitVec.ofNat 32 0, BitVec.ofNat 32 (ngOf v.toNat), 1#32⟩ := t1_eq hv
/-- The main loop over the waits, likewise. -/
theorem t5_eq (hv : v.toNat ≤ 8192) : k0_t5_loop v = ⟨BitVec.ofNat 32 0, BitVec.ofNat 32 (ngOf v.toNat), 1#32⟩ := t1_eq hv
/-- The chunk count as the kernel computes it. -/
theorem nc_eq (hv : v.toNat ≤ 8192) : Scalar.divsi (Scalar.addi v 2047#32) 2048#32 = BitVec.ofNat 32 (ncOf v.toNat) := by
  generalize hL : v.toNat = L at *
  rw [word_eq v, hL, addi_nat, divsi_nat (by omega) (by omega) (by omega)]
  rfl
/-- The main loop over the chunks. -/
theorem t7_eq (hv : v.toNat ≤ 8192) : k0_t7_loop v = ⟨BitVec.ofNat 32 0, BitVec.ofNat 32 (ncOf v.toNat), 1#32⟩ := by
  unfold k0_t7_loop
  simp only [Scalar.muli_divsi_one, nc_eq hv]
  rw [show (0#32 : BitVec 32) = BitVec.ofNat 32 0 from rfl, subi_nat (by omega), addi_nat]
  simp
/-- The main loop over the chunks past the sequence. -/
theorem t9_eq (hv : v.toNat ≤ 8192) : k0_t9_loop v = ⟨BitVec.ofNat 32 (ncOf v.toNat), BitVec.ofNat 32 4, 1#32⟩ := by
  have h4 : ncOf v.toNat ≤ 4 := by unfold ncOf; omega
  unfold k0_t9_loop
  simp only [Scalar.muli_divsi_one, nc_eq hv]
  rw [subi_nat h4, addi_nat, Nat.add_sub_cancel' h4]

/-- Trips of the loops. -/
theorem t1_trips (hv : v.toNat ≤ 8192) : (k0_t1_loop v).trips = ngOf v.toNat := by
  rw [t1_eq hv]; exact trips_nat (by omega) (by unfold ngOf; omega)
theorem t3_trips (hv : v.toNat ≤ 8192) : (k0_t3_loop v).trips = ngOf v.toNat := t1_trips hv
theorem t5_trips (hv : v.toNat ≤ 8192) : (k0_t5_loop v).trips = ngOf v.toNat := t1_trips hv
theorem t7_trips (hv : v.toNat ≤ 8192) : (k0_t7_loop v).trips = ncOf v.toNat := by
  rw [t7_eq hv]; exact trips_nat (by omega) (by unfold ncOf; omega)
theorem t9_trips (hv : v.toNat ≤ 8192) : (k0_t9_loop v).trips = 4 - ncOf v.toNat := by
  rw [t9_eq hv]; exact trips_nat (by unfold ncOf; omega) (by omega)
theorem ng_le (hv : v.toNat ≤ 8192) : ngOf v.toNat ≤ 32 := by unfold ngOf; omega
theorem nc_le (hv : v.toNat ≤ 8192) : ncOf v.toNat ≤ 4 := by unfold ncOf; omega

/-- Page `u` of group `k`, as the kernel computes it. -/
abbrev pgW (k u : ℕ) : BitVec 32 := Scalar.addi (Scalar.muli (Scf.iv 0#32 1#32 k) 16#32) (BitVec.ofNat 32 u)
/-- Its value. -/
theorem pgW_val (k u : ℕ) (hk : k < 32) (hu : u < 16) : (pgW k u).toNat = 16 * k + u := by
  unfold pgW
  rw [show (0#32 : BitVec 32) = BitVec.ofNat 32 0 from rfl, iv_nat, muli_nat, addi_nat, toNat_nat (by omega)]
  omega

/-- The slot of the buffer the kernel reads at grid point `b`, and the one it fills for the next point. -/
theorem rem2 (b : ℕ) (hb : b < 96) : Scalar.remsi (BitVec.ofNat 32 b) 2#32 = BitVec.ofNat 32 (b % 2) :=
  remsi_nat (by omega) (by omega) (by omega)
theorem slotNext (b : ℕ) (hb : b < 96) :
    (Scalar.subi 1#32 (Scalar.remsi (BitVec.ofNat 32 b) 2#32)).toNat = (b + 1) % 2 := by
  rw [rem2 b hb, show (1#32 : BitVec 32) = BitVec.ofNat 32 1 from rfl, subi_nat (by omega), toNat_nat (by omega)]
  omega
theorem slotCur (b : ℕ) (hb : b < 96) : (Scalar.remsi (BitVec.ofNat 32 b) 2#32).toNat = b % 2 := by
  rw [rem2 b hb, toNat_nat (by omega)]

end Cert.KernelIdeal.Hand

end
-- ==== Proof.Checks.lean ====
/-
  The side conditions the kernel's body assumes of the words it reads: they hold of every length of at most 8192 and of
  every page below 61440.
-/
module

public import proofs.«01_k».proof.Proof.Ints

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- The grid coordinate. -/
theorem coord_lt (i : grid0.Coords) : (i 0).val < 96 := (i 0).isLt

/-- A read of one word of the page table is in bounds. -/
theorem tb_inb (r w : ℕ) (hr : r < 96) (hw : w < 512) : ∀ a, (![r, w] : Fin 2 → ℕ) a + S1x1.size a ≤ S96x512.size a := by
  intro a
  match a with
  | ⟨0, _⟩ => show r + 1 ≤ 96; omega
  | ⟨1, _⟩ => show w + 1 ≤ 512; omega
/-- A page of the buffer is in bounds. -/
theorem pg_inb (s w : ℕ) (hs : s < 2) (hw : w < 512) : ∀ a, (![s, w, 0, 0, 0] : Fin 5 → ℕ) a + S1x1x2x8x128.size a ≤ S2x512x2x8x128.size a := by
  intro a
  match a with
  | ⟨0, _⟩ => show s + 1 ≤ 2; omega
  | ⟨1, _⟩ => show w + 1 ≤ 512; omega
  | ⟨2, _⟩ => show 0 + 2 ≤ 2; omega
  | ⟨3, _⟩ => show 0 + 8 ≤ 8; omega
  | ⟨4, _⟩ => show 0 + 128 ≤ 128; omega
/-- Sixteen pages of the buffer are in bounds. -/
theorem grp_inb (s w : ℕ) (hs : s < 2) (hw : w + 16 ≤ 512) : ∀ a, (![s, w, 0, 0, 0] : Fin 5 → ℕ) a + S1x16x2x8x128.size a ≤ S2x512x2x8x128.size a := by
  intro a
  match a with
  | ⟨0, _⟩ => show s + 1 ≤ 2; omega
  | ⟨1, _⟩ => show w + 16 ≤ 512; omega
  | ⟨2, _⟩ => show 0 + 2 ≤ 2; omega
  | ⟨3, _⟩ => show 0 + 8 ≤ 8; omega
  | ⟨4, _⟩ => show 0 + 128 ≤ 128; omega
/-- A page of the page array is in bounds. -/
theorem kv_inb (w : ℕ) (hw : w < 61440) : ∀ a, (![w, 0, 0, 0] : Fin 4 → ℕ) a + S1x2x8x128.size a ≤ S61440x2x8x128.size a := by
  intro a
  match a with
  | ⟨0, _⟩ => show w + 1 ≤ 61440; omega
  | ⟨1, _⟩ => show 0 + 2 ≤ 2; omega
  | ⟨2, _⟩ => show 0 + 8 ≤ 8; omega
  | ⟨3, _⟩ => show 0 + 128 ≤ 128; omega
/-- A page of the buffer is whole words. -/
theorem pg_words (s w : ℕ) (hinb) : (Rect.unit (s := S2x512x2x8x128) ![s, w, 0, 0, 0] S1x1x2x8x128.size hinb).WholeWords (EltTy.packing .fp8e4m3) :=
  Affine.words_rows (by decide) rfl rfl
/-- Sixteen pages of the buffer are whole words. -/
theorem grp_words (s w : ℕ) (hinb) : (Rect.unit (s := S2x512x2x8x128) ![s, w, 0, 0, 0] S1x16x2x8x128.size hinb).WholeWords (EltTy.packing .fp8e4m3) :=
  Affine.words_rows (by decide) rfl rfl
/-- A page of the page array is whole words. -/
theorem kv_words (w : ℕ) (hinb) : (Rect.unit (s := S61440x2x8x128) ![w, 0, 0, 0] S1x2x8x128.size hinb).WholeWords (EltTy.packing .fp8e4m3) :=
  Affine.words_rows (by decide) rfl rfl

/-- Page `u` of a group of the loop is one of the 512. -/
theorem pgW_lt {v : BitVec 32} (hv : v.toNat ≤ 8192) (k : Fin (k0_t1_loop v).trips) (u : ℕ) (hu : u < 16) : (pgW k.val u).toNat < 512 := by
  have h := k.isLt.trans_le ((t1_trips hv).le.trans (ng_le hv))
  rw [pgW_val k.val u h hu]; omega

/-- The next grid point's sequence is one of the 96. -/
theorem nextRow (i : grid0.Coords) (h : k0_cond2 i = 1#1) : (Scalar.addi (BitVec.ofNat 32 (i 0).val) 1#32).toNat = (i 0).val + 1 ∧ (i 0).val + 1 < 96 := by
  have hi := coord_lt i
  refine ⟨by rw [addi_nat, toNat_nat (by omega)], ?_⟩
  by_contra hc
  have e : (i 0).val = 95 := by omega
  revert h
  unfold k0_cond2
  rw [e]
  decide

/-- The side condition of the first sequence's length. -/
theorem chk1_of (i : grid0.Coords) (v : BitVec 32) (hv : v.toNat ≤ 8192) : k0_chk1 i v :=
  have O : ∀ (_ : k0_cond1 i = 1#1), (k0_t1_loop v).OK := fun _ => by rw [t1_eq hv]; exact ok_nat (by omega) (by unfold ngOf; omega)
  have T := fun (u : ℕ) (hu : u < 16) (k : Fin (k0_t1_loop v).trips) (_ : k0_cond1 i = 1#1) =>
    tb_inb 0 (pgW k.val u).toNat (by decide) (pgW_lt hv k u hu)
  have G := fun (u : ℕ) (hu : u < 16) (k : Fin (k0_t1_loop v).trips) (_ : k0_cond1 i = 1#1) =>
    pg_inb 0 (pgW k.val u).toNat (by decide) (pgW_lt hv k u hu)
  have W := fun (u : ℕ) (k : Fin (k0_t1_loop v).trips) (_ : k0_cond1 i = 1#1) h => pg_words 0 (pgW k.val u).toNat h
  have R : ∀ (_ : k0_cond1 i = 1#1), (k0_t2_loop v).OK := fun _ => Scf.rem_ok _ _
  have V : ∀ {P : Fin (k0_t2_loop v).trips → Prop} (k), P k := fun k => (Scf.rem_no_trip _ _ k).elim
  ⟨⟨O, T 0 (by decide), G 0 (by decide), W 0, T 1 (by decide), G 1 (by decide), W 1, T 2 (by decide),
    G 2 (by decide), W 2, T 3 (by decide), G 3 (by decide), W 3, T 4 (by decide), G 4 (by decide), W 4,
    T 5 (by decide), G 5 (by decide), W 5, T 6 (by decide), G 6 (by decide), W 6, T 7 (by decide), G 7 (by decide),
    W 7, T 8 (by decide), G 8 (by decide), W 8, T 9 (by decide), G 9 (by decide), W 9, T 10 (by decide)⟩,
    ⟨G 10 (by decide), W 10, T 11 (by decide), G 11 (by decide), W 11, T 12 (by decide), G 12 (by decide), W 12,
    T 13 (by decide), G 13 (by decide), W 13, T 14 (by decide), G 14 (by decide), W 14, T 15 (by decide),
    G 15 (by decide), W 15, R, V, V, V, V, V, V, V, V, V, V, V, V, V, V⟩, ⟨V, V, V, V, V, V, V, V, V, V, V, V, V, V,
    V, V, V, V, V, V, V, V, V, V, V, V, V, V, V, V, V, V⟩, ⟨V, V⟩⟩

/-- The side condition of the next sequence's length. -/
theorem chk34_of (i : grid0.Coords) (v : BitVec 32) (hv : v.toNat ≤ 8192) : k0_chk34 i v :=
  have O : ∀ (_ : k0_cond2 i = 1#1), (k0_t3_loop v).OK := fun _ => by rw [t3_eq hv]; exact ok_nat (by omega) (by unfold ngOf; omega)
  have hs : (Scalar.subi 1#32 (Scalar.remsi (BitVec.ofNat 32 (i 0).val) 2#32)).toNat < 2 := by
    rw [slotNext _ (coord_lt i)]; omega
  have T := fun (u : ℕ) (hu : u < 16) (k : Fin (k0_t3_loop v).trips) (h : k0_cond2 i = 1#1) =>
    tb_inb (Scalar.addi (BitVec.ofNat 32 (i 0).val) 1#32).toNat (pgW k.val u).toNat ((nextRow i h).1.trans_lt (nextRow i h).2)
      (pgW_lt hv k u hu)
  have G := fun (u : ℕ) (hu : u < 16) (k : Fin (k0_t3_loop v).trips) (_ : k0_cond2 i = 1#1) =>
    pg_inb (Scalar.subi 1#32 (Scalar.remsi (BitVec.ofNat 32 (i 0).val) 2#32)).toNat (pgW k.val u).toNat hs (pgW_lt hv k u hu)
  have W := fun (u : ℕ) (k : Fin (k0_t3_loop v).trips) (_ : k0_cond2 i = 1#1) h =>
    pg_words (Scalar.subi 1#32 (Scalar.remsi (BitVec.ofNat 32 (i 0).val) 2#32)).toNat (pgW k.val u).toNat h
  have R : ∀ (_ : k0_cond2 i = 1#1), (k0_t4_loop v).OK := fun _ => Scf.rem_ok _ _
  have V : ∀ {P : Fin (k0_t4_loop v).trips → Prop} (k), P k := fun k => (Scf.rem_no_trip _ _ k).elim
  ⟨⟨O, T 0 (by decide), G 0 (by decide), W 0, T 1 (by decide), G 1 (by decide), W 1, T 2 (by decide),
    G 2 (by decide), W 2, T 3 (by decide), G 3 (by decide), W 3, T 4 (by decide), G 4 (by decide), W 4,
    T 5 (by decide), G 5 (by decide), W 5, T 6 (by decide), G 6 (by decide), W 6, T 7 (by decide), G 7 (by decide),
    W 7, T 8 (by decide), G 8 (by decide), W 8, T 9 (by decide), G 9 (by decide), W 9, T 10 (by decide)⟩,
    ⟨G 10 (by decide), W 10, T 11 (by decide), G 11 (by decide), W 11, T 12 (by decide), G 12 (by decide), W 12,
    T 13 (by decide), G 13 (by decide), W 13, T 14 (by decide), G 14 (by decide), W 14, T 15 (by decide),
    G 15 (by decide), W 15, R, V, V, V, V, V, V, V, V, V, V, V, V, V, V⟩, ⟨V, V, V, V, V, V, V, V, V, V, V, V, V, V,
    V, V, V, V, V, V, V, V, V, V, V, V, V, V, V, V, V, V⟩, ⟨V, V⟩⟩

/-- The first page of a group of the loop over the waits. -/
theorem grpW_val (k : ℕ) (hk : k < 32) : (Scalar.muli (Scf.iv 0#32 1#32 k) 16#32).toNat = 16 * k := by
  rw [show (0#32 : BitVec 32) = BitVec.ofNat 32 0 from rfl, iv_nat, muli_nat, toNat_nat (by omega)]; omega

/-- The side condition of the current sequence's length, at the waits. -/
theorem chk67_of (i : grid0.Coords) (v : BitVec 32) (hv : v.toNat ≤ 8192) : k0_chk67 i v := by
  have ok : (k0_t5_loop v).OK := by rw [t5_eq hv]; exact ok_nat (by omega) (by unfold ngOf; omega)
  have hs : (Scalar.remsi (BitVec.ofNat 32 (i 0).val) 2#32).toNat < 2 := by
    rw [slotCur _ (coord_lt i)]; omega
  refine ⟨ok, fun k => ?_, fun k h => ?_, Scf.rem_ok _ _, fun k => (Scf.rem_no_trip _ _ k).elim, fun k => (Scf.rem_no_trip _ _ k).elim⟩
  · have h := k.isLt.trans_le ((t5_trips hv).le.trans (ng_le hv))
    exact grp_inb (Scalar.remsi (BitVec.ofNat 32 (i 0).val) 2#32).toNat (Scalar.muli (Scf.iv 0#32 1#32 k.val) 16#32).toNat hs (by rw [grpW_val _ h]; omega)
  · exact grp_words (Scalar.remsi (BitVec.ofNat 32 (i 0).val) 2#32).toNat (Scalar.muli (Scf.iv 0#32 1#32 k.val) 16#32).toNat h

/-- The first page of a chunk. -/
theorem chunkW_val (k : ℕ) (hk : k < 4) : (Scalar.muli (Scf.iv 0#32 1#32 k) 128#32).toNat = 128 * k := by
  rw [show (0#32 : BitVec 32) = BitVec.ofNat 32 0 from rfl, iv_nat, muli_nat, toNat_nat (by omega)]; omega
/-- The first page of half a chunk. -/
theorem halfW_val (k : ℕ) (hk : k < 4) (r : Fin 2) :
    (Scalar.addi (Scalar.muli (Scf.iv 0#32 1#32 k) 128#32) (BitVec.ofNat 32 (64 * r.val))).toNat = 128 * k + 64 * r.val := by
  rw [show (0#32 : BitVec 32) = BitVec.ofNat 32 0 from rfl, iv_nat, muli_nat, addi_nat, toNat_nat (by omega)]; omega
/-- The first page of a chunk past the sequence. -/
theorem tailW_val {v : BitVec 32} (hv : v.toNat ≤ 8192) (k : ℕ) (hk : ncOf v.toNat + k < 4) :
    (Scalar.muli (Scf.iv (Scalar.divsi (Scalar.addi v 2047#32) 2048#32) 1#32 k) 128#32).toNat = 128 * (ncOf v.toNat + k) := by
  rw [nc_eq hv, iv_nat, muli_nat, toNat_nat (by omega)]; omega

/-- A tile of 64 pages of the buffer is in bounds. -/
theorem tile_inb (s w c h : ℕ) (hs : s < 2) (hw : w + 64 ≤ 512) (hc : c < 2) (hh : h ≤ 4) :
    ∀ a, (![s, w, c, h, 0] : Fin 5 → ℕ) a + S1x64x1x4x128.size a ≤ S2x512x2x8x128.size a := by
  intro a
  match a with
  | ⟨0, _⟩ => show s + 1 ≤ 2; omega
  | ⟨1, _⟩ => show w + 64 ≤ 512; omega
  | ⟨2, _⟩ => show c + 1 ≤ 2; omega
  | ⟨3, _⟩ => show h + 4 ≤ 8; omega
  | ⟨4, _⟩ => show 0 + 128 ≤ 128; omega
/-- Half a chunk of the output block is in bounds. -/
theorem out_inb (r w : ℕ) (hr : r ≤ 16) (hw : w + 128 ≤ 512) : ∀ a, (![0, r, w] : Fin 3 → ℕ) a + S1x16x128.size a ≤ S1x32x512.size a := by
  intro a
  match a with
  | ⟨0, _⟩ => show 0 + 1 ≤ 1; omega
  | ⟨1, _⟩ => show r + 16 ≤ 32; omega
  | ⟨2, _⟩ => show w + 128 ≤ 512; omega
/-- A chunk of the output block is in bounds. -/
theorem tail_inb (w : ℕ) (hw : w + 128 ≤ 512) : ∀ a, (![0, 0, w] : Fin 3 → ℕ) a + S1x32x128.size a ≤ S1x32x512.size a := by
  intro a
  match a with
  | ⟨0, _⟩ => show 0 + 1 ≤ 1; omega
  | ⟨1, _⟩ => show 0 + 32 ≤ 32; omega
  | ⟨2, _⟩ => show w + 128 ≤ 512; omega

/-- The side condition of the current sequence's length, at the chunks. -/
theorem chk68_of (i : grid0.Coords) (v : BitVec 32) (hv : v.toNat ≤ 8192) : k0_chk68 i v := by
  have ok : (k0_t7_loop v).OK := by rw [t7_eq hv]; exact ok_nat (by omega) (by unfold ncOf; omega)
  have ok9 : (k0_t9_loop v).OK := by rw [t9_eq hv]; exact ok_nat (by unfold ncOf; omega) (by omega)
  have hs : (Scalar.remsi (BitVec.ofNat 32 (i 0).val) 2#32).toNat < 2 := by
    rw [slotCur _ (coord_lt i)]; omega
  have h4 := fun k : Fin (k0_t7_loop v).trips => k.isLt.trans_le ((t7_trips hv).le.trans (nc_le hv))
  have h9 : ∀ k : Fin (k0_t9_loop v).trips, ncOf v.toNat + k.val < 4 := fun k => by
    have := k.isLt.trans_le (t9_trips hv).le
    omega
  have hw := fun (k : Fin (k0_t7_loop v).trips) (r : Fin 2) =>
    (show (Scalar.addi (Scalar.muli (Scf.iv 0#32 1#32 k.val) 128#32) (BitVec.ofNat 32 (64 * r.val))).toNat + 64 ≤ 512 by
      rw [halfW_val _ (h4 k)]; have := h4 k; omega)
  have hc := fun (k : Fin (k0_t7_loop v).trips) =>
    (show (Scalar.muli (Scf.iv 0#32 1#32 k.val) 128#32).toNat + 128 ≤ 512 by
      rw [chunkW_val _ (h4 k)]; have := h4 k; omega)
  refine ⟨ok, fun k => ?_, fun k r => tile_inb _ _ 0 0 hs (hw k r) (by decide) (by decide),
    fun k r => tile_inb _ _ 1 0 hs (hw k r) (by decide) (by decide), fun k => out_inb 0 _ (by decide) (hc k),
    fun k r => tile_inb _ _ 0 4 hs (hw k r) (by decide) (by decide), fun k r => tile_inb _ _ 1 4 hs (hw k r) (by decide) (by decide),
    fun k => out_inb 16 _ (by decide) (hc k), Scf.rem_ok _ _,
    fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim, ok9, fun k => ?_, Scf.rem_ok _ _, fun k => (Scf.rem_no_trip _ _ k).elim⟩
  · show 128 ∣ (Scalar.muli (Scf.iv 0#32 1#32 k.val) 128#32).toNat
    rw [chunkW_val _ (h4 k)]; omega
  · have := h9 k
    exact tail_inb (Scalar.muli (Scf.iv (Scalar.divsi (Scalar.addi v 2047#32) 2048#32) 1#32 k.val) 128#32).toNat
      (by rw [tailW_val hv _ (h9 k)]; omega)

/-- The side condition of a page read at the first grid point, -/
abbrev PageOK (c : Prop) (w : BitVec 32) : Prop :=
  (∀ (_ : c), ∀ a, (![w.toNat, 0, 0, 0] : Fin 4 → ℕ) a + S1x2x8x128.size a ≤ S61440x2x8x128.size a) ∧
  (∀ (_ : c), ∀ (hinb : ∀ a, (![w.toNat, 0, 0, 0] : Fin 4 → ℕ) a + S1x2x8x128.size a ≤ S61440x2x8x128.size a),
    (Rect.unit (s := S61440x2x8x128) ![w.toNat, 0, 0, 0] S1x2x8x128.size hinb).WholeWords (EltTy.packing .fp8e4m3))
/-- which every page below 61440 meets. -/
theorem pageOK (c : Prop) (w : BitVec 32) (hw : w.toNat < 61440) : PageOK c w :=
  ⟨fun _ => kv_inb _ hw, fun _ h => kv_words _ h⟩

end Cert.KernelIdeal.Hand

end
-- ==== Proof.Unit.lean ====
/-
  One page copy of the kernel — the read of the page's number, the check of it, the start of the copy — as one program and
  one rule, and the two loop bodies that issue sixteen of them as sixteen of that program in a row.
-/
module

public import proofs.«01_k».proof.Proof.Checks

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The program of one page copy followed by `k`. -/
abbrev unitP (o1 : Fin 2 → ℕ) (hb1 : ∀ a, o1 a + S1x1.size a ≤ S96x512.size a)
    (o2 : Fin 5 → ℕ) (hb2 : ∀ a, o2 a + S1x1x2x8x128.size a ≤ S2x512x2x8x128.size a) (hw2 : (dstM o2 hb2).view.WordExact)
    (sm : DmaSem sig) (chk : BitVec 32 → Prop) (dec : ∀ v, Decidable (chk v)) (o3 : BitVec 32 → Fin 4 → ℕ)
    (hb3 : ∀ v, chk v → ∀ a, o3 v a + S1x2x8x128.size a ≤ S61440x2x8x128.size a)
    (hw3 : ∀ v (h : chk v), (srcM (o3 v) (hb3 v h)).view.WordExact)
    (k : Prog (TpuEff nD τ sig (Elt F) Λ₀ .tc) (BitVec 32)) : Prog (TpuEff nD τ sig (Elt F) Λ₀ .tc) (BitVec 32) :=
  smemLoadElt tbM (Rect.unit (s := S96x512) o1 S1x1.size hb1) (View.loads_smem_one rfl numel1_S1x1)
    (Shape.Idx.first (numel1_S1x1.symm ▸ Nat.one_pos)) fun v =>
      .op (.assume (chk v) (dec v)) fun h =>
        .op (.enqueueDma (srcM (o3 v) (hb3 v h.down)) (.here (dstM o2 hb2)) (.dma sm) (hw3 v h.down) hw2 ⟨Or.inl rfl, trivial⟩) fun _ => k

/-- A page copy credits 256 units, -/
theorem page_credit (o2 : Fin 5 → ℕ) (hb2) : (dstM o2 hb2).view.dmaCredit = 256 := by
  show RefSig.tileCredit S2x8x128 .fp8e4m3 = 256
  decide
/-- and a wait for sixteen pages takes sixteen times as many. -/
theorem group_credit : RefSig.tileCredit S16x2x8x128 .fp8e4m3 = 16 * 256 := by
  decide

/-- A word of the page table the kernel reads, by its offsets. -/
theorem tb_read (TB : IVec S96x512 32) (r p : ℕ) (o1 : Fin 2 → ℕ) (hb1 : ∀ a, o1 a + S1x1.size a ≤ S96x512.size a) (ho : o1 = ![r, p])
    (hr : r < 96) (hp : p < 512) (x) :
    (tbM.access (Rect.unit (s := S96x512) o1 S1x1.size hb1)).read (Elt F) TB x = TB (ix2 ⟨r, hr⟩ ⟨p, hp⟩) := by
  subst ho
  show TB ((Rect.unit (s := S96x512) ![r, p] S1x1.size hb1).emb x) = _
  have hx : x = (ix2 (0 : Fin 1) (0 : Fin 1) : S1x1.Idx) := by
    have e := eq_ix2 (show S1x1.Idx from x)
    rw [Subsingleton.elim (α := Fin 1) ((show S1x1.Idx from x) 0) 0, Subsingleton.elim (α := Fin 1) ((show S1x1.Idx from x) 1) 0] at e
    exact e
  subst hx
  congr 1
  funext a
  apply Fin.ext
  match a with
  | ⟨0, _⟩ => simp [Rect.emb, Rect.unit, ix2]
  | ⟨1, _⟩ => simp [Rect.emb, Rect.unit, ix2]

/-- The first semaphore of the pair, as the first grid point names it. -/
abbrev sem0 : DmaSem sig := ((cc0_scratch1.slice (Rect.unit (s := S2) ![0] S1.size inb_S2_S1_0)).squeeze S_ squeezes_S1_S_).sem

/-- A semaphore of the pair, by its offset. -/
abbrev semAt (o : Fin 1 → ℕ) (hb : ∀ a, o a + S1.size a ≤ S2.size a) : DmaSem sig :=
  ((cc0_scratch1.slice (Rect.unit (s := S2) o S1.size hb)).squeeze S_ squeezes_S1_S_).sem

set_option maxHeartbeats 8000000 in
/-- The first sequence's loop issues sixteen page copies a trip. -/
theorem t1_body_eq (i : grid0.Coords) (a3) (h3) (a4) (h4) (a6) (h6) (hbw : bufM.IsWhole) (hkw : kvM.IsWhole) (ht hl) (h : k0_cond1 i = 1#1) (v : BitVec 32) (hc1 : k0_chk1 i v)
    (k : Fin (k0_t1_loop v).trips) (x : BitVec 32) :
    k0_t1_body (F := F) i tbM ht lnM hl a3 h3 a4 h4 kvM hkw a6 h6 bufM hbw cc0_scratch1 h v hc1 k x =
      (unitP (k0_off1 v k) (k0_off1_inb i v hc1 k h) (k0_off2 v k) (k0_off2_inb i v hc1 k h)
      ((hbw.wordExact_slice rfl _ (k0_off2_wordsfp8e4m3 i v hc1 k h)).reshape _ _) sem0
      (k0_chk2 i) (k0_chk2.dec i) k0_off3 (fun w hc => k0_off3_inb i w hc h)
      (fun w hc => (hkw.wordExact_slice rfl _ (k0_off3_wordsfp8e4m3 i w hc h)).reshape _ _) <|
      unitP (k0_off4 v k) (k0_off4_inb i v hc1 k h) (k0_off5 v k) (k0_off5_inb i v hc1 k h)
      ((hbw.wordExact_slice rfl _ (k0_off5_wordsfp8e4m3 i v hc1 k h)).reshape _ _) sem0
      (k0_chk3 i) (k0_chk3.dec i) k0_off6 (fun w hc => k0_off6_inb i w hc h)
      (fun w hc => (hkw.wordExact_slice rfl _ (k0_off6_wordsfp8e4m3 i w hc h)).reshape _ _) <|
      unitP (k0_off7 v k) (k0_off7_inb i v hc1 k h) (k0_off8 v k) (k0_off8_inb i v hc1 k h)
      ((hbw.wordExact_slice rfl _ (k0_off8_wordsfp8e4m3 i v hc1 k h)).reshape _ _) sem0
      (k0_chk4 i) (k0_chk4.dec i) k0_off9 (fun w hc => k0_off9_inb i w hc h)
      (fun w hc => (hkw.wordExact_slice rfl _ (k0_off9_wordsfp8e4m3 i w hc h)).reshape _ _) <|
      unitP (k0_off10 v k) (k0_off10_inb i v hc1 k h) (k0_off11 v k) (k0_off11_inb i v hc1 k h)
      ((hbw.wordExact_slice rfl _ (k0_off11_wordsfp8e4m3 i v hc1 k h)).reshape _ _) sem0
      (k0_chk5 i) (k0_chk5.dec i) k0_off12 (fun w hc => k0_off12_inb i w hc h)
      (fun w hc => (hkw.wordExact_slice rfl _ (k0_off12_wordsfp8e4m3 i w hc h)).reshape _ _) <|
      unitP (k0_off13 v k) (k0_off13_inb i v hc1 k h) (k0_off14 v k) (k0_off14_inb i v hc1 k h)
      ((hbw.wordExact_slice rfl _ (k0_off14_wordsfp8e4m3 i v hc1 k h)).reshape _ _) sem0
      (k0_chk6 i) (k0_chk6.dec i) k0_off15 (fun w hc => k0_off15_inb i w hc h)
      (fun w hc => (hkw.wordExact_slice rfl _ (k0_off15_wordsfp8e4m3 i w hc h)).reshape _ _) <|
      unitP (k0_off16 v k) (k0_off16_inb i v hc1 k h) (k0_off17 v k) (k0_off17_inb i v hc1 k h)
      ((hbw.wordExact_slice rfl _ (k0_off17_wordsfp8e4m3 i v hc1 k h)).reshape _ _) sem0
      (k0_chk7 i) (k0_chk7.dec i) k0_off18 (fun w hc => k0_off18_inb i w hc h)
      (fun w hc => (hkw.wordExact_slice rfl _ (k0_off18_wordsfp8e4m3 i w hc h)).reshape _ _) <|
      unitP (k0_off19 v k) (k0_off19_inb i v hc1 k h) (k0_off20 v k) (k0_off20_inb i v hc1 k h)
      ((hbw.wordExact_slice rfl _ (k0_off20_wordsfp8e4m3 i v hc1 k h)).reshape _ _) sem0
      (k0_chk8 i) (k0_chk8.dec i) k0_off21 (fun w hc => k0_off21_inb i w hc h)
      (fun w hc => (hkw.wordExact_slice rfl _ (k0_off21_wordsfp8e4m3 i w hc h)).reshape _ _) <|
      unitP (k0_off22 v k) (k0_off22_inb i v hc1 k h) (k0_off23 v k) (k0_off23_inb i v hc1 k h)
      ((hbw.wordExact_slice rfl _ (k0_off23_wordsfp8e4m3 i v hc1 k h)).reshape _ _) sem0
      (k0_chk9 i) (k0_chk9.dec i) k0_off24 (fun w hc => k0_off24_inb i w hc h)
      (fun w hc => (hkw.wordExact_slice rfl _ (k0_off24_wordsfp8e4m3 i w hc h)).reshape _ _) <|
      unitP (k0_off25 v k) (k0_off25_inb i v hc1 k h) (k0_off26 v k) (k0_off26_inb i v hc1 k h)
      ((hbw.wordExact_slice rfl _ (k0_off26_wordsfp8e4m3 i v hc1 k h)).reshape _ _) sem0
      (k0_chk10 i) (k0_chk10.dec i) k0_off27 (fun w hc => k0_off27_inb i w hc h)
      (fun w hc => (hkw.wordExact_slice rfl _ (k0_off27_wordsfp8e4m3 i w hc h)).reshape _ _) <|
      unitP (k0_off28 v k) (k0_off28_inb i v hc1 k h) (k0_off29 v k) (k0_off29_inb i v hc1 k h)
      ((hbw.wordExact_slice rfl _ (k0_off29_wordsfp8e4m3 i v hc1 k h)).reshape _ _) sem0
      (k0_chk11 i) (k0_chk11.dec i) k0_off30 (fun w hc => k0_off30_inb i w hc h)
      (fun w hc => (hkw.wordExact_slice rfl _ (k0_off30_wordsfp8e4m3 i w hc h)).reshape _ _) <|
      unitP (k0_off31 v k) (k0_off31_inb i v hc1 k h) (k0_off32 v k) (k0_off32_inb i v hc1 k h)
      ((hbw.wordExact_slice rfl _ (k0_off32_wordsfp8e4m3 i v hc1 k h)).reshape _ _) sem0
      (k0_chk12 i) (k0_chk12.dec i) k0_off33 (fun w hc => k0_off33_inb i w hc h)
      (fun w hc => (hkw.wordExact_slice rfl _ (k0_off33_wordsfp8e4m3 i w hc h)).reshape _ _) <|
      unitP (k0_off34 v k) (k0_off34_inb i v hc1 k h) (k0_off35 v k) (k0_off35_inb i v hc1 k h)
      ((hbw.wordExact_slice rfl _ (k0_off35_wordsfp8e4m3 i v hc1 k h)).reshape _ _) sem0
      (k0_chk13 i) (k0_chk13.dec i) k0_off36 (fun w hc => k0_off36_inb i w hc h)
      (fun w hc => (hkw.wordExact_slice rfl _ (k0_off36_wordsfp8e4m3 i w hc h)).reshape _ _) <|
      unitP (k0_off37 v k) (k0_off37_inb i v hc1 k h) (k0_off38 v k) (k0_off38_inb i v hc1 k h)
      ((hbw.wordExact_slice rfl _ (k0_off38_wordsfp8e4m3 i v hc1 k h)).reshape _ _) sem0
      (k0_chk14 i) (k0_chk14.dec i) k0_off39 (fun w hc => k0_off39_inb i w hc h)
      (fun w hc => (hkw.wordExact_slice rfl _ (k0_off39_wordsfp8e4m3 i w hc h)).reshape _ _) <|
      unitP (k0_off40 v k) (k0_off40_inb i v hc1 k h) (k0_off41 v k) (k0_off41_inb i v hc1 k h)
      ((hbw.wordExact_slice rfl _ (k0_off41_wordsfp8e4m3 i v hc1 k h)).reshape _ _) sem0
      (k0_chk15 i) (k0_chk15.dec i) k0_off42 (fun w hc => k0_off42_inb i w hc h)
      (fun w hc => (hkw.wordExact_slice rfl _ (k0_off42_wordsfp8e4m3 i w hc h)).reshape _ _) <|
      unitP (k0_off43 v k) (k0_off43_inb i v hc1 k h) (k0_off44 v k) (k0_off44_inb i v hc1 k h)
      ((hbw.wordExact_slice rfl _ (k0_off44_wordsfp8e4m3 i v hc1 k h)).reshape _ _) sem0
      (k0_chk16 i) (k0_chk16.dec i) k0_off45 (fun w hc => k0_off45_inb i w hc h)
      (fun w hc => (hkw.wordExact_slice rfl _ (k0_off45_wordsfp8e4m3 i w hc h)).reshape _ _) <|
      unitP (k0_off46 v k) (k0_off46_inb i v hc1 k h) (k0_off47 v k) (k0_off47_inb i v hc1 k h)
      ((hbw.wordExact_slice rfl _ (k0_off47_wordsfp8e4m3 i v hc1 k h)).reshape _ _) sem0
      (k0_chk17 i) (k0_chk17.dec i) k0_off48 (fun w hc => k0_off48_inb i w hc h)
      (fun w hc => (hkw.wordExact_slice rfl _ (k0_off48_wordsfp8e4m3 i w hc h)).reshape _ _) <|
      .ret 0#32) := rfl

set_option maxHeartbeats 8000000 in
/-- The next sequence's loop issues sixteen page copies a trip. -/
theorem t3_body_eq (i : grid0.Coords) (a3) (h3) (a4) (h4) (a6) (h6) (hbw : bufM.IsWhole) (hkw : kvM.IsWhole) (ht hl) (h : k0_cond2 i = 1#1) (v : BitVec 32) (hc : k0_chk34 i v)
    (k : Fin (k0_t3_loop v).trips) (x : BitVec 32) :
    k0_t3_body (F := F) i tbM ht lnM hl a3 h3 a4 h4 kvM hkw a6 h6 bufM hbw cc0_scratch1 h (Scalar.addi (BitVec.ofNat 32 (i 0).val) 1#32) v hc k x =
      (unitP (k0_off98 i v k) (k0_off98_inb i v hc k h) (k0_off100 i v k) (k0_off100_inb i v hc k h)
      ((hbw.wordExact_slice rfl _ (k0_off100_wordsfp8e4m3 i v hc k h)).reshape _ _) (semAt (k0_off99 i) (k0_off99_inb i h))
      (k0_chk35 i) (k0_chk35.dec i) k0_off101 (fun w hc' => k0_off101_inb i w hc' h)
      (fun w hc' => (hkw.wordExact_slice rfl _ (k0_off101_wordsfp8e4m3 i w hc' h)).reshape _ _) <|
      unitP (k0_off102 i v k) (k0_off102_inb i v hc k h) (k0_off104 i v k) (k0_off104_inb i v hc k h)
      ((hbw.wordExact_slice rfl _ (k0_off104_wordsfp8e4m3 i v hc k h)).reshape _ _) (semAt (k0_off103 i) (k0_off103_inb i h))
      (k0_chk36 i) (k0_chk36.dec i) k0_off105 (fun w hc' => k0_off105_inb i w hc' h)
      (fun w hc' => (hkw.wordExact_slice rfl _ (k0_off105_wordsfp8e4m3 i w hc' h)).reshape _ _) <|
      unitP (k0_off106 i v k) (k0_off106_inb i v hc k h) (k0_off108 i v k) (k0_off108_inb i v hc k h)
      ((hbw.wordExact_slice rfl _ (k0_off108_wordsfp8e4m3 i v hc k h)).reshape _ _) (semAt (k0_off107 i) (k0_off107_inb i h))
      (k0_chk37 i) (k0_chk37.dec i) k0_off109 (fun w hc' => k0_off109_inb i w hc' h)
      (fun w hc' => (hkw.wordExact_slice rfl _ (k0_off109_wordsfp8e4m3 i w hc' h)).reshape _ _) <|
      unitP (k0_off110 i v k) (k0_off110_inb i v hc k h) (k0_off112 i v k) (k0_off112_inb i v hc k h)
      ((hbw.wordExact_slice rfl _ (k0_off112_wordsfp8e4m3 i v hc k h)).reshape _ _) (semAt (k0_off111 i) (k0_off111_inb i h))
      (k0_chk38 i) (k0_chk38.dec i) k0_off113 (fun w hc' => k0_off113_inb i w hc' h)
      (fun w hc' => (hkw.wordExact_slice rfl _ (k0_off113_wordsfp8e4m3 i w hc' h)).reshape _ _) <|
      unitP (k0_off114 i v k) (k0_off114_inb i v hc k h) (k0_off116 i v k) (k0_off116_inb i v hc k h)
      ((hbw.wordExact_slice rfl _ (k0_off116_wordsfp8e4m3 i v hc k h)).reshape _ _) (semAt (k0_off115 i) (k0_off115_inb i h))
      (k0_chk39 i) (k0_chk39.dec i) k0_off117 (fun w hc' => k0_off117_inb i w hc' h)
      (fun w hc' => (hkw.wordExact_slice rfl _ (k0_off117_wordsfp8e4m3 i w hc' h)).reshape _ _) <|
      unitP (k0_off118 i v k) (k0_off118_inb i v hc k h) (k0_off120 i v k) (k0_off120_inb i v hc k h)
      ((hbw.wordExact_slice rfl _ (k0_off120_wordsfp8e4m3 i v hc k h)).reshape _ _) (semAt (k0_off119 i) (k0_off119_inb i h))
      (k0_chk40 i) (k0_chk40.dec i) k0_off121 (fun w hc' => k0_off121_inb i w hc' h)
      (fun w hc' => (hkw.wordExact_slice rfl _ (k0_off121_wordsfp8e4m3 i w hc' h)).reshape _ _) <|
      unitP (k0_off122 i v k) (k0_off122_inb i v hc k h) (k0_off124 i v k) (k0_off124_inb i v hc k h)
      ((hbw.wordExact_slice rfl _ (k0_off124_wordsfp8e4m3 i v hc k h)).reshape _ _) (semAt (k0_off123 i) (k0_off123_inb i h))
      (k0_chk41 i) (k0_chk41.dec i) k0_off125 (fun w hc' => k0_off125_inb i w hc' h)
      (fun w hc' => (hkw.wordExact_slice rfl _ (k0_off125_wordsfp8e4m3 i w hc' h)).reshape _ _) <|
      unitP (k0_off126 i v k) (k0_off126_inb i v hc k h) (k0_off128 i v k) (k0_off128_inb i v hc k h)
      ((hbw.wordExact_slice rfl _ (k0_off128_wordsfp8e4m3 i v hc k h)).reshape _ _) (semAt (k0_off127 i) (k0_off127_inb i h))
      (k0_chk42 i) (k0_chk42.dec i) k0_off129 (fun w hc' => k0_off129_inb i w hc' h)
      (fun w hc' => (hkw.wordExact_slice rfl _ (k0_off129_wordsfp8e4m3 i w hc' h)).reshape _ _) <|
      unitP (k0_off130 i v k) (k0_off130_inb i v hc k h) (k0_off132 i v k) (k0_off132_inb i v hc k h)
      ((hbw.wordExact_slice rfl _ (k0_off132_wordsfp8e4m3 i v hc k h)).reshape _ _) (semAt (k0_off131 i) (k0_off131_inb i h))
      (k0_chk43 i) (k0_chk43.dec i) k0_off133 (fun w hc' => k0_off133_inb i w hc' h)
      (fun w hc' => (hkw.wordExact_slice rfl _ (k0_off133_wordsfp8e4m3 i w hc' h)).reshape _ _) <|
      unitP (k0_off134 i v k) (k0_off134_inb i v hc k h) (k0_off136 i v k) (k0_off136_inb i v hc k h)
      ((hbw.wordExact_slice rfl _ (k0_off136_wordsfp8e4m3 i v hc k h)).reshape _ _) (semAt (k0_off135 i) (k0_off135_inb i h))
      (k0_chk44 i) (k0_chk44.dec i) k0_off137 (fun w hc' => k0_off137_inb i w hc' h)
      (fun w hc' => (hkw.wordExact_slice rfl _ (k0_off137_wordsfp8e4m3 i w hc' h)).reshape _ _) <|
      unitP (k0_off138 i v k) (k0_off138_inb i v hc k h) (k0_off140 i v k) (k0_off140_inb i v hc k h)
      ((hbw.wordExact_slice rfl _ (k0_off140_wordsfp8e4m3 i v hc k h)).reshape _ _) (semAt (k0_off139 i) (k0_off139_inb i h))
      (k0_chk45 i) (k0_chk45.dec i) k0_off141 (fun w hc' => k0_off141_inb i w hc' h)
      (fun w hc' => (hkw.wordExact_slice rfl _ (k0_off141_wordsfp8e4m3 i w hc' h)).reshape _ _) <|
      unitP (k0_off142 i v k) (k0_off142_inb i v hc k h) (k0_off144 i v k) (k0_off144_inb i v hc k h)
      ((hbw.wordExact_slice rfl _ (k0_off144_wordsfp8e4m3 i v hc k h)).reshape _ _) (semAt (k0_off143 i) (k0_off143_inb i h))
      (k0_chk46 i) (k0_chk46.dec i) k0_off145 (fun w hc' => k0_off145_inb i w hc' h)
      (fun w hc' => (hkw.wordExact_slice rfl _ (k0_off145_wordsfp8e4m3 i w hc' h)).reshape _ _) <|
      unitP (k0_off146 i v k) (k0_off146_inb i v hc k h) (k0_off148 i v k) (k0_off148_inb i v hc k h)
      ((hbw.wordExact_slice rfl _ (k0_off148_wordsfp8e4m3 i v hc k h)).reshape _ _) (semAt (k0_off147 i) (k0_off147_inb i h))
      (k0_chk47 i) (k0_chk47.dec i) k0_off149 (fun w hc' => k0_off149_inb i w hc' h)
      (fun w hc' => (hkw.wordExact_slice rfl _ (k0_off149_wordsfp8e4m3 i w hc' h)).reshape _ _) <|
      unitP (k0_off150 i v k) (k0_off150_inb i v hc k h) (k0_off152 i v k) (k0_off152_inb i v hc k h)
      ((hbw.wordExact_slice rfl _ (k0_off152_wordsfp8e4m3 i v hc k h)).reshape _ _) (semAt (k0_off151 i) (k0_off151_inb i h))
      (k0_chk48 i) (k0_chk48.dec i) k0_off153 (fun w hc' => k0_off153_inb i w hc' h)
      (fun w hc' => (hkw.wordExact_slice rfl _ (k0_off153_wordsfp8e4m3 i w hc' h)).reshape _ _) <|
      unitP (k0_off154 i v k) (k0_off154_inb i v hc k h) (k0_off156 i v k) (k0_off156_inb i v hc k h)
      ((hbw.wordExact_slice rfl _ (k0_off156_wordsfp8e4m3 i v hc k h)).reshape _ _) (semAt (k0_off155 i) (k0_off155_inb i h))
      (k0_chk49 i) (k0_chk49.dec i) k0_off157 (fun w hc' => k0_off157_inb i w hc' h)
      (fun w hc' => (hkw.wordExact_slice rfl _ (k0_off157_wordsfp8e4m3 i w hc' h)).reshape _ _) <|
      unitP (k0_off158 i v k) (k0_off158_inb i v hc k h) (k0_off160 i v k) (k0_off160_inb i v hc k h)
      ((hbw.wordExact_slice rfl _ (k0_off160_wordsfp8e4m3 i v hc k h)).reshape _ _) (semAt (k0_off159 i) (k0_off159_inb i h))
      (k0_chk50 i) (k0_chk50.dec i) k0_off161 (fun w hc' => k0_off161_inb i w hc' h)
      (fun w hc' => (hkw.wordExact_slice rfl _ (k0_off161_wordsfp8e4m3 i w hc' h)).reshape _ _) <|
      .ret 0#32) := rfl

end Cert.KernelIdeal.Hand

end
-- ==== Proof.Issue.lean ====
/-
  The rule of one page copy: a slot's copies are one batch on the slot's semaphore, of which copy `j` takes a share of page
  `P j` of the page array and the whole of page `j` of the slot, and hands both back with the page filled.
-/
module

public import proofs.«01_k».proof.Proof.Unit

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters of the batches, in the machine's resources. -/
abbrev EC : UEmb Counters (MT nD τ sig Unit (Elt F) ℕ (Pipeline.UD sig nD τ) ℕ) := countersEmb (U := Pipeline.UD sig nD τ)

/-- Page `p` of sequence `r`, by the page table. -/
def pgOf (TB : IVec S96x512 32) (r p : ℕ) : ℕ :=
  if h : r < 96 ∧ p < 512 then (TB (ix2 ⟨r, h.1⟩ ⟨p, h.2⟩)).toNat else 0

/-- Every page of the table is one of the pool's. -/
abbrev InPool (TB : IVec S96x512 32) : Prop := ∀ j, (TB j).toNat < 61440

/-- so is every page of a sequence. -/
theorem pgOf_lt {TB : IVec S96x512 32} (h : InPool TB) (r p : ℕ) : pgOf TB r p < 61440 := by
  unfold pgOf; split
  · exact h _
  · omega

/-- What copy `t` takes: a share of its page of the array, its page of the slot. -/
def need (c : Dev nD) (KV : Vec F S61440x2x8x128 .fp8e4m3) (f0 : Vec F S2x512x2x8x128 .fp8e4m3) (q : PosShare TreeShare)
    (s n : ℕ) (P : ℕ → ℕ) (t : Fin n) : sProp 𝕄 :=
  iprop((kvM.view.loc (c : Thread nD τ) ↦[kvSet (P t.val)]{shareTok q n t} KV)
    ∗ (bufM.view.loc (c : Thread nD τ) ↦[pageSet s t.val]{fullShare} f0))

/-- What copy `t` hands back: the same, the page of the slot filled. -/
def done (c : Dev nD) (KV : Vec F S61440x2x8x128 .fp8e4m3) (q : PosShare TreeShare)
    (s n : ℕ) (P : ℕ → ℕ) (hP : ∀ p, P p < 61440) (t : Fin n) : sProp 𝕄 :=
  iprop((kvM.view.loc (c : Thread nD τ) ↦[kvSet (P t.val)]{shareTok q n t} KV)
    ∗ (bufM.view.loc (c : Thread nD τ) ↦[pageSet s t.val]{fullShare} gath KV P hP))

instance storable_done (c : Dev nD) (KV : Vec F S61440x2x8x128 .fp8e4m3) (q : PosShare TreeShare) (s n : ℕ) (P : ℕ → ℕ) (hP) (t : Fin n) :
    Storable (upEmb : UEmb _ 𝕄) (done c KV q s n P hP t) := by unfold done; infer_instance

/-- The state of a slot's copies with the first `j` of `n` started. -/
def started (c : Dev nD) (KV : Vec F S61440x2x8x128 .fp8e4m3) (f0 : Vec F S2x512x2x8x128 .fp8e4m3) (q : PosShare TreeShare)
    (s n : ℕ) (P : ℕ → ℕ) (hP : ∀ p, P p < 61440) (sm : DmaSem sig) (j : ℕ) : sProp 𝕄 :=
  iprop(Batch EC (c : Thread nD τ) (.dma sm) () 256 (done c KV q s n P hP) j 0 ∗ bigSep (pending j) (need c KV f0 q s n P))

/-- What a finished copy leaves is what copy `j` hands back. -/
theorem done_of (c : Dev nD) (KV : Vec F S61440x2x8x128 .fp8e4m3) (f0 : Vec F S2x512x2x8x128 .fp8e4m3) {q : PosShare TreeShare} (q' : PosShare TreeShare)
    (s n j : ℕ) (P : ℕ → ℕ) (hP : ∀ p, P p < 61440) (hs : s < 2) (hj : j < n) (hp : j < 512) (hq : shareTok q n ⟨j, hj⟩ = q')
    (o2 : Fin 5 → ℕ) (hb2) (ho2 : o2 = ![s, j, 0, 0, 0]) (o3 : Fin 4 → ℕ) (hb3) (ho3 : o3 = ![P j, 0, 0, 0]) :
    iprop(((dstM o2 hb2).view.loc (c : Thread nD τ) ↦[pageSet s j]{fullShare}
          ((dstM o2 hb2).view.write (Elt F) f0 ((srcM o3 hb3).view.read (Elt F) KV) Finset.univ))
        ∗ ((srcM o3 hb3).view.loc (c : Thread nD τ) ↦[(srcM o3 hb3).view.set]{q'} KV))
      ⊢ (done c KV q s n P hP ⟨j, hj⟩ : sProp 𝕄) := by
  subst hq
  have hsrc := src_set o3 hb3 (P j) ho3 (hP j)
  have hc := fun x hx => copied KV f0 P hP o2 hb2 s j ho2 hs hp o3 hb3 ho3 x hx
  unfold done
  rw [hsrc, pointsTo_congr hc]
  exact sep_comm.1

/-- One page copy starts copy `j` of its slot's batch. -/
theorem unit_wp (c : Dev nD) (TB : IVec S96x512 32) (hTB : InPool TB) (KV : Vec F S61440x2x8x128 .fp8e4m3)
    (f0 : Vec F S2x512x2x8x128 .fp8e4m3) (q qt : PosShare TreeShare) (s r n j : ℕ) (hs : s < 2) (hr : r < 96) (hj : j < n) (hp : j < 512)
    (o1 : Fin 2 → ℕ) (hb1) (ho1 : o1 = ![r, j]) (o2 : Fin 5 → ℕ) (hb2) (hw2) (ho2 : o2 = ![s, j, 0, 0, 0])
    (sm : DmaSem sig) (chk : BitVec 32 → Prop) (dec : ∀ v, Decidable (chk v)) (hchk : ∀ v, v.toNat < 61440 → chk v)
    (o3 : BitVec 32 → Fin 4 → ℕ) (hb3) (hw3) (ho3 : ∀ v, o3 v = ![v.toNat, 0, 0, 0])
    (k : Prog (TpuEff nD τ sig (Elt F) Λ₀ .tc) (BitVec 32)) (Q : BitVec 32 → sProp 𝕄) :
    iprop((tbM.view.loc (c : Thread nD τ) ↦[Finset.univ]{qt} TB) ∗ started c KV f0 q s n (pgOf TB r) (pgOf_lt hTB r) sm j
        ∗ ((tbM.view.loc (c : Thread nD τ) ↦[Finset.univ]{qt} TB) -∗ started c KV f0 q s n (pgOf TB r) (pgOf_lt hTB r) sm (j + 1)
            -∗ wp frame (wpE (defs₀ (F := F)) Variants.none (c : Thread nD τ) none) Set.univ k Q))
      ⊢ wp frame (wpE (defs₀ (F := F)) Variants.none (c : Thread nD τ) none) Set.univ
          (unitP o1 hb1 o2 hb2 hw2 sm chk dec o3 hb3 hw3 k) Q := by
  have hw : ∀ x, (tbM.access (Rect.unit (s := S96x512) o1 S1x1.size hb1)).read (Elt F) TB x = TB (ix2 ⟨r, hr⟩ ⟨j, hp⟩) :=
    tb_read TB r j o1 hb1 ho1 hr hp
  have hpg : pgOf TB r j = (TB (ix2 ⟨r, hr⟩ ⟨j, hp⟩)).toNat := by unfold pgOf; rw [dif_pos ⟨hr, hp⟩]
  have hsrc := src_set (o3 (TB (ix2 ⟨r, hr⟩ ⟨j, hp⟩))) (hb3 _ (hchk _ (hTB _))) (pgOf TB r j) (by rw [ho3, hpg]) (pgOf_lt hTB r j)
  have hD := done_of c KV f0 (shareTok q n ⟨j, hj⟩) s n j (pgOf TB r) (pgOf_lt hTB r) hs hj hp rfl o2 hb2 ho2
    (o3 (TB (ix2 ⟨r, hr⟩ ⟨j, hp⟩))) (hb3 _ (hchk _ (hTB _))) (by rw [ho3, hpg])
  have hs' : (kvM.view.loc (c : Thread nD τ) ↦[kvSet (pgOf TB r j)]{shareTok q n ⟨j, hj⟩} KV : sProp 𝕄)
      ⊢ ((srcM (o3 (TB (ix2 ⟨r, hr⟩ ⟨j, hp⟩))) (hb3 _ (hchk _ (hTB _)))).view.loc (c : Thread nD τ)
          ↦[(srcM (o3 (TB (ix2 ⟨r, hr⟩ ⟨j, hp⟩))) (hb3 _ (hchk _ (hTB _)))).view.set]{shareTok q n ⟨j, hj⟩} KV) := by
    rw [hsrc]
  have hstep := wp_dmaBatch EC Variants.none (c : Thread nD τ) none () 256 (page_credit o2 hb2)
    (src := srcM (o3 (TB (ix2 ⟨r, hr⟩ ⟨j, hp⟩))) (hb3 _ (hchk _ (hTB _)))) (dst := dstM o2 hb2) (sm := .dma sm)
    (via := .same) (hsrc := hw3 _ (hchk _ (hTB _))) (hdst := hw2) (hsem := ⟨Or.inl rfl, trivial⟩) (k := fun _ => k) (Q := Q) (defs := defs₀ (F := F)) (u := 0)
    (Sd := pageSet s j) (D := done c KV q s n (pgOf TB r) (pgOf_lt hTB r)) (fs := KV) (fd := f0) (q := shareTok q n ⟨j, hj⟩)
    (dst_set o2 hb2 s j ho2 hs hp).le hj (Nat.zero_le _) hD
  unfold started
  rw [bigSep_pending_step _ j hj]
  unfold need
  iintro ⟨Ht, ⟨HB, ⟨Hs, Hd⟩, Hn⟩, Hk⟩
  iapply (wp_smemLoadElt Variants.none (c : Thread nD τ) none Set.univ (m := tbM) (r := Rect.unit (s := S96x512) o1 S1x1.size hb1)
    (S := Finset.univ) (q := qt) (f := TB) (Finset.subset_univ _)) $$ Ht
  iintro Ht
  rw [hw]
  iapply (wp_assume Variants.none (c : Thread nD τ) none Set.univ (hchk _ (hTB _)))
  iapply hstep $$ [Hs Hd HB]
  · isplitl [Hs]
    · iapply hs' $$ Hs
    · isplitl [Hd]
      · iexact Hd
      · iexact HB
  · iintro HB
    iapply Hk $$ Ht
    isplitl [HB]
    · iexact HB
    · iexact Hn

end Cert.KernelIdeal.Hand

end
-- ==== Proof.IssueLoops.lean ====
/-
  The two loops that start the page copies of one sequence: sixteen a trip, one trip for every sixteen pages.
-/
module

public import proofs.«01_k».proof.Proof.Issue

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One page copy of a group, the rest of the program after it. -/
theorem unit_step (c : Dev nD) (TB : IVec S96x512 32) (hTB : InPool TB) (KV : Vec F S61440x2x8x128 .fp8e4m3)
    (f0 : Vec F S2x512x2x8x128 .fp8e4m3) (q qt : PosShare TreeShare) (s r n k u : ℕ) (hs : s < 2) (hr : r < 96) (hk : k < 32) (hn : 16 * k + 16 ≤ n)
    (s' r' : ℕ) (hs' : s' = s) (hr' : r' = r)
    (o1 : Fin 2 → ℕ) (hb1) (ho1 : o1 = ![r', (pgW k u).toNat]) (o2 : Fin 5 → ℕ) (hb2) (hw2) (ho2 : o2 = ![s', (pgW k u).toNat, 0, 0, 0])
    (sm : DmaSem sig) (chk : BitVec 32 → Prop) (dec : ∀ v, Decidable (chk v)) (hchk : ∀ v, v.toNat < 61440 → chk v)
    (o3 : BitVec 32 → Fin 4 → ℕ) (hb3) (hw3) (ho3 : ∀ v, o3 v = ![v.toNat, 0, 0, 0]) (hu : u < 16)
    (p : Prog (TpuEff nD τ sig (Elt F) Λ₀ .tc) (BitVec 32)) (Q : BitVec 32 → sProp 𝕄) (R : sProp 𝕄)
    (h : iprop((tbM.view.loc (c : Thread nD τ) ↦[Finset.univ]{qt} TB) ∗ started c KV f0 q s n (pgOf TB r) (pgOf_lt hTB r) sm (16 * k + (u + 1)) ∗ R)
      ⊢ wp frame (wpE (defs₀ (F := F)) Variants.none (c : Thread nD τ) none) Set.univ p Q) :
    iprop((tbM.view.loc (c : Thread nD τ) ↦[Finset.univ]{qt} TB) ∗ started c KV f0 q s n (pgOf TB r) (pgOf_lt hTB r) sm (16 * k + u) ∗ R)
      ⊢ wp frame (wpE (defs₀ (F := F)) Variants.none (c : Thread nD τ) none) Set.univ
          (unitP o1 hb1 o2 hb2 hw2 sm chk dec o3 hb3 hw3 p) Q := by
  subst hs' hr'
  rw [pgW_val k u hk hu] at ho1 ho2
  have h1 := unit_wp c TB hTB KV f0 q qt s' r' n (16 * k + u) hs hr (by omega) (by omega) o1 hb1 ho1 o2 hb2 hw2 ho2 sm chk dec hchk o3 hb3 hw3 ho3 p Q
  iintro ⟨Ht, Hs, HR⟩
  iapply h1
  isplitl [Ht]
  · iexact Ht
  isplitl [Hs]
  · iexact Hs
  iintro Ht Hs
  iapply h
  isplitl [Ht]
  · iexact Ht
  isplitl [Hs]
  · iexact Hs
  · iexact HR

set_option maxHeartbeats 4000000 in
/-- A trip of the first sequence's loop starts sixteen copies. -/
theorem t1_trip (c : Dev nD) (TB : IVec S96x512 32) (hTB : InPool TB) (KV : Vec F S61440x2x8x128 .fp8e4m3)
    (f0 : Vec F S2x512x2x8x128 .fp8e4m3) (q qt : PosShare TreeShare) (n : ℕ)
    (i : grid0.Coords) (a3) (h3) (a4) (h4) (a6) (h6) (hbw : bufM.IsWhole) (hkw : kvM.IsWhole) (ht hl) (h : k0_cond1 i = 1#1) (v : BitVec 32) (hc : k0_chk1 i v)
    (k : Fin (k0_t1_loop v).trips) (hk : k.val < 32) (hn : 16 * k.val + 16 ≤ n) (x : BitVec 32) (R : sProp 𝕄) :
    iprop((tbM.view.loc (c : Thread nD τ) ↦[Finset.univ]{qt} TB) ∗ started c KV f0 q 0 n (pgOf TB 0) (pgOf_lt hTB 0) sem0 (16 * k.val) ∗ R)
      ⊢ wp frame (wpE (defs₀ (F := F)) Variants.none (c : Thread nD τ) none) Set.univ
          (k0_t1_body (F := F) i tbM ht lnM hl a3 h3 a4 h4 kvM hkw a6 h6 bufM hbw cc0_scratch1 h v hc k x)
          (fun _ => iprop((tbM.view.loc (c : Thread nD τ) ↦[Finset.univ]{qt} TB) ∗ started c KV f0 q 0 n (pgOf TB 0) (pgOf_lt hTB 0) sem0 (16 * (k.val + 1)) ∗ R)) := by
  rw [t1_body_eq]
  change iprop(_ ∗ started c KV f0 q 0 n (pgOf TB 0) (pgOf_lt hTB 0) sem0 (16 * k.val + 0) ∗ R) ⊢ _
  iterate 16
    refine unit_step c TB hTB KV f0 q qt 0 0 n k.val _ (by decide) (by decide) hk hn 0 0 rfl rfl _ _ rfl _ _ _ rfl _ _ _
      (fun v hv => pageOK (k0_cond1 i = 1#1) v hv) _ _ _ (fun _ => rfl) (by decide) _ _ R ?_
  rw [wp_ret]
  iintro H
  imodintro
  iexact H

set_option maxHeartbeats 4000000 in
/-- A trip of the next sequence's loop starts sixteen copies. -/
theorem t3_trip (c : Dev nD) (TB : IVec S96x512 32) (hTB : InPool TB) (KV : Vec F S61440x2x8x128 .fp8e4m3)
    (f0 : Vec F S2x512x2x8x128 .fp8e4m3) (q qt : PosShare TreeShare) (n s r : ℕ)
    (i : grid0.Coords) (hs : s = ((i 0).val + 1) % 2) (hr : r = (i 0).val + 1)
    (a3) (h3) (a4) (h4) (a6) (h6) (hbw : bufM.IsWhole) (hkw : kvM.IsWhole) (ht hl) (h : k0_cond2 i = 1#1) (v : BitVec 32) (hc : k0_chk34 i v)
    (k : Fin (k0_t3_loop v).trips) (hk : k.val < 32) (hn : 16 * k.val + 16 ≤ n) (x : BitVec 32) (R : sProp 𝕄) :
    iprop((tbM.view.loc (c : Thread nD τ) ↦[Finset.univ]{qt} TB)
        ∗ started c KV f0 q s n (pgOf TB r) (pgOf_lt hTB r) (semAt (k0_off99 i) (k0_off99_inb i h)) (16 * k.val) ∗ R)
      ⊢ wp frame (wpE (defs₀ (F := F)) Variants.none (c : Thread nD τ) none) Set.univ
          (k0_t3_body (F := F) i tbM ht lnM hl a3 h3 a4 h4 kvM hkw a6 h6 bufM hbw cc0_scratch1 h (Scalar.addi (BitVec.ofNat 32 (i 0).val) 1#32) v hc k x)
          (fun _ => iprop((tbM.view.loc (c : Thread nD τ) ↦[Finset.univ]{qt} TB)
            ∗ started c KV f0 q s n (pgOf TB r) (pgOf_lt hTB r) (semAt (k0_off99 i) (k0_off99_inb i h)) (16 * (k.val + 1)) ∗ R)) := by
  have hr' : (Scalar.addi (BitVec.ofNat 32 (i 0).val) 1#32).toNat = r := (nextRow i h).1.trans hr.symm
  have hs' : (Scalar.subi 1#32 (Scalar.remsi (BitVec.ofNat 32 (i 0).val) 2#32)).toNat = s := (slotNext _ (coord_lt i)).trans hs.symm
  have hs2 : s < 2 := by omega
  have hr2 : r < 96 := hr ▸ (nextRow i h).2
  rw [t3_body_eq]
  change iprop(_ ∗ started c KV f0 q s n (pgOf TB r) (pgOf_lt hTB r) (semAt (k0_off99 i) (k0_off99_inb i h)) (16 * k.val + 0) ∗ R) ⊢ _
  iterate 16
    refine unit_step c TB hTB KV f0 q qt s r n k.val _ hs2 hr2 hk hn _ _ hs' hr' _ _ rfl _ _ _ rfl _ _ _
      (fun v hv => pageOK (k0_cond2 i = 1#1) v hv) _ _ _ (fun _ => rfl) (by decide) _ _ R ?_
  rw [wp_ret]
  iintro H
  imodintro
  iexact H

/-- A counted loop by an invariant of the trip alone. -/
theorem loop_wp (c : Dev nD) (l : Scf.Loop 32) (hok : l.OK) (n : ℕ) (htr : l.trips = n) (x : BitVec 32)
    (body : Fin l.trips → BitVec 32 → Prog (TpuEff nD τ sig (Elt F) Λ₀ .tc) (BitVec 32)) (I : ℕ → sProp 𝕄)
    (hb : ∀ (k : Fin l.trips) (acc : BitVec 32), I k.val
      ⊢ wp frame (wpE (defs₀ (F := F)) Variants.none (c : Thread nD τ) none) Set.univ (body k acc) (fun _ => I (k.val + 1)))
    (Q : BitVec 32 → sProp 𝕄) :
    iprop(I 0 ∗ (∀ y, I n -∗ Q y)) ⊢ wp frame (wpE (defs₀ (F := F)) Variants.none (c : Thread nD τ) none) Set.univ (Scf.Loop.for l hok x body) Q := by
  have hf := Scf.wp_for frame (wpE (defs₀ (F := F)) Variants.none (c : Thread nD τ) none) Set.univ l.lb l.ub l.st hok x body (fun k _ => I k) hb (Q := Q)
  subst htr
  exact hf

/-- The first sequence's loop starts every copy of the sequence. -/
theorem t1_issue (c : Dev nD) (TB : IVec S96x512 32) (hTB : InPool TB) (KV : Vec F S61440x2x8x128 .fp8e4m3)
    (f0 : Vec F S2x512x2x8x128 .fp8e4m3) (q qt : PosShare TreeShare)
    (i : grid0.Coords) (a3) (h3) (a4) (h4) (a6) (h6) (hbw : bufM.IsWhole) (hkw : kvM.IsWhole) (ht hl) (h : k0_cond1 i = 1#1) (v : BitVec 32)
    (hv : v.toNat ≤ 8192) (hc : k0_chk1 i v) (x : BitVec 32) (hok) (Q : BitVec 32 → sProp 𝕄) :
    iprop(((tbM.view.loc (c : Thread nD τ) ↦[Finset.univ]{qt} TB) ∗ started c KV f0 q 0 (16 * ngOf v.toNat) (pgOf TB 0) (pgOf_lt hTB 0) sem0 0 ∗ emp)
        ∗ (∀ y, ((tbM.view.loc (c : Thread nD τ) ↦[Finset.univ]{qt} TB)
            ∗ started c KV f0 q 0 (16 * ngOf v.toNat) (pgOf TB 0) (pgOf_lt hTB 0) sem0 (16 * ngOf v.toNat) ∗ emp) -∗ Q y))
      ⊢ wp frame (wpE (defs₀ (F := F)) Variants.none (c : Thread nD τ) none) Set.univ
          (Scf.Loop.for (k0_t1_loop v) hok x (k0_t1_body (F := F) i tbM ht lnM hl a3 h3 a4 h4 kvM hkw a6 h6 bufM hbw cc0_scratch1 h v hc)) Q :=
  loop_wp c (k0_t1_loop v) hok (ngOf v.toNat) (t1_trips hv) x
    (k0_t1_body (F := F) i tbM ht lnM hl a3 h3 a4 h4 kvM hkw a6 h6 bufM hbw cc0_scratch1 h v hc)
    (fun k => iprop((tbM.view.loc (c : Thread nD τ) ↦[Finset.univ]{qt} TB)
      ∗ started c KV f0 q 0 (16 * ngOf v.toNat) (pgOf TB 0) (pgOf_lt hTB 0) sem0 (16 * k) ∗ emp))
    (fun k acc => t1_trip c TB hTB KV f0 q qt _ i a3 h3 a4 h4 a6 h6 hbw hkw ht hl h v hc k
      (by have := k.isLt.trans_eq (t1_trips hv); have := ng_le hv; omega)
      (by have := k.isLt.trans_eq (t1_trips hv); omega) acc _) Q

/-- The next sequence's loop starts every copy of the sequence. -/
theorem t3_issue (c : Dev nD) (TB : IVec S96x512 32) (hTB : InPool TB) (KV : Vec F S61440x2x8x128 .fp8e4m3)
    (f0 : Vec F S2x512x2x8x128 .fp8e4m3) (q qt : PosShare TreeShare) (s r : ℕ)
    (i : grid0.Coords) (hs : s = ((i 0).val + 1) % 2) (hr : r = (i 0).val + 1)
    (a3) (h3) (a4) (h4) (a6) (h6) (hbw : bufM.IsWhole) (hkw : kvM.IsWhole) (ht hl) (h : k0_cond2 i = 1#1) (v : BitVec 32)
    (hv : v.toNat ≤ 8192) (hc : k0_chk34 i v) (x : BitVec 32) (hok) (Q : BitVec 32 → sProp 𝕄) :
    iprop(((tbM.view.loc (c : Thread nD τ) ↦[Finset.univ]{qt} TB)
          ∗ started c KV f0 q s (16 * ngOf v.toNat) (pgOf TB r) (pgOf_lt hTB r) (semAt (k0_off99 i) (k0_off99_inb i h)) 0 ∗ emp)
        ∗ (∀ y, ((tbM.view.loc (c : Thread nD τ) ↦[Finset.univ]{qt} TB)
            ∗ started c KV f0 q s (16 * ngOf v.toNat) (pgOf TB r) (pgOf_lt hTB r) (semAt (k0_off99 i) (k0_off99_inb i h)) (16 * ngOf v.toNat) ∗ emp) -∗ Q y))
      ⊢ wp frame (wpE (defs₀ (F := F)) Variants.none (c : Thread nD τ) none) Set.univ
          (Scf.Loop.for (k0_t3_loop v) hok x (k0_t3_body (F := F) i tbM ht lnM hl a3 h3 a4 h4 kvM hkw a6 h6 bufM hbw cc0_scratch1 h (Scalar.addi (BitVec.ofNat 32 (i 0).val) 1#32) v hc)) Q :=
  loop_wp c (k0_t3_loop v) hok (ngOf v.toNat) (t3_trips hv) x
    (k0_t3_body (F := F) i tbM ht lnM hl a3 h3 a4 h4 kvM hkw a6 h6 bufM hbw cc0_scratch1 h (Scalar.addi (BitVec.ofNat 32 (i 0).val) 1#32) v hc)
    (fun k => iprop((tbM.view.loc (c : Thread nD τ) ↦[Finset.univ]{qt} TB)
      ∗ started c KV f0 q s (16 * ngOf v.toNat) (pgOf TB r) (pgOf_lt hTB r) (semAt (k0_off99 i) (k0_off99_inb i h)) (16 * k) ∗ emp))
    (fun k acc => t3_trip c TB hTB KV f0 q qt _ s r i hs hr a3 h3 a4 h4 a6 h6 hbw hkw ht hl h v hc k
      (by have := k.isLt.trans_eq (t3_trips hv); have := ng_le hv; omega)
      (by have := k.isLt.trans_eq (t3_trips hv); omega) acc _) Q

end Cert.KernelIdeal.Hand

end
-- ==== Proof.Chunk.lean ====
/-
  The loop that scores a sequence: one trip for every 128 pages, its program spelled as one chain of loads and stores, what each
  trip stores, and the rules for the buffers it goes through.
-/
module

public import proofs.«01_k».proof.Proof.IssueLoops

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row and lane numbers of a half of the output tile. -/
abbrev rowI : IVec S16x128 32 := iota .tc S16x128 32 [0] iota_S16x128_d0_w32
abbrev laneI : IVec S16x128 32 := iota .tc S16x128 32 [1] iota_S16x128_d1_w32
/-- The row of the score each output element is taken from. -/
abbrev pickI : IVec S16x128 32 := k0_pay1 rowI k0_pay97 4#32 k0_pay98 k0_pay99 0#32

/-- A quarter of a page tile as loaded, and the output tile halves. -/
abbrev TileV (F : FTy → Type) [FloatOps F] := Vec F S1x64x1x4x128 .fp8e4m3

/-- What a trip stores in the first sixteen rows, from the four tiles it loads. -/
def topPay (qd : FVec F S32x256 .bf16) (v : BitVec 32) (sc : Vec F S32x128 .f32) (k : Fin (k0_t7_loop v).trips) (w1 w2 w3 w4 : TileV F) : FVec F S1x16x128 .f32 :=
  k0_pay27 (k0_pay2 sc) (k0_pay7 (F := F) v laneI 0#32 1#32 k)
    (k0_pay24 laneI
      (k0_pay19 (k0_pay14 laneI (k0_pay9 (F := F)) (k0_pay11 qd pickI w1 w2) 32#32 (k0_pay12 laneI) (k0_pay13 laneI))
        (k0_pay15 pickI (k0_pay10 qd w1 w2)) (k0_pay16 laneI) (k0_pay17 laneI) (k0_pay18 laneI))
      (k0_pay21 pickI (k0_pay8 qd) w3 w4) 32#32 (k0_pay22 laneI) (k0_pay23 laneI)
      (Scalar.extui (Scalar.cmpi .sgt 32#32 0#32)) (Scalar.cmpi .slt 32#32 0#32))
    (k0_pay25 pickI (k0_pay20 (k0_pay8 qd) w3 w4)) (k0_pay26 laneI)

/-- What a trip stores in the last sixteen rows. -/
def botPay (qd : FVec F S32x256 .bf16) (v : BitVec 32) (sc : Vec F S32x128 .f32) (k : Fin (k0_t7_loop v).trips) (w5 w6 w7 w8 : TileV F) : FVec F S1x16x128 .f32 :=
  k0_pay3 sc (k0_pay7 (F := F) v laneI 0#32 1#32 k)
    (k0_pay43 laneI
      (k0_pay38 laneI (k0_pay34 laneI (k0_pay29 (F := F)) (k0_pay31 qd pickI w5 w6) 32#32 (k0_pay32 laneI) (k0_pay33 laneI))
        (k0_pay35 pickI (k0_pay30 qd w5 w6)) 32#32 (k0_pay36 laneI) (k0_pay37 laneI))
      (k0_pay40 pickI (k0_pay28 qd) w7 w8) 32#32 (k0_pay41 laneI) (k0_pay42 laneI))
    (k0_pay44 pickI (k0_pay39 (k0_pay28 qd) w7 w8)) (k0_pay45 laneI) (k0_pay46 laneI) (k0_pay47 laneI)

/-- A load of a tile, the rest after it. -/
def loadB (o : Fin 5 → ℕ) (hb : ∀ a, o a + S1x64x1x4x128.size a ≤ S2x512x2x8x128.size a)
    (k : TileV F → Prog (TpuEff nD τ sig (Elt F) Λ₀ .tc) (BitVec 32)) : Prog (TpuEff nD τ sig (Elt F) Λ₀ .tc) (BitVec 32) :=
  .op (.load bufM (Rect.unit (s := S2x512x2x8x128) o S1x64x1x4x128.size hb).toLoadRect (View.loadsAt_vmem h_S1x64x1x4x128)) k
/-- A load from the output tile, unused, the rest after it. -/
def loadO (a6 : Memref sig .tc .vmem S1x32x512 .f32) (o : Fin 3 → ℕ) (hb : ∀ a, o a + S1x16x128.size a ≤ S1x32x512.size a)
    (k : Prog (TpuEff nD τ sig (Elt F) Λ₀ .tc) (BitVec 32)) : Prog (TpuEff nD τ sig (Elt F) Λ₀ .tc) (BitVec 32) :=
  .op (.load a6 (Rect.unit (s := S1x32x512) o S1x16x128.size hb).toLoadRect (View.loadsAt_vmem h_S1x16x128)) (fun _ => k)
/-- A store in the output tile, the rest after it. -/
def storeO (a6 : Memref sig .tc .vmem S1x32x512 .f32) (o : Fin 3 → ℕ) (hb : ∀ a, o a + S1x16x128.size a ≤ S1x32x512.size a) (w : FVec F S1x16x128 .f32)
    (k : Prog (TpuEff nD τ sig (Elt F) Λ₀ .tc) (BitVec 32)) : Prog (TpuEff nD τ sig (Elt F) Λ₀ .tc) (BitVec 32) :=
  .op (.store a6 (Rect.unit (s := S1x32x512) o S1x16x128.size hb) w Finset.univ (View.stores_vmem_bits_univ h_S1x16x128 rfl) (.inl rfl)) (fun _ => k)

set_option maxRecDepth 65536 in
/-- A trip as one chain. -/
theorem t7_body_eq (i : grid0.Coords) (a3) (h3) (a4) (h4) (a6) (h6) (hbw : bufM.IsWhole) (hkw : kvM.IsWhole) (ht hl) (v0 : BitVec 32)
    (qd : FVec F S32x256 .bf16) (v : BitVec 32) (hc : k0_chk68 i v) (sc : Vec F S32x128 .f32) (k : Fin (k0_t7_loop v).trips) (x : BitVec 32) :
    k0_t7_body (F := F) i tbM ht lnM hl a3 h3 a4 h4 kvM hkw a6 h6 bufM hbw cc0_scratch1 v0 qd v hc rowI laneI k0_pay97 4#32 k0_pay98 k0_pay99 0#32 sc k x
      = (loadB (k0_off232 i v k 0#32) (k0_off232_inb i v hc k 0) fun w1 => loadB (k0_off233 i v k 0#32) (k0_off233_inb i v hc k 0) fun w2 =>
        loadB (k0_off232 i v k 64#32) (k0_off232_inb i v hc k 1) fun w3 => loadB (k0_off233 i v k 64#32) (k0_off233_inb i v hc k 1) fun w4 =>
        loadO a6 (k0_off234 v k) (k0_off234_inb i v hc k) <| storeO a6 (k0_off234 v k) (k0_off234_inb i v hc k) (topPay qd v sc k w1 w2 w3 w4) <|
        loadB (k0_off235 i v k 0#32) (k0_off235_inb i v hc k 0) fun w5 => loadB (k0_off236 i v k 0#32) (k0_off236_inb i v hc k 0) fun w6 =>
        loadB (k0_off235 i v k 64#32) (k0_off235_inb i v hc k 1) fun w7 => loadB (k0_off236 i v k 64#32) (k0_off236_inb i v hc k 1) fun w8 =>
        loadO a6 (k0_off237 v k) (k0_off237_inb i v hc k) <| storeO a6 (k0_off237 v k) (k0_off237_inb i v hc k) (botPay qd v sc k w5 w6 w7 w8) <|
        Prog.ret 0#32) := by
  unfold k0_t7_body
  simp only [k0_part23_eq_skeleton, k0_part24_eq_skeleton, k0_part25_eq_skeleton, k0_part26_eq_skeleton, k0_part27_eq_skeleton, k0_part28_eq_skeleton,
    k0_part29_eq_skeleton, k0_part30_eq_skeleton]
  rfl

/-- What a load through a memref held at contents reads. -/
theorem load_owns (c : Dev nD) {cs : CoreSpace} {s : Shape} {e : EltTy} (m : Memref sig .tc cs s e) (q : PosShare TreeShare) (X : s.Idx → Elt F e) (r : Rect s)
    (hl : m.view.LoadsAt r.toLoadRect) {α : Type} (k : (r.shape.Idx → Elt F e) → Prog (TpuEff nD τ sig (Elt F) Λ₀ .tc) α) (Q : α → sProp 𝕄) :
    iprop(owns (c : Thread nD τ) m q X ∗ (owns (c : Thread nD τ) m q X -∗ wp frame (wpE (defs₀ (F := F)) Variants.none (c : Thread nD τ) none) Set.univ (k fun x => X (r.emb x)) Q))
      ⊢ wp frame (wpE (defs₀ (F := F)) Variants.none (c : Thread nD τ) none) Set.univ (.op (.load m r.toLoadRect hl) k) Q := by
  have hsub : (m.access r).set ⊆ m.view.set := m.view.set_slice_subset r
  unfold owns
  iintro ⟨⟨%f, %hf, H⟩, Hk⟩
  have hr : (m.access r).read (Elt F) f = fun x => X (r.emb x) := by funext x; rw [← hf]; rfl
  iapply (wp_load_rect Variants.none (c : Thread nD τ) none Set.univ (m := m) (r := r) (hl := hl) (k := k) (S := m.view.set) (q := q) (f := f) hsub) $$ H
  iintro H
  rw [hr]
  iapply Hk
  iexists f
  isplitr
  · ipureintro; exact hf
  · iexact H

/-- What a store through a memref held at contents leaves: the payload on the rectangle, the contents elsewhere. -/
theorem store_owns (c : Dev nD) {cs : CoreSpace} {s : Shape} {e : EltTy} (m : Memref sig .tc cs s e) (X : s.Idx → Elt F e) (r : Rect s) (w : r.shape.Idx → Elt F e)
    (hx) (hm) {α : Type} (k : PUnit → Prog (TpuEff nD τ sig (Elt F) Λ₀ .tc) α) (Q : α → sProp 𝕄) (Φ : (s.Idx → Elt F e) → Prop)
    (hΦ : ∀ X', (∀ x, X' (r.emb x) = w x) → (∀ y, (∀ x, r.emb x ≠ y) → X' y = X y) → Φ X') :
    iprop(owns (c : Thread nD τ) m fullShare X ∗ (∀ X', ⌜Φ X'⌝ -∗ owns (c : Thread nD τ) m fullShare X' -∗ wp frame (wpE (defs₀ (F := F)) Variants.none (c : Thread nD τ) none) Set.univ (k ⟨⟩) Q))
      ⊢ wp frame (wpE (defs₀ (F := F)) Variants.none (c : Thread nD τ) none) Set.univ (.op (.store m r w Finset.univ hx hm) k) Q := by
  have hsub : (m.access r).setOn Finset.univ ⊆ m.view.set := m.view.set_slice_subset r
  unfold owns
  iintro ⟨⟨%f, %hf, H⟩, Hk⟩
  have hP : Φ (m.view.read (Elt F) ((m.access r).write (Elt F) f w Finset.univ)) := by
    refine hΦ _ (fun x => ?_) (fun y hy => ?_)
    · exact m.view.read_slice_write_emb r f w (Finset.mem_univ x)
    · rw [← hf]
      refine m.view.read_slice_write_of_not_mem r f w Finset.univ fun h => ?_
      obtain ⟨x, -, hx⟩ := Finset.mem_map.mp h
      exact hy x hx
  iapply (wp_store Variants.none (c : Thread nD τ) none Set.univ (m := m) (r := r) (hx := hx) (hm := hm) (w := w) (Mk := Finset.univ) (k := k) (S := m.view.set) (f := f) hsub) $$ H
  iintro H
  iapply Hk $$ %(m.view.read (Elt F) ((m.access r).write (Elt F) f w Finset.univ)) %hP
  iexists ((m.access r).write (Elt F) f w Finset.univ)
  isplitr
  · ipureintro; rfl
  · iexact H

end Cert.KernelIdeal.Hand

end
-- ==== Proof.Score.lean ====
/-
  The output tile of a sequence: what the scoring loop leaves in its columns, and what the loop that zeroes the rest leaves.
-/
module

public import proofs.«01_k».proof.Proof.Chunk

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A tile of the page buffer at given offsets. -/
def rd (o : Fin 5 → ℕ) (hb : ∀ a, o a + S1x64x1x4x128.size a ≤ S2x512x2x8x128.size a) (g : Vec F S2x512x2x8x128 .fp8e4m3) : TileV F :=
  fun x => g ((Rect.unit (s := S2x512x2x8x128) o S1x64x1x4x128.size hb).emb x)

/-- A load of a tile reads the slot's contents. -/
theorem loadB_wp (c : Dev nD) (s : ℕ) (g : Vec F S2x512x2x8x128 .fp8e4m3) (o : Fin 5 → ℕ) (hb) (ho : o 0 = s)
    (k : TileV F → Prog (TpuEff nD τ sig (Elt F) Λ₀ .tc) (BitVec 32)) (Q : BitVec 32 → sProp 𝕄) (R : sProp 𝕄)
    (h : iprop((bufM.view.loc (c : Thread nD τ) ↦[slotSet s]{fullShare} g) ∗ R)
      ⊢ wp frame (wpE (defs₀ (F := F)) Variants.none (c : Thread nD τ) none) Set.univ (k (rd o hb g)) Q) :
    iprop((bufM.view.loc (c : Thread nD τ) ↦[slotSet s]{fullShare} g) ∗ R)
      ⊢ wp frame (wpE (defs₀ (F := F)) Variants.none (c : Thread nD τ) none) Set.univ (loadB o hb k) Q := by
  have hsub : (bufM.access (Rect.unit (s := S2x512x2x8x128) o S1x64x1x4x128.size hb)).set ⊆ slotSet s := by
    intro j hj
    obtain ⟨x, -, rfl⟩ := Finset.mem_map.mp hj
    have hx : (x 0).val < 1 := (x 0).isLt
    refine mem_slotSet.mpr ?_
    show o 0 + 1 * (x 0).val = s
    omega
  unfold loadB
  iintro ⟨H, HR⟩
  iapply (wp_load_rect Variants.none (c : Thread nD τ) none Set.univ (m := bufM) (r := Rect.unit (s := S2x512x2x8x128) o S1x64x1x4x128.size hb)
    (hl := View.loadsAt_vmem h_S1x64x1x4x128) (k := k) (Q := Q) (S := slotSet s) (q := fullShare) (f := g) hsub) $$ H
  iintro H
  iapply h
  isplitl [H]
  · iexact H
  · iexact HR

/-- The four tiles of a chunk's first halves of heads, by their number: lane half `0` and `1` of pages `0..63`, then of pages `64..127`. -/
abbrev tl (i : grid0.Coords) (v : BitVec 32) (hc : k0_chk68 i v) (k : Fin (k0_t7_loop v).trips) (g : Vec F S2x512x2x8x128 .fp8e4m3) : Fin 8 → TileV F
  | 0 => rd (k0_off232 i v k 0#32) (k0_off232_inb i v hc k 0) g
  | 1 => rd (k0_off233 i v k 0#32) (k0_off233_inb i v hc k 0) g
  | 2 => rd (k0_off232 i v k 64#32) (k0_off232_inb i v hc k 1) g
  | 3 => rd (k0_off233 i v k 64#32) (k0_off233_inb i v hc k 1) g
  | 4 => rd (k0_off235 i v k 0#32) (k0_off235_inb i v hc k 0) g
  | 5 => rd (k0_off236 i v k 0#32) (k0_off236_inb i v hc k 0) g
  | 6 => rd (k0_off235 i v k 64#32) (k0_off235_inb i v hc k 1) g
  | 7 => rd (k0_off236 i v k 64#32) (k0_off236_inb i v hc k 1) g

/-- What the first sixteen rows of a chunk hold. -/
def topV (i : grid0.Coords) (v : BitVec 32) (hc : k0_chk68 i v) (qd : FVec F S32x256 .bf16) (sc : Vec F S32x128 .f32) (g : Vec F S2x512x2x8x128 .fp8e4m3)
    (k : Fin (k0_t7_loop v).trips) : FVec F S1x16x128 .f32 :=
  topPay qd v sc k (tl i v hc k g 0) (tl i v hc k g 1) (tl i v hc k g 2) (tl i v hc k g 3)
/-- What the last sixteen rows of a chunk hold. -/
def botV (i : grid0.Coords) (v : BitVec 32) (hc : k0_chk68 i v) (qd : FVec F S32x256 .bf16) (sc : Vec F S32x128 .f32) (g : Vec F S2x512x2x8x128 .fp8e4m3)
    (k : Fin (k0_t7_loop v).trips) : FVec F S1x16x128 .f32 :=
  botPay qd v sc k (tl i v hc k g 4) (tl i v hc k g 5) (tl i v hc k g 6) (tl i v hc k g 7)

/-- The output tile of a sequence, from the slot's contents. -/
def outF (i : grid0.Coords) (v : BitVec 32) (hc : k0_chk68 i v) (qd : FVec F S32x256 .bf16) (sc : Vec F S32x128 .f32) (g : Vec F S2x512x2x8x128 .fp8e4m3) :
    Vec F S1x32x512 .f32 := fun j =>
  if h : (j 2).val / 128 < (k0_t7_loop v).trips then
    if h1 : (j 1).val < 16 then topV i v hc qd sc g ⟨_, h⟩ (ix3 0 ⟨(j 1).val, h1⟩ ⟨(j 2).val % 128, Nat.mod_lt _ (by decide)⟩)
    else botV i v hc qd sc g ⟨_, h⟩ (ix3 0 ⟨(j 1).val - 16, by have : (j 1).val < 32 := (j 1).isLt; omega⟩ ⟨(j 2).val % 128, Nat.mod_lt _ (by decide)⟩)
  else k0_pay5 (F := F) (ix3 0 (j 1) ⟨(j 2).val % 128, Nat.mod_lt _ (by decide)⟩)

/-- Contents after a store of sixteen rows by 128 columns. -/
theorem upd16 {o : Fin 3 → ℕ} (hb : ∀ a, o a + S1x16x128.size a ≤ S1x32x512.size a) (r w : ℕ) (ho : o = ![0, r, w]) (X X' : Vec F S1x32x512 .f32) (p : FVec F S1x16x128 .f32)
    (h1 : ∀ x, X' ((Rect.unit (s := S1x32x512) o S1x16x128.size hb).emb x) = p x)
    (h2 : ∀ y, (∀ x, (Rect.unit (s := S1x32x512) o S1x16x128.size hb).emb x ≠ y) → X' y = X y) (j : S1x32x512.Idx) :
    X' j = if h : (r ≤ (j 1).val ∧ (j 1).val < r + 16) ∧ w ≤ (j 2).val ∧ (j 2).val < w + 128
      then p (ix3 0 ⟨(j 1).val - r, by omega⟩ ⟨(j 2).val - w, by omega⟩) else X j := by
  subst ho
  split
  · rename_i h
    rw [← h1]
    congr 1
    funext a
    apply Fin.ext
    match a with
    | ⟨0, _⟩ => have : (j 0).val < 1 := (j 0).isLt; show (j 0).val = 0 + 1 * 0; omega
    | ⟨1, _⟩ => show (j 1).val = r + 1 * ((j 1).val - r); omega
    | ⟨2, _⟩ => show (j 2).val = w + 1 * ((j 2).val - w); omega
  · rename_i h
    refine h2 j fun x e => h ?_
    subst e
    have hx1 : (x 1).val < 16 := (x 1).isLt
    have hx2 : (x 2).val < 128 := (x 2).isLt
    refine ⟨⟨?_, ?_⟩, ?_, ?_⟩
    · show r ≤ r + 1 * (x 1).val; omega
    · show r + 1 * (x 1).val < r + 16; omega
    · show w ≤ w + 1 * (x 2).val; omega
    · show w + 1 * (x 2).val < w + 128; omega

/-- Contents after a store of all rows by 128 columns. -/
theorem upd32 {o : Fin 3 → ℕ} (hb : ∀ a, o a + S1x32x128.size a ≤ S1x32x512.size a) (w : ℕ) (ho : o = ![0, 0, w]) (X X' : Vec F S1x32x512 .f32) (p : FVec F S1x32x128 .f32)
    (h1 : ∀ x, X' ((Rect.unit (s := S1x32x512) o S1x32x128.size hb).emb x) = p x)
    (h2 : ∀ y, (∀ x, (Rect.unit (s := S1x32x512) o S1x32x128.size hb).emb x ≠ y) → X' y = X y) (j : S1x32x512.Idx) :
    X' j = if h : w ≤ (j 2).val ∧ (j 2).val < w + 128
      then p (ix3 0 (j 1) ⟨(j 2).val - w, by omega⟩) else X j := by
  subst ho
  split
  · rename_i h
    rw [← h1]
    congr 1
    funext a
    apply Fin.ext
    match a with
    | ⟨0, _⟩ => have : (j 0).val < 1 := (j 0).isLt; show (j 0).val = 0 + 1 * 0; omega
    | ⟨1, _⟩ => show (j 1).val = 0 + 1 * (j 1).val; omega
    | ⟨2, _⟩ => show (j 2).val = w + 1 * ((j 2).val - w); omega
  · rename_i h
    refine h2 j fun x e => h ?_
    subst e
    have hx2 : (x 2).val < 128 := (x 2).isLt
    refine ⟨?_, ?_⟩
    · show w ≤ w + 1 * (x 2).val; omega
    · show w + 1 * (x 2).val < w + 128; omega

theorem off234_eq {v : BitVec 32} (k : Fin (k0_t7_loop v).trips) (hk : k.val < 4) : k0_off234 v k = ![0, 0, 128 * k.val] := by
  rw [← chunkW_val k.val hk]; rfl
theorem off237_eq {v : BitVec 32} (k : Fin (k0_t7_loop v).trips) (hk : k.val < 4) : k0_off237 v k = ![0, 16, 128 * k.val] := by
  rw [← chunkW_val k.val hk]; rfl
theorem off244_eq {v : BitVec 32} (hv : v.toNat ≤ 8192) (k : Fin (k0_t9_loop v).trips) (hk : ncOf v.toNat + k.val < 4) : k0_off244 v k = ![0, 0, 128 * (ncOf v.toNat + k.val)] := by
  rw [← tailW_val hv k.val hk]; rfl

/-- The output tile with its first `n` columns done. -/
abbrev upto (i : grid0.Coords) (v : BitVec 32) (hc : k0_chk68 i v) (qd : FVec F S32x256 .bf16) (sc : Vec F S32x128 .f32) (g : Vec F S2x512x2x8x128 .fp8e4m3) (n : ℕ)
    (X : Vec F S1x32x512 .f32) : Prop := ∀ j : S1x32x512.Idx, (j 2).val < n → X j = outF i v hc qd sc g j

/-- The scoring loop's state. -/
def scoring (c : Dev nD) (a6 : Memref sig .tc .vmem S1x32x512 .f32) (i : grid0.Coords) (v : BitVec 32) (hc : k0_chk68 i v) (qd : FVec F S32x256 .bf16)
    (sc : Vec F S32x128 .f32) (g : Vec F S2x512x2x8x128 .fp8e4m3) (s n : ℕ) : sProp 𝕄 :=
  iprop((bufM.view.loc (c : Thread nD τ) ↦[slotSet s]{fullShare} g) ∗ ∃ X, ⌜upto i v hc qd sc g n X⌝ ∗ owns (c : Thread nD τ) a6 fullShare X)

set_option maxHeartbeats 1000000 in
/-- A trip of the scoring loop fills a chunk. -/
theorem t7_trip (c : Dev nD) (g : Vec F S2x512x2x8x128 .fp8e4m3) (s : ℕ)
    (i : grid0.Coords) (hs : s = (i 0).val % 2) (a3) (h3) (a4) (h4) (a6) (h6) (hbw : bufM.IsWhole) (hkw : kvM.IsWhole) (ht hl) (v0 : BitVec 32)
    (qd : FVec F S32x256 .bf16) (v : BitVec 32) (hc : k0_chk68 i v) (sc : Vec F S32x128 .f32) (k : Fin (k0_t7_loop v).trips) (hk : k.val < 4) (x : BitVec 32) :
    (scoring c a6 i v hc qd sc g s (128 * k.val) : sProp 𝕄)
      ⊢ wp frame (wpE (defs₀ (F := F)) Variants.none (c : Thread nD τ) none) Set.univ
          (k0_t7_body (F := F) i tbM ht lnM hl a3 h3 a4 h4 kvM hkw a6 h6 bufM hbw cc0_scratch1 v0 qd v hc rowI laneI k0_pay97 4#32 k0_pay98 k0_pay99 0#32 sc k x)
          (fun _ => scoring c a6 i v hc qd sc g s (128 * (k.val + 1))) := by
  have hs' : (Scalar.remsi (BitVec.ofNat 32 (i 0).val) 2#32).toNat = s := (slotCur _ (coord_lt i)).trans hs.symm
  rw [t7_body_eq]
  unfold scoring
  iintro ⟨Hb, %X, %hX, Ho⟩
  istop
  iterate 4 refine loadB_wp c s g _ _ hs' _ _ _ ?_
  unfold loadO storeO
  iintro ⟨Hb, Ho⟩
  iapply (load_owns c a6 fullShare X (Rect.unit (s := S1x32x512) (k0_off234 v k) S1x16x128.size (k0_off234_inb i v hc k)) (View.loadsAt_vmem h_S1x16x128))
  isplitl [Ho]
  · iexact Ho
  iintro Ho
  iapply (store_owns c a6 X (Rect.unit (s := S1x32x512) (k0_off234 v k) S1x16x128.size (k0_off234_inb i v hc k)) (topV i v hc qd sc g k) _ _ _ _
    (fun X' => upto i v hc qd sc g (128 * k.val) X' ∧ ∀ j : S1x32x512.Idx, (j 1).val < 16 → (j 2).val < 128 * (k.val + 1) → X' j = outF i v hc qd sc g j) ?_)
  · intro X' e1 e2
    have hu := upd16 (k0_off234_inb i v hc k) 0 (128 * k.val) (off234_eq k hk) X X' _ e1 e2
    refine ⟨fun j hj => ?_, fun j hj1 hj2 => ?_⟩
    · rw [hu j, dif_neg (by omega), hX j hj]
    · by_cases h : (j 2).val < 128 * k.val
      · rw [hu j, dif_neg (by omega), hX j h]
      · have hd : (j 2).val / 128 = k.val := by omega
        rw [hu j, dif_pos (by omega)]
        unfold outF
        rw [dif_pos (hd ▸ k.isLt), dif_pos hj1]
        have hk' : (⟨(j 2).val / 128, hd ▸ k.isLt⟩ : Fin (k0_t7_loop v).trips) = k := Fin.ext hd
        rw [hk']
        congr 1
        funext a
        apply Fin.ext
        match a with
        | ⟨0, _⟩ => rfl
        | ⟨1, _⟩ => rfl
        | ⟨2, _⟩ => show (j 2).val - 128 * k.val = (j 2).val % 128; omega
  isplitl [Ho]
  · iexact Ho
  iintro %X' %hX' Ho
  istop
  iterate 4 refine loadB_wp c s g _ _ hs' _ _ _ ?_
  iintro ⟨Hb, Ho⟩
  iapply (load_owns c a6 fullShare X' (Rect.unit (s := S1x32x512) (k0_off237 v k) S1x16x128.size (k0_off237_inb i v hc k)) (View.loadsAt_vmem h_S1x16x128))
  isplitl [Ho]
  · iexact Ho
  iintro Ho
  iapply (store_owns c a6 X' (Rect.unit (s := S1x32x512) (k0_off237 v k) S1x16x128.size (k0_off237_inb i v hc k)) (botV i v hc qd sc g k) _ _ _ _
    (fun X'' => upto i v hc qd sc g (128 * (k.val + 1)) X'') ?_)
  · intro X'' e1 e2 j hj
    have hu := upd16 (k0_off237_inb i v hc k) 16 (128 * k.val) (off237_eq k hk) X' X'' _ e1 e2
    have hj32 : (j 1).val < 32 := (j 1).isLt
    by_cases h : (j 2).val < 128 * k.val
    · rw [hu j, dif_neg (by omega), hX'.1 j h]
    · by_cases h1 : (j 1).val < 16
      · rw [hu j, dif_neg (by omega), hX'.2 j h1 hj]
      · have hd : (j 2).val / 128 = k.val := by omega
        rw [hu j, dif_pos (by omega)]
        unfold outF
        rw [dif_pos (hd ▸ k.isLt), dif_neg h1]
        have hk' : (⟨(j 2).val / 128, hd ▸ k.isLt⟩ : Fin (k0_t7_loop v).trips) = k := Fin.ext hd
        rw [hk']
        congr 1
        funext a
        apply Fin.ext
        match a with
        | ⟨0, _⟩ => rfl
        | ⟨1, _⟩ => rfl
        | ⟨2, _⟩ => show (j 2).val - 128 * k.val = (j 2).val % 128; omega
  isplitl [Ho]
  · iexact Ho
  iintro %X'' %hX'' Ho
  rw [wp_ret]
  imodintro
  isplitl [Hb]
  · iexact Hb
  iexists X''
  isplitr
  · ipureintro; exact hX''
  · iexact Ho

set_option maxHeartbeats 1000000 in
/-- A trip of the zeroing loop fills a chunk past the sequence. -/
theorem t9_trip (c : Dev nD) (g : Vec F S2x512x2x8x128 .fp8e4m3) (s : ℕ)
    (i : grid0.Coords) (a3) (h3) (a4) (h4) (a6) (h6) (hbw : bufM.IsWhole) (hkw : kvM.IsWhole) (ht hl)
    (qd : FVec F S32x256 .bf16) (v : BitVec 32) (hv : v.toNat ≤ 8192) (hc : k0_chk68 i v) (sc : Vec F S32x128 .f32) (k : Fin (k0_t9_loop v).trips) (x : BitVec 32) :
    (scoring c a6 i v hc qd sc g s (128 * (ncOf v.toNat + k.val)) : sProp 𝕄)
      ⊢ wp frame (wpE (defs₀ (F := F)) Variants.none (c : Thread nD τ) none) Set.univ
          (k0_t9_body (F := F) i tbM ht lnM hl a3 h3 a4 h4 kvM hkw a6 h6 bufM hbw cc0_scratch1 v hc k x)
          (fun _ => scoring c a6 i v hc qd sc g s (128 * (ncOf v.toNat + (k.val + 1)))) := by
  have hk : ncOf v.toNat + k.val < 4 := by have := k.isLt.trans_eq (t9_trips hv); omega
  change _ ⊢ wp frame (wpE (defs₀ (F := F)) Variants.none (c : Thread nD τ) none) Set.univ
    (.op (.load a6 (Rect.unit (s := S1x32x512) (k0_off244 v k) S1x32x128.size (k0_off244_inb i v hc k)).toLoadRect (View.loadsAt_vmem h_S1x32x128)) fun _ =>
      .op (.store a6 (Rect.unit (s := S1x32x512) (k0_off244 v k) S1x32x128.size (k0_off244_inb i v hc k)) (k0_pay5 (F := F)) Finset.univ (View.stores_vmem_bits_univ h_S1x32x128 rfl) (.inl rfl)) fun _ =>
      Prog.ret 0#32) _
  unfold scoring
  iintro ⟨Hb, %X, %hX, Ho⟩
  iapply (load_owns c a6 fullShare X (Rect.unit (s := S1x32x512) (k0_off244 v k) S1x32x128.size (k0_off244_inb i v hc k)) (View.loadsAt_vmem h_S1x32x128))
  isplitl [Ho]
  · iexact Ho
  iintro Ho
  iapply (store_owns c a6 X (Rect.unit (s := S1x32x512) (k0_off244 v k) S1x32x128.size (k0_off244_inb i v hc k)) (k0_pay5 (F := F)) _ _ _ _
    (fun X'' => upto i v hc qd sc g (128 * (ncOf v.toNat + (k.val + 1))) X'') ?_)
  · intro X' e1 e2 j hj
    have hu := upd32 (k0_off244_inb i v hc k) (128 * (ncOf v.toNat + k.val)) (off244_eq hv k hk) X X' _ e1 e2
    by_cases h : (j 2).val < 128 * (ncOf v.toNat + k.val)
    · rw [hu j, dif_neg (by omega), hX j h]
    · rw [hu j, dif_pos (by omega)]
      unfold outF
      rw [dif_neg (by rw [t7_trips hv]; omega)]
      congr 1
      funext a
      apply Fin.ext
      match a with
      | ⟨0, _⟩ => rfl
      | ⟨1, _⟩ => rfl
      | ⟨2, _⟩ => show (j 2).val - 128 * (ncOf v.toNat + k.val) = (j 2).val % 128; omega
  isplitl [Ho]
  · iexact Ho
  iintro %X' %hX' Ho
  rw [wp_ret]
  imodintro
  isplitl [Hb]
  · iexact Hb
  iexists X'
  isplitr
  · ipureintro; exact hX'
  · iexact Ho

end Cert.KernelIdeal.Hand

end
-- ==== Proof.Slot.lean ====
/-
  A slot of the page buffer: what it holds while idle, what is set aside while its copies are under way, and how the one
  becomes the other and back.
-/
module

public import proofs.«01_k».proof.Proof.Issue

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first `n` pages of slot `s`. -/
def headSet (s n : ℕ) : Finset S2x512x2x8x128.Idx := (Finset.univ : Finset (Fin n)).biUnion fun t => pageSet s t.val

/-- A page of the slot is among the first `n` exactly when its number is below `n`. -/
theorem mem_headSet {s n : ℕ} {j : S2x512x2x8x128.Idx} : j ∈ headSet s n ↔ (j 0).val = s ∧ (j 1).val < n := by
  unfold headSet
  rw [Finset.mem_biUnion]
  constructor
  · rintro ⟨t, -, h⟩
    have h := mem_pageSet.mp h
    exact ⟨h.1, h.2 ▸ t.isLt⟩
  · rintro ⟨h0, h1⟩
    exact ⟨⟨(j 1).val, h1⟩, Finset.mem_univ _, mem_pageSet.mpr ⟨h0, rfl⟩⟩

/-- They lie in the slot. -/
theorem headSet_sub (s n : ℕ) : headSet s n ⊆ slotSet s := fun j h => mem_slotSet.mpr (mem_headSet.mp h).1

/-- Two pages of a slot are disjoint. -/
theorem pages_disjoint (s n : ℕ) : ∀ t ∈ (Finset.univ : Finset (Fin n)), ∀ t' ∈ (Finset.univ : Finset (Fin n)), t ≠ t' →
    Disjoint (pageSet s t.val) (pageSet s t'.val) := by
  intro t _ t' _ hne
  rw [Finset.disjoint_left]
  intro j h h'
  exact hne (Fin.ext ((mem_pageSet.mp h).2.symm.trans (mem_pageSet.mp h').2))

/-- A slot's contents: arbitrary, those of the named pages given. -/
def full (c : Dev nD) (KV : Vec F S61440x2x8x128 .fp8e4m3) (s n : ℕ) (P : ℕ → ℕ) (hP : ∀ p, P p < 61440) : sProp 𝕄 :=
  iprop(∃ g : Vec F S2x512x2x8x128 .fp8e4m3, ⌜∀ j : S2x512x2x8x128.Idx, (j 0).val = s → (j 1).val < n → g j = gath KV P hP j⌝
    ∗ (bufM.view.loc (c : Thread nD τ) ↦[slotSet s]{fullShare} g))

/-- An idle slot: its pages, its semaphore at zero, its share of the page array. -/
def idle (c : Dev nD) (KV : Vec F S61440x2x8x128 .fp8e4m3) (q : PosShare TreeShare) (s : ℕ) (sm : DmaSem sig) : sProp 𝕄 :=
  iprop((∃ f0 : Vec F S2x512x2x8x128 .fp8e4m3, (bufM.view.loc (c : Thread nD τ) ↦[slotSet s]{fullShare} f0))
    ∗ semVal ((c : Thread nD τ), .dma sm) 0 ∗ (kvM.view.loc (c : Thread nD τ) ↦[Finset.univ]{q} KV))

/-- What is set aside while `n` copies of a slot are under way. -/
def kept (c : Dev nD) (KV : Vec F S61440x2x8x128 .fp8e4m3) (f0 : Vec F S2x512x2x8x128 .fp8e4m3) (q : PosShare TreeShare)
    (s n : ℕ) (P : ℕ → ℕ) : sProp 𝕄 :=
  iprop((kvM.view.loc (c : Thread nD τ) ↦[Finset.univ]{shareDrop q n} KV)
    ∗ (bigSep Finset.univ fun t : Fin n => (kvM.view.loc (c : Thread nD τ) ↦[Finset.univ \ kvSet (P t.val)]{shareTok q n t} KV))
    ∗ (bufM.view.loc (c : Thread nD τ) ↦[slotSet s \ headSet s n]{fullShare} f0))

/-- A share of the page array, dealt to the copies: each takes its page of its part. -/
theorem kv_deal (c : Dev nD) (KV : Vec F S61440x2x8x128 .fp8e4m3) (q : PosShare TreeShare) (n : ℕ) (P : ℕ → ℕ) :
    (kvM.view.loc (c : Thread nD τ) ↦[Finset.univ]{q} KV : sProp 𝕄)
      ⊣⊢ iprop((kvM.view.loc (c : Thread nD τ) ↦[Finset.univ]{shareDrop q n} KV)
        ∗ (bigSep Finset.univ fun t : Fin n => (kvM.view.loc (c : Thread nD τ) ↦[kvSet (P t.val)]{shareTok q n t} KV))
        ∗ (bigSep Finset.univ fun t : Fin n => (kvM.view.loc (c : Thread nD τ) ↦[Finset.univ \ kvSet (P t.val)]{shareTok q n t} KV))) := by
  have h := pointsTo_toks (ℓ := kvM.view.loc (c : Thread nD τ)) (S := Finset.univ) (f := KV) (Ix := Unit) (Name := ℕ) (U := Pipeline.UD sig nD τ) (Lvl := ℕ) q n
  have hs (t : Fin n) := pointsTo_split_subset (ℓ := kvM.view.loc (c : Thread nD τ)) (S := Finset.univ) (I := kvSet (P t.val)) (f := KV) (q := shareTok q n t) (Ix := Unit) (Name := ℕ) (U := Pipeline.UD sig nD τ) (Lvl := ℕ) (Finset.subset_univ _)
  have hm1 : (bigSep Finset.univ fun t : Fin n => (kvM.view.loc (c : Thread nD τ) ↦[Finset.univ]{shareTok q n t} KV) : sProp 𝕄)
      ⊢ bigSep Finset.univ fun t : Fin n => iprop((kvM.view.loc (c : Thread nD τ) ↦[kvSet (P t.val)]{shareTok q n t} KV)
        ∗ (kvM.view.loc (c : Thread nD τ) ↦[Finset.univ \ kvSet (P t.val)]{shareTok q n t} KV)) := bigSep_mono fun t _ => (hs t).1
  have hm2 : (bigSep Finset.univ fun t : Fin n => iprop((kvM.view.loc (c : Thread nD τ) ↦[kvSet (P t.val)]{shareTok q n t} KV)
        ∗ (kvM.view.loc (c : Thread nD τ) ↦[Finset.univ \ kvSet (P t.val)]{shareTok q n t} KV)) : sProp 𝕄)
      ⊢ bigSep Finset.univ fun t : Fin n => (kvM.view.loc (c : Thread nD τ) ↦[Finset.univ]{shareTok q n t} KV) := bigSep_mono fun t _ => (hs t).2
  constructor
  · refine h.1.trans ?_
    rw [← bigSep_sep']
    iintro ⟨H1, H2⟩
    isplitl [H1]
    · iexact H1
    · iapply hm1 $$ H2
  · rw [← bigSep_sep']
    iintro ⟨H1, H2⟩
    iapply h.2
    isplitl [H1]
    · iexact H1
    · iapply hm2 $$ H2

/-- A slot's pages, dealt to the copies. -/
theorem buf_deal (c : Dev nD) (f0 : Vec F S2x512x2x8x128 .fp8e4m3) (s n : ℕ) :
    (bufM.view.loc (c : Thread nD τ) ↦[slotSet s]{fullShare} f0 : sProp 𝕄)
      ⊢ iprop((bigSep Finset.univ fun t : Fin n => (bufM.view.loc (c : Thread nD τ) ↦[pageSet s t.val]{fullShare} f0))
        ∗ (bufM.view.loc (c : Thread nD τ) ↦[slotSet s \ headSet s n]{fullShare} f0)) := by
  have h := pointsTo_biUnion (ℓ := bufM.view.loc (c : Thread nD τ)) (f := f0) (q := fullShare) (Ix := Unit) (Name := ℕ) (U := Pipeline.UD sig nD τ) (Lvl := ℕ) Finset.univ
    (fun t : Fin n => pageSet s t.val) (pages_disjoint s n)
  rw [← h]
  exact (pointsTo_split_subset (headSet_sub s n)).1

/-- and their return, filled. -/
theorem buf_join (c : Dev nD) (KV : Vec F S61440x2x8x128 .fp8e4m3) (f0 : Vec F S2x512x2x8x128 .fp8e4m3) (s n : ℕ) (P : ℕ → ℕ) (hP : ∀ p, P p < 61440) :
    iprop((bigSep Finset.univ fun t : Fin n => (bufM.view.loc (c : Thread nD τ) ↦[pageSet s t.val]{fullShare} gath KV P hP))
        ∗ (bufM.view.loc (c : Thread nD τ) ↦[slotSet s \ headSet s n]{fullShare} f0))
      ⊢ (full c KV s n P hP : sProp 𝕄) := by
  have h := pointsTo_biUnion (ℓ := bufM.view.loc (c : Thread nD τ)) (f := gath KV P hP) (q := fullShare) (Ix := Unit) (Name := ℕ) (U := Pipeline.UD sig nD τ) (Lvl := ℕ) Finset.univ
    (fun t : Fin n => pageSet s t.val) (pages_disjoint s n)
  rw [← h]
  refine (pointsTo_join_subset (headSet_sub s n)).trans ?_
  unfold full
  iintro H
  iexists ((headSet s n).piecewise (gath KV P hP) f0)
  isplitr
  · ipureintro
    intro j h0 h1
    exact Finset.piecewise_eq_of_mem _ _ _ (mem_headSet.mpr ⟨h0, h1⟩)
  · iexact H

/-- An idle slot made ready for `n` copies. -/
theorem open_slot (c : Dev nD) (KV : Vec F S61440x2x8x128 .fp8e4m3) (q : PosShare TreeShare) (s n : ℕ) (P : ℕ → ℕ) (hP : ∀ p, P p < 61440)
    (sm : DmaSem sig) :
    (idle c KV q s sm : sProp 𝕄) ⊢ |={Set.univ}=> iprop(∃ f0, started c KV f0 q s n P hP sm 0 ∗ kept c KV f0 q s n P) := by
  have ha := batch_alloc' (EC (F := F)) (c := (c : Thread nD τ)) (sm := .dma sm) () 256 (done c KV q s n P hP) (E := Set.univ)
  have hz (f0 : Vec F S2x512x2x8x128 .fp8e4m3) : iprop((bigSep Finset.univ fun t : Fin n => (kvM.view.loc (c : Thread nD τ) ↦[kvSet (P t.val)]{shareTok q n t} KV))
      ∗ (bigSep Finset.univ fun t : Fin n => (bufM.view.loc (c : Thread nD τ) ↦[pageSet s t.val]{fullShare} f0)))
      ⊢ (bigSep (pending 0) (need c KV f0 q s n P) : sProp 𝕄) := by
    rw [← bigSep_pending_zero, ← bigSep_sep']; exact .rfl
  unfold idle started kept
  iintro ⟨⟨%f0, Hb⟩, Hs, Hk⟩
  imod ha $$ Hs with HB
  ihave Hk := (kv_deal c KV q n P).1 $$ Hk
  icases Hk with ⟨Hk1, Hk2, Hk3⟩
  ihave Hb := (buf_deal c f0 s n) $$ Hb
  icases Hb with ⟨Hb1, Hb2⟩
  imodintro
  iexists f0
  isplitl [HB Hk2 Hb1]
  · isplitl [HB]
    · iexact HB
    · iapply (hz f0)
      isplitl [Hk2]
      · iexact Hk2
      · iexact Hb1
  · isplitl [Hk1]
    · iexact Hk1
    · isplitl [Hk3]
      · iexact Hk3
      · iexact Hb2

/-- What the copies hand back, with what was set aside: the slot filled, the share of the page array whole. -/
theorem close_slot (c : Dev nD) (KV : Vec F S61440x2x8x128 .fp8e4m3) (f0 : Vec F S2x512x2x8x128 .fp8e4m3) (q : PosShare TreeShare)
    (s n : ℕ) (P : ℕ → ℕ) (hP : ∀ p, P p < 61440) :
    iprop(bigSep Finset.univ (done c KV q s n P hP) ∗ kept c KV f0 q s n P)
      ⊢ (iprop(full c KV s n P hP ∗ (kvM.view.loc (c : Thread nD τ) ↦[Finset.univ]{q} KV)) : sProp 𝕄) := by
  have hz : (bigSep Finset.univ (done c KV q s n P hP) : sProp 𝕄)
      ⊢ iprop((bigSep Finset.univ fun t : Fin n => (kvM.view.loc (c : Thread nD τ) ↦[kvSet (P t.val)]{shareTok q n t} KV))
        ∗ (bigSep Finset.univ fun t : Fin n => (bufM.view.loc (c : Thread nD τ) ↦[pageSet s t.val]{fullShare} gath KV P hP))) := by
    rw [← bigSep_sep']; exact .rfl
  unfold kept
  iintro ⟨HD, Hk1, Hk3, Hb2⟩
  ihave HD := hz $$ HD
  icases HD with ⟨Hk2, Hb1⟩
  isplitl [Hb1 Hb2]
  · iapply (buf_join c KV f0 s n P hP)
    isplitl [Hb1]
    · iexact Hb1
    · iexact Hb2
  · iapply (kv_deal c KV q n P).2
    isplitl [Hk1]
    · iexact Hk1
    · isplitl [Hk2]
      · iexact Hk2
      · iexact Hk3

end Cert.KernelIdeal.Hand

end
-- ==== Proof.Drain.lean ====
/-
  The loop that waits for the page copies of one sequence: sixteen a trip; after it the slot holds the sequence's pages.
-/
module

public import proofs.«01_k».proof.Proof.IssueLoops
public import proofs.«01_k».proof.Proof.Slot

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copies of a slot all started, the first `k` groups of sixteen waited for. -/
def waited (c : Dev nD) (KV : Vec F S61440x2x8x128 .fp8e4m3) (q : PosShare TreeShare)
    (s n : ℕ) (P : ℕ → ℕ) (hP : ∀ p, P p < 61440) (sm : DmaSem sig) (k : ℕ) : sProp 𝕄 :=
  iprop(Batch EC (c : Thread nD τ) (.dma sm) () 256 (done c KV q s n P hP) n (16 * 256 * k) ∗ ∃ W, owes (c : Thread nD τ) 0 W)

/-- A trip of the waiting loop waits for sixteen copies. -/
theorem t5_trip (c : Dev nD) (KV : Vec F S61440x2x8x128 .fp8e4m3) (q : PosShare TreeShare) (s n : ℕ) (P : ℕ → ℕ) (hP : ∀ p, P p < 61440)
    (i : grid0.Coords) (a3) (h3) (a4) (h4) (a6) (h6) (hbw : bufM.IsWhole) (hkw : kvM.IsWhole) (ht hl) (a0 : BitVec 32) (v : BitVec 32) (hc : k0_chk67 i v)
    (k : Fin (k0_t5_loop v).trips) (hn : 16 * k.val + 16 ≤ n) (x : BitVec 32) :
    (waited c KV q s n P hP (semAt (k0_off227 i) (k0_off227_inb i)) k.val : sProp 𝕄)
      ⊢ wp frame (wpE (defs₀ (F := F)) Variants.none (c : Thread nD τ) none) Set.univ
          (k0_t5_body (F := F) i tbM ht lnM hl a3 h3 a4 h4 kvM hkw a6 h6 bufM hbw cc0_scratch1 a0 v hc k x)
          (fun _ => waited c KV q s n P hP (semAt (k0_off227 i) (k0_off227_inb i)) (k.val + 1)) := by
  have hstep (W) := wp_waitBatchMul (EC (F := F)) Variants.none (c : Thread nD τ) none (sem := semAt (k0_off227 i) (k0_off227_inb i))
    (defs := defs₀ (F := F))
    (srcw := (kvM.slice (Rect.unit (s := S61440x2x8x128) ![0, 0, 0, 0] S16x2x8x128.size inb_S61440x2x8x128_S16x2x8x128_0_0_0_0) (fun _ => rfl)))
    (dstw := ((bufM.slice (Rect.unit (s := S2x512x2x8x128) (k0_off228 i v k) S1x16x2x8x128.size (k0_off228_inb i v hc k)) (fun _ => rfl)).squeeze S16x2x8x128 squeezes_S1x16x2x8x128_S16x2x8x128))
    (hsrc := (hkw.wordExact_slice rfl _ wordsfp8e4m3_S61440x2x8x128_S16x2x8x128_0_0_0_0))
    (hdst := ((hbw.wordExact_slice rfl _ (k0_off228_wordsfp8e4m3 i v hc k)).reshape _ _))
    (k := fun _ => (Prog.ret 0#32 : Prog (TpuEff nD τ sig (Elt F) Λ₀ .tc) (BitVec 32)))
    (Q := fun _ => waited c KV q s n P hP (semAt (k0_off227 i) (k0_off227_inb i)) (k.val + 1))
    () (N := 256) 16 group_credit (D := done c KV q s n P hP) (j := n) (u := 16 * 256 * k.val) (by omega) (W := W)
  change _ ⊢ wp frame (wpE (defs₀ (F := F)) Variants.none (c : Thread nD τ) none) Set.univ
    (.op (.waitDma2 (semAt (k0_off227 i) (k0_off227_inb i))
      (kvM.slice (Rect.unit (s := S61440x2x8x128) ![0, 0, 0, 0] S16x2x8x128.size inb_S61440x2x8x128_S16x2x8x128_0_0_0_0) (fun _ => rfl))
      ((bufM.slice (Rect.unit (s := S2x512x2x8x128) (k0_off228 i v k) S1x16x2x8x128.size (k0_off228_inb i v hc k)) (fun _ => rfl)).squeeze S16x2x8x128 squeezes_S1x16x2x8x128_S16x2x8x128)
      (hkw.wordExact_slice rfl _ wordsfp8e4m3_S61440x2x8x128_S16x2x8x128_0_0_0_0)
      ((hbw.wordExact_slice rfl _ (k0_off228_wordsfp8e4m3 i v hc k)).reshape _ _)) (fun _ => Prog.ret 0#32)) _
  have hret : (waited c KV q s n P hP (semAt (k0_off227 i) (k0_off227_inb i)) (k.val + 1) : sProp 𝕄)
      ⊢ wp frame (wpE (defs₀ (F := F)) Variants.none (c : Thread nD τ) none) Set.univ (Prog.ret 0#32 : Prog (TpuEff nD τ sig (Elt F) Λ₀ .tc) (BitVec 32))
          (fun _ => waited c KV q s n P hP (semAt (k0_off227 i) (k0_off227_inb i)) (k.val + 1)) := by
    rw [wp_ret]; iintro H; imodintro; iexact H
  have e : 16 * 256 * (k.val + 1) = 16 * 256 * k.val + 16 * 256 := by omega
  refine (show _ ⊢ _ from ?_)
  unfold waited at hret ⊢
  rw [e] at hret ⊢
  unfold waited at hstep
  rw [e] at hstep
  iintro ⟨HB, %W, HW⟩
  iapply (hstep W) $$ [HB HW]
  · isplitl [HB]
    · iexact HB
    · iexact HW
  · iintro ⟨HB, HW⟩
    iapply hret
    isplitl [HB]
    · iexact HB
    · iexists _
      iexact HW

/-- The waiting loop waits for every copy of the sequence. -/
theorem t5_drain (c : Dev nD) (KV : Vec F S61440x2x8x128 .fp8e4m3) (q : PosShare TreeShare) (s : ℕ) (P : ℕ → ℕ) (hP : ∀ p, P p < 61440)
    (i : grid0.Coords) (a3) (h3) (a4) (h4) (a6) (h6) (hbw : bufM.IsWhole) (hkw : kvM.IsWhole) (ht hl) (a0 : BitVec 32) (v : BitVec 32)
    (hv : v.toNat ≤ 8192) (hc : k0_chk67 i v) (x : BitVec 32) (hok) (Q : BitVec 32 → sProp 𝕄) :
    iprop(waited c KV q s (16 * ngOf v.toNat) P hP (semAt (k0_off227 i) (k0_off227_inb i)) 0
        ∗ (∀ y, waited c KV q s (16 * ngOf v.toNat) P hP (semAt (k0_off227 i) (k0_off227_inb i)) (ngOf v.toNat) -∗ Q y))
      ⊢ wp frame (wpE (defs₀ (F := F)) Variants.none (c : Thread nD τ) none) Set.univ
          (Scf.Loop.for (k0_t5_loop v) hok x (k0_t5_body (F := F) i tbM ht lnM hl a3 h3 a4 h4 kvM hkw a6 h6 bufM hbw cc0_scratch1 a0 v hc)) Q :=
  loop_wp c (k0_t5_loop v) hok (ngOf v.toNat) (t5_trips hv) x
    (k0_t5_body (F := F) i tbM ht lnM hl a3 h3 a4 h4 kvM hkw a6 h6 bufM hbw cc0_scratch1 a0 v hc)
    (fun k => waited c KV q s (16 * ngOf v.toNat) P hP (semAt (k0_off227 i) (k0_off227_inb i)) k)
    (fun k acc => t5_trip c KV q s _ P hP i a3 h3 a4 h4 a6 h6 hbw hkw ht hl a0 v hc k
      (by have := k.isLt.trans_eq (t5_trips hv); omega) acc) Q

/-- After the waiting loop, with what was set aside: the slot filled, its semaphore at zero, its share of the page array whole. -/
theorem collect (c : Dev nD) (KV : Vec F S61440x2x8x128 .fp8e4m3) (f0 : Vec F S2x512x2x8x128 .fp8e4m3) (q : PosShare TreeShare)
    (s g : ℕ) (P : ℕ → ℕ) (hP : ∀ p, P p < 61440) (sm : DmaSem sig) :
    iprop(waited c KV q s (16 * g) P hP sm g ∗ kept c KV f0 q s (16 * g) P)
      ⊢ (|={Set.univ}=> iprop(full c KV s (16 * g) P hP ∗ semVal ((c : Thread nD τ), .dma sm) 0
          ∗ (kvM.view.loc (c : Thread nD τ) ↦[Finset.univ]{q} KV) ∗ ∃ W, owes (c : Thread nD τ) 0 W) : sProp 𝕄) := by
  have hb := batch_collect' (EC (F := F)) (c := (c : Thread nD τ)) (sm := .dma sm) (ι := ()) (N := 256) (by decide) (D := done c KV q s (16 * g) P hP)
  have e : 16 * 256 * g = 256 * (16 * g) := by omega
  unfold waited
  rw [e]
  iintro ⟨⟨HB, HW⟩, Hk⟩
  imod hb $$ HB with ⟨HD, Hs⟩
  ihave H := (close_slot c KV f0 q s (16 * g) P hP) $$ [HD Hk]
  · isplitl [HD]
    · iexact HD
    · iexact Hk
  icases H with ⟨Hf, Hkv⟩
  imodintro
  isplitl [Hf]
  · iexact Hf
  isplitl [Hs]
  · iexact Hs
  isplitl [Hkv]
  · iexact Hkv
  · iexact HW

end Cert.KernelIdeal.Hand

end
-- ==== Proof.Body.lean ====
/-
  The body of the kernel at one grid point: the sequence's copies finished, the next sequence's issued, its scores in the output tile.
-/
module

public import proofs.«01_k».proof.Proof.Score
public import proofs.«01_k».proof.Proof.Drain

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The length of a sequence. -/
def lenOf (LN : IVec S96 32) (b : ℕ) : BitVec 32 := if h : b < 96 then LN (ix1 ⟨b, h⟩) else 0#32
/-- Every length fits the table's row. -/
abbrev Short (LN : IVec S96 32) : Prop := ∀ j, (LN j).toNat ≤ 8192
theorem lenOf_le {LN : IVec S96 32} (h : Short LN) (b : ℕ) : (lenOf LN b).toNat ≤ 8192 := by
  unfold lenOf; split
  · exact h _
  · decide

/-- A load of a length. -/
theorem ln_load (c : Dev nD) (LN : IVec S96 32) (q : PosShare TreeShare) (o : Fin 1 → ℕ) (hb : ∀ a, o a + S1.size a ≤ S96.size a) (r : ℕ) (ho : o = ![r]) (hr : r < 96)
    (Q : BitVec 32 → sProp 𝕄) :
    iprop((lnM.view.loc (c : Thread nD τ) ↦[Finset.univ]{q} LN) ∗ ((lnM.view.loc (c : Thread nD τ) ↦[Finset.univ]{q} LN) -∗ Q (lenOf LN r)))
      ⊢ wp frame (wpE (defs₀ (F := F)) Variants.none (c : Thread nD τ) none) Set.univ
          (smemLoad lnM (Rect.unit (s := S96) o S1.size hb) numel1_S1 rfl) Q := by
  have hx (x : S1.Idx) : LN ((Rect.unit (s := S96) o S1.size hb).emb x) = lenOf LN r := by
    subst ho
    unfold lenOf
    rw [dif_pos hr]
    congr 1
    funext a
    apply Fin.ext
    match a with
    | ⟨0, _⟩ => have : (x 0).val < 1 := (x 0).isLt; show r + 1 * (x 0).val = r; omega
  unfold smemLoad
  iintro ⟨H, HQ⟩
  iapply (wp_smemLoadElt Variants.none (c : Thread nD τ) none Set.univ (m := lnM) (r := Rect.unit (s := S96) o S1.size hb)
    (S := Finset.univ) (q := q) (f := LN) (Finset.subset_univ _)) $$ H
  iintro H
  rw [wp_ret]
  imodintro
  rw [show (lnM.access (Rect.unit (s := S96) o S1.size hb)).read (Elt F) LN (Shape.Idx.first (numel1_S1.symm ▸ Nat.one_pos)) = lenOf LN r from hx _]
  iapply HQ $$ H

theorem t2_nil (v : BitVec 32) (hok x) (body : Fin (k0_t2_loop v).trips → BitVec 32 → Prog (TpuEff nD τ sig (Elt F) Λ₀ .tc) (BitVec 32)) :
    Scf.Loop.for (k0_t2_loop v) hok x body = .ret x := Scf.for_rem_eq _ _ hok x body
theorem t4_nil (v : BitVec 32) (hok x) (body : Fin (k0_t4_loop v).trips → BitVec 32 → Prog (TpuEff nD τ sig (Elt F) Λ₀ .tc) (BitVec 32)) :
    Scf.Loop.for (k0_t4_loop v) hok x body = .ret x := Scf.for_rem_eq _ _ hok x body
theorem t6_nil (v : BitVec 32) (hok x) (body : Fin (k0_t6_loop v).trips → BitVec 32 → Prog (TpuEff nD τ sig (Elt F) Λ₀ .tc) (BitVec 32)) :
    Scf.Loop.for (k0_t6_loop v) hok x body = .ret x := Scf.for_rem_eq _ _ hok x body
theorem t8_nil (v : BitVec 32) (hok x) (body : Fin (k0_t8_loop v).trips → BitVec 32 → Prog (TpuEff nD τ sig (Elt F) Λ₀ .tc) (BitVec 32)) :
    Scf.Loop.for (k0_t8_loop v) hok x body = .ret x := Scf.for_rem_eq _ _ hok x body
theorem t10_nil (v : BitVec 32) (hok x) (body : Fin (k0_t10_loop v).trips → BitVec 32 → Prog (TpuEff nD τ sig (Elt F) Λ₀ .tc) (BitVec 32)) :
    Scf.Loop.for (k0_t10_loop v) hok x body = .ret x := Scf.for_rem_eq _ _ hok x body

/-- The first point is where the kernel issues the first sequence's copies. -/
theorem cond1_iff (i : grid0.Coords) : k0_cond1 i = 1#1 ↔ (i 0).val = 0 := by
  unfold k0_cond1
  generalize i 0 = n
  change Fin 96 at n
  revert n
  decide +kernel
/-- Every point but the last issues the next sequence's copies. -/
theorem cond2_iff (i : grid0.Coords) : k0_cond2 i = 1#1 ↔ (i 0).val + 1 < 96 := by
  unfold k0_cond2
  generalize i 0 = n
  change Fin 96 at n
  revert n
  decide +kernel

theorem semAt_congr {o o' : Fin 1 → ℕ} {hb hb'} (h : o = o') : semAt o hb = semAt o' hb' := by subst h; rfl
/-- The semaphore of a slot. -/
def smS (p : ℕ) : DmaSem sig := semAt ![p % 2] (fun a => match a with | ⟨0, _⟩ => show p % 2 + 1 ≤ 2 by omega)
theorem sem99 (i : grid0.Coords) (h) : semAt (k0_off99 i) (k0_off99_inb i h) = smS (((i 0).val + 1) % 2) :=
  semAt_congr (by
    show ![(Scalar.subi 1#32 (Scalar.remsi (BitVec.ofNat 32 (i 0).val) 2#32)).toNat] = _
    rw [slotNext _ (coord_lt i), Nat.mod_mod])
theorem sem227 (i : grid0.Coords) : semAt (k0_off227 i) (k0_off227_inb i) = smS ((i 0).val % 2) :=
  semAt_congr (by
    show ![(Scalar.remsi (BitVec.ofNat 32 (i 0).val) 2#32).toNat] = _
    rw [slotCur _ (coord_lt i), Nat.mod_mod])
theorem sem0_eq : sem0 = smS 0 := rfl

/-- A slot's share of the page array. -/
def qOf (p : ℕ) : PosShare TreeShare := if p = 0 then fullShare.left else fullShare.right

/-- A slot at rest. -/
def idleS (c : Dev nD) (KV : Vec F S61440x2x8x128 .fp8e4m3) (p : ℕ) : sProp 𝕄 := idle c KV (qOf p) p (smS p)

/-- A sequence's copies issued into its slot. -/
def readyS (c : Dev nD) (KV : Vec F S61440x2x8x128 .fp8e4m3) (TB : IVec S96x512 32) (hTB : InPool TB) (LN : IVec S96 32) (b : ℕ) : sProp 𝕄 :=
  iprop(∃ f0, started c KV f0 (qOf (b % 2)) (b % 2) (16 * ngOf (lenOf LN b).toNat) (pgOf TB b) (pgOf_lt hTB b) (smS (b % 2)) (16 * ngOf (lenOf LN b).toNat)
    ∗ kept c KV f0 (qOf (b % 2)) (b % 2) (16 * ngOf (lenOf LN b).toNat) (pgOf TB b))

/-- The state of a sequence's slot when its grid point begins. -/
def slotAt (c : Dev nD) (KV : Vec F S61440x2x8x128 .fp8e4m3) (TB : IVec S96x512 32) (hTB : InPool TB) (LN : IVec S96 32) (b : ℕ) : sProp 𝕄 :=
  if b = 0 ∨ 96 ≤ b then idleS c KV (b % 2) else readyS c KV TB hTB LN b

/-- The two scalar tables. -/
def tables (c : Dev nD) (TB : IVec S96x512 32) (LN : IVec S96 32) (qt ql : PosShare TreeShare) : sProp 𝕄 :=
  iprop((tbM.view.loc (c : Thread nD τ) ↦[Finset.univ]{qt} TB) ∗ (lnM.view.loc (c : Thread nD τ) ↦[Finset.univ]{ql} LN))

/-- Opening a slot at rest for a sequence's copies. -/
theorem open_seq (c : Dev nD) (KV : Vec F S61440x2x8x128 .fp8e4m3) (TB : IVec S96x512 32) (hTB : InPool TB) (LN : IVec S96 32) (b : ℕ) :
    (idleS c KV (b % 2) : sProp 𝕄) ⊢ |={Set.univ}=> iprop(∃ f0,
      started c KV f0 (qOf (b % 2)) (b % 2) (16 * ngOf (lenOf LN b).toNat) (pgOf TB b) (pgOf_lt hTB b) (smS (b % 2)) 0
        ∗ kept c KV f0 (qOf (b % 2)) (b % 2) (16 * ngOf (lenOf LN b).toNat) (pgOf TB b)) :=
  open_slot c KV (qOf (b % 2)) (b % 2) _ (pgOf TB b) (pgOf_lt hTB b) (smS (b % 2))

theorem full3_emb (x : S1x32x128.Idx) : (Rect.unit (s := S1x32x128) ![0, 0, 0] S1x32x128.size inb_S1x32x128_S1x32x128_0_0_0).emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem full2_emb (x : S32x128.Idx) : (Rect.unit (s := S32x128) ![0, 0] S32x128.size inb_S32x128_S32x128_0_0).emb x = x := by
  funext a
  apply Fin.ext
  match a with
  | ⟨0, _⟩ => show 0 + 1 * (x 0).val = (x 0).val; omega
  | ⟨1, _⟩ => show 0 + 1 * (x 1).val = (x 1).val; omega

theorem off97_eq (i : grid0.Coords) (h : k0_cond2 i = 1#1) : k0_off97 i = ![(i 0).val + 1] := by
  rw [← (nextRow i h).1]; rfl
theorem off226_eq (i : grid0.Coords) : k0_off226 i = ![(i 0).val] := by
  show ![(BitVec.ofNat 32 (i 0).val).toNat] = _
  rw [toNat_nat (by have := coord_lt i; omega)]
theorem off231_eq (i : grid0.Coords) : k0_off231 i = ![(i 0).val] := off226_eq i

/-- The first point's issue. -/
def issue1 (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond1 i = 1#1) :
    Prog (TpuEff nD τ sig (Elt F) Λ₀ .tc) PUnit := do
  let v ← smemLoad lnM (Rect.unit (s := S96) ![0] S1.size inb_S96_S1_0) numel1_S1 rfl
  have hw : k0_chk1 i v := (← Prog.lift (TpuEff.assume (k0_chk1 i v) (k0_chk1.dec i v))).down
  let x ← Scf.Loop.for (k0_t1_loop v) (k0_t1_ok i v hw h) 0#32 (k0_t1_body (F := F) i tbM ht lnM hl a3 h3 a4 h4 kvM hkw a6 h6 bufM hbw cc0_scratch1 h v hw)
  let _ ← Scf.Loop.for (k0_t2_loop v) (k0_t2_ok i v hw h) x (k0_t2_body (F := F) i tbM ht lnM hl a3 h3 a4 h4 kvM hkw a6 h6 bufM hbw cc0_scratch1 h v hw
    (Scalar.addi 0#32 (Scalar.muli (Scalar.divsi (Scalar.subi (Scalar.divsi (Scalar.addi v 255#32) 256#32) 0#32) 1#32) 1#32)))
  pure ⟨⟩

/-- The next sequence's issue. -/
def issue2 (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond2 i = 1#1) :
    Prog (TpuEff nD τ sig (Elt F) Λ₀ .tc) PUnit := do
  let v ← smemLoad lnM (Rect.unit (s := S96) (k0_off97 i) S1.size (k0_off97_inb i h)) numel1_S1 rfl
  have hw : k0_chk34 i v := (← Prog.lift (TpuEff.assume (k0_chk34 i v) (k0_chk34.dec i v))).down
  let x ← Scf.Loop.for (k0_t3_loop v) (k0_t3_ok i v hw h) 0#32 (k0_t3_body (F := F) i tbM ht lnM hl a3 h3 a4 h4 kvM hkw a6 h6 bufM hbw cc0_scratch1 h
    (Scalar.addi (BitVec.ofNat 32 (i 0).val) 1#32) v hw)
  let _ ← Scf.Loop.for (k0_t4_loop v) (k0_t4_ok i v hw h) x (k0_t4_body (F := F) i tbM ht lnM hl a3 h3 a4 h4 kvM hkw a6 h6 bufM hbw cc0_scratch1 h
    (Scalar.addi (BitVec.ofNat 32 (i 0).val) 1#32) v hw
    (Scalar.addi 0#32 (Scalar.muli (Scalar.divsi (Scalar.subi (Scalar.divsi (Scalar.addi v 255#32) 256#32) 0#32) 1#32) 1#32)))
  pure ⟨⟩

/-- The head of the body: the issues, and the query's load. -/
theorem part39_eq (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) :
    k0_part39 (F := F) i tbM ht lnM hl a3 h3 a4 h4 kvM hkw a6 h6 bufM hbw cc0_scratch1
      = ((if h : k0_cond1 i = 1#1 then issue1 i a3 h3 a4 h4 a6 h6 hbw hkw ht hl h else pure ⟨⟩) >>= fun _ =>
        (if h : k0_cond2 i = 1#1 then issue2 i a3 h3 a4 h4 a6 h6 hbw hkw ht hl h else pure ⟨⟩) >>= fun _ =>
        Prog.lift (.load a3 (Rect.unit (s := S1x32x128) ![0, 0, 0] S1x32x128.size inb_S1x32x128_S1x32x128_0_0_0).toLoadRect (View.loadsAt_vmem h_S1x32x128)) >>= fun v8 =>
        pure ⟨BitVec.ofNat 32 (i 0).val, Scalar.remsi (BitVec.ofNat 32 (i 0).val) 2#32, k0_pay89 v8, iota .tc S32x128 32 [1] iota_S32x128_d1_w32, k0_pay90, k0_pay91⟩) := by
  rw [k0_part39_eq_skeleton]
  unfold k0_part39_skel
  by_cases h1 : k0_cond1 i = 1#1 <;> by_cases h2 : k0_cond2 i = 1#1 <;> simp only [h1, h2, dif_pos, dif_neg, not_false_eq_true, issue1, issue2, bind_assoc, pure_bind] <;> rfl

/-- What the matrix unit multiplies with, from the query. -/
def qdOf (q : Vec F S1x32x128 .bf16) : FVec F S32x256 .bf16 :=
  k0_pay96 (k0_pay89 q) (iota .tc S32x128 32 [1] iota_S32x128_d1_w32)
    (k0_pay92 (k0_pay89 q) (iota .tc S32x128 32 [1] iota_S32x128_d1_w32) k0_pay90 k0_pay91) 2#32
    (k0_pay93 (iota .tc S32x128 32 [1] iota_S32x128_d1_w32)) (k0_pay94 (iota .tc S32x128 32 [1] iota_S32x128_d1_w32)) k0_pay95

/-- The tail of the body: the waiting, the scores, the zeros past the sequence. -/
def bodyRest (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (q : Vec F S1x32x128 .bf16) :
    Prog (TpuEff nD τ sig (Elt F) Λ₀ .tc) PUnit := do
  let v ← smemLoad lnM (Rect.unit (s := S96) (k0_off226 i) S1.size (k0_off226_inb i)) numel1_S1 rfl
  have hw : k0_chk67 i v := (← Prog.lift (TpuEff.assume (k0_chk67 i v) (k0_chk67.dec i v))).down
  let x ← Scf.Loop.for (k0_t5_loop v) (k0_t5_ok i v hw) 0#32 (k0_t5_body (F := F) i tbM ht lnM hl a3 h3 a4 h4 kvM hkw a6 h6 bufM hbw cc0_scratch1 (BitVec.ofNat 32 (i 0).val) v hw)
  let _ ← Scf.Loop.for (k0_t6_loop v) (k0_t6_ok i v hw) x (k0_t6_body (F := F) i tbM ht lnM hl a3 h3 a4 h4 kvM hkw a6 h6 bufM hbw cc0_scratch1 (BitVec.ofNat 32 (i 0).val) v hw)
  let w ← smemLoad lnM (Rect.unit (s := S96) (k0_off231 i) S1.size (k0_off231_inb i)) numel1_S1 rfl
  have hc : k0_chk68 i w := (← Prog.lift (TpuEff.assume (k0_chk68 i w) (k0_chk68.dec i w))).down
  let sc ← Prog.lift (.load a4 (Rect.unit (s := S32x128) ![0, 0] S32x128.size inb_S32x128_S32x128_0_0).toLoadRect (View.loadsAt_vmem h_S32x128))
  let y ← Scf.Loop.for (k0_t7_loop w) (k0_t7_ok i w hc) 0#32 (k0_t7_body (F := F) i tbM ht lnM hl a3 h3 a4 h4 kvM hkw a6 h6 bufM hbw cc0_scratch1
    (Scalar.remsi (BitVec.ofNat 32 (i 0).val) 2#32) (qdOf q) w hc rowI laneI k0_pay97 4#32 k0_pay98 k0_pay99 0#32 sc)
  let _ ← Scf.Loop.for (k0_t8_loop w) (k0_t8_ok i w hc) y (k0_t8_body (F := F) i tbM ht lnM hl a3 h3 a4 h4 kvM hkw a6 h6 bufM hbw cc0_scratch1
    (Scalar.remsi (BitVec.ofNat 32 (i 0).val) 2#32) (qdOf q) w hc rowI laneI k0_pay97 4#32 k0_pay98 k0_pay99 0#32 sc
    (Scalar.addi 0#32 (Scalar.muli (Scalar.divsi (Scalar.subi (Scalar.divsi (Scalar.addi w 2047#32) 2048#32) 0#32) 1#32) 1#32)))
  let z ← Scf.Loop.for (k0_t9_loop w) (k0_t9_ok i w hc) 0#32 (k0_t9_body (F := F) i tbM ht lnM hl a3 h3 a4 h4 kvM hkw a6 h6 bufM hbw cc0_scratch1 w hc)
  let _ ← Scf.Loop.for (k0_t10_loop w) (k0_t10_ok i w hc) z (k0_t10_body (F := F) i tbM ht lnM hl a3 h3 a4 h4 kvM hkw a6 h6 bufM hbw cc0_scratch1 w hc)
  pure ⟨⟩

/-- The body as one chain. -/
theorem body_eq (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) :
    cc0_quest_bound (F := F) i tbM ht lnM hl a3 h3 a4 h4 kvM hkw a6 h6 bufM hbw cc0_scratch1
      = ((if h : k0_cond1 i = 1#1 then issue1 i a3 h3 a4 h4 a6 h6 hbw hkw ht hl h else pure ⟨⟩) >>= fun _ =>
        (if h : k0_cond2 i = 1#1 then issue2 i a3 h3 a4 h4 a6 h6 hbw hkw ht hl h else pure ⟨⟩) >>= fun _ =>
        Prog.lift (.load a3 (Rect.unit (s := S1x32x128) ![0, 0, 0] S1x32x128.size inb_S1x32x128_S1x32x128_0_0_0).toLoadRect (View.loadsAt_vmem h_S1x32x128)) >>= fun q =>
        bodyRest i a3 h3 a4 h4 a6 h6 hbw hkw ht hl q) := by
  rw [cc0_quest_bound_eq_skeleton]
  unfold cc0_quest_bound_skel
  simp only [part39_eq, k0_part40_eq_skeleton, k0_part40_skel, k0_part41_eq_skeleton, k0_part41_skel, k0_part42_eq_skeleton, k0_part42_skel, bind_assoc, pure_bind]
  rfl

/-- The first point's issue readies the first sequence's slot. -/
theorem issue1_wp (c : Dev nD) (KV : Vec F S61440x2x8x128 .fp8e4m3) (TB : IVec S96x512 32) (hTB : InPool TB) (LN : IVec S96 32) (hLN : Short LN)
    (qt ql : PosShare TreeShare) (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond1 i = 1#1) :
    (iprop(tables c TB LN qt ql ∗ idleS c KV 0) : sProp 𝕄)
      ⊢ wp frame (wpE (defs₀ (F := F)) Variants.none (c : Thread nD τ) none) Set.univ (issue1 i a3 h3 a4 h4 a6 h6 hbw hkw ht hl h)
        (fun _ => iprop(tables c TB LN qt ql ∗ readyS c KV TB hTB LN 0)) := by
  unfold issue1 tables readyS
  iintro ⟨⟨Ht, Hl⟩, Hi⟩
  rw [wp_bind]
  iapply (ln_load c LN ql ![0] _ 0 rfl (by decide))
  isplitl [Hl]
  · iexact Hl
  iintro Hl
  rw [wp_bind]
  iapply (wp_assume Variants.none (c : Thread nD τ) none Set.univ (chk1_of i _ (lenOf_le hLN 0)))
  rw [wp_ret]
  imod (open_seq c KV TB hTB LN 0) $$ Hi with ⟨%f0, Hs, Hk⟩
  imodintro
  rw [wp_bind]
  iapply (t1_issue c TB hTB KV f0 (qOf 0) qt i a3 h3 a4 h4 a6 h6 hbw hkw ht hl h (lenOf LN 0) (lenOf_le hLN 0))
  isplitl [Ht Hs]
  · isplitl [Ht]
    · iexact Ht
    isplitl [Hs]
    · iexact Hs
    · iempintro
  iintro %y ⟨Ht, Hs, -⟩
  rw [wp_bind, t2_nil, wp_ret]
  imodintro
  rw [wp_pure]
  imodintro
  isplitl [Ht Hl]
  · isplitl [Ht]
    · iexact Ht
    · iexact Hl
  iexists f0
  isplitl [Hs]
  · iexact Hs
  · iexact Hk

/-- Every other issue readies the next sequence's slot. -/
theorem issue2_wp (c : Dev nD) (KV : Vec F S61440x2x8x128 .fp8e4m3) (TB : IVec S96x512 32) (hTB : InPool TB) (LN : IVec S96 32) (hLN : Short LN)
    (qt ql : PosShare TreeShare) (i : grid0.Coords) (b : ℕ) (hb : b = (i 0).val + 1)
    (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond2 i = 1#1) :
    (iprop(tables c TB LN qt ql ∗ idleS c KV (b % 2)) : sProp 𝕄)
      ⊢ wp frame (wpE (defs₀ (F := F)) Variants.none (c : Thread nD τ) none) Set.univ (issue2 i a3 h3 a4 h4 a6 h6 hbw hkw ht hl h)
        (fun _ => iprop(tables c TB LN qt ql ∗ readyS c KV TB hTB LN b)) := by
  have hs : semAt (k0_off99 i) (k0_off99_inb i h) = smS (b % 2) := hb ▸ sem99 i h
  unfold issue2 tables readyS
  iintro ⟨⟨Ht, Hl⟩, Hi⟩
  rw [wp_bind]
  iapply (ln_load c LN ql _ _ b ((off97_eq i h).trans (by rw [hb])) (hb ▸ (cond2_iff i).mp h))
  isplitl [Hl]
  · iexact Hl
  iintro Hl
  rw [wp_bind]
  iapply (wp_assume Variants.none (c : Thread nD τ) none Set.univ (chk34_of i _ (lenOf_le hLN b)))
  rw [wp_ret]
  imod (open_seq c KV TB hTB LN b) $$ Hi with ⟨%f0, Hs, Hk⟩
  imodintro
  rw [wp_bind]
  rw [← hs]
  iapply (t3_issue c TB hTB KV f0 (qOf (b % 2)) qt (b % 2) b i (by rw [hb]) hb a3 h3 a4 h4 a6 h6 hbw hkw ht hl h (lenOf LN b) (lenOf_le hLN b))
  isplitl [Ht Hs]
  · isplitl [Ht]
    · iexact Ht
    isplitl [Hs]
    · iexact Hs
    · iempintro
  iintro %y ⟨Ht, Hs, -⟩
  rw [wp_bind, t4_nil, wp_ret]
  imodintro
  rw [wp_pure]
  imodintro
  isplitl [Ht Hl]
  · isplitl [Ht]
    · iexact Ht
    · iexact Hl
  iexists f0
  isplitl [Hs]
  · iexact Hs
  · iexact Hk

/-- The output tile of a sequence, some contents of its slot that hold its pages given. -/
def scored (c : Dev nD) (KV : Vec F S61440x2x8x128 .fp8e4m3) (TB : IVec S96x512 32) (hTB : InPool TB) (LN : IVec S96 32) (hLN : Short LN)
    (i : grid0.Coords) (b : ℕ) (a6 : Memref sig .tc .vmem S1x32x512 .f32) (Qb : Vec F S1x32x128 .bf16) (sc : Vec F S32x128 .f32) : sProp 𝕄 :=
  iprop(∃ g : Vec F S2x512x2x8x128 .fp8e4m3, ⌜∀ j : S2x512x2x8x128.Idx, (j 0).val = b % 2 → (j 1).val < 16 * ngOf (lenOf LN b).toNat → g j = gath KV (pgOf TB b) (pgOf_lt hTB b) j⌝
    ∗ owns (c : Thread nD τ) a6 fullShare (outF i (lenOf LN b) (chk68_of i _ (lenOf_le hLN b)) (qdOf Qb) sc g))

set_option maxHeartbeats 1000000 in
/-- The tail of the body takes a ready slot, leaves it at rest and the sequence's scores in the output tile. -/
theorem rest_wp (c : Dev nD) (KV : Vec F S61440x2x8x128 .fp8e4m3) (TB : IVec S96x512 32) (hTB : InPool TB) (LN : IVec S96 32) (hLN : Short LN)
    (qt ql : PosShare TreeShare) (i : grid0.Coords) (b : ℕ) (hb : b = (i 0).val)
    (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole)
    (Qb : Vec F S1x32x128 .bf16) (sc : Vec F S32x128 .f32) :
    (iprop(tables c TB LN qt ql ∗ readyS c KV TB hTB LN b ∗ owns (c : Thread nD τ) a4 fullShare sc ∗ (∃ X, owns (c : Thread nD τ) a6 fullShare X)
        ∗ ∃ W, owes (c : Thread nD τ) 0 W) : sProp 𝕄)
      ⊢ wp frame (wpE (defs₀ (F := F)) Variants.none (c : Thread nD τ) none) Set.univ (bodyRest i a3 h3 a4 h4 a6 h6 hbw hkw ht hl Qb)
        (fun _ => iprop(tables c TB LN qt ql ∗ idleS c KV (b % 2) ∗ owns (c : Thread nD τ) a4 fullShare sc
          ∗ scored c KV TB hTB LN hLN i b a6 Qb sc ∗ ∃ W, owes (c : Thread nD τ) 0 W)) := by
  have hs : semAt (k0_off227 i) (k0_off227_inb i) = smS (b % 2) := hb ▸ sem227 i
  have hb96 : b < 96 := hb ▸ coord_lt i
  have hv := lenOf_le hLN b
  unfold bodyRest tables readyS scored idleS idle
  iintro ⟨⟨Ht, Hl⟩, ⟨%f0, Hs, Hk⟩, H4, ⟨%X, H6⟩, HW⟩
  rw [wp_bind]
  iapply (ln_load c LN ql _ _ b ((off226_eq i).trans (by rw [hb])) hb96)
  isplitl [Hl]
  · iexact Hl
  iintro Hl
  rw [wp_bind]
  iapply (wp_assume Variants.none (c : Thread nD τ) none Set.univ (chk67_of i _ hv))
  rw [wp_ret]
  imodintro
  rw [wp_bind]
  rw [← hs]
  iapply (t5_drain c KV (qOf (b % 2)) (b % 2) (pgOf TB b) (pgOf_lt hTB b) i a3 h3 a4 h4 a6 h6 hbw hkw ht hl _ (lenOf LN b) hv)
  isplitl [Hs HW]
  · unfold waited started
    icases Hs with ⟨HB, -⟩
    isplitl [HB]
    · iexact HB
    · iexact HW
  iintro %y Hw
  imod (collect c KV f0 (qOf (b % 2)) (b % 2) (ngOf (lenOf LN b).toNat) (pgOf TB b) (pgOf_lt hTB b) (semAt (k0_off227 i) (k0_off227_inb i))) $$ [Hw Hk] with ⟨Hf, Hsem, Hkv, HW⟩
  · isplitl [Hw]
    · iexact Hw
    · iexact Hk
  unfold full
  icases Hf with ⟨%g, %hg, Hb⟩
  rw [wp_bind, t6_nil, wp_ret]
  imodintro
  rw [wp_bind]
  iapply (ln_load c LN ql _ _ b ((off231_eq i).trans (by rw [hb])) hb96)
  isplitl [Hl]
  · iexact Hl
  iintro Hl
  rw [wp_bind]
  iapply (wp_assume Variants.none (c : Thread nD τ) none Set.univ (chk68_of i _ hv))
  rw [wp_ret]
  imodintro
  rw [wp_bind]
  iapply (load_owns c a4 fullShare sc (Rect.unit (s := S32x128) ![0, 0] S32x128.size inb_S32x128_S32x128_0_0) (View.loadsAt_vmem h_S32x128))
  isplitl [H4]
  · iexact H4
  iintro H4
  rw [wp_ret]
  imodintro
  rw [show (fun x => sc ((Rect.unit (s := S32x128) ![0, 0] S32x128.size inb_S32x128_S32x128_0_0).emb x)) = sc from funext fun x => by rw [full2_emb]]
  rw [wp_bind]
  iapply (loop_wp c (k0_t7_loop (lenOf LN b)) (k0_t7_ok i _ (chk68_of i _ hv)) (ncOf (lenOf LN b).toNat) (t7_trips hv) 0#32 _
    (fun k => scoring c a6 i (lenOf LN b) (chk68_of i _ hv) (qdOf Qb) sc g (b % 2) (128 * k))
    (fun k acc => t7_trip c g (b % 2) i (by rw [hb]) a3 h3 a4 h4 a6 h6 hbw hkw ht hl _ (qdOf Qb) (lenOf LN b) (chk68_of i _ hv) sc k
      (by have := k.isLt.trans_eq (t7_trips hv); have := nc_le hv; omega) acc))
  isplitl [Hb H6]
  · unfold scoring
    isplitl [Hb]
    · iexact Hb
    iexists X
    isplitr
    · ipureintro; intro j hj; omega
    · iexact H6
  iintro %y2 HS
  rw [wp_bind, t8_nil, wp_ret]
  imodintro
  rw [wp_bind]
  iapply (loop_wp c (k0_t9_loop (lenOf LN b)) (k0_t9_ok i _ (chk68_of i _ hv)) (4 - ncOf (lenOf LN b).toNat) (t9_trips hv) 0#32 _
    (fun k => scoring c a6 i (lenOf LN b) (chk68_of i _ hv) (qdOf Qb) sc g (b % 2) (128 * (ncOf (lenOf LN b).toNat + k)))
    (fun k acc => t9_trip c g (b % 2) i a3 h3 a4 h4 a6 h6 hbw hkw ht hl (qdOf Qb) (lenOf LN b) hv (chk68_of i _ hv) sc k acc))
  isplitl [HS]
  · iexact HS
  iintro %y3 HS
  rw [wp_bind, t10_nil, wp_ret]
  imodintro
  rw [wp_pure]
  imodintro
  unfold scoring
  icases HS with ⟨Hb, %X', %hX, H6⟩
  have hX' : X' = outF i (lenOf LN b) (chk68_of i _ hv) (qdOf Qb) sc g := funext fun j => hX j (by
    have h1 : (j 2).val < 512 := (j 2).isLt
    have h2 := nc_le hv
    omega)
  subst hX'
  isplitl [Ht Hl]
  · isplitl [Ht]
    · iexact Ht
    · iexact Hl
  isplitl [Hb Hsem Hkv]
  · isplitl [Hb]
    · iexists g; iexact Hb
    isplitl [Hsem]
    · iexact Hsem
    · iexact Hkv
  isplitl [H4]
  · iexact H4
  isplitl [H6]
  · iexists g
    isplitr
    · ipureintro; exact hg
    · iexact H6
  · iexact HW

/-- The state of the two slots before point `b`: the point's own as its copies stand, the other at rest. -/
def slots (c : Dev nD) (KV : Vec F S61440x2x8x128 .fp8e4m3) (TB : IVec S96x512 32) (hTB : InPool TB) (LN : IVec S96 32) (b : ℕ) : sProp 𝕄 :=
  iprop(slotAt c KV TB hTB LN b ∗ idleS c KV ((b + 1) % 2))

/-- The body at a grid point. -/
theorem body_wp (c : Dev nD) (KV : Vec F S61440x2x8x128 .fp8e4m3) (TB : IVec S96x512 32) (hTB : InPool TB) (LN : IVec S96 32) (hLN : Short LN)
    (qt ql : PosShare TreeShare) (i : grid0.Coords) (b : ℕ) (hb : b = (i 0).val)
    (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole)
    (Qb : Vec F S1x32x128 .bf16) (sc : Vec F S32x128 .f32) :
    (iprop(tables c TB LN qt ql ∗ slots c KV TB hTB LN b ∗ owns (c : Thread nD τ) a3 fullShare Qb ∗ owns (c : Thread nD τ) a4 fullShare sc
        ∗ (∃ X, owns (c : Thread nD τ) a6 fullShare X) ∗ ∃ W, owes (c : Thread nD τ) 0 W) : sProp 𝕄)
      ⊢ wp frame (wpE (defs₀ (F := F)) Variants.none (c : Thread nD τ) none) Set.univ
        (cc0_quest_bound (F := F) i tbM ht lnM hl a3 h3 a4 h4 kvM hkw a6 h6 bufM hbw cc0_scratch1)
        (fun _ => iprop(tables c TB LN qt ql ∗ slots c KV TB hTB LN (b + 1) ∗ owns (c : Thread nD τ) a3 fullShare Qb
          ∗ owns (c : Thread nD τ) a4 fullShare sc ∗ scored c KV TB hTB LN hLN i b a6 Qb sc ∗ ∃ W, owes (c : Thread nD τ) 0 W)) := by
  have hb96 : b < 96 := hb ▸ coord_lt i
  have e2 : (b + 1 + 1) % 2 = b % 2 := by omega
  -- the point's own slot is ready after the first issue
  have hA : (iprop(tables c TB LN qt ql ∗ slotAt c KV TB hTB LN b) : sProp 𝕄)
      ⊢ wp frame (wpE (defs₀ (F := F)) Variants.none (c : Thread nD τ) none) Set.univ
        (if h : k0_cond1 i = 1#1 then issue1 (F := F) i a3 h3 a4 h4 a6 h6 hbw hkw ht hl h else pure ⟨⟩)
        (fun _ => iprop(tables c TB LN qt ql ∗ readyS c KV TB hTB LN b)) := by
    by_cases h : k0_cond1 i = 1#1
    · have h0 : b = 0 := hb.trans ((cond1_iff i).mp h)
      rw [dif_pos h]
      subst h0
      rw [show slotAt c KV TB hTB LN 0 = (idleS c KV 0 : sProp 𝕄) from if_pos (Or.inl rfl)]
      exact issue1_wp c KV TB hTB LN hLN qt ql i a3 h3 a4 h4 a6 h6 hbw hkw ht hl h
    · have h0 : b ≠ 0 := fun e => h ((cond1_iff i).mpr (hb.symm.trans e))
      rw [dif_neg h, wp_pure, show slotAt c KV TB hTB LN b = (readyS c KV TB hTB LN b : sProp 𝕄) from if_neg (by omega)]
      iintro H
      imodintro
      iexact H
  -- the other slot is as the next point finds it after the second
  have hB : (iprop(tables c TB LN qt ql ∗ idleS c KV ((b + 1) % 2)) : sProp 𝕄)
      ⊢ wp frame (wpE (defs₀ (F := F)) Variants.none (c : Thread nD τ) none) Set.univ
        (if h : k0_cond2 i = 1#1 then issue2 (F := F) i a3 h3 a4 h4 a6 h6 hbw hkw ht hl h else pure ⟨⟩)
        (fun _ => iprop(tables c TB LN qt ql ∗ slotAt c KV TB hTB LN (b + 1))) := by
    by_cases h : k0_cond2 i = 1#1
    · have h0 : b + 1 < 96 := hb ▸ (cond2_iff i).mp h
      rw [dif_pos h, show slotAt c KV TB hTB LN (b + 1) = (readyS c KV TB hTB LN (b + 1) : sProp 𝕄) from if_neg (by omega)]
      exact issue2_wp c KV TB hTB LN hLN qt ql i (b + 1) (by rw [hb]) a3 h3 a4 h4 a6 h6 hbw hkw ht hl h
    · have h0 : ¬b + 1 < 96 := fun e => h ((cond2_iff i).mpr (hb ▸ e))
      rw [dif_neg h, wp_pure, show slotAt c KV TB hTB LN (b + 1) = (idleS c KV ((b + 1) % 2) : sProp 𝕄) from if_pos (by omega)]
      iintro H
      imodintro
      iexact H
  have hR := rest_wp c KV TB hTB LN hLN qt ql i b hb a3 h3 a4 h4 a6 h6 hbw hkw ht hl Qb sc
  rw [body_eq]
  unfold slots
  rw [e2]
  iintro ⟨HT, ⟨HS, HI⟩, H3, H4, H6, HW⟩
  rw [wp_bind]
  iapply (wp_wand_r frame (wpE (defs₀ (F := F)) Variants.none (c : Thread nD τ) none) Set.univ)
  isplitl [HT HS]
  · iapply hA
    isplitl [HT]
    · iexact HT
    · iexact HS
  iintro %_ ⟨HT, HS⟩
  rw [wp_bind]
  iapply (wp_wand_r frame (wpE (defs₀ (F := F)) Variants.none (c : Thread nD τ) none) Set.univ)
  isplitl [HT HI]
  · iapply hB
    isplitl [HT]
    · iexact HT
    · iexact HI
  iintro %_ ⟨HT, HN⟩
  rw [wp_bind]
  iapply (load_owns c a3 fullShare Qb (Rect.unit (s := S1x32x128) ![0, 0, 0] S1x32x128.size inb_S1x32x128_S1x32x128_0_0_0) (View.loadsAt_vmem h_S1x32x128))
  isplitl [H3]
  · iexact H3
  iintro H3
  rw [wp_ret]
  imodintro
  rw [show (fun x => Qb ((Rect.unit (s := S1x32x128) ![0, 0, 0] S1x32x128.size inb_S1x32x128_S1x32x128_0_0_0).emb x)) = Qb from funext fun x => by rw [full3_emb]]
  iapply (wp_wand_r frame (wpE (defs₀ (F := F)) Variants.none (c : Thread nD τ) none) Set.univ)
  isplitl [HT HS H4 H6 HW]
  · iapply hR
    isplitl [HT]
    · iexact HT
    isplitl [HS]
    · iexact HS
    isplitl [H4]
    · iexact H4
    isplitl [H6]
    · iexact H6
    · iexact HW
  iintro %_ ⟨HT, HI, H4, HO, HW⟩
  isplitl [HT]
  · iexact HT
  isplitl [HN HI]
  · isplitl [HN]
    · iexact HN
    · iexact HI
  isplitl [H3]
  · iexact H3
  isplitl [H4]
  · iexact H4
  isplitl [HO]
  · iexact HO
  · iexact HW

end Cert.KernelIdeal.Hand

end
-- ==== Proof.Run.lean ====
/-
  The launch: the region around the kernel's body. The two slots of the page buffer, with their semaphores and their shares of
  the page array, are what the body keeps between grid points.
-/
module

public import proofs.«01_k».proof.Proof.Body
public import Idealize.ShloMosaic.Lib.Pipeline.FrameSuffixR
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (Pipeline.UD sig nD τ) ℕ

/-! ### The slots, taken from and returned to the launch -/

/-- The body's two DMA semaphores. -/
abbrev osem0 : Fin 2 → SemLoc sig := fun j => .dma (smS j.val)
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (smS 0)) 0 ∗ semVal ((c : Thread nD τ), SemLoc.dma (smS 1)) 0) := by
  rw [Pipeline.ownSems0_eq_of_list c osem0 [0, 1] (by decide) (by decide)]; rfl

/-- The buffer the body copies from: the page array. -/
def H0 : Finset (Ref sig .tc) := {main_v1}
theorem H0_sub : H0 ⊆ Pipeline.restRefsP sig pre0 spec0 := by decide

/-- What is no page of the first slot is a page of the second. -/
theorem slot_compl : (Finset.univ : Finset S2x512x2x8x128.Idx) \ slotSet 0 = slotSet 1 := by
  ext j
  have h : (j 0).val < 2 := (j 0).isLt
  simp only [Finset.mem_sdiff, Finset.mem_univ, true_and, mem_slotSet]
  omega

/-- The page buffer, the two semaphores and the page array are the two slots at rest. -/
theorem idle_split (c : Dev nD) (KV : Vec F S61440x2x8x128 .fp8e4m3) :
    iprop((∃ f : Vec F S2x512x2x8x128 .fp8e4m3, bufM.view.loc (c : Thread nD τ) ↦[Finset.univ]{fullShare} f)
      ∗ (semVal ((c : Thread nD τ), SemLoc.dma (smS 0)) 0 ∗ semVal ((c : Thread nD τ), SemLoc.dma (smS 1)) 0)
      ∗ (kvM.view.loc (c : Thread nD τ) ↦[Finset.univ]{fullShare} KV))
      ⊢ (iprop(idleS c KV 0 ∗ idleS c KV 1) : sProp 𝕄) := by
  have hb (f : Vec F S2x512x2x8x128 .fp8e4m3) := pointsTo_split_subset (ℓ := bufM.view.loc (c : Thread nD τ)) (S := Finset.univ) (I := slotSet 0) (f := f) (q := fullShare) (Ix := Unit) (Name := ℕ) (U := Pipeline.UD sig nD τ) (Lvl := ℕ) (Finset.subset_univ _)
  have hk := pointsTo_share (ℓ := kvM.view.loc (c : Thread nD τ)) (I := Finset.univ) (f := KV) (Ix := Unit) (Name := ℕ) (U := Pipeline.UD sig nD τ) (Lvl := ℕ) (PosShare.mem_left_op_right fullShare)
  rw [slot_compl] at hb
  unfold idleS idle
  iintro ⟨⟨%f, Hb⟩, ⟨Hs0, Hs1⟩, Hk⟩
  ihave Hb := (hb f).1 $$ Hb
  icases Hb with ⟨Hb0, Hb1⟩
  ihave Hk := hk.1 $$ Hk
  icases Hk with ⟨Hk0, Hk1⟩
  isplitl [Hb0 Hs0 Hk0]
  · isplitl [Hb0]
    · iexists f; iexact Hb0
    isplitl [Hs0]
    · iexact Hs0
    · iexact Hk0
  · isplitl [Hb1]
    · iexists f; iexact Hb1
    isplitl [Hs1]
    · iexact Hs1
    · iexact Hk1

/-- and the two slots at rest give them back. -/
theorem idle_join (c : Dev nD) (KV : Vec F S61440x2x8x128 .fp8e4m3) :
    (iprop(idleS c KV 0 ∗ idleS c KV 1) : sProp 𝕄)
      ⊢ iprop((∃ f : Vec F S2x512x2x8x128 .fp8e4m3, bufM.view.loc (c : Thread nD τ) ↦[Finset.univ]{fullShare} f)
      ∗ (semVal ((c : Thread nD τ), SemLoc.dma (smS 0)) 0 ∗ semVal ((c : Thread nD τ), SemLoc.dma (smS 1)) 0)
      ∗ (kvM.view.loc (c : Thread nD τ) ↦[Finset.univ]{fullShare} KV)) := by
  have hb (f g : Vec F S2x512x2x8x128 .fp8e4m3) := pointsTo_join_subset (ℓ := bufM.view.loc (c : Thread nD τ)) (S := Finset.univ) (I := slotSet 0) (f := f) (g := g) (q := fullShare) (Ix := Unit) (Name := ℕ) (U := Pipeline.UD sig nD τ) (Lvl := ℕ) (Finset.subset_univ _)
  have hk := pointsTo_share (ℓ := kvM.view.loc (c : Thread nD τ)) (I := Finset.univ) (f := KV) (Ix := Unit) (Name := ℕ) (U := Pipeline.UD sig nD τ) (Lvl := ℕ) (PosShare.mem_left_op_right fullShare)
  rw [slot_compl] at hb
  unfold idleS idle
  iintro ⟨⟨⟨%g, Hb0⟩, Hs0, Hk0⟩, ⟨⟨%f, Hb1⟩, Hs1, Hk1⟩⟩
  isplitl [Hb0 Hb1]
  · iexists _
    iapply (hb f g)
    isplitl [Hb0]
    · iexact Hb0
    · iexact Hb1
  isplitl [Hs0 Hs1]
  · isplitl [Hs0]
    · iexact Hs0
    · iexact Hs1
  · iapply hk.2
    isplitl [Hk0]
    · iexact Hk0
    · iexact Hk1

/-! ### The proof data -/

variable (m : (ℓ : Loc nD τ sig) → Buf (Elt F) ℓ) (ρ : Dev nD → PrngReg)

/-- Core `c`'s buffers when the region is entered. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- The page table, the lengths and the page array as the region finds them. -/
abbrev TBm (c : Dev nD) : IVec S96x512 32 := V m c main_arg3
abbrev LNm (c : Dev nD) : IVec S96 32 := V m c main_arg4
abbrev KVm (c : Dev nD) : Vec F S61440x2x8x128 .fp8e4m3 := V m c main_v1

/-- The prefetched tables' contents. -/
abbrev adm0 : (p : Fin 1) → (pcfgs (F := F) p).Adm := fun _ => ⟨fun k => V m 0 (pre0.ref k), trivial⟩

abbrev cfgA : Cfg sig Λ₀ := Pipeline.pin (pcfgs (F := F)) (adm0 m) 0

/-- Window `w`'s block at point `t`, read off its array as the region finds it. -/
def iblk (c : Dev nD) (w : Fin 3) (t : Fin (cfgA m).N) : (((cfgA m).win w).xblock ((cfgA m).grid.coords t)).Idx → Elt F ((cfgA m).win w).elt :=
  (((cfgA m).win w).blk t).view.read (Elt F) (V m c (Pipeline.arrRef spec0 w))

variable (hT : ∀ c, InPool (TBm m c)) (hL : ∀ c, Short (LNm m c))

/-- The scores of a grid point. -/
def outAt (c : Dev nD) (t : Fin (cfgA m).N) : Vec F S1x32x512 .f32 :=
  outF (grid0.coords t) (lenOf (LNm m c) t.val) (chk68_of _ _ (lenOf_le (hL c) t.val)) (qdOf (iblk m c 0 t)) (iblk m c 1 t)
    (gath (KVm m c) (pgOf (TBm m c) t.val) (pgOf_lt (hT c) t.val))

/-- The proof data of the pipeline. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => outAt m hT hL c t
    | ⟨_ + 3, h⟩ => absurd h (Nat.not_lt.2 (Nat.le_add_left _ _))
  Φ t := iprop(slots c (KVm m c) (TBm m c) (hT c) (LNm m c) t.val ∗ tables c (TBm m c) (LNm m c) fullShare.right fullShare.right ∗ (∃ r, prngReg c r))
  q _ := fullShare
  owed _ := 0

theorem A_eq (c : Dev nD) (w : Fin (cfgA m).W) : (dats m hT hL 0 c).A w = V m c (Pipeline.arrRef spec0 w) := by
  dsimp only [dats]
theorem after0_0 (c : Dev nD) (t : Fin (cfgA m).N) : (dats m hT hL 0 c).after 0 t = iblk m c 0 t := by dsimp only [dats]; rfl
theorem after0_1 (c : Dev nD) (t : Fin (cfgA m).N) : (dats m hT hL 0 c).after 1 t = iblk m c 1 t := by dsimp only [dats]; rfl
theorem after0_2 (c : Dev nD) (t : Fin (cfgA m).N) : (dats m hT hL 0 c).after 2 t = outAt m hT hL c t := by dsimp only [dats]; rfl
theorem Phi_eq (c : Dev nD) (t : Fin ((cfgA m).N + 1)) : (dats m hT hL 0 c).Φ t
    = iprop(slots c (KVm m c) (TBm m c) (hT c) (LNm m c) t.val ∗ tables c (TBm m c) (LNm m c) fullShare.right fullShare.right ∗ (∃ r, prngReg c r)) := by
  dsimp only [dats]

theorem before0_0 (c : Dev nD) (t : Fin (cfgA m).N) (d) : (dats m hT hL 0 c).before 0 t d = iblk m c 0 t :=
  ((dats m hT hL 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgA m).N) (d) : (dats m hT hL 0 c).before 1 t d = iblk m c 1 t :=
  ((dats m hT hL 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ### The body at a point of the grid -/

/-- The grid point's coordinate is its number. -/
theorem coord_val (t : Fin grid0.N) : (grid0.coords t 0).val = t.val := by
  revert t; decide

/-- The body at a grid point, over the pipeline's staging buffers. -/
theorem point_wp (c : Dev nD) (t : Fin (cfgA m).N) :
    (iprop((dats m hT hL 0 c).Φ t.castSucc ∗ (dats m hT hL 0 c).owesAt () t.castSucc
      ∗ (∃ d, owns (c : Thread nD τ) (((cfgA m).win 0).stage ((cfgA m).slots t 0)) fullShare ((dats m hT hL 0 c).before 0 t d))
      ∗ (∃ d, owns (c : Thread nD τ) (((cfgA m).win 1).stage ((cfgA m).slots t 1)) fullShare ((dats m hT hL 0 c).before 1 t d))
      ∗ (∃ X, owns (c : Thread nD τ) (((cfgA m).win 2).stage ((cfgA m).slots t 2)) fullShare X)) : sProp 𝕄)
    ⊢ wp frame (wpE (defs₀ (F := F)) Variants.none (c : Thread nD τ) none) Set.univ (defs₀ (F := F) .tc (cfgA m).body ((cfgA m).bodyArgs t ((cfgA m).slots t)))
      (fun _ => iprop((dats m hT hL 0 c).Φ t.succ ∗ (dats m hT hL 0 c).owesAt () t.succ
      ∗ owns (c : Thread nD τ) (((cfgA m).win 0).stage ((cfgA m).slots t 0)) fullShare ((dats m hT hL 0 c).after 0 t)
      ∗ owns (c : Thread nD τ) (((cfgA m).win 1).stage ((cfgA m).slots t 1)) fullShare ((dats m hT hL 0 c).after 1 t)
      ∗ scored c (KVm m c) (TBm m c) (hT c) (LNm m c) (hL c) (grid0.coords t) t.val (((cfgA m).win 2).stage ((cfgA m).slots t 2)) (iblk m c 0 t) (iblk m c 1 t))) := by
  simp only [before0_0, before0_1]
  rw [after0_0, after0_1, Phi_eq, Phi_eq]
  unfold Dat.owesAt Pipeline.owesWithin
  rw [show (dats m hT hL 0 c).owed t.castSucc = 0 from rfl, show (dats m hT hL 0 c).owed t.succ = 0 from rfl]
  have hw := body_wp c (KVm m c) (TBm m c) (hT c) (LNm m c) (hL c) fullShare.right fullShare.right (grid0.coords t) t.val (coord_val t).symm
    (spec0_0.stage ((cfgA m).slots t 0)) (hstage0_0 (((cfgA m).slots t 0).cast nbuf0_0)) (spec0_1.stage ((cfgA m).slots t 1)) (hstage0_1 (((cfgA m).slots t 1).cast nbuf0_1))
    (spec0_2.stage ((cfgA m).slots t 2)) (hstage0_2 (((cfgA m).slots t 2).cast nbuf0_2)) (Memref.isWhole_whole _) (Memref.isWhole_whole _) (Memref.isWhole_whole _) (Memref.isWhole_whole _)
    (iblk m c 0 t) (iblk m c 1 t)
  unfold defs₀
  rw [Defs.onTc_tc]
  iintro ⟨⟨Hs, Ht, Hr⟩, ⟨%W, -, HW⟩, ⟨%d0, H0⟩, ⟨%d1, H1⟩, H2⟩
  ihave Hw := hw $$ [Ht Hs H0 H1 H2 HW]
  · isplitl [Ht]
    · iexact Ht
    isplitl [Hs]
    · iexact Hs
    isplitl [H0]
    · iexact H0
    isplitl [H1]
    · iexact H1
    isplitl [H2]
    · iexact H2
    · iexists W; iexact HW
  iapply (wp_wand_r frame (wpE (defs₀ (F := F)) Variants.none (c : Thread nD τ) none) Set.univ)
  isplitl [Hw]
  · iexact Hw
  iintro %_ ⟨Ht, Hs, H0, H1, H2, ⟨%W', HW⟩⟩
  isplitl [Hs Ht Hr]
  · isplitl [Hs]
    · iexact Hs
    isplitl [Ht]
    · iexact Ht
    · iexact Hr
  isplitl [HW]
  · iexists W'
    isplitr
    · ipureintro; exact fun _ _ => Or.inl trivial
    · iexact HW
  isplitl [H0]
  · iexact H0
  isplitl [H1]
  · iexact H1
  · iexact H2

/-- Which windows' contents the frame says nothing of: the result's. -/
abbrev fgt0 : Fin 3 → Bool := fun w => decide (w = 2)

/-- The scores, read as some contents. -/
theorem scored_some (c : Dev nD) (KV : Vec F S61440x2x8x128 .fp8e4m3) (TB : IVec S96x512 32) (hTB : InPool TB) (LN : IVec S96 32) (hLN : Short LN)
    (i : grid0.Coords) (b : ℕ) (a6 : Memref sig .tc .vmem S1x32x512 .f32) (Qb : Vec F S1x32x128 .bf16) (sc : Vec F S32x128 .f32) :
    (scored c KV TB hTB LN hLN i b a6 Qb sc : sProp 𝕄) ⊢ iprop(∃ X, owns (c : Thread nD τ) a6 fullShare X) := by
  unfold scored
  iintro ⟨%g, -, H⟩
  iexists _
  iexact H

/-- The obligation of the frame: the result's tile at any contents. -/
theorem body_loose (c : Dev nD) : BodyObligationLoose (dats (F := F) m hT hL 0 c) (defs₀ (F := F)) Variants.none () Set.univ fgt0 := fun t => by
  rw [bigSep_W0, bigSep_W0]
  exact triple_restated (point_wp m hT hL c t) rfl .rfl fun _ => sep_mono .rfl (sep_mono .rfl (sep_mono .rfl (sep_mono .rfl (scored_some c _ _ _ _ _ _ _ _ _ _))))

/-! ### The region's ends -/

theorem tables_eq (c : Dev nD) (hc : c = 0) :
    (Pipeline.ΦT pre0 (adm0 m 0).1 c : sProp 𝕄) = tables c (TBm m c) (LNm m c) fullShare.right fullShare.right := by
  subst hc
  unfold Pipeline.ΦT Pipeline.prefHeld tables
  rw [bigSep_univ_eq_bigSepL [(0 : Fin 2), (1 : Fin 2)] (by decide) (by decide)]
  rfl

theorem H0_eq (c : Dev nD) : (bigSep H0 (fun b => ((c : Thread nD τ).loc b) ↦{fullShare} V m c b) : sProp 𝕄)
    = (kvM.view.loc (c : Thread nD τ) ↦[Finset.univ]{fullShare} KVm m c) := by
  rw [BI.bigSep_eq_bigSepL_of_eq [main_v1] (by decide) (by decide)]; rfl

/-- Both slots at rest, in the order of a point. -/
theorem slots_zero (c : Dev nD) : (slots c (KVm m c) (TBm m c) (hT c) (LNm m c) 0 : sProp 𝕄) = iprop(idleS c (KVm m c) 0 ∗ idleS c (KVm m c) 1) := rfl
theorem slots_last (c : Dev nD) : (slots c (KVm m c) (TBm m c) (hT c) (LNm m c) 96 : sProp 𝕄) = iprop(idleS c (KVm m c) 0 ∗ idleS c (KVm m c) 1) := rfl

theorem region_in (c : Dev nD) :
    (iprop(Pipeline.ΦD osem0 spec0 H0 (V m) c ∗ Pipeline.ΦT pre0 (adm0 m 0).1 c) : sProp 𝕄) ⊢ (dats m hT hL 0 c).Φ 0 := by
  have hc : c = 0 := Subsingleton.elim _ _
  rw [Phi_eq, show ((0 : Fin ((cfgA m).N + 1)).val) = 0 from rfl, slots_zero, Pipeline.ΦD_eq, scopedRest0_eq, ownSems0_eq, H0_eq, tables_eq m c hc]
  iintro ⟨⟨Hb, Hr, Hs, Hk⟩, Ht⟩
  isplitl [Hb Hs Hk]
  · iapply (idle_split c (KVm m c))
    isplitl [Hb]
    · iexact Hb
    isplitl [Hs]
    · iexact Hs
    · iexact Hk
  isplitl [Ht]
  · iexact Ht
  · iexact Hr

theorem region_out (c : Dev nD) : ((dats m hT hL 0 c).Φ (Fin.last (cfgA m).N) : sProp 𝕄) ⊢ Pipeline.ΦD osem0 spec0 H0 (V m) c := by
  rw [Phi_eq, show (Fin.last (cfgA m).N).val = 96 from N_0, slots_last, Pipeline.ΦD_eq, scopedRest0_eq, ownSems0_eq, H0_eq]
  iintro ⟨Hs, -, Hr⟩
  ihave Hs := (idle_join c (KVm m c)) $$ Hs
  icases Hs with ⟨Hb, Hs, Hk⟩
  isplitl [Hb]
  · iexact Hb
  isplitl [Hr]
  · iexact Hr
  isplitl [Hs]
  · iexact Hs
  · iexact Hk

/-! ### The run -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain : Pipeline.HMainPK (Ix := Unit) (Name := ℕ) (U := Pipeline.UD sig nD τ) (Lvl := ℕ) (pcfgs (F := F)) 0 defs₀ Variants.none m (main (F := F))
    (fun c b => V0 m c (Proc.devRef .tc b)) (fun _ => Pipeline.chain ([hostOps1].map StableHlo.seq)) :=
  Pipeline.hmainP_around (pcfgs (F := F)) 0 defs₀ Variants.none m main [hostOps0] [hostOps1] (by simp only [List.Forall]; exact hostOps0_sub)
    (by simp only [List.Forall]; exact hostOps0_fresh) main_chain

/-- The line after the region reads the result and writes its transpose, -/
theorem sfx_sub : ∀ ops ∈ ([hostOps1] : List (List (HloOp τ sig (Elt F)))), ∀ op ∈ ops, op.bufs ⊆ Pipeline.tailRefsBut sig pre0 spec0 H0 := by
  intro ops hops op hop
  simp only [List.mem_cons, List.mem_nil_iff, or_false] at hops
  subst hops
  simp only [hostOps1, List.mem_cons, List.mem_nil_iff, or_false] at hop
  subst hop
  rw [StableHlo.unary_bufs]
  decide
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.unary_writes, Finset.mem_singleton] <;> exact StableHlo.devRef_ne_of_ne (by decide)

/-- What the host lines before the region leave of the arguments: all of them. -/
theorem V_arg (c : Dev nD) (b : Ref sig .tc) (h : b ∉ [main_v0, main_v1, main_v2, main_v3, main_v4, main_v5]) : V m c b = m ((c : Thread nD τ).loc b) :=
  StableHlo.after_of_forall_not_mem (b := Proc.devRef .tc b) _ _ (List.forall_iff_forall_mem.mp (by
    simp only [List.mem_cons, List.not_mem_nil, or_false, not_or] at h
    obtain ⟨h0, h1, h2, h3, h4, h5⟩ := h
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- The result of the line after the region. -/
def T0 : Finset (Ref sig .tc) := {main_v7}

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective _ hb)

set_option backward.isDefEq.respectTransparency.types false in
set_option maxHeartbeats 800000 in
/-- The run of the frame: every staged array, every table and every buffer the lines around the region do not write is as it was. -/
theorem run_loose : θ_run defs (onTc (τ := τ) (main (F := F))) (s₀ m ρ) (fun r => Pipeline.RDat.FramePostR (cfgA m) (fun c => (dats m hT hL 0 c).toRForget fgt0) (∅ ∪ T0) (V m) r ∧ r.2.sem = fun _ => 0) :=
  Pipeline.θ_run_frameP_dmaR_around_T_forget (Q' := _) (pcfgs (F := F)) (adm0 m) (dats m hT hL) (0 : Fin 1) launch0 osem0 defs₀ Variants.none fgt0 ownSemFacts0
    H0 ∅ T0 H0_sub (Finset.empty_subset _) m ρ main
    (hbody := body_loose m hT hL) (hshare := fun c => (dats m hT hL 0 c).share_full fun _ => rfl) (howed := fun _ _ => rfl)
    (V₀ := V0 m) (opss := [hostOps1]) (hsub := fun ops ho op h => (sfx_sub ops ho op h).trans (Pipeline.tailRefsBut_sub _ _ _)) (hfresh := sfx_fresh) (hkeep := sfx_keeps) (hT := sfx_T)
    (hmain := hmain m) (hA := A_eq m hT hL) (hpf := fun c k => by obtain rfl : c = 0 := Subsingleton.elim _ _; rfl)
    (hin := fun c => (sep_mono (Pipeline.ΦDR_empty_elim _ _ _ _ c) .rfl).trans (region_in m hT hL c))
    (hout := fun c => (region_out m hT hL c).trans (Pipeline.ΦDR_empty_intro _ _ _ _ c))

/-- The frame: the arguments end unchanged and every semaphore at zero, whenever every page of the page table is one of the pool's and
    every length fits the table's row. -/
theorem frame (hT : ∀ c : Dev nD, InPool (m ((c : Thread nD τ).loc main_arg3) : IVec S96x512 32)) (hL : ∀ c : Dev nD, Short (m ((c : Thread nD τ).loc main_arg4) : IVec S96 32)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have hT' : ∀ c, InPool (TBm m c) := fun c => by unfold TBm; rw [V_arg m c main_arg3 (by decide)]; exact hT c
  have hL' : ∀ c, Short (LNm m c) := fun c => by unfold LNm; rw [V_arg m c main_arg4 (by decide)]; exact hL c
  have rest (r : PUnit × MemSt nD τ sig (Elt F)) (h : Pipeline.RDat.FramePostR (cfgA m) (fun c => (dats m hT' hL' 0 c).toRForget fgt0) (∅ ∪ T0) (V m) r)
      (c : Dev nD) (b : Ref sig .tc) (hb : b ∈ Pipeline.restRefs sig spec0 \ (∅ ∪ T0)) (hn : b ∉ [main_v0, main_v1, main_v2, main_v3, main_v4, main_v5]) :
      r.2.mem ((c.tc : Thread nD τ).loc b) = m ((c.tc : Thread nD τ).loc b) := ((h c).2 b hb).trans (V_arg m c b hn)
  refine (θ_run defs _ _).mono (fun r h => ⟨fun c => ⟨?_, ?_, ?_, ?_, ?_⟩, h.2⟩) (run_loose m ρ hT' hL')
  · exact (h.1.arr_in c 0 rfl).trans ((A_eq m hT' hL' c 0).trans (V_arg m c main_arg0 (by decide)))
  · exact rest r h.1 c main_arg1 (by decide) (by decide)
  · exact rest r h.1 c main_arg2 (by decide) (by decide)
  · exact rest r h.1 c main_arg3 (by decide) (by decide)
  · exact rest r h.1 c main_arg4 (by decide) (by decide)

end Cert.KernelIdeal.Hand

end
-- ==== Proof.Twin.Base.lean ====
/-
  The buffers of the kernel, page by page: which elements of the two-slot page buffer belong to one page of one slot, which
  elements of the page table in HBM belong to one page, and what one page copy leaves in the buffer.
-/
module

public import proofs.«01_k».proof.Proof.Gen.Kernel.Launch
public import proofs.«01_k».proof.Proof.Gen.Kernel.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout
public import Idealize.ShloMosaic.Lib.ViewIndex

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The page table, the lengths, the page array and the two-slot page buffer, whole. -/
abbrev tbM : Memref sig .tc .smem S96x512 .i32 := Memref.whole main_arg3
abbrev lnM : Memref sig .tc .smem S96 .i32 := Memref.whole main_arg4
abbrev kvM : Memref sig .tc .hbm S61440x2x8x128 .fp8e4m3 := Memref.whole main_v1
abbrev bufM : Memref sig .tc .vmem S2x512x2x8x128 .fp8e4m3 := Memref.whole cc0_scratch0

/-- The elements of page `p` of slot `s` of the page buffer. -/
def pageSet (s p : ℕ) : Finset S2x512x2x8x128.Idx := Finset.univ.filter fun j => (j 0).val = s ∧ (j 1).val = p
/-- The elements of slot `s` of the page buffer. -/
def slotSet (s : ℕ) : Finset S2x512x2x8x128.Idx := Finset.univ.filter fun j => (j 0).val = s
/-- The elements of page `w` of the page array. -/
def kvSet (w : ℕ) : Finset S61440x2x8x128.Idx := Finset.univ.filter fun j => (j 0).val = w

/-- Membership in a page of a slot. -/
theorem mem_pageSet {s p : ℕ} {j : S2x512x2x8x128.Idx} : j ∈ pageSet s p ↔ (j 0).val = s ∧ (j 1).val = p := by
  simp [pageSet]
/-- Membership in a slot. -/
theorem mem_slotSet {s : ℕ} {j : S2x512x2x8x128.Idx} : j ∈ slotSet s ↔ (j 0).val = s := by
  simp [slotSet]
/-- Membership in a page of the page array. -/
theorem mem_kvSet {w : ℕ} {j : S61440x2x8x128.Idx} : j ∈ kvSet w ↔ (j 0).val = w := by
  simp [kvSet]

/-- A page of the buffer as the kernel spells it: the slice at computed offsets, its unit axes dropped. -/
abbrev dstM (o : Fin 5 → ℕ) (hb : ∀ a, o a + S1x1x2x8x128.size a ≤ S2x512x2x8x128.size a) : Memref sig .tc .vmem S2x8x128 .fp8e4m3 :=
  (bufM.slice (Rect.unit (s := S2x512x2x8x128) o S1x1x2x8x128.size hb) (fun _ => rfl)).squeeze S2x8x128 squeezes_S1x1x2x8x128_S2x8x128
/-- A page of the page array as the kernel spells it. -/
abbrev srcM (o : Fin 4 → ℕ) (hb : ∀ a, o a + S1x2x8x128.size a ≤ S61440x2x8x128.size a) : Memref sig .tc .hbm S2x8x128 .fp8e4m3 :=
  (kvM.slice (Rect.unit (s := S61440x2x8x128) o S1x2x8x128.size hb) (fun _ => rfl)).squeeze S2x8x128 squeezes_S1x2x8x128_S2x8x128

/-- The element of the buffer under an index of a page. -/
theorem dst_emb (o : Fin 5 → ℕ) (hb) (s p : ℕ) (ho : o = ![s, p, 0, 0, 0]) (x : Fin 2) (y : Fin 8) (z : Fin 128) (hs : s < 2) (hp : p < 512) :
    (dstM o hb).view.emb (ix3 x y z) = (ix5 ⟨s, hs⟩ ⟨p, hp⟩ x y z : S2x512x2x8x128.Idx) := by
  subst ho
  show (Rect.unit (s := S2x512x2x8x128) ![s, p, 0, 0, 0] S1x1x2x8x128.size hb).emb (Shape.reshapeEquiv _ (ix3 x y z)) = _
  rw [reshapeEquiv_ix3_11abc]
  funext a
  apply Fin.ext
  match a with
  | ⟨0, _⟩ => simp [Rect.emb, Rect.unit, ix5]
  | ⟨1, _⟩ => simp [Rect.emb, Rect.unit, ix5]
  | ⟨2, _⟩ => simp [Rect.emb, Rect.unit, ix5]
  | ⟨3, _⟩ => simp [Rect.emb, Rect.unit, ix5]
  | ⟨4, _⟩ => simp [Rect.emb, Rect.unit, ix5]

/-- The element of the page array under an index of a page. -/
theorem src_emb (o : Fin 4 → ℕ) (hb) (w : ℕ) (ho : o = ![w, 0, 0, 0]) (x : Fin 2) (y : Fin 8) (z : Fin 128) (hw : w < 61440) :
    (srcM o hb).view.emb (ix3 x y z) = (ix4 ⟨w, hw⟩ x y z : S61440x2x8x128.Idx) := by
  subst ho
  show (Rect.unit (s := S61440x2x8x128) ![w, 0, 0, 0] S1x2x8x128.size hb).emb (Shape.reshapeEquiv _ (ix3 x y z)) = _
  rw [reshapeEquiv_ix3_1abc]
  funext a
  apply Fin.ext
  match a with
  | ⟨0, _⟩ => simp [Rect.emb, Rect.unit, ix4]
  | ⟨1, _⟩ => simp [Rect.emb, Rect.unit, ix4]
  | ⟨2, _⟩ => simp [Rect.emb, Rect.unit, ix4]
  | ⟨3, _⟩ => simp [Rect.emb, Rect.unit, ix4]

/-- An index of a page by its coordinates. -/
theorem ix3_eta (x : S2x8x128.Idx) : ∃ (a : Fin 2) (b : Fin 8) (c : Fin 128), x = ix3 a b c := ⟨x 0, x 1, x 2, eq_ix3 x⟩

/-- An element of a page of the buffer by its three free coordinates. -/
theorem page_eta (s p : ℕ) (hs : s < 2) (hp : p < 512) (j : S2x512x2x8x128.Idx) (hj : j ∈ pageSet s p) :
    ∃ (x : Fin 2) (y : Fin 8) (z : Fin 128), j = ix5 ⟨s, hs⟩ ⟨p, hp⟩ x y z := by
  obtain ⟨h0, h1⟩ := mem_pageSet.mp hj
  refine ⟨j 2, j 3, j 4, ?_⟩
  funext a
  match a with
  | ⟨0, _⟩ => exact Fin.ext h0
  | ⟨1, _⟩ => exact Fin.ext h1
  | ⟨2, _⟩ => rfl
  | ⟨3, _⟩ => rfl
  | ⟨4, _⟩ => rfl

/-- An element of a page of the page array by its three free coordinates. -/
theorem kv_eta (w : ℕ) (hw : w < 61440) (j : S61440x2x8x128.Idx) (hj : j ∈ kvSet w) :
    ∃ (x : Fin 2) (y : Fin 8) (z : Fin 128), j = ix4 ⟨w, hw⟩ x y z := by
  refine ⟨j 1, j 2, j 3, ?_⟩
  funext a
  match a with
  | ⟨0, _⟩ => exact Fin.ext (mem_kvSet.mp hj)
  | ⟨1, _⟩ => rfl
  | ⟨2, _⟩ => rfl
  | ⟨3, _⟩ => rfl

/-- The elements of a page of the buffer, by its offsets. -/
theorem dst_set (o : Fin 5 → ℕ) (hb) (s p : ℕ) (ho : o = ![s, p, 0, 0, 0]) (hs : s < 2) (hp : p < 512) :
    (dstM o hb).view.set = pageSet s p := by
  refine Finset.ext fun j => ⟨fun h => ?_, fun h => ?_⟩
  · obtain ⟨x, -, rfl⟩ := Finset.mem_map.mp h
    obtain ⟨a, b, c, rfl⟩ := ix3_eta x
    have e := dst_emb o hb s p ho a b c hs hp
    rw [e]
    exact mem_pageSet.mpr ⟨rfl, rfl⟩
  · obtain ⟨a, b, c, rfl⟩ := page_eta s p hs hp j h
    exact Finset.mem_map.mpr ⟨ix3 a b c, Finset.mem_univ _, dst_emb o hb s p ho a b c hs hp⟩

/-- The elements of a page of the page array, by its offsets. -/
theorem src_set (o : Fin 4 → ℕ) (hb) (w : ℕ) (ho : o = ![w, 0, 0, 0]) (hw : w < 61440) :
    (srcM o hb).view.set = kvSet w := by
  refine Finset.ext fun j => ⟨fun h => ?_, fun h => ?_⟩
  · obtain ⟨x, -, rfl⟩ := Finset.mem_map.mp h
    obtain ⟨a, b, c, rfl⟩ := ix3_eta x
    have e := src_emb o hb w ho a b c hw
    rw [e]
    exact mem_kvSet.mpr rfl
  · obtain ⟨a, b, c, rfl⟩ := kv_eta w hw j h
    exact Finset.mem_map.mpr ⟨ix3 a b c, Finset.mem_univ _, src_emb o hb w ho a b c hw⟩

/-- What the buffer holds where every page `p` of every slot is page `P p` of the page array. -/
def gath (KV : Vec F S61440x2x8x128 .fp8e4m3) (P : ℕ → ℕ) (hP : ∀ p, P p < 61440) : Vec F S2x512x2x8x128 .fp8e4m3 :=
  fun j => KV (ix4 ⟨P (j 1).val, hP _⟩ (j 2) (j 3) (j 4))

/-- One page copy leaves the page of the array in the page of the buffer. -/
theorem copied (KV : Vec F S61440x2x8x128 .fp8e4m3) (fd : Vec F S2x512x2x8x128 .fp8e4m3) (P : ℕ → ℕ) (hP : ∀ p, P p < 61440)
    (o : Fin 5 → ℕ) (hb) (s p : ℕ) (ho : o = ![s, p, 0, 0, 0]) (hs : s < 2) (hp : p < 512)
    (o' : Fin 4 → ℕ) (hb') (ho' : o' = ![P p, 0, 0, 0]) (j : S2x512x2x8x128.Idx) (hj : j ∈ pageSet s p) :
    (dstM o hb).view.write (Elt F) fd ((srcM o' hb').view.read (Elt F) KV) Finset.univ j = gath KV P hP j := by
  obtain ⟨x, y, z, rfl⟩ := page_eta s p hs hp j hj
  have hw := View.write_emb_of_mem (v := (dstM o hb).view) (Val := Elt F) fd ((srcM o' hb').view.read (Elt F) KV) (Finset.mem_univ (ix3 x y z))
  rw [dst_emb o hb s p ho _ _ _ hs hp] at hw
  refine (hw.trans ?_ : _)
  show KV ((srcM o' hb').view.emb (ix3 x y z)) = _
  rw [src_emb o' hb' (P p) ho' _ _ _ (hP p)]
  rfl

end Cert.Kernel.Hand

end
-- ==== Proof.Twin.Ints.lean ====
/-
  The word arithmetic of the kernel: the trip counts of its loops, the values of its computed offsets, and the side
  conditions its body assumes of the words it reads, all for sequence lengths of at most 8192 and pages below 61440.
-/
module

public import proofs.«01_k».proof.Proof.Twin.Base
public import Idealize.ShloMosaic.Lib.LoopRemainder
public import Idealize.ShloMosaic.Lib.Routing.Words

@[expose] public section

noncomputable section

namespace Cert.Kernel.Hand

open Cert.Kernel Cert.Kernel.Gen
open Idealize.ShloMosaic Idealize.ShloMosaic.TcCoe Idealize.ShloMosaic.Tactic Idealize.ShloMosaic.ValueIdx

/-- The groups of 16 pages a sequence of `L` tokens covers. -/
def ngOf (L : ℕ) : ℕ := (L + 255) / 256
/-- The chunks of 128 pages a sequence of `L` tokens covers. -/
def ncOf (L : ℕ) : ℕ := (L + 2047) / 2048

/-- A sum of small words. -/
theorem addi_nat (a b : ℕ) : Scalar.addi (BitVec.ofNat 32 a) (BitVec.ofNat 32 b) = BitVec.ofNat 32 (a + b) := by
  simp [Scalar.addi, IntOp.addi, BitVec.ofNat_add]
/-- A product of small words. -/
theorem muli_nat (a b : ℕ) : Scalar.muli (BitVec.ofNat 32 a) (BitVec.ofNat 32 b) = BitVec.ofNat 32 (a * b) := by
  simp [Scalar.muli, IntOp.muli, BitVec.ofNat_mul]
/-- A quotient of small words. -/
theorem divsi_nat {a b : ℕ} (ha : a < 2 ^ 31) (h0 : 0 < b) (hb : b < 2 ^ 31) :
    Scalar.divsi (BitVec.ofNat 32 a) (BitVec.ofNat 32 b) = BitVec.ofNat 32 (a / b) := Routing.divsi_word _ ha h0 hb
/-- A remainder of small words. -/
theorem remsi_nat {a b : ℕ} (ha : a < 2 ^ 31) (h0 : 0 < b) (hb : b < 2 ^ 31) :
    Scalar.remsi (BitVec.ofNat 32 a) (BitVec.ofNat 32 b) = BitVec.ofNat 32 (a % b) := Routing.remsi_word _ ha h0 hb
/-- A difference of small words. -/
theorem subi_nat {a b : ℕ} (h : b ≤ a) : Scalar.subi (BitVec.ofNat 32 a) (BitVec.ofNat 32 b) = BitVec.ofNat 32 (a - b) := by
  have e : (BitVec.ofNat 32 a : BitVec 32) = BitVec.ofNat 32 (a - b) + BitVec.ofNat 32 b := by
    rw [← BitVec.ofNat_add, Nat.sub_add_cancel h]
  simp only [Scalar.subi, IntOp.subi]
  rw [e, BitVec.add_sub_cancel]
/-- The value of a small word. -/
theorem toNat_nat {a : ℕ} (h : a < 2 ^ 32) : (BitVec.ofNat 32 a).toNat = a := by
  rw [BitVec.toNat_ofNat, Nat.mod_eq_of_lt h]
/-- The signed value of a small word. -/
theorem toInt_nat {a : ℕ} (h : a < 2 ^ 31) : (BitVec.ofNat 32 a).toInt = a := by
  rw [BitVec.toInt_eq_toNat_of_lt (by rw [toNat_nat (by omega)]; omega), toNat_nat (by omega)]
/-- The trip count of a loop by ones between small words. -/
theorem trips_nat {a b : ℕ} (ha : a < 2 ^ 31) (hb : b < 2 ^ 31) : Scf.trips (BitVec.ofNat 32 a) (BitVec.ofNat 32 b) 1#32 = b - a := by
  unfold Scf.trips
  rw [toInt_nat ha, toInt_nat hb, show (1#32 : BitVec 32).toInt = 1 by decide]
  omega
/-- A loop by ones between small words has a meaning. -/
theorem ok_nat {a b : ℕ} (ha : a < 2 ^ 30) (hb : b < 2 ^ 30) : Scf.OK (BitVec.ofNat 32 a) (BitVec.ofNat 32 b) 1#32 := by
  refine ⟨by decide, ?_⟩
  rw [trips_nat (by omega) (by omega), toInt_nat (by omega), show (1#32 : BitVec 32).toInt = 1 by decide]
  omega
/-- The induction variable of a loop by ones. -/
theorem iv_nat (a k : ℕ) : Scf.iv (BitVec.ofNat 32 a) 1#32 k = BitVec.ofNat 32 (a + k) := by
  simp [Scf.iv, BitVec.ofNat_add]

variable {v : BitVec 32}

/-- A word is the word of its value. -/
theorem word_eq (v : BitVec 32) : v = BitVec.ofNat 32 v.toNat := by simp

/-- The main loop over the page groups. -/
theorem t1_eq (hv : v.toNat ≤ 8192) : k0_t1_loop v = ⟨BitVec.ofNat 32 0, BitVec.ofNat 32 (ngOf v.toNat), 1#32⟩ := by
  have h : ngOf v.toNat < 2 ^ 31 := by unfold ngOf; omega
  unfold k0_t1_loop
  generalize hL : v.toNat = L at *
  rw [word_eq v, hL]
  simp only [Scalar.muli_divsi_one]
  rw [addi_nat, divsi_nat (by omega) (by omega) (by omega), show (0#32 : BitVec 32) = BitVec.ofNat 32 0 from rfl, subi_nat (by omega), addi_nat]
  simp [ngOf]
/-- The main loop over the next sequence's page groups, likewise. -/
theorem t3_eq (hv : v.toNat ≤ 8192) : k0_t3_loop v = ⟨BitVec.ofNat 32 0, BitVec.ofNat 32 (ngOf v.toNat), 1#32⟩ := t1_eq hv
/-- The main loop over the waits, likewise. -/
theorem t5_eq (hv : v.toNat ≤ 8192) : k0_t5_loop v = ⟨BitVec.ofNat 32 0, BitVec.ofNat 32 (ngOf v.toNat), 1#32⟩ := t1_eq hv
/-- The chunk count as the kernel computes it. -/
theorem nc_eq (hv : v.toNat ≤ 8192) : Scalar.divsi (Scalar.addi v 2047#32) 2048#32 = BitVec.ofNat 32 (ncOf v.toNat) := by
  generalize hL : v.toNat = L at *
  rw [word_eq v, hL, addi_nat, divsi_nat (by omega) (by omega) (by omega)]
  rfl
/-- The main loop over the chunks. -/
theorem t7_eq (hv : v.toNat ≤ 8192) : k0_t7_loop v = ⟨BitVec.ofNat 32 0, BitVec.ofNat 32 (ncOf v.toNat), 1#32⟩ := by
  unfold k0_t7_loop
  simp only [Scalar.muli_divsi_one, nc_eq hv]
  rw [show (0#32 : BitVec 32) = BitVec.ofNat 32 0 from rfl, subi_nat (by omega), addi_nat]
  simp
/-- The main loop over the chunks past the sequence. -/
theorem t9_eq (hv : v.toNat ≤ 8192) : k0_t9_loop v = ⟨BitVec.ofNat 32 (ncOf v.toNat), BitVec.ofNat 32 4, 1#32⟩ := by
  have h4 : ncOf v.toNat ≤ 4 := by unfold ncOf; omega
  unfold k0_t9_loop
  simp only [Scalar.muli_divsi_one, nc_eq hv]
  rw [subi_nat h4, addi_nat, Nat.add_sub_cancel' h4]

/-- Trips of the loops. -/
theorem t1_trips (hv : v.toNat ≤ 8192) : (k0_t1_loop v).trips = ngOf v.toNat := by
  rw [t1_eq hv]; exact trips_nat (by omega) (by unfold ngOf; omega)
theorem t3_trips (hv : v.toNat ≤ 8192) : (k0_t3_loop v).trips = ngOf v.toNat := t1_trips hv
theorem t5_trips (hv : v.toNat ≤ 8192) : (k0_t5_loop v).trips = ngOf v.toNat := t1_trips hv
theorem t7_trips (hv : v.toNat ≤ 8192) : (k0_t7_loop v).trips = ncOf v.toNat := by
  rw [t7_eq hv]; exact trips_nat (by omega) (by unfold ncOf; omega)
theorem t9_trips (hv : v.toNat ≤ 8192) : (k0_t9_loop v).trips = 4 - ncOf v.toNat := by
  rw [t9_eq hv]; exact trips_nat (by unfold ncOf; omega) (by omega)
theorem ng_le (hv : v.toNat ≤ 8192) : ngOf v.toNat ≤ 32 := by unfold ngOf; omega
theorem nc_le (hv : v.toNat ≤ 8192) : ncOf v.toNat ≤ 4 := by unfold ncOf; omega

/-- Page `u` of group `k`, as the kernel computes it. -/
abbrev pgW (k u : ℕ) : BitVec 32 := Scalar.addi (Scalar.muli (Scf.iv 0#32 1#32 k) 16#32) (BitVec.ofNat 32 u)
/-- Its value. -/
theorem pgW_val (k u : ℕ) (hk : k < 32) (hu : u < 16) : (pgW k u).toNat = 16 * k + u := by
  unfold pgW
  rw [show (0#32 : BitVec 32) = BitVec.ofNat 32 0 from rfl, iv_nat, muli_nat, addi_nat, toNat_nat (by omega)]
  omega

/-- The slot of the buffer the kernel reads at grid point `b`, and the one it fills for the next point. -/
theorem rem2 (b : ℕ) (hb : b < 96) : Scalar.remsi (BitVec.ofNat 32 b) 2#32 = BitVec.ofNat 32 (b % 2) :=
  remsi_nat (by omega) (by omega) (by omega)
theorem slotNext (b : ℕ) (hb : b < 96) :
    (Scalar.subi 1#32 (Scalar.remsi (BitVec.ofNat 32 b) 2#32)).toNat = (b + 1) % 2 := by
  rw [rem2 b hb, show (1#32 : BitVec 32) = BitVec.ofNat 32 1 from rfl, subi_nat (by omega), toNat_nat (by omega)]
  omega
theorem slotCur (b : ℕ) (hb : b < 96) : (Scalar.remsi (BitVec.ofNat 32 b) 2#32).toNat = b % 2 := by
  rw [rem2 b hb, toNat_nat (by omega)]

end Cert.Kernel.Hand

end
-- ==== Proof.Twin.Checks.lean ====
/-
  The side conditions the kernel's body assumes of the words it reads: they hold of every length of at most 8192 and of
  every page below 61440.
-/
module

public import proofs.«01_k».proof.Proof.Twin.Ints

@[expose] public section

noncomputable section

namespace Cert.Kernel.Hand

open Cert.Kernel Cert.Kernel.Gen
open Idealize.ShloMosaic Idealize.ShloMosaic.TcCoe Idealize.ShloMosaic.Tactic Idealize.ShloMosaic.ValueIdx

/-- The grid coordinate. -/
theorem coord_lt (i : grid0.Coords) : (i 0).val < 96 := (i 0).isLt

/-- A read of one word of the page table is in bounds. -/
theorem tb_inb (r w : ℕ) (hr : r < 96) (hw : w < 512) : ∀ a, (![r, w] : Fin 2 → ℕ) a + S1x1.size a ≤ S96x512.size a := by
  intro a
  match a with
  | ⟨0, _⟩ => show r + 1 ≤ 96; omega
  | ⟨1, _⟩ => show w + 1 ≤ 512; omega
/-- A page of the buffer is in bounds. -/
theorem pg_inb (s w : ℕ) (hs : s < 2) (hw : w < 512) : ∀ a, (![s, w, 0, 0, 0] : Fin 5 → ℕ) a + S1x1x2x8x128.size a ≤ S2x512x2x8x128.size a := by
  intro a
  match a with
  | ⟨0, _⟩ => show s + 1 ≤ 2; omega
  | ⟨1, _⟩ => show w + 1 ≤ 512; omega
  | ⟨2, _⟩ => show 0 + 2 ≤ 2; omega
  | ⟨3, _⟩ => show 0 + 8 ≤ 8; omega
  | ⟨4, _⟩ => show 0 + 128 ≤ 128; omega
/-- Sixteen pages of the buffer are in bounds. -/
theorem grp_inb (s w : ℕ) (hs : s < 2) (hw : w + 16 ≤ 512) : ∀ a, (![s, w, 0, 0, 0] : Fin 5 → ℕ) a + S1x16x2x8x128.size a ≤ S2x512x2x8x128.size a := by
  intro a
  match a with
  | ⟨0, _⟩ => show s + 1 ≤ 2; omega
  | ⟨1, _⟩ => show w + 16 ≤ 512; omega
  | ⟨2, _⟩ => show 0 + 2 ≤ 2; omega
  | ⟨3, _⟩ => show 0 + 8 ≤ 8; omega
  | ⟨4, _⟩ => show 0 + 128 ≤ 128; omega
/-- A page of the page array is in bounds. -/
theorem kv_inb (w : ℕ) (hw : w < 61440) : ∀ a, (![w, 0, 0, 0] : Fin 4 → ℕ) a + S1x2x8x128.size a ≤ S61440x2x8x128.size a := by
  intro a
  match a with
  | ⟨0, _⟩ => show w + 1 ≤ 61440; omega
  | ⟨1, _⟩ => show 0 + 2 ≤ 2; omega
  | ⟨2, _⟩ => show 0 + 8 ≤ 8; omega
  | ⟨3, _⟩ => show 0 + 128 ≤ 128; omega
/-- A page of the buffer is whole words. -/
theorem pg_words (s w : ℕ) (hinb) : (Rect.unit (s := S2x512x2x8x128) ![s, w, 0, 0, 0] S1x1x2x8x128.size hinb).WholeWords (EltTy.packing .fp8e4m3) :=
  Affine.words_rows (by decide) rfl rfl
/-- Sixteen pages of the buffer are whole words. -/
theorem grp_words (s w : ℕ) (hinb) : (Rect.unit (s := S2x512x2x8x128) ![s, w, 0, 0, 0] S1x16x2x8x128.size hinb).WholeWords (EltTy.packing .fp8e4m3) :=
  Affine.words_rows (by decide) rfl rfl
/-- A page of the page array is whole words. -/
theorem kv_words (w : ℕ) (hinb) : (Rect.unit (s := S61440x2x8x128) ![w, 0, 0, 0] S1x2x8x128.size hinb).WholeWords (EltTy.packing .fp8e4m3) :=
  Affine.words_rows (by decide) rfl rfl

/-- Page `u` of a group of the loop is one of the 512. -/
theorem pgW_lt {v : BitVec 32} (hv : v.toNat ≤ 8192) (k : Fin (k0_t1_loop v).trips) (u : ℕ) (hu : u < 16) : (pgW k.val u).toNat < 512 := by
  have h := k.isLt.trans_le ((t1_trips hv).le.trans (ng_le hv))
  rw [pgW_val k.val u h hu]; omega

/-- The next grid point's sequence is one of the 96. -/
theorem nextRow (i : grid0.Coords) (h : k0_cond2 i = 1#1) : (Scalar.addi (BitVec.ofNat 32 (i 0).val) 1#32).toNat = (i 0).val + 1 ∧ (i 0).val + 1 < 96 := by
  have hi := coord_lt i
  refine ⟨by rw [addi_nat, toNat_nat (by omega)], ?_⟩
  by_contra hc
  have e : (i 0).val = 95 := by omega
  revert h
  unfold k0_cond2
  rw [e]
  decide

/-- The side condition of the first sequence's length. -/
theorem chk1_of (i : grid0.Coords) (v : BitVec 32) (hv : v.toNat ≤ 8192) : k0_chk1 i v :=
  have O : ∀ (_ : k0_cond1 i = 1#1), (k0_t1_loop v).OK := fun _ => by rw [t1_eq hv]; exact ok_nat (by omega) (by unfold ngOf; omega)
  have T := fun (u : ℕ) (hu : u < 16) (k : Fin (k0_t1_loop v).trips) (_ : k0_cond1 i = 1#1) =>
    tb_inb 0 (pgW k.val u).toNat (by decide) (pgW_lt hv k u hu)
  have G := fun (u : ℕ) (hu : u < 16) (k : Fin (k0_t1_loop v).trips) (_ : k0_cond1 i = 1#1) =>
    pg_inb 0 (pgW k.val u).toNat (by decide) (pgW_lt hv k u hu)
  have W := fun (u : ℕ) (k : Fin (k0_t1_loop v).trips) (_ : k0_cond1 i = 1#1) h => pg_words 0 (pgW k.val u).toNat h
  have R : ∀ (_ : k0_cond1 i = 1#1), (k0_t2_loop v).OK := fun _ => Scf.rem_ok _ _
  have V : ∀ {P : Fin (k0_t2_loop v).trips → Prop} (k), P k := fun k => (Scf.rem_no_trip _ _ k).elim
  ⟨⟨O, T 0 (by decide), G 0 (by decide), W 0, T 1 (by decide), G 1 (by decide), W 1, T 2 (by decide),
    G 2 (by decide), W 2, T 3 (by decide), G 3 (by decide), W 3, T 4 (by decide), G 4 (by decide), W 4,
    T 5 (by decide), G 5 (by decide), W 5, T 6 (by decide), G 6 (by decide), W 6, T 7 (by decide), G 7 (by decide),
    W 7, T 8 (by decide), G 8 (by decide), W 8, T 9 (by decide), G 9 (by decide), W 9, T 10 (by decide)⟩,
    ⟨G 10 (by decide), W 10, T 11 (by decide), G 11 (by decide), W 11, T 12 (by decide), G 12 (by decide), W 12,
    T 13 (by decide), G 13 (by decide), W 13, T 14 (by decide), G 14 (by decide), W 14, T 15 (by decide),
    G 15 (by decide), W 15, R, V, V, V, V, V, V, V, V, V, V, V, V, V, V⟩, ⟨V, V, V, V, V, V, V, V, V, V, V, V, V, V,
    V, V, V, V, V, V, V, V, V, V, V, V, V, V, V, V, V, V⟩, ⟨V, V⟩⟩

/-- The side condition of the next sequence's length. -/
theorem chk34_of (i : grid0.Coords) (v : BitVec 32) (hv : v.toNat ≤ 8192) : k0_chk34 i v :=
  have O : ∀ (_ : k0_cond2 i = 1#1), (k0_t3_loop v).OK := fun _ => by rw [t3_eq hv]; exact ok_nat (by omega) (by unfold ngOf; omega)
  have hs : (Scalar.subi 1#32 (Scalar.remsi (BitVec.ofNat 32 (i 0).val) 2#32)).toNat < 2 := by
    rw [slotNext _ (coord_lt i)]; omega
  have T := fun (u : ℕ) (hu : u < 16) (k : Fin (k0_t3_loop v).trips) (h : k0_cond2 i = 1#1) =>
    tb_inb (Scalar.addi (BitVec.ofNat 32 (i 0).val) 1#32).toNat (pgW k.val u).toNat ((nextRow i h).1.trans_lt (nextRow i h).2)
      (pgW_lt hv k u hu)
  have G := fun (u : ℕ) (hu : u < 16) (k : Fin (k0_t3_loop v).trips) (_ : k0_cond2 i = 1#1) =>
    pg_inb (Scalar.subi 1#32 (Scalar.remsi (BitVec.ofNat 32 (i 0).val) 2#32)).toNat (pgW k.val u).toNat hs (pgW_lt hv k u hu)
  have W := fun (u : ℕ) (k : Fin (k0_t3_loop v).trips) (_ : k0_cond2 i = 1#1) h =>
    pg_words (Scalar.subi 1#32 (Scalar.remsi (BitVec.ofNat 32 (i 0).val) 2#32)).toNat (pgW k.val u).toNat h
  have R : ∀ (_ : k0_cond2 i = 1#1), (k0_t4_loop v).OK := fun _ => Scf.rem_ok _ _
  have V : ∀ {P : Fin (k0_t4_loop v).trips → Prop} (k), P k := fun k => (Scf.rem_no_trip _ _ k).elim
  ⟨⟨O, T 0 (by decide), G 0 (by decide), W 0, T 1 (by decide), G 1 (by decide), W 1, T 2 (by decide),
    G 2 (by decide), W 2, T 3 (by decide), G 3 (by decide), W 3, T 4 (by decide), G 4 (by decide), W 4,
    T 5 (by decide), G 5 (by decide), W 5, T 6 (by decide), G 6 (by decide), W 6, T 7 (by decide), G 7 (by decide),
    W 7, T 8 (by decide), G 8 (by decide), W 8, T 9 (by decide), G 9 (by decide), W 9, T 10 (by decide)⟩,
    ⟨G 10 (by decide), W 10, T 11 (by decide), G 11 (by decide), W 11, T 12 (by decide), G 12 (by decide), W 12,
    T 13 (by decide), G 13 (by decide), W 13, T 14 (by decide), G 14 (by decide), W 14, T 15 (by decide),
    G 15 (by decide), W 15, R, V, V, V, V, V, V, V, V, V, V, V, V, V, V⟩, ⟨V, V, V, V, V, V, V, V, V, V, V, V, V, V,
    V, V, V, V, V, V, V, V, V, V, V, V, V, V, V, V, V, V⟩, ⟨V, V⟩⟩

/-- The first page of a group of the loop over the waits. -/
theorem grpW_val (k : ℕ) (hk : k < 32) : (Scalar.muli (Scf.iv 0#32 1#32 k) 16#32).toNat = 16 * k := by
  rw [show (0#32 : BitVec 32) = BitVec.ofNat 32 0 from rfl, iv_nat, muli_nat, toNat_nat (by omega)]; omega

/-- The side condition of the current sequence's length, at the waits. -/
theorem chk67_of (i : grid0.Coords) (v : BitVec 32) (hv : v.toNat ≤ 8192) : k0_chk67 i v := by
  have ok : (k0_t5_loop v).OK := by rw [t5_eq hv]; exact ok_nat (by omega) (by unfold ngOf; omega)
  have hs : (Scalar.remsi (BitVec.ofNat 32 (i 0).val) 2#32).toNat < 2 := by
    rw [slotCur _ (coord_lt i)]; omega
  refine ⟨ok, fun k => ?_, fun k h => ?_, Scf.rem_ok _ _, fun k => (Scf.rem_no_trip _ _ k).elim, fun k => (Scf.rem_no_trip _ _ k).elim⟩
  · have h := k.isLt.trans_le ((t5_trips hv).le.trans (ng_le hv))
    exact grp_inb (Scalar.remsi (BitVec.ofNat 32 (i 0).val) 2#32).toNat (Scalar.muli (Scf.iv 0#32 1#32 k.val) 16#32).toNat hs (by rw [grpW_val _ h]; omega)
  · exact grp_words (Scalar.remsi (BitVec.ofNat 32 (i 0).val) 2#32).toNat (Scalar.muli (Scf.iv 0#32 1#32 k.val) 16#32).toNat h

/-- The first page of a chunk. -/
theorem chunkW_val (k : ℕ) (hk : k < 4) : (Scalar.muli (Scf.iv 0#32 1#32 k) 128#32).toNat = 128 * k := by
  rw [show (0#32 : BitVec 32) = BitVec.ofNat 32 0 from rfl, iv_nat, muli_nat, toNat_nat (by omega)]; omega
/-- The first page of half a chunk. -/
theorem halfW_val (k : ℕ) (hk : k < 4) (r : Fin 2) :
    (Scalar.addi (Scalar.muli (Scf.iv 0#32 1#32 k) 128#32) (BitVec.ofNat 32 (64 * r.val))).toNat = 128 * k + 64 * r.val := by
  rw [show (0#32 : BitVec 32) = BitVec.ofNat 32 0 from rfl, iv_nat, muli_nat, addi_nat, toNat_nat (by omega)]; omega
/-- The first page of a chunk past the sequence. -/
theorem tailW_val {v : BitVec 32} (hv : v.toNat ≤ 8192) (k : ℕ) (hk : ncOf v.toNat + k < 4) :
    (Scalar.muli (Scf.iv (Scalar.divsi (Scalar.addi v 2047#32) 2048#32) 1#32 k) 128#32).toNat = 128 * (ncOf v.toNat + k) := by
  rw [nc_eq hv, iv_nat, muli_nat, toNat_nat (by omega)]; omega

/-- A tile of 64 pages of the buffer is in bounds. -/
theorem tile_inb (s w c h : ℕ) (hs : s < 2) (hw : w + 64 ≤ 512) (hc : c < 2) (hh : h ≤ 4) :
    ∀ a, (![s, w, c, h, 0] : Fin 5 → ℕ) a + S1x64x1x4x128.size a ≤ S2x512x2x8x128.size a := by
  intro a
  match a with
  | ⟨0, _⟩ => show s + 1 ≤ 2; omega
  | ⟨1, _⟩ => show w + 64 ≤ 512; omega
  | ⟨2, _⟩ => show c + 1 ≤ 2; omega
  | ⟨3, _⟩ => show h + 4 ≤ 8; omega
  | ⟨4, _⟩ => show 0 + 128 ≤ 128; omega
/-- Half a chunk of the output block is in bounds. -/
theorem out_inb (r w : ℕ) (hr : r ≤ 16) (hw : w + 128 ≤ 512) : ∀ a, (![0, r, w] : Fin 3 → ℕ) a + S1x16x128.size a ≤ S1x32x512.size a := by
  intro a
  match a with
  | ⟨0, _⟩ => show 0 + 1 ≤ 1; omega
  | ⟨1, _⟩ => show r + 16 ≤ 32; omega
  | ⟨2, _⟩ => show w + 128 ≤ 512; omega
/-- A chunk of the output block is in bounds. -/
theorem tail_inb (w : ℕ) (hw : w + 128 ≤ 512) : ∀ a, (![0, 0, w] : Fin 3 → ℕ) a + S1x32x128.size a ≤ S1x32x512.size a := by
  intro a
  match a with
  | ⟨0, _⟩ => show 0 + 1 ≤ 1; omega
  | ⟨1, _⟩ => show 0 + 32 ≤ 32; omega
  | ⟨2, _⟩ => show w + 128 ≤ 512; omega

/-- The side condition of the current sequence's length, at the chunks. -/
theorem chk68_of (i : grid0.Coords) (v : BitVec 32) (hv : v.toNat ≤ 8192) : k0_chk68 i v := by
  have ok : (k0_t7_loop v).OK := by rw [t7_eq hv]; exact ok_nat (by omega) (by unfold ncOf; omega)
  have ok9 : (k0_t9_loop v).OK := by rw [t9_eq hv]; exact ok_nat (by unfold ncOf; omega) (by omega)
  have hs : (Scalar.remsi (BitVec.ofNat 32 (i 0).val) 2#32).toNat < 2 := by
    rw [slotCur _ (coord_lt i)]; omega
  have h4 := fun k : Fin (k0_t7_loop v).trips => k.isLt.trans_le ((t7_trips hv).le.trans (nc_le hv))
  have h9 : ∀ k : Fin (k0_t9_loop v).trips, ncOf v.toNat + k.val < 4 := fun k => by
    have := k.isLt.trans_le (t9_trips hv).le
    omega
  have hw := fun (k : Fin (k0_t7_loop v).trips) (r : Fin 2) =>
    (show (Scalar.addi (Scalar.muli (Scf.iv 0#32 1#32 k.val) 128#32) (BitVec.ofNat 32 (64 * r.val))).toNat + 64 ≤ 512 by
      rw [halfW_val _ (h4 k)]; have := h4 k; omega)
  have hc := fun (k : Fin (k0_t7_loop v).trips) =>
    (show (Scalar.muli (Scf.iv 0#32 1#32 k.val) 128#32).toNat + 128 ≤ 512 by
      rw [chunkW_val _ (h4 k)]; have := h4 k; omega)
  refine ⟨ok, fun k => ?_, fun k r => tile_inb _ _ 0 0 hs (hw k r) (by decide) (by decide),
    fun k r => tile_inb _ _ 1 0 hs (hw k r) (by decide) (by decide), fun k => out_inb 0 _ (by decide) (hc k),
    fun k r => tile_inb _ _ 0 4 hs (hw k r) (by decide) (by decide), fun k r => tile_inb _ _ 1 4 hs (hw k r) (by decide) (by decide),
    fun k => out_inb 16 _ (by decide) (hc k), Scf.rem_ok _ _,
    fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim, ok9, fun k => ?_, Scf.rem_ok _ _, fun k => (Scf.rem_no_trip _ _ k).elim⟩
  · show 128 ∣ (Scalar.muli (Scf.iv 0#32 1#32 k.val) 128#32).toNat
    rw [chunkW_val _ (h4 k)]; omega
  · have := h9 k
    exact tail_inb (Scalar.muli (Scf.iv (Scalar.divsi (Scalar.addi v 2047#32) 2048#32) 1#32 k.val) 128#32).toNat
      (by rw [tailW_val hv _ (h9 k)]; omega)

/-- The side condition of a page read at the first grid point, -/
abbrev PageOK (c : Prop) (w : BitVec 32) : Prop :=
  (∀ (_ : c), ∀ a, (![w.toNat, 0, 0, 0] : Fin 4 → ℕ) a + S1x2x8x128.size a ≤ S61440x2x8x128.size a) ∧
  (∀ (_ : c), ∀ (hinb : ∀ a, (![w.toNat, 0, 0, 0] : Fin 4 → ℕ) a + S1x2x8x128.size a ≤ S61440x2x8x128.size a),
    (Rect.unit (s := S61440x2x8x128) ![w.toNat, 0, 0, 0] S1x2x8x128.size hinb).WholeWords (EltTy.packing .fp8e4m3))
/-- which every page below 61440 meets. -/
theorem pageOK (c : Prop) (w : BitVec 32) (hw : w.toNat < 61440) : PageOK c w :=
  ⟨fun _ => kv_inb _ hw, fun _ h => kv_words _ h⟩

end Cert.Kernel.Hand

end
-- ==== Proof.Twin.Unit.lean ====
/-
  One page copy of the kernel — the read of the page's number, the check of it, the start of the copy — as one program and
  one rule, and the two loop bodies that issue sixteen of them as sixteen of that program in a row.
-/
module

public import proofs.«01_k».proof.Proof.Twin.Checks

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The program of one page copy followed by `k`. -/
abbrev unitP (o1 : Fin 2 → ℕ) (hb1 : ∀ a, o1 a + S1x1.size a ≤ S96x512.size a)
    (o2 : Fin 5 → ℕ) (hb2 : ∀ a, o2 a + S1x1x2x8x128.size a ≤ S2x512x2x8x128.size a) (hw2 : (dstM o2 hb2).view.WordExact)
    (sm : DmaSem sig) (chk : BitVec 32 → Prop) (dec : ∀ v, Decidable (chk v)) (o3 : BitVec 32 → Fin 4 → ℕ)
    (hb3 : ∀ v, chk v → ∀ a, o3 v a + S1x2x8x128.size a ≤ S61440x2x8x128.size a)
    (hw3 : ∀ v (h : chk v), (srcM (o3 v) (hb3 v h)).view.WordExact)
    (k : Prog (TpuEff nD τ sig (Elt F) Λ₀ .tc) (BitVec 32)) : Prog (TpuEff nD τ sig (Elt F) Λ₀ .tc) (BitVec 32) :=
  smemLoadElt tbM (Rect.unit (s := S96x512) o1 S1x1.size hb1) (View.loads_smem_one rfl numel1_S1x1)
    (Shape.Idx.first (numel1_S1x1.symm ▸ Nat.one_pos)) fun v =>
      .op (.assume (chk v) (dec v)) fun h =>
        .op (.enqueueDma (srcM (o3 v) (hb3 v h.down)) (.here (dstM o2 hb2)) (.dma sm) (hw3 v h.down) hw2 ⟨Or.inl rfl, trivial⟩) fun _ => k

/-- A page copy credits 256 units, -/
theorem page_credit (o2 : Fin 5 → ℕ) (hb2) : (dstM o2 hb2).view.dmaCredit = 256 := by
  show RefSig.tileCredit S2x8x128 .fp8e4m3 = 256
  decide
/-- and a wait for sixteen pages takes sixteen times as many. -/
theorem group_credit : RefSig.tileCredit S16x2x8x128 .fp8e4m3 = 16 * 256 := by
  decide

/-- A word of the page table the kernel reads, by its offsets. -/
theorem tb_read (TB : IVec S96x512 32) (r p : ℕ) (o1 : Fin 2 → ℕ) (hb1 : ∀ a, o1 a + S1x1.size a ≤ S96x512.size a) (ho : o1 = ![r, p])
    (hr : r < 96) (hp : p < 512) (x) :
    (tbM.access (Rect.unit (s := S96x512) o1 S1x1.size hb1)).read (Elt F) TB x = TB (ix2 ⟨r, hr⟩ ⟨p, hp⟩) := by
  subst ho
  show TB ((Rect.unit (s := S96x512) ![r, p] S1x1.size hb1).emb x) = _
  have hx : x = (ix2 (0 : Fin 1) (0 : Fin 1) : S1x1.Idx) := by
    have e := eq_ix2 (show S1x1.Idx from x)
    rw [Subsingleton.elim (α := Fin 1) ((show S1x1.Idx from x) 0) 0, Subsingleton.elim (α := Fin 1) ((show S1x1.Idx from x) 1) 0] at e
    exact e
  subst hx
  congr 1
  funext a
  apply Fin.ext
  match a with
  | ⟨0, _⟩ => simp [Rect.emb, Rect.unit, ix2]
  | ⟨1, _⟩ => simp [Rect.emb, Rect.unit, ix2]

/-- The first semaphore of the pair, as the first grid point names it. -/
abbrev sem0 : DmaSem sig := ((cc0_scratch1.slice (Rect.unit (s := S2) ![0] S1.size inb_S2_S1_0)).squeeze S_ squeezes_S1_S_).sem

/-- A semaphore of the pair, by its offset. -/
abbrev semAt (o : Fin 1 → ℕ) (hb : ∀ a, o a + S1.size a ≤ S2.size a) : DmaSem sig :=
  ((cc0_scratch1.slice (Rect.unit (s := S2) o S1.size hb)).squeeze S_ squeezes_S1_S_).sem

set_option maxHeartbeats 8000000 in
/-- The first sequence's loop issues sixteen page copies a trip. -/
theorem t1_body_eq (i : grid0.Coords) (a3) (h3) (a4) (h4) (a6) (h6) (hbw : bufM.IsWhole) (hkw : kvM.IsWhole) (ht hl) (h : k0_cond1 i = 1#1) (v : BitVec 32) (hc1 : k0_chk1 i v)
    (k : Fin (k0_t1_loop v).trips) (x : BitVec 32) :
    k0_t1_body (F := F) i tbM ht lnM hl a3 h3 a4 h4 kvM hkw a6 h6 bufM hbw cc0_scratch1 h v hc1 k x =
      (unitP (k0_off1 v k) (k0_off1_inb i v hc1 k h) (k0_off2 v k) (k0_off2_inb i v hc1 k h)
      ((hbw.wordExact_slice rfl _ (k0_off2_wordsfp8e4m3 i v hc1 k h)).reshape _ _) sem0
      (k0_chk2 i) (k0_chk2.dec i) k0_off3 (fun w hc => k0_off3_inb i w hc h)
      (fun w hc => (hkw.wordExact_slice rfl _ (k0_off3_wordsfp8e4m3 i w hc h)).reshape _ _) <|
      unitP (k0_off4 v k) (k0_off4_inb i v hc1 k h) (k0_off5 v k) (k0_off5_inb i v hc1 k h)
      ((hbw.wordExact_slice rfl _ (k0_off5_wordsfp8e4m3 i v hc1 k h)).reshape _ _) sem0
      (k0_chk3 i) (k0_chk3.dec i) k0_off6 (fun w hc => k0_off6_inb i w hc h)
      (fun w hc => (hkw.wordExact_slice rfl _ (k0_off6_wordsfp8e4m3 i w hc h)).reshape _ _) <|
      unitP (k0_off7 v k) (k0_off7_inb i v hc1 k h) (k0_off8 v k) (k0_off8_inb i v hc1 k h)
      ((hbw.wordExact_slice rfl _ (k0_off8_wordsfp8e4m3 i v hc1 k h)).reshape _ _) sem0
      (k0_chk4 i) (k0_chk4.dec i) k0_off9 (fun w hc => k0_off9_inb i w hc h)
      (fun w hc => (hkw.wordExact_slice rfl _ (k0_off9_wordsfp8e4m3 i w hc h)).reshape _ _) <|
      unitP (k0_off10 v k) (k0_off10_inb i v hc1 k h) (k0_off11 v k) (k0_off11_inb i v hc1 k h)
      ((hbw.wordExact_slice rfl _ (k0_off11_wordsfp8e4m3 i v hc1 k h)).reshape _ _) sem0
      (k0_chk5 i) (k0_chk5.dec i) k0_off12 (fun w hc => k0_off12_inb i w hc h)
      (fun w hc => (hkw.wordExact_slice rfl _ (k0_off12_wordsfp8e4m3 i w hc h)).reshape _ _) <|
      unitP (k0_off13 v k) (k0_off13_inb i v hc1 k h) (k0_off14 v k) (k0_off14_inb i v hc1 k h)
      ((hbw.wordExact_slice rfl _ (k0_off14_wordsfp8e4m3 i v hc1 k h)).reshape _ _) sem0
      (k0_chk6 i) (k0_chk6.dec i) k0_off15 (fun w hc => k0_off15_inb i w hc h)
      (fun w hc => (hkw.wordExact_slice rfl _ (k0_off15_wordsfp8e4m3 i w hc h)).reshape _ _) <|
      unitP (k0_off16 v k) (k0_off16_inb i v hc1 k h) (k0_off17 v k) (k0_off17_inb i v hc1 k h)
      ((hbw.wordExact_slice rfl _ (k0_off17_wordsfp8e4m3 i v hc1 k h)).reshape _ _) sem0
      (k0_chk7 i) (k0_chk7.dec i) k0_off18 (fun w hc => k0_off18_inb i w hc h)
      (fun w hc => (hkw.wordExact_slice rfl _ (k0_off18_wordsfp8e4m3 i w hc h)).reshape _ _) <|
      unitP (k0_off19 v k) (k0_off19_inb i v hc1 k h) (k0_off20 v k) (k0_off20_inb i v hc1 k h)
      ((hbw.wordExact_slice rfl _ (k0_off20_wordsfp8e4m3 i v hc1 k h)).reshape _ _) sem0
      (k0_chk8 i) (k0_chk8.dec i) k0_off21 (fun w hc => k0_off21_inb i w hc h)
      (fun w hc => (hkw.wordExact_slice rfl _ (k0_off21_wordsfp8e4m3 i w hc h)).reshape _ _) <|
      unitP (k0_off22 v k) (k0_off22_inb i v hc1 k h) (k0_off23 v k) (k0_off23_inb i v hc1 k h)
      ((hbw.wordExact_slice rfl _ (k0_off23_wordsfp8e4m3 i v hc1 k h)).reshape _ _) sem0
      (k0_chk9 i) (k0_chk9.dec i) k0_off24 (fun w hc => k0_off24_inb i w hc h)
      (fun w hc => (hkw.wordExact_slice rfl _ (k0_off24_wordsfp8e4m3 i w hc h)).reshape _ _) <|
      unitP (k0_off25 v k) (k0_off25_inb i v hc1 k h) (k0_off26 v k) (k0_off26_inb i v hc1 k h)
      ((hbw.wordExact_slice rfl _ (k0_off26_wordsfp8e4m3 i v hc1 k h)).reshape _ _) sem0
      (k0_chk10 i) (k0_chk10.dec i) k0_off27 (fun w hc => k0_off27_inb i w hc h)
      (fun w hc => (hkw.wordExact_slice rfl _ (k0_off27_wordsfp8e4m3 i w hc h)).reshape _ _) <|
      unitP (k0_off28 v k) (k0_off28_inb i v hc1 k h) (k0_off29 v k) (k0_off29_inb i v hc1 k h)
      ((hbw.wordExact_slice rfl _ (k0_off29_wordsfp8e4m3 i v hc1 k h)).reshape _ _) sem0
      (k0_chk11 i) (k0_chk11.dec i) k0_off30 (fun w hc => k0_off30_inb i w hc h)
      (fun w hc => (hkw.wordExact_slice rfl _ (k0_off30_wordsfp8e4m3 i w hc h)).reshape _ _) <|
      unitP (k0_off31 v k) (k0_off31_inb i v hc1 k h) (k0_off32 v k) (k0_off32_inb i v hc1 k h)
      ((hbw.wordExact_slice rfl _ (k0_off32_wordsfp8e4m3 i v hc1 k h)).reshape _ _) sem0
      (k0_chk12 i) (k0_chk12.dec i) k0_off33 (fun w hc => k0_off33_inb i w hc h)
      (fun w hc => (hkw.wordExact_slice rfl _ (k0_off33_wordsfp8e4m3 i w hc h)).reshape _ _) <|
      unitP (k0_off34 v k) (k0_off34_inb i v hc1 k h) (k0_off35 v k) (k0_off35_inb i v hc1 k h)
      ((hbw.wordExact_slice rfl _ (k0_off35_wordsfp8e4m3 i v hc1 k h)).reshape _ _) sem0
      (k0_chk13 i) (k0_chk13.dec i) k0_off36 (fun w hc => k0_off36_inb i w hc h)
      (fun w hc => (hkw.wordExact_slice rfl _ (k0_off36_wordsfp8e4m3 i w hc h)).reshape _ _) <|
      unitP (k0_off37 v k) (k0_off37_inb i v hc1 k h) (k0_off38 v k) (k0_off38_inb i v hc1 k h)
      ((hbw.wordExact_slice rfl _ (k0_off38_wordsfp8e4m3 i v hc1 k h)).reshape _ _) sem0
      (k0_chk14 i) (k0_chk14.dec i) k0_off39 (fun w hc => k0_off39_inb i w hc h)
      (fun w hc => (hkw.wordExact_slice rfl _ (k0_off39_wordsfp8e4m3 i w hc h)).reshape _ _) <|
      unitP (k0_off40 v k) (k0_off40_inb i v hc1 k h) (k0_off41 v k) (k0_off41_inb i v hc1 k h)
      ((hbw.wordExact_slice rfl _ (k0_off41_wordsfp8e4m3 i v hc1 k h)).reshape _ _) sem0
      (k0_chk15 i) (k0_chk15.dec i) k0_off42 (fun w hc => k0_off42_inb i w hc h)
      (fun w hc => (hkw.wordExact_slice rfl _ (k0_off42_wordsfp8e4m3 i w hc h)).reshape _ _) <|
      unitP (k0_off43 v k) (k0_off43_inb i v hc1 k h) (k0_off44 v k) (k0_off44_inb i v hc1 k h)
      ((hbw.wordExact_slice rfl _ (k0_off44_wordsfp8e4m3 i v hc1 k h)).reshape _ _) sem0
      (k0_chk16 i) (k0_chk16.dec i) k0_off45 (fun w hc => k0_off45_inb i w hc h)
      (fun w hc => (hkw.wordExact_slice rfl _ (k0_off45_wordsfp8e4m3 i w hc h)).reshape _ _) <|
      unitP (k0_off46 v k) (k0_off46_inb i v hc1 k h) (k0_off47 v k) (k0_off47_inb i v hc1 k h)
      ((hbw.wordExact_slice rfl _ (k0_off47_wordsfp8e4m3 i v hc1 k h)).reshape _ _) sem0
      (k0_chk17 i) (k0_chk17.dec i) k0_off48 (fun w hc => k0_off48_inb i w hc h)
      (fun w hc => (hkw.wordExact_slice rfl _ (k0_off48_wordsfp8e4m3 i w hc h)).reshape _ _) <|
      .ret 0#32) := rfl

set_option maxHeartbeats 8000000 in
/-- The next sequence's loop issues sixteen page copies a trip. -/
theorem t3_body_eq (i : grid0.Coords) (a3) (h3) (a4) (h4) (a6) (h6) (hbw : bufM.IsWhole) (hkw : kvM.IsWhole) (ht hl) (h : k0_cond2 i = 1#1) (v : BitVec 32) (hc : k0_chk34 i v)
    (k : Fin (k0_t3_loop v).trips) (x : BitVec 32) :
    k0_t3_body (F := F) i tbM ht lnM hl a3 h3 a4 h4 kvM hkw a6 h6 bufM hbw cc0_scratch1 h (Scalar.addi (BitVec.ofNat 32 (i 0).val) 1#32) v hc k x =
      (unitP (k0_off98 i v k) (k0_off98_inb i v hc k h) (k0_off100 i v k) (k0_off100_inb i v hc k h)
      ((hbw.wordExact_slice rfl _ (k0_off100_wordsfp8e4m3 i v hc k h)).reshape _ _) (semAt (k0_off99 i) (k0_off99_inb i h))
      (k0_chk35 i) (k0_chk35.dec i) k0_off101 (fun w hc' => k0_off101_inb i w hc' h)
      (fun w hc' => (hkw.wordExact_slice rfl _ (k0_off101_wordsfp8e4m3 i w hc' h)).reshape _ _) <|
      unitP (k0_off102 i v k) (k0_off102_inb i v hc k h) (k0_off104 i v k) (k0_off104_inb i v hc k h)
      ((hbw.wordExact_slice rfl _ (k0_off104_wordsfp8e4m3 i v hc k h)).reshape _ _) (semAt (k0_off103 i) (k0_off103_inb i h))
      (k0_chk36 i) (k0_chk36.dec i) k0_off105 (fun w hc' => k0_off105_inb i w hc' h)
      (fun w hc' => (hkw.wordExact_slice rfl _ (k0_off105_wordsfp8e4m3 i w hc' h)).reshape _ _) <|
      unitP (k0_off106 i v k) (k0_off106_inb i v hc k h) (k0_off108 i v k) (k0_off108_inb i v hc k h)
      ((hbw.wordExact_slice rfl _ (k0_off108_wordsfp8e4m3 i v hc k h)).reshape _ _) (semAt (k0_off107 i) (k0_off107_inb i h))
      (k0_chk37 i) (k0_chk37.dec i) k0_off109 (fun w hc' => k0_off109_inb i w hc' h)
      (fun w hc' => (hkw.wordExact_slice rfl _ (k0_off109_wordsfp8e4m3 i w hc' h)).reshape _ _) <|
      unitP (k0_off110 i v k) (k0_off110_inb i v hc k h) (k0_off112 i v k) (k0_off112_inb i v hc k h)
      ((hbw.wordExact_slice rfl _ (k0_off112_wordsfp8e4m3 i v hc k h)).reshape _ _) (semAt (k0_off111 i) (k0_off111_inb i h))
      (k0_chk38 i) (k0_chk38.dec i) k0_off113 (fun w hc' => k0_off113_inb i w hc' h)
      (fun w hc' => (hkw.wordExact_slice rfl _ (k0_off113_wordsfp8e4m3 i w hc' h)).reshape _ _) <|
      unitP (k0_off114 i v k) (k0_off114_inb i v hc k h) (k0_off116 i v k) (k0_off116_inb i v hc k h)
      ((hbw.wordExact_slice rfl _ (k0_off116_wordsfp8e4m3 i v hc k h)).reshape _ _) (semAt (k0_off115 i) (k0_off115_inb i h))
      (k0_chk39 i) (k0_chk39.dec i) k0_off117 (fun w hc' => k0_off117_inb i w hc' h)
      (fun w hc' => (hkw.wordExact_slice rfl _ (k0_off117_wordsfp8e4m3 i w hc' h)).reshape _ _) <|
      unitP (k0_off118 i v k) (k0_off118_inb i v hc k h) (k0_off120 i v k) (k0_off120_inb i v hc k h)
      ((hbw.wordExact_slice rfl _ (k0_off120_wordsfp8e4m3 i v hc k h)).reshape _ _) (semAt (k0_off119 i) (k0_off119_inb i h))
      (k0_chk40 i) (k0_chk40.dec i) k0_off121 (fun w hc' => k0_off121_inb i w hc' h)
      (fun w hc' => (hkw.wordExact_slice rfl _ (k0_off121_wordsfp8e4m3 i w hc' h)).reshape _ _) <|
      unitP (k0_off122 i v k) (k0_off122_inb i v hc k h) (k0_off124 i v k) (k0_off124_inb i v hc k h)
      ((hbw.wordExact_slice rfl _ (k0_off124_wordsfp8e4m3 i v hc k h)).reshape _ _) (semAt (k0_off123 i) (k0_off123_inb i h))
      (k0_chk41 i) (k0_chk41.dec i) k0_off125 (fun w hc' => k0_off125_inb i w hc' h)
      (fun w hc' => (hkw.wordExact_slice rfl _ (k0_off125_wordsfp8e4m3 i w hc' h)).reshape _ _) <|
      unitP (k0_off126 i v k) (k0_off126_inb i v hc k h) (k0_off128 i v k) (k0_off128_inb i v hc k h)
      ((hbw.wordExact_slice rfl _ (k0_off128_wordsfp8e4m3 i v hc k h)).reshape _ _) (semAt (k0_off127 i) (k0_off127_inb i h))
      (k0_chk42 i) (k0_chk42.dec i) k0_off129 (fun w hc' => k0_off129_inb i w hc' h)
      (fun w hc' => (hkw.wordExact_slice rfl _ (k0_off129_wordsfp8e4m3 i w hc' h)).reshape _ _) <|
      unitP (k0_off130 i v k) (k0_off130_inb i v hc k h) (k0_off132 i v k) (k0_off132_inb i v hc k h)
      ((hbw.wordExact_slice rfl _ (k0_off132_wordsfp8e4m3 i v hc k h)).reshape _ _) (semAt (k0_off131 i) (k0_off131_inb i h))
      (k0_chk43 i) (k0_chk43.dec i) k0_off133 (fun w hc' => k0_off133_inb i w hc' h)
      (fun w hc' => (hkw.wordExact_slice rfl _ (k0_off133_wordsfp8e4m3 i w hc' h)).reshape _ _) <|
      unitP (k0_off134 i v k) (k0_off134_inb i v hc k h) (k0_off136 i v k) (k0_off136_inb i v hc k h)
      ((hbw.wordExact_slice rfl _ (k0_off136_wordsfp8e4m3 i v hc k h)).reshape _ _) (semAt (k0_off135 i) (k0_off135_inb i h))
      (k0_chk44 i) (k0_chk44.dec i) k0_off137 (fun w hc' => k0_off137_inb i w hc' h)
      (fun w hc' => (hkw.wordExact_slice rfl _ (k0_off137_wordsfp8e4m3 i w hc' h)).reshape _ _) <|
      unitP (k0_off138 i v k) (k0_off138_inb i v hc k h) (k0_off140 i v k) (k0_off140_inb i v hc k h)
      ((hbw.wordExact_slice rfl _ (k0_off140_wordsfp8e4m3 i v hc k h)).reshape _ _) (semAt (k0_off139 i) (k0_off139_inb i h))
      (k0_chk45 i) (k0_chk45.dec i) k0_off141 (fun w hc' => k0_off141_inb i w hc' h)
      (fun w hc' => (hkw.wordExact_slice rfl _ (k0_off141_wordsfp8e4m3 i w hc' h)).reshape _ _) <|
      unitP (k0_off142 i v k) (k0_off142_inb i v hc k h) (k0_off144 i v k) (k0_off144_inb i v hc k h)
      ((hbw.wordExact_slice rfl _ (k0_off144_wordsfp8e4m3 i v hc k h)).reshape _ _) (semAt (k0_off143 i) (k0_off143_inb i h))
      (k0_chk46 i) (k0_chk46.dec i) k0_off145 (fun w hc' => k0_off145_inb i w hc' h)
      (fun w hc' => (hkw.wordExact_slice rfl _ (k0_off145_wordsfp8e4m3 i w hc' h)).reshape _ _) <|
      unitP (k0_off146 i v k) (k0_off146_inb i v hc k h) (k0_off148 i v k) (k0_off148_inb i v hc k h)
      ((hbw.wordExact_slice rfl _ (k0_off148_wordsfp8e4m3 i v hc k h)).reshape _ _) (semAt (k0_off147 i) (k0_off147_inb i h))
      (k0_chk47 i) (k0_chk47.dec i) k0_off149 (fun w hc' => k0_off149_inb i w hc' h)
      (fun w hc' => (hkw.wordExact_slice rfl _ (k0_off149_wordsfp8e4m3 i w hc' h)).reshape _ _) <|
      unitP (k0_off150 i v k) (k0_off150_inb i v hc k h) (k0_off152 i v k) (k0_off152_inb i v hc k h)
      ((hbw.wordExact_slice rfl _ (k0_off152_wordsfp8e4m3 i v hc k h)).reshape _ _) (semAt (k0_off151 i) (k0_off151_inb i h))
      (k0_chk48 i) (k0_chk48.dec i) k0_off153 (fun w hc' => k0_off153_inb i w hc' h)
      (fun w hc' => (hkw.wordExact_slice rfl _ (k0_off153_wordsfp8e4m3 i w hc' h)).reshape _ _) <|
      unitP (k0_off154 i v k) (k0_off154_inb i v hc k h) (k0_off156 i v k) (k0_off156_inb i v hc k h)
      ((hbw.wordExact_slice rfl _ (k0_off156_wordsfp8e4m3 i v hc k h)).reshape _ _) (semAt (k0_off155 i) (k0_off155_inb i h))
      (k0_chk49 i) (k0_chk49.dec i) k0_off157 (fun w hc' => k0_off157_inb i w hc' h)
      (fun w hc' => (hkw.wordExact_slice rfl _ (k0_off157_wordsfp8e4m3 i w hc' h)).reshape _ _) <|
      unitP (k0_off158 i v k) (k0_off158_inb i v hc k h) (k0_off160 i v k) (k0_off160_inb i v hc k h)
      ((hbw.wordExact_slice rfl _ (k0_off160_wordsfp8e4m3 i v hc k h)).reshape _ _) (semAt (k0_off159 i) (k0_off159_inb i h))
      (k0_chk50 i) (k0_chk50.dec i) k0_off161 (fun w hc' => k0_off161_inb i w hc' h)
      (fun w hc' => (hkw.wordExact_slice rfl _ (k0_off161_wordsfp8e4m3 i w hc' h)).reshape _ _) <|
      .ret 0#32) := rfl

end Cert.Kernel.Hand

end
-- ==== Proof.Twin.Issue.lean ====
/-
  The rule of one page copy: a slot's copies are one batch on the slot's semaphore, of which copy `j` takes a share of page
  `P j` of the page array and the whole of page `j` of the slot, and hands both back with the page filled.
-/
module

public import proofs.«01_k».proof.Proof.Twin.Unit

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters of the batches, in the machine's resources. -/
abbrev EC : UEmb Counters (MT nD τ sig Unit (Elt F) ℕ (Pipeline.UD sig nD τ) ℕ) := countersEmb (U := Pipeline.UD sig nD τ)

/-- Page `p` of sequence `r`, by the page table. -/
def pgOf (TB : IVec S96x512 32) (r p : ℕ) : ℕ :=
  if h : r < 96 ∧ p < 512 then (TB (ix2 ⟨r, h.1⟩ ⟨p, h.2⟩)).toNat else 0

/-- Every page of the table is one of the pool's. -/
abbrev InPool (TB : IVec S96x512 32) : Prop := ∀ j, (TB j).toNat < 61440

/-- so is every page of a sequence. -/
theorem pgOf_lt {TB : IVec S96x512 32} (h : InPool TB) (r p : ℕ) : pgOf TB r p < 61440 := by
  unfold pgOf; split
  · exact h _
  · omega

/-- What copy `t` takes: a share of its page of the array, its page of the slot. -/
def need (c : Dev nD) (KV : Vec F S61440x2x8x128 .fp8e4m3) (f0 : Vec F S2x512x2x8x128 .fp8e4m3) (q : PosShare TreeShare)
    (s n : ℕ) (P : ℕ → ℕ) (t : Fin n) : sProp 𝕄 :=
  iprop((kvM.view.loc (c : Thread nD τ) ↦[kvSet (P t.val)]{shareTok q n t} KV)
    ∗ (bufM.view.loc (c : Thread nD τ) ↦[pageSet s t.val]{fullShare} f0))

/-- What copy `t` hands back: the same, the page of the slot filled. -/
def done (c : Dev nD) (KV : Vec F S61440x2x8x128 .fp8e4m3) (q : PosShare TreeShare)
    (s n : ℕ) (P : ℕ → ℕ) (hP : ∀ p, P p < 61440) (t : Fin n) : sProp 𝕄 :=
  iprop((kvM.view.loc (c : Thread nD τ) ↦[kvSet (P t.val)]{shareTok q n t} KV)
    ∗ (bufM.view.loc (c : Thread nD τ) ↦[pageSet s t.val]{fullShare} gath KV P hP))

instance storable_done (c : Dev nD) (KV : Vec F S61440x2x8x128 .fp8e4m3) (q : PosShare TreeShare) (s n : ℕ) (P : ℕ → ℕ) (hP) (t : Fin n) :
    Storable (upEmb : UEmb _ 𝕄) (done c KV q s n P hP t) := by unfold done; infer_instance

/-- The state of a slot's copies with the first `j` of `n` started. -/
def started (c : Dev nD) (KV : Vec F S61440x2x8x128 .fp8e4m3) (f0 : Vec F S2x512x2x8x128 .fp8e4m3) (q : PosShare TreeShare)
    (s n : ℕ) (P : ℕ → ℕ) (hP : ∀ p, P p < 61440) (sm : DmaSem sig) (j : ℕ) : sProp 𝕄 :=
  iprop(Batch EC (c : Thread nD τ) (.dma sm) () 256 (done c KV q s n P hP) j 0 ∗ bigSep (pending j) (need c KV f0 q s n P))

/-- What a finished copy leaves is what copy `j` hands back. -/
theorem done_of (c : Dev nD) (KV : Vec F S61440x2x8x128 .fp8e4m3) (f0 : Vec F S2x512x2x8x128 .fp8e4m3) {q : PosShare TreeShare} (q' : PosShare TreeShare)
    (s n j : ℕ) (P : ℕ → ℕ) (hP : ∀ p, P p < 61440) (hs : s < 2) (hj : j < n) (hp : j < 512) (hq : shareTok q n ⟨j, hj⟩ = q')
    (o2 : Fin 5 → ℕ) (hb2) (ho2 : o2 = ![s, j, 0, 0, 0]) (o3 : Fin 4 → ℕ) (hb3) (ho3 : o3 = ![P j, 0, 0, 0]) :
    iprop(((dstM o2 hb2).view.loc (c : Thread nD τ) ↦[pageSet s j]{fullShare}
          ((dstM o2 hb2).view.write (Elt F) f0 ((srcM o3 hb3).view.read (Elt F) KV) Finset.univ))
        ∗ ((srcM o3 hb3).view.loc (c : Thread nD τ) ↦[(srcM o3 hb3).view.set]{q'} KV))
      ⊢ (done c KV q s n P hP ⟨j, hj⟩ : sProp 𝕄) := by
  subst hq
  have hsrc := src_set o3 hb3 (P j) ho3 (hP j)
  have hc := fun x hx => copied KV f0 P hP o2 hb2 s j ho2 hs hp o3 hb3 ho3 x hx
  unfold done
  rw [hsrc, pointsTo_congr hc]
  exact sep_comm.1

/-- One page copy starts copy `j` of its slot's batch. -/
theorem unit_wp (c : Dev nD) (TB : IVec S96x512 32) (hTB : InPool TB) (KV : Vec F S61440x2x8x128 .fp8e4m3)
    (f0 : Vec F S2x512x2x8x128 .fp8e4m3) (q qt : PosShare TreeShare) (s r n j : ℕ) (hs : s < 2) (hr : r < 96) (hj : j < n) (hp : j < 512)
    (o1 : Fin 2 → ℕ) (hb1) (ho1 : o1 = ![r, j]) (o2 : Fin 5 → ℕ) (hb2) (hw2) (ho2 : o2 = ![s, j, 0, 0, 0])
    (sm : DmaSem sig) (chk : BitVec 32 → Prop) (dec : ∀ v, Decidable (chk v)) (hchk : ∀ v, v.toNat < 61440 → chk v)
    (o3 : BitVec 32 → Fin 4 → ℕ) (hb3) (hw3) (ho3 : ∀ v, o3 v = ![v.toNat, 0, 0, 0])
    (k : Prog (TpuEff nD τ sig (Elt F) Λ₀ .tc) (BitVec 32)) (Q : BitVec 32 → sProp 𝕄) :
    iprop((tbM.view.loc (c : Thread nD τ) ↦[Finset.univ]{qt} TB) ∗ started c KV f0 q s n (pgOf TB r) (pgOf_lt hTB r) sm j
        ∗ ((tbM.view.loc (c : Thread nD τ) ↦[Finset.univ]{qt} TB) -∗ started c KV f0 q s n (pgOf TB r) (pgOf_lt hTB r) sm (j + 1)
            -∗ wp frame (wpE (defs₀ (F := F)) Variants.none (c : Thread nD τ) none) Set.univ k Q))
      ⊢ wp frame (wpE (defs₀ (F := F)) Variants.none (c : Thread nD τ) none) Set.univ
          (unitP o1 hb1 o2 hb2 hw2 sm chk dec o3 hb3 hw3 k) Q := by
  have hw : ∀ x, (tbM.access (Rect.unit (s := S96x512) o1 S1x1.size hb1)).read (Elt F) TB x = TB (ix2 ⟨r, hr⟩ ⟨j, hp⟩) :=
    tb_read TB r j o1 hb1 ho1 hr hp
  have hpg : pgOf TB r j = (TB (ix2 ⟨r, hr⟩ ⟨j, hp⟩)).toNat := by unfold pgOf; rw [dif_pos ⟨hr, hp⟩]
  have hsrc := src_set (o3 (TB (ix2 ⟨r, hr⟩ ⟨j, hp⟩))) (hb3 _ (hchk _ (hTB _))) (pgOf TB r j) (by rw [ho3, hpg]) (pgOf_lt hTB r j)
  have hD := done_of c KV f0 (shareTok q n ⟨j, hj⟩) s n j (pgOf TB r) (pgOf_lt hTB r) hs hj hp rfl o2 hb2 ho2
    (o3 (TB (ix2 ⟨r, hr⟩ ⟨j, hp⟩))) (hb3 _ (hchk _ (hTB _))) (by rw [ho3, hpg])
  have hs' : (kvM.view.loc (c : Thread nD τ) ↦[kvSet (pgOf TB r j)]{shareTok q n ⟨j, hj⟩} KV : sProp 𝕄)
      ⊢ ((srcM (o3 (TB (ix2 ⟨r, hr⟩ ⟨j, hp⟩))) (hb3 _ (hchk _ (hTB _)))).view.loc (c : Thread nD τ)
          ↦[(srcM (o3 (TB (ix2 ⟨r, hr⟩ ⟨j, hp⟩))) (hb3 _ (hchk _ (hTB _)))).view.set]{shareTok q n ⟨j, hj⟩} KV) := by
    rw [hsrc]
  have hstep := wp_dmaBatch EC Variants.none (c : Thread nD τ) none () 256 (page_credit o2 hb2)
    (src := srcM (o3 (TB (ix2 ⟨r, hr⟩ ⟨j, hp⟩))) (hb3 _ (hchk _ (hTB _)))) (dst := dstM o2 hb2) (sm := .dma sm)
    (via := .same) (hsrc := hw3 _ (hchk _ (hTB _))) (hdst := hw2) (hsem := ⟨Or.inl rfl, trivial⟩) (k := fun _ => k) (Q := Q) (defs := defs₀ (F := F)) (u := 0)
    (Sd := pageSet s j) (D := done c KV q s n (pgOf TB r) (pgOf_lt hTB r)) (fs := KV) (fd := f0) (q := shareTok q n ⟨j, hj⟩)
    (dst_set o2 hb2 s j ho2 hs hp).le hj (Nat.zero_le _) hD
  unfold started
  rw [bigSep_pending_step _ j hj]
  unfold need
  iintro ⟨Ht, ⟨HB, ⟨Hs, Hd⟩, Hn⟩, Hk⟩
  iapply (wp_smemLoadElt Variants.none (c : Thread nD τ) none Set.univ (m := tbM) (r := Rect.unit (s := S96x512) o1 S1x1.size hb1)
    (S := Finset.univ) (q := qt) (f := TB) (Finset.subset_univ _)) $$ Ht
  iintro Ht
  rw [hw]
  iapply (wp_assume Variants.none (c : Thread nD τ) none Set.univ (hchk _ (hTB _)))
  iapply hstep $$ [Hs Hd HB]
  · isplitl [Hs]
    · iapply hs' $$ Hs
    · isplitl [Hd]
      · iexact Hd
      · iexact HB
  · iintro HB
    iapply Hk $$ Ht
    isplitl [HB]
    · iexact HB
    · iexact Hn

end Cert.Kernel.Hand

end
-- ==== Proof.Twin.IssueLoops.lean ====
/-
  The two loops that start the page copies of one sequence: sixteen a trip, one trip for every sixteen pages.
-/
module

public import proofs.«01_k».proof.Proof.Twin.Issue

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One page copy of a group, the rest of the program after it. -/
theorem unit_step (c : Dev nD) (TB : IVec S96x512 32) (hTB : InPool TB) (KV : Vec F S61440x2x8x128 .fp8e4m3)
    (f0 : Vec F S2x512x2x8x128 .fp8e4m3) (q qt : PosShare TreeShare) (s r n k u : ℕ) (hs : s < 2) (hr : r < 96) (hk : k < 32) (hn : 16 * k + 16 ≤ n)
    (s' r' : ℕ) (hs' : s' = s) (hr' : r' = r)
    (o1 : Fin 2 → ℕ) (hb1) (ho1 : o1 = ![r', (pgW k u).toNat]) (o2 : Fin 5 → ℕ) (hb2) (hw2) (ho2 : o2 = ![s', (pgW k u).toNat, 0, 0, 0])
    (sm : DmaSem sig) (chk : BitVec 32 → Prop) (dec : ∀ v, Decidable (chk v)) (hchk : ∀ v, v.toNat < 61440 → chk v)
    (o3 : BitVec 32 → Fin 4 → ℕ) (hb3) (hw3) (ho3 : ∀ v, o3 v = ![v.toNat, 0, 0, 0]) (hu : u < 16)
    (p : Prog (TpuEff nD τ sig (Elt F) Λ₀ .tc) (BitVec 32)) (Q : BitVec 32 → sProp 𝕄) (R : sProp 𝕄)
    (h : iprop((tbM.view.loc (c : Thread nD τ) ↦[Finset.univ]{qt} TB) ∗ started c KV f0 q s n (pgOf TB r) (pgOf_lt hTB r) sm (16 * k + (u + 1)) ∗ R)
      ⊢ wp frame (wpE (defs₀ (F := F)) Variants.none (c : Thread nD τ) none) Set.univ p Q) :
    iprop((tbM.view.loc (c : Thread nD τ) ↦[Finset.univ]{qt} TB) ∗ started c KV f0 q s n (pgOf TB r) (pgOf_lt hTB r) sm (16 * k + u) ∗ R)
      ⊢ wp frame (wpE (defs₀ (F := F)) Variants.none (c : Thread nD τ) none) Set.univ
          (unitP o1 hb1 o2 hb2 hw2 sm chk dec o3 hb3 hw3 p) Q := by
  subst hs' hr'
  rw [pgW_val k u hk hu] at ho1 ho2
  have h1 := unit_wp c TB hTB KV f0 q qt s' r' n (16 * k + u) hs hr (by omega) (by omega) o1 hb1 ho1 o2 hb2 hw2 ho2 sm chk dec hchk o3 hb3 hw3 ho3 p Q
  iintro ⟨Ht, Hs, HR⟩
  iapply h1
  isplitl [Ht]
  · iexact Ht
  isplitl [Hs]
  · iexact Hs
  iintro Ht Hs
  iapply h
  isplitl [Ht]
  · iexact Ht
  isplitl [Hs]
  · iexact Hs
  · iexact HR

set_option maxHeartbeats 4000000 in
/-- A trip of the first sequence's loop starts sixteen copies. -/
theorem t1_trip (c : Dev nD) (TB : IVec S96x512 32) (hTB : InPool TB) (KV : Vec F S61440x2x8x128 .fp8e4m3)
    (f0 : Vec F S2x512x2x8x128 .fp8e4m3) (q qt : PosShare TreeShare) (n : ℕ)
    (i : grid0.Coords) (a3) (h3) (a4) (h4) (a6) (h6) (hbw : bufM.IsWhole) (hkw : kvM.IsWhole) (ht hl) (h : k0_cond1 i = 1#1) (v : BitVec 32) (hc : k0_chk1 i v)
    (k : Fin (k0_t1_loop v).trips) (hk : k.val < 32) (hn : 16 * k.val + 16 ≤ n) (x : BitVec 32) (R : sProp 𝕄) :
    iprop((tbM.view.loc (c : Thread nD τ) ↦[Finset.univ]{qt} TB) ∗ started c KV f0 q 0 n (pgOf TB 0) (pgOf_lt hTB 0) sem0 (16 * k.val) ∗ R)
      ⊢ wp frame (wpE (defs₀ (F := F)) Variants.none (c : Thread nD τ) none) Set.univ
          (k0_t1_body (F := F) i tbM ht lnM hl a3 h3 a4 h4 kvM hkw a6 h6 bufM hbw cc0_scratch1 h v hc k x)
          (fun _ => iprop((tbM.view.loc (c : Thread nD τ) ↦[Finset.univ]{qt} TB) ∗ started c KV f0 q 0 n (pgOf TB 0) (pgOf_lt hTB 0) sem0 (16 * (k.val + 1)) ∗ R)) := by
  rw [t1_body_eq]
  change iprop(_ ∗ started c KV f0 q 0 n (pgOf TB 0) (pgOf_lt hTB 0) sem0 (16 * k.val + 0) ∗ R) ⊢ _
  iterate 16
    refine unit_step c TB hTB KV f0 q qt 0 0 n k.val _ (by decide) (by decide) hk hn 0 0 rfl rfl _ _ rfl _ _ _ rfl _ _ _
      (fun v hv => pageOK (k0_cond1 i = 1#1) v hv) _ _ _ (fun _ => rfl) (by decide) _ _ R ?_
  rw [wp_ret]
  iintro H
  imodintro
  iexact H

set_option maxHeartbeats 4000000 in
/-- A trip of the next sequence's loop starts sixteen copies. -/
theorem t3_trip (c : Dev nD) (TB : IVec S96x512 32) (hTB : InPool TB) (KV : Vec F S61440x2x8x128 .fp8e4m3)
    (f0 : Vec F S2x512x2x8x128 .fp8e4m3) (q qt : PosShare TreeShare) (n s r : ℕ)
    (i : grid0.Coords) (hs : s = ((i 0).val + 1) % 2) (hr : r = (i 0).val + 1)
    (a3) (h3) (a4) (h4) (a6) (h6) (hbw : bufM.IsWhole) (hkw : kvM.IsWhole) (ht hl) (h : k0_cond2 i = 1#1) (v : BitVec 32) (hc : k0_chk34 i v)
    (k : Fin (k0_t3_loop v).trips) (hk : k.val < 32) (hn : 16 * k.val + 16 ≤ n) (x : BitVec 32) (R : sProp 𝕄) :
    iprop((tbM.view.loc (c : Thread nD τ) ↦[Finset.univ]{qt} TB)
        ∗ started c KV f0 q s n (pgOf TB r) (pgOf_lt hTB r) (semAt (k0_off99 i) (k0_off99_inb i h)) (16 * k.val) ∗ R)
      ⊢ wp frame (wpE (defs₀ (F := F)) Variants.none (c : Thread nD τ) none) Set.univ
          (k0_t3_body (F := F) i tbM ht lnM hl a3 h3 a4 h4 kvM hkw a6 h6 bufM hbw cc0_scratch1 h (Scalar.addi (BitVec.ofNat 32 (i 0).val) 1#32) v hc k x)
          (fun _ => iprop((tbM.view.loc (c : Thread nD τ) ↦[Finset.univ]{qt} TB)
            ∗ started c KV f0 q s n (pgOf TB r) (pgOf_lt hTB r) (semAt (k0_off99 i) (k0_off99_inb i h)) (16 * (k.val + 1)) ∗ R)) := by
  have hr' : (Scalar.addi (BitVec.ofNat 32 (i 0).val) 1#32).toNat = r := (nextRow i h).1.trans hr.symm
  have hs' : (Scalar.subi 1#32 (Scalar.remsi (BitVec.ofNat 32 (i 0).val) 2#32)).toNat = s := (slotNext _ (coord_lt i)).trans hs.symm
  have hs2 : s < 2 := by omega
  have hr2 : r < 96 := hr ▸ (nextRow i h).2
  rw [t3_body_eq]
  change iprop(_ ∗ started c KV f0 q s n (pgOf TB r) (pgOf_lt hTB r) (semAt (k0_off99 i) (k0_off99_inb i h)) (16 * k.val + 0) ∗ R) ⊢ _
  iterate 16
    refine unit_step c TB hTB KV f0 q qt s r n k.val _ hs2 hr2 hk hn _ _ hs' hr' _ _ rfl _ _ _ rfl _ _ _
      (fun v hv => pageOK (k0_cond2 i = 1#1) v hv) _ _ _ (fun _ => rfl) (by decide) _ _ R ?_
  rw [wp_ret]
  iintro H
  imodintro
  iexact H

/-- A counted loop by an invariant of the trip alone. -/
theorem loop_wp (c : Dev nD) (l : Scf.Loop 32) (hok : l.OK) (n : ℕ) (htr : l.trips = n) (x : BitVec 32)
    (body : Fin l.trips → BitVec 32 → Prog (TpuEff nD τ sig (Elt F) Λ₀ .tc) (BitVec 32)) (I : ℕ → sProp 𝕄)
    (hb : ∀ (k : Fin l.trips) (acc : BitVec 32), I k.val
      ⊢ wp frame (wpE (defs₀ (F := F)) Variants.none (c : Thread nD τ) none) Set.univ (body k acc) (fun _ => I (k.val + 1)))
    (Q : BitVec 32 → sProp 𝕄) :
    iprop(I 0 ∗ (∀ y, I n -∗ Q y)) ⊢ wp frame (wpE (defs₀ (F := F)) Variants.none (c : Thread nD τ) none) Set.univ (Scf.Loop.for l hok x body) Q := by
  have hf := Scf.wp_for frame (wpE (defs₀ (F := F)) Variants.none (c : Thread nD τ) none) Set.univ l.lb l.ub l.st hok x body (fun k _ => I k) hb (Q := Q)
  subst htr
  exact hf

/-- The first sequence's loop starts every copy of the sequence. -/
theorem t1_issue (c : Dev nD) (TB : IVec S96x512 32) (hTB : InPool TB) (KV : Vec F S61440x2x8x128 .fp8e4m3)
    (f0 : Vec F S2x512x2x8x128 .fp8e4m3) (q qt : PosShare TreeShare)
    (i : grid0.Coords) (a3) (h3) (a4) (h4) (a6) (h6) (hbw : bufM.IsWhole) (hkw : kvM.IsWhole) (ht hl) (h : k0_cond1 i = 1#1) (v : BitVec 32)
    (hv : v.toNat ≤ 8192) (hc : k0_chk1 i v) (x : BitVec 32) (hok) (Q : BitVec 32 → sProp 𝕄) :
    iprop(((tbM.view.loc (c : Thread nD τ) ↦[Finset.univ]{qt} TB) ∗ started c KV f0 q 0 (16 * ngOf v.toNat) (pgOf TB 0) (pgOf_lt hTB 0) sem0 0 ∗ emp)
        ∗ (∀ y, ((tbM.view.loc (c : Thread nD τ) ↦[Finset.univ]{qt} TB)
            ∗ started c KV f0 q 0 (16 * ngOf v.toNat) (pgOf TB 0) (pgOf_lt hTB 0) sem0 (16 * ngOf v.toNat) ∗ emp) -∗ Q y))
      ⊢ wp frame (wpE (defs₀ (F := F)) Variants.none (c : Thread nD τ) none) Set.univ
          (Scf.Loop.for (k0_t1_loop v) hok x (k0_t1_body (F := F) i tbM ht lnM hl a3 h3 a4 h4 kvM hkw a6 h6 bufM hbw cc0_scratch1 h v hc)) Q :=
  loop_wp c (k0_t1_loop v) hok (ngOf v.toNat) (t1_trips hv) x
    (k0_t1_body (F := F) i tbM ht lnM hl a3 h3 a4 h4 kvM hkw a6 h6 bufM hbw cc0_scratch1 h v hc)
    (fun k => iprop((tbM.view.loc (c : Thread nD τ) ↦[Finset.univ]{qt} TB)
      ∗ started c KV f0 q 0 (16 * ngOf v.toNat) (pgOf TB 0) (pgOf_lt hTB 0) sem0 (16 * k) ∗ emp))
    (fun k acc => t1_trip c TB hTB KV f0 q qt _ i a3 h3 a4 h4 a6 h6 hbw hkw ht hl h v hc k
      (by have := k.isLt.trans_eq (t1_trips hv); have := ng_le hv; omega)
      (by have := k.isLt.trans_eq (t1_trips hv); omega) acc _) Q

/-- The next sequence's loop starts every copy of the sequence. -/
theorem t3_issue (c : Dev nD) (TB : IVec S96x512 32) (hTB : InPool TB) (KV : Vec F S61440x2x8x128 .fp8e4m3)
    (f0 : Vec F S2x512x2x8x128 .fp8e4m3) (q qt : PosShare TreeShare) (s r : ℕ)
    (i : grid0.Coords) (hs : s = ((i 0).val + 1) % 2) (hr : r = (i 0).val + 1)
    (a3) (h3) (a4) (h4) (a6) (h6) (hbw : bufM.IsWhole) (hkw : kvM.IsWhole) (ht hl) (h : k0_cond2 i = 1#1) (v : BitVec 32)
    (hv : v.toNat ≤ 8192) (hc : k0_chk34 i v) (x : BitVec 32) (hok) (Q : BitVec 32 → sProp 𝕄) :
    iprop(((tbM.view.loc (c : Thread nD τ) ↦[Finset.univ]{qt} TB)
          ∗ started c KV f0 q s (16 * ngOf v.toNat) (pgOf TB r) (pgOf_lt hTB r) (semAt (k0_off99 i) (k0_off99_inb i h)) 0 ∗ emp)
        ∗ (∀ y, ((tbM.view.loc (c : Thread nD τ) ↦[Finset.univ]{qt} TB)
            ∗ started c KV f0 q s (16 * ngOf v.toNat) (pgOf TB r) (pgOf_lt hTB r) (semAt (k0_off99 i) (k0_off99_inb i h)) (16 * ngOf v.toNat) ∗ emp) -∗ Q y))
      ⊢ wp frame (wpE (defs₀ (F := F)) Variants.none (c : Thread nD τ) none) Set.univ
          (Scf.Loop.for (k0_t3_loop v) hok x (k0_t3_body (F := F) i tbM ht lnM hl a3 h3 a4 h4 kvM hkw a6 h6 bufM hbw cc0_scratch1 h (Scalar.addi (BitVec.ofNat 32 (i 0).val) 1#32) v hc)) Q :=
  loop_wp c (k0_t3_loop v) hok (ngOf v.toNat) (t3_trips hv) x
    (k0_t3_body (F := F) i tbM ht lnM hl a3 h3 a4 h4 kvM hkw a6 h6 bufM hbw cc0_scratch1 h (Scalar.addi (BitVec.ofNat 32 (i 0).val) 1#32) v hc)
    (fun k => iprop((tbM.view.loc (c : Thread nD τ) ↦[Finset.univ]{qt} TB)
      ∗ started c KV f0 q s (16 * ngOf v.toNat) (pgOf TB r) (pgOf_lt hTB r) (semAt (k0_off99 i) (k0_off99_inb i h)) (16 * k) ∗ emp))
    (fun k acc => t3_trip c TB hTB KV f0 q qt _ s r i hs hr a3 h3 a4 h4 a6 h6 hbw hkw ht hl h v hc k
      (by have := k.isLt.trans_eq (t3_trips hv); have := ng_le hv; omega)
      (by have := k.isLt.trans_eq (t3_trips hv); omega) acc _) Q

end Cert.Kernel.Hand

end
-- ==== Proof.Twin.Chunk.lean ====
/-
  The loop that scores a sequence: one trip for every 128 pages, its program spelled as one chain of loads and stores, what each
  trip stores, and the rules for the buffers it goes through.
-/
module

public import proofs.«01_k».proof.Proof.Twin.IssueLoops

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row and lane numbers of a half of the output tile. -/
abbrev rowI : IVec S16x128 32 := iota .tc S16x128 32 [0] iota_S16x128_d0_w32
abbrev laneI : IVec S16x128 32 := iota .tc S16x128 32 [1] iota_S16x128_d1_w32
/-- The row of the score each output element is taken from. -/
abbrev pickI : IVec S16x128 32 := k0_pay1 rowI k0_pay97 4#32 k0_pay98 k0_pay99 0#32

/-- A quarter of a page tile as loaded, and the output tile halves. -/
abbrev TileV (F : FTy → Type) [FloatOps F] := Vec F S1x64x1x4x128 .fp8e4m3

/-- What a trip stores in the first sixteen rows, from the four tiles it loads. -/
def topPay (qd : FVec F S32x256 .bf16) (v : BitVec 32) (sc : Vec F S32x128 .f32) (k : Fin (k0_t7_loop v).trips) (w1 w2 w3 w4 : TileV F) : FVec F S1x16x128 .f32 :=
  k0_pay27 (k0_pay2 sc) (k0_pay7 (F := F) v laneI 0#32 1#32 k)
    (k0_pay24 laneI
      (k0_pay19 (k0_pay14 laneI (k0_pay9 (F := F)) (k0_pay11 qd pickI w1 w2) 32#32 (k0_pay12 laneI) (k0_pay13 laneI))
        (k0_pay15 pickI (k0_pay10 qd w1 w2)) (k0_pay16 laneI) (k0_pay17 laneI) (k0_pay18 laneI))
      (k0_pay21 pickI (k0_pay8 qd) w3 w4) 32#32 (k0_pay22 laneI) (k0_pay23 laneI)
      (Scalar.extui (Scalar.cmpi .sgt 32#32 0#32)) (Scalar.cmpi .slt 32#32 0#32))
    (k0_pay25 pickI (k0_pay20 (k0_pay8 qd) w3 w4)) (k0_pay26 laneI)

/-- What a trip stores in the last sixteen rows. -/
def botPay (qd : FVec F S32x256 .bf16) (v : BitVec 32) (sc : Vec F S32x128 .f32) (k : Fin (k0_t7_loop v).trips) (w5 w6 w7 w8 : TileV F) : FVec F S1x16x128 .f32 :=
  k0_pay3 sc (k0_pay7 (F := F) v laneI 0#32 1#32 k)
    (k0_pay43 laneI
      (k0_pay38 laneI (k0_pay34 laneI (k0_pay29 (F := F)) (k0_pay31 qd pickI w5 w6) 32#32 (k0_pay32 laneI) (k0_pay33 laneI))
        (k0_pay35 pickI (k0_pay30 qd w5 w6)) 32#32 (k0_pay36 laneI) (k0_pay37 laneI))
      (k0_pay40 pickI (k0_pay28 qd) w7 w8) 32#32 (k0_pay41 laneI) (k0_pay42 laneI))
    (k0_pay44 pickI (k0_pay39 (k0_pay28 qd) w7 w8)) (k0_pay45 laneI) (k0_pay46 laneI) (k0_pay47 laneI)

/-- A load of a tile, the rest after it. -/
def loadB (o : Fin 5 → ℕ) (hb : ∀ a, o a + S1x64x1x4x128.size a ≤ S2x512x2x8x128.size a)
    (k : TileV F → Prog (TpuEff nD τ sig (Elt F) Λ₀ .tc) (BitVec 32)) : Prog (TpuEff nD τ sig (Elt F) Λ₀ .tc) (BitVec 32) :=
  .op (.load bufM (Rect.unit (s := S2x512x2x8x128) o S1x64x1x4x128.size hb).toLoadRect (View.loadsAt_vmem h_S1x64x1x4x128)) k
/-- A load from the output tile, unused, the rest after it. -/
def loadO (a6 : Memref sig .tc .vmem S1x32x512 .f32) (o : Fin 3 → ℕ) (hb : ∀ a, o a + S1x16x128.size a ≤ S1x32x512.size a)
    (k : Prog (TpuEff nD τ sig (Elt F) Λ₀ .tc) (BitVec 32)) : Prog (TpuEff nD τ sig (Elt F) Λ₀ .tc) (BitVec 32) :=
  .op (.load a6 (Rect.unit (s := S1x32x512) o S1x16x128.size hb).toLoadRect (View.loadsAt_vmem h_S1x16x128)) (fun _ => k)
/-- A store in the output tile, the rest after it. -/
def storeO (a6 : Memref sig .tc .vmem S1x32x512 .f32) (o : Fin 3 → ℕ) (hb : ∀ a, o a + S1x16x128.size a ≤ S1x32x512.size a) (w : FVec F S1x16x128 .f32)
    (k : Prog (TpuEff nD τ sig (Elt F) Λ₀ .tc) (BitVec 32)) : Prog (TpuEff nD τ sig (Elt F) Λ₀ .tc) (BitVec 32) :=
  .op (.store a6 (Rect.unit (s := S1x32x512) o S1x16x128.size hb) w Finset.univ (View.stores_vmem_bits_univ h_S1x16x128 rfl) (.inl rfl)) (fun _ => k)

set_option maxRecDepth 65536 in
/-- A trip as one chain. -/
theorem t7_body_eq (i : grid0.Coords) (a3) (h3) (a4) (h4) (a6) (h6) (hbw : bufM.IsWhole) (hkw : kvM.IsWhole) (ht hl) (v0 : BitVec 32)
    (qd : FVec F S32x256 .bf16) (v : BitVec 32) (hc : k0_chk68 i v) (sc : Vec F S32x128 .f32) (k : Fin (k0_t7_loop v).trips) (x : BitVec 32) :
    k0_t7_body (F := F) i tbM ht lnM hl a3 h3 a4 h4 kvM hkw a6 h6 bufM hbw cc0_scratch1 v0 qd v hc rowI laneI k0_pay97 4#32 k0_pay98 k0_pay99 0#32 sc k x
      = (loadB (k0_off232 i v k 0#32) (k0_off232_inb i v hc k 0) fun w1 => loadB (k0_off233 i v k 0#32) (k0_off233_inb i v hc k 0) fun w2 =>
        loadB (k0_off232 i v k 64#32) (k0_off232_inb i v hc k 1) fun w3 => loadB (k0_off233 i v k 64#32) (k0_off233_inb i v hc k 1) fun w4 =>
        loadO a6 (k0_off234 v k) (k0_off234_inb i v hc k) <| storeO a6 (k0_off234 v k) (k0_off234_inb i v hc k) (topPay qd v sc k w1 w2 w3 w4) <|
        loadB (k0_off235 i v k 0#32) (k0_off235_inb i v hc k 0) fun w5 => loadB (k0_off236 i v k 0#32) (k0_off236_inb i v hc k 0) fun w6 =>
        loadB (k0_off235 i v k 64#32) (k0_off235_inb i v hc k 1) fun w7 => loadB (k0_off236 i v k 64#32) (k0_off236_inb i v hc k 1) fun w8 =>
        loadO a6 (k0_off237 v k) (k0_off237_inb i v hc k) <| storeO a6 (k0_off237 v k) (k0_off237_inb i v hc k) (botPay qd v sc k w5 w6 w7 w8) <|
        Prog.ret 0#32) := by
  unfold k0_t7_body
  simp only [k0_part23_eq_skeleton, k0_part24_eq_skeleton, k0_part25_eq_skeleton, k0_part26_eq_skeleton, k0_part27_eq_skeleton, k0_part28_eq_skeleton,
    k0_part29_eq_skeleton, k0_part30_eq_skeleton]
  rfl

/-- What a load through a memref held at contents reads. -/
theorem load_owns (c : Dev nD) {cs : CoreSpace} {s : Shape} {e : EltTy} (m : Memref sig .tc cs s e) (q : PosShare TreeShare) (X : s.Idx → Elt F e) (r : Rect s)
    (hl : m.view.LoadsAt r.toLoadRect) {α : Type} (k : (r.shape.Idx → Elt F e) → Prog (TpuEff nD τ sig (Elt F) Λ₀ .tc) α) (Q : α → sProp 𝕄) :
    iprop(owns (c : Thread nD τ) m q X ∗ (owns (c : Thread nD τ) m q X -∗ wp frame (wpE (defs₀ (F := F)) Variants.none (c : Thread nD τ) none) Set.univ (k fun x => X (r.emb x)) Q))
      ⊢ wp frame (wpE (defs₀ (F := F)) Variants.none (c : Thread nD τ) none) Set.univ (.op (.load m r.toLoadRect hl) k) Q := by
  have hsub : (m.access r).set ⊆ m.view.set := m.view.set_slice_subset r
  unfold owns
  iintro ⟨⟨%f, %hf, H⟩, Hk⟩
  have hr : (m.access r).read (Elt F) f = fun x => X (r.emb x) := by funext x; rw [← hf]; rfl
  iapply (wp_load_rect Variants.none (c : Thread nD τ) none Set.univ (m := m) (r := r) (hl := hl) (k := k) (S := m.view.set) (q := q) (f := f) hsub) $$ H
  iintro H
  rw [hr]
  iapply Hk
  iexists f
  isplitr
  · ipureintro; exact hf
  · iexact H

/-- What a store through a memref held at contents leaves: the payload on the rectangle, the contents elsewhere. -/
theorem store_owns (c : Dev nD) {cs : CoreSpace} {s : Shape} {e : EltTy} (m : Memref sig .tc cs s e) (X : s.Idx → Elt F e) (r : Rect s) (w : r.shape.Idx → Elt F e)
    (hx) (hm) {α : Type} (k : PUnit → Prog (TpuEff nD τ sig (Elt F) Λ₀ .tc) α) (Q : α → sProp 𝕄) (Φ : (s.Idx → Elt F e) → Prop)
    (hΦ : ∀ X', (∀ x, X' (r.emb x) = w x) → (∀ y, (∀ x, r.emb x ≠ y) → X' y = X y) → Φ X') :
    iprop(owns (c : Thread nD τ) m fullShare X ∗ (∀ X', ⌜Φ X'⌝ -∗ owns (c : Thread nD τ) m fullShare X' -∗ wp frame (wpE (defs₀ (F := F)) Variants.none (c : Thread nD τ) none) Set.univ (k ⟨⟩) Q))
      ⊢ wp frame (wpE (defs₀ (F := F)) Variants.none (c : Thread nD τ) none) Set.univ (.op (.store m r w Finset.univ hx hm) k) Q := by
  have hsub : (m.access r).setOn Finset.univ ⊆ m.view.set := m.view.set_slice_subset r
  unfold owns
  iintro ⟨⟨%f, %hf, H⟩, Hk⟩
  have hP : Φ (m.view.read (Elt F) ((m.access r).write (Elt F) f w Finset.univ)) := by
    refine hΦ _ (fun x => ?_) (fun y hy => ?_)
    · exact m.view.read_slice_write_emb r f w (Finset.mem_univ x)
    · rw [← hf]
      refine m.view.read_slice_write_of_not_mem r f w Finset.univ fun h => ?_
      obtain ⟨x, -, hx⟩ := Finset.mem_map.mp h
      exact hy x hx
  iapply (wp_store Variants.none (c : Thread nD τ) none Set.univ (m := m) (r := r) (hx := hx) (hm := hm) (w := w) (Mk := Finset.univ) (k := k) (S := m.view.set) (f := f) hsub) $$ H
  iintro H
  iapply Hk $$ %(m.view.read (Elt F) ((m.access r).write (Elt F) f w Finset.univ)) %hP
  iexists ((m.access r).write (Elt F) f w Finset.univ)
  isplitr
  · ipureintro; rfl
  · iexact H

end Cert.Kernel.Hand

end
-- ==== Proof.Twin.Score.lean ====
/-
  The output tile of a sequence: what the scoring loop leaves in its columns, and what the loop that zeroes the rest leaves.
-/
module

public import proofs.«01_k».proof.Proof.Twin.Chunk

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A tile of the page buffer at given offsets. -/
def rd (o : Fin 5 → ℕ) (hb : ∀ a, o a + S1x64x1x4x128.size a ≤ S2x512x2x8x128.size a) (g : Vec F S2x512x2x8x128 .fp8e4m3) : TileV F :=
  fun x => g ((Rect.unit (s := S2x512x2x8x128) o S1x64x1x4x128.size hb).emb x)

/-- A load of a tile reads the slot's contents. -/
theorem loadB_wp (c : Dev nD) (s : ℕ) (g : Vec F S2x512x2x8x128 .fp8e4m3) (o : Fin 5 → ℕ) (hb) (ho : o 0 = s)
    (k : TileV F → Prog (TpuEff nD τ sig (Elt F) Λ₀ .tc) (BitVec 32)) (Q : BitVec 32 → sProp 𝕄) (R : sProp 𝕄)
    (h : iprop((bufM.view.loc (c : Thread nD τ) ↦[slotSet s]{fullShare} g) ∗ R)
      ⊢ wp frame (wpE (defs₀ (F := F)) Variants.none (c : Thread nD τ) none) Set.univ (k (rd o hb g)) Q) :
    iprop((bufM.view.loc (c : Thread nD τ) ↦[slotSet s]{fullShare} g) ∗ R)
      ⊢ wp frame (wpE (defs₀ (F := F)) Variants.none (c : Thread nD τ) none) Set.univ (loadB o hb k) Q := by
  have hsub : (bufM.access (Rect.unit (s := S2x512x2x8x128) o S1x64x1x4x128.size hb)).set ⊆ slotSet s := by
    intro j hj
    obtain ⟨x, -, rfl⟩ := Finset.mem_map.mp hj
    have hx : (x 0).val < 1 := (x 0).isLt
    refine mem_slotSet.mpr ?_
    show o 0 + 1 * (x 0).val = s
    omega
  unfold loadB
  iintro ⟨H, HR⟩
  iapply (wp_load_rect Variants.none (c : Thread nD τ) none Set.univ (m := bufM) (r := Rect.unit (s := S2x512x2x8x128) o S1x64x1x4x128.size hb)
    (hl := View.loadsAt_vmem h_S1x64x1x4x128) (k := k) (Q := Q) (S := slotSet s) (q := fullShare) (f := g) hsub) $$ H
  iintro H
  iapply h
  isplitl [H]
  · iexact H
  · iexact HR

/-- The four tiles of a chunk's first halves of heads, by their number: lane half `0` and `1` of pages `0..63`, then of pages `64..127`. -/
abbrev tl (i : grid0.Coords) (v : BitVec 32) (hc : k0_chk68 i v) (k : Fin (k0_t7_loop v).trips) (g : Vec F S2x512x2x8x128 .fp8e4m3) : Fin 8 → TileV F
  | 0 => rd (k0_off232 i v k 0#32) (k0_off232_inb i v hc k 0) g
  | 1 => rd (k0_off233 i v k 0#32) (k0_off233_inb i v hc k 0) g
  | 2 => rd (k0_off232 i v k 64#32) (k0_off232_inb i v hc k 1) g
  | 3 => rd (k0_off233 i v k 64#32) (k0_off233_inb i v hc k 1) g
  | 4 => rd (k0_off235 i v k 0#32) (k0_off235_inb i v hc k 0) g
  | 5 => rd (k0_off236 i v k 0#32) (k0_off236_inb i v hc k 0) g
  | 6 => rd (k0_off235 i v k 64#32) (k0_off235_inb i v hc k 1) g
  | 7 => rd (k0_off236 i v k 64#32) (k0_off236_inb i v hc k 1) g

/-- What the first sixteen rows of a chunk hold. -/
def topV (i : grid0.Coords) (v : BitVec 32) (hc : k0_chk68 i v) (qd : FVec F S32x256 .bf16) (sc : Vec F S32x128 .f32) (g : Vec F S2x512x2x8x128 .fp8e4m3)
    (k : Fin (k0_t7_loop v).trips) : FVec F S1x16x128 .f32 :=
  topPay qd v sc k (tl i v hc k g 0) (tl i v hc k g 1) (tl i v hc k g 2) (tl i v hc k g 3)
/-- What the last sixteen rows of a chunk hold. -/
def botV (i : grid0.Coords) (v : BitVec 32) (hc : k0_chk68 i v) (qd : FVec F S32x256 .bf16) (sc : Vec F S32x128 .f32) (g : Vec F S2x512x2x8x128 .fp8e4m3)
    (k : Fin (k0_t7_loop v).trips) : FVec F S1x16x128 .f32 :=
  botPay qd v sc k (tl i v hc k g 4) (tl i v hc k g 5) (tl i v hc k g 6) (tl i v hc k g 7)

/-- The output tile of a sequence, from the slot's contents. -/
def outF (i : grid0.Coords) (v : BitVec 32) (hc : k0_chk68 i v) (qd : FVec F S32x256 .bf16) (sc : Vec F S32x128 .f32) (g : Vec F S2x512x2x8x128 .fp8e4m3) :
    Vec F S1x32x512 .f32 := fun j =>
  if h : (j 2).val / 128 < (k0_t7_loop v).trips then
    if h1 : (j 1).val < 16 then topV i v hc qd sc g ⟨_, h⟩ (ix3 0 ⟨(j 1).val, h1⟩ ⟨(j 2).val % 128, Nat.mod_lt _ (by decide)⟩)
    else botV i v hc qd sc g ⟨_, h⟩ (ix3 0 ⟨(j 1).val - 16, by have : (j 1).val < 32 := (j 1).isLt; omega⟩ ⟨(j 2).val % 128, Nat.mod_lt _ (by decide)⟩)
  else k0_pay5 (F := F) (ix3 0 (j 1) ⟨(j 2).val % 128, Nat.mod_lt _ (by decide)⟩)

/-- Contents after a store of sixteen rows by 128 columns. -/
theorem upd16 {o : Fin 3 → ℕ} (hb : ∀ a, o a + S1x16x128.size a ≤ S1x32x512.size a) (r w : ℕ) (ho : o = ![0, r, w]) (X X' : Vec F S1x32x512 .f32) (p : FVec F S1x16x128 .f32)
    (h1 : ∀ x, X' ((Rect.unit (s := S1x32x512) o S1x16x128.size hb).emb x) = p x)
    (h2 : ∀ y, (∀ x, (Rect.unit (s := S1x32x512) o S1x16x128.size hb).emb x ≠ y) → X' y = X y) (j : S1x32x512.Idx) :
    X' j = if h : (r ≤ (j 1).val ∧ (j 1).val < r + 16) ∧ w ≤ (j 2).val ∧ (j 2).val < w + 128
      then p (ix3 0 ⟨(j 1).val - r, by omega⟩ ⟨(j 2).val - w, by omega⟩) else X j := by
  subst ho
  split
  · rename_i h
    rw [← h1]
    congr 1
    funext a
    apply Fin.ext
    match a with
    | ⟨0, _⟩ => have : (j 0).val < 1 := (j 0).isLt; show (j 0).val = 0 + 1 * 0; omega
    | ⟨1, _⟩ => show (j 1).val = r + 1 * ((j 1).val - r); omega
    | ⟨2, _⟩ => show (j 2).val = w + 1 * ((j 2).val - w); omega
  · rename_i h
    refine h2 j fun x e => h ?_
    subst e
    have hx1 : (x 1).val < 16 := (x 1).isLt
    have hx2 : (x 2).val < 128 := (x 2).isLt
    refine ⟨⟨?_, ?_⟩, ?_, ?_⟩
    · show r ≤ r + 1 * (x 1).val; omega
    · show r + 1 * (x 1).val < r + 16; omega
    · show w ≤ w + 1 * (x 2).val; omega
    · show w + 1 * (x 2).val < w + 128; omega

/-- Contents after a store of all rows by 128 columns. -/
theorem upd32 {o : Fin 3 → ℕ} (hb : ∀ a, o a + S1x32x128.size a ≤ S1x32x512.size a) (w : ℕ) (ho : o = ![0, 0, w]) (X X' : Vec F S1x32x512 .f32) (p : FVec F S1x32x128 .f32)
    (h1 : ∀ x, X' ((Rect.unit (s := S1x32x512) o S1x32x128.size hb).emb x) = p x)
    (h2 : ∀ y, (∀ x, (Rect.unit (s := S1x32x512) o S1x32x128.size hb).emb x ≠ y) → X' y = X y) (j : S1x32x512.Idx) :
    X' j = if h : w ≤ (j 2).val ∧ (j 2).val < w + 128
      then p (ix3 0 (j 1) ⟨(j 2).val - w, by omega⟩) else X j := by
  subst ho
  split
  · rename_i h
    rw [← h1]
    congr 1
    funext a
    apply Fin.ext
    match a with
    | ⟨0, _⟩ => have : (j 0).val < 1 := (j 0).isLt; show (j 0).val = 0 + 1 * 0; omega
    | ⟨1, _⟩ => show (j 1).val = 0 + 1 * (j 1).val; omega
    | ⟨2, _⟩ => show (j 2).val = w + 1 * ((j 2).val - w); omega
  · rename_i h
    refine h2 j fun x e => h ?_
    subst e
    have hx2 : (x 2).val < 128 := (x 2).isLt
    refine ⟨?_, ?_⟩
    · show w ≤ w + 1 * (x 2).val; omega
    · show w + 1 * (x 2).val < w + 128; omega

theorem off234_eq {v : BitVec 32} (k : Fin (k0_t7_loop v).trips) (hk : k.val < 4) : k0_off234 v k = ![0, 0, 128 * k.val] := by
  rw [← chunkW_val k.val hk]; rfl
theorem off237_eq {v : BitVec 32} (k : Fin (k0_t7_loop v).trips) (hk : k.val < 4) : k0_off237 v k = ![0, 16, 128 * k.val] := by
  rw [← chunkW_val k.val hk]; rfl
theorem off244_eq {v : BitVec 32} (hv : v.toNat ≤ 8192) (k : Fin (k0_t9_loop v).trips) (hk : ncOf v.toNat + k.val < 4) : k0_off244 v k = ![0, 0, 128 * (ncOf v.toNat + k.val)] := by
  rw [← tailW_val hv k.val hk]; rfl

/-- The output tile with its first `n` columns done. -/
abbrev upto (i : grid0.Coords) (v : BitVec 32) (hc : k0_chk68 i v) (qd : FVec F S32x256 .bf16) (sc : Vec F S32x128 .f32) (g : Vec F S2x512x2x8x128 .fp8e4m3) (n : ℕ)
    (X : Vec F S1x32x512 .f32) : Prop := ∀ j : S1x32x512.Idx, (j 2).val < n → X j = outF i v hc qd sc g j

/-- The scoring loop's state. -/
def scoring (c : Dev nD) (a6 : Memref sig .tc .vmem S1x32x512 .f32) (i : grid0.Coords) (v : BitVec 32) (hc : k0_chk68 i v) (qd : FVec F S32x256 .bf16)
    (sc : Vec F S32x128 .f32) (g : Vec F S2x512x2x8x128 .fp8e4m3) (s n : ℕ) : sProp 𝕄 :=
  iprop((bufM.view.loc (c : Thread nD τ) ↦[slotSet s]{fullShare} g) ∗ ∃ X, ⌜upto i v hc qd sc g n X⌝ ∗ owns (c : Thread nD τ) a6 fullShare X)

set_option maxHeartbeats 1000000 in
/-- A trip of the scoring loop fills a chunk. -/
theorem t7_trip (c : Dev nD) (g : Vec F S2x512x2x8x128 .fp8e4m3) (s : ℕ)
    (i : grid0.Coords) (hs : s = (i 0).val % 2) (a3) (h3) (a4) (h4) (a6) (h6) (hbw : bufM.IsWhole) (hkw : kvM.IsWhole) (ht hl) (v0 : BitVec 32)
    (qd : FVec F S32x256 .bf16) (v : BitVec 32) (hc : k0_chk68 i v) (sc : Vec F S32x128 .f32) (k : Fin (k0_t7_loop v).trips) (hk : k.val < 4) (x : BitVec 32) :
    (scoring c a6 i v hc qd sc g s (128 * k.val) : sProp 𝕄)
      ⊢ wp frame (wpE (defs₀ (F := F)) Variants.none (c : Thread nD τ) none) Set.univ
          (k0_t7_body (F := F) i tbM ht lnM hl a3 h3 a4 h4 kvM hkw a6 h6 bufM hbw cc0_scratch1 v0 qd v hc rowI laneI k0_pay97 4#32 k0_pay98 k0_pay99 0#32 sc k x)
          (fun _ => scoring c a6 i v hc qd sc g s (128 * (k.val + 1))) := by
  have hs' : (Scalar.remsi (BitVec.ofNat 32 (i 0).val) 2#32).toNat = s := (slotCur _ (coord_lt i)).trans hs.symm
  rw [t7_body_eq]
  unfold scoring
  iintro ⟨Hb, %X, %hX, Ho⟩
  istop
  iterate 4 refine loadB_wp c s g _ _ hs' _ _ _ ?_
  unfold loadO storeO
  iintro ⟨Hb, Ho⟩
  iapply (load_owns c a6 fullShare X (Rect.unit (s := S1x32x512) (k0_off234 v k) S1x16x128.size (k0_off234_inb i v hc k)) (View.loadsAt_vmem h_S1x16x128))
  isplitl [Ho]
  · iexact Ho
  iintro Ho
  iapply (store_owns c a6 X (Rect.unit (s := S1x32x512) (k0_off234 v k) S1x16x128.size (k0_off234_inb i v hc k)) (topV i v hc qd sc g k) _ _ _ _
    (fun X' => upto i v hc qd sc g (128 * k.val) X' ∧ ∀ j : S1x32x512.Idx, (j 1).val < 16 → (j 2).val < 128 * (k.val + 1) → X' j = outF i v hc qd sc g j) ?_)
  · intro X' e1 e2
    have hu := upd16 (k0_off234_inb i v hc k) 0 (128 * k.val) (off234_eq k hk) X X' _ e1 e2
    refine ⟨fun j hj => ?_, fun j hj1 hj2 => ?_⟩
    · rw [hu j, dif_neg (by omega), hX j hj]
    · by_cases h : (j 2).val < 128 * k.val
      · rw [hu j, dif_neg (by omega), hX j h]
      · have hd : (j 2).val / 128 = k.val := by omega
        rw [hu j, dif_pos (by omega)]
        unfold outF
        rw [dif_pos (hd ▸ k.isLt), dif_pos hj1]
        have hk' : (⟨(j 2).val / 128, hd ▸ k.isLt⟩ : Fin (k0_t7_loop v).trips) = k := Fin.ext hd
        rw [hk']
        congr 1
        funext a
        apply Fin.ext
        match a with
        | ⟨0, _⟩ => rfl
        | ⟨1, _⟩ => rfl
        | ⟨2, _⟩ => show (j 2).val - 128 * k.val = (j 2).val % 128; omega
  isplitl [Ho]
  · iexact Ho
  iintro %X' %hX' Ho
  istop
  iterate 4 refine loadB_wp c s g _ _ hs' _ _ _ ?_
  iintro ⟨Hb, Ho⟩
  iapply (load_owns c a6 fullShare X' (Rect.unit (s := S1x32x512) (k0_off237 v k) S1x16x128.size (k0_off237_inb i v hc k)) (View.loadsAt_vmem h_S1x16x128))
  isplitl [Ho]
  · iexact Ho
  iintro Ho
  iapply (store_owns c a6 X' (Rect.unit (s := S1x32x512) (k0_off237 v k) S1x16x128.size (k0_off237_inb i v hc k)) (botV i v hc qd sc g k) _ _ _ _
    (fun X'' => upto i v hc qd sc g (128 * (k.val + 1)) X'') ?_)
  · intro X'' e1 e2 j hj
    have hu := upd16 (k0_off237_inb i v hc k) 16 (128 * k.val) (off237_eq k hk) X' X'' _ e1 e2
    have hj32 : (j 1).val < 32 := (j 1).isLt
    by_cases h : (j 2).val < 128 * k.val
    · rw [hu j, dif_neg (by omega), hX'.1 j h]
    · by_cases h1 : (j 1).val < 16
      · rw [hu j, dif_neg (by omega), hX'.2 j h1 hj]
      · have hd : (j 2).val / 128 = k.val := by omega
        rw [hu j, dif_pos (by omega)]
        unfold outF
        rw [dif_pos (hd ▸ k.isLt), dif_neg h1]
        have hk' : (⟨(j 2).val / 128, hd ▸ k.isLt⟩ : Fin (k0_t7_loop v).trips) = k := Fin.ext hd
        rw [hk']
        congr 1
        funext a
        apply Fin.ext
        match a with
        | ⟨0, _⟩ => rfl
        | ⟨1, _⟩ => rfl
        | ⟨2, _⟩ => show (j 2).val - 128 * k.val = (j 2).val % 128; omega
  isplitl [Ho]
  · iexact Ho
  iintro %X'' %hX'' Ho
  rw [wp_ret]
  imodintro
  isplitl [Hb]
  · iexact Hb
  iexists X''
  isplitr
  · ipureintro; exact hX''
  · iexact Ho

set_option maxHeartbeats 1000000 in
/-- A trip of the zeroing loop fills a chunk past the sequence. -/
theorem t9_trip (c : Dev nD) (g : Vec F S2x512x2x8x128 .fp8e4m3) (s : ℕ)
    (i : grid0.Coords) (a3) (h3) (a4) (h4) (a6) (h6) (hbw : bufM.IsWhole) (hkw : kvM.IsWhole) (ht hl)
    (qd : FVec F S32x256 .bf16) (v : BitVec 32) (hv : v.toNat ≤ 8192) (hc : k0_chk68 i v) (sc : Vec F S32x128 .f32) (k : Fin (k0_t9_loop v).trips) (x : BitVec 32) :
    (scoring c a6 i v hc qd sc g s (128 * (ncOf v.toNat + k.val)) : sProp 𝕄)
      ⊢ wp frame (wpE (defs₀ (F := F)) Variants.none (c : Thread nD τ) none) Set.univ
          (k0_t9_body (F := F) i tbM ht lnM hl a3 h3 a4 h4 kvM hkw a6 h6 bufM hbw cc0_scratch1 v hc k x)
          (fun _ => scoring c a6 i v hc qd sc g s (128 * (ncOf v.toNat + (k.val + 1)))) := by
  have hk : ncOf v.toNat + k.val < 4 := by have := k.isLt.trans_eq (t9_trips hv); omega
  change _ ⊢ wp frame (wpE (defs₀ (F := F)) Variants.none (c : Thread nD τ) none) Set.univ
    (.op (.load a6 (Rect.unit (s := S1x32x512) (k0_off244 v k) S1x32x128.size (k0_off244_inb i v hc k)).toLoadRect (View.loadsAt_vmem h_S1x32x128)) fun _ =>
      .op (.store a6 (Rect.unit (s := S1x32x512) (k0_off244 v k) S1x32x128.size (k0_off244_inb i v hc k)) (k0_pay5 (F := F)) Finset.univ (View.stores_vmem_bits_univ h_S1x32x128 rfl) (.inl rfl)) fun _ =>
      Prog.ret 0#32) _
  unfold scoring
  iintro ⟨Hb, %X, %hX, Ho⟩
  iapply (load_owns c a6 fullShare X (Rect.unit (s := S1x32x512) (k0_off244 v k) S1x32x128.size (k0_off244_inb i v hc k)) (View.loadsAt_vmem h_S1x32x128))
  isplitl [Ho]
  · iexact Ho
  iintro Ho
  iapply (store_owns c a6 X (Rect.unit (s := S1x32x512) (k0_off244 v k) S1x32x128.size (k0_off244_inb i v hc k)) (k0_pay5 (F := F)) _ _ _ _
    (fun X'' => upto i v hc qd sc g (128 * (ncOf v.toNat + (k.val + 1))) X'') ?_)
  · intro X' e1 e2 j hj
    have hu := upd32 (k0_off244_inb i v hc k) (128 * (ncOf v.toNat + k.val)) (off244_eq hv k hk) X X' _ e1 e2
    by_cases h : (j 2).val < 128 * (ncOf v.toNat + k.val)
    · rw [hu j, dif_neg (by omega), hX j h]
    · rw [hu j, dif_pos (by omega)]
      unfold outF
      rw [dif_neg (by rw [t7_trips hv]; omega)]
      congr 1
      funext a
      apply Fin.ext
      match a with
      | ⟨0, _⟩ => rfl
      | ⟨1, _⟩ => rfl
      | ⟨2, _⟩ => show (j 2).val - 128 * (ncOf v.toNat + k.val) = (j 2).val % 128; omega
  isplitl [Ho]
  · iexact Ho
  iintro %X' %hX' Ho
  rw [wp_ret]
  imodintro
  isplitl [Hb]
  · iexact Hb
  iexists X'
  isplitr
  · ipureintro; exact hX'
  · iexact Ho

end Cert.Kernel.Hand

end
-- ==== Proof.Twin.Slot.lean ====
/-
  A slot of the page buffer: what it holds while idle, what is set aside while its copies are under way, and how the one
  becomes the other and back.
-/
module

public import proofs.«01_k».proof.Proof.Twin.Issue

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first `n` pages of slot `s`. -/
def headSet (s n : ℕ) : Finset S2x512x2x8x128.Idx := (Finset.univ : Finset (Fin n)).biUnion fun t => pageSet s t.val

/-- A page of the slot is among the first `n` exactly when its number is below `n`. -/
theorem mem_headSet {s n : ℕ} {j : S2x512x2x8x128.Idx} : j ∈ headSet s n ↔ (j 0).val = s ∧ (j 1).val < n := by
  unfold headSet
  rw [Finset.mem_biUnion]
  constructor
  · rintro ⟨t, -, h⟩
    have h := mem_pageSet.mp h
    exact ⟨h.1, h.2 ▸ t.isLt⟩
  · rintro ⟨h0, h1⟩
    exact ⟨⟨(j 1).val, h1⟩, Finset.mem_univ _, mem_pageSet.mpr ⟨h0, rfl⟩⟩

/-- They lie in the slot. -/
theorem headSet_sub (s n : ℕ) : headSet s n ⊆ slotSet s := fun j h => mem_slotSet.mpr (mem_headSet.mp h).1

/-- Two pages of a slot are disjoint. -/
theorem pages_disjoint (s n : ℕ) : ∀ t ∈ (Finset.univ : Finset (Fin n)), ∀ t' ∈ (Finset.univ : Finset (Fin n)), t ≠ t' →
    Disjoint (pageSet s t.val) (pageSet s t'.val) := by
  intro t _ t' _ hne
  rw [Finset.disjoint_left]
  intro j h h'
  exact hne (Fin.ext ((mem_pageSet.mp h).2.symm.trans (mem_pageSet.mp h').2))

/-- A slot's contents: arbitrary, those of the named pages given. -/
def full (c : Dev nD) (KV : Vec F S61440x2x8x128 .fp8e4m3) (s n : ℕ) (P : ℕ → ℕ) (hP : ∀ p, P p < 61440) : sProp 𝕄 :=
  iprop(∃ g : Vec F S2x512x2x8x128 .fp8e4m3, ⌜∀ j : S2x512x2x8x128.Idx, (j 0).val = s → (j 1).val < n → g j = gath KV P hP j⌝
    ∗ (bufM.view.loc (c : Thread nD τ) ↦[slotSet s]{fullShare} g))

/-- An idle slot: its pages, its semaphore at zero, its share of the page array. -/
def idle (c : Dev nD) (KV : Vec F S61440x2x8x128 .fp8e4m3) (q : PosShare TreeShare) (s : ℕ) (sm : DmaSem sig) : sProp 𝕄 :=
  iprop((∃ f0 : Vec F S2x512x2x8x128 .fp8e4m3, (bufM.view.loc (c : Thread nD τ) ↦[slotSet s]{fullShare} f0))
    ∗ semVal ((c : Thread nD τ), .dma sm) 0 ∗ (kvM.view.loc (c : Thread nD τ) ↦[Finset.univ]{q} KV))

/-- What is set aside while `n` copies of a slot are under way. -/
def kept (c : Dev nD) (KV : Vec F S61440x2x8x128 .fp8e4m3) (f0 : Vec F S2x512x2x8x128 .fp8e4m3) (q : PosShare TreeShare)
    (s n : ℕ) (P : ℕ → ℕ) : sProp 𝕄 :=
  iprop((kvM.view.loc (c : Thread nD τ) ↦[Finset.univ]{shareDrop q n} KV)
    ∗ (bigSep Finset.univ fun t : Fin n => (kvM.view.loc (c : Thread nD τ) ↦[Finset.univ \ kvSet (P t.val)]{shareTok q n t} KV))
    ∗ (bufM.view.loc (c : Thread nD τ) ↦[slotSet s \ headSet s n]{fullShare} f0))

/-- A share of the page array, dealt to the copies: each takes its page of its part. -/
theorem kv_deal (c : Dev nD) (KV : Vec F S61440x2x8x128 .fp8e4m3) (q : PosShare TreeShare) (n : ℕ) (P : ℕ → ℕ) :
    (kvM.view.loc (c : Thread nD τ) ↦[Finset.univ]{q} KV : sProp 𝕄)
      ⊣⊢ iprop((kvM.view.loc (c : Thread nD τ) ↦[Finset.univ]{shareDrop q n} KV)
        ∗ (bigSep Finset.univ fun t : Fin n => (kvM.view.loc (c : Thread nD τ) ↦[kvSet (P t.val)]{shareTok q n t} KV))
        ∗ (bigSep Finset.univ fun t : Fin n => (kvM.view.loc (c : Thread nD τ) ↦[Finset.univ \ kvSet (P t.val)]{shareTok q n t} KV))) := by
  have h := pointsTo_toks (ℓ := kvM.view.loc (c : Thread nD τ)) (S := Finset.univ) (f := KV) (Ix := Unit) (Name := ℕ) (U := Pipeline.UD sig nD τ) (Lvl := ℕ) q n
  have hs (t : Fin n) := pointsTo_split_subset (ℓ := kvM.view.loc (c : Thread nD τ)) (S := Finset.univ) (I := kvSet (P t.val)) (f := KV) (q := shareTok q n t) (Ix := Unit) (Name := ℕ) (U := Pipeline.UD sig nD τ) (Lvl := ℕ) (Finset.subset_univ _)
  have hm1 : (bigSep Finset.univ fun t : Fin n => (kvM.view.loc (c : Thread nD τ) ↦[Finset.univ]{shareTok q n t} KV) : sProp 𝕄)
      ⊢ bigSep Finset.univ fun t : Fin n => iprop((kvM.view.loc (c : Thread nD τ) ↦[kvSet (P t.val)]{shareTok q n t} KV)
        ∗ (kvM.view.loc (c : Thread nD τ) ↦[Finset.univ \ kvSet (P t.val)]{shareTok q n t} KV)) := bigSep_mono fun t _ => (hs t).1
  have hm2 : (bigSep Finset.univ fun t : Fin n => iprop((kvM.view.loc (c : Thread nD τ) ↦[kvSet (P t.val)]{shareTok q n t} KV)
        ∗ (kvM.view.loc (c : Thread nD τ) ↦[Finset.univ \ kvSet (P t.val)]{shareTok q n t} KV)) : sProp 𝕄)
      ⊢ bigSep Finset.univ fun t : Fin n => (kvM.view.loc (c : Thread nD τ) ↦[Finset.univ]{shareTok q n t} KV) := bigSep_mono fun t _ => (hs t).2
  constructor
  · refine h.1.trans ?_
    rw [← bigSep_sep']
    iintro ⟨H1, H2⟩
    isplitl [H1]
    · iexact H1
    · iapply hm1 $$ H2
  · rw [← bigSep_sep']
    iintro ⟨H1, H2⟩
    iapply h.2
    isplitl [H1]
    · iexact H1
    · iapply hm2 $$ H2

/-- A slot's pages, dealt to the copies. -/
theorem buf_deal (c : Dev nD) (f0 : Vec F S2x512x2x8x128 .fp8e4m3) (s n : ℕ) :
    (bufM.view.loc (c : Thread nD τ) ↦[slotSet s]{fullShare} f0 : sProp 𝕄)
      ⊢ iprop((bigSep Finset.univ fun t : Fin n => (bufM.view.loc (c : Thread nD τ) ↦[pageSet s t.val]{fullShare} f0))
        ∗ (bufM.view.loc (c : Thread nD τ) ↦[slotSet s \ headSet s n]{fullShare} f0)) := by
  have h := pointsTo_biUnion (ℓ := bufM.view.loc (c : Thread nD τ)) (f := f0) (q := fullShare) (Ix := Unit) (Name := ℕ) (U := Pipeline.UD sig nD τ) (Lvl := ℕ) Finset.univ
    (fun t : Fin n => pageSet s t.val) (pages_disjoint s n)
  rw [← h]
  exact (pointsTo_split_subset (headSet_sub s n)).1

/-- and their return, filled. -/
theorem buf_join (c : Dev nD) (KV : Vec F S61440x2x8x128 .fp8e4m3) (f0 : Vec F S2x512x2x8x128 .fp8e4m3) (s n : ℕ) (P : ℕ → ℕ) (hP : ∀ p, P p < 61440) :
    iprop((bigSep Finset.univ fun t : Fin n => (bufM.view.loc (c : Thread nD τ) ↦[pageSet s t.val]{fullShare} gath KV P hP))
        ∗ (bufM.view.loc (c : Thread nD τ) ↦[slotSet s \ headSet s n]{fullShare} f0))
      ⊢ (full c KV s n P hP : sProp 𝕄) := by
  have h := pointsTo_biUnion (ℓ := bufM.view.loc (c : Thread nD τ)) (f := gath KV P hP) (q := fullShare) (Ix := Unit) (Name := ℕ) (U := Pipeline.UD sig nD τ) (Lvl := ℕ) Finset.univ
    (fun t : Fin n => pageSet s t.val) (pages_disjoint s n)
  rw [← h]
  refine (pointsTo_join_subset (headSet_sub s n)).trans ?_
  unfold full
  iintro H
  iexists ((headSet s n).piecewise (gath KV P hP) f0)
  isplitr
  · ipureintro
    intro j h0 h1
    exact Finset.piecewise_eq_of_mem _ _ _ (mem_headSet.mpr ⟨h0, h1⟩)
  · iexact H

/-- An idle slot made ready for `n` copies. -/
theorem open_slot (c : Dev nD) (KV : Vec F S61440x2x8x128 .fp8e4m3) (q : PosShare TreeShare) (s n : ℕ) (P : ℕ → ℕ) (hP : ∀ p, P p < 61440)
    (sm : DmaSem sig) :
    (idle c KV q s sm : sProp 𝕄) ⊢ |={Set.univ}=> iprop(∃ f0, started c KV f0 q s n P hP sm 0 ∗ kept c KV f0 q s n P) := by
  have ha := batch_alloc' (EC (F := F)) (c := (c : Thread nD τ)) (sm := .dma sm) () 256 (done c KV q s n P hP) (E := Set.univ)
  have hz (f0 : Vec F S2x512x2x8x128 .fp8e4m3) : iprop((bigSep Finset.univ fun t : Fin n => (kvM.view.loc (c : Thread nD τ) ↦[kvSet (P t.val)]{shareTok q n t} KV))
      ∗ (bigSep Finset.univ fun t : Fin n => (bufM.view.loc (c : Thread nD τ) ↦[pageSet s t.val]{fullShare} f0)))
      ⊢ (bigSep (pending 0) (need c KV f0 q s n P) : sProp 𝕄) := by
    rw [← bigSep_pending_zero, ← bigSep_sep']; exact .rfl
  unfold idle started kept
  iintro ⟨⟨%f0, Hb⟩, Hs, Hk⟩
  imod ha $$ Hs with HB
  ihave Hk := (kv_deal c KV q n P).1 $$ Hk
  icases Hk with ⟨Hk1, Hk2, Hk3⟩
  ihave Hb := (buf_deal c f0 s n) $$ Hb
  icases Hb with ⟨Hb1, Hb2⟩
  imodintro
  iexists f0
  isplitl [HB Hk2 Hb1]
  · isplitl [HB]
    · iexact HB
    · iapply (hz f0)
      isplitl [Hk2]
      · iexact Hk2
      · iexact Hb1
  · isplitl [Hk1]
    · iexact Hk1
    · isplitl [Hk3]
      · iexact Hk3
      · iexact Hb2

/-- What the copies hand back, with what was set aside: the slot filled, the share of the page array whole. -/
theorem close_slot (c : Dev nD) (KV : Vec F S61440x2x8x128 .fp8e4m3) (f0 : Vec F S2x512x2x8x128 .fp8e4m3) (q : PosShare TreeShare)
    (s n : ℕ) (P : ℕ → ℕ) (hP : ∀ p, P p < 61440) :
    iprop(bigSep Finset.univ (done c KV q s n P hP) ∗ kept c KV f0 q s n P)
      ⊢ (iprop(full c KV s n P hP ∗ (kvM.view.loc (c : Thread nD τ) ↦[Finset.univ]{q} KV)) : sProp 𝕄) := by
  have hz : (bigSep Finset.univ (done c KV q s n P hP) : sProp 𝕄)
      ⊢ iprop((bigSep Finset.univ fun t : Fin n => (kvM.view.loc (c : Thread nD τ) ↦[kvSet (P t.val)]{shareTok q n t} KV))
        ∗ (bigSep Finset.univ fun t : Fin n => (bufM.view.loc (c : Thread nD τ) ↦[pageSet s t.val]{fullShare} gath KV P hP))) := by
    rw [← bigSep_sep']; exact .rfl
  unfold kept
  iintro ⟨HD, Hk1, Hk3, Hb2⟩
  ihave HD := hz $$ HD
  icases HD with ⟨Hk2, Hb1⟩
  isplitl [Hb1 Hb2]
  · iapply (buf_join c KV f0 s n P hP)
    isplitl [Hb1]
    · iexact Hb1
    · iexact Hb2
  · iapply (kv_deal c KV q n P).2
    isplitl [Hk1]
    · iexact Hk1
    · isplitl [Hk2]
      · iexact Hk2
      · iexact Hk3

end Cert.Kernel.Hand

end
-- ==== Proof.Twin.Drain.lean ====
/-
  The loop that waits for the page copies of one sequence: sixteen a trip; after it the slot holds the sequence's pages.
-/
module

public import proofs.«01_k».proof.Proof.Twin.IssueLoops
public import proofs.«01_k».proof.Proof.Twin.Slot

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copies of a slot all started, the first `k` groups of sixteen waited for. -/
def waited (c : Dev nD) (KV : Vec F S61440x2x8x128 .fp8e4m3) (q : PosShare TreeShare)
    (s n : ℕ) (P : ℕ → ℕ) (hP : ∀ p, P p < 61440) (sm : DmaSem sig) (k : ℕ) : sProp 𝕄 :=
  iprop(Batch EC (c : Thread nD τ) (.dma sm) () 256 (done c KV q s n P hP) n (16 * 256 * k) ∗ ∃ W, owes (c : Thread nD τ) 0 W)

/-- A trip of the waiting loop waits for sixteen copies. -/
theorem t5_trip (c : Dev nD) (KV : Vec F S61440x2x8x128 .fp8e4m3) (q : PosShare TreeShare) (s n : ℕ) (P : ℕ → ℕ) (hP : ∀ p, P p < 61440)
    (i : grid0.Coords) (a3) (h3) (a4) (h4) (a6) (h6) (hbw : bufM.IsWhole) (hkw : kvM.IsWhole) (ht hl) (a0 : BitVec 32) (v : BitVec 32) (hc : k0_chk67 i v)
    (k : Fin (k0_t5_loop v).trips) (hn : 16 * k.val + 16 ≤ n) (x : BitVec 32) :
    (waited c KV q s n P hP (semAt (k0_off227 i) (k0_off227_inb i)) k.val : sProp 𝕄)
      ⊢ wp frame (wpE (defs₀ (F := F)) Variants.none (c : Thread nD τ) none) Set.univ
          (k0_t5_body (F := F) i tbM ht lnM hl a3 h3 a4 h4 kvM hkw a6 h6 bufM hbw cc0_scratch1 a0 v hc k x)
          (fun _ => waited c KV q s n P hP (semAt (k0_off227 i) (k0_off227_inb i)) (k.val + 1)) := by
  have hstep (W) := wp_waitBatchMul (EC (F := F)) Variants.none (c : Thread nD τ) none (sem := semAt (k0_off227 i) (k0_off227_inb i))
    (defs := defs₀ (F := F))
    (srcw := (kvM.slice (Rect.unit (s := S61440x2x8x128) ![0, 0, 0, 0] S16x2x8x128.size inb_S61440x2x8x128_S16x2x8x128_0_0_0_0) (fun _ => rfl)))
    (dstw := ((bufM.slice (Rect.unit (s := S2x512x2x8x128) (k0_off228 i v k) S1x16x2x8x128.size (k0_off228_inb i v hc k)) (fun _ => rfl)).squeeze S16x2x8x128 squeezes_S1x16x2x8x128_S16x2x8x128))
    (hsrc := (hkw.wordExact_slice rfl _ wordsfp8e4m3_S61440x2x8x128_S16x2x8x128_0_0_0_0))
    (hdst := ((hbw.wordExact_slice rfl _ (k0_off228_wordsfp8e4m3 i v hc k)).reshape _ _))
    (k := fun _ => (Prog.ret 0#32 : Prog (TpuEff nD τ sig (Elt F) Λ₀ .tc) (BitVec 32)))
    (Q := fun _ => waited c KV q s n P hP (semAt (k0_off227 i) (k0_off227_inb i)) (k.val + 1))
    () (N := 256) 16 group_credit (D := done c KV q s n P hP) (j := n) (u := 16 * 256 * k.val) (by omega) (W := W)
  change _ ⊢ wp frame (wpE (defs₀ (F := F)) Variants.none (c : Thread nD τ) none) Set.univ
    (.op (.waitDma2 (semAt (k0_off227 i) (k0_off227_inb i))
      (kvM.slice (Rect.unit (s := S61440x2x8x128) ![0, 0, 0, 0] S16x2x8x128.size inb_S61440x2x8x128_S16x2x8x128_0_0_0_0) (fun _ => rfl))
      ((bufM.slice (Rect.unit (s := S2x512x2x8x128) (k0_off228 i v k) S1x16x2x8x128.size (k0_off228_inb i v hc k)) (fun _ => rfl)).squeeze S16x2x8x128 squeezes_S1x16x2x8x128_S16x2x8x128)
      (hkw.wordExact_slice rfl _ wordsfp8e4m3_S61440x2x8x128_S16x2x8x128_0_0_0_0)
      ((hbw.wordExact_slice rfl _ (k0_off228_wordsfp8e4m3 i v hc k)).reshape _ _)) (fun _ => Prog.ret 0#32)) _
  have hret : (waited c KV q s n P hP (semAt (k0_off227 i) (k0_off227_inb i)) (k.val + 1) : sProp 𝕄)
      ⊢ wp frame (wpE (defs₀ (F := F)) Variants.none (c : Thread nD τ) none) Set.univ (Prog.ret 0#32 : Prog (TpuEff nD τ sig (Elt F) Λ₀ .tc) (BitVec 32))
          (fun _ => waited c KV q s n P hP (semAt (k0_off227 i) (k0_off227_inb i)) (k.val + 1)) := by
    rw [wp_ret]; iintro H; imodintro; iexact H
  have e : 16 * 256 * (k.val + 1) = 16 * 256 * k.val + 16 * 256 := by omega
  refine (show _ ⊢ _ from ?_)
  unfold waited at hret ⊢
  rw [e] at hret ⊢
  unfold waited at hstep
  rw [e] at hstep
  iintro ⟨HB, %W, HW⟩
  iapply (hstep W) $$ [HB HW]
  · isplitl [HB]
    · iexact HB
    · iexact HW
  · iintro ⟨HB, HW⟩
    iapply hret
    isplitl [HB]
    · iexact HB
    · iexists _
      iexact HW

/-- The waiting loop waits for every copy of the sequence. -/
theorem t5_drain (c : Dev nD) (KV : Vec F S61440x2x8x128 .fp8e4m3) (q : PosShare TreeShare) (s : ℕ) (P : ℕ → ℕ) (hP : ∀ p, P p < 61440)
    (i : grid0.Coords) (a3) (h3) (a4) (h4) (a6) (h6) (hbw : bufM.IsWhole) (hkw : kvM.IsWhole) (ht hl) (a0 : BitVec 32) (v : BitVec 32)
    (hv : v.toNat ≤ 8192) (hc : k0_chk67 i v) (x : BitVec 32) (hok) (Q : BitVec 32 → sProp 𝕄) :
    iprop(waited c KV q s (16 * ngOf v.toNat) P hP (semAt (k0_off227 i) (k0_off227_inb i)) 0
        ∗ (∀ y, waited c KV q s (16 * ngOf v.toNat) P hP (semAt (k0_off227 i) (k0_off227_inb i)) (ngOf v.toNat) -∗ Q y))
      ⊢ wp frame (wpE (defs₀ (F := F)) Variants.none (c : Thread nD τ) none) Set.univ
          (Scf.Loop.for (k0_t5_loop v) hok x (k0_t5_body (F := F) i tbM ht lnM hl a3 h3 a4 h4 kvM hkw a6 h6 bufM hbw cc0_scratch1 a0 v hc)) Q :=
  loop_wp c (k0_t5_loop v) hok (ngOf v.toNat) (t5_trips hv) x
    (k0_t5_body (F := F) i tbM ht lnM hl a3 h3 a4 h4 kvM hkw a6 h6 bufM hbw cc0_scratch1 a0 v hc)
    (fun k => waited c KV q s (16 * ngOf v.toNat) P hP (semAt (k0_off227 i) (k0_off227_inb i)) k)
    (fun k acc => t5_trip c KV q s _ P hP i a3 h3 a4 h4 a6 h6 hbw hkw ht hl a0 v hc k
      (by have := k.isLt.trans_eq (t5_trips hv); omega) acc) Q

/-- After the waiting loop, with what was set aside: the slot filled, its semaphore at zero, its share of the page array whole. -/
theorem collect (c : Dev nD) (KV : Vec F S61440x2x8x128 .fp8e4m3) (f0 : Vec F S2x512x2x8x128 .fp8e4m3) (q : PosShare TreeShare)
    (s g : ℕ) (P : ℕ → ℕ) (hP : ∀ p, P p < 61440) (sm : DmaSem sig) :
    iprop(waited c KV q s (16 * g) P hP sm g ∗ kept c KV f0 q s (16 * g) P)
      ⊢ (|={Set.univ}=> iprop(full c KV s (16 * g) P hP ∗ semVal ((c : Thread nD τ), .dma sm) 0
          ∗ (kvM.view.loc (c : Thread nD τ) ↦[Finset.univ]{q} KV) ∗ ∃ W, owes (c : Thread nD τ) 0 W) : sProp 𝕄) := by
  have hb := batch_collect' (EC (F := F)) (c := (c : Thread nD τ)) (sm := .dma sm) (ι := ()) (N := 256) (by decide) (D := done c KV q s (16 * g) P hP)
  have e : 16 * 256 * g = 256 * (16 * g) := by omega
  unfold waited
  rw [e]
  iintro ⟨⟨HB, HW⟩, Hk⟩
  imod hb $$ HB with ⟨HD, Hs⟩
  ihave H := (close_slot c KV f0 q s (16 * g) P hP) $$ [HD Hk]
  · isplitl [HD]
    · iexact HD
    · iexact Hk
  icases H with ⟨Hf, Hkv⟩
  imodintro
  isplitl [Hf]
  · iexact Hf
  isplitl [Hs]
  · iexact Hs
  isplitl [Hkv]
  · iexact Hkv
  · iexact HW

end Cert.Kernel.Hand

end
-- ==== Proof.Twin.Body.lean ====
/-
  The body of the kernel at one grid point: the sequence's copies finished, the next sequence's issued, its scores in the output tile.
-/
module

public import proofs.«01_k».proof.Proof.Twin.Score
public import proofs.«01_k».proof.Proof.Twin.Drain

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The length of a sequence. -/
def lenOf (LN : IVec S96 32) (b : ℕ) : BitVec 32 := if h : b < 96 then LN (ix1 ⟨b, h⟩) else 0#32
/-- Every length fits the table's row. -/
abbrev Short (LN : IVec S96 32) : Prop := ∀ j, (LN j).toNat ≤ 8192
theorem lenOf_le {LN : IVec S96 32} (h : Short LN) (b : ℕ) : (lenOf LN b).toNat ≤ 8192 := by
  unfold lenOf; split
  · exact h _
  · decide

/-- A load of a length. -/
theorem ln_load (c : Dev nD) (LN : IVec S96 32) (q : PosShare TreeShare) (o : Fin 1 → ℕ) (hb : ∀ a, o a + S1.size a ≤ S96.size a) (r : ℕ) (ho : o = ![r]) (hr : r < 96)
    (Q : BitVec 32 → sProp 𝕄) :
    iprop((lnM.view.loc (c : Thread nD τ) ↦[Finset.univ]{q} LN) ∗ ((lnM.view.loc (c : Thread nD τ) ↦[Finset.univ]{q} LN) -∗ Q (lenOf LN r)))
      ⊢ wp frame (wpE (defs₀ (F := F)) Variants.none (c : Thread nD τ) none) Set.univ
          (smemLoad lnM (Rect.unit (s := S96) o S1.size hb) numel1_S1 rfl) Q := by
  have hx (x : S1.Idx) : LN ((Rect.unit (s := S96) o S1.size hb).emb x) = lenOf LN r := by
    subst ho
    unfold lenOf
    rw [dif_pos hr]
    congr 1
    funext a
    apply Fin.ext
    match a with
    | ⟨0, _⟩ => have : (x 0).val < 1 := (x 0).isLt; show r + 1 * (x 0).val = r; omega
  unfold smemLoad
  iintro ⟨H, HQ⟩
  iapply (wp_smemLoadElt Variants.none (c : Thread nD τ) none Set.univ (m := lnM) (r := Rect.unit (s := S96) o S1.size hb)
    (S := Finset.univ) (q := q) (f := LN) (Finset.subset_univ _)) $$ H
  iintro H
  rw [wp_ret]
  imodintro
  rw [show (lnM.access (Rect.unit (s := S96) o S1.size hb)).read (Elt F) LN (Shape.Idx.first (numel1_S1.symm ▸ Nat.one_pos)) = lenOf LN r from hx _]
  iapply HQ $$ H

theorem t2_nil (v : BitVec 32) (hok x) (body : Fin (k0_t2_loop v).trips → BitVec 32 → Prog (TpuEff nD τ sig (Elt F) Λ₀ .tc) (BitVec 32)) :
    Scf.Loop.for (k0_t2_loop v) hok x body = .ret x := Scf.for_rem_eq _ _ hok x body
theorem t4_nil (v : BitVec 32) (hok x) (body : Fin (k0_t4_loop v).trips → BitVec 32 → Prog (TpuEff nD τ sig (Elt F) Λ₀ .tc) (BitVec 32)) :
    Scf.Loop.for (k0_t4_loop v) hok x body = .ret x := Scf.for_rem_eq _ _ hok x body
theorem t6_nil (v : BitVec 32) (hok x) (body : Fin (k0_t6_loop v).trips → BitVec 32 → Prog (TpuEff nD τ sig (Elt F) Λ₀ .tc) (BitVec 32)) :
    Scf.Loop.for (k0_t6_loop v) hok x body = .ret x := Scf.for_rem_eq _ _ hok x body
theorem t8_nil (v : BitVec 32) (hok x) (body : Fin (k0_t8_loop v).trips → BitVec 32 → Prog (TpuEff nD τ sig (Elt F) Λ₀ .tc) (BitVec 32)) :
    Scf.Loop.for (k0_t8_loop v) hok x body = .ret x := Scf.for_rem_eq _ _ hok x body
theorem t10_nil (v : BitVec 32) (hok x) (body : Fin (k0_t10_loop v).trips → BitVec 32 → Prog (TpuEff nD τ sig (Elt F) Λ₀ .tc) (BitVec 32)) :
    Scf.Loop.for (k0_t10_loop v) hok x body = .ret x := Scf.for_rem_eq _ _ hok x body

/-- The first point is where the kernel issues the first sequence's copies. -/
theorem cond1_iff (i : grid0.Coords) : k0_cond1 i = 1#1 ↔ (i 0).val = 0 := by
  unfold k0_cond1
  generalize i 0 = n
  change Fin 96 at n
  revert n
  decide +kernel
/-- Every point but the last issues the next sequence's copies. -/
theorem cond2_iff (i : grid0.Coords) : k0_cond2 i = 1#1 ↔ (i 0).val + 1 < 96 := by
  unfold k0_cond2
  generalize i 0 = n
  change Fin 96 at n
  revert n
  decide +kernel

theorem semAt_congr {o o' : Fin 1 → ℕ} {hb hb'} (h : o = o') : semAt o hb = semAt o' hb' := by subst h; rfl
/-- The semaphore of a slot. -/
def smS (p : ℕ) : DmaSem sig := semAt ![p % 2] (fun a => match a with | ⟨0, _⟩ => show p % 2 + 1 ≤ 2 by omega)
theorem sem99 (i : grid0.Coords) (h) : semAt (k0_off99 i) (k0_off99_inb i h) = smS (((i 0).val + 1) % 2) :=
  semAt_congr (by
    show ![(Scalar.subi 1#32 (Scalar.remsi (BitVec.ofNat 32 (i 0).val) 2#32)).toNat] = _
    rw [slotNext _ (coord_lt i), Nat.mod_mod])
theorem sem227 (i : grid0.Coords) : semAt (k0_off227 i) (k0_off227_inb i) = smS ((i 0).val % 2) :=
  semAt_congr (by
    show ![(Scalar.remsi (BitVec.ofNat 32 (i 0).val) 2#32).toNat] = _
    rw [slotCur _ (coord_lt i), Nat.mod_mod])
theorem sem0_eq : sem0 = smS 0 := rfl

/-- A slot's share of the page array. -/
def qOf (p : ℕ) : PosShare TreeShare := if p = 0 then fullShare.left else fullShare.right

/-- A slot at rest. -/
def idleS (c : Dev nD) (KV : Vec F S61440x2x8x128 .fp8e4m3) (p : ℕ) : sProp 𝕄 := idle c KV (qOf p) p (smS p)

/-- A sequence's copies issued into its slot. -/
def readyS (c : Dev nD) (KV : Vec F S61440x2x8x128 .fp8e4m3) (TB : IVec S96x512 32) (hTB : InPool TB) (LN : IVec S96 32) (b : ℕ) : sProp 𝕄 :=
  iprop(∃ f0, started c KV f0 (qOf (b % 2)) (b % 2) (16 * ngOf (lenOf LN b).toNat) (pgOf TB b) (pgOf_lt hTB b) (smS (b % 2)) (16 * ngOf (lenOf LN b).toNat)
    ∗ kept c KV f0 (qOf (b % 2)) (b % 2) (16 * ngOf (lenOf LN b).toNat) (pgOf TB b))

/-- The state of a sequence's slot when its grid point begins. -/
def slotAt (c : Dev nD) (KV : Vec F S61440x2x8x128 .fp8e4m3) (TB : IVec S96x512 32) (hTB : InPool TB) (LN : IVec S96 32) (b : ℕ) : sProp 𝕄 :=
  if b = 0 ∨ 96 ≤ b then idleS c KV (b % 2) else readyS c KV TB hTB LN b

/-- The two scalar tables. -/
def tables (c : Dev nD) (TB : IVec S96x512 32) (LN : IVec S96 32) (qt ql : PosShare TreeShare) : sProp 𝕄 :=
  iprop((tbM.view.loc (c : Thread nD τ) ↦[Finset.univ]{qt} TB) ∗ (lnM.view.loc (c : Thread nD τ) ↦[Finset.univ]{ql} LN))

/-- Opening a slot at rest for a sequence's copies. -/
theorem open_seq (c : Dev nD) (KV : Vec F S61440x2x8x128 .fp8e4m3) (TB : IVec S96x512 32) (hTB : InPool TB) (LN : IVec S96 32) (b : ℕ) :
    (idleS c KV (b % 2) : sProp 𝕄) ⊢ |={Set.univ}=> iprop(∃ f0,
      started c KV f0 (qOf (b % 2)) (b % 2) (16 * ngOf (lenOf LN b).toNat) (pgOf TB b) (pgOf_lt hTB b) (smS (b % 2)) 0
        ∗ kept c KV f0 (qOf (b % 2)) (b % 2) (16 * ngOf (lenOf LN b).toNat) (pgOf TB b)) :=
  open_slot c KV (qOf (b % 2)) (b % 2) _ (pgOf TB b) (pgOf_lt hTB b) (smS (b % 2))

theorem full3_emb (x : S1x32x128.Idx) : (Rect.unit (s := S1x32x128) ![0, 0, 0] S1x32x128.size inb_S1x32x128_S1x32x128_0_0_0).emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem full2_emb (x : S32x128.Idx) : (Rect.unit (s := S32x128) ![0, 0] S32x128.size inb_S32x128_S32x128_0_0).emb x = x := by
  funext a
  apply Fin.ext
  match a with
  | ⟨0, _⟩ => show 0 + 1 * (x 0).val = (x 0).val; omega
  | ⟨1, _⟩ => show 0 + 1 * (x 1).val = (x 1).val; omega

theorem off97_eq (i : grid0.Coords) (h : k0_cond2 i = 1#1) : k0_off97 i = ![(i 0).val + 1] := by
  rw [← (nextRow i h).1]; rfl
theorem off226_eq (i : grid0.Coords) : k0_off226 i = ![(i 0).val] := by
  show ![(BitVec.ofNat 32 (i 0).val).toNat] = _
  rw [toNat_nat (by have := coord_lt i; omega)]
theorem off231_eq (i : grid0.Coords) : k0_off231 i = ![(i 0).val] := off226_eq i

/-- The first point's issue. -/
def issue1 (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond1 i = 1#1) :
    Prog (TpuEff nD τ sig (Elt F) Λ₀ .tc) PUnit := do
  let v ← smemLoad lnM (Rect.unit (s := S96) ![0] S1.size inb_S96_S1_0) numel1_S1 rfl
  have hw : k0_chk1 i v := (← Prog.lift (TpuEff.assume (k0_chk1 i v) (k0_chk1.dec i v))).down
  let x ← Scf.Loop.for (k0_t1_loop v) (k0_t1_ok i v hw h) 0#32 (k0_t1_body (F := F) i tbM ht lnM hl a3 h3 a4 h4 kvM hkw a6 h6 bufM hbw cc0_scratch1 h v hw)
  let _ ← Scf.Loop.for (k0_t2_loop v) (k0_t2_ok i v hw h) x (k0_t2_body (F := F) i tbM ht lnM hl a3 h3 a4 h4 kvM hkw a6 h6 bufM hbw cc0_scratch1 h v hw
    (Scalar.addi 0#32 (Scalar.muli (Scalar.divsi (Scalar.subi (Scalar.divsi (Scalar.addi v 255#32) 256#32) 0#32) 1#32) 1#32)))
  pure ⟨⟩

/-- The next sequence's issue. -/
def issue2 (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond2 i = 1#1) :
    Prog (TpuEff nD τ sig (Elt F) Λ₀ .tc) PUnit := do
  let v ← smemLoad lnM (Rect.unit (s := S96) (k0_off97 i) S1.size (k0_off97_inb i h)) numel1_S1 rfl
  have hw : k0_chk34 i v := (← Prog.lift (TpuEff.assume (k0_chk34 i v) (k0_chk34.dec i v))).down
  let x ← Scf.Loop.for (k0_t3_loop v) (k0_t3_ok i v hw h) 0#32 (k0_t3_body (F := F) i tbM ht lnM hl a3 h3 a4 h4 kvM hkw a6 h6 bufM hbw cc0_scratch1 h
    (Scalar.addi (BitVec.ofNat 32 (i 0).val) 1#32) v hw)
  let _ ← Scf.Loop.for (k0_t4_loop v) (k0_t4_ok i v hw h) x (k0_t4_body (F := F) i tbM ht lnM hl a3 h3 a4 h4 kvM hkw a6 h6 bufM hbw cc0_scratch1 h
    (Scalar.addi (BitVec.ofNat 32 (i 0).val) 1#32) v hw
    (Scalar.addi 0#32 (Scalar.muli (Scalar.divsi (Scalar.subi (Scalar.divsi (Scalar.addi v 255#32) 256#32) 0#32) 1#32) 1#32)))
  pure ⟨⟩

/-- The head of the body: the issues, and the query's load. -/
theorem part39_eq (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) :
    k0_part39 (F := F) i tbM ht lnM hl a3 h3 a4 h4 kvM hkw a6 h6 bufM hbw cc0_scratch1
      = ((if h : k0_cond1 i = 1#1 then issue1 i a3 h3 a4 h4 a6 h6 hbw hkw ht hl h else pure ⟨⟩) >>= fun _ =>
        (if h : k0_cond2 i = 1#1 then issue2 i a3 h3 a4 h4 a6 h6 hbw hkw ht hl h else pure ⟨⟩) >>= fun _ =>
        Prog.lift (.load a3 (Rect.unit (s := S1x32x128) ![0, 0, 0] S1x32x128.size inb_S1x32x128_S1x32x128_0_0_0).toLoadRect (View.loadsAt_vmem h_S1x32x128)) >>= fun v8 =>
        pure ⟨BitVec.ofNat 32 (i 0).val, Scalar.remsi (BitVec.ofNat 32 (i 0).val) 2#32, k0_pay89 v8, iota .tc S32x128 32 [1] iota_S32x128_d1_w32, k0_pay90, k0_pay91⟩) := by
  rw [k0_part39_eq_skeleton]
  unfold k0_part39_skel
  by_cases h1 : k0_cond1 i = 1#1 <;> by_cases h2 : k0_cond2 i = 1#1 <;> simp only [h1, h2, dif_pos, dif_neg, not_false_eq_true, issue1, issue2, bind_assoc, pure_bind] <;> rfl

/-- What the matrix unit multiplies with, from the query. -/
def qdOf (q : Vec F S1x32x128 .bf16) : FVec F S32x256 .bf16 :=
  k0_pay96 (k0_pay89 q) (iota .tc S32x128 32 [1] iota_S32x128_d1_w32)
    (k0_pay92 (k0_pay89 q) (iota .tc S32x128 32 [1] iota_S32x128_d1_w32) k0_pay90 k0_pay91) 2#32
    (k0_pay93 (iota .tc S32x128 32 [1] iota_S32x128_d1_w32)) (k0_pay94 (iota .tc S32x128 32 [1] iota_S32x128_d1_w32)) k0_pay95

/-- The tail of the body: the waiting, the scores, the zeros past the sequence. -/
def bodyRest (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (q : Vec F S1x32x128 .bf16) :
    Prog (TpuEff nD τ sig (Elt F) Λ₀ .tc) PUnit := do
  let v ← smemLoad lnM (Rect.unit (s := S96) (k0_off226 i) S1.size (k0_off226_inb i)) numel1_S1 rfl
  have hw : k0_chk67 i v := (← Prog.lift (TpuEff.assume (k0_chk67 i v) (k0_chk67.dec i v))).down
  let x ← Scf.Loop.for (k0_t5_loop v) (k0_t5_ok i v hw) 0#32 (k0_t5_body (F := F) i tbM ht lnM hl a3 h3 a4 h4 kvM hkw a6 h6 bufM hbw cc0_scratch1 (BitVec.ofNat 32 (i 0).val) v hw)
  let _ ← Scf.Loop.for (k0_t6_loop v) (k0_t6_ok i v hw) x (k0_t6_body (F := F) i tbM ht lnM hl a3 h3 a4 h4 kvM hkw a6 h6 bufM hbw cc0_scratch1 (BitVec.ofNat 32 (i 0).val) v hw)
  let w ← smemLoad lnM (Rect.unit (s := S96) (k0_off231 i) S1.size (k0_off231_inb i)) numel1_S1 rfl
  have hc : k0_chk68 i w := (← Prog.lift (TpuEff.assume (k0_chk68 i w) (k0_chk68.dec i w))).down
  let sc ← Prog.lift (.load a4 (Rect.unit (s := S32x128) ![0, 0] S32x128.size inb_S32x128_S32x128_0_0).toLoadRect (View.loadsAt_vmem h_S32x128))
  let y ← Scf.Loop.for (k0_t7_loop w) (k0_t7_ok i w hc) 0#32 (k0_t7_body (F := F) i tbM ht lnM hl a3 h3 a4 h4 kvM hkw a6 h6 bufM hbw cc0_scratch1
    (Scalar.remsi (BitVec.ofNat 32 (i 0).val) 2#32) (qdOf q) w hc rowI laneI k0_pay97 4#32 k0_pay98 k0_pay99 0#32 sc)
  let _ ← Scf.Loop.for (k0_t8_loop w) (k0_t8_ok i w hc) y (k0_t8_body (F := F) i tbM ht lnM hl a3 h3 a4 h4 kvM hkw a6 h6 bufM hbw cc0_scratch1
    (Scalar.remsi (BitVec.ofNat 32 (i 0).val) 2#32) (qdOf q) w hc rowI laneI k0_pay97 4#32 k0_pay98 k0_pay99 0#32 sc
    (Scalar.addi 0#32 (Scalar.muli (Scalar.divsi (Scalar.subi (Scalar.divsi (Scalar.addi w 2047#32) 2048#32) 0#32) 1#32) 1#32)))
  let z ← Scf.Loop.for (k0_t9_loop w) (k0_t9_ok i w hc) 0#32 (k0_t9_body (F := F) i tbM ht lnM hl a3 h3 a4 h4 kvM hkw a6 h6 bufM hbw cc0_scratch1 w hc)
  let _ ← Scf.Loop.for (k0_t10_loop w) (k0_t10_ok i w hc) z (k0_t10_body (F := F) i tbM ht lnM hl a3 h3 a4 h4 kvM hkw a6 h6 bufM hbw cc0_scratch1 w hc)
  pure ⟨⟩

/-- The body as one chain. -/
theorem body_eq (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) :
    cc0_quest_bound (F := F) i tbM ht lnM hl a3 h3 a4 h4 kvM hkw a6 h6 bufM hbw cc0_scratch1
      = ((if h : k0_cond1 i = 1#1 then issue1 i a3 h3 a4 h4 a6 h6 hbw hkw ht hl h else pure ⟨⟩) >>= fun _ =>
        (if h : k0_cond2 i = 1#1 then issue2 i a3 h3 a4 h4 a6 h6 hbw hkw ht hl h else pure ⟨⟩) >>= fun _ =>
        Prog.lift (.load a3 (Rect.unit (s := S1x32x128) ![0, 0, 0] S1x32x128.size inb_S1x32x128_S1x32x128_0_0_0).toLoadRect (View.loadsAt_vmem h_S1x32x128)) >>= fun q =>
        bodyRest i a3 h3 a4 h4 a6 h6 hbw hkw ht hl q) := by
  rw [cc0_quest_bound_eq_skeleton]
  unfold cc0_quest_bound_skel
  simp only [part39_eq, k0_part40_eq_skeleton, k0_part40_skel, k0_part41_eq_skeleton, k0_part41_skel, k0_part42_eq_skeleton, k0_part42_skel, bind_assoc, pure_bind]
  rfl

/-- The first point's issue readies the first sequence's slot. -/
theorem issue1_wp (c : Dev nD) (KV : Vec F S61440x2x8x128 .fp8e4m3) (TB : IVec S96x512 32) (hTB : InPool TB) (LN : IVec S96 32) (hLN : Short LN)
    (qt ql : PosShare TreeShare) (i : grid0.Coords) (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond1 i = 1#1) :
    (iprop(tables c TB LN qt ql ∗ idleS c KV 0) : sProp 𝕄)
      ⊢ wp frame (wpE (defs₀ (F := F)) Variants.none (c : Thread nD τ) none) Set.univ (issue1 i a3 h3 a4 h4 a6 h6 hbw hkw ht hl h)
        (fun _ => iprop(tables c TB LN qt ql ∗ readyS c KV TB hTB LN 0)) := by
  unfold issue1 tables readyS
  iintro ⟨⟨Ht, Hl⟩, Hi⟩
  rw [wp_bind]
  iapply (ln_load c LN ql ![0] _ 0 rfl (by decide))
  isplitl [Hl]
  · iexact Hl
  iintro Hl
  rw [wp_bind]
  iapply (wp_assume Variants.none (c : Thread nD τ) none Set.univ (chk1_of i _ (lenOf_le hLN 0)))
  rw [wp_ret]
  imod (open_seq c KV TB hTB LN 0) $$ Hi with ⟨%f0, Hs, Hk⟩
  imodintro
  rw [wp_bind]
  iapply (t1_issue c TB hTB KV f0 (qOf 0) qt i a3 h3 a4 h4 a6 h6 hbw hkw ht hl h (lenOf LN 0) (lenOf_le hLN 0))
  isplitl [Ht Hs]
  · isplitl [Ht]
    · iexact Ht
    isplitl [Hs]
    · iexact Hs
    · iempintro
  iintro %y ⟨Ht, Hs, -⟩
  rw [wp_bind, t2_nil, wp_ret]
  imodintro
  rw [wp_pure]
  imodintro
  isplitl [Ht Hl]
  · isplitl [Ht]
    · iexact Ht
    · iexact Hl
  iexists f0
  isplitl [Hs]
  · iexact Hs
  · iexact Hk

/-- Every other issue readies the next sequence's slot. -/
theorem issue2_wp (c : Dev nD) (KV : Vec F S61440x2x8x128 .fp8e4m3) (TB : IVec S96x512 32) (hTB : InPool TB) (LN : IVec S96 32) (hLN : Short LN)
    (qt ql : PosShare TreeShare) (i : grid0.Coords) (b : ℕ) (hb : b = (i 0).val + 1)
    (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole) (h : k0_cond2 i = 1#1) :
    (iprop(tables c TB LN qt ql ∗ idleS c KV (b % 2)) : sProp 𝕄)
      ⊢ wp frame (wpE (defs₀ (F := F)) Variants.none (c : Thread nD τ) none) Set.univ (issue2 i a3 h3 a4 h4 a6 h6 hbw hkw ht hl h)
        (fun _ => iprop(tables c TB LN qt ql ∗ readyS c KV TB hTB LN b)) := by
  have hs : semAt (k0_off99 i) (k0_off99_inb i h) = smS (b % 2) := hb ▸ sem99 i h
  unfold issue2 tables readyS
  iintro ⟨⟨Ht, Hl⟩, Hi⟩
  rw [wp_bind]
  iapply (ln_load c LN ql _ _ b ((off97_eq i h).trans (by rw [hb])) (hb ▸ (cond2_iff i).mp h))
  isplitl [Hl]
  · iexact Hl
  iintro Hl
  rw [wp_bind]
  iapply (wp_assume Variants.none (c : Thread nD τ) none Set.univ (chk34_of i _ (lenOf_le hLN b)))
  rw [wp_ret]
  imod (open_seq c KV TB hTB LN b) $$ Hi with ⟨%f0, Hs, Hk⟩
  imodintro
  rw [wp_bind]
  rw [← hs]
  iapply (t3_issue c TB hTB KV f0 (qOf (b % 2)) qt (b % 2) b i (by rw [hb]) hb a3 h3 a4 h4 a6 h6 hbw hkw ht hl h (lenOf LN b) (lenOf_le hLN b))
  isplitl [Ht Hs]
  · isplitl [Ht]
    · iexact Ht
    isplitl [Hs]
    · iexact Hs
    · iempintro
  iintro %y ⟨Ht, Hs, -⟩
  rw [wp_bind, t4_nil, wp_ret]
  imodintro
  rw [wp_pure]
  imodintro
  isplitl [Ht Hl]
  · isplitl [Ht]
    · iexact Ht
    · iexact Hl
  iexists f0
  isplitl [Hs]
  · iexact Hs
  · iexact Hk

/-- The output tile of a sequence, some contents of its slot that hold its pages given. -/
def scored (c : Dev nD) (KV : Vec F S61440x2x8x128 .fp8e4m3) (TB : IVec S96x512 32) (hTB : InPool TB) (LN : IVec S96 32) (hLN : Short LN)
    (i : grid0.Coords) (b : ℕ) (a6 : Memref sig .tc .vmem S1x32x512 .f32) (Qb : Vec F S1x32x128 .bf16) (sc : Vec F S32x128 .f32) : sProp 𝕄 :=
  iprop(∃ g : Vec F S2x512x2x8x128 .fp8e4m3, ⌜∀ j : S2x512x2x8x128.Idx, (j 0).val = b % 2 → (j 1).val < 16 * ngOf (lenOf LN b).toNat → g j = gath KV (pgOf TB b) (pgOf_lt hTB b) j⌝
    ∗ owns (c : Thread nD τ) a6 fullShare (outF i (lenOf LN b) (chk68_of i _ (lenOf_le hLN b)) (qdOf Qb) sc g))

set_option maxHeartbeats 1000000 in
/-- The tail of the body takes a ready slot, leaves it at rest and the sequence's scores in the output tile. -/
theorem rest_wp (c : Dev nD) (KV : Vec F S61440x2x8x128 .fp8e4m3) (TB : IVec S96x512 32) (hTB : InPool TB) (LN : IVec S96 32) (hLN : Short LN)
    (qt ql : PosShare TreeShare) (i : grid0.Coords) (b : ℕ) (hb : b = (i 0).val)
    (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole)
    (Qb : Vec F S1x32x128 .bf16) (sc : Vec F S32x128 .f32) :
    (iprop(tables c TB LN qt ql ∗ readyS c KV TB hTB LN b ∗ owns (c : Thread nD τ) a4 fullShare sc ∗ (∃ X, owns (c : Thread nD τ) a6 fullShare X)
        ∗ ∃ W, owes (c : Thread nD τ) 0 W) : sProp 𝕄)
      ⊢ wp frame (wpE (defs₀ (F := F)) Variants.none (c : Thread nD τ) none) Set.univ (bodyRest i a3 h3 a4 h4 a6 h6 hbw hkw ht hl Qb)
        (fun _ => iprop(tables c TB LN qt ql ∗ idleS c KV (b % 2) ∗ owns (c : Thread nD τ) a4 fullShare sc
          ∗ scored c KV TB hTB LN hLN i b a6 Qb sc ∗ ∃ W, owes (c : Thread nD τ) 0 W)) := by
  have hs : semAt (k0_off227 i) (k0_off227_inb i) = smS (b % 2) := hb ▸ sem227 i
  have hb96 : b < 96 := hb ▸ coord_lt i
  have hv := lenOf_le hLN b
  unfold bodyRest tables readyS scored idleS idle
  iintro ⟨⟨Ht, Hl⟩, ⟨%f0, Hs, Hk⟩, H4, ⟨%X, H6⟩, HW⟩
  rw [wp_bind]
  iapply (ln_load c LN ql _ _ b ((off226_eq i).trans (by rw [hb])) hb96)
  isplitl [Hl]
  · iexact Hl
  iintro Hl
  rw [wp_bind]
  iapply (wp_assume Variants.none (c : Thread nD τ) none Set.univ (chk67_of i _ hv))
  rw [wp_ret]
  imodintro
  rw [wp_bind]
  rw [← hs]
  iapply (t5_drain c KV (qOf (b % 2)) (b % 2) (pgOf TB b) (pgOf_lt hTB b) i a3 h3 a4 h4 a6 h6 hbw hkw ht hl _ (lenOf LN b) hv)
  isplitl [Hs HW]
  · unfold waited started
    icases Hs with ⟨HB, -⟩
    isplitl [HB]
    · iexact HB
    · iexact HW
  iintro %y Hw
  imod (collect c KV f0 (qOf (b % 2)) (b % 2) (ngOf (lenOf LN b).toNat) (pgOf TB b) (pgOf_lt hTB b) (semAt (k0_off227 i) (k0_off227_inb i))) $$ [Hw Hk] with ⟨Hf, Hsem, Hkv, HW⟩
  · isplitl [Hw]
    · iexact Hw
    · iexact Hk
  unfold full
  icases Hf with ⟨%g, %hg, Hb⟩
  rw [wp_bind, t6_nil, wp_ret]
  imodintro
  rw [wp_bind]
  iapply (ln_load c LN ql _ _ b ((off231_eq i).trans (by rw [hb])) hb96)
  isplitl [Hl]
  · iexact Hl
  iintro Hl
  rw [wp_bind]
  iapply (wp_assume Variants.none (c : Thread nD τ) none Set.univ (chk68_of i _ hv))
  rw [wp_ret]
  imodintro
  rw [wp_bind]
  iapply (load_owns c a4 fullShare sc (Rect.unit (s := S32x128) ![0, 0] S32x128.size inb_S32x128_S32x128_0_0) (View.loadsAt_vmem h_S32x128))
  isplitl [H4]
  · iexact H4
  iintro H4
  rw [wp_ret]
  imodintro
  rw [show (fun x => sc ((Rect.unit (s := S32x128) ![0, 0] S32x128.size inb_S32x128_S32x128_0_0).emb x)) = sc from funext fun x => by rw [full2_emb]]
  rw [wp_bind]
  iapply (loop_wp c (k0_t7_loop (lenOf LN b)) (k0_t7_ok i _ (chk68_of i _ hv)) (ncOf (lenOf LN b).toNat) (t7_trips hv) 0#32 _
    (fun k => scoring c a6 i (lenOf LN b) (chk68_of i _ hv) (qdOf Qb) sc g (b % 2) (128 * k))
    (fun k acc => t7_trip c g (b % 2) i (by rw [hb]) a3 h3 a4 h4 a6 h6 hbw hkw ht hl _ (qdOf Qb) (lenOf LN b) (chk68_of i _ hv) sc k
      (by have := k.isLt.trans_eq (t7_trips hv); have := nc_le hv; omega) acc))
  isplitl [Hb H6]
  · unfold scoring
    isplitl [Hb]
    · iexact Hb
    iexists X
    isplitr
    · ipureintro; intro j hj; omega
    · iexact H6
  iintro %y2 HS
  rw [wp_bind, t8_nil, wp_ret]
  imodintro
  rw [wp_bind]
  iapply (loop_wp c (k0_t9_loop (lenOf LN b)) (k0_t9_ok i _ (chk68_of i _ hv)) (4 - ncOf (lenOf LN b).toNat) (t9_trips hv) 0#32 _
    (fun k => scoring c a6 i (lenOf LN b) (chk68_of i _ hv) (qdOf Qb) sc g (b % 2) (128 * (ncOf (lenOf LN b).toNat + k)))
    (fun k acc => t9_trip c g (b % 2) i a3 h3 a4 h4 a6 h6 hbw hkw ht hl (qdOf Qb) (lenOf LN b) hv (chk68_of i _ hv) sc k acc))
  isplitl [HS]
  · iexact HS
  iintro %y3 HS
  rw [wp_bind, t10_nil, wp_ret]
  imodintro
  rw [wp_pure]
  imodintro
  unfold scoring
  icases HS with ⟨Hb, %X', %hX, H6⟩
  have hX' : X' = outF i (lenOf LN b) (chk68_of i _ hv) (qdOf Qb) sc g := funext fun j => hX j (by
    have h1 : (j 2).val < 512 := (j 2).isLt
    have h2 := nc_le hv
    omega)
  subst hX'
  isplitl [Ht Hl]
  · isplitl [Ht]
    · iexact Ht
    · iexact Hl
  isplitl [Hb Hsem Hkv]
  · isplitl [Hb]
    · iexists g; iexact Hb
    isplitl [Hsem]
    · iexact Hsem
    · iexact Hkv
  isplitl [H4]
  · iexact H4
  isplitl [H6]
  · iexists g
    isplitr
    · ipureintro; exact hg
    · iexact H6
  · iexact HW

/-- The state of the two slots before point `b`: the point's own as its copies stand, the other at rest. -/
def slots (c : Dev nD) (KV : Vec F S61440x2x8x128 .fp8e4m3) (TB : IVec S96x512 32) (hTB : InPool TB) (LN : IVec S96 32) (b : ℕ) : sProp 𝕄 :=
  iprop(slotAt c KV TB hTB LN b ∗ idleS c KV ((b + 1) % 2))

/-- The body at a grid point. -/
theorem body_wp (c : Dev nD) (KV : Vec F S61440x2x8x128 .fp8e4m3) (TB : IVec S96x512 32) (hTB : InPool TB) (LN : IVec S96 32) (hLN : Short LN)
    (qt ql : PosShare TreeShare) (i : grid0.Coords) (b : ℕ) (hb : b = (i 0).val)
    (a3 : Memref sig .tc .vmem S1x32x128 .bf16) (h3 : a3.IsWhole) (a4 : Memref sig .tc .vmem S32x128 .f32) (h4 : a4.IsWhole)
    (a6 : Memref sig .tc .vmem S1x32x512 .f32) (h6 : a6.IsWhole) (hbw : bufM.IsWhole) (hkw : kvM.IsWhole) (ht : tbM.IsWhole) (hl : lnM.IsWhole)
    (Qb : Vec F S1x32x128 .bf16) (sc : Vec F S32x128 .f32) :
    (iprop(tables c TB LN qt ql ∗ slots c KV TB hTB LN b ∗ owns (c : Thread nD τ) a3 fullShare Qb ∗ owns (c : Thread nD τ) a4 fullShare sc
        ∗ (∃ X, owns (c : Thread nD τ) a6 fullShare X) ∗ ∃ W, owes (c : Thread nD τ) 0 W) : sProp 𝕄)
      ⊢ wp frame (wpE (defs₀ (F := F)) Variants.none (c : Thread nD τ) none) Set.univ
        (cc0_quest_bound (F := F) i tbM ht lnM hl a3 h3 a4 h4 kvM hkw a6 h6 bufM hbw cc0_scratch1)
        (fun _ => iprop(tables c TB LN qt ql ∗ slots c KV TB hTB LN (b + 1) ∗ owns (c : Thread nD τ) a3 fullShare Qb
          ∗ owns (c : Thread nD τ) a4 fullShare sc ∗ scored c KV TB hTB LN hLN i b a6 Qb sc ∗ ∃ W, owes (c : Thread nD τ) 0 W)) := by
  have hb96 : b < 96 := hb ▸ coord_lt i
  have e2 : (b + 1 + 1) % 2 = b % 2 := by omega
  -- the point's own slot is ready after the first issue
  have hA : (iprop(tables c TB LN qt ql ∗ slotAt c KV TB hTB LN b) : sProp 𝕄)
      ⊢ wp frame (wpE (defs₀ (F := F)) Variants.none (c : Thread nD τ) none) Set.univ
        (if h : k0_cond1 i = 1#1 then issue1 (F := F) i a3 h3 a4 h4 a6 h6 hbw hkw ht hl h else pure ⟨⟩)
        (fun _ => iprop(tables c TB LN qt ql ∗ readyS c KV TB hTB LN b)) := by
    by_cases h : k0_cond1 i = 1#1
    · have h0 : b = 0 := hb.trans ((cond1_iff i).mp h)
      rw [dif_pos h]
      subst h0
      rw [show slotAt c KV TB hTB LN 0 = (idleS c KV 0 : sProp 𝕄) from if_pos (Or.inl rfl)]
      exact issue1_wp c KV TB hTB LN hLN qt ql i a3 h3 a4 h4 a6 h6 hbw hkw ht hl h
    · have h0 : b ≠ 0 := fun e => h ((cond1_iff i).mpr (hb.symm.trans e))
      rw [dif_neg h, wp_pure, show slotAt c KV TB hTB LN b = (readyS c KV TB hTB LN b : sProp 𝕄) from if_neg (by omega)]
      iintro H
      imodintro
      iexact H
  -- the other slot is as the next point finds it after the second
  have hB : (iprop(tables c TB LN qt ql ∗ idleS c KV ((b + 1) % 2)) : sProp 𝕄)
      ⊢ wp frame (wpE (defs₀ (F := F)) Variants.none (c : Thread nD τ) none) Set.univ
        (if h : k0_cond2 i = 1#1 then issue2 (F := F) i a3 h3 a4 h4 a6 h6 hbw hkw ht hl h else pure ⟨⟩)
        (fun _ => iprop(tables c TB LN qt ql ∗ slotAt c KV TB hTB LN (b + 1))) := by
    by_cases h : k0_cond2 i = 1#1
    · have h0 : b + 1 < 96 := hb ▸ (cond2_iff i).mp h
      rw [dif_pos h, show slotAt c KV TB hTB LN (b + 1) = (readyS c KV TB hTB LN (b + 1) : sProp 𝕄) from if_neg (by omega)]
      exact issue2_wp c KV TB hTB LN hLN qt ql i (b + 1) (by rw [hb]) a3 h3 a4 h4 a6 h6 hbw hkw ht hl h
    · have h0 : ¬b + 1 < 96 := fun e => h ((cond2_iff i).mpr (hb ▸ e))
      rw [dif_neg h, wp_pure, show slotAt c KV TB hTB LN (b + 1) = (idleS c KV ((b + 1) % 2) : sProp 𝕄) from if_pos (by omega)]
      iintro H
      imodintro
      iexact H
  have hR := rest_wp c KV TB hTB LN hLN qt ql i b hb a3 h3 a4 h4 a6 h6 hbw hkw ht hl Qb sc
  rw [body_eq]
  unfold slots
  rw [e2]
  iintro ⟨HT, ⟨HS, HI⟩, H3, H4, H6, HW⟩
  rw [wp_bind]
  iapply (wp_wand_r frame (wpE (defs₀ (F := F)) Variants.none (c : Thread nD τ) none) Set.univ)
  isplitl [HT HS]
  · iapply hA
    isplitl [HT]
    · iexact HT
    · iexact HS
  iintro %_ ⟨HT, HS⟩
  rw [wp_bind]
  iapply (wp_wand_r frame (wpE (defs₀ (F := F)) Variants.none (c : Thread nD τ) none) Set.univ)
  isplitl [HT HI]
  · iapply hB
    isplitl [HT]
    · iexact HT
    · iexact HI
  iintro %_ ⟨HT, HN⟩
  rw [wp_bind]
  iapply (load_owns c a3 fullShare Qb (Rect.unit (s := S1x32x128) ![0, 0, 0] S1x32x128.size inb_S1x32x128_S1x32x128_0_0_0) (View.loadsAt_vmem h_S1x32x128))
  isplitl [H3]
  · iexact H3
  iintro H3
  rw [wp_ret]
  imodintro
  rw [show (fun x => Qb ((Rect.unit (s := S1x32x128) ![0, 0, 0] S1x32x128.size inb_S1x32x128_S1x32x128_0_0_0).emb x)) = Qb from funext fun x => by rw [full3_emb]]
  iapply (wp_wand_r frame (wpE (defs₀ (F := F)) Variants.none (c : Thread nD τ) none) Set.univ)
  isplitl [HT HS H4 H6 HW]
  · iapply hR
    isplitl [HT]
    · iexact HT
    isplitl [HS]
    · iexact HS
    isplitl [H4]
    · iexact H4
    isplitl [H6]
    · iexact H6
    · iexact HW
  iintro %_ ⟨HT, HI, H4, HO, HW⟩
  isplitl [HT]
  · iexact HT
  isplitl [HN HI]
  · isplitl [HN]
    · iexact HN
    · iexact HI
  isplitl [H3]
  · iexact H3
  isplitl [H4]
  · iexact H4
  isplitl [HO]
  · iexact HO
  · iexact HW

end Cert.Kernel.Hand

end
-- ==== Proof.Twin.Run.lean ====
/-
  The launch: the region around the kernel's body. The two slots of the page buffer, with their semaphores and their shares of
  the page array, are what the body keeps between grid points.
-/
module

public import proofs.«01_k».proof.Proof.Twin.Body
public import Idealize.ShloMosaic.Lib.Pipeline.FrameSuffixR
public import Idealize.ShloMosaic.Lib.Claim

@[expose] public section

noncomputable section

namespace Cert.Kernel.Hand

open Cert.Kernel Cert.Kernel.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (Pipeline.UD sig nD τ) ℕ

/-! ### The slots, taken from and returned to the launch -/

/-- The body's two DMA semaphores. -/
abbrev osem0 : Fin 2 → SemLoc sig := fun j => .dma (smS j.val)
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (smS 0)) 0 ∗ semVal ((c : Thread nD τ), SemLoc.dma (smS 1)) 0) := by
  rw [Pipeline.ownSems0_eq_of_list c osem0 [0, 1] (by decide) (by decide)]; rfl

/-- The buffer the body copies from: the page array. -/
def H0 : Finset (Ref sig .tc) := {main_v1}
theorem H0_sub : H0 ⊆ Pipeline.restRefsP sig pre0 spec0 := by decide

/-- What is no page of the first slot is a page of the second. -/
theorem slot_compl : (Finset.univ : Finset S2x512x2x8x128.Idx) \ slotSet 0 = slotSet 1 := by
  ext j
  have h : (j 0).val < 2 := (j 0).isLt
  simp only [Finset.mem_sdiff, Finset.mem_univ, true_and, mem_slotSet]
  omega

/-- The page buffer, the two semaphores and the page array are the two slots at rest. -/
theorem idle_split (c : Dev nD) (KV : Vec F S61440x2x8x128 .fp8e4m3) :
    iprop((∃ f : Vec F S2x512x2x8x128 .fp8e4m3, bufM.view.loc (c : Thread nD τ) ↦[Finset.univ]{fullShare} f)
      ∗ (semVal ((c : Thread nD τ), SemLoc.dma (smS 0)) 0 ∗ semVal ((c : Thread nD τ), SemLoc.dma (smS 1)) 0)
      ∗ (kvM.view.loc (c : Thread nD τ) ↦[Finset.univ]{fullShare} KV))
      ⊢ (iprop(idleS c KV 0 ∗ idleS c KV 1) : sProp 𝕄) := by
  have hb (f : Vec F S2x512x2x8x128 .fp8e4m3) := pointsTo_split_subset (ℓ := bufM.view.loc (c : Thread nD τ)) (S := Finset.univ) (I := slotSet 0) (f := f) (q := fullShare) (Ix := Unit) (Name := ℕ) (U := Pipeline.UD sig nD τ) (Lvl := ℕ) (Finset.subset_univ _)
  have hk := pointsTo_share (ℓ := kvM.view.loc (c : Thread nD τ)) (I := Finset.univ) (f := KV) (Ix := Unit) (Name := ℕ) (U := Pipeline.UD sig nD τ) (Lvl := ℕ) (PosShare.mem_left_op_right fullShare)
  rw [slot_compl] at hb
  unfold idleS idle
  iintro ⟨⟨%f, Hb⟩, ⟨Hs0, Hs1⟩, Hk⟩
  ihave Hb := (hb f).1 $$ Hb
  icases Hb with ⟨Hb0, Hb1⟩
  ihave Hk := hk.1 $$ Hk
  icases Hk with ⟨Hk0, Hk1⟩
  isplitl [Hb0 Hs0 Hk0]
  · isplitl [Hb0]
    · iexists f; iexact Hb0
    isplitl [Hs0]
    · iexact Hs0
    · iexact Hk0
  · isplitl [Hb1]
    · iexists f; iexact Hb1
    isplitl [Hs1]
    · iexact Hs1
    · iexact Hk1

/-- and the two slots at rest give them back. -/
theorem idle_join (c : Dev nD) (KV : Vec F S61440x2x8x128 .fp8e4m3) :
    (iprop(idleS c KV 0 ∗ idleS c KV 1) : sProp 𝕄)
      ⊢ iprop((∃ f : Vec F S2x512x2x8x128 .fp8e4m3, bufM.view.loc (c : Thread nD τ) ↦[Finset.univ]{fullShare} f)
      ∗ (semVal ((c : Thread nD τ), SemLoc.dma (smS 0)) 0 ∗ semVal ((c : Thread nD τ), SemLoc.dma (smS 1)) 0)
      ∗ (kvM.view.loc (c : Thread nD τ) ↦[Finset.univ]{fullShare} KV)) := by
  have hb (f g : Vec F S2x512x2x8x128 .fp8e4m3) := pointsTo_join_subset (ℓ := bufM.view.loc (c : Thread nD τ)) (S := Finset.univ) (I := slotSet 0) (f := f) (g := g) (q := fullShare) (Ix := Unit) (Name := ℕ) (U := Pipeline.UD sig nD τ) (Lvl := ℕ) (Finset.subset_univ _)
  have hk := pointsTo_share (ℓ := kvM.view.loc (c : Thread nD τ)) (I := Finset.univ) (f := KV) (Ix := Unit) (Name := ℕ) (U := Pipeline.UD sig nD τ) (Lvl := ℕ) (PosShare.mem_left_op_right fullShare)
  rw [slot_compl] at hb
  unfold idleS idle
  iintro ⟨⟨⟨%g, Hb0⟩, Hs0, Hk0⟩, ⟨⟨%f, Hb1⟩, Hs1, Hk1⟩⟩
  isplitl [Hb0 Hb1]
  · iexists _
    iapply (hb f g)
    isplitl [Hb0]
    · iexact Hb0
    · iexact Hb1
  isplitl [Hs0 Hs1]
  · isplitl [Hs0]
    · iexact Hs0
    · iexact Hs1
  · iapply hk.2
    isplitl [Hk0]
    · iexact Hk0
    · iexact Hk1

/-! ### The proof data -/

variable (m : (ℓ : Loc nD τ sig) → Buf (Elt F) ℓ) (ρ : Dev nD → PrngReg)

/-- Core `c`'s buffers when the region is entered. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- The page table, the lengths and the page array as the region finds them. -/
abbrev TBm (c : Dev nD) : IVec S96x512 32 := V m c main_arg3
abbrev LNm (c : Dev nD) : IVec S96 32 := V m c main_arg4
abbrev KVm (c : Dev nD) : Vec F S61440x2x8x128 .fp8e4m3 := V m c main_v1

/-- The prefetched tables' contents. -/
abbrev adm0 : (p : Fin 1) → (pcfgs (F := F) p).Adm := fun _ => ⟨fun k => V m 0 (pre0.ref k), trivial⟩

abbrev cfgA : Cfg sig Λ₀ := Pipeline.pin (pcfgs (F := F)) (adm0 m) 0

/-- Window `w`'s block at point `t`, read off its array as the region finds it. -/
def iblk (c : Dev nD) (w : Fin 3) (t : Fin (cfgA m).N) : (((cfgA m).win w).xblock ((cfgA m).grid.coords t)).Idx → Elt F ((cfgA m).win w).elt :=
  (((cfgA m).win w).blk t).view.read (Elt F) (V m c (Pipeline.arrRef spec0 w))

variable (hT : ∀ c, InPool (TBm m c)) (hL : ∀ c, Short (LNm m c))

/-- The scores of a grid point. -/
def outAt (c : Dev nD) (t : Fin (cfgA m).N) : Vec F S1x32x512 .f32 :=
  outF (grid0.coords t) (lenOf (LNm m c) t.val) (chk68_of _ _ (lenOf_le (hL c) t.val)) (qdOf (iblk m c 0 t)) (iblk m c 1 t)
    (gath (KVm m c) (pgOf (TBm m c) t.val) (pgOf_lt (hT c) t.val))

/-- The proof data of the pipeline. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => outAt m hT hL c t
    | ⟨_ + 3, h⟩ => absurd h (Nat.not_lt.2 (Nat.le_add_left _ _))
  Φ t := iprop(slots c (KVm m c) (TBm m c) (hT c) (LNm m c) t.val ∗ tables c (TBm m c) (LNm m c) fullShare.right fullShare.right ∗ (∃ r, prngReg c r))
  q _ := fullShare
  owed _ := 0

theorem A_eq (c : Dev nD) (w : Fin (cfgA m).W) : (dats m hT hL 0 c).A w = V m c (Pipeline.arrRef spec0 w) := by
  dsimp only [dats]
theorem after0_0 (c : Dev nD) (t : Fin (cfgA m).N) : (dats m hT hL 0 c).after 0 t = iblk m c 0 t := by dsimp only [dats]; rfl
theorem after0_1 (c : Dev nD) (t : Fin (cfgA m).N) : (dats m hT hL 0 c).after 1 t = iblk m c 1 t := by dsimp only [dats]; rfl
theorem after0_2 (c : Dev nD) (t : Fin (cfgA m).N) : (dats m hT hL 0 c).after 2 t = outAt m hT hL c t := by dsimp only [dats]; rfl
theorem Phi_eq (c : Dev nD) (t : Fin ((cfgA m).N + 1)) : (dats m hT hL 0 c).Φ t
    = iprop(slots c (KVm m c) (TBm m c) (hT c) (LNm m c) t.val ∗ tables c (TBm m c) (LNm m c) fullShare.right fullShare.right ∗ (∃ r, prngReg c r)) := by
  dsimp only [dats]

theorem before0_0 (c : Dev nD) (t : Fin (cfgA m).N) (d) : (dats m hT hL 0 c).before 0 t d = iblk m c 0 t :=
  ((dats m hT hL 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgA m).N) (d) : (dats m hT hL 0 c).before 1 t d = iblk m c 1 t :=
  ((dats m hT hL 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ### The body at a point of the grid -/

/-- The grid point's coordinate is its number. -/
theorem coord_val (t : Fin grid0.N) : (grid0.coords t 0).val = t.val := by
  revert t; decide

/-- The body at a grid point, over the pipeline's staging buffers. -/
theorem point_wp (c : Dev nD) (t : Fin (cfgA m).N) :
    (iprop((dats m hT hL 0 c).Φ t.castSucc ∗ (dats m hT hL 0 c).owesAt () t.castSucc
      ∗ (∃ d, owns (c : Thread nD τ) (((cfgA m).win 0).stage ((cfgA m).slots t 0)) fullShare ((dats m hT hL 0 c).before 0 t d))
      ∗ (∃ d, owns (c : Thread nD τ) (((cfgA m).win 1).stage ((cfgA m).slots t 1)) fullShare ((dats m hT hL 0 c).before 1 t d))
      ∗ (∃ X, owns (c : Thread nD τ) (((cfgA m).win 2).stage ((cfgA m).slots t 2)) fullShare X)) : sProp 𝕄)
    ⊢ wp frame (wpE (defs₀ (F := F)) Variants.none (c : Thread nD τ) none) Set.univ (defs₀ (F := F) .tc (cfgA m).body ((cfgA m).bodyArgs t ((cfgA m).slots t)))
      (fun _ => iprop((dats m hT hL 0 c).Φ t.succ ∗ (dats m hT hL 0 c).owesAt () t.succ
      ∗ owns (c : Thread nD τ) (((cfgA m).win 0).stage ((cfgA m).slots t 0)) fullShare ((dats m hT hL 0 c).after 0 t)
      ∗ owns (c : Thread nD τ) (((cfgA m).win 1).stage ((cfgA m).slots t 1)) fullShare ((dats m hT hL 0 c).after 1 t)
      ∗ scored c (KVm m c) (TBm m c) (hT c) (LNm m c) (hL c) (grid0.coords t) t.val (((cfgA m).win 2).stage ((cfgA m).slots t 2)) (iblk m c 0 t) (iblk m c 1 t))) := by
  simp only [before0_0, before0_1]
  rw [after0_0, after0_1, Phi_eq, Phi_eq]
  unfold Dat.owesAt Pipeline.owesWithin
  rw [show (dats m hT hL 0 c).owed t.castSucc = 0 from rfl, show (dats m hT hL 0 c).owed t.succ = 0 from rfl]
  have hw := body_wp c (KVm m c) (TBm m c) (hT c) (LNm m c) (hL c) fullShare.right fullShare.right (grid0.coords t) t.val (coord_val t).symm
    (spec0_0.stage ((cfgA m).slots t 0)) (hstage0_0 (((cfgA m).slots t 0).cast nbuf0_0)) (spec0_1.stage ((cfgA m).slots t 1)) (hstage0_1 (((cfgA m).slots t 1).cast nbuf0_1))
    (spec0_2.stage ((cfgA m).slots t 2)) (hstage0_2 (((cfgA m).slots t 2).cast nbuf0_2)) (Memref.isWhole_whole _) (Memref.isWhole_whole _) (Memref.isWhole_whole _) (Memref.isWhole_whole _)
    (iblk m c 0 t) (iblk m c 1 t)
  unfold defs₀
  rw [Defs.onTc_tc]
  iintro ⟨⟨Hs, Ht, Hr⟩, ⟨%W, -, HW⟩, ⟨%d0, H0⟩, ⟨%d1, H1⟩, H2⟩
  ihave Hw := hw $$ [Ht Hs H0 H1 H2 HW]
  · isplitl [Ht]
    · iexact Ht
    isplitl [Hs]
    · iexact Hs
    isplitl [H0]
    · iexact H0
    isplitl [H1]
    · iexact H1
    isplitl [H2]
    · iexact H2
    · iexists W; iexact HW
  iapply (wp_wand_r frame (wpE (defs₀ (F := F)) Variants.none (c : Thread nD τ) none) Set.univ)
  isplitl [Hw]
  · iexact Hw
  iintro %_ ⟨Ht, Hs, H0, H1, H2, ⟨%W', HW⟩⟩
  isplitl [Hs Ht Hr]
  · isplitl [Hs]
    · iexact Hs
    isplitl [Ht]
    · iexact Ht
    · iexact Hr
  isplitl [HW]
  · iexists W'
    isplitr
    · ipureintro; exact fun _ _ => Or.inl trivial
    · iexact HW
  isplitl [H0]
  · iexact H0
  isplitl [H1]
  · iexact H1
  · iexact H2

/-- Which windows' contents the frame says nothing of: the result's. -/
abbrev fgt0 : Fin 3 → Bool := fun w => decide (w = 2)

/-- The scores, read as some contents. -/
theorem scored_some (c : Dev nD) (KV : Vec F S61440x2x8x128 .fp8e4m3) (TB : IVec S96x512 32) (hTB : InPool TB) (LN : IVec S96 32) (hLN : Short LN)
    (i : grid0.Coords) (b : ℕ) (a6 : Memref sig .tc .vmem S1x32x512 .f32) (Qb : Vec F S1x32x128 .bf16) (sc : Vec F S32x128 .f32) :
    (scored c KV TB hTB LN hLN i b a6 Qb sc : sProp 𝕄) ⊢ iprop(∃ X, owns (c : Thread nD τ) a6 fullShare X) := by
  unfold scored
  iintro ⟨%g, -, H⟩
  iexists _
  iexact H

/-- The obligation of the frame: the result's tile at any contents. -/
theorem body_loose (c : Dev nD) : BodyObligationLoose (dats (F := F) m hT hL 0 c) (defs₀ (F := F)) Variants.none () Set.univ fgt0 := fun t => by
  rw [bigSep_W0, bigSep_W0]
  exact triple_restated (point_wp m hT hL c t) rfl .rfl fun _ => sep_mono .rfl (sep_mono .rfl (sep_mono .rfl (sep_mono .rfl (scored_some c _ _ _ _ _ _ _ _ _ _))))

/-! ### The region's ends -/

theorem tables_eq (c : Dev nD) (hc : c = 0) :
    (Pipeline.ΦT pre0 (adm0 m 0).1 c : sProp 𝕄) = tables c (TBm m c) (LNm m c) fullShare.right fullShare.right := by
  subst hc
  unfold Pipeline.ΦT Pipeline.prefHeld tables
  rw [bigSep_univ_eq_bigSepL [(0 : Fin 2), (1 : Fin 2)] (by decide) (by decide)]
  rfl

theorem H0_eq (c : Dev nD) : (bigSep H0 (fun b => ((c : Thread nD τ).loc b) ↦{fullShare} V m c b) : sProp 𝕄)
    = (kvM.view.loc (c : Thread nD τ) ↦[Finset.univ]{fullShare} KVm m c) := by
  rw [BI.bigSep_eq_bigSepL_of_eq [main_v1] (by decide) (by decide)]; rfl

/-- Both slots at rest, in the order of a point. -/
theorem slots_zero (c : Dev nD) : (slots c (KVm m c) (TBm m c) (hT c) (LNm m c) 0 : sProp 𝕄) = iprop(idleS c (KVm m c) 0 ∗ idleS c (KVm m c) 1) := rfl
theorem slots_last (c : Dev nD) : (slots c (KVm m c) (TBm m c) (hT c) (LNm m c) 96 : sProp 𝕄) = iprop(idleS c (KVm m c) 0 ∗ idleS c (KVm m c) 1) := rfl

theorem region_in (c : Dev nD) :
    (iprop(Pipeline.ΦD osem0 spec0 H0 (V m) c ∗ Pipeline.ΦT pre0 (adm0 m 0).1 c) : sProp 𝕄) ⊢ (dats m hT hL 0 c).Φ 0 := by
  have hc : c = 0 := Subsingleton.elim _ _
  rw [Phi_eq, show ((0 : Fin ((cfgA m).N + 1)).val) = 0 from rfl, slots_zero, Pipeline.ΦD_eq, scopedRest0_eq, ownSems0_eq, H0_eq, tables_eq m c hc]
  iintro ⟨⟨Hb, Hr, Hs, Hk⟩, Ht⟩
  isplitl [Hb Hs Hk]
  · iapply (idle_split c (KVm m c))
    isplitl [Hb]
    · iexact Hb
    isplitl [Hs]
    · iexact Hs
    · iexact Hk
  isplitl [Ht]
  · iexact Ht
  · iexact Hr

theorem region_out (c : Dev nD) : ((dats m hT hL 0 c).Φ (Fin.last (cfgA m).N) : sProp 𝕄) ⊢ Pipeline.ΦD osem0 spec0 H0 (V m) c := by
  rw [Phi_eq, show (Fin.last (cfgA m).N).val = 96 from N_0, slots_last, Pipeline.ΦD_eq, scopedRest0_eq, ownSems0_eq, H0_eq]
  iintro ⟨Hs, -, Hr⟩
  ihave Hs := (idle_join c (KVm m c)) $$ Hs
  icases Hs with ⟨Hb, Hs, Hk⟩
  isplitl [Hb]
  · iexact Hb
  isplitl [Hr]
  · iexact Hr
  isplitl [Hs]
  · iexact Hs
  · iexact Hk

/-! ### The run -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain : Pipeline.HMainPK (Ix := Unit) (Name := ℕ) (U := Pipeline.UD sig nD τ) (Lvl := ℕ) (pcfgs (F := F)) 0 defs₀ Variants.none m (main (F := F))
    (fun c b => V0 m c (Proc.devRef .tc b)) (fun _ => Pipeline.chain ([hostOps1].map StableHlo.seq)) :=
  Pipeline.hmainP_around (pcfgs (F := F)) 0 defs₀ Variants.none m main [hostOps0] [hostOps1] (by simp only [List.Forall]; exact hostOps0_sub)
    (by simp only [List.Forall]; exact hostOps0_fresh) main_chain

/-- The line after the region reads the result and writes its transpose, -/
theorem sfx_sub : ∀ ops ∈ ([hostOps1] : List (List (HloOp τ sig (Elt F)))), ∀ op ∈ ops, op.bufs ⊆ Pipeline.tailRefsBut sig pre0 spec0 H0 := by
  intro ops hops op hop
  simp only [List.mem_cons, List.mem_nil_iff, or_false] at hops
  subst hops
  simp only [hostOps1, List.mem_cons, List.mem_nil_iff, or_false] at hop
  subst hop
  rw [StableHlo.unary_bufs]
  decide
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.unary_writes, Finset.mem_singleton] <;> exact StableHlo.devRef_ne_of_ne (by decide)

/-- What the host lines before the region leave of the arguments: all of them. -/
theorem V_arg (c : Dev nD) (b : Ref sig .tc) (h : b ∉ [main_v0, main_v1, main_v2, main_v3, main_v4, main_v5]) : V m c b = m ((c : Thread nD τ).loc b) :=
  StableHlo.after_of_forall_not_mem (b := Proc.devRef .tc b) _ _ (List.forall_iff_forall_mem.mp (by
    simp only [List.mem_cons, List.not_mem_nil, or_false, not_or] at h
    obtain ⟨h0, h1, h2, h3, h4, h5⟩ := h
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- The result of the line after the region. -/
def T0 : Finset (Ref sig .tc) := {main_v7}

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective _ hb)

set_option backward.isDefEq.respectTransparency.types false in
set_option maxHeartbeats 800000 in
/-- The run of the frame: every staged array, every table and every buffer the lines around the region do not write is as it was. -/
theorem run_loose : θ_run defs (onTc (τ := τ) (main (F := F))) (s₀ m ρ) (fun r => Pipeline.RDat.FramePostR (cfgA m) (fun c => (dats m hT hL 0 c).toRForget fgt0) (∅ ∪ T0) (V m) r ∧ r.2.sem = fun _ => 0) :=
  Pipeline.θ_run_frameP_dmaR_around_T_forget (Q' := _) (pcfgs (F := F)) (adm0 m) (dats m hT hL) (0 : Fin 1) launch0 osem0 defs₀ Variants.none fgt0 ownSemFacts0
    H0 ∅ T0 H0_sub (Finset.empty_subset _) m ρ main
    (hbody := body_loose m hT hL) (hshare := fun c => (dats m hT hL 0 c).share_full fun _ => rfl) (howed := fun _ _ => rfl)
    (V₀ := V0 m) (opss := [hostOps1]) (hsub := fun ops ho op h => (sfx_sub ops ho op h).trans (Pipeline.tailRefsBut_sub _ _ _)) (hfresh := sfx_fresh) (hkeep := sfx_keeps) (hT := sfx_T)
    (hmain := hmain m) (hA := A_eq m hT hL) (hpf := fun c k => by obtain rfl : c = 0 := Subsingleton.elim _ _; rfl)
    (hin := fun c => (sep_mono (Pipeline.ΦDR_empty_elim _ _ _ _ c) .rfl).trans (region_in m hT hL c))
    (hout := fun c => (region_out m hT hL c).trans (Pipeline.ΦDR_empty_intro _ _ _ _ c))

/-- The frame: the arguments end unchanged and every semaphore at zero, whenever every page of the page table is one of the pool's and
    every length fits the table's row. -/
theorem frame (hT : ∀ c : Dev nD, InPool (m ((c : Thread nD τ).loc main_arg3) : IVec S96x512 32)) (hL : ∀ c : Dev nD, Short (m ((c : Thread nD τ).loc main_arg4) : IVec S96 32)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have hT' : ∀ c, InPool (TBm m c) := fun c => by unfold TBm; rw [V_arg m c main_arg3 (by decide)]; exact hT c
  have hL' : ∀ c, Short (LNm m c) := fun c => by unfold LNm; rw [V_arg m c main_arg4 (by decide)]; exact hL c
  have rest (r : PUnit × MemSt nD τ sig (Elt F)) (h : Pipeline.RDat.FramePostR (cfgA m) (fun c => (dats m hT' hL' 0 c).toRForget fgt0) (∅ ∪ T0) (V m) r)
      (c : Dev nD) (b : Ref sig .tc) (hb : b ∈ Pipeline.restRefs sig spec0 \ (∅ ∪ T0)) (hn : b ∉ [main_v0, main_v1, main_v2, main_v3, main_v4, main_v5]) :
      r.2.mem ((c.tc : Thread nD τ).loc b) = m ((c.tc : Thread nD τ).loc b) := ((h c).2 b hb).trans (V_arg m c b hn)
  refine (θ_run defs _ _).mono (fun r h => ⟨fun c => ⟨?_, ?_, ?_, ?_, ?_⟩, h.2⟩) (run_loose m ρ hT' hL')
  · exact (h.1.arr_in c 0 rfl).trans ((A_eq m hT' hL' c 0).trans (V_arg m c main_arg0 (by decide)))
  · exact rest r h.1 c main_arg1 (by decide) (by decide)
  · exact rest r h.1 c main_arg2 (by decide) (by decide)
  · exact rest r h.1 c main_arg3 (by decide) (by decide)
  · exact rest r h.1 c main_arg4 (by decide) (by decide)

end Cert.Kernel.Hand

end
-- ==== Proof.Pre.lean ====
/-
  The precondition, read: every page of the page table is one of the pool's, every length fits the table's row.
-/
module

public import proofs.«01_k».proof.Pre_in_range
public import Idealize.ShloMosaic.Lib.ReduceAll
public import Idealize.ShloMosaic.Lib.Affine
public import Idealize.ShloMosaic.Lib.StableHlo.Predicate

@[expose] public section

noncomputable section

namespace Cert.Pre_in_range

open Idealize.ShloMosaic

instance facts : Cert.Pre_in_range.Facts where
  bcast_S_S96x512 := by decide
  bcast_S_S96 := by decide
  reducesTo_S96x512_S_d0_1 := by decide
  h_S_ := by decide
  reducesTo_S96_S_d0 := by decide

/-- A word between 0 and `n`, read as a natural number. -/
theorem word_lt {v : BitVec 32} {n : ℤ} (h0 : 0 ≤ v.toInt) (h1 : v.toInt < n) : (v.toNat : ℤ) < n := by
  have e := BitVec.toInt_eq_toNat_cond v
  have := v.isLt
  split at e <;> omega

/-- What the precondition says of the tables. -/
theorem read {F : FTy → Type} [FloatOps F] (a0 : FVec F S96x32x128 .bf16) (a1 : FVec F S61440x8x256 .fp8e4m3) (a2 : FVec F S8 .f32)
    (a3 : IVec S96x512 32) (a4 : IVec S96 32) (h : fn a0 a1 a2 a3 a4 = fun _ => 1#1) :
    (∀ j, (a3 j).toNat < 61440) ∧ ∀ j, (a4 j).toNat ≤ 8192 := by
  have h := congrFun h (Shape.Idx.first Facts.h_S_)
  dsimp only [fn] at h
  obtain ⟨h3, h4⟩ := IntOp.andi_eq_one.mp h
  haveI : Subsingleton S_.Idx := ⟨fun x y => funext fun a => a.elim0⟩
  constructor
  · intro j
    obtain ⟨l, u⟩ := IntOp.andi_eq_one.mp (Host.reduce_andi_all _ _ _ _ _ h3 j)
    have l := IntOp.cmpi_sge.mp l
    have u := IntOp.cmpi_slt.mp u
    have := word_lt (n := 61440) l u
    omega
  · intro j
    obtain ⟨l, u⟩ := IntOp.andi_eq_one.mp (Host.reduce_andi_all _ _ _ _ _ h4 j)
    have l := IntOp.cmpi_sge.mp l
    have u : (a4 j).toInt ≤ 8192 := IntOp.cmpi_sle.mp u
    have := word_lt (n := 8193) l (by omega)
    omega

end Cert.Pre_in_range

end
-- ==== Proof.ValInt.lean ====
/-
  The words the scoring of a chunk computes its lanes and masks from.
-/
module

public import proofs.«01_k».proof.Proof.Run
public import Idealize.ShloMosaic.Lib.Pointwise

@[expose] public section

set_option maxRecDepth 16384

noncomputable section

namespace Cert.KernelIdeal.Hand

open Cert.KernelIdeal Cert.KernelIdeal.Gen
open Idealize.ShloMosaic

/-- The lane of the matrix unit's result that a lane of a quarter takes. -/
theorem pick_at : ∀ (r : Fin 16) (l : Fin 128), pickI (ix2 r l) = BitVec.ofNat 32 (4 * (l.val % 32) + r.val / 4) := by
  decide +kernel

/-- A lane's quarter of the chunk. -/
theorem fd_at : ∀ (r : Fin 16) (l : Fin 128), k0_pay26 laneI (ix2 r l) = BitVec.ofNat 32 (l.val / 32) := by
  decide +kernel

/-- A lane's channel in the first half of the channels. -/
theorem lane_half : ∀ (r : Fin 32) (l : Fin 128), k0_pay90 (ix2 r l) = BitVec.ofNat 32 (l.val / 2) := by
  decide +kernel

/-- A lane index kept nonnegative is itself. -/
theorem wrap_at (n : ℕ) (h : n < 128) : (Scalar.select (IntOp.cmpi CmpIPredicate.slt (BitVec.ofNat 32 n) 0#32) (IntOp.addi (BitVec.ofNat 32 n) 128#32) (BitVec.ofNat 32 n)).toNat % 128 = n :=
  (by decide +kernel : ∀ n : Fin 128, (Scalar.select (IntOp.cmpi CmpIPredicate.slt (BitVec.ofNat 32 n.val) 0#32) (IntOp.addi (BitVec.ofNat 32 n.val) 128#32) (BitVec.ofNat 32 n.val)).toNat % 128 = n.val) ⟨n, h⟩

/-- A choice by whether two small words are equal. -/
theorem sel_eq {α : Type} (a b : ℕ) (ha : a < 4) (hb : b < 4) (x y : α) : Scalar.select (IntOp.cmpi .eq (BitVec.ofNat 32 a) (BitVec.ofNat 32 b)) x y = if a = b then x else y := by
  have h : IntOp.cmpi .eq (BitVec.ofNat 32 a) (BitVec.ofNat 32 b) = if a = b then 1#1 else 0#1 := by
    have := (by decide +kernel : ∀ a b : Fin 4, IntOp.cmpi .eq (BitVec.ofNat 32 a.val) (BitVec.ofNat 32 b.val) = if a.val = b.val then 1#1 else 0#1) ⟨a, ha⟩ ⟨b, hb⟩
    exact this
  rw [h]
  split <;> rfl

/-- Which lanes hold the smaller parts of the query, -/
theorem par_at (n : ℕ) (h : n < 128) {α : Type} (x y : α) : Scalar.select (IntOp.cmpi CmpIPredicate.eq
          (Scalar.select
            (IntOp.andi
              (IntOp.xori
                (IntOp.cmpi CmpIPredicate.slt
                  (IntOp.remsi ArithUnit.vector (BitVec.ofNat 32 n)
                    (Scalar.select (Scalar.cmpi CmpIPredicate.eq 2#32 0#32) 1#32 2#32))
                  0#32)
                (Scalar.cmpi CmpIPredicate.slt (Scalar.select (Scalar.cmpi CmpIPredicate.eq 2#32 0#32) 1#32 2#32) 0#32))
              (IntOp.cmpi CmpIPredicate.ne
                (IntOp.remsi ArithUnit.vector (BitVec.ofNat 32 n)
                  (Scalar.select (Scalar.cmpi CmpIPredicate.eq 2#32 0#32) 1#32 2#32))
                0#32))
            (IntOp.addi
              (IntOp.remsi ArithUnit.vector (BitVec.ofNat 32 n)
                (Scalar.select (Scalar.cmpi CmpIPredicate.eq 2#32 0#32) 1#32 2#32))
              (Scalar.select (Scalar.cmpi CmpIPredicate.eq 2#32 0#32) 1#32 2#32))
            (IntOp.remsi ArithUnit.vector (BitVec.ofNat 32 n)
              (Scalar.select (Scalar.cmpi CmpIPredicate.eq 2#32 0#32) 1#32 2#32)))
          0#32) x y = if n % 2 = 0 then x else y := by
  rw [(by decide +kernel : ∀ n : Fin 128, IntOp.cmpi CmpIPredicate.eq
          (Scalar.select
            (IntOp.andi
              (IntOp.xori
                (IntOp.cmpi CmpIPredicate.slt
                  (IntOp.remsi ArithUnit.vector (BitVec.ofNat 32 n.val)
                    (Scalar.select (Scalar.cmpi CmpIPredicate.eq 2#32 0#32) 1#32 2#32))
                  0#32)
                (Scalar.cmpi CmpIPredicate.slt (Scalar.select (Scalar.cmpi CmpIPredicate.eq 2#32 0#32) 1#32 2#32) 0#32))
              (IntOp.cmpi CmpIPredicate.ne
                (IntOp.remsi ArithUnit.vector (BitVec.ofNat 32 n.val)
                  (Scalar.select (Scalar.cmpi CmpIPredicate.eq 2#32 0#32) 1#32 2#32))
                0#32))
            (IntOp.addi
              (IntOp.remsi ArithUnit.vector (BitVec.ofNat 32 n.val)
                (Scalar.select (Scalar.cmpi CmpIPredicate.eq 2#32 0#32) 1#32 2#32))
              (Scalar.select (Scalar.cmpi CmpIPredicate.eq 2#32 0#32) 1#32 2#32))
            (IntOp.remsi ArithUnit.vector (BitVec.ofNat 32 n.val)
              (Scalar.select (Scalar.cmpi CmpIPredicate.eq 2#32 0#32) 1#32 2#32)))
          0#32 = if n.val % 2 = 0 then 1#1 else 0#1) ⟨n, h⟩]
  dsimp only
  split <;> rfl

/-- and a lane's channel in the second half, as the text computes it. -/
theorem half_at (r : Fin 32) (n : ℕ) (h : n < 128) : Scalar.select
      (IntOp.andi (IntOp.cmpi CmpIPredicate.ne (k0_pay94 (iota .tc S32x128 32 [1] iota_S32x128_d1_w32) (ix2 r ⟨n, h⟩)) (k0_pay95 (ix2 r ⟨n, h⟩)))
        (IntOp.cmpi CmpIPredicate.ne (IntOp.remsi ArithUnit.vector (BitVec.ofNat 32 n) 2#32) 0#32))
      (IntOp.subi (k0_pay93 (iota .tc S32x128 32 [1] iota_S32x128_d1_w32) (ix2 r ⟨n, h⟩)) 1#32) (k0_pay93 (iota .tc S32x128 32 [1] iota_S32x128_d1_w32) (ix2 r ⟨n, h⟩))
    = BitVec.ofNat 32 (n / 2) :=
  (by decide +kernel : ∀ (r : Fin 32) (n : Fin 128), Scalar.select
      (IntOp.andi (IntOp.cmpi CmpIPredicate.ne (k0_pay94 (iota .tc S32x128 32 [1] iota_S32x128_d1_w32) (ix2 r n)) (k0_pay95 (ix2 r n)))
        (IntOp.cmpi CmpIPredicate.ne (IntOp.remsi ArithUnit.vector (BitVec.ofNat 32 n.val) 2#32) 0#32))
      (IntOp.subi (k0_pay93 (iota .tc S32x128 32 [1] iota_S32x128_d1_w32) (ix2 r n)) 1#32) (k0_pay93 (iota .tc S32x128 32 [1] iota_S32x128_d1_w32) (ix2 r n))
    = BitVec.ofNat 32 (n.val / 2)) r ⟨n, h⟩

end Cert.KernelIdeal.Hand

end
-- ==== Proof.Val.lean ====
/-
  The scores of a chunk at exact arithmetic, element by element.
-/
module

public import proofs.«01_k».proof.Proof.ValInt
public import Idealize.ShloMosaic.Lib.Pointwise

@[expose] public section

set_option maxRecDepth 16384

noncomputable section

namespace Cert.KernelIdeal.Hand

open Cert.KernelIdeal Cert.KernelIdeal.Gen
open Idealize.ShloMosaic

/-- The mask of the pages of a sequence. -/
theorem mask_at {v : BitVec 32} (hv : v.toNat ≤ 8192) (k : Fin (k0_t7_loop v).trips) (hk : k.val < 4) (r : Fin 16) (l : Fin 128) {α : Type} (x y : α) :
    Scalar.select (k0_pay7 (F := Ideal) v laneI 0#32 1#32 k (ix2 r l)) x y = if (128 * k.val + l.val) * 16 < v.toNat then x else y := by
  have hl := l.isLt
  have e1 : laneI (ix2 r l) = BitVec.ofNat 32 l.val := by pointwise
  have e : k0_pay7 (F := Ideal) v laneI 0#32 1#32 k (ix2 r l)
      = IntOp.cmpi .slt (Scalar.muli (Scalar.addi (Scalar.muli (Scf.iv (BitVec.ofNat 32 0) 1#32 k.val) (BitVec.ofNat 32 128)) (laneI (ix2 r l))) (BitVec.ofNat 32 16)) v := rfl
  rw [e, e1, iv_nat, muli_nat, addi_nat, muli_nat]
  have hn : ((0 + k.val) * 128 + l.val) * 16 < 2 ^ 31 := by omega
  have h : IntOp.cmpi .slt (BitVec.ofNat 32 (((0 + k.val) * 128 + l.val) * 16)) v = BitVec.ofBool (decide ((128 * k.val + l.val) * 16 < v.toNat)) := by
    have hvi : v.toInt = v.toNat := by rw [BitVec.toInt_eq_toNat_of_lt (by omega)]
    show BitVec.ofBool (BitVec.slt _ v) = _
    rw [BitVec.slt, toInt_nat hn, hvi]
    have : ((((0 + k.val) * 128 + l.val) * 16 : ℕ) : ℤ) < (v.toNat : ℤ) ↔ (128 * k.val + l.val) * 16 < v.toNat := by omega
    simp only [this]
  rw [h]
  by_cases hlt : (128 * k.val + l.val) * 16 < v.toNat
  · rw [if_pos hlt, decide_eq_true hlt]; rfl
  · rw [if_neg hlt, decide_eq_false hlt]; rfl

/-- A head's product with a page, over the two halves of the lanes. -/
def dotV (qd : FVec Ideal S32x256 .bf16) (w1 w2 : TileV Ideal) (h : Fin 32) (pg : Fin 64) (s : Fin 4) : EReal :=
  ∑ x : Fin 128, qd (ix2 h ⟨x.val, by omega⟩) * w1 (ix5 0 pg 0 s x) + ∑ x : Fin 128, qd (ix2 h ⟨128 + x.val, by omega⟩) * w2 (ix5 0 pg 0 s x)

theorem mm10 (qd : FVec Ideal S32x256 .bf16) (w1 w2 : TileV Ideal) (r : Fin 16) (n : Fin 256) :
    k0_pay10 qd w1 w2 (ix2 r n) = dotV qd w1 w2 ⟨r.val, by omega⟩ ⟨n.val / 4, by omega⟩ ⟨n.val % 4, by omega⟩ := by
  unfold dotV
  pointwise [k0_pay10, k0_pay8]
  try rfl
theorem mm30 (qd : FVec Ideal S32x256 .bf16) (w1 w2 : TileV Ideal) (r : Fin 16) (n : Fin 256) :
    k0_pay30 qd w1 w2 (ix2 r n) = dotV qd w1 w2 ⟨16 + r.val, by omega⟩ ⟨n.val / 4, by omega⟩ ⟨n.val % 4, by omega⟩ := by
  unfold dotV
  pointwise [k0_pay30, k0_pay28]
  try rfl
/-- The second tiles of a chunk, multiplied in the same way. -/
theorem mm20 (qd : FVec Ideal S32x256 .bf16) (w1 w2 : TileV Ideal) : k0_pay20 (k0_pay8 qd) w1 w2 = k0_pay10 qd w1 w2 := rfl
theorem mm39 (qd : FVec Ideal S32x256 .bf16) (w1 w2 : TileV Ideal) : k0_pay39 (k0_pay28 qd) w1 w2 = k0_pay30 qd w1 w2 := rfl

theorem wrap_fin (w : BitVec 32) (n : ℕ) (h : w = BitVec.ofNat 32 n) (hn : n < 128) :
    (Scalar.select (IntOp.cmpi .slt w 0#32) (IntOp.addi w 128#32) w).toNat % 128 = n := by
  rw [h]
  exact wrap_at _ hn

theorem take_hi (X : FVec Ideal S16x256 .f32) (r : Fin 16) (l : Fin 128) : k0_pay15 pickI X (ix2 r l) = X (ix2 r ⟨128 + (4 * (l.val % 32) + r.val / 4), by omega⟩) := by
  have h := pick_at r l
  generalize pickI = P at h ⊢
  pointwise [k0_pay15]
  exact congrArg (fun z => X (ix2 r z)) (Fin.ext (congrArg (128 + ·) (wrap_fin _ (4 * (l.val % 32) + r.val / 4) h (by omega))))
theorem take_hi25 (X : FVec Ideal S16x256 .f32) : k0_pay25 pickI X = k0_pay15 pickI X := rfl
theorem take_hi35 (X : FVec Ideal S16x256 .f32) : k0_pay35 pickI X = k0_pay15 pickI X := rfl
theorem take_hi44 (X : FVec Ideal S16x256 .f32) : k0_pay44 pickI X = k0_pay15 pickI X := rfl

theorem take_lo (qd : FVec Ideal S32x256 .bf16) (w1 w2 : TileV Ideal) (r : Fin 16) (l : Fin 128) :
    k0_pay11 qd pickI w1 w2 (ix2 r l) = k0_pay10 qd w1 w2 (ix2 r ⟨4 * (l.val % 32) + r.val / 4, by omega⟩) := by
  have h := pick_at r l
  generalize pickI = P at h ⊢
  unfold k0_pay11
  generalize k0_pay10 qd w1 w2 = X
  pointwise
  exact congrArg (fun z => X (ix2 r z)) (Fin.ext (wrap_fin _ (4 * (l.val % 32) + r.val / 4) h (by omega)))
theorem take_lo21 (qd : FVec Ideal S32x256 .bf16) (w1 w2 : TileV Ideal) : k0_pay21 pickI (k0_pay8 qd) w1 w2 = k0_pay11 qd pickI w1 w2 := rfl
theorem take_lo31 (qd : FVec Ideal S32x256 .bf16) (w1 w2 : TileV Ideal) (r : Fin 16) (l : Fin 128) :
    k0_pay31 qd pickI w1 w2 (ix2 r l) = k0_pay30 qd w1 w2 (ix2 r ⟨4 * (l.val % 32) + r.val / 4, by omega⟩) := by
  have h := pick_at r l
  generalize pickI = P at h ⊢
  unfold k0_pay31
  generalize k0_pay30 qd w1 w2 = X
  pointwise
  exact congrArg (fun z => X (ix2 r z)) (Fin.ext (wrap_fin _ (4 * (l.val % 32) + r.val / 4) h (by omega)))
theorem take_lo40 (qd : FVec Ideal S32x256 .bf16) (w1 w2 : TileV Ideal) : k0_pay40 pickI (k0_pay28 qd) w1 w2 = k0_pay31 qd pickI w1 w2 := rfl

/-- One quarter of the lanes after another. -/
theorem q14 (A B : FVec Ideal S16x128 .f32) (r : Fin 16) (l : Fin 128) : k0_pay14 laneI A B 32#32 (k0_pay12 laneI) (k0_pay13 laneI) (ix2 r l)
    = if l.val / 32 = 0 then B (ix2 r l) else A (ix2 r l) :=
  (show _ = Scalar.select (IntOp.cmpi .eq (k0_pay26 laneI (ix2 r l)) (BitVec.ofNat 32 0)) (B (ix2 r l)) (A (ix2 r l)) from rfl).trans
    (by rw [fd_at]; exact sel_eq _ _ (by omega) (by omega) _ _)
theorem q19 (A B : FVec Ideal S16x128 .f32) (r : Fin 16) (l : Fin 128) : k0_pay19 A B (k0_pay16 laneI) (k0_pay17 laneI) (k0_pay18 laneI) (ix2 r l)
    = if l.val / 32 = 1 then B (ix2 r l) else A (ix2 r l) :=
  (show _ = Scalar.select (IntOp.cmpi .eq (k0_pay26 laneI (ix2 r l)) (BitVec.ofNat 32 1)) (B (ix2 r l)) (A (ix2 r l)) from rfl).trans
    (by rw [fd_at]; exact sel_eq _ _ (by omega) (by omega) _ _)
theorem q24 (A B : FVec Ideal S16x128 .f32) (r : Fin 16) (l : Fin 128) : k0_pay24 laneI A B 32#32 (k0_pay22 laneI) (k0_pay23 laneI)
      (Scalar.extui (Scalar.cmpi .sgt 32#32 0#32)) (Scalar.cmpi .slt 32#32 0#32) (ix2 r l)
    = if l.val / 32 = 2 then B (ix2 r l) else A (ix2 r l) :=
  (show _ = Scalar.select (IntOp.cmpi .eq (k0_pay26 laneI (ix2 r l)) (BitVec.ofNat 32 2)) (B (ix2 r l)) (A (ix2 r l)) from rfl).trans
    (by rw [fd_at]; exact sel_eq _ _ (by omega) (by omega) _ _)
theorem q34 (A B : FVec Ideal S16x128 .f32) (r : Fin 16) (l : Fin 128) : k0_pay34 laneI A B 32#32 (k0_pay32 laneI) (k0_pay33 laneI) (ix2 r l)
    = if l.val / 32 = 0 then B (ix2 r l) else A (ix2 r l) :=
  (show _ = Scalar.select (IntOp.cmpi .eq (k0_pay26 laneI (ix2 r l)) (BitVec.ofNat 32 0)) (B (ix2 r l)) (A (ix2 r l)) from rfl).trans
    (by rw [fd_at]; exact sel_eq _ _ (by omega) (by omega) _ _)
theorem q38 (A B : FVec Ideal S16x128 .f32) (r : Fin 16) (l : Fin 128) : k0_pay38 laneI A B 32#32 (k0_pay36 laneI) (k0_pay37 laneI) (ix2 r l)
    = if l.val / 32 = 1 then B (ix2 r l) else A (ix2 r l) :=
  (show _ = Scalar.select (IntOp.cmpi .eq (k0_pay26 laneI (ix2 r l)) (BitVec.ofNat 32 1)) (B (ix2 r l)) (A (ix2 r l)) from rfl).trans
    (by rw [fd_at]; exact sel_eq _ _ (by omega) (by omega) _ _)
theorem q43 (A B : FVec Ideal S16x128 .f32) (r : Fin 16) (l : Fin 128) : k0_pay43 laneI A B 32#32 (k0_pay41 laneI) (k0_pay42 laneI) (ix2 r l)
    = if l.val / 32 = 2 then B (ix2 r l) else A (ix2 r l) :=
  (show _ = Scalar.select (IntOp.cmpi .eq (k0_pay26 laneI (ix2 r l)) (BitVec.ofNat 32 2)) (B (ix2 r l)) (A (ix2 r l)) from rfl).trans
    (by rw [fd_at]; exact sel_eq _ _ (by omega) (by omega) _ _)

/-- The scaled and masked scores of the first sixteen rows, -/
theorem fin27 (sc : FVec Ideal S32x128 .f32) (m : IVec S16x128 1) (A B : FVec Ideal S16x128 .f32) (r : Fin 16) (l : Fin 128) :
    k0_pay27 (k0_pay2 sc) m A B (k0_pay26 laneI) (ix3 0 r l)
      = Scalar.select (m (ix2 r l)) ((if l.val / 32 = 3 then B (ix2 r l) else A (ix2 r l)) * sc (ix2 ⟨r.val, by omega⟩ l)) 0 := by
  have h := fd_at r l
  generalize k0_pay26 laneI = d at h ⊢
  pointwise [k0_pay27, k0_pay2]
  rw [h, show (3#32) = BitVec.ofNat 32 3 from rfl, sel_eq _ _ (by omega) (by omega)]
  try rfl

/-- and of the last sixteen. -/
theorem fin3 (sc : FVec Ideal S32x128 .f32) (m : IVec S16x128 1) (A B : FVec Ideal S16x128 .f32) (r : Fin 16) (l : Fin 128) :
    k0_pay3 sc m A B (k0_pay45 laneI) (k0_pay46 laneI) (k0_pay47 laneI) (ix3 0 r l)
      = Scalar.select (m (ix2 r l)) ((if l.val / 32 = 3 then B (ix2 r l) else A (ix2 r l)) * sc (ix2 ⟨16 + r.val, by omega⟩ l)) 0 := by
  have h : Scalar.select (IntOp.andi (k0_pay46 laneI (ix2 r l)) (k0_pay47 laneI (ix2 r l))) (IntOp.subi (k0_pay45 laneI (ix2 r l)) 1#32) (k0_pay45 laneI (ix2 r l))
      = BitVec.ofNat 32 (l.val / 32) := (show _ = k0_pay26 laneI (ix2 r l) from rfl).trans (fd_at r l)
  generalize k0_pay45 laneI = c at h ⊢
  generalize k0_pay46 laneI = d at h ⊢
  generalize k0_pay47 laneI = e at h ⊢
  pointwise [k0_pay3, k0_pay2]
  rw [h, show (3#32) = BitVec.ofNat 32 3 from rfl, sel_eq _ _ (by omega) (by omega)]
  try rfl

/-- A score of the first sixteen heads, -/
theorem topPay_at (qd : FVec Ideal S32x256 .bf16) {v : BitVec 32} (hv : v.toNat ≤ 8192) (sc : FVec Ideal S32x128 .f32) (k : Fin (k0_t7_loop v).trips) (hk : k.val < 4)
    (w1 w2 w3 w4 : TileV Ideal) (r : Fin 16) (l : Fin 128) :
    topPay qd v sc k w1 w2 w3 w4 (ix3 0 r l) = if (128 * k.val + l.val) * 16 < v.toNat then
      dotV qd (if l.val < 64 then w1 else w3) (if l.val < 64 then w2 else w4) ⟨r.val, by omega⟩ ⟨l.val % 64, by omega⟩ ⟨r.val / 4, by omega⟩ * sc (ix2 ⟨r.val, by omega⟩ l) else 0 := by
  unfold topPay
  rw [fin27, mask_at hv k hk]
  congr 2
  have hl := l.isLt
  have hr := r.isLt
  rw [q24, q19, q14, take_hi25, mm20, take_lo21, take_lo, take_hi, take_lo, take_hi, mm10, mm10, mm10, mm10]
  have e : l.val / 32 = 0 ∨ l.val / 32 = 1 ∨ l.val / 32 = 2 ∨ l.val / 32 = 3 := by omega
  rcases e with e | e | e | e
  all_goals
    simp only [e, if_true, Nat.reduceEqDiff, if_false]
    first | rw [if_pos (by omega), if_pos (by omega)] | rw [if_neg (by omega), if_neg (by omega)]
    first | done | (congr 1 <;> exact Fin.ext (by dsimp only; omega))

/-- and of the last sixteen. -/
theorem botPay_at (qd : FVec Ideal S32x256 .bf16) {v : BitVec 32} (hv : v.toNat ≤ 8192) (sc : FVec Ideal S32x128 .f32) (k : Fin (k0_t7_loop v).trips) (hk : k.val < 4)
    (w1 w2 w3 w4 : TileV Ideal) (r : Fin 16) (l : Fin 128) :
    botPay qd v sc k w1 w2 w3 w4 (ix3 0 r l) = if (128 * k.val + l.val) * 16 < v.toNat then
      dotV qd (if l.val < 64 then w1 else w3) (if l.val < 64 then w2 else w4) ⟨16 + r.val, by omega⟩ ⟨l.val % 64, by omega⟩ ⟨r.val / 4, by omega⟩ * sc (ix2 ⟨16 + r.val, by omega⟩ l) else 0 := by
  unfold botPay
  rw [fin3, mask_at hv k hk]
  congr 2
  have hl := l.isLt
  have hr := r.isLt
  rw [q43, q38, q34, take_hi44, mm39, take_lo40, take_lo31, take_hi, take_hi35, take_lo31, take_hi, mm30, mm30, mm30, mm30]
  have e : l.val / 32 = 0 ∨ l.val / 32 = 1 ∨ l.val / 32 = 2 ∨ l.val / 32 = 3 := by omega
  rcases e with e | e | e | e
  all_goals
    simp only [e, if_true, Nat.reduceEqDiff, if_false]
    first | rw [if_pos (by omega), if_pos (by omega)] | rw [if_neg (by omega), if_neg (by omega)]
    first | done | (congr 1 <;> exact Fin.ext (by dsimp only; omega))

end Cert.KernelIdeal.Hand

end
-- ==== Proof.Out.lean ====
/-
  The output tile of a sequence at exact arithmetic, element by element.
-/
module

public import proofs.«01_k».proof.Proof.Val
public import proofs.«01_k».proof.Proof.Run

@[expose] public section

set_option maxRecDepth 16384

noncomputable section

namespace Cert.KernelIdeal.Hand

open Cert.KernelIdeal Cert.KernelIdeal.Gen
open Idealize.ShloMosaic Idealize.ShloMosaic.Pipeline
open Idealize.SL Idealize.SL.BI

/-- A head's product with a page of a slot. -/
def pageDot (qd : FVec Ideal S32x256 .bf16) (g : Vec Ideal S2x512x2x8x128 .fp8e4m3) (s : Fin 2) (p : Fin 512) (h : Fin 32) : EReal :=
  ∑ x : Fin 128, qd (ix2 h ⟨x.val, by omega⟩) * g (ix5 s p 0 ⟨h.val / 4, by omega⟩ x)
    + ∑ x : Fin 128, qd (ix2 h ⟨128 + x.val, by omega⟩) * g (ix5 s p 1 ⟨h.val / 4, by omega⟩ x)

/-- An element of a tile of the slot. -/
theorem rd_at (o : Fin 5 → ℕ) (hb) (g : Vec Ideal S2x512x2x8x128 .fp8e4m3) (pg : Fin 64) (u : Fin 4) (x : Fin 128) (s : Fin 2) (p : Fin 512) (t : Fin 2) (k : Fin 8)
    (h0 : o 0 = s.val) (h1 : o 1 + pg.val = p.val) (h2 : o 2 = t.val) (h3 : o 3 + u.val = k.val) (h4 : o 4 = 0) :
    rd o hb g (ix5 0 pg 0 u x) = g (ix5 s p t k x) := by
  refine congrArg g (funext fun a => Fin.ext ?_)
  match a with
  | ⟨0, _⟩ => show o 0 + 1 * 0 = s.val; omega
  | ⟨1, _⟩ => show o 1 + 1 * pg.val = p.val; omega
  | ⟨2, _⟩ => show o 2 + 1 * 0 = t.val; omega
  | ⟨3, _⟩ => show o 3 + 1 * u.val = k.val; omega
  | ⟨4, _⟩ => show o 4 + 1 * x.val = x.val; omega

/-- A product with two tiles of the slot. -/
theorem dot_rd (o1 o2 : Fin 5 → ℕ) (hb1) (hb2) (qd : FVec Ideal S32x256 .bf16) (g : Vec Ideal S2x512x2x8x128 .fp8e4m3) (h' h : Fin 32) (hh : h' = h) (pg : Fin 64) (u : Fin 4) (s : Fin 2) (p : Fin 512)
    (a0 : o1 0 = s.val) (a1 : o1 1 + pg.val = p.val) (a2 : o1 2 = 0) (a3 : o1 3 + u.val = h.val / 4) (a4 : o1 4 = 0)
    (b0 : o2 0 = s.val) (b1 : o2 1 + pg.val = p.val) (b2 : o2 2 = 1) (b3 : o2 3 + u.val = h.val / 4) (b4 : o2 4 = 0) :
    dotV qd (rd o1 hb1 g) (rd o2 hb2 g) h' pg u = pageDot qd g s p h := by
  subst hh
  unfold dotV pageDot
  refine congrArg₂ (· + ·) (Finset.sum_congr rfl fun x _ => congrArg (_ * ·) ?_) (Finset.sum_congr rfl fun x _ => congrArg (_ * ·) ?_)
  · exact rd_at o1 hb1 g pg u x s p 0 _ a0 a1 a2 a3 a4
  · exact rd_at o2 hb2 g pg u x s p 1 _ b0 b1 b2 b3 b4

/-- The output tile. -/
theorem outF_at {v : BitVec 32} (hv : v.toNat ≤ 8192) (i : grid0.Coords) (hc : k0_chk68 i v) (qd : FVec Ideal S32x256 .bf16) (sc : Vec Ideal S32x128 .f32)
    (g : Vec Ideal S2x512x2x8x128 .fp8e4m3) (s : Fin 2) (hs : s.val = (i 0).val % 2) (h : Fin 32) (p : Fin 512) :
    outF i v hc qd sc g (ix3 0 h p) = if p.val * 16 < v.toNat then pageDot qd g s p h * sc (ix2 h ⟨p.val % 128, Nat.mod_lt _ (by decide)⟩) else (0 : EReal) := by
  have hp := p.isLt
  have hh := h.isLt
  have hk : p.val / 128 < 4 := by omega
  have e128 : 128 * (p.val / 128) + p.val % 128 = p.val := by omega
  have hsl : (Scalar.remsi (BitVec.ofNat 32 (i 0).val) 2#32).toNat = s.val := (slotCur _ (coord_lt i)).trans hs.symm
  have w0 := halfW_val (p.val / 128) hk 0
  have w1 := halfW_val (p.val / 128) hk 1
  unfold outF
  by_cases ht : p.val / 128 < (k0_t7_loop v).trips
  · refine (dif_pos ht).trans ?_
    by_cases h1 : h.val < 16
    · refine (dif_pos h1).trans ?_
      unfold topV
      refine (topPay_at qd hv sc ⟨_, ht⟩ hk _ _ _ _ ⟨h.val, h1⟩ ⟨p.val % 128, Nat.mod_lt _ (by decide)⟩).trans ?_
      refine if_congr (by show (128 * (p.val / 128) + p.val % 128) * 16 < _ ↔ _; rw [e128]) (congrArg (· * _) ?_) rfl
      by_cases hl : p.val % 128 < 64
      · rw [if_pos hl, if_pos hl]
        exact dot_rd _ _ _ _ qd g _ h rfl _ _ s p hsl ((congrArg (· + p.val % 128 % 64) w0).trans (by show 128 * (p.val / 128) + 64 * 0 + p.val % 128 % 64 = p.val; omega)) rfl (Nat.zero_add _) rfl
          hsl ((congrArg (· + p.val % 128 % 64) w0).trans (by show 128 * (p.val / 128) + 64 * 0 + p.val % 128 % 64 = p.val; omega)) rfl (Nat.zero_add _) rfl
      · rw [if_neg hl, if_neg hl]
        exact dot_rd _ _ _ _ qd g _ h rfl _ _ s p hsl ((congrArg (· + p.val % 128 % 64) w1).trans (by show 128 * (p.val / 128) + 64 * 1 + p.val % 128 % 64 = p.val; omega)) rfl (Nat.zero_add _) rfl
          hsl ((congrArg (· + p.val % 128 % 64) w1).trans (by show 128 * (p.val / 128) + 64 * 1 + p.val % 128 % 64 = p.val; omega)) rfl (Nat.zero_add _) rfl
    · refine (dif_neg h1).trans ?_
      unfold botV
      have hr : 16 + (h.val - 16) = h.val := by omega
      have hq : 4 + (h.val - 16) / 4 = h.val / 4 := by omega
      refine (botPay_at qd hv sc ⟨_, ht⟩ hk _ _ _ _ ⟨h.val - 16, by omega⟩ ⟨p.val % 128, Nat.mod_lt _ (by decide)⟩).trans ?_
      refine if_congr (by show (128 * (p.val / 128) + p.val % 128) * 16 < _ ↔ _; rw [e128]) (congrArg₂ (· * ·) ?_ (congrArg (fun z => sc (ix2 z _)) (Fin.ext hr))) rfl
      by_cases hl : p.val % 128 < 64
      · rw [if_pos hl, if_pos hl]
        exact dot_rd _ _ _ _ qd g _ h (Fin.ext hr) _ _ s p hsl ((congrArg (· + p.val % 128 % 64) w0).trans (by show 128 * (p.val / 128) + 64 * 0 + p.val % 128 % 64 = p.val; omega)) rfl hq rfl
          hsl ((congrArg (· + p.val % 128 % 64) w0).trans (by show 128 * (p.val / 128) + 64 * 0 + p.val % 128 % 64 = p.val; omega)) rfl hq rfl
      · rw [if_neg hl, if_neg hl]
        exact dot_rd _ _ _ _ qd g _ h (Fin.ext hr) _ _ s p hsl ((congrArg (· + p.val % 128 % 64) w1).trans (by show 128 * (p.val / 128) + 64 * 1 + p.val % 128 % 64 = p.val; omega)) rfl hq rfl
          hsl ((congrArg (· + p.val % 128 % 64) w1).trans (by show 128 * (p.val / 128) + 64 * 1 + p.val % 128 % 64 = p.val; omega)) rfl hq rfl
  · refine (dif_neg ht).trans ?_
    rw [t7_trips hv] at ht
    unfold ncOf at ht
    rw [if_neg (by omega)]
    have e5 (r : Fin 32) (l : Fin 128) : k0_pay5 (F := Ideal) (ix3 0 r l) = (0 : EReal) := by pointwise [k0_pay5]
    exact e5 _ _

/-- The tile depends on the pages of the sequence alone. -/
theorem outF_congr {v : BitVec 32} (hv : v.toNat ≤ 8192) (i : grid0.Coords) (hc : k0_chk68 i v) (qd : FVec Ideal S32x256 .bf16) (sc : Vec Ideal S32x128 .f32)
    (g g' : Vec Ideal S2x512x2x8x128 .fp8e4m3)
    (hg : ∀ j : S2x512x2x8x128.Idx, (j 0).val = (i 0).val % 2 → (j 1).val < 16 * ngOf v.toNat → g j = g' j) :
    outF i v hc qd sc g = outF i v hc qd sc g' := by
  have hs2 : (i 0).val % 2 < 2 := Nat.mod_lt _ (by decide)
  funext j
  have ej : j = ix3 0 (j 1) (j 2) := (ValueIdx.eq_ix3 j).trans (congrArg (fun z => ix3 z (j 1) (j 2)) (Subsingleton.elim (α := Fin 1) _ _))
  refine ((congrArg (outF i v hc qd sc g) ej).trans (outF_at hv i hc qd sc g ⟨_, hs2⟩ rfl (j 1) (j 2))).trans
    (Eq.trans ?_ ((congrArg (outF i v hc qd sc g') ej).trans (outF_at hv i hc qd sc g' ⟨_, hs2⟩ rfl (j 1) (j 2))).symm)
  by_cases h : (j 2).val * 16 < v.toNat
  · rw [if_pos h, if_pos h]
    have hn : (j 2).val < 16 * ngOf v.toNat := by unfold ngOf; omega
    refine congrArg (· * _) ?_
    unfold pageDot
    refine congrArg₂ (· + ·) (Finset.sum_congr rfl fun x _ => congrArg (_ * ·) ?_) (Finset.sum_congr rfl fun x _ => congrArg (_ * ·) ?_)
    · exact hg _ rfl hn
    · exact hg _ rfl hn
  · rw [if_neg h, if_neg h]

end Cert.KernelIdeal.Hand

end
-- ==== Proof.Exact.lean ====
/-
  The run of the kernel at exact arithmetic, with what it leaves in the result.
-/
module

public import proofs.«01_k».proof.Proof.Out
public import Idealize.ShloMosaic.Lib.Pipeline.FrameSuffixR
public import Idealize.ShloMosaic.Lib.Claim
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

local notation "𝕄" => MT nD τ sig Unit (Elt Ideal) ℕ (Pipeline.UD sig nD τ) ℕ

/-- What the body leaves in the output tile, said exactly. -/
theorem scored_exact (c : Dev nD) (KV : Vec Ideal S61440x2x8x128 .fp8e4m3) (TB : IVec S96x512 32) (hTB : InPool TB) (LN : IVec S96 32) (hLN : Short LN)
    (i : grid0.Coords) (b : ℕ) (hb : (i 0).val = b) (a6 : Memref sig .tc .vmem S1x32x512 .f32) (Qb : Vec Ideal S1x32x128 .bf16) (sc : Vec Ideal S32x128 .f32) :
    (scored c KV TB hTB LN hLN i b a6 Qb sc : sProp 𝕄)
      ⊢ owns (c : Thread nD τ) a6 fullShare (outF i (lenOf LN b) (chk68_of i _ (lenOf_le hLN b)) (qdOf Qb) sc (gath KV (pgOf TB b) (pgOf_lt hTB b))) := by
  unfold scored
  iintro ⟨%g, %hg, H⟩
  rw [outF_congr (lenOf_le hLN b) i _ (qdOf Qb) sc g (gath KV (pgOf TB b) (pgOf_lt hTB b)) (fun j h0 h1 => hg j (h0.trans (by rw [hb])) h1)]
  iexact H

variable (m : (ℓ : Loc nD τ sig) → Buf (Elt Ideal) ℓ) (ρ : Dev nD → PrngReg)
  (hT : ∀ c, InPool (TBm m c)) (hL : ∀ c, Short (LNm m c))

theorem some_of_before (c : Dev nD) (t : Fin (cfgA m).N) :
    (iprop(∃ d, owns (c : Thread nD τ) (((cfgA m).win 2).stage ((cfgA m).slots t 2)) fullShare ((dats m hT hL 0 c).before 2 t d)) : sProp 𝕄)
      ⊢ iprop(∃ X, owns (c : Thread nD τ) (((cfgA m).win 2).stage ((cfgA m).slots t 2)) fullShare X) := by
  iintro ⟨%d, H⟩
  iexists _
  iexact H

theorem exact_after (c : Dev nD) (t : Fin (cfgA m).N) :
    (scored c (KVm m c) (TBm m c) (hT c) (LNm m c) (hL c) (grid0.coords t) t.val (((cfgA m).win 2).stage ((cfgA m).slots t 2)) (iblk m c 0 t) (iblk m c 1 t) : sProp 𝕄)
      ⊢ owns (c : Thread nD τ) (((cfgA m).win 2).stage ((cfgA m).slots t 2)) fullShare ((dats m hT hL 0 c).after 2 t) := by
  rw [after0_2]
  exact scored_exact c _ _ _ _ _ _ _ (coord_val t) _ _ _

/-- The body's obligation, with the result's tile. -/
theorem body_exact (c : Dev nD) : Pipeline.BodyObligation (dats m hT hL 0 c) (defs₀ (F := Ideal)) Variants.none () Set.univ := fun t => by
  rw [bigSep_W0, bigSep_W0]
  exact triple_restated (point_wp m hT hL c t) rfl (sep_mono .rfl (sep_mono .rfl (sep_mono .rfl (sep_mono .rfl (some_of_before m hT hL c t)))))
    fun _ => sep_mono .rfl (sep_mono .rfl (sep_mono .rfl (sep_mono .rfl (exact_after m hT hL c t))))

set_option maxHeartbeats 1000000 in
set_option backward.isDefEq.respectTransparency.types false in
/-- The run, to the contents its data says. -/
theorem run_exact : θ_run defs (onTc (τ := τ) (main (F := Ideal))) (s₀ m ρ) (Pipeline.FramePost (Pipeline.pin (pcfgs (F := Ideal)) (adm0 m)) (dats m hT hL) 0 (Pipeline.afterTail (pcfgs (F := Ideal)) (adm0 m) (dats m hT hL) (0 : Fin 1) (V0 m) [hostOps1])) :=
  Pipeline.θ_run_frameP_dma_around (pcfgs (F := Ideal)) (adm0 m) (dats m hT hL) (0 : Fin 1) launch0 osem0 defs₀ Variants.none ownSemFacts0 H0 H0_sub m ρ main
    (hbody := fun c => (body_exact m hT hL c).loose) (hshare := fun c => (dats m hT hL 0 c).share_full fun _ => rfl) (howed := fun _ _ => rfl)
    (V₀ := V0 m) (opss := [hostOps1]) (hsub := sfx_sub) (hfresh := sfx_fresh) (hkeep := sfx_keeps)
    (hmain := hmain m) (hA := A_eq m hT hL) (hpf := fun c k => by obtain rfl : c = 0 := Subsingleton.elim _ _; rfl)
    (hin := region_in m hT hL) (hout := region_out m hT hL)

end Cert.KernelIdeal.Hand

end
-- ==== Proof.ValQ.lean ====
/-
  The matrix unit's query operand at exact arithmetic, element by element.
-/
module

public import proofs.«01_k».proof.Proof.ValInt
public import Idealize.ShloMosaic.Lib.Pointwise

@[expose] public section

set_option maxRecDepth 16384

noncomputable section

namespace Cert.KernelIdeal.Hand

open Cert.KernelIdeal Cert.KernelIdeal.Gen
open Idealize.ShloMosaic

/-- A half of the lanes: channel `n` of lane `l`, the smaller part on the even lanes. -/
theorem q92_at (q : Vec Ideal S1x32x128 .bf16) (H : IVec S32x128 32) (r : Fin 32) (l : Fin 128) (n : Fin 128) (h : H (ix2 r l) = BitVec.ofNat 32 n.val) :
    k0_pay92 (k0_pay89 q) (iota .tc S32x128 32 [1] iota_S32x128_d1_w32) H k0_pay91 (ix2 r l)
      = if l.val % 2 = 0 then min (q (ix3 0 r n)) 0 else max (q (ix3 0 r n)) 0 := by
  pointwise [k0_pay92, k0_pay91, k0_pay89]
  rw [par_at _ l.isLt]
  have e (hp) : (⟨(select (cmpi .slt H (broadcast S32x128 0#32)) (addi H (broadcast S32x128 128#32)) H (ix2 r l)).toNat % S32x128.size 1, hp⟩ : Fin 128) = n := by
    refine Fin.ext ?_
    show (Scalar.select (IntOp.cmpi .slt (H (ix2 r l)) 0#32) (IntOp.addi (H (ix2 r l)) 128#32) (H (ix2 r l))).toNat % 128 = n.val
    rw [h]
    exact wrap_at _ n.isLt
  split
  · exact congrArg (fun z => min (q (ix3 0 r z)) 0) (e _)
  · exact congrArg (fun z => max (q (ix3 0 r z)) 0) (e _)

/-- The channels of the second half of the lanes. -/
def secondH : IVec S32x128 32 :=
  addi (select (andi (cmpi .ne (k0_pay94 (iota .tc S32x128 32 [1] iota_S32x128_d1_w32)) k0_pay95)
      (cmpi .ne (remsi (iota .tc S32x128 32 [1] iota_S32x128_d1_w32) (broadcast S32x128 2#32)) (broadcast S32x128 0#32)))
    (subi (k0_pay93 (iota .tc S32x128 32 [1] iota_S32x128_d1_w32)) (broadcast S32x128 1#32)) (k0_pay93 (iota .tc S32x128 32 [1] iota_S32x128_d1_w32)))
    (broadcast S32x128 64#32)

theorem second_at (r : Fin 32) (l : Fin 128) : secondH (ix2 r l) = BitVec.ofNat 32 (64 + l.val / 2) :=
  (by decide +kernel : ∀ (r : Fin 32) (l : Fin 128), secondH (ix2 r l) = BitVec.ofNat 32 (64 + l.val / 2)) r l

/-- A half of the lanes after the other. -/
def lanes2 (Y Z : FVec Ideal S32x128 .f32) : FVec Ideal S32x256 .bf16 :=
  truncf .bf16 (concatenate S32x256 1 [⟨S32x128, Y⟩, ⟨S32x128, Z⟩] concatenates_S32x128_S32x128_S32x256_d1) bitsLt_bf16_f32

theorem qdOf_eq (q : Vec Ideal S1x32x128 .bf16) : qdOf q
    = lanes2 (k0_pay92 (k0_pay89 q) (iota .tc S32x128 32 [1] iota_S32x128_d1_w32) k0_pay90 k0_pay91)
        (k0_pay92 (k0_pay89 q) (iota .tc S32x128 32 [1] iota_S32x128_d1_w32) secondH k0_pay91) := rfl

theorem lanes2_at (Y Z : FVec Ideal S32x128 .f32) (r : Fin 32) (l : Fin 256) :
    lanes2 Y Z (ix2 r l) = if h : l.val < 128 then Y (ix2 r ⟨l.val, h⟩) else Z (ix2 r ⟨l.val - 128, by omega⟩) := by
  pointwise [lanes2]

theorem qdOf_at (q : Vec Ideal S1x32x128 .bf16) (r : Fin 32) (l : Fin 256) :
    qdOf q (ix2 r l) = if l.val % 2 = 0 then min (q (ix3 0 r ⟨l.val / 2, by omega⟩)) 0 else max (q (ix3 0 r ⟨l.val / 2, by omega⟩)) 0 := by
  rw [qdOf_eq, lanes2_at]
  by_cases hl : l.val < 128
  · rw [dif_pos hl]
    exact q92_at q k0_pay90 r ⟨l.val, hl⟩ ⟨l.val / 2, by omega⟩ (lane_half r ⟨l.val, hl⟩)
  · rw [dif_neg hl]
    have hm : (l.val - 128) % 2 = l.val % 2 := by omega
    have hd : 64 + (l.val - 128) / 2 = l.val / 2 := by omega
    refine (q92_at q secondH r ⟨l.val - 128, by omega⟩ ⟨l.val / 2, by omega⟩ ((second_at r ⟨l.val - 128, by omega⟩).trans (congrArg _ hd))).trans ?_
    rw [hm]

end Cert.KernelIdeal.Hand

end
-- ==== Proof.Spec.lean ====
/-
  The bound of a page for a head, as a number: what both programs end with.
-/
module

public import Idealize.ShloMosaic.Lib.Pointwise

@[expose] public section

noncomputable section

namespace Cert.Spec

open Idealize.ShloMosaic

/-- A query's channel, cut at zero from above (`t = 0`) or from below. -/
def part (q : (⟨3, ![96, 32, 128]⟩ : Shape).Idx → EReal) (b : Fin 96) (h : Fin 32) (d : Fin 128) (t : ℕ) : EReal :=
  if t = 0 then min (q (ix3 b h d)) 0 else max (q (ix3 b h d)) 0

/-- The bound of page `p` of sequence `b` for head `h`: the products of the query's parts with the page's least and greatest keys, summed
    and scaled, for a page of the sequence; zero past it. -/
def bound (q : (⟨3, ![96, 32, 128]⟩ : Shape).Idx → EReal) (km : (⟨3, ![61440, 8, 256]⟩ : Shape).Idx → EReal) (ks : (⟨1, ![8]⟩ : Shape).Idx → EReal)
    (pt : (⟨2, ![96, 512]⟩ : Shape).Idx → BitVec 32) (ln : (⟨1, ![96]⟩ : Shape).Idx → BitVec 32) (hp : ∀ j, (pt j).toNat < 61440)
    (b : Fin 96) (p : Fin 512) (h : Fin 32) : EReal :=
  if p.val * 16 < (ln (ix1 b)).toNat then
    (∑ d : Fin 128, ∑ t : Fin 2, km (ix3 ⟨(pt (ix2 b p)).toNat, hp _⟩ ⟨h.val / 4, by omega⟩ ⟨d.val * 2 + t.val, by omega⟩) * part q b h d t.val)
      * ks (ix1 ⟨h.val / 4, by omega⟩)
  else 0

/-- Equal inputs have equal bounds. -/
theorem bound_congr {q q' : (⟨3, ![96, 32, 128]⟩ : Shape).Idx → EReal} {km km' : (⟨3, ![61440, 8, 256]⟩ : Shape).Idx → EReal} {ks ks' : (⟨1, ![8]⟩ : Shape).Idx → EReal}
    {pt pt' : (⟨2, ![96, 512]⟩ : Shape).Idx → BitVec 32} {ln ln' : (⟨1, ![96]⟩ : Shape).Idx → BitVec 32} (hq : q = q') (hk : km = km') (hs : ks = ks') (ht : pt = pt') (hl : ln = ln')
    (hp : ∀ j, (pt j).toNat < 61440) (hp' : ∀ j, (pt' j).toNat < 61440) (b : Fin 96) (p : Fin 512) (h : Fin 32) :
    bound q km ks pt ln hp b p h = bound q' km' ks' pt' ln' hp' b p h := by
  subst hq hk hs ht hl
  rfl

/-- A sum over the two halves of the lanes is one over the channels and their two parts. -/
theorem two_halves (f : Fin 256 → EReal) :
    ∑ x : Fin 128, f ⟨x.val, by omega⟩ + ∑ x : Fin 128, f ⟨128 + x.val, by omega⟩ = ∑ d : Fin 128, ∑ t : Fin 2, f ⟨d.val * 2 + t.val, by omega⟩ := by
  have h1 : ∑ n : Fin (128 + 128), f n = ∑ x : Fin 128, f ⟨x.val, by omega⟩ + ∑ x : Fin 128, f ⟨128 + x.val, by omega⟩ := Fin.sum_univ_add _
  have h2 : ∑ n : Fin (128 * 2), f n = ∑ x : Fin 128 × Fin 2, f (finProdFinEquiv x) := (Equiv.sum_comp finProdFinEquiv (fun n : Fin (128 * 2) => f n)).symm
  rw [← h1]
  refine Eq.trans h2 ?_
  rw [Fintype.sum_prod_type]
  refine Finset.sum_congr rfl fun d _ => Finset.sum_congr rfl fun t _ => congrArg f (Fin.ext ?_)
  show t.val + 2 * d.val = d.val * 2 + t.val
  omega

end Cert.Spec

end
-- ==== Proof.KVal.lean ====
/-
  The kernel's result, element by element: the page bound of its five inputs.
-/
module

public import proofs.«01_k».proof.Proof.Exact
public import proofs.«01_k».proof.Proof.ValQ
public import proofs.«01_k».proof.Proof.Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.Pipeline Idealize.ShloMosaic.TcCoe
open Idealize.SL Idealize.SL.BI

/-! ### The host's operations -/

section Host

variable (W : Valuation τ sig (Elt Ideal))

/-- The result is the scores with their last two axes exchanged. -/
theorem v7_at (x : S96x32x512.Idx → EReal) (hx : W (Proc.devRef .tc main_v6) = x) (b : Fin 96) (p : Fin 512) (h : Fin 32) :
    (StableHlo.after (List.flatten [hostOps1]) W (Proc.devRef .tc main_v7) : S96x512x32.Idx → EReal) (ix3 b p h) = x (ix3 b h p) := by
  subst hx
  simp only [List.flatten_cons, List.flatten_nil, List.append_nil, List.cons_append, List.nil_append]
  after_reads_at

/-- The pages by halves of the lanes. -/
theorem v1_at (km : S61440x8x256.Idx → EReal) (hk : W (Proc.devRef .tc main_arg1) = km) (g : Fin 61440) (t : Fin 2) (k : Fin 8) (x : Fin 128) :
    (StableHlo.after (List.flatten [hostOps0]) W (Proc.devRef .tc main_v1) : S61440x2x8x128.Idx → EReal) (ix4 g t k x)
      = km (ix3 g k ⟨t.val * 128 + x.val, by omega⟩) := by
  subst hk
  simp only [List.flatten_cons, List.flatten_nil, List.append_nil, List.cons_append, List.nil_append]
  after_reads_at

/-- The scales by heads. -/
theorem v5_at (ks : S8.Idx → EReal) (hk : W (Proc.devRef .tc main_arg2) = ks) (r : Fin 32) (l : Fin 128) :
    (StableHlo.after (List.flatten [hostOps0]) W (Proc.devRef .tc main_v5) : S32x128.Idx → EReal) (ix2 r l) = ks (ix1 ⟨r.val / 4, by omega⟩) := by
  subst hk
  simp only [List.flatten_cons, List.flatten_nil, List.append_nil, List.cons_append, List.nil_append]
  after_reads_at

end Host

/-! ### The scores -/

variable (m : (ℓ : Loc nD τ sig) → Buf (Elt Ideal) ℓ) (ρ : Dev nD → PrngReg)

/-- A sequence's queries. -/
theorem iblk0_at (c : Dev nD) (t : Fin (cfgA m).N) (b : Fin 96) (hb : t.val = b.val) (r : Fin 32) (d : Fin 128) :
    (iblk m c 0 t : S1x32x128.Idx → EReal) (ix3 0 r d) = (V m c main_arg0 : S96x32x128.Idx → EReal) (ix3 b r d) := by
  refine congrArg (V m c main_arg0 : S96x32x128.Idx → EReal) (funext fun a => Fin.ext ?_)
  have ht : t.val < 96 := by omega
  match a with
  | ⟨0, _⟩ =>
    show cc0_transform_0 (grid0.coords t) 0 * 1 + 1 * 0 = b.val
    show (BitVec.ofNat 32 (grid0.coords t 0).val).toNat * 1 + 1 * 0 = b.val
    rw [coord_val, toNat_nat (by omega)]
    omega
  | ⟨1, _⟩ => show 0 * 32 + 1 * r.val = r.val; omega
  | ⟨2, _⟩ => show 0 * 128 + 1 * d.val = d.val; omega

/-- The scales' block is the whole array. -/
theorem iblk1_at (c : Dev nD) (t : Fin (cfgA m).N) (r : Fin 32) (l : Fin 128) :
    (iblk m c 1 t : S32x128.Idx → EReal) (ix2 r l) = (V m c main_v5 : S32x128.Idx → EReal) (ix2 r l) := by
  refine congrArg (V m c main_v5 : S32x128.Idx → EReal) (funext fun a => Fin.ext ?_)
  match a with
  | ⟨0, _⟩ => show 0 * 32 + 1 * r.val = r.val; omega
  | ⟨1, _⟩ => show 0 * 128 + 1 * l.val = l.val; omega

variable (hT : ∀ c, InPool (TBm m c)) (hL : ∀ c, Short (LNm m c))

/-- The scores' array, from each sequence's tile. -/
def v6G (c : Dev nD) : S96x32x512.Idx → EReal := fun j => outAt m hT hL c ⟨(j 0).val, (j 0).isLt⟩ (ix3 0 (j 1) (j 2))

/-- A memory, at which the blocks' places are read. -/
def anyM : (ℓ : Loc nD τ sig) → Buf (Elt Ideal) ℓ := fun _ => Classical.choice inferInstance

theorem covers2 : ((cfgA m).win 2).Covers := (by decide +kernel : ((cfgA anyM).win 2).Covers)

/-- Each sequence's tile goes to its place in the array. -/
theorem tile_at (c : Dev nD) (t : Fin (cfgA m).N) (y : S1x32x512.Idx) : (outAt m hT hL c t y : EReal) = v6G m hT hL c ((((cfgA m).win 2).blk t).view.emb y) := by
  have ht : t.val < 96 := t.isLt
  have y0 : (y 0).val < 1 := (y 0).isLt
  have ey : y = ix3 0 (y 1) (y 2) := (ValueIdx.eq_ix3 (n0 := 1) (n1 := 32) (n2 := 512) y).trans (congrArg (fun z => ix3 z (y 1) (y 2)) (Subsingleton.elim (α := Fin 1) _ _))
  have e : ((((cfgA m).win 2).blk t).view.emb y : S96x32x512.Idx) = ix3 ⟨t.val, ht⟩ (y 1) (y 2) := by
    funext a
    refine Fin.ext ?_
    match a with
    | ⟨0, _⟩ =>
      show (BitVec.ofNat 32 (grid0.coords t 0).val).toNat * 1 + 1 * (y 0).val = t.val
      rw [coord_val, toNat_nat (by omega)]
      omega
    | ⟨1, _⟩ => show 0 * 32 + 1 * (y 1).val = (y 1).val; omega
    | ⟨2, _⟩ => show 0 * 512 + 1 * (y 2).val = (y 2).val; omega
  exact (congrArg (outAt m hT hL c t) ey).trans (congrArg (v6G m hT hL c) e).symm

/-- The scores' array after the run. -/
theorem v6_eq (c : Dev nD) : ((dats m hT hL 0 c).arrAt 2 (cfgA m).N : S96x32x512.Idx → EReal) = v6G m hT hL c := by
  refine (dats m hT hL 0 c).arrAt_eq_of_covers 2 (v6G m hT hL c) (covers2 m) fun t hf y => ?_
  blk_simp
  rw [after0_2]
  exact tile_at m hT hL c t y

/-- The pages, as numbers. -/
abbrev kmV (c : Dev nD) : S61440x8x256.Idx → EReal := V m c main_arg1

/-- The loaded pages' element, from the pages as given. -/
theorem gath_at (c : Dev nD) (b : Fin 96) (s : Fin 2) (p : Fin 512) (t : Fin 2) (k : Fin 8) (x : Fin 128) (hp) :
    (gath (KVm m c) (pgOf (TBm m c) b.val) (pgOf_lt (hT c) b.val) (ix5 s p t k x) : EReal)
      = (V m c main_arg1 : S61440x8x256.Idx → EReal) (ix3 ⟨((TBm m c) (ix2 b p)).toNat, hp⟩ k ⟨t.val * 128 + x.val, by omega⟩) := by
  have e : pgOf (TBm m c) b.val p.val = ((TBm m c) (ix2 b p)).toNat := by
    unfold pgOf
    rw [dif_pos ⟨b.isLt, p.isLt⟩]
    rfl
  have h1 (g : Fin 61440) : (KVm m c : S61440x2x8x128.Idx → EReal) (ix4 g t k x) = (V m c main_arg1 : S61440x8x256.Idx → EReal) (ix3 g k ⟨t.val * 128 + x.val, by omega⟩) :=
    (v1_at (fun b => m (c, b)) _ rfl g t k x).trans (congrFun (V_arg m c main_arg1 (by decide)).symm _)
  refine (h1 ⟨pgOf (TBm m c) b.val p.val, pgOf_lt (hT c) b.val p.val⟩).trans ?_
  exact congrArg (fun z => (V m c main_arg1 : S61440x8x256.Idx → EReal) (ix3 z k _)) (Fin.ext e)

/-- A sequence's tile holds its page bounds. -/
theorem outAt_at (c : Dev nD) (b : Fin 96) (t : Fin (cfgA m).N) (hb : t.val = b.val) (p : Fin 512) (h : Fin 32) :
    (outAt m hT hL c t (ix3 0 h p) : EReal)
      = Cert.Spec.bound (V m c main_arg0) (V m c main_arg1) (V m c main_arg2) (TBm m c) (LNm m c) (hT c) b p h := by
  obtain ⟨tv, ht⟩ := t
  obtain rfl : tv = b.val := hb
  have hs2 : b.val % 2 < 2 := Nat.mod_lt _ (by decide)
  have el : lenOf (LNm m c) b.val = LNm m c (ix1 b) := by
    unfold lenOf
    rw [dif_pos b.isLt]
    rfl
  unfold outAt
  refine (outF_at (lenOf_le (hL c) b.val) _ _ _ _ _ ⟨b.val % 2, hs2⟩ (congrArg (· % 2) (coord_val ⟨b.val, ht⟩).symm) h p).trans ?_
  unfold Cert.Spec.bound
  refine if_congr (by rw [el]) (congrArg₂ (· * ·) ?_ ?_) rfl
  · unfold pageDot
    have hq := fun (n : Fin 256) => qdOf_at (iblk m c 0 ⟨b.val, ht⟩) h n
    refine (congrArg₂ (· + ·)
      (Finset.sum_congr rfl fun x _ => congrArg (_ * ·) ((gath_at m hT c b ⟨b.val % 2, hs2⟩ p 0 ⟨h.val / 4, by omega⟩ x (hT c _)).trans
        (congrArg (fun z => (V m c main_arg1 : S61440x8x256.Idx → EReal) (ix3 _ _ z)) (Fin.ext (by show 0 * 128 + x.val = x.val; omega) : _ = (⟨x.val, by omega⟩ : Fin 256)))))
      (Finset.sum_congr rfl fun x _ => congrArg (_ * ·) ((gath_at m hT c b ⟨b.val % 2, hs2⟩ p 1 ⟨h.val / 4, by omega⟩ x (hT c _)).trans
        (congrArg (fun z => (V m c main_arg1 : S61440x8x256.Idx → EReal) (ix3 _ _ z)) (Fin.ext (by show 1 * 128 + x.val = 128 + x.val; omega) : _ = (⟨128 + x.val, by omega⟩ : Fin 256)))))).trans ?_
    refine (Cert.Spec.two_halves fun n => (qdOf (iblk m c 0 ⟨b.val, ht⟩) (ix2 h n) : EReal)
      * kmV m c (ix3 ⟨((TBm m c) (ix2 b p)).toNat, hT c _⟩ ⟨h.val / 4, by omega⟩ n)).trans ?_
    refine Finset.sum_congr rfl fun d _ => Finset.sum_congr rfl fun u _ => ?_
    refine (mul_comm _ _).trans (congrArg (_ * ·) ?_)
    refine (hq ⟨d.val * 2 + u.val, by omega⟩).trans ?_
    unfold Cert.Spec.part
    have hd : (d.val * 2 + u.val) / 2 = d.val := by omega
    have hi : (iblk m c 0 ⟨b.val, ht⟩ : S1x32x128.Idx → EReal) (ix3 0 h ⟨(d.val * 2 + u.val) / 2, by omega⟩) = (V m c main_arg0 : S96x32x128.Idx → EReal) (ix3 b h d) :=
      (congrArg (fun z => (iblk m c 0 ⟨b.val, ht⟩ : S1x32x128.Idx → EReal) (ix3 0 h z)) (Fin.ext hd)).trans (iblk0_at m c ⟨b.val, ht⟩ b rfl h d)
    refine if_congr (by show (d.val * 2 + u.val) % 2 = 0 ↔ u.val = 0; omega) (congrArg (min · 0) hi) (congrArg (max · 0) hi)
  · exact (iblk1_at m c _ h _).trans ((v5_at (fun b => m (c, b)) _ rfl h _).trans (congrFun (V_arg m c main_arg2 (by decide)).symm _))

/-- The kernel's result on a core. -/
theorem out_at (c : Dev nD) (b : Fin 96) (p : Fin 512) (h : Fin 32) :
    (Pipeline.afterTail (pcfgs (F := Ideal)) (adm0 m) (dats m hT hL) (0 : Fin 1) (V0 m) [hostOps1] c main_v7 : S96x512x32.Idx → EReal) (ix3 b p h)
      = Cert.Spec.bound (V m c main_arg0) (V m c main_arg1) (V m c main_arg2) (TBm m c) (LNm m c) (hT c) b p h := by
  unfold Pipeline.afterTail
  refine (v7_at _ (v6G m hT hL c) ((Pipeline.withArrays_arr spec0 (by decide) c (V0 m c) _ 2).trans (v6_eq m hT hL c)) b p h).trans ?_
  exact outAt_at m hT hL c b ⟨b.val, b.isLt⟩ rfl p h

/-- The kernel runs, leaves the page bounds and changes no input. -/
theorem run (hT : ∀ c : Dev nD, InPool (m ((c.tc : Thread nD τ).loc main_arg3) : IVec S96x512 32)) (hL : ∀ c : Dev nD, Short (m ((c.tc : Thread nD τ).loc main_arg4) : IVec S96 32)) :
    θ_run defs (onTc (τ := τ) (main (F := Ideal))) ⟨m, fun _ => 0, ρ⟩ (fun r => ∀ c : Dev nD,
      r.2.mem ((c.tc : Thread nD τ).loc main_v7) = (fun j => Cert.Spec.bound (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (hT c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hT' : ∀ c, InPool (TBm m c) := fun c => by unfold TBm; rw [V_arg m c main_arg3 (by decide)]; exact hT c
  have hL' : ∀ c, Short (LNm m c) := fun c => by unfold LNm; rw [V_arg m c main_arg4 (by decide)]; exact hL c
  refine (θ_run defs _ _).mono (fun r h c => ⟨?_, h.2.1 c⟩) (θ_run_and (run_exact m ρ hT' hL') (frame m ρ hT hL))
  refine ((h.1 c).2 main_v7 (show main_v7 ∈ Pipeline.restRefs sig spec0 by decide)).trans (funext fun (j : S96x512x32.Idx) => ?_)
  refine (congrArg (Pipeline.afterTail (pcfgs (F := Ideal)) (adm0 m) (dats m hT' hL') (0 : Fin 1) (V0 m) [hostOps1] c main_v7 : S96x512x32.Idx → EReal) (ValueIdx.eq_ix3 j)).trans ?_
  refine (out_at m hT' hL' c (j 0) (j 1) (j 2)).trans ?_
  exact Cert.Spec.bound_congr (V_arg m c main_arg0 (by decide)) (V_arg m c main_arg1 (by decide)) (V_arg m c main_arg2 (by decide)) (V_arg m c main_arg3 (by decide)) (V_arg m c main_arg4 (by decide)) _ _ _ _ _

end Cert.KernelIdeal.Hand

end
-- ==== Proof.Ref.lean ====
/-
  The reference's result, element by element: the page bound of its five inputs.
-/
module

public import proofs.«01_k».proof.Proof.Gen.ReferenceIdeal.Frame
public import proofs.«01_k».proof.Proof.Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.Pipeline
open Idealize.SL Idealize.SL.BI

variable (W : Valuation τ sig (Elt Ideal))

/-- What the reference computes after the widening. -/
theorem tail_at (ln : IVec S96 32) (km : S96x512x8x256.Idx → EReal) (qs : S96x8x4x128x2.Idx → EReal) (ks : S8.Idx → EReal)
    (h4 : W (Proc.devRef .tc main_arg4) = ln) (h15 : W (Proc.devRef .tc main_v15) = km) (h7 : W (Proc.devRef .tc main_v7) = qs)
    (h2 : W (Proc.devRef .tc main_arg2) = ks) (b : Fin 96) (p : Fin 512) (h : Fin 32) :
    (StableHlo.after (List.flatten [hostOps1, hostOps1_1]) W (Proc.devRef .tc main_v32) : S96x512x32.Idx → EReal) (ix3 b p h)
      = Scalar.select (IntOp.cmpi .slt (IntOp.muli (BitVec.ofNat 32 p.val) 16#32) (ln (ix1 b)))
        ((∑ x : Fin 128, ∑ x1 : Fin 2, km (ix4 b p ⟨h.val / 4, by omega⟩ ⟨x.val * 2 + x1.val, by omega⟩)
            * qs (ix5 b ⟨h.val / 4, by omega⟩ ⟨h.val % 4, by omega⟩ x x1))
          * ks (ix1 ⟨h.val / 4, by omega⟩)) 0 := by
  subst h4 h15 h7 h2
  simp only [List.flatten_cons, List.flatten_nil, List.append_nil, List.cons_append, List.nil_append]
  after_reads_at
  exact congrArg _ Ideal.ofBits_zero_f32

/-- The query's two parts side by side. -/
theorem v7_at (q : S96x32x128.Idx → EReal) (h0 : W (Proc.devRef .tc main_arg0) = q) (b : Fin 96) (k : Fin 8) (g : Fin 4) (d : Fin 128) (t : Fin 2) :
    (StableHlo.after (List.flatten [hostOps0]) W (Proc.devRef .tc main_v7) : S96x8x4x128x2.Idx → EReal) (ix5 b k g d t)
      = Cert.Spec.part q b ⟨k.val * 4 + g.val, by omega⟩ d t.val := by
  subst h0
  simp only [List.flatten_cons, List.flatten_nil, List.append_nil, List.cons_append, List.nil_append]
  after_reads_at
  unfold Cert.Spec.part
  by_cases ht : t.val < 1
  · rw [dif_pos ht, if_pos (by omega)]
  · rw [dif_neg ht, if_neg (by omega)]

/-- A gather along the pool's first axis reads the page its index names. -/
theorem gather_at (X : Vec Ideal S61440x8x256 .fp8e4m3) (I : IVec S96x512x1 32) (b : Fin 96) (p : Fin 512) (k : Fin 8) (d : Fin 256) :
    Host.gather gather_S61440x8x256_S96x512x1_S96x512x8x256_23_0_n_n_0_2_18256 X I (ix4 b p k d)
      = X (ix3 ⟨min (I (ix3 b p 0)).toInt.toNat (61440 - 1), by omega⟩ k d) := by
  unfold Host.gather
  refine congrArg X ?_
  funext a
  refine Fin.ext ?_
  show gather_S61440x8x256_S96x512x1_S96x512x8x256_23_0_n_n_0_2_18256.start (ix4 b p k d) I a + gather_S61440x8x256_S96x512x1_S96x512x8x256_23_0_n_n_0_2_18256.batchCoord (ix4 b p k d) a + gather_S61440x8x256_S96x512x1_S96x512x8x256_23_0_n_n_0_2_18256.offCoord (ix4 b p k d) a = _
  match a with
  | ⟨0, _⟩ =>
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ gather_S61440x8x256_S96x512x1_S96x512x8x256_23_0_n_n_0_2_18256.startIndexMap from List.mem_singleton.mpr rfl)]
    have hsi (hk) : gather_S61440x8x256_S96x512x1_S96x512x8x256_23_0_n_n_0_2_18256.siIdx (ix4 b p k d) ⟨List.idxOf (⟨0, by decide⟩ : Fin 3) gather_S61440x8x256_S96x512x1_S96x512x8x256_23_0_n_n_0_2_18256.startIndexMap, hk⟩ = ix3 b p 0 := by
      funext e
      refine Fin.ext ?_
      match e with
      | ⟨0, _⟩ => rfl
      | ⟨1, _⟩ => rfl
      | ⟨2, _⟩ => rfl
    rw [hsi]
    rfl
  | ⟨1, _⟩ =>
    rw [GatherDims.batchCoord_eq_zero _ _ _ List.not_mem_nil]
    unfold GatherDims.start GatherDims.offCoord
    rw [dif_neg (show (⟨1, by decide⟩ : Fin 3) ∉ gather_S61440x8x256_S96x512x1_S96x512x8x256_23_0_n_n_0_2_18256.startIndexMap by decide), dif_pos (show (⟨1, by decide⟩ : Fin 3) ∈ gather_S61440x8x256_S96x512x1_S96x512x8x256_23_0_n_n_0_2_18256.sKept by decide)]
    exact Nat.zero_add _
  | ⟨2, _⟩ =>
    rw [GatherDims.batchCoord_eq_zero _ _ _ List.not_mem_nil]
    unfold GatherDims.start GatherDims.offCoord
    rw [dif_neg (show (⟨2, by decide⟩ : Fin 3) ∉ gather_S61440x8x256_S96x512x1_S96x512x8x256_23_0_n_n_0_2_18256.startIndexMap by decide), dif_pos (show (⟨2, by decide⟩ : Fin 3) ∈ gather_S61440x8x256_S96x512x1_S96x512x8x256_23_0_n_n_0_2_18256.sKept by decide)]
    exact Nat.zero_add _

/-- A page index that is in the pool is not negative. -/
theorem word_at (w : BitVec 32) (h : w.toNat < 61440) :
    min (Scalar.select (IntOp.cmpi .slt w 0#32) (IntOp.addi w 61440#32) w).toInt.toNat (61440 - 1) = w.toNat := by
  have e : w.toInt = (w.toNat : ℤ) := by rw [BitVec.toInt_eq_toNat_cond, if_pos (by omega)]
  have e0 : IntOp.cmpi .slt w 0#32 = 0#1 := by
    show BitVec.ofBool (decide (w.toInt < (0#32).toInt)) = 0#1
    rw [e, show (0#32).toInt = 0 from rfl, decide_eq_false (by omega)]
    rfl
  rw [e0]
  show min w.toInt.toNat (61440 - 1) = w.toNat
  rw [e]
  omega

/-- The gathered pages. -/
theorem v14_at (hp : ∀ j, ((W (Proc.devRef .tc main_arg3) : IVec S96x512 32) j).toNat < 61440) (b : Fin 96) (p : Fin 512) (k : Fin 8) (d : Fin 256) :
    (StableHlo.after (List.flatten [hostOps0]) W (Proc.devRef .tc main_v14) : Vec Ideal S96x512x8x256 .fp8e4m3) (ix4 b p k d)
      = (W (Proc.devRef .tc main_arg1) : Vec Ideal S61440x8x256 .fp8e4m3) (ix3 ⟨((W (Proc.devRef .tc main_arg3) : IVec S96x512 32) (ix2 b p)).toNat, hp _⟩ k d) := by
  simp only [List.flatten_cons, List.flatten_nil, List.append_nil, List.cons_append, List.nil_append]
  after_reads_at
  refine (gather_at _ _ b p k d).trans ?_
  refine congrArg (fun z => (W (Proc.devRef .tc main_arg1) : Vec Ideal S61440x8x256 .fp8e4m3) (ix3 z k d)) (Fin.ext ?_)
  refine Eq.trans ?_ (word_at _ (hp (ix2 b p)))
  generalize (W (Proc.devRef .tc main_arg3) : IVec S96x512 32) = T
  dsimp only
  pointwise

/-- The reference's mask of the pages of a sequence. -/
theorem mask_at (v : BitVec 32) (hv : v.toNat ≤ 8192) (p : Fin 512) (x y : EReal) :
    Scalar.select (IntOp.cmpi .slt (IntOp.muli (BitVec.ofNat 32 p.val) 16#32) v) x y = if p.val * 16 < v.toNat then x else y := by
  have hp := p.isLt
  have hvi : v.toInt = v.toNat := by rw [BitVec.toInt_eq_toNat_of_lt (by omega)]
  have hm : (IntOp.muli (BitVec.ofNat 32 p.val) 16#32).toNat = p.val * 16 := by
    show (BitVec.ofNat 32 p.val * 16#32).toNat = _
    rw [BitVec.toNat_mul, BitVec.toNat_ofNat, Nat.mod_eq_of_lt (show p.val < 2 ^ 32 by omega)]
    exact Nat.mod_eq_of_lt (by show p.val * 16 < 2 ^ 32; omega)
  have hmi : (IntOp.muli (BitVec.ofNat 32 p.val) 16#32).toInt = (p.val * 16 : ℕ) := by
    rw [BitVec.toInt_eq_toNat_of_lt (by omega), hm]
  have h : IntOp.cmpi .slt (IntOp.muli (BitVec.ofNat 32 p.val) 16#32) v = BitVec.ofBool (decide (p.val * 16 < v.toNat)) := by
    show BitVec.ofBool (BitVec.slt _ v) = _
    rw [BitVec.slt, hmi, hvi]
    have : (((p.val * 16 : ℕ) : ℤ) < (v.toNat : ℤ)) ↔ p.val * 16 < v.toNat := by omega
    simp only [this]
  rw [h]
  by_cases hlt : p.val * 16 < v.toNat
  · rw [if_pos hlt, decide_eq_true hlt]; rfl
  · rw [if_neg hlt, decide_eq_false hlt]; rfl

variable (m : (ℓ : Loc nD τ sig) → Buf (Elt Ideal) ℓ) (ρ : Dev nD → PrngReg)

/-- At exact arithmetic the widening changes nothing. -/
theorem pay1_at (X : Vec Ideal S96x512x8x256 .fp8e4m3) (y : S96x512x8x256.Idx) : k0_pay1 X y = X y := by
  obtain ⟨b, p, k, d, rfl⟩ : ∃ b p k d, y = ix4 b p k d := ⟨y 0, y 1, y 2, y 3, ValueIdx.eq_ix4 y⟩
  pointwise [k0_pay1]

/-- The widened pages are the gathered pages. -/
theorem v15_eq (c : Dev nD) : ((dats m 0 c).arrAt 1 cfg0.N : S96x512x8x256.Idx → EReal) = (V m c main_v14 : S96x512x8x256.Idx → EReal) := by
  refine (dats m 0 c).arrAt_eq_of_covers 1 _ (by decide +kernel) fun t hf y => ?_
  blk_simp
  rw [after0_1]
  unfold out0_1
  rw [View.canon_cons_unit_lit _ _ _ (by decide), View.ld_unit_lit _ _ (by decide)]
  rw [pay1_at]
  show V m c main_v14 ((win0_0.blk t).view.emb y) = V m c main_v14 ((win0_1.blk t).view.emb y)
  exact congrArg (V m c main_v14) rfl

variable (hp : ∀ (c : Dev nD) j, ((m ((c.tc : Thread nD τ).loc main_arg3) : IVec S96x512 32) j).toNat < 61440)
  (hl : ∀ (c : Dev nD) j, ((m ((c.tc : Thread nD τ).loc main_arg4) : IVec S96 32) j).toNat ≤ 8192)

include hl

/-- The reference's result on a core. -/
theorem out_at (c : Dev nD) (b : Fin 96) (p : Fin 512) (h : Fin 32) :
    (Pipeline.afterTail₀ cfgs (dats m) 0 (V0 m) [hostOps1, hostOps1_1] c main_v32 : S96x512x32.Idx → EReal) (ix3 b p h)
      = Cert.Spec.bound (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (hp c) b p h := by
  unfold Pipeline.afterTail₀
  refine (tail_at _ (m ((c.tc : Thread nD τ).loc main_arg4)) (V m c main_v14) (V m c main_v7) (m ((c.tc : Thread nD τ).loc main_arg2))
    ((Pipeline.withArrays_of_ne _ c (V0 m c) _ main_arg4 (by exact (by decide : ∀ w, Pipeline.arrRef spec0 w ≠ main_arg4))).trans (V_main_arg4 m c))
    ((Pipeline.withArrays_arr spec0 (by decide) c (V0 m c) _ 1).trans (v15_eq m c))
    (Pipeline.withArrays_of_ne _ c (V0 m c) _ main_v7 (by exact (by decide : ∀ w, Pipeline.arrRef spec0 w ≠ main_v7)))
    ((Pipeline.withArrays_of_ne _ c (V0 m c) _ main_arg2 (by exact (by decide : ∀ w, Pipeline.arrRef spec0 w ≠ main_arg2))).trans (V_main_arg2 m c))
    b p h).trans ?_
  rw [mask_at _ (hl c _)]
  unfold Cert.Spec.bound
  refine if_congr Iff.rfl (congrArg (· * _) (Finset.sum_congr rfl fun x _ => Finset.sum_congr rfl fun x1 _ => congrArg₂ (· * ·) ?_ ?_)) rfl
  · exact v14_at (fun b => m (c, b)) (hp c) b p _ _
  · refine (v7_at (fun b => m (c, b)) _ rfl b _ _ x x1).trans ?_
    exact congrArg (fun z => Cert.Spec.part _ b z x x1.val) (Fin.ext (by show h.val / 4 * 4 + h.val % 4 = h.val; omega))

/-- The reference runs, leaves the page bounds and changes no input. -/
theorem run : θ_run defs (onTc (τ := τ) (main (F := Ideal))) ⟨m, fun _ => 0, ρ⟩ (fun r => ∀ c : Dev nD,
    r.2.mem ((c.tc : Thread nD τ).loc main_v32) = (fun j => Cert.Spec.bound (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (hp c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v32 (Pipeline.mem_restRefs_of main_v32 (by decide) (by decide))).trans (funext fun j =>
        (congrArg (Pipeline.afterTail₀ cfgs (dats m) 0 (V0 m) [hostOps1, hostOps1_1] c main_v32 : S96x512x32.Idx → EReal) (ValueIdx.eq_ix3 j)).trans (out_at m hp hl c (j 0) (j 1) (j 2))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Launch
public import proofs.«01_k».proof.Proof.Gen.ReferenceIdeal.Frame
public import proofs.«01_k».proof.Proof.Run
public import proofs.«01_k».proof.Proof.Twin.Run
public import proofs.«01_k».proof.Proof.Pre
public import proofs.«01_k».proof.Proof.KVal
public import proofs.«01_k».proof.Proof.Ref
public import Idealize.ShloMosaic.Adequacy
public import Idealize.ShloMosaic.Init

@[expose] public section

namespace Cert.Proof

open Idealize.ShloMosaic

/-- The kernel and the reference both leave the page bounds of their inputs. -/
theorem same :
    Cert.algebraic_KernelIdeal_ReferenceIdeal (hKernelIdeal := Cert.KernelIdeal.Gen.facts) (hReferenceIdeal := Cert.ReferenceIdeal.Gen.facts)
      (hPre_in_range := Cert.Pre_in_range.facts) := by
  intro m g m' g' h e
  have hr := fun c => Cert.Pre_in_range.read _ _ _ _ _ (h c)
  have hp' : ∀ (c : Dev Cert.ReferenceIdeal.nD) j, ((m' ((c.tc : Thread Cert.ReferenceIdeal.nD Cert.ReferenceIdeal.τ).loc Cert.ReferenceIdeal.main_arg3) : IVec Cert.ReferenceIdeal.S96x512 32) j).toNat < 61440 := fun c j => by
    rw [(e c).2.2.2.1]
    exact (hr c).1 j
  have hl' : ∀ (c : Dev Cert.ReferenceIdeal.nD) j, ((m' ((c.tc : Thread Cert.ReferenceIdeal.nD Cert.ReferenceIdeal.τ).loc Cert.ReferenceIdeal.main_arg4) : IVec Cert.ReferenceIdeal.S96 32) j).toNat ≤ 8192 := fun c j => by
    rw [(e c).2.2.2.2]
    exact (hr c).2 j
  refine ⟨_, Cert.KernelIdeal.Hand.run m g (fun c => (hr c).1) fun c => (hr c).2, ?_⟩
  refine (θ_run Cert.ReferenceIdeal.defs _ _).mono (fun r k c => ⟨(k c).1.trans (funext fun j => ?_), (k c).2⟩) (Cert.ReferenceIdeal.Hand.run m' g' hp' hl')
  exact Cert.Spec.bound_congr (e c).1 (e c).2.1 (e c).2.2.1 (e c).2.2.2.1 (e c).2.2.2.2 _ _ _ _ _

/-- The claims hold. -/
theorem claim : Cert.Claim :=
  ⟨Cert.Kernel.Gen.facts, Cert.KernelIdeal.Gen.facts, Cert.ReferenceIdeal.Gen.facts, Cert.Pre_in_range.facts,
    fun m g h => Cert.Kernel.Hand.frame m g (fun c => (Cert.Pre_in_range.read _ _ _ _ _ (h c)).1)
      fun c => (Cert.Pre_in_range.read _ _ _ _ _ (h c)).2,
    fun m g h => Cert.KernelIdeal.Hand.frame m g (fun c => (Cert.Pre_in_range.read _ _ _ _ _ (h c)).1)
      fun c => (Cert.Pre_in_range.read _ _ _ _ _ (h c)).2,
    fun m g _ => Cert.ReferenceIdeal.Gen.frame m g, fun m g _ => Cert.ReferenceIdeal.Gen.frame m g, trivial, same⟩

end Cert.Proof
